-- ==== Defs.lean ====
def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite [hPre_finite : Cert.Pre_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite [hPre_finite : Cert.Pre_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def Pre_SwaKernel (m : (ℓ : Loc Cert.SwaKernel.nD Cert.SwaKernel.τ Cert.SwaKernel.sig) → Buf (Elt Bits) ℓ) : Prop :=
  True

def Pre_SwaKernelIdeal (m : (ℓ : Loc Cert.SwaKernelIdeal.nD Cert.SwaKernelIdeal.τ Cert.SwaKernelIdeal.sig) → Buf (Elt Ideal) ℓ) : Prop :=
  True

def Pre_SwaKernelIdeal_finite_swa [hPre_finite_swa : Cert.Pre_finite_swa.Facts] (m : (ℓ : Loc Cert.SwaKernelIdeal.nD Cert.SwaKernelIdeal.τ Cert.SwaKernelIdeal.sig) → Buf (Elt Ideal) ℓ) : Prop :=
  ∀ c : Dev Cert.SwaKernelIdeal.nD,
    (Cert.Pre_finite_swa.fn (F := Ideal) (m ((c.tc : Thread Cert.SwaKernelIdeal.nD Cert.SwaKernelIdeal.τ).loc Cert.SwaKernelIdeal.main_arg0)) (m ((c.tc : Thread Cert.SwaKernelIdeal.nD Cert.SwaKernelIdeal.τ).loc Cert.SwaKernelIdeal.main_arg1)) (m ((c.tc : Thread Cert.SwaKernelIdeal.nD Cert.SwaKernelIdeal.τ).loc Cert.SwaKernelIdeal.main_arg2))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_finite_swa [hPre_finite_swa : Cert.Pre_finite_swa.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_finite_swa.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1)) (m ((c.tc : Thread Cert.SwaReferenceIdeal.nD Cert.SwaReferenceIdeal.τ).loc Cert.SwaReferenceIdeal.main_arg2))) = (fun _ => 1#1)

def Pre_Ln1Kernel (m : (ℓ : Loc Cert.Ln1Kernel.nD Cert.Ln1Kernel.τ Cert.Ln1Kernel.sig) → Buf (Elt Bits) ℓ) : Prop :=
  True

def Pre_Ln1KernelIdeal (m : (ℓ : Loc Cert.Ln1KernelIdeal.nD Cert.Ln1KernelIdeal.τ Cert.Ln1KernelIdeal.sig) → Buf (Elt Ideal) ℓ) : Prop :=
  True

def Pre_Ln1KernelIdeal_finite_ln1 [hPre_finite_ln1 : Cert.Pre_finite_ln1.Facts] (m : (ℓ : Loc Cert.Ln1KernelIdeal.nD Cert.Ln1KernelIdeal.τ Cert.Ln1KernelIdeal.sig) → Buf (Elt Ideal) ℓ) : Prop :=
  ∀ c : Dev Cert.Ln1KernelIdeal.nD,
    (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))) = (fun _ => 1#1)

def Pre_Ln1ReferenceIdeal (m : (ℓ : Loc Cert.Ln1ReferenceIdeal.nD Cert.Ln1ReferenceIdeal.τ Cert.Ln1ReferenceIdeal.sig) → Buf (Elt Ideal) ℓ) : Prop :=
  True

def Pre_Ln1ReferenceIdeal_finite_ln1 [hPre_finite_ln1 : Cert.Pre_finite_ln1.Facts] (m : (ℓ : Loc Cert.Ln1ReferenceIdeal.nD Cert.Ln1ReferenceIdeal.τ Cert.Ln1ReferenceIdeal.sig) → Buf (Elt Ideal) ℓ) : Prop :=
  ∀ c : Dev Cert.Ln1ReferenceIdeal.nD,
    (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))) = (fun _ => 1#1)

def Pre_Ln2Kernel (m : (ℓ : Loc Cert.Ln2Kernel.nD Cert.Ln2Kernel.τ Cert.Ln2Kernel.sig) → Buf (Elt Bits) ℓ) : Prop :=
  True

def Pre_Ln2KernelIdeal (m : (ℓ : Loc Cert.Ln2KernelIdeal.nD Cert.Ln2KernelIdeal.τ Cert.Ln2KernelIdeal.sig) → Buf (Elt Ideal) ℓ) : Prop :=
  True

def Pre_Ln2KernelIdeal_finite_ln2 [hPre_finite_ln2 : Cert.Pre_finite_ln2.Facts] (m : (ℓ : Loc Cert.Ln2KernelIdeal.nD Cert.Ln2KernelIdeal.τ Cert.Ln2KernelIdeal.sig) → Buf (Elt Ideal) ℓ) : Prop :=
  ∀ c : Dev Cert.Ln2KernelIdeal.nD,
    (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4))) = (fun _ => 1#1)

def Pre_Ln2ReferenceIdeal (m : (ℓ : Loc Cert.Ln2ReferenceIdeal.nD Cert.Ln2ReferenceIdeal.τ Cert.Ln2ReferenceIdeal.sig) → Buf (Elt Ideal) ℓ) : Prop :=
  True

def Pre_Ln2ReferenceIdeal_finite_ln2 [hPre_finite_ln2 : Cert.Pre_finite_ln2.Facts] (m : (ℓ : Loc Cert.Ln2ReferenceIdeal.nD Cert.Ln2ReferenceIdeal.τ Cert.Ln2ReferenceIdeal.sig) → Buf (Elt Ideal) ℓ) : Prop :=
  ∀ c : Dev Cert.Ln2ReferenceIdeal.nD,
    (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4))) = (fun _ => 1#1)

def Pre_Relu2Kernel (m : (ℓ : Loc Cert.Relu2Kernel.nD Cert.Relu2Kernel.τ Cert.Relu2Kernel.sig) → Buf (Elt Bits) ℓ) : Prop :=
  True

def Pre_Relu2KernelIdeal (m : (ℓ : Loc Cert.Relu2KernelIdeal.nD Cert.Relu2KernelIdeal.τ Cert.Relu2KernelIdeal.sig) → Buf (Elt Ideal) ℓ) : Prop :=
  True

def Pre_Relu2ReferenceIdeal (m : (ℓ : Loc Cert.Relu2ReferenceIdeal.nD Cert.Relu2ReferenceIdeal.τ Cert.Relu2ReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gate [hPre_finite_gate : Cert.Pre_finite_gate.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_NormFwdKernel (m : (ℓ : Loc Cert.NormFwdKernel.nD Cert.NormFwdKernel.τ Cert.NormFwdKernel.sig) → Buf (Elt Bits) ℓ) : Prop :=
  True

def Pre_NormFwdKernelIdeal (m : (ℓ : Loc Cert.NormFwdKernelIdeal.nD Cert.NormFwdKernelIdeal.τ Cert.NormFwdKernelIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_SwaFwdKernel (m : (ℓ : Loc Cert.SwaFwdKernel.nD Cert.SwaFwdKernel.τ Cert.SwaFwdKernel.sig) → Buf (Elt Bits) ℓ) : Prop :=
  True

def Pre_SwaFwdKernelIdeal (m : (ℓ : Loc Cert.SwaFwdKernelIdeal.nD Cert.SwaFwdKernelIdeal.τ Cert.SwaFwdKernelIdeal.sig) → Buf (Elt Ideal) ℓ) : Prop :=
  True

def Pre_SwaFwdKernelIdeal_finite_swafwd [hPre_finite_swafwd : Cert.Pre_finite_swafwd.Facts] (m : (ℓ : Loc Cert.SwaFwdKernelIdeal.nD Cert.SwaFwdKernelIdeal.τ Cert.SwaFwdKernelIdeal.sig) → Buf (Elt Ideal) ℓ) : Prop :=
  ∀ c : Dev Cert.SwaFwdKernelIdeal.nD,
    (Cert.Pre_finite_swafwd.fn (F := Ideal) (m ((c.tc : Thread Cert.SwaFwdKernelIdeal.nD Cert.SwaFwdKernelIdeal.τ).loc Cert.SwaFwdKernelIdeal.main_arg0)) (m ((c.tc : Thread Cert.SwaFwdKernelIdeal.nD Cert.SwaFwdKernelIdeal.τ).loc Cert.SwaFwdKernelIdeal.main_arg1)) (m ((c.tc : Thread Cert.SwaFwdKernelIdeal.nD Cert.SwaFwdKernelIdeal.τ).loc Cert.SwaFwdKernelIdeal.main_arg2))) = (fun _ => 1#1)

def Pre_SwaFwdReferenceIdeal (m : (ℓ : Loc Cert.SwaFwdReferenceIdeal.nD Cert.SwaFwdReferenceIdeal.τ Cert.SwaFwdReferenceIdeal.sig) → Buf (Elt Ideal) ℓ) : Prop :=
  True

def Pre_SwaFwdReferenceIdeal_finite_swafwd [hPre_finite_swafwd : Cert.Pre_finite_swafwd.Facts] (m : (ℓ : Loc Cert.SwaFwdReferenceIdeal.nD Cert.SwaFwdReferenceIdeal.τ Cert.SwaFwdReferenceIdeal.sig) → Buf (Elt Ideal) ℓ) : Prop :=
  ∀ c : Dev Cert.SwaFwdReferenceIdeal.nD,
    (Cert.Pre_finite_swafwd.fn (F := Ideal) (m ((c.tc : Thread Cert.SwaFwdReferenceIdeal.nD Cert.SwaFwdReferenceIdeal.τ).loc Cert.SwaFwdReferenceIdeal.main_arg0)) (m ((c.tc : Thread Cert.SwaFwdReferenceIdeal.nD Cert.SwaFwdReferenceIdeal.τ).loc Cert.SwaFwdReferenceIdeal.main_arg1)) (m ((c.tc : Thread Cert.SwaFwdReferenceIdeal.nD Cert.SwaFwdReferenceIdeal.τ).loc Cert.SwaFwdReferenceIdeal.main_arg2))) = (fun _ => 1#1)

def Pre_GlaFwdKernel (m : (ℓ : Loc Cert.GlaFwdKernel.nD Cert.GlaFwdKernel.τ Cert.GlaFwdKernel.sig) → Buf (Elt Bits) ℓ) : Prop :=
  True

def Pre_GlaFwdKernelIdeal (m : (ℓ : Loc Cert.GlaFwdKernelIdeal.nD Cert.GlaFwdKernelIdeal.τ Cert.GlaFwdKernelIdeal.sig) → Buf (Elt Ideal) ℓ) : Prop :=
  True

def Pre_GlaBwdKernel (m : (ℓ : Loc Cert.GlaBwdKernel.nD Cert.GlaBwdKernel.τ Cert.GlaBwdKernel.sig) → Buf (Elt Bits) ℓ) : Prop :=
  True

def Pre_GlaBwdKernelIdeal (m : (ℓ : Loc Cert.GlaBwdKernelIdeal.nD Cert.GlaBwdKernelIdeal.τ Cert.GlaBwdKernelIdeal.sig) → Buf (Elt Ideal) ℓ) : Prop :=
  True

def Pre_MlpUpBwdKernel (m : (ℓ : Loc Cert.MlpUpBwdKernel.nD Cert.MlpUpBwdKernel.τ Cert.MlpUpBwdKernel.sig) → Buf (Elt Bits) ℓ) : Prop :=
  True

def Pre_MlpUpBwdKernelIdeal (m : (ℓ : Loc Cert.MlpUpBwdKernelIdeal.nD Cert.MlpUpBwdKernelIdeal.τ Cert.MlpUpBwdKernelIdeal.sig) → Buf (Elt Ideal) ℓ) : Prop :=
  True

def Pre_MlpUpBwdReferenceIdeal (m : (ℓ : Loc Cert.MlpUpBwdReferenceIdeal.nD Cert.MlpUpBwdReferenceIdeal.τ Cert.MlpUpBwdReferenceIdeal.sig) → Buf (Elt Ideal) ℓ) : Prop :=
  True

def Pre_GradWDownKernel (m : (ℓ : Loc Cert.GradWDownKernel.nD Cert.GradWDownKernel.τ Cert.GradWDownKernel.sig) → Buf (Elt Bits) ℓ) : Prop :=
  True

def Pre_GradWDownKernelIdeal (m : (ℓ : Loc Cert.GradWDownKernelIdeal.nD Cert.GradWDownKernelIdeal.τ Cert.GradWDownKernelIdeal.sig) → Buf (Elt Ideal) ℓ) : Prop :=
  True

def Pre_GradWDownReferenceIdeal (m : (ℓ : Loc Cert.GradWDownReferenceIdeal.nD Cert.GradWDownReferenceIdeal.τ Cert.GradWDownReferenceIdeal.sig) → Buf (Elt Ideal) ℓ) : Prop :=
  True

def Pre_GradXKernel (m : (ℓ : Loc Cert.GradXKernel.nD Cert.GradXKernel.τ Cert.GradXKernel.sig) → Buf (Elt Bits) ℓ) : Prop :=
  True

def Pre_GradXKernelIdeal (m : (ℓ : Loc Cert.GradXKernelIdeal.nD Cert.GradXKernelIdeal.τ Cert.GradXKernelIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_DcatKernel (m : (ℓ : Loc Cert.DcatKernel.nD Cert.DcatKernel.τ Cert.DcatKernel.sig) → Buf (Elt Bits) ℓ) : Prop :=
  True

def Pre_DcatKernelIdeal (m : (ℓ : Loc Cert.DcatKernelIdeal.nD Cert.DcatKernelIdeal.τ Cert.DcatKernelIdeal.sig) → Buf (Elt Ideal) ℓ) : Prop :=
  True

def Pre_DcatReferenceIdeal (m : (ℓ : Loc Cert.DcatReferenceIdeal.nD Cert.DcatReferenceIdeal.τ Cert.DcatReferenceIdeal.sig) → Buf (Elt Ideal) ℓ) : Prop :=
  True

def Pre_GradWUpKernel (m : (ℓ : Loc Cert.GradWUpKernel.nD Cert.GradWUpKernel.τ Cert.GradWUpKernel.sig) → Buf (Elt Bits) ℓ) : Prop :=
  True

def Pre_GradWUpKernelIdeal (m : (ℓ : Loc Cert.GradWUpKernelIdeal.nD Cert.GradWUpKernelIdeal.τ Cert.GradWUpKernelIdeal.sig) → Buf (Elt Ideal) ℓ) : Prop :=
  True

def Pre_GradWUpReferenceIdeal (m : (ℓ : Loc Cert.GradWUpReferenceIdeal.nD Cert.GradWUpReferenceIdeal.τ Cert.GradWUpReferenceIdeal.sig) → Buf (Elt Ideal) ℓ) : Prop :=
  True

def Pre_GradWOutKernel (m : (ℓ : Loc Cert.GradWOutKernel.nD Cert.GradWOutKernel.τ Cert.GradWOutKernel.sig) → Buf (Elt Bits) ℓ) : Prop :=
  True

def Pre_GradWOutKernelIdeal (m : (ℓ : Loc Cert.GradWOutKernelIdeal.nD Cert.GradWOutKernelIdeal.τ Cert.GradWOutKernelIdeal.sig) → Buf (Elt Ideal) ℓ) : Prop :=
  True

def Pre_GradWOutReferenceIdeal (m : (ℓ : Loc Cert.GradWOutReferenceIdeal.nD Cert.GradWOutReferenceIdeal.τ Cert.GradWOutReferenceIdeal.sig) → Buf (Elt Ideal) ℓ) : Prop :=
  True

def Pre_MlpDownKernel (m : (ℓ : Loc Cert.MlpDownKernel.nD Cert.MlpDownKernel.τ Cert.MlpDownKernel.sig) → Buf (Elt Bits) ℓ) : Prop :=
  True

def Pre_MlpDownKernelIdeal (m : (ℓ : Loc Cert.MlpDownKernelIdeal.nD Cert.MlpDownKernelIdeal.τ Cert.MlpDownKernelIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GradWInKernel (m : (ℓ : Loc Cert.GradWInKernel.nD Cert.GradWInKernel.τ Cert.GradWInKernel.sig) → Buf (Elt Bits) ℓ) : Prop :=
  True

def Pre_GradWInKernelIdeal (m : (ℓ : Loc Cert.GradWInKernelIdeal.nD Cert.GradWInKernelIdeal.τ Cert.GradWInKernelIdeal.sig) → Buf (Elt Ideal) ℓ) : Prop :=
  True

def Pre_GradWInReferenceIdeal (m : (ℓ : Loc Cert.GradWInReferenceIdeal.nD Cert.GradWInReferenceIdeal.τ Cert.GradWInReferenceIdeal.sig) → Buf (Elt Ideal) ℓ) : Prop :=
  True

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_finite [hNormKernelIdeal : Cert.NormKernelIdeal.Facts] [hPre_finite : Cert.Pre_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_finite [hNormReferenceIdeal : Cert.NormReferenceIdeal.Facts] [hPre_finite : Cert.Pre_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_SwaKernel [hSwaKernel : Cert.SwaKernel.Facts] : Prop :=
  ∀ (m : (ℓ : Loc Cert.SwaKernel.nD Cert.SwaKernel.τ Cert.SwaKernel.sig) → Buf (Elt Bits) ℓ) (g : Dev Cert.SwaKernel.nD → PrngReg), Pre_SwaKernel m →
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ r.2.sem = fun _ => 0)

def quiescent_SwaKernelIdeal_pre_finite_swa [hSwaKernelIdeal : Cert.SwaKernelIdeal.Facts] [hPre_finite_swa : Cert.Pre_finite_swa.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal_finite_swa m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_SwaReferenceIdeal_pre_finite_swa [hSwaReferenceIdeal : Cert.SwaReferenceIdeal.Facts] [hPre_finite_swa : Cert.Pre_finite_swa.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_finite_swa m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_Ln1Kernel [hLn1Kernel : Cert.Ln1Kernel.Facts] : Prop :=
  ∀ (m : (ℓ : Loc Cert.Ln1Kernel.nD Cert.Ln1Kernel.τ Cert.Ln1Kernel.sig) → Buf (Elt Bits) ℓ) (g : Dev Cert.Ln1Kernel.nD → PrngReg), Pre_Ln1Kernel m →
    θ_run (Cert.Ln1Kernel.defs (F := Bits)) (onTc (τ := Cert.Ln1Kernel.τ) (Cert.Ln1Kernel.main (F := Bits))) ⟨m, fun _ => 0, g⟩ (fun r => (∀ c : Dev Cert.Ln1Kernel.nD,
      r.2.mem ((c.tc : Thread Cert.Ln1Kernel.nD Cert.Ln1Kernel.τ).loc Cert.Ln1Kernel.main_arg0) = m ((c.tc : Thread Cert.Ln1Kernel.nD Cert.Ln1Kernel.τ).loc Cert.Ln1Kernel.main_arg0)
      ∧ r.2.mem ((c.tc : Thread Cert.Ln1Kernel.nD Cert.Ln1Kernel.τ).loc Cert.Ln1Kernel.main_arg1) = m ((c.tc : Thread Cert.Ln1Kernel.nD Cert.Ln1Kernel.τ).loc Cert.Ln1Kernel.main_arg1)
      ∧ r.2.mem ((c.tc : Thread Cert.Ln1Kernel.nD Cert.Ln1Kernel.τ).loc Cert.Ln1Kernel.main_arg2) = m ((c.tc : Thread Cert.Ln1Kernel.nD Cert.Ln1Kernel.τ).loc Cert.Ln1Kernel.main_arg2)
      ∧ r.2.mem ((c.tc : Thread Cert.Ln1Kernel.nD Cert.Ln1Kernel.τ).loc Cert.Ln1Kernel.main_arg3) = m ((c.tc : Thread Cert.Ln1Kernel.nD Cert.Ln1Kernel.τ).loc Cert.Ln1Kernel.main_arg3)
      ∧ r.2.mem ((c.tc : Thread Cert.Ln1Kernel.nD Cert.Ln1Kernel.τ).loc Cert.Ln1Kernel.main_arg4) = m ((c.tc : Thread Cert.Ln1Kernel.nD Cert.Ln1Kernel.τ).loc Cert.Ln1Kernel.main_arg4)
      ∧ r.2.mem ((c.tc : Thread Cert.Ln1Kernel.nD Cert.Ln1Kernel.τ).loc Cert.Ln1Kernel.main_arg5) = m ((c.tc : Thread Cert.Ln1Kernel.nD Cert.Ln1Kernel.τ).loc Cert.Ln1Kernel.main_arg5))
      ∧ r.2.sem = fun _ => 0)

def quiescent_Ln1KernelIdeal [hLn1KernelIdeal : Cert.Ln1KernelIdeal.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg), Pre_Ln1KernelIdeal m →
    θ_run (Cert.Ln1KernelIdeal.defs (F := Ideal)) (onTc (τ := Cert.Ln1KernelIdeal.τ) (Cert.Ln1KernelIdeal.main (F := Ideal))) ⟨m, fun _ => 0, g⟩ (fun r => (∀ c : Dev Cert.Ln1KernelIdeal.nD,
      r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
      ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
      ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
      ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
      ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
      ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ r.2.sem = fun _ => 0)

def quiescent_Ln1KernelIdeal_pre_finite_ln1 [hLn1KernelIdeal : Cert.Ln1KernelIdeal.Facts] [hPre_finite_ln1 : Cert.Pre_finite_ln1.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg), Pre_Ln1KernelIdeal_finite_ln1 m →
    θ_run (Cert.Ln1KernelIdeal.defs (F := Ideal)) (onTc (τ := Cert.Ln1KernelIdeal.τ) (Cert.Ln1KernelIdeal.main (F := Ideal))) ⟨m, fun _ => 0, g⟩ (fun r => (∀ c : Dev Cert.Ln1KernelIdeal.nD,
      r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
      ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
      ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
      ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
      ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
      ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ r.2.sem = fun _ => 0)

def quiescent_Ln1ReferenceIdeal [hLn1ReferenceIdeal : Cert.Ln1ReferenceIdeal.Facts] : Prop :=
  ∀ (m : (ℓ : Loc Cert.Ln1ReferenceIdeal.nD Cert.Ln1ReferenceIdeal.τ Cert.Ln1ReferenceIdeal.sig) → Buf (Elt Ideal) ℓ) (g : Dev Cert.Ln1ReferenceIdeal.nD → PrngReg), Pre_Ln1ReferenceIdeal m →
    θ_run (Cert.Ln1ReferenceIdeal.defs (F := Ideal)) (onTc (τ := Cert.Ln1ReferenceIdeal.τ) (Cert.Ln1ReferenceIdeal.main (F := Ideal))) ⟨m, fun _ => 0, g⟩ (fun r => (∀ c : Dev Cert.Ln1ReferenceIdeal.nD,
      r.2.mem ((c.tc : Thread Cert.Ln1ReferenceIdeal.nD Cert.Ln1ReferenceIdeal.τ).loc Cert.Ln1ReferenceIdeal.main_arg0) = m ((c.tc : Thread Cert.Ln1ReferenceIdeal.nD Cert.Ln1ReferenceIdeal.τ).loc Cert.Ln1ReferenceIdeal.main_arg0)
      ∧ r.2.mem ((c.tc : Thread Cert.Ln1ReferenceIdeal.nD Cert.Ln1ReferenceIdeal.τ).loc Cert.Ln1ReferenceIdeal.main_arg1) = m ((c.tc : Thread Cert.Ln1ReferenceIdeal.nD Cert.Ln1ReferenceIdeal.τ).loc Cert.Ln1ReferenceIdeal.main_arg1)
      ∧ r.2.mem ((c.tc : Thread Cert.Ln1ReferenceIdeal.nD Cert.Ln1ReferenceIdeal.τ).loc Cert.Ln1ReferenceIdeal.main_arg2) = m ((c.tc : Thread Cert.Ln1ReferenceIdeal.nD Cert.Ln1ReferenceIdeal.τ).loc Cert.Ln1ReferenceIdeal.main_arg2)
      ∧ r.2.mem ((c.tc : Thread Cert.Ln1ReferenceIdeal.nD Cert.Ln1ReferenceIdeal.τ).loc Cert.Ln1ReferenceIdeal.main_arg3) = m ((c.tc : Thread Cert.Ln1ReferenceIdeal.nD Cert.Ln1ReferenceIdeal.τ).loc Cert.Ln1ReferenceIdeal.main_arg3)
      ∧ r.2.mem ((c.tc : Thread Cert.Ln1ReferenceIdeal.nD Cert.Ln1ReferenceIdeal.τ).loc Cert.Ln1ReferenceIdeal.main_arg4) = m ((c.tc : Thread Cert.Ln1ReferenceIdeal.nD Cert.Ln1ReferenceIdeal.τ).loc Cert.Ln1ReferenceIdeal.main_arg4)
      ∧ r.2.mem ((c.tc : Thread Cert.Ln1ReferenceIdeal.nD Cert.Ln1ReferenceIdeal.τ).loc Cert.Ln1ReferenceIdeal.main_arg5) = m ((c.tc : Thread Cert.Ln1ReferenceIdeal.nD Cert.Ln1ReferenceIdeal.τ).loc Cert.Ln1ReferenceIdeal.main_arg5))
      ∧ r.2.sem = fun _ => 0)

def quiescent_Ln1ReferenceIdeal_pre_finite_ln1 [hLn1ReferenceIdeal : Cert.Ln1ReferenceIdeal.Facts] [hPre_finite_ln1 : Cert.Pre_finite_ln1.Facts] : Prop :=
  ∀ (m : (ℓ : Loc Cert.Ln1ReferenceIdeal.nD Cert.Ln1ReferenceIdeal.τ Cert.Ln1ReferenceIdeal.sig) → Buf (Elt Ideal) ℓ) (g : Dev Cert.Ln1ReferenceIdeal.nD → PrngReg), Pre_Ln1ReferenceIdeal_finite_ln1 m →
    θ_run (Cert.Ln1ReferenceIdeal.defs (F := Ideal)) (onTc (τ := Cert.Ln1ReferenceIdeal.τ) (Cert.Ln1ReferenceIdeal.main (F := Ideal))) ⟨m, fun _ => 0, g⟩ (fun r => (∀ c : Dev Cert.Ln1ReferenceIdeal.nD,
      r.2.mem ((c.tc : Thread Cert.Ln1ReferenceIdeal.nD Cert.Ln1ReferenceIdeal.τ).loc Cert.Ln1ReferenceIdeal.main_arg0) = m ((c.tc : Thread Cert.Ln1ReferenceIdeal.nD Cert.Ln1ReferenceIdeal.τ).loc Cert.Ln1ReferenceIdeal.main_arg0)
      ∧ r.2.mem ((c.tc : Thread Cert.Ln1ReferenceIdeal.nD Cert.Ln1ReferenceIdeal.τ).loc Cert.Ln1ReferenceIdeal.main_arg1) = m ((c.tc : Thread Cert.Ln1ReferenceIdeal.nD Cert.Ln1ReferenceIdeal.τ).loc Cert.Ln1ReferenceIdeal.main_arg1)
      ∧ r.2.mem ((c.tc : Thread Cert.Ln1ReferenceIdeal.nD Cert.Ln1ReferenceIdeal.τ).loc Cert.Ln1ReferenceIdeal.main_arg2) = m ((c.tc : Thread Cert.Ln1ReferenceIdeal.nD Cert.Ln1ReferenceIdeal.τ).loc Cert.Ln1ReferenceIdeal.main_arg2)
      ∧ r.2.mem ((c.tc : Thread Cert.Ln1ReferenceIdeal.nD Cert.Ln1ReferenceIdeal.τ).loc Cert.Ln1ReferenceIdeal.main_arg3) = m ((c.tc : Thread Cert.Ln1ReferenceIdeal.nD Cert.Ln1ReferenceIdeal.τ).loc Cert.Ln1ReferenceIdeal.main_arg3)
      ∧ r.2.mem ((c.tc : Thread Cert.Ln1ReferenceIdeal.nD Cert.Ln1ReferenceIdeal.τ).loc Cert.Ln1ReferenceIdeal.main_arg4) = m ((c.tc : Thread Cert.Ln1ReferenceIdeal.nD Cert.Ln1ReferenceIdeal.τ).loc Cert.Ln1ReferenceIdeal.main_arg4)
      ∧ r.2.mem ((c.tc : Thread Cert.Ln1ReferenceIdeal.nD Cert.Ln1ReferenceIdeal.τ).loc Cert.Ln1ReferenceIdeal.main_arg5) = m ((c.tc : Thread Cert.Ln1ReferenceIdeal.nD Cert.Ln1ReferenceIdeal.τ).loc Cert.Ln1ReferenceIdeal.main_arg5))
      ∧ r.2.sem = fun _ => 0)

def quiescent_Ln2Kernel [hLn2Kernel : Cert.Ln2Kernel.Facts] : Prop :=
  ∀ (m : (ℓ : Loc Cert.Ln2Kernel.nD Cert.Ln2Kernel.τ Cert.Ln2Kernel.sig) → Buf (Elt Bits) ℓ) (g : Dev Cert.Ln2Kernel.nD → PrngReg), Pre_Ln2Kernel m →
    θ_run (Cert.Ln2Kernel.defs (F := Bits)) (onTc (τ := Cert.Ln2Kernel.τ) (Cert.Ln2Kernel.main (F := Bits))) ⟨m, fun _ => 0, g⟩ (fun r => (∀ c : Dev Cert.Ln2Kernel.nD,
      r.2.mem ((c.tc : Thread Cert.Ln2Kernel.nD Cert.Ln2Kernel.τ).loc Cert.Ln2Kernel.main_arg0) = m ((c.tc : Thread Cert.Ln2Kernel.nD Cert.Ln2Kernel.τ).loc Cert.Ln2Kernel.main_arg0)
      ∧ r.2.mem ((c.tc : Thread Cert.Ln2Kernel.nD Cert.Ln2Kernel.τ).loc Cert.Ln2Kernel.main_arg1) = m ((c.tc : Thread Cert.Ln2Kernel.nD Cert.Ln2Kernel.τ).loc Cert.Ln2Kernel.main_arg1)
      ∧ r.2.mem ((c.tc : Thread Cert.Ln2Kernel.nD Cert.Ln2Kernel.τ).loc Cert.Ln2Kernel.main_arg2) = m ((c.tc : Thread Cert.Ln2Kernel.nD Cert.Ln2Kernel.τ).loc Cert.Ln2Kernel.main_arg2)
      ∧ r.2.mem ((c.tc : Thread Cert.Ln2Kernel.nD Cert.Ln2Kernel.τ).loc Cert.Ln2Kernel.main_arg3) = m ((c.tc : Thread Cert.Ln2Kernel.nD Cert.Ln2Kernel.τ).loc Cert.Ln2Kernel.main_arg3)
      ∧ r.2.mem ((c.tc : Thread Cert.Ln2Kernel.nD Cert.Ln2Kernel.τ).loc Cert.Ln2Kernel.main_arg4) = m ((c.tc : Thread Cert.Ln2Kernel.nD Cert.Ln2Kernel.τ).loc Cert.Ln2Kernel.main_arg4))
      ∧ r.2.sem = fun _ => 0)

def quiescent_Ln2KernelIdeal [hLn2KernelIdeal : Cert.Ln2KernelIdeal.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg), Pre_Ln2KernelIdeal m →
    θ_run (Cert.Ln2KernelIdeal.defs (F := Ideal)) (onTc (τ := Cert.Ln2KernelIdeal.τ) (Cert.Ln2KernelIdeal.main (F := Ideal))) ⟨m, fun _ => 0, g⟩ (fun r => (∀ c : Dev Cert.Ln2KernelIdeal.nD,
      r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
      ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
      ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
      ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
      ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4))
      ∧ r.2.sem = fun _ => 0)

def quiescent_Ln2KernelIdeal_pre_finite_ln2 [hLn2KernelIdeal : Cert.Ln2KernelIdeal.Facts] [hPre_finite_ln2 : Cert.Pre_finite_ln2.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg), Pre_Ln2KernelIdeal_finite_ln2 m →
    θ_run (Cert.Ln2KernelIdeal.defs (F := Ideal)) (onTc (τ := Cert.Ln2KernelIdeal.τ) (Cert.Ln2KernelIdeal.main (F := Ideal))) ⟨m, fun _ => 0, g⟩ (fun r => (∀ c : Dev Cert.Ln2KernelIdeal.nD,
      r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
      ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
      ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
      ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
      ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4))
      ∧ r.2.sem = fun _ => 0)

def quiescent_Ln2ReferenceIdeal [hLn2ReferenceIdeal : Cert.Ln2ReferenceIdeal.Facts] : Prop :=
  ∀ (m : (ℓ : Loc Cert.Ln2ReferenceIdeal.nD Cert.Ln2ReferenceIdeal.τ Cert.Ln2ReferenceIdeal.sig) → Buf (Elt Ideal) ℓ) (g : Dev Cert.Ln2ReferenceIdeal.nD → PrngReg), Pre_Ln2ReferenceIdeal m →
    θ_run (Cert.Ln2ReferenceIdeal.defs (F := Ideal)) (onTc (τ := Cert.Ln2ReferenceIdeal.τ) (Cert.Ln2ReferenceIdeal.main (F := Ideal))) ⟨m, fun _ => 0, g⟩ (fun r => (∀ c : Dev Cert.Ln2ReferenceIdeal.nD,
      r.2.mem ((c.tc : Thread Cert.Ln2ReferenceIdeal.nD Cert.Ln2ReferenceIdeal.τ).loc Cert.Ln2ReferenceIdeal.main_arg0) = m ((c.tc : Thread Cert.Ln2ReferenceIdeal.nD Cert.Ln2ReferenceIdeal.τ).loc Cert.Ln2ReferenceIdeal.main_arg0)
      ∧ r.2.mem ((c.tc : Thread Cert.Ln2ReferenceIdeal.nD Cert.Ln2ReferenceIdeal.τ).loc Cert.Ln2ReferenceIdeal.main_arg1) = m ((c.tc : Thread Cert.Ln2ReferenceIdeal.nD Cert.Ln2ReferenceIdeal.τ).loc Cert.Ln2ReferenceIdeal.main_arg1)
      ∧ r.2.mem ((c.tc : Thread Cert.Ln2ReferenceIdeal.nD Cert.Ln2ReferenceIdeal.τ).loc Cert.Ln2ReferenceIdeal.main_arg2) = m ((c.tc : Thread Cert.Ln2ReferenceIdeal.nD Cert.Ln2ReferenceIdeal.τ).loc Cert.Ln2ReferenceIdeal.main_arg2)
      ∧ r.2.mem ((c.tc : Thread Cert.Ln2ReferenceIdeal.nD Cert.Ln2ReferenceIdeal.τ).loc Cert.Ln2ReferenceIdeal.main_arg3) = m ((c.tc : Thread Cert.Ln2ReferenceIdeal.nD Cert.Ln2ReferenceIdeal.τ).loc Cert.Ln2ReferenceIdeal.main_arg3)
      ∧ r.2.mem ((c.tc : Thread Cert.Ln2ReferenceIdeal.nD Cert.Ln2ReferenceIdeal.τ).loc Cert.Ln2ReferenceIdeal.main_arg4) = m ((c.tc : Thread Cert.Ln2ReferenceIdeal.nD Cert.Ln2ReferenceIdeal.τ).loc Cert.Ln2ReferenceIdeal.main_arg4))
      ∧ r.2.sem = fun _ => 0)

def quiescent_Ln2ReferenceIdeal_pre_finite_ln2 [hLn2ReferenceIdeal : Cert.Ln2ReferenceIdeal.Facts] [hPre_finite_ln2 : Cert.Pre_finite_ln2.Facts] : Prop :=
  ∀ (m : (ℓ : Loc Cert.Ln2ReferenceIdeal.nD Cert.Ln2ReferenceIdeal.τ Cert.Ln2ReferenceIdeal.sig) → Buf (Elt Ideal) ℓ) (g : Dev Cert.Ln2ReferenceIdeal.nD → PrngReg), Pre_Ln2ReferenceIdeal_finite_ln2 m →
    θ_run (Cert.Ln2ReferenceIdeal.defs (F := Ideal)) (onTc (τ := Cert.Ln2ReferenceIdeal.τ) (Cert.Ln2ReferenceIdeal.main (F := Ideal))) ⟨m, fun _ => 0, g⟩ (fun r => (∀ c : Dev Cert.Ln2ReferenceIdeal.nD,
      r.2.mem ((c.tc : Thread Cert.Ln2ReferenceIdeal.nD Cert.Ln2ReferenceIdeal.τ).loc Cert.Ln2ReferenceIdeal.main_arg0) = m ((c.tc : Thread Cert.Ln2ReferenceIdeal.nD Cert.Ln2ReferenceIdeal.τ).loc Cert.Ln2ReferenceIdeal.main_arg0)
      ∧ r.2.mem ((c.tc : Thread Cert.Ln2ReferenceIdeal.nD Cert.Ln2ReferenceIdeal.τ).loc Cert.Ln2ReferenceIdeal.main_arg1) = m ((c.tc : Thread Cert.Ln2ReferenceIdeal.nD Cert.Ln2ReferenceIdeal.τ).loc Cert.Ln2ReferenceIdeal.main_arg1)
      ∧ r.2.mem ((c.tc : Thread Cert.Ln2ReferenceIdeal.nD Cert.Ln2ReferenceIdeal.τ).loc Cert.Ln2ReferenceIdeal.main_arg2) = m ((c.tc : Thread Cert.Ln2ReferenceIdeal.nD Cert.Ln2ReferenceIdeal.τ).loc Cert.Ln2ReferenceIdeal.main_arg2)
      ∧ r.2.mem ((c.tc : Thread Cert.Ln2ReferenceIdeal.nD Cert.Ln2ReferenceIdeal.τ).loc Cert.Ln2ReferenceIdeal.main_arg3) = m ((c.tc : Thread Cert.Ln2ReferenceIdeal.nD Cert.Ln2ReferenceIdeal.τ).loc Cert.Ln2ReferenceIdeal.main_arg3)
      ∧ r.2.mem ((c.tc : Thread Cert.Ln2ReferenceIdeal.nD Cert.Ln2ReferenceIdeal.τ).loc Cert.Ln2ReferenceIdeal.main_arg4) = m ((c.tc : Thread Cert.Ln2ReferenceIdeal.nD Cert.Ln2ReferenceIdeal.τ).loc Cert.Ln2ReferenceIdeal.main_arg4))
      ∧ r.2.sem = fun _ => 0)

def quiescent_Relu2Kernel [hRelu2Kernel : Cert.Relu2Kernel.Facts] : Prop :=
  ∀ (m : (ℓ : Loc Cert.Relu2Kernel.nD Cert.Relu2Kernel.τ Cert.Relu2Kernel.sig) → Buf (Elt Bits) ℓ) (g : Dev Cert.Relu2Kernel.nD → PrngReg), Pre_Relu2Kernel m →
    θ_run (Cert.Relu2Kernel.defs (F := Bits)) (onTc (τ := Cert.Relu2Kernel.τ) (Cert.Relu2Kernel.main (F := Bits))) ⟨m, fun _ => 0, g⟩ (fun r => (∀ c : Dev Cert.Relu2Kernel.nD,
      r.2.mem ((c.tc : Thread Cert.Relu2Kernel.nD Cert.Relu2Kernel.τ).loc Cert.Relu2Kernel.main_arg0) = m ((c.tc : Thread Cert.Relu2Kernel.nD Cert.Relu2Kernel.τ).loc Cert.Relu2Kernel.main_arg0)
      ∧ r.2.mem ((c.tc : Thread Cert.Relu2Kernel.nD Cert.Relu2Kernel.τ).loc Cert.Relu2Kernel.main_arg1) = m ((c.tc : Thread Cert.Relu2Kernel.nD Cert.Relu2Kernel.τ).loc Cert.Relu2Kernel.main_arg1)
      ∧ r.2.mem ((c.tc : Thread Cert.Relu2Kernel.nD Cert.Relu2Kernel.τ).loc Cert.Relu2Kernel.main_arg2) = m ((c.tc : Thread Cert.Relu2Kernel.nD Cert.Relu2Kernel.τ).loc Cert.Relu2Kernel.main_arg2)
      ∧ r.2.mem ((c.tc : Thread Cert.Relu2Kernel.nD Cert.Relu2Kernel.τ).loc Cert.Relu2Kernel.main_arg3) = m ((c.tc : Thread Cert.Relu2Kernel.nD Cert.Relu2Kernel.τ).loc Cert.Relu2Kernel.main_arg3))
      ∧ r.2.sem = fun _ => 0)

def quiescent_Relu2KernelIdeal [hRelu2KernelIdeal : Cert.Relu2KernelIdeal.Facts] : Prop :=
  ∀ (m : (ℓ : Loc Cert.Relu2KernelIdeal.nD Cert.Relu2KernelIdeal.τ Cert.Relu2KernelIdeal.sig) → Buf (Elt Ideal) ℓ) (g : Dev Cert.Relu2KernelIdeal.nD → PrngReg), Pre_Relu2KernelIdeal m →
    θ_run (Cert.Relu2KernelIdeal.defs (F := Ideal)) (onTc (τ := Cert.Relu2KernelIdeal.τ) (Cert.Relu2KernelIdeal.main (F := Ideal))) ⟨m, fun _ => 0, g⟩ (fun r => (∀ c : Dev Cert.Relu2KernelIdeal.nD,
      r.2.mem ((c.tc : Thread Cert.Relu2KernelIdeal.nD Cert.Relu2KernelIdeal.τ).loc Cert.Relu2KernelIdeal.main_arg0) = m ((c.tc : Thread Cert.Relu2KernelIdeal.nD Cert.Relu2KernelIdeal.τ).loc Cert.Relu2KernelIdeal.main_arg0)
      ∧ r.2.mem ((c.tc : Thread Cert.Relu2KernelIdeal.nD Cert.Relu2KernelIdeal.τ).loc Cert.Relu2KernelIdeal.main_arg1) = m ((c.tc : Thread Cert.Relu2KernelIdeal.nD Cert.Relu2KernelIdeal.τ).loc Cert.Relu2KernelIdeal.main_arg1)
      ∧ r.2.mem ((c.tc : Thread Cert.Relu2KernelIdeal.nD Cert.Relu2KernelIdeal.τ).loc Cert.Relu2KernelIdeal.main_arg2) = m ((c.tc : Thread Cert.Relu2KernelIdeal.nD Cert.Relu2KernelIdeal.τ).loc Cert.Relu2KernelIdeal.main_arg2)
      ∧ r.2.mem ((c.tc : Thread Cert.Relu2KernelIdeal.nD Cert.Relu2KernelIdeal.τ).loc Cert.Relu2KernelIdeal.main_arg3) = m ((c.tc : Thread Cert.Relu2KernelIdeal.nD Cert.Relu2KernelIdeal.τ).loc Cert.Relu2KernelIdeal.main_arg3))
      ∧ r.2.sem = fun _ => 0)

def quiescent_Relu2ReferenceIdeal [hRelu2ReferenceIdeal : Cert.Relu2ReferenceIdeal.Facts] : Prop :=
  ∀ (m : (ℓ : Loc Cert.Relu2ReferenceIdeal.nD Cert.Relu2ReferenceIdeal.τ Cert.Relu2ReferenceIdeal.sig) → Buf (Elt Ideal) ℓ) (g : Dev Cert.Relu2ReferenceIdeal.nD → PrngReg), Pre_Relu2ReferenceIdeal m →
    θ_run (Cert.Relu2ReferenceIdeal.defs (F := Ideal)) (onTc (τ := Cert.Relu2ReferenceIdeal.τ) (Cert.Relu2ReferenceIdeal.main (F := Ideal))) ⟨m, fun _ => 0, g⟩ (fun r => (∀ c : Dev Cert.Relu2ReferenceIdeal.nD,
      r.2.mem ((c.tc : Thread Cert.Relu2ReferenceIdeal.nD Cert.Relu2ReferenceIdeal.τ).loc Cert.Relu2ReferenceIdeal.main_arg0) = m ((c.tc : Thread Cert.Relu2ReferenceIdeal.nD Cert.Relu2ReferenceIdeal.τ).loc Cert.Relu2ReferenceIdeal.main_arg0)
      ∧ r.2.mem ((c.tc : Thread Cert.Relu2ReferenceIdeal.nD Cert.Relu2ReferenceIdeal.τ).loc Cert.Relu2ReferenceIdeal.main_arg1) = m ((c.tc : Thread Cert.Relu2ReferenceIdeal.nD Cert.Relu2ReferenceIdeal.τ).loc Cert.Relu2ReferenceIdeal.main_arg1)
      ∧ r.2.mem ((c.tc : Thread Cert.Relu2ReferenceIdeal.nD Cert.Relu2ReferenceIdeal.τ).loc Cert.Relu2ReferenceIdeal.main_arg2) = m ((c.tc : Thread Cert.Relu2ReferenceIdeal.nD Cert.Relu2ReferenceIdeal.τ).loc Cert.Relu2ReferenceIdeal.main_arg2)
      ∧ r.2.mem ((c.tc : Thread Cert.Relu2ReferenceIdeal.nD Cert.Relu2ReferenceIdeal.τ).loc Cert.Relu2ReferenceIdeal.main_arg3) = m ((c.tc : Thread Cert.Relu2ReferenceIdeal.nD Cert.Relu2ReferenceIdeal.τ).loc Cert.Relu2ReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_finite_gate [hGateKernelIdeal : Cert.GateKernelIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gate m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_NormFwdKernel [hNormFwdKernel : Cert.NormFwdKernel.Facts] : Prop :=
  ∀ (m : (ℓ : Loc Cert.NormFwdKernel.nD Cert.NormFwdKernel.τ Cert.NormFwdKernel.sig) → Buf (Elt Bits) ℓ) (g : Dev Cert.NormFwdKernel.nD → PrngReg), Pre_NormFwdKernel m →
    θ_run (Cert.NormFwdKernel.defs (F := Bits)) (onTc (τ := Cert.NormFwdKernel.τ) (Cert.NormFwdKernel.main (F := Bits))) ⟨m, fun _ => 0, g⟩ (fun r => (∀ c : Dev Cert.NormFwdKernel.nD,
      r.2.mem ((c.tc : Thread Cert.NormFwdKernel.nD Cert.NormFwdKernel.τ).loc Cert.NormFwdKernel.main_arg0) = m ((c.tc : Thread Cert.NormFwdKernel.nD Cert.NormFwdKernel.τ).loc Cert.NormFwdKernel.main_arg0)
      ∧ r.2.mem ((c.tc : Thread Cert.NormFwdKernel.nD Cert.NormFwdKernel.τ).loc Cert.NormFwdKernel.main_arg1) = m ((c.tc : Thread Cert.NormFwdKernel.nD Cert.NormFwdKernel.τ).loc Cert.NormFwdKernel.main_arg1)
      ∧ r.2.mem ((c.tc : Thread Cert.NormFwdKernel.nD Cert.NormFwdKernel.τ).loc Cert.NormFwdKernel.main_arg2) = m ((c.tc : Thread Cert.NormFwdKernel.nD Cert.NormFwdKernel.τ).loc Cert.NormFwdKernel.main_arg2))
      ∧ r.2.sem = fun _ => 0)

def quiescent_NormFwdKernelIdeal [hNormFwdKernelIdeal : Cert.NormFwdKernelIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg), Pre_NormFwdKernelIdeal m →
    θ_run (Cert.NormFwdKernelIdeal.defs (F := Ideal)) (onTc (τ := Cert.NormFwdKernelIdeal.τ) (Cert.NormFwdKernelIdeal.main (F := Ideal))) ⟨m, fun _ => 0, g⟩ (fun r => (∀ c : Dev Cert.NormFwdKernelIdeal.nD,
      r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
      ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1)
      ∧ r.2.mem ((c.tc : Thread Cert.NormFwdKernelIdeal.nD Cert.NormFwdKernelIdeal.τ).loc Cert.NormFwdKernelIdeal.main_arg2) = m ((c.tc : Thread Cert.NormFwdKernelIdeal.nD Cert.NormFwdKernelIdeal.τ).loc Cert.NormFwdKernelIdeal.main_arg2))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_SwaFwdKernel [hSwaFwdKernel : Cert.SwaFwdKernel.Facts] : Prop :=
  ∀ (m : (ℓ : Loc Cert.SwaFwdKernel.nD Cert.SwaFwdKernel.τ Cert.SwaFwdKernel.sig) → Buf (Elt Bits) ℓ) (g : Dev Cert.SwaFwdKernel.nD → PrngReg), Pre_SwaFwdKernel m →
    θ_run (Cert.SwaFwdKernel.defs (F := Bits)) (onTc (τ := Cert.SwaFwdKernel.τ) (Cert.SwaFwdKernel.main (F := Bits))) ⟨m, fun _ => 0, g⟩ (fun r => (∀ c : Dev Cert.SwaFwdKernel.nD,
      r.2.mem ((c.tc : Thread Cert.SwaFwdKernel.nD Cert.SwaFwdKernel.τ).loc Cert.SwaFwdKernel.main_arg0) = m ((c.tc : Thread Cert.SwaFwdKernel.nD Cert.SwaFwdKernel.τ).loc Cert.SwaFwdKernel.main_arg0)
      ∧ r.2.mem ((c.tc : Thread Cert.SwaFwdKernel.nD Cert.SwaFwdKernel.τ).loc Cert.SwaFwdKernel.main_arg1) = m ((c.tc : Thread Cert.SwaFwdKernel.nD Cert.SwaFwdKernel.τ).loc Cert.SwaFwdKernel.main_arg1)
      ∧ r.2.mem ((c.tc : Thread Cert.SwaFwdKernel.nD Cert.SwaFwdKernel.τ).loc Cert.SwaFwdKernel.main_arg2) = m ((c.tc : Thread Cert.SwaFwdKernel.nD Cert.SwaFwdKernel.τ).loc Cert.SwaFwdKernel.main_arg2))
      ∧ r.2.sem = fun _ => 0)

def quiescent_SwaFwdKernelIdeal [hSwaFwdKernelIdeal : Cert.SwaFwdKernelIdeal.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg), Pre_SwaFwdKernelIdeal m →
    θ_run (Cert.SwaFwdKernelIdeal.defs (F := Ideal)) (onTc (τ := Cert.SwaFwdKernelIdeal.τ) (Cert.SwaFwdKernelIdeal.main (F := Ideal))) ⟨m, fun _ => 0, g⟩ (fun r => (∀ c : Dev Cert.SwaFwdKernelIdeal.nD,
      r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
      ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
      ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ r.2.sem = fun _ => 0)

def quiescent_SwaFwdKernelIdeal_pre_finite_swafwd [hSwaFwdKernelIdeal : Cert.SwaFwdKernelIdeal.Facts] [hPre_finite_swafwd : Cert.Pre_finite_swafwd.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg), Pre_SwaFwdKernelIdeal_finite_swafwd m →
    θ_run (Cert.SwaFwdKernelIdeal.defs (F := Ideal)) (onTc (τ := Cert.SwaFwdKernelIdeal.τ) (Cert.SwaFwdKernelIdeal.main (F := Ideal))) ⟨m, fun _ => 0, g⟩ (fun r => (∀ c : Dev Cert.SwaFwdKernelIdeal.nD,
      r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
      ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
      ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ r.2.sem = fun _ => 0)

def quiescent_SwaFwdReferenceIdeal [hSwaFwdReferenceIdeal : Cert.SwaFwdReferenceIdeal.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def quiescent_SwaFwdReferenceIdeal_pre_finite_swafwd [hSwaFwdReferenceIdeal : Cert.SwaFwdReferenceIdeal.Facts] [hPre_finite_swafwd : Cert.Pre_finite_swafwd.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal_finite_swafwd m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def quiescent_GlaFwdKernel [hGlaFwdKernel : Cert.GlaFwdKernel.Facts] : Prop :=
  ∀ (m : (ℓ : Loc Cert.GlaFwdKernel.nD Cert.GlaFwdKernel.τ Cert.GlaFwdKernel.sig) → Buf (Elt Bits) ℓ) (g : Dev Cert.GlaFwdKernel.nD → PrngReg), Pre_GlaFwdKernel m →
    θ_run (Cert.GlaFwdKernel.defs (F := Bits)) (onTc (τ := Cert.GlaFwdKernel.τ) (Cert.GlaFwdKernel.main (F := Bits))) ⟨m, fun _ => 0, g⟩ (fun r => (∀ c : Dev Cert.GlaFwdKernel.nD,
      r.2.mem ((c.tc : Thread Cert.GlaFwdKernel.nD Cert.GlaFwdKernel.τ).loc Cert.GlaFwdKernel.main_arg0) = m ((c.tc : Thread Cert.GlaFwdKernel.nD Cert.GlaFwdKernel.τ).loc Cert.GlaFwdKernel.main_arg0)
      ∧ r.2.mem ((c.tc : Thread Cert.GlaFwdKernel.nD Cert.GlaFwdKernel.τ).loc Cert.GlaFwdKernel.main_arg1) = m ((c.tc : Thread Cert.GlaFwdKernel.nD Cert.GlaFwdKernel.τ).loc Cert.GlaFwdKernel.main_arg1))
      ∧ r.2.sem = fun _ => 0)

def quiescent_GlaFwdKernelIdeal [hGlaFwdKernelIdeal : Cert.GlaFwdKernelIdeal.Facts] : Prop :=
  ∀ (m : (ℓ : Loc Cert.GlaFwdKernelIdeal.nD Cert.GlaFwdKernelIdeal.τ Cert.GlaFwdKernelIdeal.sig) → Buf (Elt Ideal) ℓ) (g : Dev Cert.GlaFwdKernelIdeal.nD → PrngReg), Pre_GlaFwdKernelIdeal m →
    θ_run (Cert.GlaFwdKernelIdeal.defs (F := Ideal)) (onTc (τ := Cert.GlaFwdKernelIdeal.τ) (Cert.GlaFwdKernelIdeal.main (F := Ideal))) ⟨m, fun _ => 0, g⟩ (fun r => (∀ c : Dev Cert.GlaFwdKernelIdeal.nD,
      r.2.mem ((c.tc : Thread Cert.GlaFwdKernelIdeal.nD Cert.GlaFwdKernelIdeal.τ).loc Cert.GlaFwdKernelIdeal.main_arg0) = m ((c.tc : Thread Cert.GlaFwdKernelIdeal.nD Cert.GlaFwdKernelIdeal.τ).loc Cert.GlaFwdKernelIdeal.main_arg0)
      ∧ r.2.mem ((c.tc : Thread Cert.GlaFwdKernelIdeal.nD Cert.GlaFwdKernelIdeal.τ).loc Cert.GlaFwdKernelIdeal.main_arg1) = m ((c.tc : Thread Cert.GlaFwdKernelIdeal.nD Cert.GlaFwdKernelIdeal.τ).loc Cert.GlaFwdKernelIdeal.main_arg1))
      ∧ r.2.sem = fun _ => 0)

def quiescent_GlaBwdKernel [hGlaBwdKernel : Cert.GlaBwdKernel.Facts] : Prop :=
  ∀ (m : (ℓ : Loc Cert.GlaBwdKernel.nD Cert.GlaBwdKernel.τ Cert.GlaBwdKernel.sig) → Buf (Elt Bits) ℓ) (g : Dev Cert.GlaBwdKernel.nD → PrngReg), Pre_GlaBwdKernel m →
    θ_run (Cert.GlaBwdKernel.defs (F := Bits)) (onTc (τ := Cert.GlaBwdKernel.τ) (Cert.GlaBwdKernel.main (F := Bits))) ⟨m, fun _ => 0, g⟩ (fun r => (∀ c : Dev Cert.GlaBwdKernel.nD,
      r.2.mem ((c.tc : Thread Cert.GlaBwdKernel.nD Cert.GlaBwdKernel.τ).loc Cert.GlaBwdKernel.main_arg0) = m ((c.tc : Thread Cert.GlaBwdKernel.nD Cert.GlaBwdKernel.τ).loc Cert.GlaBwdKernel.main_arg0)
      ∧ r.2.mem ((c.tc : Thread Cert.GlaBwdKernel.nD Cert.GlaBwdKernel.τ).loc Cert.GlaBwdKernel.main_arg1) = m ((c.tc : Thread Cert.GlaBwdKernel.nD Cert.GlaBwdKernel.τ).loc Cert.GlaBwdKernel.main_arg1)
      ∧ r.2.mem ((c.tc : Thread Cert.GlaBwdKernel.nD Cert.GlaBwdKernel.τ).loc Cert.GlaBwdKernel.main_arg2) = m ((c.tc : Thread Cert.GlaBwdKernel.nD Cert.GlaBwdKernel.τ).loc Cert.GlaBwdKernel.main_arg2)
      ∧ r.2.mem ((c.tc : Thread Cert.GlaBwdKernel.nD Cert.GlaBwdKernel.τ).loc Cert.GlaBwdKernel.main_arg3) = m ((c.tc : Thread Cert.GlaBwdKernel.nD Cert.GlaBwdKernel.τ).loc Cert.GlaBwdKernel.main_arg3))
      ∧ r.2.sem = fun _ => 0)

def quiescent_GlaBwdKernelIdeal [hGlaBwdKernelIdeal : Cert.GlaBwdKernelIdeal.Facts] : Prop :=
  ∀ (m : (ℓ : Loc Cert.GlaBwdKernelIdeal.nD Cert.GlaBwdKernelIdeal.τ Cert.GlaBwdKernelIdeal.sig) → Buf (Elt Ideal) ℓ) (g : Dev Cert.GlaBwdKernelIdeal.nD → PrngReg), Pre_GlaBwdKernelIdeal m →
    θ_run (Cert.GlaBwdKernelIdeal.defs (F := Ideal)) (onTc (τ := Cert.GlaBwdKernelIdeal.τ) (Cert.GlaBwdKernelIdeal.main (F := Ideal))) ⟨m, fun _ => 0, g⟩ (fun r => (∀ c : Dev Cert.GlaBwdKernelIdeal.nD,
      r.2.mem ((c.tc : Thread Cert.GlaBwdKernelIdeal.nD Cert.GlaBwdKernelIdeal.τ).loc Cert.GlaBwdKernelIdeal.main_arg0) = m ((c.tc : Thread Cert.GlaBwdKernelIdeal.nD Cert.GlaBwdKernelIdeal.τ).loc Cert.GlaBwdKernelIdeal.main_arg0)
      ∧ r.2.mem ((c.tc : Thread Cert.GlaBwdKernelIdeal.nD Cert.GlaBwdKernelIdeal.τ).loc Cert.GlaBwdKernelIdeal.main_arg1) = m ((c.tc : Thread Cert.GlaBwdKernelIdeal.nD Cert.GlaBwdKernelIdeal.τ).loc Cert.GlaBwdKernelIdeal.main_arg1)
      ∧ r.2.mem ((c.tc : Thread Cert.GlaBwdKernelIdeal.nD Cert.GlaBwdKernelIdeal.τ).loc Cert.GlaBwdKernelIdeal.main_arg2) = m ((c.tc : Thread Cert.GlaBwdKernelIdeal.nD Cert.GlaBwdKernelIdeal.τ).loc Cert.GlaBwdKernelIdeal.main_arg2)
      ∧ r.2.mem ((c.tc : Thread Cert.GlaBwdKernelIdeal.nD Cert.GlaBwdKernelIdeal.τ).loc Cert.GlaBwdKernelIdeal.main_arg3) = m ((c.tc : Thread Cert.GlaBwdKernelIdeal.nD Cert.GlaBwdKernelIdeal.τ).loc Cert.GlaBwdKernelIdeal.main_arg3))
      ∧ r.2.sem = fun _ => 0)

def quiescent_MlpUpBwdKernel [hMlpUpBwdKernel : Cert.MlpUpBwdKernel.Facts] : Prop :=
  ∀ (m : (ℓ : Loc Cert.MlpUpBwdKernel.nD Cert.MlpUpBwdKernel.τ Cert.MlpUpBwdKernel.sig) → Buf (Elt Bits) ℓ) (g : Dev Cert.MlpUpBwdKernel.nD → PrngReg), Pre_MlpUpBwdKernel m →
    θ_run (Cert.MlpUpBwdKernel.defs (F := Bits)) (onTc (τ := Cert.MlpUpBwdKernel.τ) (Cert.MlpUpBwdKernel.main (F := Bits))) ⟨m, fun _ => 0, g⟩ (fun r => (∀ c : Dev Cert.MlpUpBwdKernel.nD,
      r.2.mem ((c.tc : Thread Cert.MlpUpBwdKernel.nD Cert.MlpUpBwdKernel.τ).loc Cert.MlpUpBwdKernel.main_arg0) = m ((c.tc : Thread Cert.MlpUpBwdKernel.nD Cert.MlpUpBwdKernel.τ).loc Cert.MlpUpBwdKernel.main_arg0)
      ∧ r.2.mem ((c.tc : Thread Cert.MlpUpBwdKernel.nD Cert.MlpUpBwdKernel.τ).loc Cert.MlpUpBwdKernel.main_arg1) = m ((c.tc : Thread Cert.MlpUpBwdKernel.nD Cert.MlpUpBwdKernel.τ).loc Cert.MlpUpBwdKernel.main_arg1))
      ∧ r.2.sem = fun _ => 0)

def quiescent_MlpUpBwdKernelIdeal [hMlpUpBwdKernelIdeal : Cert.MlpUpBwdKernelIdeal.Facts] : Prop :=
  ∀ (m : (ℓ : Loc Cert.MlpUpBwdKernelIdeal.nD Cert.MlpUpBwdKernelIdeal.τ Cert.MlpUpBwdKernelIdeal.sig) → Buf (Elt Ideal) ℓ) (g : Dev Cert.MlpUpBwdKernelIdeal.nD → PrngReg), Pre_MlpUpBwdKernelIdeal m →
    θ_run (Cert.MlpUpBwdKernelIdeal.defs (F := Ideal)) (onTc (τ := Cert.MlpUpBwdKernelIdeal.τ) (Cert.MlpUpBwdKernelIdeal.main (F := Ideal))) ⟨m, fun _ => 0, g⟩ (fun r => (∀ c : Dev Cert.MlpUpBwdKernelIdeal.nD,
      r.2.mem ((c.tc : Thread Cert.MlpUpBwdKernelIdeal.nD Cert.MlpUpBwdKernelIdeal.τ).loc Cert.MlpUpBwdKernelIdeal.main_arg0) = m ((c.tc : Thread Cert.MlpUpBwdKernelIdeal.nD Cert.MlpUpBwdKernelIdeal.τ).loc Cert.MlpUpBwdKernelIdeal.main_arg0)
      ∧ r.2.mem ((c.tc : Thread Cert.MlpUpBwdKernelIdeal.nD Cert.MlpUpBwdKernelIdeal.τ).loc Cert.MlpUpBwdKernelIdeal.main_arg1) = m ((c.tc : Thread Cert.MlpUpBwdKernelIdeal.nD Cert.MlpUpBwdKernelIdeal.τ).loc Cert.MlpUpBwdKernelIdeal.main_arg1))
      ∧ r.2.sem = fun _ => 0)

def quiescent_MlpUpBwdReferenceIdeal [hMlpUpBwdReferenceIdeal : Cert.MlpUpBwdReferenceIdeal.Facts] : Prop :=
  ∀ (m : (ℓ : Loc Cert.MlpUpBwdReferenceIdeal.nD Cert.MlpUpBwdReferenceIdeal.τ Cert.MlpUpBwdReferenceIdeal.sig) → Buf (Elt Ideal) ℓ) (g : Dev Cert.MlpUpBwdReferenceIdeal.nD → PrngReg), Pre_MlpUpBwdReferenceIdeal m →
    θ_run (Cert.MlpUpBwdReferenceIdeal.defs (F := Ideal)) (onTc (τ := Cert.MlpUpBwdReferenceIdeal.τ) (Cert.MlpUpBwdReferenceIdeal.main (F := Ideal))) ⟨m, fun _ => 0, g⟩ (fun r => (∀ c : Dev Cert.MlpUpBwdReferenceIdeal.nD,
      r.2.mem ((c.tc : Thread Cert.MlpUpBwdReferenceIdeal.nD Cert.MlpUpBwdReferenceIdeal.τ).loc Cert.MlpUpBwdReferenceIdeal.main_arg0) = m ((c.tc : Thread Cert.MlpUpBwdReferenceIdeal.nD Cert.MlpUpBwdReferenceIdeal.τ).loc Cert.MlpUpBwdReferenceIdeal.main_arg0)
      ∧ r.2.mem ((c.tc : Thread Cert.MlpUpBwdReferenceIdeal.nD Cert.MlpUpBwdReferenceIdeal.τ).loc Cert.MlpUpBwdReferenceIdeal.main_arg1) = m ((c.tc : Thread Cert.MlpUpBwdReferenceIdeal.nD Cert.MlpUpBwdReferenceIdeal.τ).loc Cert.MlpUpBwdReferenceIdeal.main_arg1))
      ∧ r.2.sem = fun _ => 0)

def quiescent_GradWDownKernel [hGradWDownKernel : Cert.GradWDownKernel.Facts] : Prop :=
  ∀ (m : (ℓ : Loc Cert.GradWDownKernel.nD Cert.GradWDownKernel.τ Cert.GradWDownKernel.sig) → Buf (Elt Bits) ℓ) (g : Dev Cert.GradWDownKernel.nD → PrngReg), Pre_GradWDownKernel m →
    θ_run (Cert.GradWDownKernel.defs (F := Bits)) (onTc (τ := Cert.GradWDownKernel.τ) (Cert.GradWDownKernel.main (F := Bits))) ⟨m, fun _ => 0, g⟩ (fun r => (∀ c : Dev Cert.GradWDownKernel.nD,
      r.2.mem ((c.tc : Thread Cert.GradWDownKernel.nD Cert.GradWDownKernel.τ).loc Cert.GradWDownKernel.main_arg0) = m ((c.tc : Thread Cert.GradWDownKernel.nD Cert.GradWDownKernel.τ).loc Cert.GradWDownKernel.main_arg0)
      ∧ r.2.mem ((c.tc : Thread Cert.GradWDownKernel.nD Cert.GradWDownKernel.τ).loc Cert.GradWDownKernel.main_arg1) = m ((c.tc : Thread Cert.GradWDownKernel.nD Cert.GradWDownKernel.τ).loc Cert.GradWDownKernel.main_arg1))
      ∧ r.2.sem = fun _ => 0)

def quiescent_GradWDownKernelIdeal [hGradWDownKernelIdeal : Cert.GradWDownKernelIdeal.Facts] : Prop :=
  ∀ (m : (ℓ : Loc Cert.GradWDownKernelIdeal.nD Cert.GradWDownKernelIdeal.τ Cert.GradWDownKernelIdeal.sig) → Buf (Elt Ideal) ℓ) (g : Dev Cert.GradWDownKernelIdeal.nD → PrngReg), Pre_GradWDownKernelIdeal m →
    θ_run (Cert.GradWDownKernelIdeal.defs (F := Ideal)) (onTc (τ := Cert.GradWDownKernelIdeal.τ) (Cert.GradWDownKernelIdeal.main (F := Ideal))) ⟨m, fun _ => 0, g⟩ (fun r => (∀ c : Dev Cert.GradWDownKernelIdeal.nD,
      r.2.mem ((c.tc : Thread Cert.GradWDownKernelIdeal.nD Cert.GradWDownKernelIdeal.τ).loc Cert.GradWDownKernelIdeal.main_arg0) = m ((c.tc : Thread Cert.GradWDownKernelIdeal.nD Cert.GradWDownKernelIdeal.τ).loc Cert.GradWDownKernelIdeal.main_arg0)
      ∧ r.2.mem ((c.tc : Thread Cert.GradWDownKernelIdeal.nD Cert.GradWDownKernelIdeal.τ).loc Cert.GradWDownKernelIdeal.main_arg1) = m ((c.tc : Thread Cert.GradWDownKernelIdeal.nD Cert.GradWDownKernelIdeal.τ).loc Cert.GradWDownKernelIdeal.main_arg1))
      ∧ r.2.sem = fun _ => 0)

def quiescent_GradWDownReferenceIdeal [hGradWDownReferenceIdeal : Cert.GradWDownReferenceIdeal.Facts] : Prop :=
  ∀ (m : (ℓ : Loc Cert.GradWDownReferenceIdeal.nD Cert.GradWDownReferenceIdeal.τ Cert.GradWDownReferenceIdeal.sig) → Buf (Elt Ideal) ℓ) (g : Dev Cert.GradWDownReferenceIdeal.nD → PrngReg), Pre_GradWDownReferenceIdeal m →
    θ_run (Cert.GradWDownReferenceIdeal.defs (F := Ideal)) (onTc (τ := Cert.GradWDownReferenceIdeal.τ) (Cert.GradWDownReferenceIdeal.main (F := Ideal))) ⟨m, fun _ => 0, g⟩ (fun r => (∀ c : Dev Cert.GradWDownReferenceIdeal.nD,
      r.2.mem ((c.tc : Thread Cert.GradWDownReferenceIdeal.nD Cert.GradWDownReferenceIdeal.τ).loc Cert.GradWDownReferenceIdeal.main_arg0) = m ((c.tc : Thread Cert.GradWDownReferenceIdeal.nD Cert.GradWDownReferenceIdeal.τ).loc Cert.GradWDownReferenceIdeal.main_arg0)
      ∧ r.2.mem ((c.tc : Thread Cert.GradWDownReferenceIdeal.nD Cert.GradWDownReferenceIdeal.τ).loc Cert.GradWDownReferenceIdeal.main_arg1) = m ((c.tc : Thread Cert.GradWDownReferenceIdeal.nD Cert.GradWDownReferenceIdeal.τ).loc Cert.GradWDownReferenceIdeal.main_arg1))
      ∧ r.2.sem = fun _ => 0)

def quiescent_GradXKernel [hGradXKernel : Cert.GradXKernel.Facts] : Prop :=
  ∀ (m : (ℓ : Loc Cert.GradXKernel.nD Cert.GradXKernel.τ Cert.GradXKernel.sig) → Buf (Elt Bits) ℓ) (g : Dev Cert.GradXKernel.nD → PrngReg), Pre_GradXKernel m →
    θ_run (Cert.GradXKernel.defs (F := Bits)) (onTc (τ := Cert.GradXKernel.τ) (Cert.GradXKernel.main (F := Bits))) ⟨m, fun _ => 0, g⟩ (fun r => (∀ c : Dev Cert.GradXKernel.nD,
      r.2.mem ((c.tc : Thread Cert.GradXKernel.nD Cert.GradXKernel.τ).loc Cert.GradXKernel.main_arg0) = m ((c.tc : Thread Cert.GradXKernel.nD Cert.GradXKernel.τ).loc Cert.GradXKernel.main_arg0)
      ∧ r.2.mem ((c.tc : Thread Cert.GradXKernel.nD Cert.GradXKernel.τ).loc Cert.GradXKernel.main_arg1) = m ((c.tc : Thread Cert.GradXKernel.nD Cert.GradXKernel.τ).loc Cert.GradXKernel.main_arg1)
      ∧ r.2.mem ((c.tc : Thread Cert.GradXKernel.nD Cert.GradXKernel.τ).loc Cert.GradXKernel.main_arg2) = m ((c.tc : Thread Cert.GradXKernel.nD Cert.GradXKernel.τ).loc Cert.GradXKernel.main_arg2))
      ∧ r.2.sem = fun _ => 0)

def quiescent_GradXKernelIdeal [hGradXKernelIdeal : Cert.GradXKernelIdeal.Facts] : Prop :=
  ∀ (m : (ℓ : Loc Cert.GradXKernelIdeal.nD Cert.GradXKernelIdeal.τ Cert.GradXKernelIdeal.sig) → Buf (Elt Ideal) ℓ) (g : Dev Cert.GradXKernelIdeal.nD → PrngReg), Pre_GradXKernelIdeal m →
    θ_run (Cert.GradXKernelIdeal.defs (F := Ideal)) (onTc (τ := Cert.GradXKernelIdeal.τ) (Cert.GradXKernelIdeal.main (F := Ideal))) ⟨m, fun _ => 0, g⟩ (fun r => (∀ c : Dev Cert.GradXKernelIdeal.nD,
      r.2.mem ((c.tc : Thread Cert.GradXKernelIdeal.nD Cert.GradXKernelIdeal.τ).loc Cert.GradXKernelIdeal.main_arg0) = m ((c.tc : Thread Cert.GradXKernelIdeal.nD Cert.GradXKernelIdeal.τ).loc Cert.GradXKernelIdeal.main_arg0)
      ∧ r.2.mem ((c.tc : Thread Cert.GradXKernelIdeal.nD Cert.GradXKernelIdeal.τ).loc Cert.GradXKernelIdeal.main_arg1) = m ((c.tc : Thread Cert.GradXKernelIdeal.nD Cert.GradXKernelIdeal.τ).loc Cert.GradXKernelIdeal.main_arg1)
      ∧ r.2.mem ((c.tc : Thread Cert.GradXKernelIdeal.nD Cert.GradXKernelIdeal.τ).loc Cert.GradXKernelIdeal.main_arg2) = m ((c.tc : Thread Cert.GradXKernelIdeal.nD Cert.GradXKernelIdeal.τ).loc Cert.GradXKernelIdeal.main_arg2))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_DcatKernel [hDcatKernel : Cert.DcatKernel.Facts] : Prop :=
  ∀ (m : (ℓ : Loc Cert.DcatKernel.nD Cert.DcatKernel.τ Cert.DcatKernel.sig) → Buf (Elt Bits) ℓ) (g : Dev Cert.DcatKernel.nD → PrngReg), Pre_DcatKernel m →
    θ_run (Cert.DcatKernel.defs (F := Bits)) (onTc (τ := Cert.DcatKernel.τ) (Cert.DcatKernel.main (F := Bits))) ⟨m, fun _ => 0, g⟩ (fun r => (∀ c : Dev Cert.DcatKernel.nD,
      r.2.mem ((c.tc : Thread Cert.DcatKernel.nD Cert.DcatKernel.τ).loc Cert.DcatKernel.main_arg0) = m ((c.tc : Thread Cert.DcatKernel.nD Cert.DcatKernel.τ).loc Cert.DcatKernel.main_arg0)
      ∧ r.2.mem ((c.tc : Thread Cert.DcatKernel.nD Cert.DcatKernel.τ).loc Cert.DcatKernel.main_arg1) = m ((c.tc : Thread Cert.DcatKernel.nD Cert.DcatKernel.τ).loc Cert.DcatKernel.main_arg1))
      ∧ r.2.sem = fun _ => 0)

def quiescent_DcatKernelIdeal [hDcatKernelIdeal : Cert.DcatKernelIdeal.Facts] : Prop :=
  ∀ (m : (ℓ : Loc Cert.DcatKernelIdeal.nD Cert.DcatKernelIdeal.τ Cert.DcatKernelIdeal.sig) → Buf (Elt Ideal) ℓ) (g : Dev Cert.DcatKernelIdeal.nD → PrngReg), Pre_DcatKernelIdeal m →
    θ_run (Cert.DcatKernelIdeal.defs (F := Ideal)) (onTc (τ := Cert.DcatKernelIdeal.τ) (Cert.DcatKernelIdeal.main (F := Ideal))) ⟨m, fun _ => 0, g⟩ (fun r => (∀ c : Dev Cert.DcatKernelIdeal.nD,
      r.2.mem ((c.tc : Thread Cert.DcatKernelIdeal.nD Cert.DcatKernelIdeal.τ).loc Cert.DcatKernelIdeal.main_arg0) = m ((c.tc : Thread Cert.DcatKernelIdeal.nD Cert.DcatKernelIdeal.τ).loc Cert.DcatKernelIdeal.main_arg0)
      ∧ r.2.mem ((c.tc : Thread Cert.DcatKernelIdeal.nD Cert.DcatKernelIdeal.τ).loc Cert.DcatKernelIdeal.main_arg1) = m ((c.tc : Thread Cert.DcatKernelIdeal.nD Cert.DcatKernelIdeal.τ).loc Cert.DcatKernelIdeal.main_arg1))
      ∧ r.2.sem = fun _ => 0)

def quiescent_DcatReferenceIdeal [hDcatReferenceIdeal : Cert.DcatReferenceIdeal.Facts] : Prop :=
  ∀ (m : (ℓ : Loc Cert.DcatReferenceIdeal.nD Cert.DcatReferenceIdeal.τ Cert.DcatReferenceIdeal.sig) → Buf (Elt Ideal) ℓ) (g : Dev Cert.DcatReferenceIdeal.nD → PrngReg), Pre_DcatReferenceIdeal m →
    θ_run (Cert.DcatReferenceIdeal.defs (F := Ideal)) (onTc (τ := Cert.DcatReferenceIdeal.τ) (Cert.DcatReferenceIdeal.main (F := Ideal))) ⟨m, fun _ => 0, g⟩ (fun r => (∀ c : Dev Cert.DcatReferenceIdeal.nD,
      r.2.mem ((c.tc : Thread Cert.DcatReferenceIdeal.nD Cert.DcatReferenceIdeal.τ).loc Cert.DcatReferenceIdeal.main_arg0) = m ((c.tc : Thread Cert.DcatReferenceIdeal.nD Cert.DcatReferenceIdeal.τ).loc Cert.DcatReferenceIdeal.main_arg0)
      ∧ r.2.mem ((c.tc : Thread Cert.DcatReferenceIdeal.nD Cert.DcatReferenceIdeal.τ).loc Cert.DcatReferenceIdeal.main_arg1) = m ((c.tc : Thread Cert.DcatReferenceIdeal.nD Cert.DcatReferenceIdeal.τ).loc Cert.DcatReferenceIdeal.main_arg1))
      ∧ r.2.sem = fun _ => 0)

def quiescent_GradWUpKernel [hGradWUpKernel : Cert.GradWUpKernel.Facts] : Prop :=
  ∀ (m : (ℓ : Loc Cert.GradWUpKernel.nD Cert.GradWUpKernel.τ Cert.GradWUpKernel.sig) → Buf (Elt Bits) ℓ) (g : Dev Cert.GradWUpKernel.nD → PrngReg), Pre_GradWUpKernel m →
    θ_run (Cert.GradWUpKernel.defs (F := Bits)) (onTc (τ := Cert.GradWUpKernel.τ) (Cert.GradWUpKernel.main (F := Bits))) ⟨m, fun _ => 0, g⟩ (fun r => (∀ c : Dev Cert.GradWUpKernel.nD,
      r.2.mem ((c.tc : Thread Cert.GradWUpKernel.nD Cert.GradWUpKernel.τ).loc Cert.GradWUpKernel.main_arg0) = m ((c.tc : Thread Cert.GradWUpKernel.nD Cert.GradWUpKernel.τ).loc Cert.GradWUpKernel.main_arg0)
      ∧ r.2.mem ((c.tc : Thread Cert.GradWUpKernel.nD Cert.GradWUpKernel.τ).loc Cert.GradWUpKernel.main_arg1) = m ((c.tc : Thread Cert.GradWUpKernel.nD Cert.GradWUpKernel.τ).loc Cert.GradWUpKernel.main_arg1))
      ∧ r.2.sem = fun _ => 0)

def quiescent_GradWUpKernelIdeal [hGradWUpKernelIdeal : Cert.GradWUpKernelIdeal.Facts] : Prop :=
  ∀ (m : (ℓ : Loc Cert.GradWUpKernelIdeal.nD Cert.GradWUpKernelIdeal.τ Cert.GradWUpKernelIdeal.sig) → Buf (Elt Ideal) ℓ) (g : Dev Cert.GradWUpKernelIdeal.nD → PrngReg), Pre_GradWUpKernelIdeal m →
    θ_run (Cert.GradWUpKernelIdeal.defs (F := Ideal)) (onTc (τ := Cert.GradWUpKernelIdeal.τ) (Cert.GradWUpKernelIdeal.main (F := Ideal))) ⟨m, fun _ => 0, g⟩ (fun r => (∀ c : Dev Cert.GradWUpKernelIdeal.nD,
      r.2.mem ((c.tc : Thread Cert.GradWUpKernelIdeal.nD Cert.GradWUpKernelIdeal.τ).loc Cert.GradWUpKernelIdeal.main_arg0) = m ((c.tc : Thread Cert.GradWUpKernelIdeal.nD Cert.GradWUpKernelIdeal.τ).loc Cert.GradWUpKernelIdeal.main_arg0)
      ∧ r.2.mem ((c.tc : Thread Cert.GradWUpKernelIdeal.nD Cert.GradWUpKernelIdeal.τ).loc Cert.GradWUpKernelIdeal.main_arg1) = m ((c.tc : Thread Cert.GradWUpKernelIdeal.nD Cert.GradWUpKernelIdeal.τ).loc Cert.GradWUpKernelIdeal.main_arg1))
      ∧ r.2.sem = fun _ => 0)

def quiescent_GradWUpReferenceIdeal [hGradWUpReferenceIdeal : Cert.GradWUpReferenceIdeal.Facts] : Prop :=
  ∀ (m : (ℓ : Loc Cert.GradWUpReferenceIdeal.nD Cert.GradWUpReferenceIdeal.τ Cert.GradWUpReferenceIdeal.sig) → Buf (Elt Ideal) ℓ) (g : Dev Cert.GradWUpReferenceIdeal.nD → PrngReg), Pre_GradWUpReferenceIdeal m →
    θ_run (Cert.GradWUpReferenceIdeal.defs (F := Ideal)) (onTc (τ := Cert.GradWUpReferenceIdeal.τ) (Cert.GradWUpReferenceIdeal.main (F := Ideal))) ⟨m, fun _ => 0, g⟩ (fun r => (∀ c : Dev Cert.GradWUpReferenceIdeal.nD,
      r.2.mem ((c.tc : Thread Cert.GradWUpReferenceIdeal.nD Cert.GradWUpReferenceIdeal.τ).loc Cert.GradWUpReferenceIdeal.main_arg0) = m ((c.tc : Thread Cert.GradWUpReferenceIdeal.nD Cert.GradWUpReferenceIdeal.τ).loc Cert.GradWUpReferenceIdeal.main_arg0)
      ∧ r.2.mem ((c.tc : Thread Cert.GradWUpReferenceIdeal.nD Cert.GradWUpReferenceIdeal.τ).loc Cert.GradWUpReferenceIdeal.main_arg1) = m ((c.tc : Thread Cert.GradWUpReferenceIdeal.nD Cert.GradWUpReferenceIdeal.τ).loc Cert.GradWUpReferenceIdeal.main_arg1))
      ∧ r.2.sem = fun _ => 0)

def quiescent_GradWOutKernel [hGradWOutKernel : Cert.GradWOutKernel.Facts] : Prop :=
  ∀ (m : (ℓ : Loc Cert.GradWOutKernel.nD Cert.GradWOutKernel.τ Cert.GradWOutKernel.sig) → Buf (Elt Bits) ℓ) (g : Dev Cert.GradWOutKernel.nD → PrngReg), Pre_GradWOutKernel m →
    θ_run (Cert.GradWOutKernel.defs (F := Bits)) (onTc (τ := Cert.GradWOutKernel.τ) (Cert.GradWOutKernel.main (F := Bits))) ⟨m, fun _ => 0, g⟩ (fun r => (∀ c : Dev Cert.GradWOutKernel.nD,
      r.2.mem ((c.tc : Thread Cert.GradWOutKernel.nD Cert.GradWOutKernel.τ).loc Cert.GradWOutKernel.main_arg0) = m ((c.tc : Thread Cert.GradWOutKernel.nD Cert.GradWOutKernel.τ).loc Cert.GradWOutKernel.main_arg0)
      ∧ r.2.mem ((c.tc : Thread Cert.GradWOutKernel.nD Cert.GradWOutKernel.τ).loc Cert.GradWOutKernel.main_arg1) = m ((c.tc : Thread Cert.GradWOutKernel.nD Cert.GradWOutKernel.τ).loc Cert.GradWOutKernel.main_arg1))
      ∧ r.2.sem = fun _ => 0)

def quiescent_GradWOutKernelIdeal [hGradWOutKernelIdeal : Cert.GradWOutKernelIdeal.Facts] : Prop :=
  ∀ (m : (ℓ : Loc Cert.GradWOutKernelIdeal.nD Cert.GradWOutKernelIdeal.τ Cert.GradWOutKernelIdeal.sig) → Buf (Elt Ideal) ℓ) (g : Dev Cert.GradWOutKernelIdeal.nD → PrngReg), Pre_GradWOutKernelIdeal m →
    θ_run (Cert.GradWOutKernelIdeal.defs (F := Ideal)) (onTc (τ := Cert.GradWOutKernelIdeal.τ) (Cert.GradWOutKernelIdeal.main (F := Ideal))) ⟨m, fun _ => 0, g⟩ (fun r => (∀ c : Dev Cert.GradWOutKernelIdeal.nD,
      r.2.mem ((c.tc : Thread Cert.GradWOutKernelIdeal.nD Cert.GradWOutKernelIdeal.τ).loc Cert.GradWOutKernelIdeal.main_arg0) = m ((c.tc : Thread Cert.GradWOutKernelIdeal.nD Cert.GradWOutKernelIdeal.τ).loc Cert.GradWOutKernelIdeal.main_arg0)
      ∧ r.2.mem ((c.tc : Thread Cert.GradWOutKernelIdeal.nD Cert.GradWOutKernelIdeal.τ).loc Cert.GradWOutKernelIdeal.main_arg1) = m ((c.tc : Thread Cert.GradWOutKernelIdeal.nD Cert.GradWOutKernelIdeal.τ).loc Cert.GradWOutKernelIdeal.main_arg1))
      ∧ r.2.sem = fun _ => 0)

def quiescent_GradWOutReferenceIdeal [hGradWOutReferenceIdeal : Cert.GradWOutReferenceIdeal.Facts] : Prop :=
  ∀ (m : (ℓ : Loc Cert.GradWOutReferenceIdeal.nD Cert.GradWOutReferenceIdeal.τ Cert.GradWOutReferenceIdeal.sig) → Buf (Elt Ideal) ℓ) (g : Dev Cert.GradWOutReferenceIdeal.nD → PrngReg), Pre_GradWOutReferenceIdeal m →
    θ_run (Cert.GradWOutReferenceIdeal.defs (F := Ideal)) (onTc (τ := Cert.GradWOutReferenceIdeal.τ) (Cert.GradWOutReferenceIdeal.main (F := Ideal))) ⟨m, fun _ => 0, g⟩ (fun r => (∀ c : Dev Cert.GradWOutReferenceIdeal.nD,
      r.2.mem ((c.tc : Thread Cert.GradWOutReferenceIdeal.nD Cert.GradWOutReferenceIdeal.τ).loc Cert.GradWOutReferenceIdeal.main_arg0) = m ((c.tc : Thread Cert.GradWOutReferenceIdeal.nD Cert.GradWOutReferenceIdeal.τ).loc Cert.GradWOutReferenceIdeal.main_arg0)
      ∧ r.2.mem ((c.tc : Thread Cert.GradWOutReferenceIdeal.nD Cert.GradWOutReferenceIdeal.τ).loc Cert.GradWOutReferenceIdeal.main_arg1) = m ((c.tc : Thread Cert.GradWOutReferenceIdeal.nD Cert.GradWOutReferenceIdeal.τ).loc Cert.GradWOutReferenceIdeal.main_arg1))
      ∧ r.2.sem = fun _ => 0)

def quiescent_MlpDownKernel [hMlpDownKernel : Cert.MlpDownKernel.Facts] : Prop :=
  ∀ (m : (ℓ : Loc Cert.MlpDownKernel.nD Cert.MlpDownKernel.τ Cert.MlpDownKernel.sig) → Buf (Elt Bits) ℓ) (g : Dev Cert.MlpDownKernel.nD → PrngReg), Pre_MlpDownKernel m →
    θ_run (Cert.MlpDownKernel.defs (F := Bits)) (onTc (τ := Cert.MlpDownKernel.τ) (Cert.MlpDownKernel.main (F := Bits))) ⟨m, fun _ => 0, g⟩ (fun r => (∀ c : Dev Cert.MlpDownKernel.nD,
      r.2.mem ((c.tc : Thread Cert.MlpDownKernel.nD Cert.MlpDownKernel.τ).loc Cert.MlpDownKernel.main_arg0) = m ((c.tc : Thread Cert.MlpDownKernel.nD Cert.MlpDownKernel.τ).loc Cert.MlpDownKernel.main_arg0)
      ∧ r.2.mem ((c.tc : Thread Cert.MlpDownKernel.nD Cert.MlpDownKernel.τ).loc Cert.MlpDownKernel.main_arg1) = m ((c.tc : Thread Cert.MlpDownKernel.nD Cert.MlpDownKernel.τ).loc Cert.MlpDownKernel.main_arg1))
      ∧ r.2.sem = fun _ => 0)

def quiescent_MlpDownKernelIdeal [hMlpDownKernelIdeal : Cert.MlpDownKernelIdeal.Facts] : Prop :=
  ∀ (m : (ℓ : Loc Cert.MlpDownKernelIdeal.nD Cert.MlpDownKernelIdeal.τ Cert.MlpDownKernelIdeal.sig) → Buf (Elt Ideal) ℓ) (g : Dev Cert.MlpDownKernelIdeal.nD → PrngReg), Pre_MlpDownKernelIdeal m →
    θ_run (Cert.MlpDownKernelIdeal.defs (F := Ideal)) (onTc (τ := Cert.MlpDownKernelIdeal.τ) (Cert.MlpDownKernelIdeal.main (F := Ideal))) ⟨m, fun _ => 0, g⟩ (fun r => (∀ c : Dev Cert.MlpDownKernelIdeal.nD,
      r.2.mem ((c.tc : Thread Cert.MlpDownKernelIdeal.nD Cert.MlpDownKernelIdeal.τ).loc Cert.MlpDownKernelIdeal.main_arg0) = m ((c.tc : Thread Cert.MlpDownKernelIdeal.nD Cert.MlpDownKernelIdeal.τ).loc Cert.MlpDownKernelIdeal.main_arg0)
      ∧ r.2.mem ((c.tc : Thread Cert.MlpDownKernelIdeal.nD Cert.MlpDownKernelIdeal.τ).loc Cert.MlpDownKernelIdeal.main_arg1) = m ((c.tc : Thread Cert.MlpDownKernelIdeal.nD Cert.MlpDownKernelIdeal.τ).loc Cert.MlpDownKernelIdeal.main_arg1))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_GradWInKernel [hGradWInKernel : Cert.GradWInKernel.Facts] : Prop :=
  ∀ (m : (ℓ : Loc Cert.GradWInKernel.nD Cert.GradWInKernel.τ Cert.GradWInKernel.sig) → Buf (Elt Bits) ℓ) (g : Dev Cert.GradWInKernel.nD → PrngReg), Pre_GradWInKernel m →
    θ_run (Cert.GradWInKernel.defs (F := Bits)) (onTc (τ := Cert.GradWInKernel.τ) (Cert.GradWInKernel.main (F := Bits))) ⟨m, fun _ => 0, g⟩ (fun r => (∀ c : Dev Cert.GradWInKernel.nD,
      r.2.mem ((c.tc : Thread Cert.GradWInKernel.nD Cert.GradWInKernel.τ).loc Cert.GradWInKernel.main_arg0) = m ((c.tc : Thread Cert.GradWInKernel.nD Cert.GradWInKernel.τ).loc Cert.GradWInKernel.main_arg0)
      ∧ r.2.mem ((c.tc : Thread Cert.GradWInKernel.nD Cert.GradWInKernel.τ).loc Cert.GradWInKernel.main_arg1) = m ((c.tc : Thread Cert.GradWInKernel.nD Cert.GradWInKernel.τ).loc Cert.GradWInKernel.main_arg1))
      ∧ r.2.sem = fun _ => 0)

def quiescent_GradWInKernelIdeal [hGradWInKernelIdeal : Cert.GradWInKernelIdeal.Facts] : Prop :=
  ∀ (m : (ℓ : Loc Cert.GradWInKernelIdeal.nD Cert.GradWInKernelIdeal.τ Cert.GradWInKernelIdeal.sig) → Buf (Elt Ideal) ℓ) (g : Dev Cert.GradWInKernelIdeal.nD → PrngReg), Pre_GradWInKernelIdeal m →
    θ_run (Cert.GradWInKernelIdeal.defs (F := Ideal)) (onTc (τ := Cert.GradWInKernelIdeal.τ) (Cert.GradWInKernelIdeal.main (F := Ideal))) ⟨m, fun _ => 0, g⟩ (fun r => (∀ c : Dev Cert.GradWInKernelIdeal.nD,
      r.2.mem ((c.tc : Thread Cert.GradWInKernelIdeal.nD Cert.GradWInKernelIdeal.τ).loc Cert.GradWInKernelIdeal.main_arg0) = m ((c.tc : Thread Cert.GradWInKernelIdeal.nD Cert.GradWInKernelIdeal.τ).loc Cert.GradWInKernelIdeal.main_arg0)
      ∧ r.2.mem ((c.tc : Thread Cert.GradWInKernelIdeal.nD Cert.GradWInKernelIdeal.τ).loc Cert.GradWInKernelIdeal.main_arg1) = m ((c.tc : Thread Cert.GradWInKernelIdeal.nD Cert.GradWInKernelIdeal.τ).loc Cert.GradWInKernelIdeal.main_arg1))
      ∧ r.2.sem = fun _ => 0)

def quiescent_GradWInReferenceIdeal [hGradWInReferenceIdeal : Cert.GradWInReferenceIdeal.Facts] : Prop :=
  ∀ (m : (ℓ : Loc Cert.GradWInReferenceIdeal.nD Cert.GradWInReferenceIdeal.τ Cert.GradWInReferenceIdeal.sig) → Buf (Elt Ideal) ℓ) (g : Dev Cert.GradWInReferenceIdeal.nD → PrngReg), Pre_GradWInReferenceIdeal m →
    θ_run (Cert.GradWInReferenceIdeal.defs (F := Ideal)) (onTc (τ := Cert.GradWInReferenceIdeal.τ) (Cert.GradWInReferenceIdeal.main (F := Ideal))) ⟨m, fun _ => 0, g⟩ (fun r => (∀ c : Dev Cert.GradWInReferenceIdeal.nD,
      r.2.mem ((c.tc : Thread Cert.GradWInReferenceIdeal.nD Cert.GradWInReferenceIdeal.τ).loc Cert.GradWInReferenceIdeal.main_arg0) = m ((c.tc : Thread Cert.GradWInReferenceIdeal.nD Cert.GradWInReferenceIdeal.τ).loc Cert.GradWInReferenceIdeal.main_arg0)
      ∧ r.2.mem ((c.tc : Thread Cert.GradWInReferenceIdeal.nD Cert.GradWInReferenceIdeal.τ).loc Cert.GradWInReferenceIdeal.main_arg1) = m ((c.tc : Thread Cert.GradWInReferenceIdeal.nD Cert.GradWInReferenceIdeal.τ).loc Cert.GradWInReferenceIdeal.main_arg1))
      ∧ r.2.sem = fun _ => 0)

def preserves_NormKernel_NormKernelIdeal : Prop :=
  True

def algebraic_NormKernelIdeal_NormReferenceIdeal_pre_finite [hNormKernelIdeal : Cert.NormKernelIdeal.Facts] [hNormReferenceIdeal : Cert.NormReferenceIdeal.Facts] [hPre_finite : Cert.Pre_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v8_0)) (v1 : (c : Dev Cert.NormKernelIdeal.nD) → Buf (Elt Ideal) ((c.tc : Thread Cert.NormKernelIdeal.nD Cert.NormKernelIdeal.τ).loc Cert.NormKernelIdeal.main_v8_1)) (v2 : (c : Dev Cert.NormKernelIdeal.nD) → Buf (Elt Ideal) ((c.tc : Thread Cert.NormKernelIdeal.nD Cert.NormKernelIdeal.τ).loc Cert.NormKernelIdeal.main_v8_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v8_0) = v0 c
          ∧ r.2.mem ((c.tc : Thread Cert.NormKernelIdeal.nD Cert.NormKernelIdeal.τ).loc Cert.NormKernelIdeal.main_v8_1) = v1 c
          ∧ r.2.mem ((c.tc : Thread Cert.NormKernelIdeal.nD Cert.NormKernelIdeal.τ).loc Cert.NormKernelIdeal.main_v8_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v47) = v0 c
          ∧ r.2.mem ((c.tc : Thread Cert.NormReferenceIdeal.nD Cert.NormReferenceIdeal.τ).loc Cert.NormReferenceIdeal.main_v49) = v1 c
          ∧ r.2.mem ((c.tc : Thread Cert.NormReferenceIdeal.nD Cert.NormReferenceIdeal.τ).loc Cert.NormReferenceIdeal.main_v34) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_SwaKernel_SwaKernelIdeal : Prop :=
  IdealRules.named_const.Statement Cert.SwaKernelIdeal.κ "mask" .f32 0xF149F2CA#32 ⊥

def algebraic_SwaKernelIdeal_SwaReferenceIdeal_pre_finite_swa [hSwaKernelIdeal : Cert.SwaKernelIdeal.Facts] [hSwaReferenceIdeal : Cert.SwaReferenceIdeal.Facts] [hPre_finite_swa : Cert.Pre_finite_swa.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaKernelIdeal_finite_swa m →
    (∀ c : Dev Cert.SwaKernelIdeal.nD,
      m' ((c.tc : Thread Cert.SwaReferenceIdeal.nD Cert.SwaReferenceIdeal.τ).loc Cert.SwaReferenceIdeal.main_arg0) = m ((c.tc : Thread Cert.SwaKernelIdeal.nD Cert.SwaKernelIdeal.τ).loc Cert.SwaKernelIdeal.main_arg0)
      ∧ m' ((c.tc : Thread Cert.SwaReferenceIdeal.nD Cert.SwaReferenceIdeal.τ).loc Cert.SwaReferenceIdeal.main_arg1) = m ((c.tc : Thread Cert.SwaKernelIdeal.nD Cert.SwaKernelIdeal.τ).loc Cert.SwaKernelIdeal.main_arg1)
      ∧ m' ((c.tc : Thread Cert.SwaReferenceIdeal.nD Cert.SwaReferenceIdeal.τ).loc Cert.SwaReferenceIdeal.main_arg2) = m ((c.tc : Thread Cert.SwaKernelIdeal.nD Cert.SwaKernelIdeal.τ).loc Cert.SwaKernelIdeal.main_arg2)) →
    ∃ (v0 : (c : Dev Cert.SwaKernelIdeal.nD) → Buf (Elt Ideal) ((c.tc : Thread Cert.SwaKernelIdeal.nD Cert.SwaKernelIdeal.τ).loc Cert.SwaKernelIdeal.main_v5_0)) (v1 : (c : Dev Cert.SwaKernelIdeal.nD) → Buf (Elt Ideal) ((c.tc : Thread Cert.SwaKernelIdeal.nD Cert.SwaKernelIdeal.τ).loc Cert.SwaKernelIdeal.main_v5_1)) (v2 : (c : Dev Cert.SwaKernelIdeal.nD) → Buf (Elt Ideal) ((c.tc : Thread Cert.SwaKernelIdeal.nD Cert.SwaKernelIdeal.τ).loc Cert.SwaKernelIdeal.main_v5_2)) (v3 : (c : Dev Cert.SwaKernelIdeal.nD) → Buf (Elt Ideal) ((c.tc : Thread Cert.SwaKernelIdeal.nD Cert.SwaKernelIdeal.τ).loc Cert.SwaKernelIdeal.main_v5_3)),
      θ_run (Cert.SwaKernelIdeal.defs (F := Ideal)) (onTc (τ := Cert.SwaKernelIdeal.τ) (Cert.SwaKernelIdeal.main (F := Ideal))) ⟨m, fun _ => 0, g⟩ (fun r => ∀ c : Dev Cert.SwaKernelIdeal.nD,
          r.2.mem ((c.tc : Thread Cert.SwaKernelIdeal.nD Cert.SwaKernelIdeal.τ).loc Cert.SwaKernelIdeal.main_v5_0) = v0 c
          ∧ r.2.mem ((c.tc : Thread Cert.SwaKernelIdeal.nD Cert.SwaKernelIdeal.τ).loc Cert.SwaKernelIdeal.main_v5_1) = v1 c
          ∧ r.2.mem ((c.tc : Thread Cert.SwaKernelIdeal.nD Cert.SwaKernelIdeal.τ).loc Cert.SwaKernelIdeal.main_v5_2) = v2 c
          ∧ r.2.mem ((c.tc : Thread Cert.SwaKernelIdeal.nD Cert.SwaKernelIdeal.τ).loc Cert.SwaKernelIdeal.main_v5_3) = v3 c
          ∧ r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
          ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
          ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v165) = v0 c
          ∧ r.2.mem ((c.tc : Thread Cert.SwaReferenceIdeal.nD Cert.SwaReferenceIdeal.τ).loc Cert.SwaReferenceIdeal.main_v166) = v1 c
          ∧ r.2.mem ((c.tc : Thread Cert.SwaReferenceIdeal.nD Cert.SwaReferenceIdeal.τ).loc Cert.SwaReferenceIdeal.main_v167) = v2 c
          ∧ r.2.mem ((c.tc : Thread Cert.SwaReferenceIdeal.nD Cert.SwaReferenceIdeal.τ).loc Cert.SwaReferenceIdeal.main_v170) = v3 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2))

def preserves_Ln1Kernel_Ln1KernelIdeal : Prop :=
  True

def algebraic_Ln1KernelIdeal_Ln1ReferenceIdeal_pre_finite_ln1 [hLn1KernelIdeal : Cert.Ln1KernelIdeal.Facts] [hLn1ReferenceIdeal : Cert.Ln1ReferenceIdeal.Facts] [hPre_finite_ln1 : Cert.Pre_finite_ln1.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg)
    (m' : (ℓ : Loc Cert.Ln1ReferenceIdeal.nD Cert.Ln1ReferenceIdeal.τ Cert.Ln1ReferenceIdeal.sig) → Buf (Elt Ideal) ℓ) (g' : Dev Cert.Ln1ReferenceIdeal.nD → PrngReg), Pre_Ln1KernelIdeal_finite_ln1 m →
    (∀ c : Dev Cert.Ln1KernelIdeal.nD,
      m' ((c.tc : Thread Cert.Ln1ReferenceIdeal.nD Cert.Ln1ReferenceIdeal.τ).loc Cert.Ln1ReferenceIdeal.main_arg0) = m ((c.tc : Thread Cert.Ln1KernelIdeal.nD Cert.Ln1KernelIdeal.τ).loc Cert.Ln1KernelIdeal.main_arg0)
      ∧ m' ((c.tc : Thread Cert.Ln1ReferenceIdeal.nD Cert.Ln1ReferenceIdeal.τ).loc Cert.Ln1ReferenceIdeal.main_arg1) = m ((c.tc : Thread Cert.Ln1KernelIdeal.nD Cert.Ln1KernelIdeal.τ).loc Cert.Ln1KernelIdeal.main_arg1)
      ∧ m' ((c.tc : Thread Cert.Ln1ReferenceIdeal.nD Cert.Ln1ReferenceIdeal.τ).loc Cert.Ln1ReferenceIdeal.main_arg2) = m ((c.tc : Thread Cert.Ln1KernelIdeal.nD Cert.Ln1KernelIdeal.τ).loc Cert.Ln1KernelIdeal.main_arg2)
      ∧ m' ((c.tc : Thread Cert.Ln1ReferenceIdeal.nD Cert.Ln1ReferenceIdeal.τ).loc Cert.Ln1ReferenceIdeal.main_arg3) = m ((c.tc : Thread Cert.Ln1KernelIdeal.nD Cert.Ln1KernelIdeal.τ).loc Cert.Ln1KernelIdeal.main_arg3)
      ∧ m' ((c.tc : Thread Cert.Ln1ReferenceIdeal.nD Cert.Ln1ReferenceIdeal.τ).loc Cert.Ln1ReferenceIdeal.main_arg4) = m ((c.tc : Thread Cert.Ln1KernelIdeal.nD Cert.Ln1KernelIdeal.τ).loc Cert.Ln1KernelIdeal.main_arg4)
      ∧ m' ((c.tc : Thread Cert.Ln1ReferenceIdeal.nD Cert.Ln1ReferenceIdeal.τ).loc Cert.Ln1ReferenceIdeal.main_arg5) = m ((c.tc : Thread Cert.Ln1KernelIdeal.nD Cert.Ln1KernelIdeal.τ).loc Cert.Ln1KernelIdeal.main_arg5)) →
    ∃ (v0 : (c : Dev Cert.Ln1KernelIdeal.nD) → Buf (Elt Ideal) ((c.tc : Thread Cert.Ln1KernelIdeal.nD Cert.Ln1KernelIdeal.τ).loc Cert.Ln1KernelIdeal.main_v3_0)) (v1 : (c : Dev Cert.Ln1KernelIdeal.nD) → Buf (Elt Ideal) ((c.tc : Thread Cert.Ln1KernelIdeal.nD Cert.Ln1KernelIdeal.τ).loc Cert.Ln1KernelIdeal.main_v3_1)) (v2 : (c : Dev Cert.Ln1KernelIdeal.nD) → Buf (Elt Ideal) ((c.tc : Thread Cert.Ln1KernelIdeal.nD Cert.Ln1KernelIdeal.τ).loc Cert.Ln1KernelIdeal.main_v3_2)) (v3 : (c : Dev Cert.Ln1KernelIdeal.nD) → Buf (Elt Ideal) ((c.tc : Thread Cert.Ln1KernelIdeal.nD Cert.Ln1KernelIdeal.τ).loc Cert.Ln1KernelIdeal.main_v3_3)),
      θ_run (Cert.Ln1KernelIdeal.defs (F := Ideal)) (onTc (τ := Cert.Ln1KernelIdeal.τ) (Cert.Ln1KernelIdeal.main (F := Ideal))) ⟨m, fun _ => 0, g⟩ (fun r => ∀ c : Dev Cert.Ln1KernelIdeal.nD,
          r.2.mem ((c.tc : Thread Cert.Ln1KernelIdeal.nD Cert.Ln1KernelIdeal.τ).loc Cert.Ln1KernelIdeal.main_v3_0) = v0 c
          ∧ r.2.mem ((c.tc : Thread Cert.Ln1KernelIdeal.nD Cert.Ln1KernelIdeal.τ).loc Cert.Ln1KernelIdeal.main_v3_1) = v1 c
          ∧ r.2.mem ((c.tc : Thread Cert.Ln1KernelIdeal.nD Cert.Ln1KernelIdeal.τ).loc Cert.Ln1KernelIdeal.main_v3_2) = v2 c
          ∧ r.2.mem ((c.tc : Thread Cert.Ln1KernelIdeal.nD Cert.Ln1KernelIdeal.τ).loc Cert.Ln1KernelIdeal.main_v3_3) = v3 c
          ∧ r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
          ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
          ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
          ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
          ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
          ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ θ_run (Cert.Ln1ReferenceIdeal.defs (F := Ideal)) (onTc (τ := Cert.Ln1ReferenceIdeal.τ) (Cert.Ln1ReferenceIdeal.main (F := Ideal))) ⟨m', fun _ => 0, g'⟩ (fun r => ∀ c : Dev Cert.Ln1ReferenceIdeal.nD,
          r.2.mem ((c.tc : Thread Cert.Ln1ReferenceIdeal.nD Cert.Ln1ReferenceIdeal.τ).loc Cert.Ln1ReferenceIdeal.main_v72) = v0 c
          ∧ r.2.mem ((c.tc : Thread Cert.Ln1ReferenceIdeal.nD Cert.Ln1ReferenceIdeal.τ).loc Cert.Ln1ReferenceIdeal.main_v75) = v1 c
          ∧ r.2.mem ((c.tc : Thread Cert.Ln1ReferenceIdeal.nD Cert.Ln1ReferenceIdeal.τ).loc Cert.Ln1ReferenceIdeal.main_v74) = v2 c
          ∧ r.2.mem ((c.tc : Thread Cert.Ln1ReferenceIdeal.nD Cert.Ln1ReferenceIdeal.τ).loc Cert.Ln1ReferenceIdeal.main_v73) = v3 c
          ∧ r.2.mem ((c.tc : Thread Cert.Ln1ReferenceIdeal.nD Cert.Ln1ReferenceIdeal.τ).loc Cert.Ln1ReferenceIdeal.main_arg0) = m' ((c.tc : Thread Cert.Ln1ReferenceIdeal.nD Cert.Ln1ReferenceIdeal.τ).loc Cert.Ln1ReferenceIdeal.main_arg0)
          ∧ r.2.mem ((c.tc : Thread Cert.Ln1ReferenceIdeal.nD Cert.Ln1ReferenceIdeal.τ).loc Cert.Ln1ReferenceIdeal.main_arg1) = m' ((c.tc : Thread Cert.Ln1ReferenceIdeal.nD Cert.Ln1ReferenceIdeal.τ).loc Cert.Ln1ReferenceIdeal.main_arg1)
          ∧ r.2.mem ((c.tc : Thread Cert.Ln1ReferenceIdeal.nD Cert.Ln1ReferenceIdeal.τ).loc Cert.Ln1ReferenceIdeal.main_arg2) = m' ((c.tc : Thread Cert.Ln1ReferenceIdeal.nD Cert.Ln1ReferenceIdeal.τ).loc Cert.Ln1ReferenceIdeal.main_arg2)
          ∧ r.2.mem ((c.tc : Thread Cert.Ln1ReferenceIdeal.nD Cert.Ln1ReferenceIdeal.τ).loc Cert.Ln1ReferenceIdeal.main_arg3) = m' ((c.tc : Thread Cert.Ln1ReferenceIdeal.nD Cert.Ln1ReferenceIdeal.τ).loc Cert.Ln1ReferenceIdeal.main_arg3)
          ∧ r.2.mem ((c.tc : Thread Cert.Ln1ReferenceIdeal.nD Cert.Ln1ReferenceIdeal.τ).loc Cert.Ln1ReferenceIdeal.main_arg4) = m' ((c.tc : Thread Cert.Ln1ReferenceIdeal.nD Cert.Ln1ReferenceIdeal.τ).loc Cert.Ln1ReferenceIdeal.main_arg4)
          ∧ r.2.mem ((c.tc : Thread Cert.Ln1ReferenceIdeal.nD Cert.Ln1ReferenceIdeal.τ).loc Cert.Ln1ReferenceIdeal.main_arg5) = m' ((c.tc : Thread Cert.Ln1ReferenceIdeal.nD Cert.Ln1ReferenceIdeal.τ).loc Cert.Ln1ReferenceIdeal.main_arg5))

def preserves_Ln2Kernel_Ln2KernelIdeal : Prop :=
  True

def algebraic_Ln2KernelIdeal_Ln2ReferenceIdeal_pre_finite_ln2 [hLn2KernelIdeal : Cert.Ln2KernelIdeal.Facts] [hLn2ReferenceIdeal : Cert.Ln2ReferenceIdeal.Facts] [hPre_finite_ln2 : Cert.Pre_finite_ln2.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg)
    (m' : (ℓ : Loc Cert.Ln2ReferenceIdeal.nD Cert.Ln2ReferenceIdeal.τ Cert.Ln2ReferenceIdeal.sig) → Buf (Elt Ideal) ℓ) (g' : Dev Cert.Ln2ReferenceIdeal.nD → PrngReg), Pre_Ln2KernelIdeal_finite_ln2 m →
    (∀ c : Dev Cert.Ln2KernelIdeal.nD,
      m' ((c.tc : Thread Cert.Ln2ReferenceIdeal.nD Cert.Ln2ReferenceIdeal.τ).loc Cert.Ln2ReferenceIdeal.main_arg0) = m ((c.tc : Thread Cert.Ln2KernelIdeal.nD Cert.Ln2KernelIdeal.τ).loc Cert.Ln2KernelIdeal.main_arg0)
      ∧ m' ((c.tc : Thread Cert.Ln2ReferenceIdeal.nD Cert.Ln2ReferenceIdeal.τ).loc Cert.Ln2ReferenceIdeal.main_arg1) = m ((c.tc : Thread Cert.Ln2KernelIdeal.nD Cert.Ln2KernelIdeal.τ).loc Cert.Ln2KernelIdeal.main_arg1)
      ∧ m' ((c.tc : Thread Cert.Ln2ReferenceIdeal.nD Cert.Ln2ReferenceIdeal.τ).loc Cert.Ln2ReferenceIdeal.main_arg2) = m ((c.tc : Thread Cert.Ln2KernelIdeal.nD Cert.Ln2KernelIdeal.τ).loc Cert.Ln2KernelIdeal.main_arg2)
      ∧ m' ((c.tc : Thread Cert.Ln2ReferenceIdeal.nD Cert.Ln2ReferenceIdeal.τ).loc Cert.Ln2ReferenceIdeal.main_arg3) = m ((c.tc : Thread Cert.Ln2KernelIdeal.nD Cert.Ln2KernelIdeal.τ).loc Cert.Ln2KernelIdeal.main_arg3)
      ∧ m' ((c.tc : Thread Cert.Ln2ReferenceIdeal.nD Cert.Ln2ReferenceIdeal.τ).loc Cert.Ln2ReferenceIdeal.main_arg4) = m ((c.tc : Thread Cert.Ln2KernelIdeal.nD Cert.Ln2KernelIdeal.τ).loc Cert.Ln2KernelIdeal.main_arg4)) →
    ∃ (v0 : (c : Dev Cert.Ln2KernelIdeal.nD) → Buf (Elt Ideal) ((c.tc : Thread Cert.Ln2KernelIdeal.nD Cert.Ln2KernelIdeal.τ).loc Cert.Ln2KernelIdeal.main_v0_0)) (v1 : (c : Dev Cert.Ln2KernelIdeal.nD) → Buf (Elt Ideal) ((c.tc : Thread Cert.Ln2KernelIdeal.nD Cert.Ln2KernelIdeal.τ).loc Cert.Ln2KernelIdeal.main_v0_1)) (v2 : (c : Dev Cert.Ln2KernelIdeal.nD) → Buf (Elt Ideal) ((c.tc : Thread Cert.Ln2KernelIdeal.nD Cert.Ln2KernelIdeal.τ).loc Cert.Ln2KernelIdeal.main_v0_2)) (v3 : (c : Dev Cert.Ln2KernelIdeal.nD) → Buf (Elt Ideal) ((c.tc : Thread Cert.Ln2KernelIdeal.nD Cert.Ln2KernelIdeal.τ).loc Cert.Ln2KernelIdeal.main_v0_3)) (v4 : (c : Dev Cert.Ln2KernelIdeal.nD) → Buf (Elt Ideal) ((c.tc : Thread Cert.Ln2KernelIdeal.nD Cert.Ln2KernelIdeal.τ).loc Cert.Ln2KernelIdeal.main_v0_4)),
      θ_run (Cert.Ln2KernelIdeal.defs (F := Ideal)) (onTc (τ := Cert.Ln2KernelIdeal.τ) (Cert.Ln2KernelIdeal.main (F := Ideal))) ⟨m, fun _ => 0, g⟩ (fun r => ∀ c : Dev Cert.Ln2KernelIdeal.nD,
          r.2.mem ((c.tc : Thread Cert.Ln2KernelIdeal.nD Cert.Ln2KernelIdeal.τ).loc Cert.Ln2KernelIdeal.main_v0_0) = v0 c
          ∧ r.2.mem ((c.tc : Thread Cert.Ln2KernelIdeal.nD Cert.Ln2KernelIdeal.τ).loc Cert.Ln2KernelIdeal.main_v0_1) = v1 c
          ∧ r.2.mem ((c.tc : Thread Cert.Ln2KernelIdeal.nD Cert.Ln2KernelIdeal.τ).loc Cert.Ln2KernelIdeal.main_v0_2) = v2 c
          ∧ r.2.mem ((c.tc : Thread Cert.Ln2KernelIdeal.nD Cert.Ln2KernelIdeal.τ).loc Cert.Ln2KernelIdeal.main_v0_3) = v3 c
          ∧ r.2.mem ((c.tc : Thread Cert.Ln2KernelIdeal.nD Cert.Ln2KernelIdeal.τ).loc Cert.Ln2KernelIdeal.main_v0_4) = v4 c
          ∧ r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
          ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
          ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
          ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
          ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4))
      ∧ θ_run (Cert.Ln2ReferenceIdeal.defs (F := Ideal)) (onTc (τ := Cert.Ln2ReferenceIdeal.τ) (Cert.Ln2ReferenceIdeal.main (F := Ideal))) ⟨m', fun _ => 0, g'⟩ (fun r => ∀ c : Dev Cert.Ln2ReferenceIdeal.nD,
          r.2.mem ((c.tc : Thread Cert.Ln2ReferenceIdeal.nD Cert.Ln2ReferenceIdeal.τ).loc Cert.Ln2ReferenceIdeal.main_v81) = v0 c
          ∧ r.2.mem ((c.tc : Thread Cert.Ln2ReferenceIdeal.nD Cert.Ln2ReferenceIdeal.τ).loc Cert.Ln2ReferenceIdeal.main_v84) = v1 c
          ∧ r.2.mem ((c.tc : Thread Cert.Ln2ReferenceIdeal.nD Cert.Ln2ReferenceIdeal.τ).loc Cert.Ln2ReferenceIdeal.main_v83) = v2 c
          ∧ r.2.mem ((c.tc : Thread Cert.Ln2ReferenceIdeal.nD Cert.Ln2ReferenceIdeal.τ).loc Cert.Ln2ReferenceIdeal.main_v82) = v3 c
          ∧ r.2.mem ((c.tc : Thread Cert.Ln2ReferenceIdeal.nD Cert.Ln2ReferenceIdeal.τ).loc Cert.Ln2ReferenceIdeal.main_v85) = v4 c
          ∧ r.2.mem ((c.tc : Thread Cert.Ln2ReferenceIdeal.nD Cert.Ln2ReferenceIdeal.τ).loc Cert.Ln2ReferenceIdeal.main_arg0) = m' ((c.tc : Thread Cert.Ln2ReferenceIdeal.nD Cert.Ln2ReferenceIdeal.τ).loc Cert.Ln2ReferenceIdeal.main_arg0)
          ∧ r.2.mem ((c.tc : Thread Cert.Ln2ReferenceIdeal.nD Cert.Ln2ReferenceIdeal.τ).loc Cert.Ln2ReferenceIdeal.main_arg1) = m' ((c.tc : Thread Cert.Ln2ReferenceIdeal.nD Cert.Ln2ReferenceIdeal.τ).loc Cert.Ln2ReferenceIdeal.main_arg1)
          ∧ r.2.mem ((c.tc : Thread Cert.Ln2ReferenceIdeal.nD Cert.Ln2ReferenceIdeal.τ).loc Cert.Ln2ReferenceIdeal.main_arg2) = m' ((c.tc : Thread Cert.Ln2ReferenceIdeal.nD Cert.Ln2ReferenceIdeal.τ).loc Cert.Ln2ReferenceIdeal.main_arg2)
          ∧ r.2.mem ((c.tc : Thread Cert.Ln2ReferenceIdeal.nD Cert.Ln2ReferenceIdeal.τ).loc Cert.Ln2ReferenceIdeal.main_arg3) = m' ((c.tc : Thread Cert.Ln2ReferenceIdeal.nD Cert.Ln2ReferenceIdeal.τ).loc Cert.Ln2ReferenceIdeal.main_arg3)
          ∧ r.2.mem ((c.tc : Thread Cert.Ln2ReferenceIdeal.nD Cert.Ln2ReferenceIdeal.τ).loc Cert.Ln2ReferenceIdeal.main_arg4) = m' ((c.tc : Thread Cert.Ln2ReferenceIdeal.nD Cert.Ln2ReferenceIdeal.τ).loc Cert.Ln2ReferenceIdeal.main_arg4))

def preserves_Relu2Kernel_Relu2KernelIdeal : Prop :=
  True

def algebraic_Relu2KernelIdeal_Relu2ReferenceIdeal [hRelu2KernelIdeal : Cert.Relu2KernelIdeal.Facts] [hRelu2ReferenceIdeal : Cert.Relu2ReferenceIdeal.Facts] : Prop :=
  ∀ (m : (ℓ : Loc Cert.Relu2KernelIdeal.nD Cert.Relu2KernelIdeal.τ Cert.Relu2KernelIdeal.sig) → Buf (Elt Ideal) ℓ) (g : Dev Cert.Relu2KernelIdeal.nD → PrngReg)
    (m' : (ℓ : Loc Cert.Relu2ReferenceIdeal.nD Cert.Relu2ReferenceIdeal.τ Cert.Relu2ReferenceIdeal.sig) → Buf (Elt Ideal) ℓ) (g' : Dev Cert.Relu2ReferenceIdeal.nD → PrngReg), Pre_Relu2KernelIdeal m →
    (∀ c : Dev Cert.Relu2KernelIdeal.nD,
      m' ((c.tc : Thread Cert.Relu2ReferenceIdeal.nD Cert.Relu2ReferenceIdeal.τ).loc Cert.Relu2ReferenceIdeal.main_arg0) = m ((c.tc : Thread Cert.Relu2KernelIdeal.nD Cert.Relu2KernelIdeal.τ).loc Cert.Relu2KernelIdeal.main_arg0)
      ∧ m' ((c.tc : Thread Cert.Relu2ReferenceIdeal.nD Cert.Relu2ReferenceIdeal.τ).loc Cert.Relu2ReferenceIdeal.main_arg1) = m ((c.tc : Thread Cert.Relu2KernelIdeal.nD Cert.Relu2KernelIdeal.τ).loc Cert.Relu2KernelIdeal.main_arg1)
      ∧ m' ((c.tc : Thread Cert.Relu2ReferenceIdeal.nD Cert.Relu2ReferenceIdeal.τ).loc Cert.Relu2ReferenceIdeal.main_arg2) = m ((c.tc : Thread Cert.Relu2KernelIdeal.nD Cert.Relu2KernelIdeal.τ).loc Cert.Relu2KernelIdeal.main_arg2)
      ∧ m' ((c.tc : Thread Cert.Relu2ReferenceIdeal.nD Cert.Relu2ReferenceIdeal.τ).loc Cert.Relu2ReferenceIdeal.main_arg3) = m ((c.tc : Thread Cert.Relu2KernelIdeal.nD Cert.Relu2KernelIdeal.τ).loc Cert.Relu2KernelIdeal.main_arg3)) →
    ∃ (v0 : (c : Dev Cert.Relu2KernelIdeal.nD) → Buf (Elt Ideal) ((c.tc : Thread Cert.Relu2KernelIdeal.nD Cert.Relu2KernelIdeal.τ).loc Cert.Relu2KernelIdeal.main_v7)) (v1 : (c : Dev Cert.Relu2KernelIdeal.nD) → Buf (Elt Ideal) ((c.tc : Thread Cert.Relu2KernelIdeal.nD Cert.Relu2KernelIdeal.τ).loc Cert.Relu2KernelIdeal.main_v4_1)),
      θ_run (Cert.Relu2KernelIdeal.defs (F := Ideal)) (onTc (τ := Cert.Relu2KernelIdeal.τ) (Cert.Relu2KernelIdeal.main (F := Ideal))) ⟨m, fun _ => 0, g⟩ (fun r => ∀ c : Dev Cert.Relu2KernelIdeal.nD,
          r.2.mem ((c.tc : Thread Cert.Relu2KernelIdeal.nD Cert.Relu2KernelIdeal.τ).loc Cert.Relu2KernelIdeal.main_v7) = v0 c
          ∧ r.2.mem ((c.tc : Thread Cert.Relu2KernelIdeal.nD Cert.Relu2KernelIdeal.τ).loc Cert.Relu2KernelIdeal.main_v4_1) = v1 c
          ∧ r.2.mem ((c.tc : Thread Cert.Relu2KernelIdeal.nD Cert.Relu2KernelIdeal.τ).loc Cert.Relu2KernelIdeal.main_arg0) = m ((c.tc : Thread Cert.Relu2KernelIdeal.nD Cert.Relu2KernelIdeal.τ).loc Cert.Relu2KernelIdeal.main_arg0)
          ∧ r.2.mem ((c.tc : Thread Cert.Relu2KernelIdeal.nD Cert.Relu2KernelIdeal.τ).loc Cert.Relu2KernelIdeal.main_arg1) = m ((c.tc : Thread Cert.Relu2KernelIdeal.nD Cert.Relu2KernelIdeal.τ).loc Cert.Relu2KernelIdeal.main_arg1)
          ∧ r.2.mem ((c.tc : Thread Cert.Relu2KernelIdeal.nD Cert.Relu2KernelIdeal.τ).loc Cert.Relu2KernelIdeal.main_arg2) = m ((c.tc : Thread Cert.Relu2KernelIdeal.nD Cert.Relu2KernelIdeal.τ).loc Cert.Relu2KernelIdeal.main_arg2)
          ∧ r.2.mem ((c.tc : Thread Cert.Relu2KernelIdeal.nD Cert.Relu2KernelIdeal.τ).loc Cert.Relu2KernelIdeal.main_arg3) = m ((c.tc : Thread Cert.Relu2KernelIdeal.nD Cert.Relu2KernelIdeal.τ).loc Cert.Relu2KernelIdeal.main_arg3))
      ∧ θ_run (Cert.Relu2ReferenceIdeal.defs (F := Ideal)) (onTc (τ := Cert.Relu2ReferenceIdeal.τ) (Cert.Relu2ReferenceIdeal.main (F := Ideal))) ⟨m', fun _ => 0, g'⟩ (fun r => ∀ c : Dev Cert.Relu2ReferenceIdeal.nD,
          r.2.mem ((c.tc : Thread Cert.Relu2ReferenceIdeal.nD Cert.Relu2ReferenceIdeal.τ).loc Cert.Relu2ReferenceIdeal.main_v13) = v0 c
          ∧ r.2.mem ((c.tc : Thread Cert.Relu2ReferenceIdeal.nD Cert.Relu2ReferenceIdeal.τ).loc Cert.Relu2ReferenceIdeal.main_v16) = v1 c
          ∧ r.2.mem ((c.tc : Thread Cert.Relu2ReferenceIdeal.nD Cert.Relu2ReferenceIdeal.τ).loc Cert.Relu2ReferenceIdeal.main_arg0) = m' ((c.tc : Thread Cert.Relu2ReferenceIdeal.nD Cert.Relu2ReferenceIdeal.τ).loc Cert.Relu2ReferenceIdeal.main_arg0)
          ∧ r.2.mem ((c.tc : Thread Cert.Relu2ReferenceIdeal.nD Cert.Relu2ReferenceIdeal.τ).loc Cert.Relu2ReferenceIdeal.main_arg1) = m' ((c.tc : Thread Cert.Relu2ReferenceIdeal.nD Cert.Relu2ReferenceIdeal.τ).loc Cert.Relu2ReferenceIdeal.main_arg1)
          ∧ r.2.mem ((c.tc : Thread Cert.Relu2ReferenceIdeal.nD Cert.Relu2ReferenceIdeal.τ).loc Cert.Relu2ReferenceIdeal.main_arg2) = m' ((c.tc : Thread Cert.Relu2ReferenceIdeal.nD Cert.Relu2ReferenceIdeal.τ).loc Cert.Relu2ReferenceIdeal.main_arg2)
          ∧ r.2.mem ((c.tc : Thread Cert.Relu2ReferenceIdeal.nD Cert.Relu2ReferenceIdeal.τ).loc Cert.Relu2ReferenceIdeal.main_arg3) = m' ((c.tc : Thread Cert.Relu2ReferenceIdeal.nD Cert.Relu2ReferenceIdeal.τ).loc Cert.Relu2ReferenceIdeal.main_arg3))

def preserves_GateKernel_GateKernelIdeal : Prop :=
  True

def algebraic_GateKernelIdeal_GateReferenceIdeal_pre_finite_gate [hGateKernelIdeal : Cert.GateKernelIdeal.Facts] [hGateReferenceIdeal : Cert.GateReferenceIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gate m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v25_0)) (v1 : (c : Dev Cert.GateKernelIdeal.nD) → Buf (Elt Ideal) ((c.tc : Thread Cert.GateKernelIdeal.nD Cert.GateKernelIdeal.τ).loc Cert.GateKernelIdeal.main_v25_1)) (v2 : (c : Dev Cert.GateKernelIdeal.nD) → Buf (Elt Ideal) ((c.tc : Thread Cert.GateKernelIdeal.nD Cert.GateKernelIdeal.τ).loc Cert.GateKernelIdeal.main_v25_2)) (v3 : (c : Dev Cert.GateKernelIdeal.nD) → Buf (Elt Ideal) ((c.tc : Thread Cert.GateKernelIdeal.nD Cert.GateKernelIdeal.τ).loc Cert.GateKernelIdeal.main_v23_0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v25_0) = v0 c
          ∧ r.2.mem ((c.tc : Thread Cert.GateKernelIdeal.nD Cert.GateKernelIdeal.τ).loc Cert.GateKernelIdeal.main_v25_1) = v1 c
          ∧ r.2.mem ((c.tc : Thread Cert.GateKernelIdeal.nD Cert.GateKernelIdeal.τ).loc Cert.GateKernelIdeal.main_v25_2) = v2 c
          ∧ r.2.mem ((c.tc : Thread Cert.GateKernelIdeal.nD Cert.GateKernelIdeal.τ).loc Cert.GateKernelIdeal.main_v23_0) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v27) = v0 c
          ∧ r.2.mem ((c.tc : Thread Cert.GateReferenceIdeal.nD Cert.GateReferenceIdeal.τ).loc Cert.GateReferenceIdeal.main_v26) = v1 c
          ∧ r.2.mem ((c.tc : Thread Cert.GateReferenceIdeal.nD Cert.GateReferenceIdeal.τ).loc Cert.GateReferenceIdeal.main_v21) = v2 c
          ∧ r.2.mem ((c.tc : Thread Cert.GateReferenceIdeal.nD Cert.GateReferenceIdeal.τ).loc Cert.GateReferenceIdeal.main_v11) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_NormFwdKernel_NormFwdKernelIdeal : Prop :=
  True

def algebraic_NormFwdKernelIdeal_NormFwdReferenceIdeal [hNormFwdKernelIdeal : Cert.NormFwdKernelIdeal.Facts] [hNormFwdReferenceIdeal : Cert.NormFwdReferenceIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdKernelIdeal m →
    (∀ c : Dev Cert.NormFwdKernelIdeal.nD,
      m' ((c.tc : Thread Cert.NormFwdReferenceIdeal.nD Cert.NormFwdReferenceIdeal.τ).loc Cert.NormFwdReferenceIdeal.main_arg0) = m ((c.tc : Thread Cert.NormFwdKernelIdeal.nD Cert.NormFwdKernelIdeal.τ).loc Cert.NormFwdKernelIdeal.main_arg0)
      ∧ m' ((c.tc : Thread Cert.NormFwdReferenceIdeal.nD Cert.NormFwdReferenceIdeal.τ).loc Cert.NormFwdReferenceIdeal.main_arg1) = m ((c.tc : Thread Cert.NormFwdKernelIdeal.nD Cert.NormFwdKernelIdeal.τ).loc Cert.NormFwdKernelIdeal.main_arg1)
      ∧ m' ((c.tc : Thread Cert.NormFwdReferenceIdeal.nD Cert.NormFwdReferenceIdeal.τ).loc Cert.NormFwdReferenceIdeal.main_arg2) = m ((c.tc : Thread Cert.NormFwdKernelIdeal.nD Cert.NormFwdKernelIdeal.τ).loc Cert.NormFwdKernelIdeal.main_arg2)) →
    ∃ (v0 : (c : Dev Cert.NormFwdKernelIdeal.nD) → Buf (Elt Ideal) ((c.tc : Thread Cert.NormFwdKernelIdeal.nD Cert.NormFwdKernelIdeal.τ).loc Cert.NormFwdKernelIdeal.main_v6)),
      θ_run (Cert.NormFwdKernelIdeal.defs (F := Ideal)) (onTc (τ := Cert.NormFwdKernelIdeal.τ) (Cert.NormFwdKernelIdeal.main (F := Ideal))) ⟨m, fun _ => 0, g⟩ (fun r => ∀ c : Dev Cert.NormFwdKernelIdeal.nD,
          r.2.mem ((c.tc : Thread Cert.NormFwdKernelIdeal.nD Cert.NormFwdKernelIdeal.τ).loc Cert.NormFwdKernelIdeal.main_v6) = v0 c
          ∧ r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
          ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1)
          ∧ r.2.mem ((c.tc : Thread Cert.NormFwdKernelIdeal.nD Cert.NormFwdKernelIdeal.τ).loc Cert.NormFwdKernelIdeal.main_arg2) = m ((c.tc : Thread Cert.NormFwdKernelIdeal.nD Cert.NormFwdKernelIdeal.τ).loc Cert.NormFwdKernelIdeal.main_arg2))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v19) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v2_0)) (v1 : (c : Dev Cert.MixKernelIdeal.nD) → Buf (Elt Ideal) ((c.tc : Thread Cert.MixKernelIdeal.nD Cert.MixKernelIdeal.τ).loc Cert.MixKernelIdeal.main_v2_1)) (v2 : (c : Dev Cert.MixKernelIdeal.nD) → Buf (Elt Ideal) ((c.tc : Thread Cert.MixKernelIdeal.nD Cert.MixKernelIdeal.τ).loc Cert.MixKernelIdeal.main_v2_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2_0) = v0 c
          ∧ r.2.mem ((c.tc : Thread Cert.MixKernelIdeal.nD Cert.MixKernelIdeal.τ).loc Cert.MixKernelIdeal.main_v2_1) = v1 c
          ∧ r.2.mem ((c.tc : Thread Cert.MixKernelIdeal.nD Cert.MixKernelIdeal.τ).loc Cert.MixKernelIdeal.main_v2_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_v29) = v1 c
          ∧ r.2.mem ((c.tc : Thread Cert.MixReferenceIdeal.nD Cert.MixReferenceIdeal.τ).loc Cert.MixReferenceIdeal.main_v30) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_SwaFwdKernel_SwaFwdKernelIdeal : Prop :=
  IdealRules.named_const.Statement Cert.SwaFwdKernelIdeal.κ "mask" .f32 0xF149F2CA#32 ⊥

def algebraic_SwaFwdKernelIdeal_SwaFwdReferenceIdeal_pre_finite_swafwd [hSwaFwdKernelIdeal : Cert.SwaFwdKernelIdeal.Facts] [hSwaFwdReferenceIdeal : Cert.SwaFwdReferenceIdeal.Facts] [hPre_finite_swafwd : Cert.Pre_finite_swafwd.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg)
    (m' : (ℓ : Loc Cert.SwaFwdReferenceIdeal.nD Cert.SwaFwdReferenceIdeal.τ Cert.SwaFwdReferenceIdeal.sig) → Buf (Elt Ideal) ℓ) (g' : Dev Cert.SwaFwdReferenceIdeal.nD → PrngReg), Pre_SwaFwdKernelIdeal_finite_swafwd m →
    (∀ c : Dev Cert.SwaFwdKernelIdeal.nD,
      m' ((c.tc : Thread Cert.SwaFwdReferenceIdeal.nD Cert.SwaFwdReferenceIdeal.τ).loc Cert.SwaFwdReferenceIdeal.main_arg0) = m ((c.tc : Thread Cert.SwaFwdKernelIdeal.nD Cert.SwaFwdKernelIdeal.τ).loc Cert.SwaFwdKernelIdeal.main_arg0)
      ∧ m' ((c.tc : Thread Cert.SwaFwdReferenceIdeal.nD Cert.SwaFwdReferenceIdeal.τ).loc Cert.SwaFwdReferenceIdeal.main_arg1) = m ((c.tc : Thread Cert.SwaFwdKernelIdeal.nD Cert.SwaFwdKernelIdeal.τ).loc Cert.SwaFwdKernelIdeal.main_arg1)
      ∧ m' ((c.tc : Thread Cert.SwaFwdReferenceIdeal.nD Cert.SwaFwdReferenceIdeal.τ).loc Cert.SwaFwdReferenceIdeal.main_arg2) = m ((c.tc : Thread Cert.SwaFwdKernelIdeal.nD Cert.SwaFwdKernelIdeal.τ).loc Cert.SwaFwdKernelIdeal.main_arg2)) →
    ∃ (v0 : (c : Dev Cert.SwaFwdKernelIdeal.nD) → Buf (Elt Ideal) ((c.tc : Thread Cert.SwaFwdKernelIdeal.nD Cert.SwaFwdKernelIdeal.τ).loc Cert.SwaFwdKernelIdeal.main_v6)),
      θ_run (Cert.SwaFwdKernelIdeal.defs (F := Ideal)) (onTc (τ := Cert.SwaFwdKernelIdeal.τ) (Cert.SwaFwdKernelIdeal.main (F := Ideal))) ⟨m, fun _ => 0, g⟩ (fun r => ∀ c : Dev Cert.SwaFwdKernelIdeal.nD,
          r.2.mem ((c.tc : Thread Cert.SwaFwdKernelIdeal.nD Cert.SwaFwdKernelIdeal.τ).loc Cert.SwaFwdKernelIdeal.main_v6) = v0 c
          ∧ r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
          ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
          ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ θ_run (Cert.SwaFwdReferenceIdeal.defs (F := Ideal)) (onTc (τ := Cert.SwaFwdReferenceIdeal.τ) (Cert.SwaFwdReferenceIdeal.main (F := Ideal))) ⟨m', fun _ => 0, g'⟩ (fun r => ∀ c : Dev Cert.SwaFwdReferenceIdeal.nD,
          r.2.mem ((c.tc : Thread Cert.SwaFwdReferenceIdeal.nD Cert.SwaFwdReferenceIdeal.τ).loc Cert.SwaFwdReferenceIdeal.main_v74) = v0 c
          ∧ r.2.mem ((c.tc : Thread Cert.SwaFwdReferenceIdeal.nD Cert.SwaFwdReferenceIdeal.τ).loc Cert.SwaFwdReferenceIdeal.main_arg0) = m' ((c.tc : Thread Cert.SwaFwdReferenceIdeal.nD Cert.SwaFwdReferenceIdeal.τ).loc Cert.SwaFwdReferenceIdeal.main_arg0)
          ∧ r.2.mem ((c.tc : Thread Cert.SwaFwdReferenceIdeal.nD Cert.SwaFwdReferenceIdeal.τ).loc Cert.SwaFwdReferenceIdeal.main_arg1) = m' ((c.tc : Thread Cert.SwaFwdReferenceIdeal.nD Cert.SwaFwdReferenceIdeal.τ).loc Cert.SwaFwdReferenceIdeal.main_arg1)
          ∧ r.2.mem ((c.tc : Thread Cert.SwaFwdReferenceIdeal.nD Cert.SwaFwdReferenceIdeal.τ).loc Cert.SwaFwdReferenceIdeal.main_arg2) = m' ((c.tc : Thread Cert.SwaFwdReferenceIdeal.nD Cert.SwaFwdReferenceIdeal.τ).loc Cert.SwaFwdReferenceIdeal.main_arg2))

def preserves_GlaFwdKernel_GlaFwdKernelIdeal : Prop :=
  True

def preserves_GlaBwdKernel_GlaBwdKernelIdeal : Prop :=
  True

def preserves_MlpUpBwdKernel_MlpUpBwdKernelIdeal : Prop :=
  True

def algebraic_MlpUpBwdKernelIdeal_MlpUpBwdReferenceIdeal [hMlpUpBwdKernelIdeal : Cert.MlpUpBwdKernelIdeal.Facts] [hMlpUpBwdReferenceIdeal : Cert.MlpUpBwdReferenceIdeal.Facts] : Prop :=
  ∀ (m : (ℓ : Loc Cert.MlpUpBwdKernelIdeal.nD Cert.MlpUpBwdKernelIdeal.τ Cert.MlpUpBwdKernelIdeal.sig) → Buf (Elt Ideal) ℓ) (g : Dev Cert.MlpUpBwdKernelIdeal.nD → PrngReg)
    (m' : (ℓ : Loc Cert.MlpUpBwdReferenceIdeal.nD Cert.MlpUpBwdReferenceIdeal.τ Cert.MlpUpBwdReferenceIdeal.sig) → Buf (Elt Ideal) ℓ) (g' : Dev Cert.MlpUpBwdReferenceIdeal.nD → PrngReg), Pre_MlpUpBwdKernelIdeal m →
    (∀ c : Dev Cert.MlpUpBwdKernelIdeal.nD,
      m' ((c.tc : Thread Cert.MlpUpBwdReferenceIdeal.nD Cert.MlpUpBwdReferenceIdeal.τ).loc Cert.MlpUpBwdReferenceIdeal.main_arg0) = m ((c.tc : Thread Cert.MlpUpBwdKernelIdeal.nD Cert.MlpUpBwdKernelIdeal.τ).loc Cert.MlpUpBwdKernelIdeal.main_arg0)
      ∧ m' ((c.tc : Thread Cert.MlpUpBwdReferenceIdeal.nD Cert.MlpUpBwdReferenceIdeal.τ).loc Cert.MlpUpBwdReferenceIdeal.main_arg1) = m ((c.tc : Thread Cert.MlpUpBwdKernelIdeal.nD Cert.MlpUpBwdKernelIdeal.τ).loc Cert.MlpUpBwdKernelIdeal.main_arg1)) →
    ∃ (v0 : (c : Dev Cert.MlpUpBwdKernelIdeal.nD) → Buf (Elt Ideal) ((c.tc : Thread Cert.MlpUpBwdKernelIdeal.nD Cert.MlpUpBwdKernelIdeal.τ).loc Cert.MlpUpBwdKernelIdeal.main_v4)),
      θ_run (Cert.MlpUpBwdKernelIdeal.defs (F := Ideal)) (onTc (τ := Cert.MlpUpBwdKernelIdeal.τ) (Cert.MlpUpBwdKernelIdeal.main (F := Ideal))) ⟨m, fun _ => 0, g⟩ (fun r => ∀ c : Dev Cert.MlpUpBwdKernelIdeal.nD,
          r.2.mem ((c.tc : Thread Cert.MlpUpBwdKernelIdeal.nD Cert.MlpUpBwdKernelIdeal.τ).loc Cert.MlpUpBwdKernelIdeal.main_v4) = v0 c
          ∧ r.2.mem ((c.tc : Thread Cert.MlpUpBwdKernelIdeal.nD Cert.MlpUpBwdKernelIdeal.τ).loc Cert.MlpUpBwdKernelIdeal.main_arg0) = m ((c.tc : Thread Cert.MlpUpBwdKernelIdeal.nD Cert.MlpUpBwdKernelIdeal.τ).loc Cert.MlpUpBwdKernelIdeal.main_arg0)
          ∧ r.2.mem ((c.tc : Thread Cert.MlpUpBwdKernelIdeal.nD Cert.MlpUpBwdKernelIdeal.τ).loc Cert.MlpUpBwdKernelIdeal.main_arg1) = m ((c.tc : Thread Cert.MlpUpBwdKernelIdeal.nD Cert.MlpUpBwdKernelIdeal.τ).loc Cert.MlpUpBwdKernelIdeal.main_arg1))
      ∧ θ_run (Cert.MlpUpBwdReferenceIdeal.defs (F := Ideal)) (onTc (τ := Cert.MlpUpBwdReferenceIdeal.τ) (Cert.MlpUpBwdReferenceIdeal.main (F := Ideal))) ⟨m', fun _ => 0, g'⟩ (fun r => ∀ c : Dev Cert.MlpUpBwdReferenceIdeal.nD,
          r.2.mem ((c.tc : Thread Cert.MlpUpBwdReferenceIdeal.nD Cert.MlpUpBwdReferenceIdeal.τ).loc Cert.MlpUpBwdReferenceIdeal.main_v2) = v0 c
          ∧ r.2.mem ((c.tc : Thread Cert.MlpUpBwdReferenceIdeal.nD Cert.MlpUpBwdReferenceIdeal.τ).loc Cert.MlpUpBwdReferenceIdeal.main_arg0) = m' ((c.tc : Thread Cert.MlpUpBwdReferenceIdeal.nD Cert.MlpUpBwdReferenceIdeal.τ).loc Cert.MlpUpBwdReferenceIdeal.main_arg0)
          ∧ r.2.mem ((c.tc : Thread Cert.MlpUpBwdReferenceIdeal.nD Cert.MlpUpBwdReferenceIdeal.τ).loc Cert.MlpUpBwdReferenceIdeal.main_arg1) = m' ((c.tc : Thread Cert.MlpUpBwdReferenceIdeal.nD Cert.MlpUpBwdReferenceIdeal.τ).loc Cert.MlpUpBwdReferenceIdeal.main_arg1))

def preserves_GradWDownKernel_GradWDownKernelIdeal : Prop :=
  True

def algebraic_GradWDownKernelIdeal_GradWDownReferenceIdeal [hGradWDownKernelIdeal : Cert.GradWDownKernelIdeal.Facts] [hGradWDownReferenceIdeal : Cert.GradWDownReferenceIdeal.Facts] : Prop :=
  ∀ (m : (ℓ : Loc Cert.GradWDownKernelIdeal.nD Cert.GradWDownKernelIdeal.τ Cert.GradWDownKernelIdeal.sig) → Buf (Elt Ideal) ℓ) (g : Dev Cert.GradWDownKernelIdeal.nD → PrngReg)
    (m' : (ℓ : Loc Cert.GradWDownReferenceIdeal.nD Cert.GradWDownReferenceIdeal.τ Cert.GradWDownReferenceIdeal.sig) → Buf (Elt Ideal) ℓ) (g' : Dev Cert.GradWDownReferenceIdeal.nD → PrngReg), Pre_GradWDownKernelIdeal m →
    (∀ c : Dev Cert.GradWDownKernelIdeal.nD,
      m' ((c.tc : Thread Cert.GradWDownReferenceIdeal.nD Cert.GradWDownReferenceIdeal.τ).loc Cert.GradWDownReferenceIdeal.main_arg0) = m ((c.tc : Thread Cert.GradWDownKernelIdeal.nD Cert.GradWDownKernelIdeal.τ).loc Cert.GradWDownKernelIdeal.main_arg0)
      ∧ m' ((c.tc : Thread Cert.GradWDownReferenceIdeal.nD Cert.GradWDownReferenceIdeal.τ).loc Cert.GradWDownReferenceIdeal.main_arg1) = m ((c.tc : Thread Cert.GradWDownKernelIdeal.nD Cert.GradWDownKernelIdeal.τ).loc Cert.GradWDownKernelIdeal.main_arg1)) →
    ∃ (v0 : (c : Dev Cert.GradWDownKernelIdeal.nD) → Buf (Elt Ideal) ((c.tc : Thread Cert.GradWDownKernelIdeal.nD Cert.GradWDownKernelIdeal.τ).loc Cert.GradWDownKernelIdeal.main_v2)),
      θ_run (Cert.GradWDownKernelIdeal.defs (F := Ideal)) (onTc (τ := Cert.GradWDownKernelIdeal.τ) (Cert.GradWDownKernelIdeal.main (F := Ideal))) ⟨m, fun _ => 0, g⟩ (fun r => ∀ c : Dev Cert.GradWDownKernelIdeal.nD,
          r.2.mem ((c.tc : Thread Cert.GradWDownKernelIdeal.nD Cert.GradWDownKernelIdeal.τ).loc Cert.GradWDownKernelIdeal.main_v2) = v0 c
          ∧ r.2.mem ((c.tc : Thread Cert.GradWDownKernelIdeal.nD Cert.GradWDownKernelIdeal.τ).loc Cert.GradWDownKernelIdeal.main_arg0) = m ((c.tc : Thread Cert.GradWDownKernelIdeal.nD Cert.GradWDownKernelIdeal.τ).loc Cert.GradWDownKernelIdeal.main_arg0)
          ∧ r.2.mem ((c.tc : Thread Cert.GradWDownKernelIdeal.nD Cert.GradWDownKernelIdeal.τ).loc Cert.GradWDownKernelIdeal.main_arg1) = m ((c.tc : Thread Cert.GradWDownKernelIdeal.nD Cert.GradWDownKernelIdeal.τ).loc Cert.GradWDownKernelIdeal.main_arg1))
      ∧ θ_run (Cert.GradWDownReferenceIdeal.defs (F := Ideal)) (onTc (τ := Cert.GradWDownReferenceIdeal.τ) (Cert.GradWDownReferenceIdeal.main (F := Ideal))) ⟨m', fun _ => 0, g'⟩ (fun r => ∀ c : Dev Cert.GradWDownReferenceIdeal.nD,
          r.2.mem ((c.tc : Thread Cert.GradWDownReferenceIdeal.nD Cert.GradWDownReferenceIdeal.τ).loc Cert.GradWDownReferenceIdeal.main_v5) = v0 c
          ∧ r.2.mem ((c.tc : Thread Cert.GradWDownReferenceIdeal.nD Cert.GradWDownReferenceIdeal.τ).loc Cert.GradWDownReferenceIdeal.main_arg0) = m' ((c.tc : Thread Cert.GradWDownReferenceIdeal.nD Cert.GradWDownReferenceIdeal.τ).loc Cert.GradWDownReferenceIdeal.main_arg0)
          ∧ r.2.mem ((c.tc : Thread Cert.GradWDownReferenceIdeal.nD Cert.GradWDownReferenceIdeal.τ).loc Cert.GradWDownReferenceIdeal.main_arg1) = m' ((c.tc : Thread Cert.GradWDownReferenceIdeal.nD Cert.GradWDownReferenceIdeal.τ).loc Cert.GradWDownReferenceIdeal.main_arg1))

def preserves_GradXKernel_GradXKernelIdeal : Prop :=
  True

def algebraic_GradXKernelIdeal_GradXReferenceIdeal [hGradXKernelIdeal : Cert.GradXKernelIdeal.Facts] [hGradXReferenceIdeal : Cert.GradXReferenceIdeal.Facts] : Prop :=
  ∀ (m : (ℓ : Loc Cert.GradXKernelIdeal.nD Cert.GradXKernelIdeal.τ Cert.GradXKernelIdeal.sig) → Buf (Elt Ideal) ℓ) (g : Dev Cert.GradXKernelIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXKernelIdeal m →
    (∀ c : Dev Cert.GradXKernelIdeal.nD,
      m' ((c.tc : Thread Cert.GradXReferenceIdeal.nD Cert.GradXReferenceIdeal.τ).loc Cert.GradXReferenceIdeal.main_arg0) = m ((c.tc : Thread Cert.GradXKernelIdeal.nD Cert.GradXKernelIdeal.τ).loc Cert.GradXKernelIdeal.main_arg0)
      ∧ m' ((c.tc : Thread Cert.GradXReferenceIdeal.nD Cert.GradXReferenceIdeal.τ).loc Cert.GradXReferenceIdeal.main_arg1) = m ((c.tc : Thread Cert.GradXKernelIdeal.nD Cert.GradXKernelIdeal.τ).loc Cert.GradXKernelIdeal.main_arg1)
      ∧ m' ((c.tc : Thread Cert.GradXReferenceIdeal.nD Cert.GradXReferenceIdeal.τ).loc Cert.GradXReferenceIdeal.main_arg2) = m ((c.tc : Thread Cert.GradXKernelIdeal.nD Cert.GradXKernelIdeal.τ).loc Cert.GradXKernelIdeal.main_arg2)) →
    ∃ (v0 : (c : Dev Cert.GradXKernelIdeal.nD) → Buf (Elt Ideal) ((c.tc : Thread Cert.GradXKernelIdeal.nD Cert.GradXKernelIdeal.τ).loc Cert.GradXKernelIdeal.main_v7)),
      θ_run (Cert.GradXKernelIdeal.defs (F := Ideal)) (onTc (τ := Cert.GradXKernelIdeal.τ) (Cert.GradXKernelIdeal.main (F := Ideal))) ⟨m, fun _ => 0, g⟩ (fun r => ∀ c : Dev Cert.GradXKernelIdeal.nD,
          r.2.mem ((c.tc : Thread Cert.GradXKernelIdeal.nD Cert.GradXKernelIdeal.τ).loc Cert.GradXKernelIdeal.main_v7) = v0 c
          ∧ r.2.mem ((c.tc : Thread Cert.GradXKernelIdeal.nD Cert.GradXKernelIdeal.τ).loc Cert.GradXKernelIdeal.main_arg0) = m ((c.tc : Thread Cert.GradXKernelIdeal.nD Cert.GradXKernelIdeal.τ).loc Cert.GradXKernelIdeal.main_arg0)
          ∧ r.2.mem ((c.tc : Thread Cert.GradXKernelIdeal.nD Cert.GradXKernelIdeal.τ).loc Cert.GradXKernelIdeal.main_arg1) = m ((c.tc : Thread Cert.GradXKernelIdeal.nD Cert.GradXKernelIdeal.τ).loc Cert.GradXKernelIdeal.main_arg1)
          ∧ r.2.mem ((c.tc : Thread Cert.GradXKernelIdeal.nD Cert.GradXKernelIdeal.τ).loc Cert.GradXKernelIdeal.main_arg2) = m ((c.tc : Thread Cert.GradXKernelIdeal.nD Cert.GradXKernelIdeal.τ).loc Cert.GradXKernelIdeal.main_arg2))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v7) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_DcatKernel_DcatKernelIdeal : Prop :=
  True

def algebraic_DcatKernelIdeal_DcatReferenceIdeal [hDcatKernelIdeal : Cert.DcatKernelIdeal.Facts] [hDcatReferenceIdeal : Cert.DcatReferenceIdeal.Facts] : Prop :=
  ∀ (m : (ℓ : Loc Cert.DcatKernelIdeal.nD Cert.DcatKernelIdeal.τ Cert.DcatKernelIdeal.sig) → Buf (Elt Ideal) ℓ) (g : Dev Cert.DcatKernelIdeal.nD → PrngReg)
    (m' : (ℓ : Loc Cert.DcatReferenceIdeal.nD Cert.DcatReferenceIdeal.τ Cert.DcatReferenceIdeal.sig) → Buf (Elt Ideal) ℓ) (g' : Dev Cert.DcatReferenceIdeal.nD → PrngReg), Pre_DcatKernelIdeal m →
    (∀ c : Dev Cert.DcatKernelIdeal.nD,
      m' ((c.tc : Thread Cert.DcatReferenceIdeal.nD Cert.DcatReferenceIdeal.τ).loc Cert.DcatReferenceIdeal.main_arg0) = m ((c.tc : Thread Cert.DcatKernelIdeal.nD Cert.DcatKernelIdeal.τ).loc Cert.DcatKernelIdeal.main_arg0)
      ∧ m' ((c.tc : Thread Cert.DcatReferenceIdeal.nD Cert.DcatReferenceIdeal.τ).loc Cert.DcatReferenceIdeal.main_arg1) = m ((c.tc : Thread Cert.DcatKernelIdeal.nD Cert.DcatKernelIdeal.τ).loc Cert.DcatKernelIdeal.main_arg1)) →
    ∃ (v0 : (c : Dev Cert.DcatKernelIdeal.nD) → Buf (Elt Ideal) ((c.tc : Thread Cert.DcatKernelIdeal.nD Cert.DcatKernelIdeal.τ).loc Cert.DcatKernelIdeal.main_v2)),
      θ_run (Cert.DcatKernelIdeal.defs (F := Ideal)) (onTc (τ := Cert.DcatKernelIdeal.τ) (Cert.DcatKernelIdeal.main (F := Ideal))) ⟨m, fun _ => 0, g⟩ (fun r => ∀ c : Dev Cert.DcatKernelIdeal.nD,
          r.2.mem ((c.tc : Thread Cert.DcatKernelIdeal.nD Cert.DcatKernelIdeal.τ).loc Cert.DcatKernelIdeal.main_v2) = v0 c
          ∧ r.2.mem ((c.tc : Thread Cert.DcatKernelIdeal.nD Cert.DcatKernelIdeal.τ).loc Cert.DcatKernelIdeal.main_arg0) = m ((c.tc : Thread Cert.DcatKernelIdeal.nD Cert.DcatKernelIdeal.τ).loc Cert.DcatKernelIdeal.main_arg0)
          ∧ r.2.mem ((c.tc : Thread Cert.DcatKernelIdeal.nD Cert.DcatKernelIdeal.τ).loc Cert.DcatKernelIdeal.main_arg1) = m ((c.tc : Thread Cert.DcatKernelIdeal.nD Cert.DcatKernelIdeal.τ).loc Cert.DcatKernelIdeal.main_arg1))
      ∧ θ_run (Cert.DcatReferenceIdeal.defs (F := Ideal)) (onTc (τ := Cert.DcatReferenceIdeal.τ) (Cert.DcatReferenceIdeal.main (F := Ideal))) ⟨m', fun _ => 0, g'⟩ (fun r => ∀ c : Dev Cert.DcatReferenceIdeal.nD,
          r.2.mem ((c.tc : Thread Cert.DcatReferenceIdeal.nD Cert.DcatReferenceIdeal.τ).loc Cert.DcatReferenceIdeal.main_v2) = v0 c
          ∧ r.2.mem ((c.tc : Thread Cert.DcatReferenceIdeal.nD Cert.DcatReferenceIdeal.τ).loc Cert.DcatReferenceIdeal.main_arg0) = m' ((c.tc : Thread Cert.DcatReferenceIdeal.nD Cert.DcatReferenceIdeal.τ).loc Cert.DcatReferenceIdeal.main_arg0)
          ∧ r.2.mem ((c.tc : Thread Cert.DcatReferenceIdeal.nD Cert.DcatReferenceIdeal.τ).loc Cert.DcatReferenceIdeal.main_arg1) = m' ((c.tc : Thread Cert.DcatReferenceIdeal.nD Cert.DcatReferenceIdeal.τ).loc Cert.DcatReferenceIdeal.main_arg1))

def preserves_GradWUpKernel_GradWUpKernelIdeal : Prop :=
  True

def algebraic_GradWUpKernelIdeal_GradWUpReferenceIdeal [hGradWUpKernelIdeal : Cert.GradWUpKernelIdeal.Facts] [hGradWUpReferenceIdeal : Cert.GradWUpReferenceIdeal.Facts] : Prop :=
  ∀ (m : (ℓ : Loc Cert.GradWUpKernelIdeal.nD Cert.GradWUpKernelIdeal.τ Cert.GradWUpKernelIdeal.sig) → Buf (Elt Ideal) ℓ) (g : Dev Cert.GradWUpKernelIdeal.nD → PrngReg)
    (m' : (ℓ : Loc Cert.GradWUpReferenceIdeal.nD Cert.GradWUpReferenceIdeal.τ Cert.GradWUpReferenceIdeal.sig) → Buf (Elt Ideal) ℓ) (g' : Dev Cert.GradWUpReferenceIdeal.nD → PrngReg), Pre_GradWUpKernelIdeal m →
    (∀ c : Dev Cert.GradWUpKernelIdeal.nD,
      m' ((c.tc : Thread Cert.GradWUpReferenceIdeal.nD Cert.GradWUpReferenceIdeal.τ).loc Cert.GradWUpReferenceIdeal.main_arg0) = m ((c.tc : Thread Cert.GradWUpKernelIdeal.nD Cert.GradWUpKernelIdeal.τ).loc Cert.GradWUpKernelIdeal.main_arg0)
      ∧ m' ((c.tc : Thread Cert.GradWUpReferenceIdeal.nD Cert.GradWUpReferenceIdeal.τ).loc Cert.GradWUpReferenceIdeal.main_arg1) = m ((c.tc : Thread Cert.GradWUpKernelIdeal.nD Cert.GradWUpKernelIdeal.τ).loc Cert.GradWUpKernelIdeal.main_arg1)) →
    ∃ (v0 : (c : Dev Cert.GradWUpKernelIdeal.nD) → Buf (Elt Ideal) ((c.tc : Thread Cert.GradWUpKernelIdeal.nD Cert.GradWUpKernelIdeal.τ).loc Cert.GradWUpKernelIdeal.main_v2)),
      θ_run (Cert.GradWUpKernelIdeal.defs (F := Ideal)) (onTc (τ := Cert.GradWUpKernelIdeal.τ) (Cert.GradWUpKernelIdeal.main (F := Ideal))) ⟨m, fun _ => 0, g⟩ (fun r => ∀ c : Dev Cert.GradWUpKernelIdeal.nD,
          r.2.mem ((c.tc : Thread Cert.GradWUpKernelIdeal.nD Cert.GradWUpKernelIdeal.τ).loc Cert.GradWUpKernelIdeal.main_v2) = v0 c
          ∧ r.2.mem ((c.tc : Thread Cert.GradWUpKernelIdeal.nD Cert.GradWUpKernelIdeal.τ).loc Cert.GradWUpKernelIdeal.main_arg0) = m ((c.tc : Thread Cert.GradWUpKernelIdeal.nD Cert.GradWUpKernelIdeal.τ).loc Cert.GradWUpKernelIdeal.main_arg0)
          ∧ r.2.mem ((c.tc : Thread Cert.GradWUpKernelIdeal.nD Cert.GradWUpKernelIdeal.τ).loc Cert.GradWUpKernelIdeal.main_arg1) = m ((c.tc : Thread Cert.GradWUpKernelIdeal.nD Cert.GradWUpKernelIdeal.τ).loc Cert.GradWUpKernelIdeal.main_arg1))
      ∧ θ_run (Cert.GradWUpReferenceIdeal.defs (F := Ideal)) (onTc (τ := Cert.GradWUpReferenceIdeal.τ) (Cert.GradWUpReferenceIdeal.main (F := Ideal))) ⟨m', fun _ => 0, g'⟩ (fun r => ∀ c : Dev Cert.GradWUpReferenceIdeal.nD,
          r.2.mem ((c.tc : Thread Cert.GradWUpReferenceIdeal.nD Cert.GradWUpReferenceIdeal.τ).loc Cert.GradWUpReferenceIdeal.main_v5) = v0 c
          ∧ r.2.mem ((c.tc : Thread Cert.GradWUpReferenceIdeal.nD Cert.GradWUpReferenceIdeal.τ).loc Cert.GradWUpReferenceIdeal.main_arg0) = m' ((c.tc : Thread Cert.GradWUpReferenceIdeal.nD Cert.GradWUpReferenceIdeal.τ).loc Cert.GradWUpReferenceIdeal.main_arg0)
          ∧ r.2.mem ((c.tc : Thread Cert.GradWUpReferenceIdeal.nD Cert.GradWUpReferenceIdeal.τ).loc Cert.GradWUpReferenceIdeal.main_arg1) = m' ((c.tc : Thread Cert.GradWUpReferenceIdeal.nD Cert.GradWUpReferenceIdeal.τ).loc Cert.GradWUpReferenceIdeal.main_arg1))

def preserves_GradWOutKernel_GradWOutKernelIdeal : Prop :=
  True

def algebraic_GradWOutKernelIdeal_GradWOutReferenceIdeal [hGradWOutKernelIdeal : Cert.GradWOutKernelIdeal.Facts] [hGradWOutReferenceIdeal : Cert.GradWOutReferenceIdeal.Facts] : Prop :=
  ∀ (m : (ℓ : Loc Cert.GradWOutKernelIdeal.nD Cert.GradWOutKernelIdeal.τ Cert.GradWOutKernelIdeal.sig) → Buf (Elt Ideal) ℓ) (g : Dev Cert.GradWOutKernelIdeal.nD → PrngReg)
    (m' : (ℓ : Loc Cert.GradWOutReferenceIdeal.nD Cert.GradWOutReferenceIdeal.τ Cert.GradWOutReferenceIdeal.sig) → Buf (Elt Ideal) ℓ) (g' : Dev Cert.GradWOutReferenceIdeal.nD → PrngReg), Pre_GradWOutKernelIdeal m →
    (∀ c : Dev Cert.GradWOutKernelIdeal.nD,
      m' ((c.tc : Thread Cert.GradWOutReferenceIdeal.nD Cert.GradWOutReferenceIdeal.τ).loc Cert.GradWOutReferenceIdeal.main_arg0) = m ((c.tc : Thread Cert.GradWOutKernelIdeal.nD Cert.GradWOutKernelIdeal.τ).loc Cert.GradWOutKernelIdeal.main_arg0)
      ∧ m' ((c.tc : Thread Cert.GradWOutReferenceIdeal.nD Cert.GradWOutReferenceIdeal.τ).loc Cert.GradWOutReferenceIdeal.main_arg1) = m ((c.tc : Thread Cert.GradWOutKernelIdeal.nD Cert.GradWOutKernelIdeal.τ).loc Cert.GradWOutKernelIdeal.main_arg1)) →
    ∃ (v0 : (c : Dev Cert.GradWOutKernelIdeal.nD) → Buf (Elt Ideal) ((c.tc : Thread Cert.GradWOutKernelIdeal.nD Cert.GradWOutKernelIdeal.τ).loc Cert.GradWOutKernelIdeal.main_v2)),
      θ_run (Cert.GradWOutKernelIdeal.defs (F := Ideal)) (onTc (τ := Cert.GradWOutKernelIdeal.τ) (Cert.GradWOutKernelIdeal.main (F := Ideal))) ⟨m, fun _ => 0, g⟩ (fun r => ∀ c : Dev Cert.GradWOutKernelIdeal.nD,
          r.2.mem ((c.tc : Thread Cert.GradWOutKernelIdeal.nD Cert.GradWOutKernelIdeal.τ).loc Cert.GradWOutKernelIdeal.main_v2) = v0 c
          ∧ r.2.mem ((c.tc : Thread Cert.GradWOutKernelIdeal.nD Cert.GradWOutKernelIdeal.τ).loc Cert.GradWOutKernelIdeal.main_arg0) = m ((c.tc : Thread Cert.GradWOutKernelIdeal.nD Cert.GradWOutKernelIdeal.τ).loc Cert.GradWOutKernelIdeal.main_arg0)
          ∧ r.2.mem ((c.tc : Thread Cert.GradWOutKernelIdeal.nD Cert.GradWOutKernelIdeal.τ).loc Cert.GradWOutKernelIdeal.main_arg1) = m ((c.tc : Thread Cert.GradWOutKernelIdeal.nD Cert.GradWOutKernelIdeal.τ).loc Cert.GradWOutKernelIdeal.main_arg1))
      ∧ θ_run (Cert.GradWOutReferenceIdeal.defs (F := Ideal)) (onTc (τ := Cert.GradWOutReferenceIdeal.τ) (Cert.GradWOutReferenceIdeal.main (F := Ideal))) ⟨m', fun _ => 0, g'⟩ (fun r => ∀ c : Dev Cert.GradWOutReferenceIdeal.nD,
          r.2.mem ((c.tc : Thread Cert.GradWOutReferenceIdeal.nD Cert.GradWOutReferenceIdeal.τ).loc Cert.GradWOutReferenceIdeal.main_v5) = v0 c
          ∧ r.2.mem ((c.tc : Thread Cert.GradWOutReferenceIdeal.nD Cert.GradWOutReferenceIdeal.τ).loc Cert.GradWOutReferenceIdeal.main_arg0) = m' ((c.tc : Thread Cert.GradWOutReferenceIdeal.nD Cert.GradWOutReferenceIdeal.τ).loc Cert.GradWOutReferenceIdeal.main_arg0)
          ∧ r.2.mem ((c.tc : Thread Cert.GradWOutReferenceIdeal.nD Cert.GradWOutReferenceIdeal.τ).loc Cert.GradWOutReferenceIdeal.main_arg1) = m' ((c.tc : Thread Cert.GradWOutReferenceIdeal.nD Cert.GradWOutReferenceIdeal.τ).loc Cert.GradWOutReferenceIdeal.main_arg1))

def preserves_MlpDownKernel_MlpDownKernelIdeal : Prop :=
  True

def algebraic_MlpDownKernelIdeal_MlpDownReferenceIdeal [hMlpDownKernelIdeal : Cert.MlpDownKernelIdeal.Facts] [hMlpDownReferenceIdeal : Cert.MlpDownReferenceIdeal.Facts] : Prop :=
  ∀ (m : (ℓ : Loc Cert.MlpDownKernelIdeal.nD Cert.MlpDownKernelIdeal.τ Cert.MlpDownKernelIdeal.sig) → Buf (Elt Ideal) ℓ) (g : Dev Cert.MlpDownKernelIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownKernelIdeal m →
    (∀ c : Dev Cert.MlpDownKernelIdeal.nD,
      m' ((c.tc : Thread Cert.MlpDownReferenceIdeal.nD Cert.MlpDownReferenceIdeal.τ).loc Cert.MlpDownReferenceIdeal.main_arg0) = m ((c.tc : Thread Cert.MlpDownKernelIdeal.nD Cert.MlpDownKernelIdeal.τ).loc Cert.MlpDownKernelIdeal.main_arg0)
      ∧ m' ((c.tc : Thread Cert.MlpDownReferenceIdeal.nD Cert.MlpDownReferenceIdeal.τ).loc Cert.MlpDownReferenceIdeal.main_arg1) = m ((c.tc : Thread Cert.MlpDownKernelIdeal.nD Cert.MlpDownKernelIdeal.τ).loc Cert.MlpDownKernelIdeal.main_arg1)) →
    ∃ (v0 : (c : Dev Cert.MlpDownKernelIdeal.nD) → Buf (Elt Ideal) ((c.tc : Thread Cert.MlpDownKernelIdeal.nD Cert.MlpDownKernelIdeal.τ).loc Cert.MlpDownKernelIdeal.main_v2)),
      θ_run (Cert.MlpDownKernelIdeal.defs (F := Ideal)) (onTc (τ := Cert.MlpDownKernelIdeal.τ) (Cert.MlpDownKernelIdeal.main (F := Ideal))) ⟨m, fun _ => 0, g⟩ (fun r => ∀ c : Dev Cert.MlpDownKernelIdeal.nD,
          r.2.mem ((c.tc : Thread Cert.MlpDownKernelIdeal.nD Cert.MlpDownKernelIdeal.τ).loc Cert.MlpDownKernelIdeal.main_v2) = v0 c
          ∧ r.2.mem ((c.tc : Thread Cert.MlpDownKernelIdeal.nD Cert.MlpDownKernelIdeal.τ).loc Cert.MlpDownKernelIdeal.main_arg0) = m ((c.tc : Thread Cert.MlpDownKernelIdeal.nD Cert.MlpDownKernelIdeal.τ).loc Cert.MlpDownKernelIdeal.main_arg0)
          ∧ r.2.mem ((c.tc : Thread Cert.MlpDownKernelIdeal.nD Cert.MlpDownKernelIdeal.τ).loc Cert.MlpDownKernelIdeal.main_arg1) = m ((c.tc : Thread Cert.MlpDownKernelIdeal.nD Cert.MlpDownKernelIdeal.τ).loc Cert.MlpDownKernelIdeal.main_arg1))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v0) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v8)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_GradWInKernel_GradWInKernelIdeal : Prop :=
  True

def algebraic_GradWInKernelIdeal_GradWInReferenceIdeal [hGradWInKernelIdeal : Cert.GradWInKernelIdeal.Facts] [hGradWInReferenceIdeal : Cert.GradWInReferenceIdeal.Facts] : Prop :=
  ∀ (m : (ℓ : Loc Cert.GradWInKernelIdeal.nD Cert.GradWInKernelIdeal.τ Cert.GradWInKernelIdeal.sig) → Buf (Elt Ideal) ℓ) (g : Dev Cert.GradWInKernelIdeal.nD → PrngReg)
    (m' : (ℓ : Loc Cert.GradWInReferenceIdeal.nD Cert.GradWInReferenceIdeal.τ Cert.GradWInReferenceIdeal.sig) → Buf (Elt Ideal) ℓ) (g' : Dev Cert.GradWInReferenceIdeal.nD → PrngReg), Pre_GradWInKernelIdeal m →
    (∀ c : Dev Cert.GradWInKernelIdeal.nD,
      m' ((c.tc : Thread Cert.GradWInReferenceIdeal.nD Cert.GradWInReferenceIdeal.τ).loc Cert.GradWInReferenceIdeal.main_arg0) = m ((c.tc : Thread Cert.GradWInKernelIdeal.nD Cert.GradWInKernelIdeal.τ).loc Cert.GradWInKernelIdeal.main_arg0)
      ∧ m' ((c.tc : Thread Cert.GradWInReferenceIdeal.nD Cert.GradWInReferenceIdeal.τ).loc Cert.GradWInReferenceIdeal.main_arg1) = m ((c.tc : Thread Cert.GradWInKernelIdeal.nD Cert.GradWInKernelIdeal.τ).loc Cert.GradWInKernelIdeal.main_arg1)) →
    ∃ (v0 : (c : Dev Cert.GradWInKernelIdeal.nD) → Buf (Elt Ideal) ((c.tc : Thread Cert.GradWInKernelIdeal.nD Cert.GradWInKernelIdeal.τ).loc Cert.GradWInKernelIdeal.main_v4)),
      θ_run (Cert.GradWInKernelIdeal.defs (F := Ideal)) (onTc (τ := Cert.GradWInKernelIdeal.τ) (Cert.GradWInKernelIdeal.main (F := Ideal))) ⟨m, fun _ => 0, g⟩ (fun r => ∀ c : Dev Cert.GradWInKernelIdeal.nD,
          r.2.mem ((c.tc : Thread Cert.GradWInKernelIdeal.nD Cert.GradWInKernelIdeal.τ).loc Cert.GradWInKernelIdeal.main_v4) = v0 c
          ∧ r.2.mem ((c.tc : Thread Cert.GradWInKernelIdeal.nD Cert.GradWInKernelIdeal.τ).loc Cert.GradWInKernelIdeal.main_arg0) = m ((c.tc : Thread Cert.GradWInKernelIdeal.nD Cert.GradWInKernelIdeal.τ).loc Cert.GradWInKernelIdeal.main_arg0)
          ∧ r.2.mem ((c.tc : Thread Cert.GradWInKernelIdeal.nD Cert.GradWInKernelIdeal.τ).loc Cert.GradWInKernelIdeal.main_arg1) = m ((c.tc : Thread Cert.GradWInKernelIdeal.nD Cert.GradWInKernelIdeal.τ).loc Cert.GradWInKernelIdeal.main_arg1))
      ∧ θ_run (Cert.GradWInReferenceIdeal.defs (F := Ideal)) (onTc (τ := Cert.GradWInReferenceIdeal.τ) (Cert.GradWInReferenceIdeal.main (F := Ideal))) ⟨m', fun _ => 0, g'⟩ (fun r => ∀ c : Dev Cert.GradWInReferenceIdeal.nD,
          r.2.mem ((c.tc : Thread Cert.GradWInReferenceIdeal.nD Cert.GradWInReferenceIdeal.τ).loc Cert.GradWInReferenceIdeal.main_v2) = v0 c
          ∧ r.2.mem ((c.tc : Thread Cert.GradWInReferenceIdeal.nD Cert.GradWInReferenceIdeal.τ).loc Cert.GradWInReferenceIdeal.main_arg0) = m' ((c.tc : Thread Cert.GradWInReferenceIdeal.nD Cert.GradWInReferenceIdeal.τ).loc Cert.GradWInReferenceIdeal.main_arg0)
          ∧ r.2.mem ((c.tc : Thread Cert.GradWInReferenceIdeal.nD Cert.GradWInReferenceIdeal.τ).loc Cert.GradWInReferenceIdeal.main_arg1) = m' ((c.tc : Thread Cert.GradWInReferenceIdeal.nD Cert.GradWInReferenceIdeal.τ).loc Cert.GradWInReferenceIdeal.main_arg1))

def Claim : Prop :=
  ∃ (hNormKernel : Cert.NormKernel.Facts) (hNormKernelIdeal : Cert.NormKernelIdeal.Facts) (hNormReferenceIdeal : Cert.NormReferenceIdeal.Facts) (hSwaKernel : Cert.SwaKernel.Facts) (hSwaKernelIdeal : Cert.SwaKernelIdeal.Facts) (hSwaReferenceIdeal : Cert.SwaReferenceIdeal.Facts) (hLn1Kernel : Cert.Ln1Kernel.Facts) (hLn1KernelIdeal : Cert.Ln1KernelIdeal.Facts) (hLn1ReferenceIdeal : Cert.Ln1ReferenceIdeal.Facts) (hLn2Kernel : Cert.Ln2Kernel.Facts) (hLn2KernelIdeal : Cert.Ln2KernelIdeal.Facts) (hLn2ReferenceIdeal : Cert.Ln2ReferenceIdeal.Facts) (hRelu2Kernel : Cert.Relu2Kernel.Facts) (hRelu2KernelIdeal : Cert.Relu2KernelIdeal.Facts) (hRelu2ReferenceIdeal : Cert.Relu2ReferenceIdeal.Facts) (hGateKernel : Cert.GateKernel.Facts) (hGateKernelIdeal : Cert.GateKernelIdeal.Facts) (hGateReferenceIdeal : Cert.GateReferenceIdeal.Facts) (hNormFwdKernel : Cert.NormFwdKernel.Facts) (hNormFwdKernelIdeal : Cert.NormFwdKernelIdeal.Facts) (hNormFwdReferenceIdeal : Cert.NormFwdReferenceIdeal.Facts) (hMixKernel : Cert.MixKernel.Facts) (hMixKernelIdeal : Cert.MixKernelIdeal.Facts) (hMixReferenceIdeal : Cert.MixReferenceIdeal.Facts) (hSwaFwdKernel : Cert.SwaFwdKernel.Facts) (hSwaFwdKernelIdeal : Cert.SwaFwdKernelIdeal.Facts) (hSwaFwdReferenceIdeal : Cert.SwaFwdReferenceIdeal.Facts) (hGlaFwdKernel : Cert.GlaFwdKernel.Facts) (hGlaFwdKernelIdeal : Cert.GlaFwdKernelIdeal.Facts) (hGlaBwdKernel : Cert.GlaBwdKernel.Facts) (hGlaBwdKernelIdeal : Cert.GlaBwdKernelIdeal.Facts) (hMlpUpBwdKernel : Cert.MlpUpBwdKernel.Facts) (hMlpUpBwdKernelIdeal : Cert.MlpUpBwdKernelIdeal.Facts) (hMlpUpBwdReferenceIdeal : Cert.MlpUpBwdReferenceIdeal.Facts) (hGradWDownKernel : Cert.GradWDownKernel.Facts) (hGradWDownKernelIdeal : Cert.GradWDownKernelIdeal.Facts) (hGradWDownReferenceIdeal : Cert.GradWDownReferenceIdeal.Facts) (hGradXKernel : Cert.GradXKernel.Facts) (hGradXKernelIdeal : Cert.GradXKernelIdeal.Facts) (hGradXReferenceIdeal : Cert.GradXReferenceIdeal.Facts) (hAdamKernel : Cert.AdamKernel.Facts) (hAdamKernelIdeal : Cert.AdamKernelIdeal.Facts) (hAdamReferenceIdeal : Cert.AdamReferenceIdeal.Facts) (hDcatKernel : Cert.DcatKernel.Facts) (hDcatKernelIdeal : Cert.DcatKernelIdeal.Facts) (hDcatReferenceIdeal : Cert.DcatReferenceIdeal.Facts) (hGradWUpKernel : Cert.GradWUpKernel.Facts) (hGradWUpKernelIdeal : Cert.GradWUpKernelIdeal.Facts) (hGradWUpReferenceIdeal : Cert.GradWUpReferenceIdeal.Facts) (hGradWOutKernel : Cert.GradWOutKernel.Facts) (hGradWOutKernelIdeal : Cert.GradWOutKernelIdeal.Facts) (hGradWOutReferenceIdeal : Cert.GradWOutReferenceIdeal.Facts) (hMlpDownKernel : Cert.MlpDownKernel.Facts) (hMlpDownKernelIdeal : Cert.MlpDownKernelIdeal.Facts) (hMlpDownReferenceIdeal : Cert.MlpDownReferenceIdeal.Facts) (hProjKernel : Cert.ProjKernel.Facts) (hProjKernelIdeal : Cert.ProjKernelIdeal.Facts) (hProjReferenceIdeal : Cert.ProjReferenceIdeal.Facts) (hGradWInKernel : Cert.GradWInKernel.Facts) (hGradWInKernelIdeal : Cert.GradWInKernelIdeal.Facts) (hGradWInReferenceIdeal : Cert.GradWInReferenceIdeal.Facts) (hPre_finite : Cert.Pre_finite.Facts) (hPre_finite_swa : Cert.Pre_finite_swa.Facts) (hPre_finite_ln1 : Cert.Pre_finite_ln1.Facts) (hPre_finite_ln2 : Cert.Pre_finite_ln2.Facts) (hPre_finite_gate : Cert.Pre_finite_gate.Facts) (hPre_finite_swafwd : Cert.Pre_finite_swafwd.Facts),
    quiescent_NormKernel (hNormKernel := hNormKernel)
    ∧ quiescent_NormKernelIdeal (hNormKernelIdeal := hNormKernelIdeal)
    ∧ quiescent_NormKernelIdeal_pre_finite (hNormKernelIdeal := hNormKernelIdeal) (hPre_finite := hPre_finite)
    ∧ quiescent_NormReferenceIdeal (hNormReferenceIdeal := hNormReferenceIdeal)
    ∧ quiescent_NormReferenceIdeal_pre_finite (hNormReferenceIdeal := hNormReferenceIdeal) (hPre_finite := hPre_finite)
    ∧ quiescent_SwaKernel (hSwaKernel := hSwaKernel)
    ∧ quiescent_SwaKernelIdeal (hSwaKernelIdeal := hSwaKernelIdeal)
    ∧ quiescent_SwaKernelIdeal_pre_finite_swa (hSwaKernelIdeal := hSwaKernelIdeal) (hPre_finite_swa := hPre_finite_swa)
    ∧ quiescent_SwaReferenceIdeal (hSwaReferenceIdeal := hSwaReferenceIdeal)
    ∧ quiescent_SwaReferenceIdeal_pre_finite_swa (hSwaReferenceIdeal := hSwaReferenceIdeal) (hPre_finite_swa := hPre_finite_swa)
    ∧ quiescent_Ln1Kernel (hLn1Kernel := hLn1Kernel)
    ∧ quiescent_Ln1KernelIdeal (hLn1KernelIdeal := hLn1KernelIdeal)
    ∧ quiescent_Ln1KernelIdeal_pre_finite_ln1 (hLn1KernelIdeal := hLn1KernelIdeal) (hPre_finite_ln1 := hPre_finite_ln1)
    ∧ quiescent_Ln1ReferenceIdeal (hLn1ReferenceIdeal := hLn1ReferenceIdeal)
    ∧ quiescent_Ln1ReferenceIdeal_pre_finite_ln1 (hLn1ReferenceIdeal := hLn1ReferenceIdeal) (hPre_finite_ln1 := hPre_finite_ln1)
    ∧ quiescent_Ln2Kernel (hLn2Kernel := hLn2Kernel)
    ∧ quiescent_Ln2KernelIdeal (hLn2KernelIdeal := hLn2KernelIdeal)
    ∧ quiescent_Ln2KernelIdeal_pre_finite_ln2 (hLn2KernelIdeal := hLn2KernelIdeal) (hPre_finite_ln2 := hPre_finite_ln2)
    ∧ quiescent_Ln2ReferenceIdeal (hLn2ReferenceIdeal := hLn2ReferenceIdeal)
    ∧ quiescent_Ln2ReferenceIdeal_pre_finite_ln2 (hLn2ReferenceIdeal := hLn2ReferenceIdeal) (hPre_finite_ln2 := hPre_finite_ln2)
    ∧ quiescent_Relu2Kernel (hRelu2Kernel := hRelu2Kernel)
    ∧ quiescent_Relu2KernelIdeal (hRelu2KernelIdeal := hRelu2KernelIdeal)
    ∧ quiescent_Relu2ReferenceIdeal (hRelu2ReferenceIdeal := hRelu2ReferenceIdeal)
    ∧ quiescent_GateKernel (hGateKernel := hGateKernel)
    ∧ quiescent_GateKernelIdeal (hGateKernelIdeal := hGateKernelIdeal)
    ∧ quiescent_GateKernelIdeal_pre_finite_gate (hGateKernelIdeal := hGateKernelIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_NormFwdKernel (hNormFwdKernel := hNormFwdKernel)
    ∧ quiescent_NormFwdKernelIdeal (hNormFwdKernelIdeal := hNormFwdKernelIdeal)
    ∧ quiescent_NormFwdReferenceIdeal (hNormFwdReferenceIdeal := hNormFwdReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_SwaFwdKernel (hSwaFwdKernel := hSwaFwdKernel)
    ∧ quiescent_SwaFwdKernelIdeal (hSwaFwdKernelIdeal := hSwaFwdKernelIdeal)
    ∧ quiescent_SwaFwdKernelIdeal_pre_finite_swafwd (hSwaFwdKernelIdeal := hSwaFwdKernelIdeal) (hPre_finite_swafwd := hPre_finite_swafwd)
    ∧ quiescent_SwaFwdReferenceIdeal (hSwaFwdReferenceIdeal := hSwaFwdReferenceIdeal)
    ∧ quiescent_SwaFwdReferenceIdeal_pre_finite_swafwd (hSwaFwdReferenceIdeal := hSwaFwdReferenceIdeal) (hPre_finite_swafwd := hPre_finite_swafwd)
    ∧ quiescent_GlaFwdKernel (hGlaFwdKernel := hGlaFwdKernel)
    ∧ quiescent_GlaFwdKernelIdeal (hGlaFwdKernelIdeal := hGlaFwdKernelIdeal)
    ∧ quiescent_GlaBwdKernel (hGlaBwdKernel := hGlaBwdKernel)
    ∧ quiescent_GlaBwdKernelIdeal (hGlaBwdKernelIdeal := hGlaBwdKernelIdeal)
    ∧ quiescent_MlpUpBwdKernel (hMlpUpBwdKernel := hMlpUpBwdKernel)
    ∧ quiescent_MlpUpBwdKernelIdeal (hMlpUpBwdKernelIdeal := hMlpUpBwdKernelIdeal)
    ∧ quiescent_MlpUpBwdReferenceIdeal (hMlpUpBwdReferenceIdeal := hMlpUpBwdReferenceIdeal)
    ∧ quiescent_GradWDownKernel (hGradWDownKernel := hGradWDownKernel)
    ∧ quiescent_GradWDownKernelIdeal (hGradWDownKernelIdeal := hGradWDownKernelIdeal)
    ∧ quiescent_GradWDownReferenceIdeal (hGradWDownReferenceIdeal := hGradWDownReferenceIdeal)
    ∧ quiescent_GradXKernel (hGradXKernel := hGradXKernel)
    ∧ quiescent_GradXKernelIdeal (hGradXKernelIdeal := hGradXKernelIdeal)
    ∧ quiescent_GradXReferenceIdeal (hGradXReferenceIdeal := hGradXReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_DcatKernel (hDcatKernel := hDcatKernel)
    ∧ quiescent_DcatKernelIdeal (hDcatKernelIdeal := hDcatKernelIdeal)
    ∧ quiescent_DcatReferenceIdeal (hDcatReferenceIdeal := hDcatReferenceIdeal)
    ∧ quiescent_GradWUpKernel (hGradWUpKernel := hGradWUpKernel)
    ∧ quiescent_GradWUpKernelIdeal (hGradWUpKernelIdeal := hGradWUpKernelIdeal)
    ∧ quiescent_GradWUpReferenceIdeal (hGradWUpReferenceIdeal := hGradWUpReferenceIdeal)
    ∧ quiescent_GradWOutKernel (hGradWOutKernel := hGradWOutKernel)
    ∧ quiescent_GradWOutKernelIdeal (hGradWOutKernelIdeal := hGradWOutKernelIdeal)
    ∧ quiescent_GradWOutReferenceIdeal (hGradWOutReferenceIdeal := hGradWOutReferenceIdeal)
    ∧ quiescent_MlpDownKernel (hMlpDownKernel := hMlpDownKernel)
    ∧ quiescent_MlpDownKernelIdeal (hMlpDownKernelIdeal := hMlpDownKernelIdeal)
    ∧ quiescent_MlpDownReferenceIdeal (hMlpDownReferenceIdeal := hMlpDownReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GradWInKernel (hGradWInKernel := hGradWInKernel)
    ∧ quiescent_GradWInKernelIdeal (hGradWInKernelIdeal := hGradWInKernelIdeal)
    ∧ quiescent_GradWInReferenceIdeal (hGradWInReferenceIdeal := hGradWInReferenceIdeal)
    ∧ preserves_NormKernel_NormKernelIdeal
    ∧ algebraic_NormKernelIdeal_NormReferenceIdeal_pre_finite (hNormKernelIdeal := hNormKernelIdeal) (hNormReferenceIdeal := hNormReferenceIdeal) (hPre_finite := hPre_finite)
    ∧ preserves_SwaKernel_SwaKernelIdeal
    ∧ algebraic_SwaKernelIdeal_SwaReferenceIdeal_pre_finite_swa (hSwaKernelIdeal := hSwaKernelIdeal) (hSwaReferenceIdeal := hSwaReferenceIdeal) (hPre_finite_swa := hPre_finite_swa)
    ∧ preserves_Ln1Kernel_Ln1KernelIdeal
    ∧ algebraic_Ln1KernelIdeal_Ln1ReferenceIdeal_pre_finite_ln1 (hLn1KernelIdeal := hLn1KernelIdeal) (hLn1ReferenceIdeal := hLn1ReferenceIdeal) (hPre_finite_ln1 := hPre_finite_ln1)
    ∧ preserves_Ln2Kernel_Ln2KernelIdeal
    ∧ algebraic_Ln2KernelIdeal_Ln2ReferenceIdeal_pre_finite_ln2 (hLn2KernelIdeal := hLn2KernelIdeal) (hLn2ReferenceIdeal := hLn2ReferenceIdeal) (hPre_finite_ln2 := hPre_finite_ln2)
    ∧ preserves_Relu2Kernel_Relu2KernelIdeal
    ∧ algebraic_Relu2KernelIdeal_Relu2ReferenceIdeal (hRelu2KernelIdeal := hRelu2KernelIdeal) (hRelu2ReferenceIdeal := hRelu2ReferenceIdeal)
    ∧ preserves_GateKernel_GateKernelIdeal
    ∧ algebraic_GateKernelIdeal_GateReferenceIdeal_pre_finite_gate (hGateKernelIdeal := hGateKernelIdeal) (hGateReferenceIdeal := hGateReferenceIdeal) (hPre_finite_gate := hPre_finite_gate)
    ∧ preserves_NormFwdKernel_NormFwdKernelIdeal
    ∧ algebraic_NormFwdKernelIdeal_NormFwdReferenceIdeal (hNormFwdKernelIdeal := hNormFwdKernelIdeal) (hNormFwdReferenceIdeal := hNormFwdReferenceIdeal)
    ∧ preserves_MixKernel_MixKernelIdeal
    ∧ algebraic_MixKernelIdeal_MixReferenceIdeal (hMixKernelIdeal := hMixKernelIdeal) (hMixReferenceIdeal := hMixReferenceIdeal)
    ∧ preserves_SwaFwdKernel_SwaFwdKernelIdeal
    ∧ algebraic_SwaFwdKernelIdeal_SwaFwdReferenceIdeal_pre_finite_swafwd (hSwaFwdKernelIdeal := hSwaFwdKernelIdeal) (hSwaFwdReferenceIdeal := hSwaFwdReferenceIdeal) (hPre_finite_swafwd := hPre_finite_swafwd)
    ∧ preserves_GlaFwdKernel_GlaFwdKernelIdeal
    ∧ preserves_GlaBwdKernel_GlaBwdKernelIdeal
    ∧ preserves_MlpUpBwdKernel_MlpUpBwdKernelIdeal
    ∧ algebraic_MlpUpBwdKernelIdeal_MlpUpBwdReferenceIdeal (hMlpUpBwdKernelIdeal := hMlpUpBwdKernelIdeal) (hMlpUpBwdReferenceIdeal := hMlpUpBwdReferenceIdeal)
    ∧ preserves_GradWDownKernel_GradWDownKernelIdeal
    ∧ algebraic_GradWDownKernelIdeal_GradWDownReferenceIdeal (hGradWDownKernelIdeal := hGradWDownKernelIdeal) (hGradWDownReferenceIdeal := hGradWDownReferenceIdeal)
    ∧ preserves_GradXKernel_GradXKernelIdeal
    ∧ algebraic_GradXKernelIdeal_GradXReferenceIdeal (hGradXKernelIdeal := hGradXKernelIdeal) (hGradXReferenceIdeal := hGradXReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_DcatKernel_DcatKernelIdeal
    ∧ algebraic_DcatKernelIdeal_DcatReferenceIdeal (hDcatKernelIdeal := hDcatKernelIdeal) (hDcatReferenceIdeal := hDcatReferenceIdeal)
    ∧ preserves_GradWUpKernel_GradWUpKernelIdeal
    ∧ algebraic_GradWUpKernelIdeal_GradWUpReferenceIdeal (hGradWUpKernelIdeal := hGradWUpKernelIdeal) (hGradWUpReferenceIdeal := hGradWUpReferenceIdeal)
    ∧ preserves_GradWOutKernel_GradWOutKernelIdeal
    ∧ algebraic_GradWOutKernelIdeal_GradWOutReferenceIdeal (hGradWOutKernelIdeal := hGradWOutKernelIdeal) (hGradWOutReferenceIdeal := hGradWOutReferenceIdeal)
    ∧ preserves_MlpDownKernel_MlpDownKernelIdeal
    ∧ algebraic_MlpDownKernelIdeal_MlpDownReferenceIdeal (hMlpDownKernelIdeal := hMlpDownKernelIdeal) (hMlpDownReferenceIdeal := hMlpDownReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_GradWInKernel_GradWInKernelIdeal
    ∧ algebraic_GradWInKernelIdeal_GradWInReferenceIdeal (hGradWInKernelIdeal := hGradWInKernelIdeal) (hGradWInReferenceIdeal := hGradWInReferenceIdeal)
-- ==== Pre_finite.lean ====
abbrev S4096x4x256 : Shape := ⟨3, ![4096, 4, 256]⟩
abbrev S4096x4368 : Shape := ⟨2, ![4096, 4368]⟩
abbrev S1x256 : Shape := ⟨2, ![1, 256]⟩
abbrev S4096x1024 : Shape := ⟨2, ![4096, 1024]⟩
abbrev S_ : Shape := ⟨0, ![]⟩

class Facts : Prop where
  bcast_S_S4096x4x256 : S_.BroadcastsInDim S4096x4x256 (![] : Fin 0 → Fin S4096x4x256.rank)
  reducesTo_S4096x4x256_S_d0_1_2 : S4096x4x256.ReducesTo [0, 1, 2] S_
  h_S_ : 0 < S_.numel
  slices_S4096x4368_S4096x1024_0_2048 : S4096x4368.Slices ![0, 2048] S4096x1024
  bcast_S_S4096x1024 : S_.BroadcastsInDim S4096x1024 (![] : Fin 0 → Fin S4096x1024.rank)
  reducesTo_S4096x1024_S_d0_1 : S4096x1024.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S4096x4x256 .f32) (main_arg1 : FVec F S4096x4368 .f32) (main_arg2 : FVec F S1x256 .f32) (main_arg3 : FVec F S4096x1024 .f32) : IVec S_ 1 :=
  let main_v0 : FVec F S4096x4x256 .f32 := Host.absf main_arg0
  let main_cst : FVec F S_ .f32 := constant S_ .f32 0x7F800000#32
  let main_v1 : FVec F S4096x4x256 .f32 := broadcastInDim S4096x4x256 ![] bcast_S_S4096x4x256 main_cst
  let main_v2 : IVec S4096x4x256 1 := cmpf .olt main_v0 main_v1
  let main_c : IVec S_ 1 := constantI S_ 1 1#1
  let main_v3 : IVec S_ 1 := (fun x v => Host.reduce IntOp.andi x v reducesTo_S4096x4x256_S_d0_1_2 h_S_) main_v2 main_c
  let main_v4 : FVec F S4096x1024 .f32 := (extractStridedSlice S4096x1024 ![0, 2048] · slices_S4096x4368_S4096x1024_0_2048) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S1x256 .f32 := Host.absf main_arg2
  let main_cst_2 : FVec F S_ .f32 := constant S_ .f32 0x7F800000#32
  let main_v11 : FVec F S1x256 .f32 := broadcastInDim S1x256 ![] bcast_S_S1x256 main_cst_2
  let main_v12 : IVec S1x256 1 := cmpf .olt main_v10 main_v11
  let main_c_3 : IVec S_ 1 := constantI S_ 1 1#1
  let main_v13 : IVec S_ 1 := (fun x v => Host.reduce IntOp.andi x v reducesTo_S1x256_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Pre_finite_gate.lean ====
abbrev S4096x4368 : Shape := ⟨2, ![4096, 4368]⟩
abbrev S16x512 : Shape := ⟨2, ![16, 512]⟩
abbrev S1x512 : Shape := ⟨2, ![1, 512]⟩
abbrev S4096x512 : Shape := ⟨2, ![4096, 512]⟩
abbrev S_ : Shape := ⟨0, ![]⟩

class Facts : Prop where
  bcast_S_S4096x4368 : S_.BroadcastsInDim S4096x4368 (![] : Fin 0 → Fin S4096x4368.rank)
  reducesTo_S4096x4368_S_d0_1 : S4096x4368.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S1x512 : S_.BroadcastsInDim S1x512 (![] : Fin 0 → Fin S1x512.rank)
  reducesTo_S1x512_S_d0_1 : S1x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x4368 .f32) (main_arg1 : FVec F S16x512 .f32) (main_arg2 : FVec F S1x512 .f32) (main_arg3 : FVec F S4096x512 .f32) : IVec S_ 1 :=
  let main_v0 : FVec F S4096x4368 .f32 := Host.absf main_arg0
  let main_cst : FVec F S_ .f32 := constant S_ .f32 0x7F800000#32
  let main_v1 : FVec F S4096x4368 .f32 := broadcastInDim S4096x4368 ![] bcast_S_S4096x4368 main_cst
  let main_v2 : IVec S4096x4368 1 := cmpf .olt main_v0 main_v1
  let main_c : IVec S_ 1 := constantI S_ 1 1#1
  let main_v3 : IVec S_ 1 := (fun x v => Host.reduce IntOp.andi x v reducesTo_S4096x4368_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_ln1.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg5 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg5 main_v13 main_v16
-- ==== Pre_finite_ln2.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S1x2048 .f32) (main_arg4 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite_swa.lean ====
abbrev S4096x4368 : Shape := ⟨2, ![4096, 4368]⟩
abbrev S16 : Shape := ⟨1, ![16]⟩
abbrev S4096x2048 : Shape := ⟨2, ![4096, 2048]⟩
abbrev S4096x1280 : Shape := ⟨2, ![4096, 1280]⟩
abbrev S_ : Shape := ⟨0, ![]⟩
abbrev S4096x1024 : Shape := ⟨2, ![4096, 1024]⟩

class Facts : Prop where
  slices_S4096x4368_S4096x1280_0_3088 : S4096x4368.Slices ![0, 3088] S4096x1280
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S16 : S_.BroadcastsInDim S16 (![] : Fin 0 → Fin S16.rank)
  reducesTo_S16_S_d0 : S16.ReducesTo [0] S_
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4368 .f32) (main_arg1 : FVec F S16 .f32) (main_arg2 : FVec F S4096x2048 .f32) : IVec S_ 1 :=
  let main_v0 : FVec F S4096x1280 .f32 := (extractStridedSlice S4096x1280 ![0, 3088] · slices_S4096x4368_S4096x1280_0_3088) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S4096x1024 .f32 := (extractStridedSlice S4096x1024 ![0, 1024] · slices_S4096x2048_S4096x1024_0_1024) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Pre_finite_swafwd.lean ====
abbrev S4096x4368 : Shape := ⟨2, ![4096, 4368]⟩
abbrev S16 : Shape := ⟨1, ![16]⟩
abbrev S4096x1024 : Shape := ⟨2, ![4096, 1024]⟩
abbrev S4096x1280 : Shape := ⟨2, ![4096, 1280]⟩
abbrev S_ : Shape := ⟨0, ![]⟩

class Facts : Prop where
  slices_S4096x4368_S4096x1280_0_3088 : S4096x4368.Slices ![0, 3088] S4096x1280
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x4368 .f32) (main_arg1 : FVec F S16 .f32) (main_arg2 : FVec F S4096x1024 .f32) : IVec S_ 1 :=
  let main_v0 : FVec F S4096x1280 .f32 := (extractStridedSlice S4096x1280 ![0, 3088] · slices_S4096x4368_S4096x1280_0_3088) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== NormKernel.lean ====
abbrev S4096x4x256 : Shape := ⟨3, ![4096, 4, 256]⟩
abbrev S4096x4368 : Shape := ⟨2, ![4096, 4368]⟩
abbrev S1x256 : Shape := ⟨2, ![1, 256]⟩
abbrev S4096x1024 : Shape := ⟨2, ![4096, 1024]⟩
abbrev S_ : Shape := ⟨0, ![]⟩
abbrev S4096x2048 : Shape := ⟨2, ![4096, 2048]⟩
abbrev S4096x3072 : Shape := ⟨2, ![4096, 3072]⟩
abbrev S4096x1280 : Shape := ⟨2, ![4096, 1280]⟩
abbrev S4096x16 : Shape := ⟨2, ![4096, 16]⟩
abbrev S4096x112 : Shape := ⟨2, ![4096, 112]⟩
abbrev S4096x4480 : Shape := ⟨2, ![4096, 4480]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 17
  | .vmem => 12
  | .smem => 0
  | _ => 0

abbrev bufTy : (tb : Table) → Fin (tcTables nBuf tb) → BufTy
  | .hbm, ⟨0, _⟩ => ⟨S4096x4x256, .f32⟩
  | .hbm, ⟨1, _⟩ => ⟨S4096x4368, .f32⟩
  | .hbm, ⟨2, _⟩ => ⟨S1x256, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x3072, .f32⟩
  | .hbm, ⟨9, _⟩ => ⟨S4096x1280, .f32⟩
  | .hbm, ⟨10, _⟩ => ⟨S4096x16, .f32⟩
  | .hbm, ⟨11, _⟩ => ⟨S_, .f32⟩
  | .hbm, ⟨12, _⟩ => ⟨S4096x112, .f32⟩
  | .hbm, ⟨13, _⟩ => ⟨S4096x4480, .f32⟩
  | .hbm, ⟨14, _⟩ => ⟨S4096x1024, .f32⟩
  | .hbm, ⟨15, _⟩ => ⟨S4096x1024, .bf16⟩
  | .hbm, ⟨16, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x256, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x256, .f32⟩
  | _, _ => ⟨S4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x4x256 : Shape := ⟨3, ![4096, 4, 256]⟩
abbrev S4096x4368 : Shape := ⟨2, ![4096, 4368]⟩
abbrev S1x256 : Shape := ⟨2, ![1, 256]⟩
abbrev S4096x1024 : Shape := ⟨2, ![4096, 1024]⟩
abbrev S_ : Shape := ⟨0, ![]⟩
abbrev S4096x4 : Shape := ⟨2, ![4096, 4]⟩
abbrev S4096x4x1 : Shape := ⟨3, ![4096, 4, 1]⟩
abbrev S256 : Shape := ⟨1, ![256]⟩
abbrev S1x1x256 : Shape := ⟨3, ![1, 1, 256]⟩

abbrev nBuf : Space → Nat
  | .hbm => 79
  | .vmem => 0
  | .smem => 0
  | _ => 0

abbrev bufTy : (tb : Table) → Fin (tcTables nBuf tb) → BufTy
  | .hbm, ⟨0, _⟩ => ⟨S4096x4x256, .f32⟩
  | .hbm, ⟨1, _⟩ => ⟨S4096x4368, .f32⟩
  | .hbm, ⟨2, _⟩ => ⟨S1x256, .f32⟩
  | .hbm, ⟨3, _⟩ => ⟨S4096x1024, .f32⟩
  | .hbm, ⟨4, _⟩ => ⟨S4096x1024, .f32⟩
  | .hbm, ⟨5, _⟩ => ⟨S4096x4x256, .f32⟩
  | .hbm, ⟨6, _⟩ => ⟨S4096x4x256, .f32⟩
  | .hbm, ⟨7, _⟩ => ⟨S_, .f32⟩
  | .hbm, ⟨8, _⟩ => ⟨S4096x4x256, .f32⟩
  | .hbm, ⟨9, _⟩ => ⟨S4096x4x256, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x256, .f32⟩
  | .hbm, ⟨25, _⟩ => ⟨S4096x4x256, .f32⟩
  | .hbm, ⟨26, _⟩ => ⟨S256, .f32⟩
  | .hbm, ⟨27, _⟩ => ⟨S1x1x256, .f32⟩
  | .hbm, ⟨28, _⟩ => ⟨S4096x4x256, .f32⟩
  | .hbm, ⟨29, _⟩ => ⟨S4096x4x256, .f32⟩
  | .hbm, ⟨30, _⟩ => ⟨S4096x4x256, .f32⟩
  | .hbm, ⟨31, _⟩ => ⟨S4096x4x256, .f32⟩
  | .hbm, ⟨32, _⟩ => ⟨S_, .f32⟩
  | .hbm, ⟨33, _⟩ => ⟨S4096x4x256, .f32⟩
  | .hbm, ⟨34, _⟩ => ⟨S4096x4x256, .f32⟩
  | .hbm, ⟨35, _⟩ => ⟨S_, .f32⟩
  | .hbm, ⟨36, _⟩ => ⟨S4096x4x256, .f32⟩
  | .hbm, ⟨37, _⟩ => ⟨S4096x4x256, .f32⟩
  | .hbm, ⟨38, _⟩ => ⟨S_, .f32⟩
  | .hbm, ⟨39, _⟩ => ⟨S4096x4x256, .f32⟩
  | .hbm, ⟨40, _⟩ => ⟨S4096x4x256, .f32⟩
  | .hbm, ⟨41, _⟩ => ⟨S4096x4x256, .f32⟩
  | .hbm, ⟨42, _⟩ => ⟨S4096x4x256, .f32⟩
  | .hbm, ⟨43, _⟩ => ⟨S4096x4x256, .f32⟩
  | .hbm, ⟨44, _⟩ => ⟨S4096x1024, .f32⟩
  | .hbm, ⟨45, _⟩ => ⟨S4096x4x256, .f32⟩
  | .hbm, ⟨46, _⟩ => ⟨S4096x4x256, .f32⟩
  | .hbm, ⟨47, _⟩ => ⟨S4096x4x256, .f32⟩
  | .hbm, ⟨48, _⟩ => ⟨S4096x4x256, .f32⟩
  | .hbm, ⟨49, _⟩ => ⟨S4096x4x256, .f32⟩
  | .hbm, ⟨50, _⟩ => ⟨S4096x4x256, .f32⟩
  | .hbm, ⟨51, _⟩ => ⟨S4096x4x256, .f32⟩
  | .hbm, ⟨52, _⟩ => ⟨S4096x4x256, .f32⟩
  | .hbm, ⟨53, _⟩ => ⟨S_, .f32⟩
  | .hbm, ⟨54, _⟩ => ⟨S256, .f32⟩
  | .hbm, ⟨55, _⟩ => ⟨S1x1x256, .f32⟩
  | .hbm, ⟨56, _⟩ => ⟨S4096x4x256, .f32⟩
  | .hbm, ⟨57, _⟩ => ⟨S4096x4x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S4096x4x256, .f32⟩
  | .hbm, ⟨62, _⟩ => ⟨S_, .f32⟩
  | .hbm, ⟨63, _⟩ => ⟨S4096x4, .f32⟩
  | .hbm, ⟨64, _⟩ => ⟨S4096x4x1, .f32⟩
  | .hbm, ⟨65, _⟩ => ⟨S4096x4x256, .f32⟩
  | .hbm, ⟨66, _⟩ => ⟨S4096x4x256, .f32⟩
  | .hbm, ⟨67, _⟩ => ⟨S4096x4x1, .f32⟩
  | .hbm, ⟨68, _⟩ => ⟨S_, .f32⟩
  | .hbm, ⟨69, _⟩ => ⟨S4096x4x1, .f32⟩
  | .hbm, ⟨70, _⟩ => ⟨S4096x4x1, .f32⟩
  | .hbm, ⟨71, _⟩ => ⟨S_, .f32⟩
  | .hbm, ⟨72, _⟩ => ⟨S4096x4, .f32⟩
  | .hbm, ⟨73, _⟩ => ⟨S4096x4x256, .f32⟩
  | .hbm, ⟨74, _⟩ => ⟨S4096x4x256, .f32⟩
  | .hbm, ⟨75, _⟩ => ⟨S4096x4x256, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== SwaKernel.lean ====
abbrev S4096x4368 : Shape := ⟨2, ![4096, 4368]⟩
abbrev S16 : Shape := ⟨1, ![16]⟩
abbrev S4096x2048 : Shape := ⟨2, ![4096, 2048]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S4096x1024 : Shape := ⟨2, ![4096, 1024]⟩
abbrev S4096x128 : Shape := ⟨2, ![4096, 128]⟩
abbrev S1x128 : Shape := ⟨2, ![1, 128]⟩
abbrev S128x1024 : Shape := ⟨2, ![128, 1024]⟩
abbrev S128x128 : Shape := ⟨2, ![128, 128]⟩
abbrev S1024x1 : Shape := ⟨2, ![1024, 1]⟩
abbrev S1x256 : Shape := ⟨2, ![1, 256]⟩
abbrev S1024x256 : Shape := ⟨2, ![1024, 256]⟩
abbrev S256x128 : Shape := ⟨2, ![256, 128]⟩
abbrev S1024x128 : Shape := ⟨2, ![1024, 128]⟩
abbrev S1 : Shape := ⟨1, ![1]⟩
abbrev S128x1 : Shape := ⟨2, ![128, 1]⟩
abbrev S1024 : Shape := ⟨1, ![1024]⟩
abbrev S1x128x1 : Shape := ⟨3, ![1, 128, 1]⟩
abbrev S1x1x1 : Shape := ⟨3, ![1, 1, 1]⟩

abbrev nBuf : Space → Nat
  | .hbm => 13
  | .vmem => 17
  | .smem => 1
  | _ => 0

abbrev bufTy : (tb : Table) → Fin (tcTables nBuf tb) → BufTy
  | .hbm, ⟨0, _⟩ => ⟨S4096x4368, .f32⟩
  | .hbm, ⟨1, _⟩ => ⟨S16, .f32⟩
  | .hbm, ⟨2, _⟩ => ⟨S4096x2048, .f32⟩
  | .hbm, ⟨3, _⟩ => ⟨S4096x3072, .f32⟩
  | .hbm, ⟨4, _⟩ => ⟨S4096x1280, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x4480, .f32⟩
  | .hbm, ⟨9, _⟩ => ⟨S4096x1024, .bf16⟩
  | .hbm, ⟨10, _⟩ => ⟨S4096x128, .f32⟩
  | .hbm, ⟨11, _⟩ => ⟨S4096x128, .f32⟩
  | .hbm, ⟨12, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .smem, ⟨0, _⟩ => ⟨S16, .f32⟩
  | _, _ => ⟨S4096x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32_169 : BitVec 32 := 128#32
  let v618 : BitVec 32 := Scalar.muli arg0 c128_i32_169
  v618
def k0_off1 (i : grid0.Coords) : Fin 2 → Nat :=
  let arg0 : BitVec 32 := BitVec.ofNat 32 (i 0).val
  let c128_i32_169 : BitVec 32 := 128#32
  let v618 : BitVec 32 := Scalar.muli arg0 c128_i32_169
  let v619 : BitVec 32 := v618
  let v620 : Index := Scalar.indexCast v619
  let c0_170 : Index := 0#32
  ![v620.toNat, 0]
def k0_cond2 (i : grid0.Coords) : BitVec 1 :=
  let arg0 : BitVec 32 := BitVec.ofNat 32 (i 0).val
  let c0_i32_174 : BitVec 32 := 0#32
  let v634 : BitVec 1 := Scalar.cmpi .sgt arg0 c0_i32_174
  let v635 : BitVec 32 := Scalar.extui v634
  let c0_i32_175 : BitVec 32 := 0#32
  let v636 : BitVec 1 := Scalar.cmpi .ne v635 c0_i32_175
  v636

def k0_mult2 (i : grid0.Coords) : BitVec 32 :=
  let arg0 : BitVec 32 := BitVec.ofNat 32 (i 0).val
  let c1_i32_176 : BitVec 32 := 1#32
  let v637 : BitVec 32 := Scalar.subi arg0 c1_i32_176
  let c128_i32_177 : BitVec 32 := 128#32
  let v638 : BitVec 32 := Scalar.muli v637 c128_i32_177
  v638
def k0_off2 (i : grid0.Coords) : Fin 2 → Nat :=
  let arg0 : BitVec 32 := BitVec.ofNat 32 (i 0).val
  let c1_i32_176 : BitVec 32 := 1#32
  let v637 : BitVec 32 := Scalar.subi arg0 c1_i32_176
  let c128_i32_177 : BitVec 32 := 128#32
  let v638 : BitVec 32 := Scalar.muli v637 c128_i32_177
  let v639 : BitVec 32 := v638
  let v640 : Index := Scalar.indexCast v639
  let c0_178 : Index := 0#32
  ![v640.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  ![v1.toNat, c32_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let c0_i32_0 : BitVec 32 := 0#32
  ![v1.toNat, c33_i32.toNat]

def cc0_transform_5 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SwaKernelIdeal.lean ====
variable {F : FTy → Type} [FloatOps F] [Named F]
def κ : String → Option EReal := fun
  | "mask" => some ⊥
  | _ => none
-- ==== SwaReferenceIdeal.lean ====
abbrev S4096x4368 : Shape := ⟨2, ![4096, 4368]⟩
abbrev S16 : Shape := ⟨1, ![16]⟩
abbrev S4096x2048 : Shape := ⟨2, ![4096, 2048]⟩
abbrev S4096x1024 : Shape := ⟨2, ![4096, 1024]⟩
abbrev S1x4096x16x64 : Shape := ⟨4, ![1, 4096, 16, 64]⟩
abbrev S4096x128 : Shape := ⟨2, ![4096, 128]⟩
abbrev S1x4096x2x64 : Shape := ⟨4, ![1, 4096, 2, 64]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x4096x1024 : Shape := ⟨3, ![1, 4096, 1024]⟩
abbrev S1x32x2x64x256 : Shape := ⟨5, ![1, 32, 2, 64, 256]⟩
abbrev S1x2x8x1 : Shape := ⟨4, ![1, 2, 8, 1]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S112 : Shape := ⟨1, ![112]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S4096x4368, .f32⟩
  | 1 => ⟨S16, .f32⟩
  | 2 => ⟨S4096x2048, .f32⟩
  | 3 => ⟨S4096x1024, .f32⟩
  | 4 => ⟨S1x4096x16x64, .f32⟩
  | 5 => ⟨S4096x128, .f32⟩
  | 6 => ⟨S1x4096x2x64, .f32⟩
  | 7 => ⟨S4096x128, .f32⟩
  | 8 => ⟨S1x4096x2x64, .f32⟩
  | 9 => ⟨S1x32x128x2x8x64, .f32⟩
  | 10 => ⟨S1x32x128x2x64, .f32⟩
  | 11 => ⟨S1x1x128x2x64, .f32⟩
  | 12 => ⟨S_, .f32⟩
  | 13 => ⟨S1x1x128x2x64, .f32⟩
  | 14 => ⟨S1x31x128x2x64, .f32⟩
  | 15 => ⟨S1x32x128x2x64, .f32⟩
  | 16 => ⟨S_, .f32⟩
  | 17 => ⟨S1x1x128x2x64, .f32⟩
  | 18 => ⟨S1x32x256x2x64, .f32⟩
  | 19 => ⟨S1x32x128x2x64, .f32⟩
  | 20 => ⟨S1x1x128x2x64, .f32⟩
  | 21 => ⟨S_, .f32⟩
  | 22 => ⟨S1x1x128x2x64, .f32⟩
  | 23 => ⟨S1x31x128x2x64, .f32⟩
  | 24 => ⟨S1x32x128x2x64, .f32⟩
  | 25 => ⟨S_, .f32⟩
  | 26 => ⟨S1x1x128x2x64, .f32⟩
  | 27 => ⟨S1x32x256x2x64, .f32⟩
  | 28 => ⟨S1x32x2x256x128x8, .f32⟩
  | 29 => ⟨S1x32x2x8x128x256, .f32⟩
  | 30 => ⟨S_, .f32⟩
  | 31 => ⟨S1x32x2x8x128x256, .f32⟩
  | 32 => ⟨S1x32x2x8x128x256, .f32⟩
  | 33 => ⟨S128, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i1⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i1⟩
  | 46 => ⟨S128x256, .i1⟩
  | 47 => ⟨S32, .i32⟩
  | 48 => ⟨S32x1x1, .i32⟩
  | 49 => ⟨S1x128x256, .i1⟩
  | 50 => ⟨S_, .i32⟩
  | 51 => ⟨S32x1x1, .i32⟩
  | 52 => ⟨S32x1x1, .i1⟩
  | 53 => ⟨S1x1x256, .i32⟩
  | 54 => ⟨S_, .i32⟩
  | 55 => ⟨S1x1x256, .i32⟩
  | 56 => ⟨S1x1x256, .i1⟩
  | 57 => ⟨S32x1x256, .i1⟩
  | 58 => ⟨S32x1x256, .i1⟩
  | 59 => ⟨S32x1x256, .i1⟩
  | 60 => ⟨S32x128x256, .i1⟩
  | 61 => ⟨S32x128x256, .i1⟩
  | 62 => ⟨S32x128x256, .i1⟩
  | 63 => ⟨S1x32x1x1x128x256, .i1⟩
  | 64 => ⟨S_, .f32⟩
  | 65 => ⟨S_, .f32⟩
  | 66 => ⟨S1x32x2x8x128x256, .i1⟩
  | 67 => ⟨S1x32x2x8x128x256, .f32⟩
  | 68 => ⟨S1x32x2x8x128x256, .f32⟩
  | 69 => ⟨S_, .f32⟩
  | 70 => ⟨S1x32x2x8x128x256, .f32⟩
  | 71 => ⟨S2x8, .f32⟩
  | 72 => ⟨S1x1x2x8x1x1, .f32⟩
  | 73 => ⟨S_, .f32⟩
  | 74 => ⟨S1x32x2x8x128, .f32⟩
  | 75 => ⟨S1x32x2x8x128x1, .f32⟩
  | 76 => ⟨S1x32x2x8x128x256, .f32⟩
  | 77 => ⟨S1x32x2x8x128x256, .i1⟩
  | 78 => ⟨S1x32x2x8x128x256, .f32⟩
  | 79 => ⟨S_, .f32⟩
  | 80 => ⟨S1x32x2x8x128, .f32⟩
  | 81 => ⟨S1x32x2x8x128x1, .f32⟩
  | 82 => ⟨S1x32x2x8x128x1, .f32⟩
  | 83 => ⟨S1x32x2x8x128x1, .f32⟩
  | 84 => ⟨S1x32x2x8x128x1, .f32⟩
  | 85 => ⟨S1x32x2x8x128x1, .i1⟩
  | 86 => ⟨S1x32x2x8x128x1, .f32⟩
  | 87 => ⟨S1x32x2x8x128x1, .i1⟩
  | 88 => ⟨S_, .f32⟩
  | 89 => ⟨S1x32x2x8x128x1, .f32⟩
  | 90 => ⟨S_, .f32⟩
  | 91 => ⟨S1x32x2x8x128x1, .f32⟩
  | 92 => ⟨S_, .f32⟩
  | 93 => ⟨S1x32x2x8x128x1, .f32⟩
  | 94 => ⟨S1x32x2x8x128x1, .f32⟩
  | 95 => ⟨S1x32x2x8x128x1, .f32⟩
  | 96 => ⟨S1x32x2x8x128x1, .f32⟩
  | 97 => ⟨S1x32x2x8x128x1, .i1⟩
  | 98 => ⟨S1x32x2x8x128x1, .f32⟩
  | 99 => ⟨S1x32x2x8x128x1, .i1⟩
  | 100 => ⟨S_, .f32⟩
  | 101 => ⟨S1x32x2x8x128x1, .f32⟩
  | 102 => ⟨S_, .f32⟩
  | 103 => ⟨S1x32x2x8x128x1, .f32⟩
  | 104 => ⟨S_, .f32⟩
  | 105 => ⟨S1x32x2x8x128x1, .f32⟩
  | 106 => ⟨S1x32x2x8x128x1, .f32⟩
  | 107 => ⟨S1x32x2x8x128x1, .f32⟩
  | 108 => ⟨S1x32x2x8x128x256, .f32⟩
  | 109 => ⟨S1x32x2x8x128x256, .f32⟩
  | 110 => ⟨S1x32x2x8x128x256, .f32⟩
  | 111 => ⟨S_, .f32⟩
  | 112 => ⟨S1x32x2x8x128, .f32⟩
  | 113 => ⟨S1x32x2x8x128x1, .f32⟩
  | 114 => ⟨S1x32x2x8x128x1, .f32⟩
  | 115 => ⟨S1x32x2x8x128x1, .f32⟩
  | 116 => ⟨S1x32x2x8x128x1, .f32⟩
  | 117 => ⟨S1x32x2x8x128x1, .f32⟩
  | 118 => ⟨S1x32x2x8x128x256, .f32⟩
  | 119 => ⟨S1x32x2x8x128x256, .f32⟩
  | 120 => ⟨S1x32x2x8x128x1, .f32⟩
  | 121 => ⟨S_, .f32⟩
  | 122 => ⟨S1x32x2x8x128x1, .f32⟩
  | 123 => ⟨S1x32x2x8x128x1, .f32⟩
  | 124 => ⟨S1x32x2x64x8x128, .f32⟩
  | 125 => ⟨S1x32x128x2x8x64, .f32⟩
  | 126 => ⟨S1x4096x1024, .f32⟩
  | 127 => ⟨S4096x1024, .f32⟩
  | _ => ⟨S4096x4368, .f32⟩

abbrev hbmTy0_1 (i : Nat) : BufTy := match i % 128 with
  | 0 => ⟨S1x4096x1024, .f32⟩
  | 1 => ⟨S1x32x128x2x8x64, .f32⟩
  | 2 => ⟨S1x32x2x64x8x128, .f32⟩
  | 3 => ⟨S1x32x2x8x128x256, .f32⟩
  | 4 => ⟨S1x32x2x64x256, .f32⟩
  | 5 => ⟨S1x32x256x2x64, .f32⟩
  | 6 => ⟨S1x32x2x8x128x256, .f32⟩
  | 7 => ⟨S1x32x2x8x128x256, .f32⟩
  | 8 => ⟨S1x32x2x8x128x256, .f32⟩
  | 9 => ⟨S_, .f32⟩
  | 10 => ⟨S1x32x2x8x128, .f32⟩
  | 11 => ⟨S1x32x2x8x128x1, .f32⟩
  | 12 => ⟨S1x32x2x8x128x1, .f32⟩
  | 13 => ⟨S1x32x2x8x128x256, .f32⟩
  | 14 => ⟨S1x32x2x8x128x256, .f32⟩
  | 15 => ⟨S1x32x2x8x128x1, .f32⟩
  | 16 => ⟨S_, .f32⟩
  | 17 => ⟨S1x2x8x1, .f32⟩
  | 18 => ⟨S1x1x2x8x1x1, .f32⟩
  | 19 => ⟨S1x32x2x8x128x1, .f32⟩
  | 20 => ⟨S_, .f32⟩
  | 21 => ⟨S32x2x8x128, .f32⟩
  | 22 => ⟨S1x32x2x8x128, .f32⟩
  | 23 => ⟨S1x32x2x8x128x256, .f32⟩
  | 24 => ⟨S1x32x2x8x128x256, .f32⟩
  | 25 => ⟨S1x32x2x8x128x256, .f32⟩
  | 26 => ⟨S1x32x2x8x128x256, .f32⟩
  | 27 => ⟨S_, .f32⟩
  | 28 => ⟨S1x32x2x8x128, .f32⟩
  | 29 => ⟨S1x32x2x8x128x1, .f32⟩
  | 30 => ⟨S1x32x2x8x128x1, .f32⟩
  | 31 => ⟨S1x32x2x8x128x1, .f32⟩
  | 32 => ⟨S_, .f32⟩
  | 33 => ⟨S1x2x8x1, .f32⟩
  | 34 => ⟨S1x1x2x8x1x1, .f32⟩
  | 35 => ⟨S1x1x2x8x1x1, .f32⟩
  | 36 => ⟨S1x32x2x8x128x1, .f32⟩
  | 37 => ⟨S_, .f32⟩
  | 38 => ⟨S32x2x8x128, .f32⟩
  | 39 => ⟨S1x32x2x8x128, .f32⟩
  | 40 => ⟨S1x32x2x8x128, .f32⟩
  | 41 => ⟨S1x32x2x8x128x256, .f32⟩
  | 42 => ⟨S1x32x2x8x128x256, .f32⟩
  | 43 => ⟨S1x32x2x8x128x256, .f32⟩
  | 44 => ⟨S_, .f32⟩
  | 45 => ⟨S2x8, .f32⟩
  | 46 => ⟨S16, .f32⟩
  | 47 => ⟨S_, .f32⟩
  | 48 => ⟨S1x32x2x8x128x256, .f32⟩
  | 49 => ⟨S1x32x2x8x128x256, .f32⟩
  | 50 => ⟨S_, .f32⟩
  | 51 => ⟨S1x32x2x8x128x256, .f32⟩
  | 52 => ⟨S1x32x2x8x128x256, .f32⟩
  | 53 => ⟨S1x32x2x256x128x8, .f32⟩
  | 54 => ⟨S1x32x2x128x8x64, .f32⟩
  | 55 => ⟨S1x32x128x2x8x64, .f32⟩
  | 56 => ⟨S1x32x2x256x64, .f32⟩
  | 57 => ⟨S1x32x256x2x64, .f32⟩
  | 58 => ⟨S1x32x128x2x64, .f32⟩
  | 59 => ⟨S1x32x128x2x64, .f32⟩
  | 60 => ⟨S1x1x128x2x64, .f32⟩
  | 61 => ⟨S1x31x128x2x64, .f32⟩
  | 62 => ⟨S_, .f32⟩
  | 63 => ⟨S1x32x128x2x64, .f32⟩
  | 64 => ⟨S1x32x128x2x64, .f32⟩
  | 65 => ⟨S1x4096x2x64, .f32⟩
  | 66 => ⟨S1x32x128x2x64, .f32⟩
  | 67 => ⟨S1x32x128x2x64, .f32⟩
  | 68 => ⟨S1x1x128x2x64, .f32⟩
  | 69 => ⟨S1x31x128x2x64, .f32⟩
  | 70 => ⟨S_, .f32⟩
  | 71 => ⟨S1x32x128x2x64, .f32⟩
  | 72 => ⟨S1x32x128x2x64, .f32⟩
  | 73 => ⟨S1x4096x2x64, .f32⟩
  | 74 => ⟨S1x4096x16x64, .f32⟩
  | 75 => ⟨S4096x1024, .f32⟩
  | 76 => ⟨S4096x1024, .bf16⟩
  | 77 => ⟨S4096x128, .f32⟩
  | 78 => ⟨S4096x128, .f32⟩
  | 79 => ⟨S_, .f32⟩
  | 80 => ⟨S112, .f32⟩
  | 81 => ⟨S128, .f32⟩
  | 82 => ⟨S1x128, .f32⟩
  | _ => ⟨S4096x4368, .f32⟩

abbrev hbmTy (i : Nat) : BufTy := match i / 128 with
  | 0 => hbmTy0_0 i
  | 1 => hbmTy0_1 i
  | _ => ⟨S4096x4368, .f32⟩

abbrev bufTy : (tb : Table) → Fin (tcTables nBuf tb) → BufTy
  | .hbm, ⟨i, _⟩ => hbmTy i
  | _, _ => ⟨S4096x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_call0_v0 : Ref sig .tc := ⟨.hbm, 65, rfl⟩
abbrev main_v53_1 : Ref sig .tc := ⟨.hbm, 66, rfl⟩
abbrev main_call0_v2 : Ref sig .tc := ⟨.hbm, 67, rfl⟩
abbrev main_v53_0 : Ref sig .tc := ⟨.hbm, 68, rfl⟩
abbrev main_call0_cst : Ref sig .tc := ⟨.hbm, 69, rfl⟩
abbrev main_v53_2 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_17 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_18 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_19 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_20 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_21 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_22 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_23 : Ref sig .tc := ⟨.hbm, 172, rfl⟩
abbrev main_v139 : Ref sig .tc := ⟨.hbm, 173, rfl⟩
abbrev main_v140 : Ref sig .tc := ⟨.hbm, 174, rfl⟩
abbrev main_call1_cst : Ref sig .tc := ⟨.hbm, 175, rfl⟩
abbrev main_call1_v0 : Ref sig .tc := ⟨.hbm, 176, rfl⟩
abbrev main_v141 : Ref sig .tc := ⟨.hbm, 177, rfl⟩
abbrev main_cst_24 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_25 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_27 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩

abbrev nD : Nat := 1
abbrev τ : Topo := Topo.v7x

variable {F : FTy → Type} [FloatOps F]
-- ==== Ln1Kernel.lean ====
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 14
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Ln1ReferenceIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S4096x2048, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x2048, .f32⟩
  | .hbm, ⟨74, _⟩ => ⟨S4096x2048, .f32⟩
  | .hbm, ⟨75, _⟩ => ⟨S4096x1, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x2048, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x2048, .f32⟩
  | .hbm, ⟨99, _⟩ => ⟨S4096x2048, .f32⟩
  | .hbm, ⟨100, _⟩ => ⟨S1x2048, .f32⟩
  | .hbm, ⟨101, _⟩ => ⟨S1x2048, .f32⟩
  | .hbm, ⟨102, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Ln2Kernel.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ln2ReferenceIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x2048, .f32⟩
  | .hbm, ⟨88, _⟩ => ⟨S4096x2048, .f32⟩
  | .hbm, ⟨89, _⟩ => ⟨S4096x1, .f32⟩
  | .hbm, ⟨90, _⟩ => ⟨S4096x2048, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x2048, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x2048, .f32⟩
  | .hbm, ⟨113, _⟩ => ⟨S4096x2048, .f32⟩
  | .hbm, ⟨114, _⟩ => ⟨S1x2048, .f32⟩
  | .hbm, ⟨115, _⟩ => ⟨S1x2048, .f32⟩
  | .hbm, ⟨116, _⟩ => ⟨S4096x2048, .bf16⟩
  | .hbm, ⟨117, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_cst_12 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_cst_19 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_23 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_cst_25 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Relu2Kernel.lean ====
abbrev S4096x2048 : Shape := ⟨2, ![4096, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S4096x2048, .bf16⟩
  | .hbm, ⟨8, _⟩ => ⟨S4096x8192, .bf16⟩
  | .hbm, ⟨9, _⟩ => ⟨S4096x8192, .bf16⟩
  | .hbm, ⟨10, _⟩ => ⟨S4096x2048, .bf16⟩
  | .hbm, ⟨11, _⟩ => ⟨S8192x2048, .bf16⟩
  | .hbm, ⟨12, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== Relu2ReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .f32⟩
  | .hbm, ⟨28, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== GateKernel.lean ====
abbrev S4096x4368 : Shape := ⟨2, ![4096, 4368]⟩
abbrev S16x512 : Shape := ⟨2, ![16, 512]⟩
abbrev S1x512 : Shape := ⟨2, ![1, 512]⟩
abbrev S4096x512 : Shape := ⟨2, ![4096, 512]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S112x512 : Shape := ⟨2, ![112, 512]⟩
abbrev S128x512 : Shape := ⟨2, ![128, 512]⟩
abbrev S256x128 : Shape := ⟨2, ![256, 128]⟩
abbrev S256x512 : Shape := ⟨2, ![256, 512]⟩
abbrev S4096x128 : Shape := ⟨2, ![4096, 128]⟩
abbrev S512 : Shape := ⟨1, ![512]⟩

abbrev nBuf : Space → Nat
  | .hbm => 69
  | .vmem => 21
  | .smem => 0
  | _ => 0

abbrev bufTy : (tb : Table) → Fin (tcTables nBuf tb) → BufTy
  | .hbm, ⟨0, _⟩ => ⟨S4096x4368, .f32⟩
  | .hbm, ⟨1, _⟩ => ⟨S16x512, .f32⟩
  | .hbm, ⟨2, _⟩ => ⟨S1x512, .f32⟩
  | .hbm, ⟨3, _⟩ => ⟨S4096x512, .f32⟩
  | .hbm, ⟨4, _⟩ => ⟨S4096x3072, .f32⟩
  | .hbm, ⟨5, _⟩ => ⟨S4096x1280, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x4480, .f32⟩
  | .hbm, ⟨10, _⟩ => ⟨S256, .i32⟩
  | .hbm, ⟨11, _⟩ => ⟨S256x1, .i32⟩
  | .hbm, ⟨12, _⟩ => ⟨S_, .i32⟩
  | .hbm, ⟨13, _⟩ => ⟨S_, .i32⟩
  | .hbm, ⟨14, _⟩ => ⟨S256x1, .i32⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x1, .i1⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S1x256, .i32⟩
  | .hbm, ⟨31, _⟩ => ⟨S_, .i32⟩
  | .hbm, ⟨32, _⟩ => ⟨S_, .i32⟩
  | .hbm, ⟨33, _⟩ => ⟨S1x256, .i32⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S1x256, .i1⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S1x256, .i32⟩
  | .hbm, ⟨53, _⟩ => ⟨S256x1, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S256x256, .f32⟩
  | .hbm, ⟨59, _⟩ => ⟨S16x512, .bf16⟩
  | .hbm, ⟨60, _⟩ => ⟨S_, .bf16⟩
  | .hbm, ⟨61, _⟩ => ⟨S112x512, .bf16⟩
  | .hbm, ⟨62, _⟩ => ⟨S128x512, .bf16⟩
  | .hbm, ⟨63, _⟩ => ⟨S4096x512, .f32⟩
  | .hbm, ⟨64, _⟩ => ⟨S4096x512, .f32⟩
  | .hbm, ⟨65, _⟩ => ⟨S256x256, .f32⟩
  | .hbm, ⟨66, _⟩ => ⟨S4096x128, .bf16⟩
  | .hbm, ⟨67, _⟩ => ⟨S128x512, .f32⟩
  | .hbm, ⟨68, _⟩ => ⟨S1x512, .f32⟩
  | .local _ .vmem, ⟨0, _⟩ => ⟨S256x128, .f32⟩
  | .local _ .vmem, ⟨1, _⟩ => ⟨S256x128, .f32⟩
  | .local _ .vmem, ⟨2, _⟩ => ⟨S128x512, .bf16⟩
  | .local _ .vmem, ⟨3, _⟩ => ⟨S1x512, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | .local _ .vmem, ⟨15, _⟩ => ⟨S128x512, .bf16⟩
  | .local _ .vmem, ⟨16, _⟩ => ⟨S256x256, .f32⟩
  | .local _ .vmem, ⟨17, _⟩ => ⟨S256x128, .bf16⟩
  | .local _ .vmem, ⟨18, _⟩ => ⟨S256x128, .bf16⟩
  | .local _ .vmem, ⟨19, _⟩ => ⟨S128x512, .f32⟩
  | .local _ .vmem, ⟨20, _⟩ => ⟨S1x512, .f32⟩
  | _, _ => ⟨S4096x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_v21 : Ref sig .tc := ⟨.hbm, 61, rfl⟩
abbrev main_v22 : Ref sig .tc := ⟨.hbm, 62, rfl⟩
abbrev main_v23_0 : Ref sig .tc := ⟨.hbm, 63, rfl⟩
abbrev main_v23_1 : Ref sig .tc := ⟨.hbm, 64, rfl⟩
abbrev main_v24 : Ref sig .tc := ⟨.hbm, 65, rfl⟩
abbrev main_v25_0 : Ref sig .tc := ⟨.hbm, 66, rfl⟩
abbrev main_v25_1 : Ref sig .tc := ⟨.hbm, 67, rfl⟩
abbrev main_v25_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem7_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c34_i32 : BitVec 32 := 34#32
  let c0_i32 : BitVec 32 := 0#32
  ![arg0.toNat, c34_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== GateReferenceIdeal.lean ====
abbrev S4096x4368 : Shape := ⟨2, ![4096, 4368]⟩
abbrev S16x512 : Shape := ⟨2, ![16, 512]⟩
abbrev S1x512 : Shape := ⟨2, ![1, 512]⟩
abbrev S4096x512 : Shape := ⟨2, ![4096, 512]⟩
abbrev S4096x16 : Shape := ⟨2, ![4096, 16]⟩
abbrev S512 : Shape := ⟨1, ![512]⟩
abbrev S_ : Shape := ⟨0, ![]⟩
abbrev S256x16x512 : Shape := ⟨3, ![256, 16, 512]⟩
abbrev S512x16 : Shape := ⟨2, ![512, 16]⟩
abbrev S4096x128 : Shape := ⟨2, ![4096, 128]⟩
abbrev S128x512 : Shape := ⟨2, ![128, 512]⟩

abbrev nBuf : Space → Nat
  | .hbm => 93
  | .vmem => 0
  | .smem => 0
  | _ => 0

abbrev bufTy : (tb : Table) → Fin (tcTables nBuf tb) → BufTy
  | .hbm, ⟨0, _⟩ => ⟨S4096x4368, .f32⟩
  | .hbm, ⟨1, _⟩ => ⟨S16x512, .f32⟩
  | .hbm, ⟨2, _⟩ => ⟨S1x512, .f32⟩
  | .hbm, ⟨3, _⟩ => ⟨S4096x512, .f32⟩
  | .hbm, ⟨4, _⟩ => ⟨S4096x16, .f32⟩
  | .hbm, ⟨5, _⟩ => ⟨S4096x512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .i1⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .i1⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .i1⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x512, .f32⟩
  | .hbm, ⟨47, _⟩ => ⟨S4096x512, .i1⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S256x16x512, .f32⟩
  | .hbm, ⟨62, _⟩ => ⟨S_, .f32⟩
  | .hbm, ⟨63, _⟩ => ⟨S_, .f32⟩
  | .hbm, ⟨64, _⟩ => ⟨S256x16x512, .f32⟩
  | .hbm, ⟨65, _⟩ => ⟨S4096x512, .f32⟩
  | .hbm, ⟨66, _⟩ => ⟨S256x16x512, .f32⟩
  | .hbm, ⟨67, _⟩ => ⟨S_, .f32⟩
  | .hbm, ⟨68, _⟩ => ⟨S_, .f32⟩
  | .hbm, ⟨69, _⟩ => ⟨S256x16x512, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S512x16, .f32⟩
  | .hbm, ⟨84, _⟩ => ⟨S16x512, .f32⟩
  | .hbm, ⟨85, _⟩ => ⟨S4096x16, .f32⟩
  | .hbm, ⟨86, _⟩ => ⟨S_, .i32⟩
  | .hbm, ⟨87, _⟩ => ⟨S_, .f32⟩
  | .hbm, ⟨88, _⟩ => ⟨S4096x128, .f32⟩
  | .hbm, ⟨89, _⟩ => ⟨S_, .i32⟩
  | .hbm, ⟨90, _⟩ => ⟨S_, .f32⟩
  | .hbm, ⟨91, _⟩ => ⟨S128x512, .f32⟩
  | .hbm, ⟨92, _⟩ => ⟨S4096x128, .bf16⟩
  | _, _ => ⟨S4096x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v6_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v6_2 : Ref sig .tc := ⟨.hbm, 56, rfl⟩
abbrev main_v6_0 : Ref sig .tc := ⟨.hbm, 57, rfl⟩
abbrev main_cst : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_call1_call0_cst : Ref sig .tc := ⟨.hbm, 62, rfl⟩
abbrev main_call1_call0_v0 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_call2_call0_cst : Ref sig .tc := ⟨.hbm, 67, rfl⟩
abbrev main_call2_call0_v0 : Ref sig .tc := ⟨.hbm, 68, rfl⟩
abbrev main_v13 : Ref sig .tc := ⟨.hbm, 69, rfl⟩
abbrev main_v14 : Ref sig .tc := ⟨.hbm, 70, rfl⟩
abbrev main_cst_0 : Ref sig .tc := ⟨.hbm, 71, rfl⟩
abbrev main_v15 : Ref sig .tc := ⟨.hbm, 72, rfl⟩
abbrev main_v16 : Ref sig .tc := ⟨.hbm, 73, rfl⟩
abbrev main_call3_v0 : Ref sig .tc := ⟨.hbm, 74, rfl⟩
abbrev main_call3_v1 : Ref sig .tc := ⟨.hbm, 75, rfl⟩
abbrev main_v17 : Ref sig .tc := ⟨.hbm, 76, rfl⟩
abbrev main_cst_1 : Ref sig .tc := ⟨.hbm, 77, rfl⟩
abbrev main_v18 : Ref sig .tc := ⟨.hbm, 78, rfl⟩
abbrev main_v19 : Ref sig .tc := ⟨.hbm, 79, rfl⟩
abbrev main_cst_2 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_c : Ref sig .tc := ⟨.hbm, 86, rfl⟩
abbrev main_call4_v0 : Ref sig .tc := ⟨.hbm, 87, rfl⟩
abbrev main_v25 : Ref sig .tc := ⟨.hbm, 88, rfl⟩
abbrev main_c_3 : Ref sig .tc := ⟨.hbm, 89, rfl⟩
abbrev main_call5_v0 : Ref sig .tc := ⟨.hbm, 90, rfl⟩
abbrev main_v26 : Ref sig .tc := ⟨.hbm, 91, rfl⟩
abbrev main_v27 : Ref sig .tc := ⟨.hbm, 92, rfl⟩

abbrev nD : Nat := 1
abbrev τ : Topo := Topo.v7x

variable {F : FTy → Type} [FloatOps F]
-- ==== NormFwdKernel.lean ====
abbrev S4096x4x256 : Shape := ⟨3, ![4096, 4, 256]⟩
abbrev S4096x4368 : Shape := ⟨2, ![4096, 4368]⟩
abbrev S1x256 : Shape := ⟨2, ![1, 256]⟩
abbrev S4096x1024 : Shape := ⟨2, ![4096, 1024]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S4096x4x256, .f32⟩
  | .hbm, ⟨1, _⟩ => ⟨S4096x4368, .f32⟩
  | .hbm, ⟨2, _⟩ => ⟨S1x256, .f32⟩
  | .hbm, ⟨3, _⟩ => ⟨S4096x1024, .f32⟩
  | .hbm, ⟨4, _⟩ => ⟨S4096x3072, .f32⟩
  | .hbm, ⟨5, _⟩ => ⟨S4096x1280, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x4480, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x256, .f32⟩
  | .local _ .vmem, ⟨5, _⟩ => ⟨S512x1024, .bf16⟩
  | .local _ .vmem, ⟨6, _⟩ => ⟨S512x1024, .bf16⟩
  | _, _ => ⟨S4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdReferenceIdeal.lean ====
abbrev S4096x4x256 : Shape := ⟨3, ![4096, 4, 256]⟩
abbrev S4096x4368 : Shape := ⟨2, ![4096, 4368]⟩
abbrev S1x256 : Shape := ⟨2, ![1, 256]⟩
abbrev S_ : Shape := ⟨0, ![]⟩
abbrev S4096x4 : Shape := ⟨2, ![4096, 4]⟩
abbrev S4096x4x1 : Shape := ⟨3, ![4096, 4, 1]⟩
abbrev S256 : Shape := ⟨1, ![256]⟩
abbrev S1x1x256 : Shape := ⟨3, ![1, 1, 256]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x4x256, .f32⟩
  | .hbm, ⟨1, _⟩ => ⟨S4096x4368, .f32⟩
  | .hbm, ⟨2, _⟩ => ⟨S1x256, .f32⟩
  | .hbm, ⟨3, _⟩ => ⟨S4096x4x256, .f32⟩
  | .hbm, ⟨4, _⟩ => ⟨S_, .f32⟩
  | .hbm, ⟨5, _⟩ => ⟨S4096x4, .f32⟩
  | .hbm, ⟨6, _⟩ => ⟨S4096x4x1, .f32⟩
  | .hbm, ⟨7, _⟩ => ⟨S_, .f32⟩
  | .hbm, ⟨8, _⟩ => ⟨S4096x4x1, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S4096x4x1, .f32⟩
  | .hbm, ⟨14, _⟩ => ⟨S4096x4x256, .f32⟩
  | .hbm, ⟨15, _⟩ => ⟨S4096x4x256, .f32⟩
  | .hbm, ⟨16, _⟩ => ⟨S256, .f32⟩
  | .hbm, ⟨17, _⟩ => ⟨S1x1x256, .f32⟩
  | .hbm, ⟨18, _⟩ => ⟨S4096x4x256, .f32⟩
  | .hbm, ⟨19, _⟩ => ⟨S4096x4x256, .f32⟩
  | .hbm, ⟨20, _⟩ => ⟨S4096x1024, .f32⟩
  | .hbm, ⟨21, _⟩ => ⟨S4096x4x256, .f32⟩
  | .hbm, ⟨22, _⟩ => ⟨S4096x4x256, .f32⟩
  | .hbm, ⟨23, _⟩ => ⟨S4096x4x256, .f32⟩
  | .hbm, ⟨24, _⟩ => ⟨S_, .f32⟩
  | .hbm, ⟨25, _⟩ => ⟨S4096x4x256, .f32⟩
  | .hbm, ⟨26, _⟩ => ⟨S4096x4x256, .f32⟩
  | .hbm, ⟨27, _⟩ => ⟨S_, .f32⟩
  | .hbm, ⟨28, _⟩ => ⟨S4096x4x256, .f32⟩
  | .hbm, ⟨29, _⟩ => ⟨S4096x4x256, .f32⟩
  | .hbm, ⟨30, _⟩ => ⟨S4096x4x256, .f32⟩
  | .hbm, ⟨31, _⟩ => ⟨S4096x4x256, .f32⟩
  | .hbm, ⟨32, _⟩ => ⟨S4096x1024, .f32⟩
  | .hbm, ⟨33, _⟩ => ⟨S4096x1024, .bf16⟩
  | _, _ => ⟨S4096x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== MixKernel.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== SwaFwdKernel.lean ====
abbrev S4096x4368 : Shape := ⟨2, ![4096, 4368]⟩
abbrev S16 : Shape := ⟨1, ![16]⟩
abbrev S4096x1024 : Shape := ⟨2, ![4096, 1024]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S4096x2048 : Shape := ⟨2, ![4096, 2048]⟩
abbrev S128x1024 : Shape := ⟨2, ![128, 1024]⟩
abbrev S128x128 : Shape := ⟨2, ![128, 128]⟩
abbrev S128x2048 : Shape := ⟨2, ![128, 2048]⟩
abbrev S128x1 : Shape := ⟨2, ![128, 1]⟩
abbrev S1x256 : Shape := ⟨2, ![1, 256]⟩
abbrev S128x256 : Shape := ⟨2, ![128, 256]⟩
abbrev S1x128 : Shape := ⟨2, ![1, 128]⟩
abbrev S256x128 : Shape := ⟨2, ![256, 128]⟩
abbrev S1 : Shape := ⟨1, ![1]⟩
abbrev S128 : Shape := ⟨1, ![128]⟩

abbrev nBuf : Space → Nat
  | .hbm => 11
  | .vmem => 14
  | .smem => 1
  | _ => 0

abbrev bufTy : (tb : Table) → Fin (tcTables nBuf tb) → BufTy
  | .hbm, ⟨0, _⟩ => ⟨S4096x4368, .f32⟩
  | .hbm, ⟨1, _⟩ => ⟨S16, .f32⟩
  | .hbm, ⟨2, _⟩ => ⟨S4096x1024, .f32⟩
  | .hbm, ⟨3, _⟩ => ⟨S4096x3072, .f32⟩
  | .hbm, ⟨4, _⟩ => ⟨S4096x1280, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x4480, .f32⟩
  | .hbm, ⟨9, _⟩ => ⟨S4096x1024, .bf16⟩
  | .hbm, ⟨10, _⟩ => ⟨S4096x2048, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S128x2048, .bf16⟩
  | .local _ .vmem, ⟨13, _⟩ => ⟨S128x2048, .bf16⟩
  | .local _ .smem, ⟨0, _⟩ => ⟨S16, .f32⟩
  | _, _ => ⟨S4096x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  ![v1.toNat, c32_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let c0_i32_0 : BitVec 32 := 0#32
  ![v1.toNat, c33_i32.toNat]

def cc0_transform_5 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwaFwdKernelIdeal.lean ====
variable {F : FTy → Type} [FloatOps F] [Named F]
def κ : String → Option EReal := fun
  | "mask" => some ⊥
  | _ => none
-- ==== SwaFwdReferenceIdeal.lean ====
abbrev S4096x4368 : Shape := ⟨2, ![4096, 4368]⟩
abbrev S16 : Shape := ⟨1, ![16]⟩
abbrev S4096x1024 : Shape := ⟨2, ![4096, 1024]⟩
abbrev S1x4096x16x64 : Shape := ⟨4, ![1, 4096, 16, 64]⟩
abbrev S4096x128 : Shape := ⟨2, ![4096, 128]⟩
abbrev S1x4096x2x64 : Shape := ⟨4, ![1, 4096, 2, 64]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x4096x1024 : Shape := ⟨3, ![1, 4096, 1024]⟩
abbrev S4096x2048 : Shape := ⟨2, ![4096, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x4368, .f32⟩
  | .hbm, ⟨1, _⟩ => ⟨S16, .f32⟩
  | .hbm, ⟨2, _⟩ => ⟨S4096x1024, .f32⟩
  | .hbm, ⟨3, _⟩ => ⟨S4096x1024, .f32⟩
  | .hbm, ⟨4, _⟩ => ⟨S1x4096x16x64, .f32⟩
  | .hbm, ⟨5, _⟩ => ⟨S4096x128, .f32⟩
  | .hbm, ⟨6, _⟩ => ⟨S1x4096x2x64, .f32⟩
  | .hbm, ⟨7, _⟩ => ⟨S4096x128, .f32⟩
  | .hbm, ⟨8, _⟩ => ⟨S1x4096x2x64, .f32⟩
  | .hbm, ⟨9, _⟩ => ⟨S1x32x128x2x8x64, .f32⟩
  | .hbm, ⟨10, _⟩ => ⟨S1x32x128x2x64, .f32⟩
  | .hbm, ⟨11, _⟩ => ⟨S1x1x128x2x64, .f32⟩
  | .hbm, ⟨12, _⟩ => ⟨S_, .f32⟩
  | .hbm, ⟨13, _⟩ => ⟨S1x1x128x2x64, .f32⟩
  | .hbm, ⟨14, _⟩ => ⟨S1x31x128x2x64, .f32⟩
  | .hbm, ⟨15, _⟩ => ⟨S1x32x128x2x64, .f32⟩
  | .hbm, ⟨16, _⟩ => ⟨S1x32x256x2x64, .f32⟩
  | .hbm, ⟨17, _⟩ => ⟨S1x32x128x2x64, .f32⟩
  | .hbm, ⟨18, _⟩ => ⟨S1x1x128x2x64, .f32⟩
  | .hbm, ⟨19, _⟩ => ⟨S_, .f32⟩
  | .hbm, ⟨20, _⟩ => ⟨S1x1x128x2x64, .f32⟩
  | .hbm, ⟨21, _⟩ => ⟨S1x31x128x2x64, .f32⟩
  | .hbm, ⟨22, _⟩ => ⟨S1x32x128x2x64, .f32⟩
  | .hbm, ⟨23, _⟩ => ⟨S1x32x256x2x64, .f32⟩
  | .hbm, ⟨24, _⟩ => ⟨S1x32x2x256x128x8, .f32⟩
  | .hbm, ⟨25, _⟩ => ⟨S1x32x2x8x128x256, .f32⟩
  | .hbm, ⟨26, _⟩ => ⟨S_, .f32⟩
  | .hbm, ⟨27, _⟩ => ⟨S1x32x2x8x128x256, .f32⟩
  | .hbm, ⟨28, _⟩ => ⟨S1x32x2x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S32, .i32⟩
  | .hbm, ⟨44, _⟩ => ⟨S32x1x1, .i32⟩
  | .hbm, ⟨45, _⟩ => ⟨S1x128x256, .i1⟩
  | .hbm, ⟨46, _⟩ => ⟨S_, .i32⟩
  | .hbm, ⟨47, _⟩ => ⟨S32x1x1, .i32⟩
  | .hbm, ⟨48, _⟩ => ⟨S32x1x1, .i1⟩
  | .hbm, ⟨49, _⟩ => ⟨S1x1x256, .i32⟩
  | .hbm, ⟨50, _⟩ => ⟨S_, .i32⟩
  | .hbm, ⟨51, _⟩ => ⟨S1x1x256, .i32⟩
  | .hbm, ⟨52, _⟩ => ⟨S1x1x256, .i1⟩
  | .hbm, ⟨53, _⟩ => ⟨S32x1x256, .i1⟩
  | .hbm, ⟨54, _⟩ => ⟨S32x1x256, .i1⟩
  | .hbm, ⟨55, _⟩ => ⟨S32x1x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S1x32x1x1x128x256, .i1⟩
  | .hbm, ⟨60, _⟩ => ⟨S_, .f32⟩
  | .hbm, ⟨61, _⟩ => ⟨S_, .f32⟩
  | .hbm, ⟨62, _⟩ => ⟨S1x32x2x8x128x256, .i1⟩
  | .hbm, ⟨63, _⟩ => ⟨S1x32x2x8x128x256, .f32⟩
  | .hbm, ⟨64, _⟩ => ⟨S1x32x2x8x128x256, .f32⟩
  | .hbm, ⟨65, _⟩ => ⟨S2x8, .f32⟩
  | .hbm, ⟨66, _⟩ => ⟨S1x1x2x8x1x1, .f32⟩
  | .hbm, ⟨67, _⟩ => ⟨S_, .f32⟩
  | .hbm, ⟨68, _⟩ => ⟨S1x32x2x8x128, .f32⟩
  | .hbm, ⟨69, _⟩ => ⟨S1x32x2x8x128x1, .f32⟩
  | .hbm, ⟨70, _⟩ => ⟨S1x32x2x8x128x1, .f32⟩
  | .hbm, ⟨71, _⟩ => ⟨S1x32x2x8x128x1, .f32⟩
  | .hbm, ⟨72, _⟩ => ⟨S1x32x2x8x128x256, .f32⟩
  | .hbm, ⟨73, _⟩ => ⟨S1x32x2x8x128x256, .f32⟩
  | .hbm, ⟨74, _⟩ => ⟨S1x32x2x8x128x256, .f32⟩
  | .hbm, ⟨75, _⟩ => ⟨S_, .f32⟩
  | .hbm, ⟨76, _⟩ => ⟨S1x32x2x8x128, .f32⟩
  | .hbm, ⟨77, _⟩ => ⟨S1x32x2x8x128x1, .f32⟩
  | .hbm, ⟨78, _⟩ => ⟨S1x32x2x8x128x1, .f32⟩
  | .hbm, ⟨79, _⟩ => ⟨S1x32x2x8x128x1, .f32⟩
  | .hbm, ⟨80, _⟩ => ⟨S1x32x2x8x128x1, .f32⟩
  | .hbm, ⟨81, _⟩ => ⟨S1x32x2x8x128x1, .f32⟩
  | .hbm, ⟨82, _⟩ => ⟨S1x32x2x8x128x256, .f32⟩
  | .hbm, ⟨83, _⟩ => ⟨S1x32x2x8x128x256, .f32⟩
  | .hbm, ⟨84, _⟩ => ⟨S1x32x2x64x8x128, .f32⟩
  | .hbm, ⟨85, _⟩ => ⟨S1x32x128x2x8x64, .f32⟩
  | .hbm, ⟨86, _⟩ => ⟨S1x4096x1024, .f32⟩
  | .hbm, ⟨87, _⟩ => ⟨S4096x1024, .f32⟩
  | .hbm, ⟨88, _⟩ => ⟨S4096x2048, .f32⟩
  | .hbm, ⟨89, _⟩ => ⟨S4096x2048, .bf16⟩
  | _, _ => ⟨S4096x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== GlaFwdKernel.lean ====
abbrev S4096x4368 : Shape := ⟨2, ![4096, 4368]⟩
abbrev S4096x512 : Shape := ⟨2, ![4096, 512]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S4096x1024 : Shape := ⟨2, ![4096, 1024]⟩
abbrev S256x4x256x128 : Shape := ⟨4, ![256, 4, 256, 128]⟩
abbrev S256x128 : Shape := ⟨2, ![256, 128]⟩
abbrev S256x256 : Shape := ⟨2, ![256, 256]⟩
abbrev S16x1x256x128 : Shape := ⟨4, ![16, 1, 256, 128]⟩
abbrev S16x256x128 : Shape := ⟨3, ![16, 256, 128]⟩
abbrev S16x1 : Shape := ⟨2, ![16, 1]⟩
abbrev S1x16 : Shape := ⟨2, ![1, 16]⟩
abbrev S16x128 : Shape := ⟨2, ![16, 128]⟩
abbrev S1x128 : Shape := ⟨2, ![1, 128]⟩
abbrev S16x256 : Shape := ⟨2, ![16, 256]⟩
abbrev S1x256x128 : Shape := ⟨3, ![1, 256, 128]⟩
abbrev S1x1x256x128 : Shape := ⟨4, ![1, 1, 256, 128]⟩
abbrev S16x16 : Shape := ⟨2, ![16, 16]⟩
abbrev S16 : Shape := ⟨1, ![16]⟩

abbrev nBuf : Space → Nat
  | .hbm => 10
  | .vmem => 14
  | .smem => 0
  | _ => 0

abbrev bufTy : (tb : Table) → Fin (tcTables nBuf tb) → BufTy
  | .hbm, ⟨0, _⟩ => ⟨S4096x4368, .f32⟩
  | .hbm, ⟨1, _⟩ => ⟨S4096x512, .f32⟩
  | .hbm, ⟨2, _⟩ => ⟨S4096x3072, .f32⟩
  | .hbm, ⟨3, _⟩ => ⟨S4096x1280, .f32⟩
  | .hbm, ⟨4, _⟩ => ⟨S4096x16, .f32⟩
  | .hbm, ⟨5, _⟩ => ⟨S_, .f32⟩
  | .hbm, ⟨6, _⟩ => ⟨S4096x112, .f32⟩
  | .hbm, ⟨7, _⟩ => ⟨S4096x4480, .f32⟩
  | .hbm, ⟨8, _⟩ => ⟨S4096x1024, .f32⟩
  | .hbm, ⟨9, _⟩ => ⟨S256x4x256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x256, .f32⟩
  | .local _ .vmem, ⟨10, _⟩ => ⟨S16x1x256x128, .f32⟩
  | .local _ .vmem, ⟨11, _⟩ => ⟨S16x1x256x128, .f32⟩
  | .local _ .vmem, ⟨12, _⟩ => ⟨S256x128, .f32⟩
  | .local _ .vmem, ⟨13, _⟩ => ⟨S16x256x128, .f32⟩
  | _, _ => ⟨S4096x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c16_i32_1244 : BitVec 32 := 16#32
  let v6924 : BitVec 32 := Scalar.muli arg10 c16_i32_1244
  v6924
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_1244 : BitVec 32 := 16#32
  let v6924 : BitVec 32 := Scalar.muli arg10 c16_i32_1244
  let v6925 : BitVec 32 := v6924
  let v6926 : Index := Scalar.indexCast v6925
  let c0_1245 : Index := 0#32
  ![v6926.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_1244 : BitVec 32 := 16#32
  let v6924 : BitVec 32 := Scalar.muli arg10 c16_i32_1244
  let v6925 : BitVec 32 := v6924
  let v6936 : Index := Scalar.indexCast v6925
  let c0_1247 : Index := 0#32
  ![v6936.toNat, 0]
def k0_off3 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v6942 : Index := Scalar.indexCast arg10
  let c0_1249 : Index := 0#32
  let c0_1250 : Index := 0#32
  ![v6942.toNat, 0, 0]
@[reducible] def k0_t2_loop : Scf.Loop 32 :=
  let c0_i32_4 : BitVec 32 := 0#32
  let c16_i32_5 : BitVec 32 := 16#32
  let v7 : BitVec 32 := Scalar.addi c0_i32_4 c16_i32_5
  let c1_i32_6 : BitVec 32 := 1#32
  ⟨c0_i32_4, v7, c1_i32_6⟩
def k0_off4 (k0_t2 : Fin k0_t2_loop.trips) : Fin 4 → Nat :=
  let c0_i32_4 : BitVec 32 := 0#32
  let c1_i32_6 : BitVec 32 := 1#32
  let arg10 : BitVec 32 := Scf.iv c0_i32_4 c1_i32_6 k0_t2
  let v6924 : Index := Scalar.indexCast arg10
  let c0_1244 : Index := 0#32
  let c0_1245 : Index := 0#32
  let c0_1246 : Index := 0#32
  ![v6924.toNat, 0, 0, 0]
def k0_mult2 (k0_t2 : Fin k0_t2_loop.trips) : BitVec 32 :=
  let c0_i32_4 : BitVec 32 := 0#32
  let c1_i32_6 : BitVec 32 := 1#32
  let arg10 : BitVec 32 := Scf.iv c0_i32_4 c1_i32_6 k0_t2
  let c16_i32_1247 : BitVec 32 := 16#32
  let v6928 : BitVec 32 := Scalar.muli arg10 c16_i32_1247
  v6928
def k0_off5 (k0_t2 : Fin k0_t2_loop.trips) : Fin 2 → Nat :=
  let c0_i32_4 : BitVec 32 := 0#32
  let c1_i32_6 : BitVec 32 := 1#32
  let arg10 : BitVec 32 := Scf.iv c0_i32_4 c1_i32_6 k0_t2
  let c16_i32_1247 : BitVec 32 := 16#32
  let v6928 : BitVec 32 := Scalar.muli arg10 c16_i32_1247
  let v6929 : BitVec 32 := v6928
  let v6930 : Index := Scalar.indexCast v6929
  let c0_1248 : Index := 0#32
  ![v6930.toNat, 0]
def k0_off6 (k0_t2 : Fin k0_t2_loop.trips) : Fin 3 → Nat :=
  let c0_i32_4 : BitVec 32 := 0#32
  let c1_i32_6 : BitVec 32 := 1#32
  let arg10 : BitVec 32 := Scf.iv c0_i32_4 c1_i32_6 k0_t2
  let v6936 : Index := Scalar.indexCast arg10
  let c0_1249 : Index := 0#32
  let c0_1250 : Index := 0#32
  ![v6936.toNat, 0, 0]
def k0_mult3 : BitVec 32 :=
  let c0_i32_10 : BitVec 32 := 0#32
  let c16_i32_11 : BitVec 32 := 16#32
  let v12 : BitVec 32 := Scalar.muli c0_i32_10 c16_i32_11
  v12
def k0_off7 (c0_i32_10 : BitVec 32) : Fin 2 → Nat :=
  let c16_i32_11 : BitVec 32 := 16#32
  let v12 : BitVec 32 := Scalar.muli c0_i32_10 c16_i32_11
  let v13 : BitVec 32 := v12
  let v14 : Index := Scalar.indexCast v13
  let c0_12 : Index := 0#32
  ![v14.toNat, 0]
def k0_off8 (c0_i32_10 : BitVec 32) : Fin 2 → Nat :=
  let c16_i32_11 : BitVec 32 := 16#32
  let v12 : BitVec 32 := Scalar.muli c0_i32_10 c16_i32_11
  let v13 : BitVec 32 := v12
  let v436 : Index := Scalar.indexCast v13
  let c0_70 : Index := 0#32
  ![v436.toNat, 0]
def k0_mult4 : BitVec 32 :=
  let c1_i32_73 : BitVec 32 := 1#32
  let c16_i32_74 : BitVec 32 := 16#32
  let v444 : BitVec 32 := Scalar.muli c1_i32_73 c16_i32_74
  v444
def k0_mult5 : BitVec 32 :=
  let c2_i32_151 : BitVec 32 := 2#32
  let c16_i32_152 : BitVec 32 := 16#32
  let v876 : BitVec 32 := Scalar.muli c2_i32_151 c16_i32_152
  v876
def k0_mult6 : BitVec 32 :=
  let c3_i32_229 : BitVec 32 := 3#32
  let c16_i32_230 : BitVec 32 := 16#32
  let v1308 : BitVec 32 := Scalar.muli c3_i32_229 c16_i32_230
  v1308
def k0_mult7 : BitVec 32 :=
  let c4_i32_307 : BitVec 32 := 4#32
  let c16_i32_308 : BitVec 32 := 16#32
  let v1740 : BitVec 32 := Scalar.muli c4_i32_307 c16_i32_308
  v1740
def k0_mult8 : BitVec 32 :=
  let c5_i32_385 : BitVec 32 := 5#32
  let c16_i32_386 : BitVec 32 := 16#32
  let v2172 : BitVec 32 := Scalar.muli c5_i32_385 c16_i32_386
  v2172
def k0_mult9 : BitVec 32 :=
  let c6_i32_463 : BitVec 32 := 6#32
  let c16_i32_464 : BitVec 32 := 16#32
  let v2604 : BitVec 32 := Scalar.muli c6_i32_463 c16_i32_464
  v2604
def k0_mult10 : BitVec 32 :=
  let c7_i32_541 : BitVec 32 := 7#32
  let c16_i32_542 : BitVec 32 := 16#32
  let v3036 : BitVec 32 := Scalar.muli c7_i32_541 c16_i32_542
  v3036
def k0_mult11 : BitVec 32 :=
  let c8_i32_619 : BitVec 32 := 8#32
  let c16_i32_620 : BitVec 32 := 16#32
  let v3468 : BitVec 32 := Scalar.muli c8_i32_619 c16_i32_620
  v3468
def k0_mult12 : BitVec 32 :=
  let c9_i32_697 : BitVec 32 := 9#32
  let c16_i32_698 : BitVec 32 := 16#32
  let v3900 : BitVec 32 := Scalar.muli c9_i32_697 c16_i32_698
  v3900
def k0_mult13 : BitVec 32 :=
  let c10_i32_775 : BitVec 32 := 10#32
  let c16_i32_776 : BitVec 32 := 16#32
  let v4332 : BitVec 32 := Scalar.muli c10_i32_775 c16_i32_776
  v4332
def k0_mult14 : BitVec 32 :=
  let c11_i32_853 : BitVec 32 := 11#32
  let c16_i32_854 : BitVec 32 := 16#32
  let v4764 : BitVec 32 := Scalar.muli c11_i32_853 c16_i32_854
  v4764
def k0_mult15 : BitVec 32 :=
  let c12_i32_931 : BitVec 32 := 12#32
  let c16_i32_932 : BitVec 32 := 16#32
  let v5196 : BitVec 32 := Scalar.muli c12_i32_931 c16_i32_932
  v5196
def k0_mult16 : BitVec 32 :=
  let c13_i32_1009 : BitVec 32 := 13#32
  let c16_i32_1010 : BitVec 32 := 16#32
  let v5628 : BitVec 32 := Scalar.muli c13_i32_1009 c16_i32_1010
  v5628
def k0_mult17 : BitVec 32 :=
  let c14_i32_1087 : BitVec 32 := 14#32
  let c16_i32_1088 : BitVec 32 := 16#32
  let v6060 : BitVec 32 := Scalar.muli c14_i32_1087 c16_i32_1088
  v6060
def k0_mult18 : BitVec 32 :=
  let c15_i32_1165 : BitVec 32 := 15#32
  let c16_i32_1166 : BitVec 32 := 16#32
  let v6492 : BitVec 32 := Scalar.muli c15_i32_1165 c16_i32_1166
  v6492
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaBwdKernel.lean ====
abbrev S4096x4368 : Shape := ⟨2, ![4096, 4368]⟩
abbrev S4096x512 : Shape := ⟨2, ![4096, 512]⟩
abbrev S4096x1024 : Shape := ⟨2, ![4096, 1024]⟩
abbrev S256x4x256x128 : Shape := ⟨4, ![256, 4, 256, 128]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩
abbrev S256x128 : Shape := ⟨2, ![256, 128]⟩
abbrev S256x256 : Shape := ⟨2, ![256, 256]⟩
abbrev S16x1x256x128 : Shape := ⟨4, ![16, 1, 256, 128]⟩
abbrev S16x1 : Shape := ⟨2, ![16, 1]⟩
abbrev S16x128 : Shape := ⟨2, ![16, 128]⟩
abbrev S16x256 : Shape := ⟨2, ![16, 256]⟩
abbrev S1x1x256x128 : Shape := ⟨4, ![1, 1, 256, 128]⟩
abbrev S1x128 : Shape := ⟨2, ![1, 128]⟩
abbrev S16 : Shape := ⟨1, ![16]⟩
abbrev S1x256 : Shape := ⟨2, ![1, 256]⟩
abbrev S128 : Shape := ⟨1, ![128]⟩

abbrev nBuf : Space → Nat
  | .hbm => 14
  | .vmem => 21
  | .smem => 0
  | _ => 0

abbrev bufTy : (tb : Table) → Fin (tcTables nBuf tb) → BufTy
  | .hbm, ⟨0, _⟩ => ⟨S4096x4368, .f32⟩
  | .hbm, ⟨1, _⟩ => ⟨S4096x512, .f32⟩
  | .hbm, ⟨2, _⟩ => ⟨S4096x1024, .f32⟩
  | .hbm, ⟨3, _⟩ => ⟨S256x4x256x128, .f32⟩
  | .hbm, ⟨4, _⟩ => ⟨S4096x3072, .f32⟩
  | .hbm, ⟨5, _⟩ => ⟨S4096x1280, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x4480, .f32⟩
  | .hbm, ⟨10, _⟩ => ⟨S4096x512, .bf16⟩
  | .hbm, ⟨11, _⟩ => ⟨S4096x512, .bf16⟩
  | .hbm, ⟨12, _⟩ => ⟨S4096x1024, .bf16⟩
  | .hbm, ⟨13, _⟩ => ⟨S4096x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x256, .f32⟩
  | .local _ .vmem, ⟨10, _⟩ => ⟨S16x1x256x128, .f32⟩
  | .local _ .vmem, ⟨11, _⟩ => ⟨S16x1x256x128, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x256, .bf16⟩
  | .local _ .vmem, ⟨17, _⟩ => ⟨S256x256, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | _, _ => ⟨S4096x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_mult1 (k0_t1 : Fin k0_t1_loop.trips) : BitVec 32 :=
  let c15_i32 : BitVec 32 := 15#32
  let c0_i32_1 : BitVec 32 := 0#32
  let c1_i32 : BitVec 32 := 1#32
  let arg13 : BitVec 32 := Scf.iv c0_i32_1 c1_i32 k0_t1
  let v5 : BitVec 32 := Scalar.subi c15_i32 arg13
  let c16_i32_3 : BitVec 32 := 16#32
  let v6 : BitVec 32 := Scalar.muli v5 c16_i32_3
  v6
def k0_off1 (k0_t1 : Fin k0_t1_loop.trips) : Fin 2 → Nat :=
  let c15_i32 : BitVec 32 := 15#32
  let c0_i32_1 : BitVec 32 := 0#32
  let c1_i32 : BitVec 32 := 1#32
  let arg13 : BitVec 32 := Scf.iv c0_i32_1 c1_i32 k0_t1
  let v5 : BitVec 32 := Scalar.subi c15_i32 arg13
  let c16_i32_3 : BitVec 32 := 16#32
  let v6 : BitVec 32 := Scalar.muli v5 c16_i32_3
  let v7 : BitVec 32 := v6
  let v8 : Index := Scalar.indexCast v7
  let c0 : Index := 0#32
  ![v8.toNat, 0]
def k0_off2 (k0_t1 : Fin k0_t1_loop.trips) : Fin 2 → Nat :=
  let c15_i32 : BitVec 32 := 15#32
  let c0_i32_1 : BitVec 32 := 0#32
  let c1_i32 : BitVec 32 := 1#32
  let arg13 : BitVec 32 := Scf.iv c0_i32_1 c1_i32 k0_t1
  let v5 : BitVec 32 := Scalar.subi c15_i32 arg13
  let c16_i32_3 : BitVec 32 := 16#32
  let v6 : BitVec 32 := Scalar.muli v5 c16_i32_3
  let v7 : BitVec 32 := v6
  let v16 : Index := Scalar.indexCast v7
  let c0_5 : Index := 0#32
  ![v16.toNat, 0]
def k0_off3 (k0_t1 : Fin k0_t1_loop.trips) : Fin 4 → Nat :=
  let c15_i32 : BitVec 32 := 15#32
  let c0_i32_1 : BitVec 32 := 0#32
  let c1_i32 : BitVec 32 := 1#32
  let arg13 : BitVec 32 := Scf.iv c0_i32_1 c1_i32 k0_t1
  let v5 : BitVec 32 := Scalar.subi c15_i32 arg13
  let v23 : Index := Scalar.indexCast v5
  let c0_8 : Index := 0#32
  let c0_9 : Index := 0#32
  let c0_10 : Index := 0#32
  ![v23.toNat, 0, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlpUpBwdKernel.lean ====
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S4096x8192, .bf16⟩
  | .hbm, ⟨6, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_16 : BitVec 32 := 0#32
  let v25 : BitVec 1 := Scalar.cmpi .ne v24 c0_i32_16
  v25

def k0_cond2 (i : grid0.Coords) : BitVec 1 :=
  let arg2 : BitVec 32 := BitVec.ofNat 32 (i 2).val
  let c0_i32_17 : BitVec 32 := 0#32
  let v26 : BitVec 1 := Scalar.cmpi .sgt arg2 c0_i32_17
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpBwdReferenceIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GradWDownKernel.lean ====
abbrev S4096x8192 : Shape := ⟨2, ![4096, 8192]⟩
abbrev S4096x2048 : Shape := ⟨2, ![4096, 2048]⟩
abbrev S8x1024x2048 : Shape := ⟨3, ![8, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWDownReferenceIdeal.lean ====
abbrev S4096x8192 : Shape := ⟨2, ![4096, 8192]⟩
abbrev S4096x2048 : Shape := ⟨2, ![4096, 2048]⟩
abbrev S_ : Shape := ⟨0, ![]⟩
abbrev S8x1024x2048 : Shape := ⟨3, ![8, 1024, 2048]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8x1024x2048, .f32⟩
  | .hbm, ⟨4, _⟩ => ⟨S8192x2048, .f32⟩
  | .hbm, ⟨5, _⟩ => ⟨S4096x2048, .f32⟩
  | .hbm, ⟨6, _⟩ => ⟨S2048x8192, .f32⟩
  | .hbm, ⟨7, _⟩ => ⟨S8192x2048, .f32⟩
  | .hbm, ⟨8, _⟩ => ⟨S8x1024x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradXKernel.lean ====
abbrev S2048x4368 : Shape := ⟨2, ![2048, 4368]⟩
abbrev S4096x4368 : Shape := ⟨2, ![4096, 4368]⟩
abbrev S4096x2048 : Shape := ⟨2, ![4096, 2048]⟩
abbrev S_ : Shape := ⟨0, ![]⟩
abbrev S4096x112 : Shape := ⟨2, ![4096, 112]⟩
abbrev S4096x4480 : Shape := ⟨2, ![4096, 4480]⟩
abbrev S4368x2048 : Shape := ⟨2, ![4368, 2048]⟩
abbrev S112x2048 : Shape := ⟨2, ![112, 2048]⟩
abbrev S4480x2048 : Shape := ⟨2, ![4480, 2048]⟩
abbrev S512x4480 : Shape := ⟨2, ![512, 4480]⟩
abbrev S4480x1024 : Shape := ⟨2, ![4480, 1024]⟩
abbrev S512x1024 : Shape := ⟨2, ![512, 1024]⟩
abbrev S128x1024 : Shape := ⟨2, ![128, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2048x4368, .f32⟩
  | .hbm, ⟨1, _⟩ => ⟨S4096x4368, .f32⟩
  | .hbm, ⟨2, _⟩ => ⟨S4096x2048, .f32⟩
  | .hbm, ⟨3, _⟩ => ⟨S4096x4368, .bf16⟩
  | .hbm, ⟨4, _⟩ => ⟨S_, .bf16⟩
  | .hbm, ⟨5, _⟩ => ⟨S4096x112, .bf16⟩
  | .hbm, ⟨6, _⟩ => ⟨S4096x4480, .bf16⟩
  | .hbm, ⟨7, _⟩ => ⟨S2048x4368, .bf16⟩
  | .hbm, ⟨8, _⟩ => ⟨S4368x2048, .bf16⟩
  | .hbm, ⟨9, _⟩ => ⟨S_, .bf16⟩
  | .hbm, ⟨10, _⟩ => ⟨S112x2048, .bf16⟩
  | .hbm, ⟨11, _⟩ => ⟨S4480x2048, .bf16⟩
  | .hbm, ⟨12, _⟩ => ⟨S4096x2048, .f32⟩
  | .local _ .vmem, ⟨0, _⟩ => ⟨S512x4480, .bf16⟩
  | .local _ .vmem, ⟨1, _⟩ => ⟨S512x4480, .bf16⟩
  | .local _ .vmem, ⟨2, _⟩ => ⟨S4480x1024, .bf16⟩
  | .local _ .vmem, ⟨3, _⟩ => ⟨S4480x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4480x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXReferenceIdeal.lean ====
abbrev S2048x4368 : Shape := ⟨2, ![2048, 4368]⟩
abbrev S4096x4368 : Shape := ⟨2, ![4096, 4368]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x4368, .f32⟩
  | .hbm, ⟨1, _⟩ => ⟨S4096x4368, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x4368, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S2048x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== AdamKernel.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamReferenceIdeal.lean ====
abbrev S16x64 : Shape := ⟨2, ![16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S_, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DcatKernel.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GradWUpKernel.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S8x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWUpReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWOutKernel.lean ====
abbrev S4096x2048 : Shape := ⟨2, ![4096, 2048]⟩
abbrev S8x256x2048 : Shape := ⟨3, ![8, 256, 2048]⟩
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S8x256x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4x256x1024, .f32⟩
  | .local _ .vmem, ⟨5, _⟩ => ⟨S4x256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWOutReferenceIdeal.lean ====
abbrev S4096x2048 : Shape := ⟨2, ![4096, 2048]⟩
abbrev S_ : Shape := ⟨0, ![]⟩
abbrev S8x256x2048 : Shape := ⟨3, ![8, 256, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S8x256x2048, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S8x256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpDownKernel.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x8192, .bf16⟩
  | .hbm, ⟨3, _⟩ => ⟨S8192x2048, .bf16⟩
  | .hbm, ⟨4, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjKernel.lean ====
abbrev S4096x2048 : Shape := ⟨2, ![4096, 2048]⟩
abbrev S2048x4368 : Shape := ⟨2, ![2048, 4368]⟩
abbrev S4368x2048 : Shape := ⟨2, ![4368, 2048]⟩
abbrev S_ : Shape := ⟨0, ![]⟩
abbrev S112x2048 : Shape := ⟨2, ![112, 2048]⟩
abbrev S3072x2048 : Shape := ⟨2, ![3072, 2048]⟩
abbrev S1280x2048 : Shape := ⟨2, ![1280, 2048]⟩
abbrev S16x2048 : Shape := ⟨2, ![16, 2048]⟩
abbrev S4480x2048 : Shape := ⟨2, ![4480, 2048]⟩
abbrev S4096x4480 : Shape := ⟨2, ![4096, 4480]⟩
abbrev S2048x2048 : Shape := ⟨2, ![2048, 2048]⟩
abbrev S896x2048 : Shape := ⟨2, ![896, 2048]⟩
abbrev S2048x896 : Shape := ⟨2, ![2048, 896]⟩

abbrev nBuf : Space → Nat
  | .hbm => 12
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4368, .f32⟩
  | .hbm, ⟨2, _⟩ => ⟨S4096x2048, .bf16⟩
  | .hbm, ⟨3, _⟩ => ⟨S2048x4368, .bf16⟩
  | .hbm, ⟨4, _⟩ => ⟨S4368x2048, .bf16⟩
  | .hbm, ⟨5, _⟩ => ⟨S_, .bf16⟩
  | .hbm, ⟨6, _⟩ => ⟨S112x2048, .bf16⟩
  | .hbm, ⟨7, _⟩ => ⟨S3072x2048, .bf16⟩
  | .hbm, ⟨8, _⟩ => ⟨S1280x2048, .bf16⟩
  | .hbm, ⟨9, _⟩ => ⟨S16x2048, .bf16⟩
  | .hbm, ⟨10, _⟩ => ⟨S4480x2048, .bf16⟩
  | .hbm, ⟨11, _⟩ => ⟨S4096x4480, .f32⟩
  | .local _ .vmem, ⟨0, _⟩ => ⟨S2048x2048, .bf16⟩
  | .local _ .vmem, ⟨1, _⟩ => ⟨S2048x2048, .bf16⟩
  | .local _ .vmem, ⟨2, _⟩ => ⟨S896x2048, .bf16⟩
  | .local _ .vmem, ⟨3, _⟩ => ⟨S896x2048, .bf16⟩
  | .local _ .vmem, ⟨4, _⟩ => ⟨S2048x896, .f32⟩
  | .local _ .vmem, ⟨5, _⟩ => ⟨S2048x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S896x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x2048 : Shape := ⟨2, ![4096, 2048]⟩
abbrev S2048x4368 : Shape := ⟨2, ![2048, 4368]⟩
abbrev S4096x4368 : Shape := ⟨2, ![4096, 4368]⟩
abbrev S4096x3072 : Shape := ⟨2, ![4096, 3072]⟩
abbrev S4096x1280 : Shape := ⟨2, ![4096, 1280]⟩
abbrev S4096x16 : Shape := ⟨2, ![4096, 16]⟩
abbrev S_ : Shape := ⟨0, ![]⟩
abbrev S4096x112 : Shape := ⟨2, ![4096, 112]⟩
abbrev S4096x4480 : Shape := ⟨2, ![4096, 4480]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4368, .f32⟩
  | .hbm, ⟨2, _⟩ => ⟨S4096x4368, .f32⟩
  | .hbm, ⟨3, _⟩ => ⟨S4096x3072, .f32⟩
  | .hbm, ⟨4, _⟩ => ⟨S4096x1280, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x4480, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWInKernel.lean ====
abbrev S4096x2048 : Shape := ⟨2, ![4096, 2048]⟩
abbrev S4096x4368 : Shape := ⟨2, ![4096, 4368]⟩
abbrev S_ : Shape := ⟨0, ![]⟩
abbrev S4096x112 : Shape := ⟨2, ![4096, 112]⟩
abbrev S4096x4480 : Shape := ⟨2, ![4096, 4480]⟩
abbrev S4368x2048 : Shape := ⟨2, ![4368, 2048]⟩
abbrev S4096x896 : Shape := ⟨2, ![4096, 896]⟩
abbrev S4096x1024 : Shape := ⟨2, ![4096, 1024]⟩
abbrev S896x1024 : Shape := ⟨2, ![896, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4368, .f32⟩
  | .hbm, ⟨2, _⟩ => ⟨S4096x4368, .bf16⟩
  | .hbm, ⟨3, _⟩ => ⟨S_, .bf16⟩
  | .hbm, ⟨4, _⟩ => ⟨S4096x112, .bf16⟩
  | .hbm, ⟨5, _⟩ => ⟨S4096x4480, .bf16⟩
  | .hbm, ⟨6, _⟩ => ⟨S4096x2048, .bf16⟩
  | .hbm, ⟨7, _⟩ => ⟨S4368x2048, .f32⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S4096x1024, .bf16⟩
  | .local _ .vmem, ⟨4, _⟩ => ⟨S896x1024, .f32⟩
  | .local _ .vmem, ⟨5, _⟩ => ⟨S896x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInReferenceIdeal.lean ====
abbrev S4096x2048 : Shape := ⟨2, ![4096, 2048]⟩
abbrev S4096x4368 : Shape := ⟨2, ![4096, 4368]⟩
abbrev S_ : Shape := ⟨0, ![]⟩
abbrev S4368x2048 : Shape := ⟨2, ![4368, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4368, .f32⟩
  | .hbm, ⟨2, _⟩ => ⟨S_, .f32⟩
  | .hbm, ⟨3, _⟩ => ⟨S4368x2048, .f32⟩
  | .hbm, ⟨4, _⟩ => ⟨S4096x4368, .f32⟩
  | .hbm, ⟨5, _⟩ => ⟨S4368x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Lift.lean ====
/- Extended reals that are real numbers: how the operations of the model read on them, and how a
   precondition `jnp.all(jnp.abs(x) < jnp.inf)` makes an array one of them. -/
module

public import Idealize.ShloMosaic.Lib.Pointwise
public import Idealize.ShloMosaic.Lib.ReduceAll

@[expose] public section

noncomputable section

namespace Cert.Lift

open Idealize.ShloMosaic

/-- A finite sum of reals, each read as an extended real, is their real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division of reals by a nonzero real. -/
theorem div_real {a b : ℝ} (h : b ≠ 0) : Ideal.div (a : EReal) (b : EReal) = ((a / b : ℝ) : EReal) := by
  rw [Ideal.div_coe h, ← EReal.coe_mul, mul_one_div]

/-- Division of a real by one. -/
theorem div_one_real (a : ℝ) : Ideal.div (a : EReal) 1 = (a : EReal) := by
  rw [← EReal.coe_one, div_real one_ne_zero, div_one]

/-- Division of one by a nonzero real. -/
theorem one_div_real {b : ℝ} (h : b ≠ 0) : Ideal.div 1 (b : EReal) = ((1 / b : ℝ) : EReal) := by
  rw [← EReal.coe_one, div_real h]

/-- The reciprocal square root of a positive real. -/
theorem rsqrt_real {a : ℝ} (h : 0 < a) : Ideal.rsqrt (a : EReal) = (((Real.sqrt a)⁻¹ : ℝ) : EReal) := by
  rw [Ideal.rsqrt_coe, if_neg h.not_gt, if_neg h.ne']

/-- The larger of two reals. -/
theorem max_real (a b : ℝ) : max (a : EReal) (b : EReal) = ((max a b : ℝ) : EReal) :=
  (EReal.coe_strictMono.monotone.map_max (a := a) (b := b)).symm

/-- The word of positive infinity. -/
theorem ofBits_inf : Ideal.ofBits .f32 0x7F800000#32 = ⊤ := by
  simp [Ideal.ofBits, Ideal.ieee]

/-- An extended real whose absolute value is below infinity is a real number. -/
theorem real_of_abs_lt (a : EReal) (h : Ideal.cmp .olt (max a (-a)) (Ideal.ofBits .f32 0x7F800000#32) = 1#1) :
    a = ((a.toReal : ℝ) : EReal) := by
  rw [ofBits_inf] at h
  have h' : max a (-a) < ⊤ := by
    by_contra hc
    simp [Ideal.cmp, hc] at h
  rw [EReal.coe_toReal]
  · rintro rfl; simp at h'
  · rintro rfl; simp at h'

instance : Subsingleton (⟨0, ![]⟩ : Shape).Idx := ⟨fun a b => funext fun i => i.elim0⟩

/-- `jnp.all(jnp.abs(x) < jnp.inf)` says that every element is a real number. -/
theorem real_of_all {s u : Shape} {axes : List (Fin s.rank)} (x : FVec Ideal s .f32) (dims : Fin 0 → Fin s.rank)
    (hb : (⟨0, ![]⟩ : Shape).BroadcastsInDim s dims) (init : u.Idx → BitVec 1) (h : s.ReducesTo axes ⟨0, ![]⟩) (hu : 0 < u.numel)
    (j : (⟨0, ![]⟩ : Shape).Idx)
    (e : Host.reduce IntOp.andi (cmpf .olt (Host.absf x) (broadcastInDim s dims hb (constant (F := Ideal) ⟨0, ![]⟩ .f32 0x7F800000#32))) init h hu j = 1#1) (i : s.Idx) :
    x i = (((x i).toReal : ℝ) : EReal) :=
  real_of_abs_lt _ (Host.reduce_andi_all _ init h hu j e i)

/-- The value 1/2 of a float word. -/
theorem ofBits_half : Ideal.ofBits .f32 0x3F000000#32 = ((1 / 2 : ℝ) : EReal) := by
  simp [Ideal.ofBits, Ideal.ieee, -EReal.coe_mul]; norm_num

/-- The value −1/2 of a float word. -/
theorem ofBits_neg_half : Ideal.ofBits .f32 0xBF000000#32 = ((-(1 / 2) : ℝ) : EReal) := by
  simp [Ideal.ofBits, Ideal.ieee, -EReal.coe_mul]; norm_num

/-- The value 2 of a float word. -/
theorem ofBits_two : Ideal.ofBits .f32 0x40000000#32 = ((2 : ℝ) : EReal) := by
  simp [Ideal.ofBits, Ideal.ieee, -EReal.coe_mul]; norm_num

/-- The value 256 of a float word. -/
theorem ofBits_256 : Ideal.ofBits .f32 0x43800000#32 = ((256 : ℝ) : EReal) := by
  simp [Ideal.ofBits, Ideal.ieee, -EReal.coe_mul]; norm_num

/-- The value of the float word nearest 1e-5. -/
def eps : ℝ := 10995116 * 2 ^ (-40 : ℤ)

/-- The norms' small constant is positive. -/
theorem eps_pos : 0 < eps := by unfold eps; positivity

/-- The float that both programs write for it is that number. -/
theorem ofBits_eps : Ideal.ofBits .f32 0x3727C5AC#32 = (eps : EReal) := by
  simp [Ideal.ofBits, Ideal.ieee, eps, -EReal.coe_mul]

/-- The host's sum over the first two of three axes, read at an index. -/
theorem hostReduceAdd_first_two {a b c : ℕ} (h : (⟨3, ![a, b, c]⟩ : Shape).ReducesTo [0, 1] ⟨1, ![c]⟩)
    (x : (⟨3, ![a, b, c]⟩ : Shape).Idx → EReal) (init : EReal) (l : Fin c) :
    Ideal.hostReduceAdd h x init (ix1 l) = init + ∑ p : Fin a, ∑ q : Fin b, x (ix3 p q l) := by
  unfold Ideal.hostReduceAdd
  rw [Finset.sum_filter, sum_idx3]
  refine congrArg _ (Finset.sum_congr rfl fun p _ => Finset.sum_congr rfl fun q _ => ?_)
  rw [Finset.sum_eq_single l]
  · rw [if_pos]
    funext d; fin_cases d; rfl
  · intro k _ hk
    rw [if_neg]
    intro hc
    exact hk (congrFun hc 0)
  · intro hl; exact absurd (Finset.mem_univ _) hl

end Cert.Lift

end
-- ==== Proof.NormMath.lean ====
/- The gradient of a gated root-mean-square normalisation of one row of 256 numbers, over the reals. -/
module

public import proofs.«01_k».proof.Proof.Lift

@[expose] public section

noncomputable section

namespace Cert.NormMath

open Cert.Lift

/-- The mean of the squares of a row, plus the constant of the norm. -/
def ms (o : Fin 256 → ℝ) : ℝ := (∑ k, o k * o k) / 256 + eps

/-- The mean square with the small constant added is positive. -/
theorem ms_pos (o : Fin 256 → ℝ) : 0 < ms o :=
  add_pos_of_nonneg_of_pos (div_nonneg (Finset.sum_nonneg fun k _ => mul_self_nonneg _) (by norm_num)) eps_pos

/-- The factor a row is scaled by. -/
def r (o : Fin 256 → ℝ) : ℝ := (Real.sqrt (ms o))⁻¹

/-- The sum of squares over 256, with the small constant, is the mean square. -/
theorem ms_fold (o : Fin 256 → ℝ) : (∑ k, o k * o k) / 256 + eps = ms o := rfl

/-- The inverse root squared is the inverse of the mean square. -/
theorem r_mul_r (o : Fin 256 → ℝ) : r o * r o = 1 / ms o := by
  unfold r
  rw [← mul_inv, Real.mul_self_sqrt (ms_pos o).le, one_div]

/-- The logistic function. -/
def sig (x : ℝ) : ℝ := (1 + Real.exp (-x))⁻¹

/-- The sigmoid's denominator is positive. -/
theorem one_add_exp_pos (x : ℝ) : 0 < 1 + Real.exp (-x) := by positivity

/-- The sigmoid, written as a quotient. -/
theorem sig_fold (x : ℝ) : 1 / (1 + Real.exp (-x)) = sig x := one_div _

/-- The inverse root of the mean square. -/
theorem r_fold (o : Fin 256 → ℝ) : (Real.sqrt (ms o))⁻¹ = r o := rfl

/-- The gradient with respect to the row, `d` being the cotangent, `g` the gate's argument, `w` the weight. -/
def dO (o g d w : Fin 256 → ℝ) (l : Fin 256) : ℝ :=
  r o * (d l * w l * (g l * sig (g l)) - o l * r o * ((∑ k, d k * w k * (g k * sig (g k)) * (o k * r o)) / 256))

/-- The gradient with respect to the gate's argument. -/
def dG (o g d w : Fin 256 → ℝ) (l : Fin 256) : ℝ :=
  d l * (o l * r o) * w l * (sig (g l) * (1 + g l * (1 - sig (g l))))

/-- A row's part of the gradient with respect to the weight. -/
def dW (o g d : Fin 256 → ℝ) (l : Fin 256) : ℝ := d l * (o l * r o) * (g l * sig (g l))

/-- The derivative of the norm as the chain rule writes it, through the mean of the squares, is `dO`. -/
theorem dO_chain (o g d w : Fin 256 → ℝ) (l : Fin 256) :
    d l * (g l * sig (g l)) * w l * r o
      + (∑ k, o k * (d k * (g k * sig (g k)) * w k)) * (-(1 / 2) * (r o / ms o)) / 256 * (2 * o l) = dO o g d w l := by
  have h : r o / ms o = r o * (r o * r o) := by rw [r_mul_r, mul_one_div]
  have hs : ∑ k, d k * w k * (g k * sig (g k)) * (o k * r o) = (∑ k, o k * (d k * (g k * sig (g k)) * w k)) * r o := by
    rw [Finset.sum_mul]
    exact Finset.sum_congr rfl fun k _ => by ring
  rw [dO, hs, h]
  ring

end Cert.NormMath

end
-- ==== Proof.NormPoint.lean ====
/- What one grid point of the gated norm's backward kernel leaves in its output blocks, over blocks of reals. -/
module

public import proofs.«01_k».proof.Proof.Gen.NormKernelIdeal.Value
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormPoint

open Cert.NormKernelIdeal Cert.NormKernelIdeal.Gen
open Cert.Lift Cert.NormMath

/-- A block of 512 rows and four heads holds the real numbers `X`. -/
structure Rows (x : FVec Ideal S512x1024 .f32) (X : Fin 512 → Fin 4 → Fin 256 → ℝ) : Prop where
  at0 : ∀ r (l : Fin 256) h, x (ix2 r ⟨↑l, h⟩) = ((X r 0 l : ℝ) : EReal)
  at1 : ∀ r (l : Fin 256) h, x (ix2 r ⟨256 + ↑l, h⟩) = ((X r 1 l : ℝ) : EReal)
  at2 : ∀ r (l : Fin 256) h, x (ix2 r ⟨512 + ↑l, h⟩) = ((X r 2 l : ℝ) : EReal)
  at3 : ∀ r (l : Fin 256) h, x (ix2 r ⟨768 + ↑l, h⟩) = ((X r 3 l : ℝ) : EReal)

/-- Read at a head, whichever it is. -/
theorem Rows.of_head {x : FVec Ideal S512x1024 .f32} {X : Fin 512 → Fin 4 → Fin 256 → ℝ}
    (h : ∀ r (k : Fin 4) (l : Fin 256) hk, x (ix2 r ⟨↑k * 256 + ↑l, hk⟩) = ((X r k l : ℝ) : EReal)) : Rows x X where
  at0 r l hk := by simpa using h r 0 l (by simp; omega)
  at1 r l hk := by simpa using h r 1 l (by simp; omega)
  at2 r l hk := by simpa using h r 2 l (by simp; omega)
  at3 r l hk := by simpa using h r 3 l (by simp; omega)

/-- The sigmoid, written as an inverse. -/
theorem inv_fold (x : ℝ) : (1 + Real.exp (-x))⁻¹ = sig x := rfl

/-- A block's part of the weight's gradient: the sum over its rows and heads. -/
def part (D O G : Fin 512 → Fin 4 → Fin 256 → ℝ) (l : Fin 256) : ℝ := ∑ r, ∑ h, dW (O r h) (G r h) (D r h) l

/-- A block's part of the weight's gradient is the sum of its four heads' parts. -/
theorem part_four (D O G : Fin 512 → Fin 4 → Fin 256 → ℝ) (l : Fin 256) :
    part D O G l = ∑ r, dW (O r 0) (G r 0) (D r 0) l + ∑ r, dW (O r 1) (G r 1) (D r 1) l
      + ∑ r, dW (O r 2) (G r 2) (D r 2) l + ∑ r, dW (O r 3) (G r 3) (D r 3) l := by
  rw [part, Finset.sum_comm, Fin.sum_univ_four]

variable (c : Dev nD) (t : Fin cfg0.N) {x0 x1 x2 : FVec Ideal S512x1024 .f32} {x3 : FVec Ideal S1x256 .f32}
  {D O G : Fin 512 → Fin 4 → Fin 256 → ℝ} {W : Fin 256 → ℝ}
  (hD : Rows x0 D) (hO : Rows x1 O) (hG : Rows x2 G) (hW : ∀ l, x3 (ix2 0 l) = ((W l : ℝ) : EReal))
include hD hO hG

section Blocks
variable (y : S512x1024.Idx) (h : Fin 4) (l : Fin 256) (hy : (y 1).val = ↑h * 256 + ↑l)
include hW hy

set_option maxHeartbeats 1600000 in
/-- At the first point the block of the normalised array's gradient is the real function's. -/
theorem point_4_A (h0 : t.val % 8 = 0) :
    (out0_A_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      ((hcond0_0 t).mpr h0) x0 x1 x2 x3) y
      = ((dO (O (y 0) h) (G (y 0) h) (D (y 0) h) W l : ℝ) : EReal) := by
  frame_out
  canon_tiles p hp
  all_goals (idx_vars p; open_payloads; pointwise)
  all_goals
    simp (disch := first | exact (ms_pos _).ne' | exact ms_pos _ | norm_num) only [hD.at0, hD.at1, hD.at2, hD.at3, hO.at0, hO.at1, hO.at2, hO.at3, hG.at0, hG.at1, hG.at2, hG.at3, hW,
      ofBits_256, ofBits_eps, ← EReal.coe_mul, ← EReal.coe_add, ← EReal.coe_sub, ← EReal.coe_one, ← EReal.coe_zero, coe_sum, div_real,
      Ideal.logistic_coe, rsqrt_real, ms_fold, r_fold, inv_fold, EReal.coe_eq_coe_iff]
    obtain rfl : l = p1 := Fin.ext (by omega)
    obtain rfl : y 0 = p0 := Fin.ext hp0
  exacts [by obtain rfl : h = 3 := Fin.ext (by omega)
             rfl,
    by obtain rfl : h = 2 := Fin.ext (by omega)
       rfl,
    by obtain rfl : h = 1 := Fin.ext (by omega)
       rfl,
    by obtain rfl : h = 0 := Fin.ext (by omega)
       rfl]

set_option maxHeartbeats 1600000 in
/-- At a later point likewise. -/
theorem point_4_B (h0 : ¬t.val % 8 = 0) (xo : FVec Ideal S1x256 .f32) :
    (out0_B_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      (fun h => h0 ((hcond0_0 t).mp h)) x0 x1 x2 x3 xo) y
      = ((dO (O (y 0) h) (G (y 0) h) (D (y 0) h) W l : ℝ) : EReal) := by
  frame_out
  canon_tiles p hp
  all_goals (idx_vars p; open_payloads; pointwise)
  all_goals
    simp (disch := first | exact (ms_pos _).ne' | exact ms_pos _ | norm_num) only [hD.at0, hD.at1, hD.at2, hD.at3, hO.at0, hO.at1, hO.at2, hO.at3, hG.at0, hG.at1, hG.at2, hG.at3, hW,
      ofBits_256, ofBits_eps, ← EReal.coe_mul, ← EReal.coe_add, ← EReal.coe_sub, ← EReal.coe_one, ← EReal.coe_zero, coe_sum, div_real,
      Ideal.logistic_coe, rsqrt_real, ms_fold, r_fold, inv_fold, EReal.coe_eq_coe_iff]
    obtain rfl : l = p1 := Fin.ext (by omega)
    obtain rfl : y 0 = p0 := Fin.ext hp0
  exacts [by obtain rfl : h = 3 := Fin.ext (by omega)
             rfl,
    by obtain rfl : h = 2 := Fin.ext (by omega)
       rfl,
    by obtain rfl : h = 1 := Fin.ext (by omega)
       rfl,
    by obtain rfl : h = 0 := Fin.ext (by omega)
       rfl]

set_option maxHeartbeats 1600000 in
/-- At the first point the block of the gate's gradient is the real function's. -/
theorem point_5_A (h0 : t.val % 8 = 0) :
    (out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      ((hcond0_0 t).mpr h0) x0 x1 x2 x3) y
      = ((dG (O (y 0) h) (G (y 0) h) (D (y 0) h) W l : ℝ) : EReal) := by
  frame_out
  canon_tiles p hp
  all_goals (idx_vars p; open_payloads; pointwise)
  all_goals
    simp (disch := first | exact (ms_pos _).ne' | exact ms_pos _ | norm_num) only [hD.at0, hD.at1, hD.at2, hD.at3, hO.at0, hO.at1, hO.at2, hO.at3, hG.at0, hG.at1, hG.at2, hG.at3, hW,
      ofBits_256, ofBits_eps, ← EReal.coe_mul, ← EReal.coe_add, ← EReal.coe_sub, ← EReal.coe_one, ← EReal.coe_zero, coe_sum, div_real,
      Ideal.logistic_coe, rsqrt_real, ms_fold, r_fold, inv_fold, EReal.coe_eq_coe_iff]
    obtain rfl : l = p1 := Fin.ext (by omega)
    obtain rfl : y 0 = p0 := Fin.ext hp0
  exacts [by obtain rfl : h = 3 := Fin.ext (by omega)
             rfl,
    by obtain rfl : h = 2 := Fin.ext (by omega)
       rfl,
    by obtain rfl : h = 1 := Fin.ext (by omega)
       rfl,
    by obtain rfl : h = 0 := Fin.ext (by omega)
       rfl]

set_option maxHeartbeats 1600000 in
/-- At a later point likewise. -/
theorem point_5_B (h0 : ¬t.val % 8 = 0) (xo : FVec Ideal S1x256 .f32) :
    (out0_B_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      (fun h => h0 ((hcond0_0 t).mp h)) x0 x1 x2 x3 xo) y
      = ((dG (O (y 0) h) (G (y 0) h) (D (y 0) h) W l : ℝ) : EReal) := by
  frame_out
  canon_tiles p hp
  all_goals (idx_vars p; open_payloads; pointwise)
  all_goals
    simp (disch := first | exact (ms_pos _).ne' | exact ms_pos _ | norm_num) only [hD.at0, hD.at1, hD.at2, hD.at3, hO.at0, hO.at1, hO.at2, hO.at3, hG.at0, hG.at1, hG.at2, hG.at3, hW,
      ofBits_256, ofBits_eps, ← EReal.coe_mul, ← EReal.coe_add, ← EReal.coe_sub, ← EReal.coe_one, ← EReal.coe_zero, coe_sum, div_real,
      Ideal.logistic_coe, rsqrt_real, ms_fold, r_fold, inv_fold, EReal.coe_eq_coe_iff]
    obtain rfl : l = p1 := Fin.ext (by omega)
    obtain rfl : y 0 = p0 := Fin.ext hp0
  exacts [by obtain rfl : h = 3 := Fin.ext (by omega)
             rfl,
    by obtain rfl : h = 2 := Fin.ext (by omega)
       rfl,
    by obtain rfl : h = 1 := Fin.ext (by omega)
       rfl,
    by obtain rfl : h = 0 := Fin.ext (by omega)
       rfl]

end Blocks

set_option maxHeartbeats 1600000 in
/-- At the first point the weight's gradient is the sum over the block's rows and heads. -/
theorem point_6_A (h0 : t.val % 8 = 0) (l : Fin 256) :
    (out0_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      ((hcond0_0 t).mpr h0) x0 x1 x2 x3) (ix2 0 l)
      = ((part D O G l : ℝ) : EReal) := by
  frame_out
  open_payloads
  pointwise
  simp (disch := first | exact (ms_pos _).ne' | exact ms_pos _ | norm_num) only [hD.at0, hD.at1, hD.at2, hD.at3, hO.at0, hO.at1, hO.at2, hO.at3, hG.at0, hG.at1, hG.at2, hG.at3,
      ofBits_256, ofBits_eps, ← EReal.coe_mul, ← EReal.coe_add, ← EReal.coe_sub, ← EReal.coe_one, ← EReal.coe_zero, coe_sum, div_real,
      Ideal.logistic_coe, rsqrt_real, ms_fold, r_fold, inv_fold]
  rw [part_four]; rfl

set_option maxHeartbeats 1600000 in
/-- At a later point the block's sum is added to what the point before left. -/
theorem point_6_B (h0 : ¬t.val % 8 = 0) (xo : FVec Ideal S1x256 .f32) (l : Fin 256) :
    (out0_B_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      (fun h => h0 ((hcond0_0 t).mp h)) x0 x1 x2 x3 xo) (ix2 0 l)
      = xo (ix2 0 l) + ((part D O G l : ℝ) : EReal) := by
  frame_out
  open_payloads
  pointwise
  simp (disch := first | exact (ms_pos _).ne' | exact ms_pos _ | norm_num) only [hD.at0, hD.at1, hD.at2, hD.at3, hO.at0, hO.at1, hO.at2, hO.at3, hG.at0, hG.at1, hG.at2, hG.at3,
      ofBits_256, ofBits_eps, ← EReal.coe_mul, ← EReal.coe_add, ← EReal.coe_sub, ← EReal.coe_one, ← EReal.coe_zero, coe_sum, div_real,
      Ideal.logistic_coe, rsqrt_real, ms_fold, r_fold, inv_fold]
  rw [part_four]; rfl

end Cert.NormPoint

end
-- ==== Proof.NormRef.lean ====
/- The reference's gradients of the gated norm, read at an element: over finite arguments they are the real
   functions of `NormMath`. -/
module

public import proofs.«01_k».proof.Proof.Gen.NormReferenceIdeal.Read
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem

namespace Cert.NormRef

open Cert.NormReferenceIdeal Cert.NormReferenceIdeal.Gen Cert.NormReferenceIdeal.Read
open Cert.Lift Cert.NormMath

variable (x0 : FVec Ideal S4096x4x256 .f32) (x1 : FVec Ideal S4096x4368 .f32) (x2 : FVec Ideal S1x256 .f32) (x3 : FVec Ideal S4096x1024 .f32)
  (O G D : Fin 4096 → Fin 4 → Fin 256 → ℝ) (W : Fin 256 → ℝ)

/-- The arguments are these real arrays; the gate's columns and the cotangent by head. -/
structure Reals : Prop where
  o : ∀ t h l, x0 (ix3 t h l) = ((O t h l : ℝ) : EReal)
  g : ∀ t (h : Fin 4) (l : Fin 256) hk, x1 (ix2 t ⟨2048 + (↑h * 256 + ↑l), hk⟩) = ((G t h l : ℝ) : EReal)
  w : ∀ l, x2 (ix2 0 l) = ((W l : ℝ) : EReal)
  d : ∀ t (h : Fin 4) (l : Fin 256) hk, x3 (ix2 t ⟨↑h * 256 + ↑l, hk⟩) = ((D t h l : ℝ) : EReal)

variable {x0 x1 x2 x3 O G D W} (H : Reals x0 x1 x2 x3 O G D W)
include H

/-- The gradient with respect to the normalised array. -/
theorem do_real (t : Fin 4096) (h : Fin 4) (l : Fin 256) :
    val_main_v46 (F := Ideal) x0 x1 x2 x3 (ix3 t h l) = ((dO (O t h) (G t h) (D t h) W l : ℝ) : EReal) := by
  pointwise [val_main_v0, val_main_v1, val_main_v2, val_main_cst, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_v26, val_main_call1_v0, val_main_call1_v1, val_main_call1_v2, val_main_v27, val_main_v28, val_main_cst_4, val_main_v29, val_main_v30, val_main_v31, val_main_v32, val_main_cst_5, val_main_v33, val_main_v34, val_main_v35, val_main_cst_6, val_main_v36, val_main_v37, val_main_v38, val_main_v39, val_main_v40, val_main_cst_7, val_main_v41, val_main_v42, val_main_cst_8, val_main_v43, val_main_v44, val_main_v45, val_main_v46, val_main_v47, val_main_v48, val_main_v49]
  simp (disch := first | exact (ms_pos _).ne' | exact ms_pos _ | exact (one_add_exp_pos _).ne' | norm_num) only [H.o, H.g, H.w, H.d, ofBits_256, ofBits_eps, ofBits_neg_half, ofBits_two, Finset.sum_const, Finset.card_univ,
    Fintype.card_fin, one_smul, ← EReal.coe_mul, ← EReal.coe_add, ← EReal.coe_sub, ← EReal.coe_neg, ← EReal.coe_one, ← EReal.coe_zero, coe_sum, div_real,
    Ideal.exp_coe, rsqrt_real, ms_fold, sig_fold, r_fold, EReal.coe_eq_coe_iff]
  exact dO_chain _ _ _ _ _

/-- The gradient with respect to the gate's argument. -/
theorem dg_real (t : Fin 4096) (h : Fin 4) (l : Fin 256) :
    val_main_v27 (F := Ideal) x0 x1 x2 x3 (ix3 t h l) = ((dG (O t h) (G t h) (D t h) W l : ℝ) : EReal) := by
  pointwise [val_main_v0, val_main_v1, val_main_v2, val_main_cst, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_v26, val_main_call1_v0, val_main_call1_v1, val_main_call1_v2, val_main_v27, val_main_v28, val_main_cst_4, val_main_v29, val_main_v30, val_main_v31, val_main_v32, val_main_cst_5, val_main_v33, val_main_v34, val_main_v35, val_main_cst_6, val_main_v36, val_main_v37, val_main_v38, val_main_v39, val_main_v40, val_main_cst_7, val_main_v41, val_main_v42, val_main_cst_8, val_main_v43, val_main_v44, val_main_v45, val_main_v46, val_main_v47, val_main_v48, val_main_v49]
  simp (disch := first | exact (ms_pos _).ne' | exact ms_pos _ | exact (one_add_exp_pos _).ne' | norm_num) only [H.o, H.g, H.w, H.d, ofBits_256, ofBits_eps, ofBits_neg_half, ofBits_two, Finset.sum_const, Finset.card_univ,
    Fintype.card_fin, one_smul, ← EReal.coe_mul, ← EReal.coe_add, ← EReal.coe_sub, ← EReal.coe_neg, ← EReal.coe_one, ← EReal.coe_zero, coe_sum, div_real,
    Ideal.exp_coe, rsqrt_real, ms_fold, sig_fold, r_fold, EReal.coe_eq_coe_iff]
  unfold dG
  ring

/-- The gradient with respect to the weight. -/
theorem dw_real (l : Fin 256) :
    val_main_v34 (F := Ideal) x0 x1 x3 (ix2 0 l) = ((∑ t, ∑ h, dW (O t h) (G t h) (D t h) l : ℝ) : EReal) := by
  pointwise [val_main_v0, val_main_v1, val_main_v2, val_main_cst, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_v26, val_main_call1_v0, val_main_call1_v1, val_main_call1_v2, val_main_v27, val_main_v28, val_main_cst_4, val_main_v29, val_main_v30, val_main_v31, val_main_v32, val_main_cst_5, val_main_v33, val_main_v34, val_main_v35, val_main_cst_6, val_main_v36, val_main_v37, val_main_v38, val_main_v39, val_main_v40, val_main_cst_7, val_main_v41, val_main_v42, val_main_cst_8, val_main_v43, val_main_v44, val_main_v45, val_main_v46, val_main_v47, val_main_v48, val_main_v49]
  rw [hostReduceAdd_first_two]
  pointwise
  rw [hostReduceAdd_first_two]
  pointwise
  simp (disch := first | exact (ms_pos _).ne' | exact ms_pos _ | exact (one_add_exp_pos _).ne' | norm_num) only [H.o, H.g, H.w, H.d, ofBits_256, ofBits_eps, ofBits_neg_half, ofBits_two, Finset.sum_const, Finset.card_univ,
    Fintype.card_fin, one_smul, ← EReal.coe_mul, ← EReal.coe_add, ← EReal.coe_sub, ← EReal.coe_neg, ← EReal.coe_one, ← EReal.coe_zero, coe_sum, div_real,
    Ideal.exp_coe, rsqrt_real, ms_fold, sig_fold, r_fold, EReal.coe_eq_coe_iff]
  exact Finset.sum_congr rfl fun t _ => Finset.sum_congr rfl fun h _ => by unfold dW; ring

end Cert.NormRef

end
-- ==== Proof.NormBlocks.lean ====
/- What the gated norm's backward kernel is handed: each block of its windows, over arguments that hold real numbers. -/
module

public import proofs.«01_k».proof.Proof.NormPoint
public import proofs.«01_k».proof.Proof.NormRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBlocks

open Cert.NormKernelIdeal Cert.NormKernelIdeal.Gen
open Cert.Lift Cert.NormMath Cert.NormPoint

/-- Every window's block at every grid point. -/
theorem idx : ∀ t : Fin cfg0.N, win0_0.index t = ![t.val, 0] ∧ win0_1.index t = ![t.val, 0] ∧ win0_2.index t = ![t.val, 2]
    ∧ win0_3.index t = ![0, 0] ∧ win0_4.index t = ![t.val, 0] ∧ win0_5.index t = ![t.val, 0] ∧ win0_6.index t = ![0, 0] :=
  (by decide +kernel : ∀ t : Fin grid0.N, _)

/-- The row of the whole array that row `r` of block `t` is. -/
def row (t : Fin cfg0.N) (r : Fin 512) : Fin 4096 := ⟨t.val * 512 + r.val, by have := t.isLt.trans_eq N_0; omega⟩

variable (m : (ℓ : Loc nD τ sig) → Buf (Elt Ideal) ℓ) (c : Dev nD)
  {O G D : Fin 4096 → Fin 4 → Fin 256 → ℝ} {W : Fin 256 → ℝ}
  (H : NormRef.Reals (m ((c : Thread nD τ).loc main_arg0)) (m ((c : Thread nD τ).loc main_arg1)) (m ((c : Thread nD τ).loc main_arg2))
    (m ((c : Thread nD τ).loc main_arg3)) O G D W)
include H

omit H in
/-- The padded projection: the reference's columns with the low-rank gate's moved to the end. -/
theorem entry_proj : (V m c main_v7 : FVec Ideal S4096x4480 .f32) =
    let x : FVec Ideal S4096x4368 .f32 := m ((c : Thread nD τ).loc main_arg1)
    concatenate S4096x4480 1
      [⟨S4096x3072, extractStridedSlice S4096x3072 ![0, 0] x slices_S4096x4368_S4096x3072_0_0⟩,
       ⟨S4096x1280, extractStridedSlice S4096x1280 ![0, 3088] x slices_S4096x4368_S4096x1280_0_3088⟩,
       ⟨S4096x16, extractStridedSlice S4096x16 ![0, 3072] x slices_S4096x4368_S4096x16_0_3072⟩,
       ⟨S4096x112, broadcastInDim S4096x112 ![] bcast_S_S4096x112 (constant (F := Ideal) S_ .f32 0x00000000#32)⟩]
      concatenates_S4096x3072_S4096x1280_S4096x16_S4096x112_S4096x4480_d1 := by
  unfold V
  after_results
  rfl

/-- The wider array the kernel is handed holds the cotangent in its first 1024 columns. -/
theorem entry_d (r : Fin 4096) (k : Fin 4) (l : Fin 256) (hk) : V m c main_v1 (ix2 r ⟨↑k * 256 + ↑l, hk⟩) = ((D r k l : ℝ) : EReal) := by
  entry_read
  pointwise
  rw [dif_pos (by omega)]
  exact H.d r k l _

/-- The normalised array, its heads side by side. -/
theorem entry_o (r : Fin 4096) (k : Fin 4) (l : Fin 256) (hk) : V m c main_v2 (ix2 r ⟨↑k * 256 + ↑l, hk⟩) = ((O r k l : ℝ) : EReal) := by
  entry_read
  pointwise
  exact H.o r k l

/-- The padded projection holds the gate in its columns from 2048 on. -/
theorem entry_g (r : Fin 4096) (k : Fin 4) (l : Fin 256) (hk) :
    V m c main_v7 (ix2 r ⟨2048 + (↑k * 256 + ↑l), hk⟩) = ((G r k l : ℝ) : EReal) := by
  rw [entry_proj]
  dsimp only
  refine (concatenate_apply_piece (t := S4096x4480) 1 _ _ _ 0 (by simp) S4096x3072 _ rfl rfl 0 rfl (ix2 r ⟨2048 + (↑k * 256 + ↑l), by omega⟩)
    (fun b hb => by fin_cases b; exacts [rfl, absurd rfl hb]) (Nat.zero_add _)).trans ?_
  pointwise
  exact H.g r k l _

/-- Window 0 reads the block's rows of the cotangent. -/
theorem block_d (t : Fin cfg0.N) : Rows (iblk m c 0 t) (fun r => D (row t r)) := Rows.of_head fun r k l hk => by
  rw [← entry_d m c H (row t r) k l (by omega)]
  blk_ext [iblk, row, idx t]

/-- Window 1 reads the block's rows of the norm's input. -/
theorem block_o (t : Fin cfg0.N) : Rows (iblk m c 1 t) (fun r => O (row t r)) := Rows.of_head fun r k l hk => by
  rw [← entry_o m c H (row t r) k l (by omega)]
  blk_ext [iblk, row, idx t]

/-- Window 2 reads the block's rows of the gate's columns. -/
theorem block_g (t : Fin cfg0.N) : Rows (X0_2 m c t) (fun r => G (row t r)) := Rows.of_head fun r k l hk => by
  rw [X0_2, Pipeline.Window.fill, dif_pos (moved0_2 t _), ← entry_g m c H _ _ _ (by omega)]
  blk_ext [iblk, row, idx t]

/-- Window 3 reads the whole weight. -/
theorem block_w (t : Fin cfg0.N) (l : Fin 256) : iblk m c 3 t (ix2 0 l) = ((W l : ℝ) : EReal) := by
  rw [← H.w]
  blk_ext [iblk, V, idx t]

end Cert.NormBlocks

end
-- ==== Proof.NormArrays.lean ====
/- What the gated norm's backward kernel leaves in its three result arrays, over arguments that hold real numbers. -/
module

public import proofs.«01_k».proof.Proof.NormBlocks

@[expose] public section

set_option maxRecDepth 16384

noncomputable section

open Idealize.ShloMosaic Idealize.ShloMosaic.TcCoe Idealize.SL.Sem
open Idealize.ShloMosaic.Pipeline (Dat)

namespace Cert.NormArrays

open Cert.NormKernelIdeal Cert.NormKernelIdeal.Gen
open Cert.Lift Cert.NormMath Cert.NormPoint Cert.NormBlocks

/-- A real function of row, head and lane as an array of rows and columns. -/
def byHead (f : Fin 4096 → Fin 4 → Fin 256 → ℝ) (i : S4096x1024.Idx) : EReal :=
  ((f (i 0) ⟨(i 1).val / 256, by have : (i 1).val < 1024 := (i 1).isLt; omega⟩ ⟨(i 1).val % 256, Nat.mod_lt _ (by decide)⟩ : ℝ) : EReal)

variable (m : (ℓ : Loc nD τ sig) → Buf (Elt Ideal) ℓ) (c : Dev nD)
  {O G D : Fin 4096 → Fin 4 → Fin 256 → ℝ} {W : Fin 256 → ℝ}
  (H : NormRef.Reals (m ((c : Thread nD τ).loc main_arg0)) (m ((c : Thread nD τ).loc main_arg1)) (m ((c : Thread nD τ).loc main_arg2))
    (m ((c : Thread nD τ).loc main_arg3)) O G D W)
include H

/-- The first result array is the gradient of the norm's input. -/
theorem final_4 : (dats m 0 c).arrAt 4 cfg0.N = byHead fun t h l => dO (O t h) (G t h) (D t h) W l := by
  refine (dats m 0 c).arrAt_eq_of_covers 4 _ (by decide +kernel) fun t hf y => ?_
  have key : ∀ y : S512x1024.Idx, (outsAt0 m c t.val t.isLt).1 y = byHead (fun t h l => dO (O t h) (G t h) (D t h) W l) (ix2 (row t (y 0)) (y 1)) := fun y => by
    by_cases h : t.val % 8 = 0
    · rw [outsAt0_A m c t h]
      dsimp only
      exact point_4_A c t (block_d m c H t) (block_o m c H t) (block_g m c H t) (block_w m c H t) y _ _ (Nat.div_add_mod' _ _).symm h
    · rw [outsAt0_B m c t h]
      dsimp only
      exact point_4_B c t (block_d m c H t) (block_o m c H t) (block_g m c H t) (block_w m c H t) y _ _ (Nat.div_add_mod' _ _).symm h _
  blk_simp; rw [after0_4]
  refine (key y).trans ?_
  blk_ext [row, idx t]

/-- The second result array is the gradient of the gate. -/
theorem final_5 : (dats m 0 c).arrAt 5 cfg0.N = byHead fun t h l => dG (O t h) (G t h) (D t h) W l := by
  refine (dats m 0 c).arrAt_eq_of_covers 5 _ (by decide +kernel) fun t hf y => ?_
  have key : ∀ y : S512x1024.Idx, (outsAt0 m c t.val t.isLt).2.1 y = byHead (fun t h l => dG (O t h) (G t h) (D t h) W l) (ix2 (row t (y 0)) (y 1)) := fun y => by
    by_cases h : t.val % 8 = 0
    · rw [outsAt0_A m c t h]
      dsimp only
      exact point_5_A c t (block_d m c H t) (block_o m c H t) (block_g m c H t) (block_w m c H t) y _ _ (Nat.div_add_mod' _ _).symm h
    · rw [outsAt0_B m c t h]
      dsimp only
      exact point_5_B c t (block_d m c H t) (block_o m c H t) (block_g m c H t) (block_w m c H t) y _ _ (Nat.div_add_mod' _ _).symm h _
  blk_simp; rw [after0_5]
  refine (key y).trans ?_
  blk_ext [row, idx t]

/-- The weight's gradient is the sum over every row and head. -/
theorem final_6 (j : S1x256.Idx) : (dats m 0 c).arrAt 6 cfg0.N j = ((∑ t, ∑ h, dW (O t h) (G t h) (D t h) (j 1) : ℝ) : EReal) := by
  revert j
  refine fun j => congrFun ((dats m 0 c).arrAt_eq_of_after_last 6 t0_7 (by decide +kernel) (fun j => ((∑ t, ∑ h, dW (O t h) (G t h) (D t h) (j 1) : ℝ) : EReal)) fun j => ?_) j
  blk_simp
  rw [after0_6]
  have e : ∀ j : S1x256.Idx, j = ix2 0 (j 1) := fun j => by rw [eq_ix2 j]; congr 1; exact Subsingleton.elim _ _
  refine (Pipeline.eq_sum_fin_of_reset_step_apply_last (fun n h => (outsAt0 m c n h).2.2) 8 (fun _ => 0)
    (fun t j => ((part (fun r => D (row t r)) (fun r => O (row t r)) (fun r => G (row t r)) (j 1) : ℝ) : EReal))
    (fun t h j => ?_) (fun t h j => ?_) (le_of_eq N_0) t0_7 rfl j).trans ?_
  · rw [outsAt0_A m c t h, e j, zero_add]
    dsimp only
    exact point_6_A c t (block_d m c H t) (block_o m c H t) (block_g m c H t) h (j 1)
  · rw [outsAt0_B m c t h, e j]
    dsimp only
    exact point_6_B c t (block_d m c H t) (block_o m c H t) (block_g m c H t) h _ (j 1)
  · rw [zero_add, coe_sum]
    exact congrArg _ (Fin.sum_mul_add_congr (fun _ _ _ => rfl) (by rw [show cfg0.N = 8 from N_0]))

end Cert.NormArrays

end
-- ==== Proof.NormClaim.lean ====
/- The gated norm's backward kernel and the derivative of the reference's lines are one function over finite arguments. -/
module

public import proofs.«01_k».proof.Defs
public import proofs.«01_k».proof.Proof.NormArrays
public import Idealize.ShloMosaic.Lib.Quiescent

@[expose] public section

set_option maxRecDepth 16384

noncomputable section

open Idealize.ShloMosaic Idealize.ShloMosaic.TcCoe Idealize.SL.Sem

namespace Cert.NormClaim

open Cert.Lift Cert.NormMath Cert.NormArrays

/-- The precondition's own shape relations. -/
theorem preFacts : Cert.Pre_finite.Facts where
  bcast_S_S4096x4x256 := by decide
  reducesTo_S4096x4x256_S_d0_1_2 := by decide
  h_S_ := by decide
  slices_S4096x4368_S4096x1024_0_2048 := by decide
  bcast_S_S4096x1024 := by decide
  reducesTo_S4096x1024_S_d0_1 := by decide
  bcast_S_S1x256 := by decide
  reducesTo_S1x256_S_d0_1 := by decide

instance : Cert.Pre_finite.Facts := preFacts

/-- Arguments that meet the precondition hold real numbers. -/
theorem reals (x0 : FVec Ideal Cert.Pre_finite.S4096x4x256 .f32) (x1 : FVec Ideal Cert.Pre_finite.S4096x4368 .f32)
    (x2 : FVec Ideal Cert.Pre_finite.S1x256 .f32) (x3 : FVec Ideal Cert.Pre_finite.S4096x1024 .f32)
    (h : Cert.Pre_finite.fn (F := Ideal) x0 x1 x2 x3 = fun _ => 1#1) :
    ∃ (O G D : Fin 4096 → Fin 4 → Fin 256 → ℝ) (W : Fin 256 → ℝ), NormRef.Reals x0 x1 x2 x3 O G D W := by
  have h0 := congrFun h ix0
  dsimp only [Cert.Pre_finite.fn, Cert.Pre_finite.fn_part1, andi] at h0
  obtain ⟨h012, h3⟩ := IntOp.andi_eq_one.1 h0
  obtain ⟨h01, h2⟩ := IntOp.andi_eq_one.1 h012
  obtain ⟨h0, h1⟩ := IntOp.andi_eq_one.1 h01
  refine ⟨fun t h l => (x0 (ix3 t h l)).toReal, fun t h l => (x1 (ix2 t ⟨2048 + (h.val * 256 + l.val), by omega⟩)).toReal,
    fun t h l => (x3 (ix2 t ⟨h.val * 256 + l.val, by omega⟩)).toReal, fun l => (x2 (ix2 0 l)).toReal, ?_, ?_, ?_, ?_⟩
  · exact fun t h l => real_of_all _ _ _ _ _ _ _ h0 (ix3 t h l)
  · intro t h l hk
    have := real_of_all _ _ _ _ _ _ _ h1 (ix2 t ⟨h.val * 256 + l.val, by omega⟩)
    pointwise at this
    exact this
  · exact fun l => real_of_all _ _ _ _ _ _ _ h2 (ix2 0 l)
  · exact fun t h l hk => real_of_all _ _ _ _ _ _ _ h3 (ix2 t ⟨h.val * 256 + l.val, by omega⟩)

section Reference
open Cert.NormReferenceIdeal Cert.NormReferenceIdeal.Read

variable {x0 : (⟨S4096x4x256, .f32⟩ : BufTy).Contents (Elt Ideal)} {x1 : (⟨S4096x4368, .f32⟩ : BufTy).Contents (Elt Ideal)}
  {x2 : (⟨S1x256, .f32⟩ : BufTy).Contents (Elt Ideal)} {x3 : (⟨S4096x1024, .f32⟩ : BufTy).Contents (Elt Ideal)}
  {O G D : Fin 4096 → Fin 4 → Fin 256 → ℝ} {W : Fin 256 → ℝ} (H : NormRef.Reals x0 x1 x2 x3 O G D W)
include H

/-- The reference's gradient of the norm's input. -/
theorem ref_o : val_main_v47 (F := Ideal) x0 x1 x2 x3 = byHead fun t h l => dO (O t h) (G t h) (D t h) W l := by
  funext (i : S4096x1024.Idx)
  obtain ⟨a, b, rfl⟩ : ∃ (a : Fin 4096) (b : Fin 1024), i = ix2 a b := ⟨i 0, i 1, eq_ix2 i⟩
  refine Eq.trans ?_ (NormRef.do_real H a ⟨b.val / 256, by omega⟩ ⟨b.val % 256, by omega⟩)
  pointwise [val_main_v47]

/-- The reference's gradient of the gate. -/
theorem ref_g : val_main_v49 (F := Ideal) x0 x1 x2 x3 = byHead fun t h l => dG (O t h) (G t h) (D t h) W l := by
  funext (i : S4096x1024.Idx)
  obtain ⟨a, b, rfl⟩ : ∃ (a : Fin 4096) (b : Fin 1024), i = ix2 a b := ⟨i 0, i 1, eq_ix2 i⟩
  refine Eq.trans ?_ (NormRef.dg_real H a ⟨b.val / 256, by omega⟩ ⟨b.val % 256, by omega⟩)
  pointwise [val_main_v49, val_main_v48]

/-- The reference's gradient of the weight, a sum over tokens and heads. -/
theorem ref_w (j : S1x256.Idx) : val_main_v34 (F := Ideal) x0 x1 x3 j = ((∑ t, ∑ h, dW (O t h) (G t h) (D t h) (j 1) : ℝ) : EReal) := by
  have e : j = ix2 0 (j 1) := by rw [eq_ix2 j]; congr 1; exact Subsingleton.elim _ _
  rw [e]
  exact NormRef.dw_real H (j 1)
end Reference

/-- The reference terminates and leaves its arguments as they were. -/
theorem frame_reference : Cert.quiescent_NormReferenceIdeal (hNormReferenceIdeal := Cert.NormReferenceIdeal.Gen.facts) := fun m ρ _ =>
  (θ_run _ _ _).mono (fun r h => ⟨fun c => (h c).2.2.2, sem_eq_zero_of_no_sems rfl _⟩) (Cert.NormReferenceIdeal.Value.run (F := Ideal) m ρ)

/-- From equal finite arguments both programs leave the same three arrays. -/
theorem algebraic : Cert.algebraic_NormKernelIdeal_NormReferenceIdeal_pre_finite (hNormKernelIdeal := Cert.NormKernelIdeal.Gen.facts)
    (hNormReferenceIdeal := Cert.NormReferenceIdeal.Gen.facts) (hPre_finite := preFacts) := by
  intro m ρ m' ρ' hpre hag
  refine ⟨_, _, _, Cert.NormKernelIdeal.Value.run_blocks m ρ, (θ_run _ _ _).mono (fun r h c => ?_) (Cert.NormReferenceIdeal.Value.run (F := Ideal) m' ρ')⟩
  obtain ⟨O, G, D, W, H⟩ := reals _ _ _ _ (hpre c)
  obtain ⟨a0, a1, a2, a3⟩ := hag c
  obtain ⟨r0, r1, r2, k0, k1, k2, k3⟩ := h c
  have H' := H
  rw [← a0, ← a1, ← a2, ← a3] at H'
  refine ⟨?_, ?_, ?_, k0, k1, k2, k3⟩
  · exact ((r0.trans (Cert.NormReferenceIdeal.Read.val_main_v47_eq _ _ _ _)).trans (ref_o H')).trans (final_4 m c H).symm
  · exact ((r1.trans (Cert.NormReferenceIdeal.Read.val_main_v49_eq _ _ _ _)).trans (ref_g H')).trans (final_5 m c H).symm
  · exact (r2.trans (Cert.NormReferenceIdeal.Read.val_main_v34_eq _ _ _)).trans (funext fun j => (ref_w H' j).trans (final_6 m c H j).symm)

end Cert.NormClaim

end
-- ==== Proof.SwaMath.lean ====
module

public import proofs.«01_k».proof.Proof.Lift

@[expose] public section

noncomputable section

/-! The gradient of windowed attention with a sink, over the reals: one query row, then the arrays. -/

namespace Cert.Swa

/-- Key position `j` of window `n` is one that the query in row `r` attends to. -/
def ok (n r j : ℕ) : Prop := r < j ∧ j ≤ r + 128 ∧ (0 < n ∨ 128 ≤ j)

instance (n r j : ℕ) : Decidable (ok n r j) := by unfold ok; infer_instance

/-! ## One query row -/

section Row

variable (n r : ℕ) (q o : Fin 64 → ℝ) (k v : Fin 256 → Fin 64 → ℝ) (s : ℝ)

/-- The scaled score. -/
def score (j : Fin 256) : ℝ := (∑ d, q d * k j d) * (1 / 8)

/-- The unnormalized weight of a key. -/
def weight (j : Fin 256) : ℝ := if ok n r j then Real.exp (score q k j) else 0

/-- The sum of the weights and the sink's. -/
def total : ℝ := ∑ j, weight n r q k j + Real.exp s

/-- The probability of a key. -/
def prob (j : Fin 256) : ℝ := weight n r q k j / total n r q k s

/-- The probability of the sink. -/
def probSink : ℝ := Real.exp s / total n r q k s

/-- The gradient with respect to a probability. -/
def dprob (j : Fin 256) : ℝ := ∑ d, o d * v j d

/-- Their mean under the probabilities. -/
def drow : ℝ := ∑ j, dprob o v j * prob n r q k s j

/-- The gradient with respect to an unscaled score. -/
def dscore (j : Fin 256) : ℝ := prob n r q k s j * (dprob o v j - drow n r q o k v s) * (1 / 8)

/-- A key's weight is not negative. -/
theorem weight_nonneg (j : Fin 256) : 0 ≤ weight n r q k j := by
  unfold weight; split_ifs
  · exact (Real.exp_pos _).le
  · exact le_rfl

/-- A row's denominator is positive. -/
theorem total_pos : 0 < total n r q k s :=
  add_pos_of_nonneg_of_pos (Finset.sum_nonneg fun j _ => weight_nonneg n r q k j) (Real.exp_pos s)

/-- A key not attended to has probability zero. -/
theorem prob_of_not {j : Fin 256} (h : ¬ ok n r j) : prob n r q k s j = 0 := by
  unfold prob weight; rw [if_neg h, zero_div]

/-- … and no gradient. -/
theorem dscore_of_not {j : Fin 256} (h : ¬ ok n r j) : dscore n r q o k v s j = 0 := by
  unfold dscore; rw [prob_of_not n r q k s h, zero_mul, zero_mul]

/-- The weights shifted by any `μ`, as both programs compute them. -/
def shifted (μ : ℝ) (j : Fin 256) : ℝ := if ok n r j then Real.exp (score q k j - μ) else 0

/-- A weight shifted by a row's maximum is the weight times one factor, -/
theorem shifted_eq (μ : ℝ) (j : Fin 256) : shifted n r q k μ j = weight n r q k j * Real.exp (-μ) := by
  unfold shifted weight; split_ifs
  · rw [sub_eq_add_neg, Real.exp_add]
  · rw [zero_mul]

/-- and so is the shifted denominator, -/
theorem shifted_total (μ : ℝ) : ∑ j, shifted n r q k μ j + Real.exp (s - μ) = total n r q k s * Real.exp (-μ) := by
  simp only [shifted_eq, ← Finset.sum_mul]
  rw [sub_eq_add_neg s μ, Real.exp_add]; unfold total; ring

/-- which is positive. -/
theorem shifted_total_pos (μ : ℝ) : 0 < ∑ j, shifted n r q k μ j + Real.exp (s - μ) := by
  rw [shifted_total]; exact mul_pos (total_pos n r q k s) (Real.exp_pos _)

/-- The shift leaves the probabilities. -/
theorem shifted_prob (μ : ℝ) (j : Fin 256) :
    shifted n r q k μ j / (∑ j, shifted n r q k μ j + Real.exp (s - μ)) = prob n r q k s j := by
  rw [shifted_total, shifted_eq, mul_div_mul_right _ _ (Real.exp_pos _).ne', prob]

/-- The sink's probability does not depend on the shift. -/
theorem shifted_probSink (μ : ℝ) :
    Real.exp (s - μ) / (∑ j, shifted n r q k μ j + Real.exp (s - μ)) = probSink n r q k s := by
  rw [shifted_total, sub_eq_add_neg s μ, Real.exp_add, mul_div_mul_right _ _ (Real.exp_pos _).ne', probSink]

/-- Keys that agree where the row attends give the same weights. -/
theorem weight_congr {k' : Fin 256 → Fin 64 → ℝ} (h : ∀ j : Fin 256, ok n r j → k j = k' j) : weight n r q k = weight n r q k' := by
  funext j; unfold weight; split_ifs with hj
  · unfold score; rw [h j hj]
  · rfl

/-- A row's probabilities depend on the keys that it sees alone, -/
theorem prob_congr {k' : Fin 256 → Fin 64 → ℝ} (h : ∀ j : Fin 256, ok n r j → k j = k' j) : prob n r q k s = prob n r q k' s := by
  funext j; unfold prob total; rw [weight_congr n r q k h]

/-- and so does its sink's probability, -/
theorem probSink_congr {k' : Fin 256 → Fin 64 → ℝ} (h : ∀ j : Fin 256, ok n r j → k j = k' j) : probSink n r q k s = probSink n r q k' s := by
  unfold probSink total; rw [weight_congr n r q k h]

/-- its sum of the probabilities times their gradients, -/
theorem drow_congr {k' v' : Fin 256 → Fin 64 → ℝ} (h : ∀ j : Fin 256, ok n r j → k j = k' j) (h' : ∀ j : Fin 256, ok n r j → v j = v' j) :
    drow n r q o k v s = drow n r q o k' v' s := by
  unfold drow
  refine Finset.sum_congr rfl fun j _ => ?_
  by_cases hj : ok n r j
  · rw [prob_congr n r q k s h]; unfold dprob; rw [h' j hj]
  · rw [prob_of_not n r q k s hj, prob_of_not n r q k' s hj, mul_zero, mul_zero]

/-- and the gradient of its scores. -/
theorem dscore_congr {k' v' : Fin 256 → Fin 64 → ℝ} (h : ∀ j : Fin 256, ok n r j → k j = k' j) (h' : ∀ j : Fin 256, ok n r j → v j = v' j) :
    dscore n r q o k v s = dscore n r q o k' v' s := by
  funext j
  by_cases hj : ok n r j
  · unfold dscore; rw [prob_congr n r q k s h, drow_congr n r q o k v s h h']; unfold dprob; rw [h' j hj]
  · rw [dscore_of_not n r q o k v s hj, dscore_of_not n r q o k' v' s hj]

/-- The gradient with respect to a score, as the derivative of the quotient gives it. -/
theorem quotient_rule (p : Fin 256 → ℝ) (e : Fin 256 → ℝ) (t D : ℝ) (hD : D = ∑ j, e j + t) (h0 : D ≠ 0) (j : Fin 256) :
    (p j / D + -(∑ j, p j * (1 / (D * D)) * e j)) * e j = e j / D * (p j - ∑ j, p j * (e j / D)) := by
  have h1 : ∑ j, p j * (1 / (D * D)) * e j = (∑ j, p j * (e j / D)) / D := by
    rw [Finset.sum_div]; exact Finset.sum_congr rfl fun j _ => by field_simp
  rw [h1]; field_simp; ring

/-- The gradient with respect to the row's maximum vanishes. -/
theorem shift_rule (p : Fin 256 → ℝ) (e : Fin 256 → ℝ) (t D : ℝ) (hD : D = ∑ j, e j + t) (h0 : D ≠ 0) :
    -(-(∑ j, p j * (1 / (D * D)) * e j) * t) + ∑ j, -((p j / D + -(∑ j, p j * (1 / (D * D)) * e j)) * e j) = 0 := by
  have h1 : ∑ j, p j * (1 / (D * D)) * e j = (∑ j, p j * e j) / (D * D) := by
    rw [Finset.sum_div]; exact Finset.sum_congr rfl fun j _ => by field_simp
  have h2 : ∑ j, -((p j / D + -((∑ j, p j * e j) / (D * D))) * e j) = -((∑ j, p j * e j) / D) + (∑ j, p j * e j) / (D * D) * ∑ j, e j := by
    have (j : Fin 256) : -((p j / D + -((∑ j, p j * e j) / (D * D))) * e j) = (p j * e j) * (-1 / D) + (∑ j, p j * e j) / (D * D) * e j := by ring
    rw [Finset.sum_congr rfl fun j _ => this j, Finset.sum_add_distrib, ← Finset.sum_mul, ← Finset.mul_sum]
    ring
  have h3 : ∑ j, e j = D - t := by rw [hD]; ring
  rw [h1, h2, h3]; field_simp; ring

end Row

/-! ## The arrays -/

section Arrays

variable (X : Fin 4096 → Fin 1280 → ℝ) (T : Fin 16 → ℝ) (O : Fin 4096 → Fin 1024 → ℝ)

/-- Row `r` of window `n`. -/
def at_ (n : Fin 32) (r : Fin 128) : Fin 4096 := ⟨n * 128 + r, by omega⟩

/-- The row of key position `j` of window `n`: the window before, then this one. -/
def pos (n : Fin 32) (j : Fin 256) : Fin 4096 :=
  ⟨if j.val < 128 then (n.val - 1) * 128 + j else n * 128 + (j - 128), by split_ifs <;> omega⟩

/-- The head of group `h` and member `g`. -/
def head (h : Fin 2) (g : Fin 8) : Fin 16 := ⟨h * 8 + g, by omega⟩

/-- A query's entry in the array of all columns, -/
def qry (n : Fin 32) (h : Fin 2) (g : Fin 8) (r : Fin 128) (d : Fin 64) : ℝ := X (at_ n r) ⟨h * 512 + g * 64 + d, by omega⟩
/-- a key's, -/
def key (n : Fin 32) (h : Fin 2) (j : Fin 256) (d : Fin 64) : ℝ := X (pos n j) ⟨1024 + h * 64 + d, by omega⟩
/-- a value's, -/
def vlu (n : Fin 32) (h : Fin 2) (j : Fin 256) (d : Fin 64) : ℝ := X (pos n j) ⟨1152 + h * 64 + d, by omega⟩
/-- and the cotangent's. -/
def out (n : Fin 32) (h : Fin 2) (g : Fin 8) (r : Fin 128) (d : Fin 64) : ℝ := O (at_ n r) ⟨h * 512 + g * 64 + d, by omega⟩

/-- The probabilities of the row `r` of window `n`, head `(h, g)`. -/
def P (n : Fin 32) (h : Fin 2) (g : Fin 8) (r : Fin 128) (j : Fin 256) : ℝ := prob n r (qry X n h g r) (key X n h) (T (head h g)) j

/-- The gradient with respect to its scores. -/
def DS (n : Fin 32) (h : Fin 2) (g : Fin 8) (r : Fin 128) (j : Fin 256) : ℝ :=
  dscore n r (qry X n h g r) (out O n h g r) (key X n h) (vlu X n h) (T (head h g)) j

/-- The gradient with respect to the sink's weight in that row. -/
def DT (n : Fin 32) (h : Fin 2) (g : Fin 8) (r : Fin 128) : ℝ :=
  probSink n r (qry X n h g r) (key X n h) (T (head h g)) * drow n r (qry X n h g r) (out O n h g r) (key X n h) (vlu X n h) (T (head h g))

/-- The gradient with respect to a query. -/
def dQry (n : Fin 32) (h : Fin 2) (g : Fin 8) (r : Fin 128) (d : Fin 64) : ℝ := ∑ j, DS X T O n h g r j * key X n h j d

/-- The gradient with respect to a window's key. -/
def dKey (n : Fin 32) (h : Fin 2) (j : Fin 256) (d : Fin 64) : ℝ := ∑ g, ∑ r, DS X T O n h g r j * qry X n h g r d

/-- The gradient with respect to a window's value. -/
def dVlu (n : Fin 32) (h : Fin 2) (j : Fin 256) (d : Fin 64) : ℝ := ∑ g, ∑ r, P X T n h g r j * out O n h g r d

/-- A key's gradient from its own window and from the next. -/
def gather (f : Fin 32 → Fin 2 → Fin 256 → Fin 64 → ℝ) (n : Fin 32) (r : Fin 128) (h : Fin 2) (d : Fin 64) : ℝ :=
  f n h ⟨128 + r, by omega⟩ d + if hn : n.val + 1 < 32 then f ⟨n + 1, hn⟩ h ⟨r, by omega⟩ d else 0

/-- The gradient with respect to a sink. -/
def dSink (h : Fin 2) (g : Fin 8) : ℝ := ∑ n, ∑ r, -DT X T O n h g r

/-- The window and the row in it, the head and the column in it, of an element of an array. -/
def win (R : Fin 4096) : Fin 32 := ⟨R / 128, by omega⟩
/-- A row's place in its block, -/
def low (R : Fin 4096) : Fin 128 := ⟨R % 128, by omega⟩
/-- a query column's key-value head, -/
def grp (c : Fin 1024) : Fin 2 := ⟨c / 512, by omega⟩
/-- its head within the group, -/
def mem (c : Fin 1024) : Fin 8 := ⟨c / 64 % 8, by omega⟩
/-- a column's place in its head, -/
def dim (c : ℕ) : Fin 64 := ⟨c % 64, by omega⟩
/-- and a key column's head. -/
def kv (c : Fin 128) : Fin 2 := ⟨c / 64, by omega⟩

/-- The four results. -/
def resQ (R : Fin 4096) (c : Fin 1024) : ℝ := dQry X T O (win R) (grp c) (mem c) (low R) (dim c)
/-- The gradient of the keys, as an array, -/
def resK (R : Fin 4096) (c : Fin 128) : ℝ := gather (dKey X T O) (win R) (low R) (kv c) (dim c)
/-- that of the values, -/
def resV (R : Fin 4096) (c : Fin 128) : ℝ := gather (dVlu X T O) (win R) (low R) (kv c) (dim c)
/-- and that of the sinks, in the first 16 columns. -/
def resS (l : Fin 128) : ℝ := if h : l.val < 16 then dSink X T O ⟨l / 8, by omega⟩ ⟨l % 8, by omega⟩ else 0

end Arrays

end Cert.Swa

end
-- ==== Proof.SwaRef.lean ====
module

public import proofs.«01_k».proof.Proof.Gen.SwaReferenceIdeal.Read
public import proofs.«01_k».proof.Proof.SwaMath
public import Idealize.ShloMosaic.Lib.Pipeline.ValueKit
public import Idealize.ShloMosaic.Lib.ValueIdxRank6
public import Idealize.ShloMosaic.Lib.WordCmp

@[expose] public section

set_option maxRecDepth 16384

noncomputable section

open Idealize.ShloMosaic Idealize.ShloMosaic.TcCoe Idealize.SL.Sem

/-! The reference's gradients of windowed attention, read at an element over finite arguments. -/

namespace Cert.SwaRef

open Cert.SwaReferenceIdeal Cert.SwaReferenceIdeal.Gen Cert.SwaReferenceIdeal.Read Cert.Lift Cert.Swa

/-- The arguments are finite: the last columns of the projections and of the incoming gradient, and the sinks. -/
structure Reals (x0 : FVec Ideal S4096x4368 .f32) (x1 : FVec Ideal S16 .f32) (x2 : FVec Ideal S4096x2048 .f32)
    (X : Fin 4096 → Fin 1280 → ℝ) (T : Fin 16 → ℝ) (O : Fin 4096 → Fin 1024 → ℝ) : Prop where
  x : ∀ (r : Fin 4096) (c : Fin 1280) (h : 3088 + c.val < 4368), x0 (ix2 r ⟨3088 + c, h⟩) = ((X r c : ℝ) : EReal)
  t : ∀ a : Fin 16, x1 (ix1 a) = ((T a : ℝ) : EReal)
  o : ∀ (r : Fin 4096) (c : Fin 1024) (h : 1024 + c.val < 2048), x2 (ix2 r ⟨1024 + c, h⟩) = ((O r c : ℝ) : EReal)

variable {x0 : FVec Ideal S4096x4368 .f32} {x1 : FVec Ideal S16 .f32} {x2 : FVec Ideal S4096x2048 .f32}
  {X : Fin 4096 → Fin 1280 → ℝ} {T : Fin 16 → ℝ} {O : Fin 4096 → Fin 1024 → ℝ}

/-- The keys the reference bands together: nothing before the first window. -/
def band (f : Fin 32 → Fin 2 → Fin 256 → Fin 64 → ℝ) (n : Fin 32) (h : Fin 2) (j : Fin 256) (d : Fin 64) : ℝ :=
  if n.val = 0 ∧ j.val < 128 then 0 else f n h j d

/-- An attended key is not one of those before the first window. -/
theorem band_of_ok (f : Fin 32 → Fin 2 → Fin 256 → Fin 64 → ℝ) (n : Fin 32) (h : Fin 2) (r : ℕ) (j : Fin 256) (hj : ok n r j) :
    band f n h j = f n h j := by
  funext d; unfold band; rw [if_neg]; unfold ok at hj; omega

/-- A query. -/
theorem query (H : Reals x0 x1 x2 X T O) (b : Fin 1) (n : Fin 32) (r : Fin 128) (h : Fin 2) (g : Fin 8) (d : Fin 64) :
    val_main_v6 (F := Ideal) x0 (ix6 b n r h g d) = ((qry X n h g r d : ℝ) : EReal) := by
  pointwise [val_main_v6, val_main_v1, val_main_v0]
  exact (congrArg x0 (congrArg (ix2 _) (Fin.ext (by dsimp only; omega)))).trans (H.x (at_ n r) ⟨h * 512 + g * 64 + d, by omega⟩ (by dsimp only; omega))

/-- The gradient that arrives at an output. -/
theorem outgrad (H : Reals x0 x1 x2 X T O) (b : Fin 1) (n : Fin 32) (r : Fin 128) (h : Fin 2) (g : Fin 8) (d : Fin 64) :
    val_main_v102 (F := Ideal) x2 (ix6 b n r h g d) = ((out O n h g r d : ℝ) : EReal) := by
  pointwise [val_main_v102, val_main_v101, val_main_v100]
  exact H.o (at_ n r) ⟨h * 512 + g * 64 + d, by omega⟩ _

/-- A window's keys. -/
theorem keys (H : Reals x0 x1 x2 X T O) (b : Fin 1) (n : Fin 32) (j : Fin 256) (h : Fin 2) (d : Fin 64) :
    val_main_v13 (F := Ideal) x0 (ix5 b n j h d) = ((band (key X) n h j d : ℝ) : EReal) := by
  pointwise [val_main_v13, val_main_v11, val_main_v9, val_main_cst, val_main_v10, val_main_v7, val_main_v3, val_main_v2]
  have e (i : Fin 4096) (hi : i = pos n j) (q) : x0 (ix2 i ⟨4112 + (h.val * 64 + d), q⟩) = ((key X n h j d : ℝ) : EReal) := by
    subst hi; exact (congrArg x0 (congrArg (ix2 _) (Fin.ext (by dsimp only; omega)))).trans (H.x (pos n j) ⟨1024 + h * 64 + d, by omega⟩ (by dsimp only; omega))
  unfold band
  by_cases h1 : j.val < 128
  · rw [dif_pos h1]
    by_cases h2 : n.val < 1
    · rw [dif_pos h2, if_pos ⟨by omega, h1⟩, EReal.coe_zero]
    · rw [dif_neg h2, if_neg (show ¬(n.val = 0 ∧ j.val < 128) by omega)]
      exact e _ (Fin.ext (by unfold pos; dsimp only; rw [if_pos h1])) _
  · rw [dif_neg h1, if_neg (show ¬(n.val = 0 ∧ j.val < 128) by omega)]
    exact e _ (Fin.ext (by unfold pos; dsimp only; rw [if_neg h1])) _

/-- A window's values. -/
theorem values (H : Reals x0 x1 x2 X T O) (b : Fin 1) (n : Fin 32) (j : Fin 256) (h : Fin 2) (d : Fin 64) :
    val_main_v20 (F := Ideal) x0 (ix5 b n j h d) = ((band (vlu X) n h j d : ℝ) : EReal) := by
  pointwise [val_main_v20, val_main_v18, val_main_v16, val_main_cst_1, val_main_v17, val_main_v14, val_main_v5, val_main_v4]
  have e (i : Fin 4096) (hi : i = pos n j) (q) : x0 (ix2 i ⟨4240 + (h.val * 64 + d), q⟩) = ((vlu X n h j d : ℝ) : EReal) := by
    subst hi; exact (congrArg x0 (congrArg (ix2 _) (Fin.ext (by dsimp only; omega)))).trans (H.x (pos n j) ⟨1152 + h * 64 + d, by omega⟩ (by dsimp only; omega))
  unfold band
  by_cases h1 : j.val < 128
  · rw [dif_pos h1]
    by_cases h2 : n.val < 1
    · rw [dif_pos h2, if_pos ⟨by omega, h1⟩, EReal.coe_zero]
    · rw [dif_neg h2, if_neg (show ¬(n.val = 0 ∧ j.val < 128) by omega)]
      exact e _ (Fin.ext (by unfold pos; dsimp only; rw [if_pos h1])) _
  · rw [dif_neg h1, if_neg (show ¬(n.val = 0 ∧ j.val < 128) by omega)]
    exact e _ (Fin.ext (by unfold pos; dsimp only; rw [if_neg h1])) _

/-- The word of one eighth. -/
theorem ofBits_eighth : Ideal.ofBits .f32 0x3E000000#32 = ((1 / 8 : ℝ) : EReal) := by
  simp [Ideal.ofBits, Ideal.ieee, -EReal.coe_mul]; norm_num

/-- A scaled score. -/
theorem scores (H : Reals x0 x1 x2 X T O) (b : Fin 1) (n : Fin 32) (h : Fin 2) (g : Fin 8) (r : Fin 128) (j : Fin 256) :
    val_main_v24 (F := Ideal) x0 (ix6 b n h g r j) = ((score (qry X n h g r) (band (key X) n h) j : ℝ) : EReal) := by
  pointwise [val_main_v24, val_main_v23, val_main_cst_3, val_main_v22, val_main_v21]
  simp only [keys H, query H, ofBits_eighth, ← EReal.coe_mul, coe_sum]
  unfold score
  simp only [mul_comm]

/-- The mask. -/
theorem mask (b : Fin 1) (n : Fin 32) (h : Fin 2) (g : Fin 8) (r : Fin 128) (j : Fin 256) :
    val_main_v53_1 (F := Ideal) (ix6 b n h g r j) = 1#1 ↔ ok n r j := by
  have e : IntOp.addi (BitVec.ofNat 32 r.val) 128#32 = BitVec.ofNat 32 (r.val + 128) := (BitVec.ofNat_add r.val 128).symm
  pointwise [val_main_v53_1, val_main_v52, val_main_v51, val_main_v50, val_main_v49, val_main_v48, val_main_v47, val_main_v46, val_main_v45, val_main_v44, val_main_c_5, val_main_v43, val_main_v42, val_main_v41, val_main_c_4, val_main_v40, val_main_v39, val_main_v38, val_main_v37, val_main_v36, val_main_v35, val_main_v34, val_main_v33, val_main_v32, val_main_c, val_main_v31, val_main_v30, val_main_v29, val_main_v28, val_main_v27, val_main_v26, val_main_v25]
  rw [e, IntOp.andi_eq_one, IntOp.andi_eq_one, IntOp.ori_eq_one, WordCmp.cmpi_sgt_ofNat (by omega) (by omega), WordCmp.cmpi_sle_ofNat (by omega) (by omega),
    WordCmp.cmpi_sgt_ofNat (by omega) (by omega), WordCmp.cmpi_sge_ofNat (by omega) (by omega)]
  simp only [WordCmp.ofBool_eq_one_iff, decide_eq_true_iff]
  unfold ok; omega

/-- A selection where the mask is set, and where it is not. -/
theorem select_of {c : BitVec 1} {α : Type} {a b : α} (h : c = 1#1) : Scalar.select c a b = a := if_pos h

/-- A choice whose condition fails takes the second value. -/
theorem select_of_not {c : BitVec 1} {α : Type} {a b : α} (h : ¬ c = 1#1) : Scalar.select c a b = b := if_neg h

/-- A masked score. -/
theorem masked (H : Reals x0 x1 x2 X T O) (b : Fin 1) (n : Fin 32) (h : Fin 2) (g : Fin 8) (r : Fin 128) (j : Fin 256) :
    val_main_v53_0 (F := Ideal) x0 (ix6 b n h g r j)
      = if ok n r j then ((score (qry X n h g r) (band (key X) n h) j : ℝ) : EReal) else ⊥ := by
  pointwise [val_main_v53_0, val_main_call0_v2, val_main_call0_v0, val_main_cst_6]
  rw [scores H]
  by_cases hj : ok n r j
  · rw [select_of ((mask b n h g r j).2 hj), if_pos hj]
  · rw [select_of_not (fun e => hj ((mask b n h g r j).1 e)), if_neg hj]
    show Ideal.ofBits .f32 0xFF800000#32 = ⊥
    simp [Ideal.ofBits, Ideal.ieee]

/-- The maximum of numbers below infinity is below infinity. -/
theorem foldl_max_lt {ι : Type} (f : ι → EReal) : ∀ (l : List ι) (a : EReal), a < ⊤ → (∀ i ∈ l, f i < ⊤) →
    l.foldl (fun r i => max r (f i)) a < ⊤
  | [], _, h, _ => h
  | i :: l, a, h, hf => foldl_max_lt f l _ (max_lt h (hf i (List.mem_cons_self ..))) fun k hk => hf k (List.mem_cons_of_mem _ hk)

/-- The larger of a number below infinity and a real number is a real number. -/
theorem max_real_of_lt {a : EReal} (h : a < ⊤) (s : ℝ) : ∃ μ : ℝ, max a (s : EReal) = (μ : EReal) := by
  refine ⟨(max a (s : EReal)).toReal, (EReal.coe_toReal ?_ ?_).symm⟩
  · exact (max_lt h (EReal.coe_lt_top s)).ne
  · exact ((EReal.bot_lt_coe s).trans_le (le_max_right _ _)).ne'

/-- A row's maximum over the keys is not infinite. -/
theorem max_lt_top (H : Reals x0 x1 x2 X T O) (i : S1x32x2x8x128.Idx) : val_main_v56 (F := Ideal) x0 i < ⊤ := by
  unfold val_main_v56
  rw [Host.reduce_eq_foldl]
  refine foldl_max_lt _ _ _ ?_ fun k _ => ?_
  · show Ideal.ofBits .f32 0xFF800000#32 < ⊤
    simp [Ideal.ofBits, Ideal.ieee]
  · obtain ⟨b, n, h, g, r, j, rfl⟩ : ∃ (b : Fin 1) (n : Fin 32) (h : Fin 2) (g : Fin 8) (r : Fin 128) (j : Fin 256), k = ix6 b n h g r j :=
      ⟨k 0, k 1, k 2, k 3, k 4, k 5, eq_ix6 k⟩
    rw [masked H]
    split_ifs
    · exact EReal.coe_lt_top _
    · exact bot_lt_top

/-- The maximum of a row's scores and its sink. -/
def mu (x0 : FVec Ideal S4096x4368 .f32) (x1 : FVec Ideal S16 .f32) (n : Fin 32) (h : Fin 2) (g : Fin 8) (r : Fin 128) : ℝ :=
  (val_main_v64 (F := Ideal) x0 x1 (ix6 0 n h g r 0)).toReal

/-- The maximum that a row is shifted by is the larger of that and its sink. -/
theorem top_read (n : Fin 32) (h : Fin 2) (g : Fin 8) (r : Fin 128) :
    ∃ i, val_main_v64 (F := Ideal) x0 x1 (ix6 0 n h g r 0) = max (val_main_v56 (F := Ideal) x0 i) (x1 (ix1 (head h g))) := by
  refine ⟨idx_main_v62 (ix6 0 n h g r 0), ?_⟩
  rw [val_main_v64_apply, val_main_v62_apply, val_main_v63_apply, val_main_v55_apply, val_main_v54_apply]
  refine congrArg (max _) (congrArg x1 (funext fun a => ?_))
  fin_cases a; rfl

/-- That maximum is a real number. -/
theorem top (H : Reals x0 x1 x2 X T O) (n : Fin 32) (h : Fin 2) (g : Fin 8) (r : Fin 128) :
    val_main_v64 (F := Ideal) x0 x1 (ix6 0 n h g r 0) = ((mu x0 x1 n h g r : ℝ) : EReal) := by
  obtain ⟨i, e⟩ := top_read (x0 := x0) (x1 := x1) n h g r
  obtain ⟨μ, hμ⟩ := max_real_of_lt (max_lt_top H i) (T (head h g))
  rw [H.t, hμ] at e
  unfold mu
  rw [e, EReal.toReal_coe]

end Cert.SwaRef

end
-- ==== Proof.SwaRun.lean ====
module

public import proofs.«01_k».proof.Proof.Gen.SwaKernelIdeal.Frame
public import proofs.«01_k».proof.Proof.Gen.SwaKernelIdeal.Skeleton

@[expose] public section

set_option maxRecDepth 16384

noncomputable section

/-! The run of the attention gradient's kernel body, once for the first window of rows and once for the later ones. -/

namespace Cert.SwaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The test of the body's first branch: the point is the first one. -/
abbrev first (i : grid0.Coords) : Prop :=
  (Scalar.cmpi .ne (Scalar.extui (Scalar.cmpi .eq (BitVec.ofNat 32 (i 0).val) 0#32)) 0#32) = 1#1

/-- The second branch runs at the later points only. -/
theorem later : ∀ i : grid0.Coords, k0_cond2 i = 1#1 → 0 < (i 0).val := by decide +kernel

/-- There the rows it adds to are those of the window before. -/
theorem off2 : ∀ i : grid0.Coords, k0_cond2 i = 1#1 → k0_off2 i = ![128 * ((i 0).val - 1), 0] := by decide +kernel

set_option maxHeartbeats 4000000 in
noncomputable def runA (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole) (arg8 : Memref sig .tc .vmem S128x1024 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (h1 : first i) (h2 : ¬k0_cond2 i = 1#1)
    (x0 : Vec F S16 .f32) (x1 : Vec F S128x1024 .f32) (x2 : Vec F S128x128 .f32) (x3 : Vec F S128x128 .f32) (x4 : Vec F S128x128 .f32) (x5 : Vec F S128x128 .f32) (x6 : Vec F S128x1024 .f32) :
    Σ' (L7 : List (View.Piece (Elt F) S128x1024 .bf16)), Σ' (L8 : List (View.Piece (Elt F) S4096x128 .f32)), Σ' (L9 : List (View.Piece (Elt F) S4096x128 .f32)), { L10 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6

    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact H10

set_option maxHeartbeats 4000000 in
noncomputable def runB (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole) (arg8 : Memref sig .tc .vmem S128x1024 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (h1 : ¬first i) (h2 : k0_cond2 i = 1#1)
    (x0 : Vec F S16 .f32) (x1 : Vec F S128x1024 .f32) (x2 : Vec F S128x128 .f32) (x3 : Vec F S128x128 .f32) (x4 : Vec F S128x128 .f32) (x5 : Vec F S128x128 .f32) (x6 : Vec F S128x1024 .f32) (y8 : Vec F S4096x128 .f32) (y9 : Vec F S4096x128 .f32) (y10 : Vec F S1x128 .f32) :
    Σ' (L7 : List (View.Piece (Elt F) S128x1024 .bf16)), Σ' (L8 : List (View.Piece (Elt F) S4096x128 .f32)), Σ' (L9 : List (View.Piece (Elt F) S4096x128 .f32)), { L10 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare y10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread y8) L8) ∗ (arg10.view.loc (c : Thread nD τ) ↦[arg10.view.set]{fullShare} arg10.view.writes (Elt F) (harg10.unread y9) L9) ∗ (∃ f, arg11.view.loc (c : Thread nD τ) ↦[arg11.view.set]{fullShare} arg11.view.writes (Elt F) f L10)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10
    have hi := later i h2
    letI : ClosedOff (k0_off2 i) := ⟨![128 * ((i 0).val - 1), 0], off2 i h2⟩
    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexact H8
    isplitl [H9]; · iexact H9
    iexists _; iexact H10

end Cert.SwaKernelIdeal.Gen

end
-- ==== Proof.SwaFrame.lean ====
module

public import proofs.«01_k».proof.Proof.SwaRun
public import Idealize.ShloMosaic.Lib.Claim

@[expose] public section

set_option maxRecDepth 16384

noncomputable section

/-! The frame of the attention gradient's kernel: what the outputs hold after each window of rows, and the launch. -/

namespace Cert.SwaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first branch runs at the first point only. -/
theorem first_iff : ∀ t : Fin cfg0.N, first (grid0.coords t) ↔ t.val = 0 :=
  (by decide +kernel : ∀ t : Fin grid0.N, first (grid0.coords t) ↔ t.val = 0)

/-- The second branch runs at every other point. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One staging buffer of each output, through which its contents are stated. -/
abbrev VO7 : View sig .tc .vmem S128x1024 .bf16 := (Memref.whole cc0_stg7_0 : Memref sig .tc .vmem S128x1024 .bf16).view
@[inherit_doc VO7] abbrev VO8 : View sig .tc .vmem S4096x128 .f32 := (Memref.whole cc0_stg8_0 : Memref sig .tc .vmem S4096x128 .f32).view
@[inherit_doc VO7] abbrev VO9 : View sig .tc .vmem S4096x128 .f32 := (Memref.whole cc0_stg9_0 : Memref sig .tc .vmem S4096x128 .f32).view
@[inherit_doc VO7] abbrev VO10 : View sig .tc .vmem S1x128 .f32 := (Memref.whole cc0_stg10_0 : Memref sig .tc .vmem S1x128 .f32).view

/-- That buffer holding given contents. -/
abbrev kept8 (y : Vec F S4096x128 .f32) : VO8.ty.Contents (Elt F) := (Memref.isWhole_whole (cc0_stg8_0 : Ref sig .tc)).unread y
@[inherit_doc kept8] abbrev kept9 (y : Vec F S4096x128 .f32) : VO9.ty.Contents (Elt F) := (Memref.isWhole_whole (cc0_stg9_0 : Ref sig .tc)).unread y

/-- The contents of the four outputs' buffers. -/
abbrev Outs (F : FTy → Type) : Type := Vec F S128x1024 .bf16 × Vec F S4096x128 .f32 × Vec F S4096x128 .f32 × Vec F S1x128 .f32

/-- The run at the first point, on its buffers and blocks. -/
abbrev atFirst (c : Dev nD) (t : Fin cfg0.N) (h : t.val = 0) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) ((first_iff t).mpr h) (fun h2 => (later_iff t).mp h2 h) (iblk m c 0 t) (X0_1 m c t) (iblk m c 2 t) (iblk m c 3 t) (iblk m c 4 t) (iblk m c 5 t) (iblk m c 6 t)

/-- The run at a later point, on its buffers and blocks and on what the point before left. -/
abbrev atLater (c : Dev nD) (t : Fin cfg0.N) (h : t.val ≠ 0) (y : Outs F) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (fun h1 => h ((first_iff t).mp h1)) ((later_iff t).mpr h) (iblk m c 0 t) (X0_1 m c t) (iblk m c 2 t) (iblk m c 3 t) (iblk m c 4 t) (iblk m c 5 t) (iblk m c 6 t) y.2.1 y.2.2.1 y.2.2.2

/-- What the first point leaves in the outputs' buffers. -/
def leftFirst (c : Dev nD) (t : Fin cfg0.N) (h : t.val = 0) : Outs F :=
  (VO7.read (Elt F) (VO7.writes (Elt F) (VO7.junk) (atFirst m c t h).1),
    VO8.read (Elt F) (VO8.writes (Elt F) (VO8.junk) (atFirst m c t h).2.1),
    VO9.read (Elt F) (VO9.writes (Elt F) (VO9.junk) (atFirst m c t h).2.2.1),
    VO10.read (Elt F) (VO10.writes (Elt F) (VO10.junk) (atFirst m c t h).2.2.2.1))

/-- What a later point leaves in them. -/
def leftLater (c : Dev nD) (t : Fin cfg0.N) (h : t.val ≠ 0) (y : Outs F) : Outs F :=
  (VO7.read (Elt F) (VO7.writes (Elt F) (VO7.junk) (atLater m c t h y).1),
    VO8.read (Elt F) (VO8.writes (Elt F) (kept8 y.2.1) (atLater m c t h y).2.1),
    VO9.read (Elt F) (VO9.writes (Elt F) (kept9 y.2.2.1) (atLater m c t h y).2.2.1),
    VO10.read (Elt F) (VO10.writes (Elt F) (VO10.junk) (atLater m c t h y).2.2.2.1))

/-- What the outputs' buffers hold after each point. -/
def outsAt (c : Dev nD) : (n : ℕ) → n < cfg0.N → Outs F
  | 0, hn => leftFirst m c ⟨0, hn⟩ rfl
  | n + 1, hn => leftLater m c ⟨n + 1, hn⟩ (Nat.succ_ne_zero n) (outsAt c n (Nat.lt_of_succ_lt hn))

/-- What the first grid point leaves. -/
theorem outsAt_first (c : Dev nD) (t : Fin cfg0.N) (h : t.val = 0) : outsAt m c t.val t.isLt = leftFirst m c t h := by
  obtain ⟨n, hn⟩ := t
  cases n with
  | zero => rfl
  | succ n => exact absurd h (Nat.succ_ne_zero n)

/-- What a later grid point leaves, from what the point before it left. -/
theorem outsAt_later (c : Dev nD) (t : Fin cfg0.N) (h : t.val ≠ 0) :
    outsAt m c t.val t.isLt = leftLater m c t h (outsAt m c (t.val - 1) (Nat.lt_of_le_of_lt (Nat.sub_le _ _) t.isLt)) := by
  obtain ⟨n, hn⟩ := t
  cases n with
  | zero => exact absurd rfl h
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2
  Φ _ := Pipeline.ΦA spec0 c
  q w := if (spec0 w).isOut = false then Pipeline.shareOf spec0 w else fullShare
  owed _ := 0

/-- A window's array holds at the start what the host code left there. -/
theorem A_eq (c : Dev nD) (w : Fin cfg0.W) : (dats m 0 c).A w = V m c (Pipeline.arrRef spec0 w) := by
  dsimp only [dats]

/-- After a point window 0 still holds its block. -/
theorem after0 (c : Dev nD) (t : Fin cfg0.N) : (dats m 0 c).after 0 t = iblk m c 0 t := by dsimp only [dats]
/-- After a point window 1 still holds its block. -/
theorem after1 (c : Dev nD) (t : Fin cfg0.N) : (dats m 0 c).after 1 t = X0_1 m c t := by dsimp only [dats]
/-- After a point window 2 still holds its block. -/
theorem after2 (c : Dev nD) (t : Fin cfg0.N) : (dats m 0 c).after 2 t = iblk m c 2 t := by dsimp only [dats]
/-- After a point window 3 still holds its block. -/
theorem after3 (c : Dev nD) (t : Fin cfg0.N) : (dats m 0 c).after 3 t = iblk m c 3 t := by dsimp only [dats]
/-- After a point window 4 still holds its block. -/
theorem after4 (c : Dev nD) (t : Fin cfg0.N) : (dats m 0 c).after 4 t = iblk m c 4 t := by dsimp only [dats]
/-- After a point window 5 still holds its block. -/
theorem after5 (c : Dev nD) (t : Fin cfg0.N) : (dats m 0 c).after 5 t = iblk m c 5 t := by dsimp only [dats]
/-- After a point window 6 still holds its block. -/
theorem after6 (c : Dev nD) (t : Fin cfg0.N) : (dats m 0 c).after 6 t = iblk m c 6 t := by dsimp only [dats]
/-- After a point window 7 holds the point's queries' gradient. -/
theorem after7 (c : Dev nD) (t : Fin cfg0.N) : (dats m 0 c).after 7 t = (outsAt m c t.val t.isLt).1 := by dsimp only [dats]
/-- After a point window 8 holds the keys' gradient so far. -/
theorem after8 (c : Dev nD) (t : Fin cfg0.N) : (dats m 0 c).after 8 t = (outsAt m c t.val t.isLt).2.1 := by dsimp only [dats]
/-- After a point window 9 holds the values' gradient so far. -/
theorem after9 (c : Dev nD) (t : Fin cfg0.N) : (dats m 0 c).after 9 t = (outsAt m c t.val t.isLt).2.2.1 := by dsimp only [dats]
/-- After a point window 10 holds the sinks' gradient so far. -/
theorem after10 (c : Dev nD) (t : Fin cfg0.N) : (dats m 0 c).after 10 t = (outsAt m c t.val t.isLt).2.2.2 := by dsimp only [dats]

/-- Before a point window 0 holds its block. -/
theorem before0 (c : Dev nD) (t : Fin cfg0.N) (d) : (dats m 0 c).before 0 t d = iblk m c 0 t :=
  before0_0_of m (dats m 0 c) (A_eq m c 0) (after0 m c) t d
/-- Before a point window 1 holds its block. -/
theorem before1 (c : Dev nD) (t : Fin cfg0.N) (d) : (dats m 0 c).before 1 t d = X0_1 m c t :=
  before0_1_of m (dats m 0 c) (A_eq m c 1) (after1 m c) t d
/-- Before a point window 2 holds its block. -/
theorem before2 (c : Dev nD) (t : Fin cfg0.N) (d) : (dats m 0 c).before 2 t d = iblk m c 2 t :=
  before0_2_of m (dats m 0 c) (A_eq m c 2) (after2 m c) t d
/-- Before a point window 3 holds its block. -/
theorem before3 (c : Dev nD) (t : Fin cfg0.N) (d) : (dats m 0 c).before 3 t d = iblk m c 3 t :=
  before0_3_of m (dats m 0 c) (A_eq m c 3) (after3 m c) t d
/-- Before a point window 4 holds its block. -/
theorem before4 (c : Dev nD) (t : Fin cfg0.N) (d) : (dats m 0 c).before 4 t d = iblk m c 4 t :=
  before0_4_of m (dats m 0 c) (A_eq m c 4) (after4 m c) t d
/-- Before a point window 5 holds its block. -/
theorem before5 (c : Dev nD) (t : Fin cfg0.N) (d) : (dats m 0 c).before 5 t d = iblk m c 5 t :=
  before0_5_of m (dats m 0 c) (A_eq m c 5) (after5 m c) t d
/-- Before a point window 6 holds its block. -/
theorem before6 (c : Dev nD) (t : Fin cfg0.N) (d) : (dats m 0 c).before 6 t d = iblk m c 6 t :=
  before0_6_of m (dats m 0 c) (A_eq m c 6) (after6 m c) t d
/-- Before a later point window 8 holds what the point before it left, -/
theorem before8 (c : Dev nD) (t : Fin cfg0.N) (h : t.val ≠ 0) (d) :
    (dats m 0 c).before 8 t d = (outsAt m c (t.val - 1) (Nat.lt_of_le_of_lt (Nat.sub_le _ _) t.isLt)).2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]
/-- and so does window 9, -/
theorem before9 (c : Dev nD) (t : Fin cfg0.N) (h : t.val ≠ 0) (d) :
    (dats m 0 c).before 9 t d = (outsAt m c (t.val - 1) (Nat.lt_of_le_of_lt (Nat.sub_le _ _) t.isLt)).2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- and window 10. -/
theorem before10 (c : Dev nD) (t : Fin cfg0.N) (h : t.val ≠ 0) (d) :
    (dats m 0 c).before 10 t d = (outsAt m c (t.val - 1) (Nat.lt_of_le_of_lt (Nat.sub_le _ _) t.isLt)).2.2.2 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-- Writes over the same contents read the same, through whichever whole buffer. -/
theorem read_writes_kept {κ κ' : Kind} {sp sp' : Space} {s : Shape} {e : EltTy} (v : View sig κ sp s e) (v' : View sig κ' sp' s e)
    (f : v.ty.Contents (Elt F)) (f' : v'.ty.Contents (Elt F)) (h : v.read (Elt F) f = v'.read (Elt F) f') (L : List (View.Piece (Elt F) s e)) :
    v.read (Elt F) (v.writes (Elt F) f L) = v'.read (Elt F) (v'.writes (Elt F) f' L) := by
  funext y
  by_cases hy : ∃ p ∈ L, y ∈ p.1.set
  · exact View.read_writes_apply_eq v f v' f' y L hy
  · have hn : ∀ p ∈ L, y ∉ p.1.set := fun p hp hm => hy ⟨p, hp, hm⟩
    rw [View.read_writes_apply_of_forall_not_mem v f y L hn, View.read_writes_apply_of_forall_not_mem v' f' y L hn, h]

/-- Every index lies in the rectangle of its whole shape. -/
theorem in_whole {s : Shape} {off size : Fin s.rank → Nat} (inb) (h0 : ∀ a, off a = 0) (hs : ∀ a, size a = s.size a) (z : s.Idx) :
    z ∈ (Rect.unit off size inb).set := by
  rw [Rect.mem_set_unit]
  intro a
  rw [h0, hs]
  exact ⟨Nat.zero_le _, by have := (z a).isLt; omega⟩

/-- At the first point the zeros stored first cover the key gradient. -/
theorem cover8 (c : Dev nD) (t : Fin cfg0.N) (h : t.val = 0) (z) : ∃ p ∈ (atFirst m c t h).2.1, z ∈ p.1.set := by
  unfold atFirst runA
  dsimp only
  rw [List.exists_mem_cons_iff]
  right
  unfold runA.sl.H8_1
  rw [List.exists_mem_cons_iff]
  left
  exact in_whole (s := S4096x128) (off := ![0, 0]) (size := ![4096, 128]) inb_S4096x128_S4096x128_0_0 (by decide) (by decide) z

/-- At the first point the zeros stored first cover the value gradient. -/
theorem cover9 (c : Dev nD) (t : Fin cfg0.N) (h : t.val = 0) (z) : ∃ p ∈ (atFirst m c t h).2.2.1, z ∈ p.1.set := by
  unfold atFirst runA
  dsimp only
  rw [List.exists_mem_cons_iff]
  right
  unfold runA.sl.H9_1
  rw [List.exists_mem_cons_iff]
  left
  exact in_whole (s := S4096x128) (off := ![0, 0]) (size := ![4096, 128]) inb_S4096x128_S4096x128_0_0 (by decide) (by decide) z

/-- The sinks' gradient is stored whole. -/
theorem cover10 (c : Dev nD) (t : Fin cfg0.N) (h : t.val = 0) (z) : ∃ p ∈ (atFirst m c t h).2.2.2.1, z ∈ p.1.set := by
  unfold atFirst runA
  dsimp only
  rw [List.exists_mem_cons_iff]
  left
  exact in_whole (s := S1x128) (off := ![0, 0]) (size := ![1, 128]) inb_S1x128_S1x128_0_0 (by decide) (by decide) z

@[inherit_doc cover10] theorem cover10' (c : Dev nD) (t : Fin cfg0.N) (h : t.val ≠ 0) (y) (z) : ∃ p ∈ (atLater m c t h y).2.2.2.1, z ∈ p.1.set := by
  unfold atLater runB
  dsimp only
  rw [List.exists_mem_cons_iff]
  left
  exact in_whole (s := S1x128) (off := ![0, 0]) (size := ![1, 128]) inb_S1x128_S1x128_0_0 (by decide) (by decide) z

/-- What the body of a grid point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body of a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  by_cases h : t.val = 0
  · rw [outsAt_first m c t h]
    unfold leftFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atFirst m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (View.cover_of_tiledL _ S128x128.size (by sl_kernel_rfl))
    isplitl [H8]
    · unfold owns; iexists _; isplitr
      swap; · iexact H8
      ipureintro; exact View.read_writes_of_cover _ _ _ _ _ (cover8 m c t h)
    isplitl [H9]
    · unfold owns; iexists _; isplitr
      swap; · iexact H9
      ipureintro; exact View.read_writes_of_cover _ _ _ _ _ (cover9 m c t h)
    unfold owns; iexists _; isplitr
    swap; · iexact H10
    ipureintro; exact View.read_writes_of_cover _ _ _ _ _ (cover10 m c t h)
  · rw [outsAt_later m c t h]
    simp only [before8 m c t h, before9 m c t h, before10 m c t h]
    generalize outsAt m c (t.val - 1) _ = y
    unfold leftLater; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atLater m c t h y).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, ⟨%e7, H7⟩, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (View.cover_of_tiledL _ S128x128.size (by sl_kernel_rfl))
    isplitl [H8]
    · unfold owns; iexists _; isplitr
      swap; · iexact H8
      ipureintro; exact read_writes_kept _ _ _ _ ((Memref.IsWhole.read_unread _ _).trans (Memref.IsWhole.read_unread _ _).symm) _
    isplitl [H9]
    · unfold owns; iexists _; isplitr
      swap; · iexact H9
      ipureintro; exact read_writes_kept _ _ _ _ ((Memref.IsWhole.read_unread _ _).trans (Memref.IsWhole.read_unread _ _).symm) _
    unfold owns; iexists _; isplitr
    swap; · iexact H10
    ipureintro; exact View.read_writes_of_cover _ _ _ _ _ (cover10' m c t h y)

/-- The body that a grid point runs. -/
theorem defs₀_row (t : Fin cfg0.N) : defs₀ (F := F) .tc cfg0.body (cfg0.bodyArgs t (cfg0.slots t)) = bodyAt0 t := by
  unfold defs₀; rw [Defs.onTc_tc]

/-- The body takes every grid point from what it starts from to what it leaves. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the program ends, with every array of the pipeline at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ h => if_pos h)
    (howed := fun _ _ => rfl) (V := V m) (hmain := hmain m Variants.none) (hA := A_eq m) (hΦ := fun _ _ => rfl)

/-- The whole program terminates, with its arrays as the grid left them. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.SwaKernelIdeal.Gen

end
-- ==== Proof.SwaVec.lean ====
module

public import proofs.«01_k».proof.Proof.SwaRef
public import proofs.«01_k».proof.Proof.SwaFrame

@[expose] public section

set_option maxRecDepth 16384

noncomputable section

open Idealize.ShloMosaic Idealize.ShloMosaic.TcCoe Idealize.SL.Sem

/-! The vectors the attention gradient's kernel computes for one group of eight heads, over real blocks: heads stacked
in the rows, a pair of heads side by side in the lanes. -/

namespace Cert.SwaVec

open Cert.SwaKernelIdeal Cert.SwaKernelIdeal.Gen Cert.Lift Cert.Swa
open Cert.SwaRef (ofBits_eighth select_of select_of_not max_real_of_lt)

/-- Row `r` of member `g` in the stack. -/
def at8 (g : Fin 8) (r : Fin 128) : Fin 1024 := ⟨g * 128 + r, by omega⟩

/-- A stack: each member's rows, in its half of the lanes. -/
def Stack (s : FVec Ideal S1024x128 .bf16) (Q : Fin 8 → Fin 128 → Fin 64 → ℝ) : Prop :=
  ∀ g r (l : Fin 128), s (ix2 (at8 g r) l) = if l.val / 64 = g.val % 2 then ((Q g r (dim l) : ℝ) : EReal) else 0

/-- Keys or values, once in each half of the lanes. -/
def Twice (k : FVec Ideal S256x128 .bf16) (K : Fin 256 → Fin 64 → ℝ) : Prop :=
  ∀ j (l : Fin 128), k (ix2 j l) = ((K j (dim l) : ℝ) : EReal)

/-- A sum over the lanes of which one half vanishes. -/
theorem sum_half (e : ℕ) (he : e < 2) (f : Fin 64 → ℝ) :
    ∑ l : Fin 128, (if l.val / 64 = e then f (dim l) else 0) = ∑ d, f d := by
  have (g : ℕ → ℝ) : ∑ l : Fin 128, g l = ∑ d : Fin 64, g d + ∑ d : Fin 64, g (64 + d) := by
    have := Fin.sum_univ_add (a := 64) (b := 64) (fun l : Fin (64 + 64) => g l)
    simpa [add_comm] using this
  have h := this fun l => if l / 64 = e then f (dim l) else 0
  rw [h]
  have h0 (d : Fin 64) : d.val / 64 = 0 := by omega
  have h1 (d : Fin 64) : (64 + d.val) / 64 = 1 := by omega
  have d0 (d : Fin 64) : dim d = d := Fin.ext (Nat.mod_eq_of_lt d.2)
  have d1 (d : Fin 64) : dim (64 + d) = d := Fin.ext (by simp [dim])
  simp only [h0, h1, d0, d1]
  interval_cases e <;> simp

section Row

variable {i : grid0.Coords} {kd vd : FVec Ideal S256x128 .bf16} {qs os : FVec Ideal S1024x128 .bf16} {s : Fin 8 → Ideal .f32}
  {K V : Fin 256 → Fin 64 → ℝ} {Q O : Fin 8 → Fin 128 → Fin 64 → ℝ} {T : Fin 8 → ℝ}

/-- The mask. -/
theorem mask (i : grid0.Coords) (g : Fin 8) (r : Fin 128) (j : Fin 256) : k0_pay8 i (ix2 (at8 g r) j) = 1#1 ↔ ok (i 0).val r j := by
  have e1 : IntOp.andi (BitVec.ofNat 32 (at8 g r).val) 127#32 = BitVec.ofNat 32 r.val := by
    refine BitVec.eq_of_toNat_eq ?_
    show ((BitVec.ofNat 32 (at8 g r).val) &&& 127#32).toNat = _
    rw [BitVec.toNat_and, BitVec.toNat_ofNat, BitVec.toNat_ofNat, BitVec.toNat_ofNat, Nat.mod_eq_of_lt (by omega), Nat.mod_eq_of_lt (by omega)]
    refine (Nat.and_two_pow_sub_one_eq_mod _ 7).trans ?_
    simp only [at8]; omega
  have e : IntOp.addi (BitVec.ofNat 32 r.val) 128#32 = BitVec.ofNat 32 (r.val + 128) := (BitVec.ofNat_add r.val 128).symm
  unfold k0_pay8
  pointwise
  rw [e1, e, IntOp.andi_eq_one, IntOp.andi_eq_one, IntOp.ori_eq_one, WordCmp.cmpi_sgt_ofNat (by omega) (by omega), WordCmp.cmpi_sle_ofNat (by omega) (by omega),
    WordCmp.cmpi_sge_ofNat (by omega) (by omega)]
  have h0 : Scalar.cmpi CmpIPredicate.sgt (BitVec.ofNat 32 (i 0).val) 0#32 = BitVec.ofBool (decide (0 < (i 0).val)) :=
    WordCmp.cmpi_sgt_ofNat (w := 32) (b := 0) (lt_of_lt_of_le (i 0).2 (by decide)) (by norm_num)
  rw [h0]
  simp only [WordCmp.ofBool_eq_one_iff, decide_eq_true_iff]
  unfold ok; omega

/-- A masked score. -/
theorem masked (hQ : Stack qs Q) (hK : Twice kd K) (g : Fin 8) (r : Fin 128) (j : Fin 256) :
    k0_pay36 (k0_pay8 i) kd qs (ix2 (at8 g r) j) = if ok (i 0).val r j then ((score (Q g r) K j : ℝ) : EReal) else ⊥ := by
  have h := mask i g r j
  unfold k0_pay36
  generalize k0_pay8 i = mk at h ⊢
  pointwise
  by_cases hj : ok (i 0).val r j
  · rw [select_of (h.2 hj), if_pos hj]
    have (l : Fin 128) : qs (ix2 (at8 g r) l) * kd (ix2 j l)
        = (((if l.val / 64 = g.val % 2 then (fun d => Q g r d * K j d) (dim l) else 0 : ℝ) : ℝ) : EReal) := by
      rw [hQ g r l, hK j l]; split_ifs
      · exact (EReal.coe_mul _ _).symm
      · rw [zero_mul, EReal.coe_zero]
    simp only [this, coe_sum, ofBits_eighth, ← EReal.coe_mul]
    rw [sum_half (g.val % 2) (Nat.mod_lt _ two_pos) fun d => Q g r d * K j d]; rfl
  · rw [select_of_not (fun e => hj (h.1 e)), if_neg hj]
    exact IdealRules.named_const.ideal_named_scalar κ "mask" _ _ rfl

/-- The column of sinks that the stacked heads' rows are given. -/
theorem sinkcol (hS : ∀ g, s g = ((T g : ℝ) : EReal)) (g : Fin 8) (r : Fin 128) :
    k0_pay35 (F := Ideal) (s 0) (s 1) (s 2) (s 3) (s 4) (s 5) (s 6) (s 7) (ix2 (at8 g r) 0) = ((T g : ℝ) : EReal) := by
  unfold k0_pay35
  pointwise
  have := r.2
  fin_cases g <;> simp (disch := (simp [at8]; try omega)) only [dif_pos, dif_neg] <;> exact hS _

/-- A score is never plus infinity. -/
theorem scores_lt (hQ : Stack qs Q) (hK : Twice kd K) (g : Fin 8) (r : Fin 128) (j : Fin 256) :
    k0_pay36 (k0_pay8 i) kd qs (ix2 (at8 g r) j) < ⊤ := by
  rw [masked hQ hK]; split_ifs
  · exact EReal.coe_lt_top _
  · exact bot_lt_top

/-- The maximum of a row's scores and its sink is a real number. -/
theorem top (hQ : Stack qs Q) (hK : Twice kd K) (hS : ∀ g, s g = ((T g : ℝ) : EReal)) (g : Fin 8) (r : Fin 128) :
    ∃ μ : ℝ, k0_pay37 (F := Ideal) (k0_pay8 i) kd qs (s 0) (s 1) (s 2) (s 3) (s 4) (s 5) (s 6) (s 7) (ix2 (at8 g r) 0) = ((μ : ℝ) : EReal) := by
  have hm (j : Fin 256) := scores_lt (i := i) hQ hK g r j
  have hs := sinkcol hS g r
  unfold k0_pay37
  generalize k0_pay36 (k0_pay8 i) kd qs = sc at hm ⊢
  generalize k0_pay35 (F := Ideal) (s 0) (s 1) (s 2) (s 3) (s 4) (s 5) (s 6) (s 7) = sk at hs ⊢
  pointwise
  rw [hs]
  refine max_real_of_lt ((Finset.fold_max_lt _).2 ⟨?_, fun j _ => hm j⟩) _
  simp [Ideal.ofBits, Ideal.ieee]

/-- The shifted exponentials of the scores, -/
abbrev EX (i : grid0.Coords) (kd : FVec Ideal S256x128 .bf16) (qs : FVec Ideal S1024x128 .bf16) (s : Fin 8 → Ideal .f32) : FVec Ideal S1024x256 .f32 :=
  k0_pay38 (k0_pay8 i) kd qs (s 0) (s 1) (s 2) (s 3) (s 4) (s 5) (s 6) (s 7)
/-- of the sinks, -/
abbrev ES (i : grid0.Coords) (kd : FVec Ideal S256x128 .bf16) (qs : FVec Ideal S1024x128 .bf16) (s : Fin 8 → Ideal .f32) : FVec Ideal S1024x1 .f32 :=
  k0_pay39 (k0_pay8 i) kd qs (s 0) (s 1) (s 2) (s 3) (s 4) (s 5) (s 6) (s 7)
/-- and their sum. -/
abbrev DEN (i : grid0.Coords) (kd : FVec Ideal S256x128 .bf16) (qs : FVec Ideal S1024x128 .bf16) (s : Fin 8 → Ideal .f32) : FVec Ideal S1024x1 .f32 :=
  k0_pay40 (k0_pay8 i) kd qs (s 0) (s 1) (s 2) (s 3) (s 4) (s 5) (s 6) (s 7)

/-- They are the real ones, shifted by the same number. -/
theorem exps (hQ : Stack qs Q) (hK : Twice kd K) (hS : ∀ g, s g = ((T g : ℝ) : EReal)) (g : Fin 8) (r : Fin 128) :
    ∃ μ : ℝ, (∀ j, EX i kd qs s (ix2 (at8 g r) j) = ((shifted (i 0).val r (Q g r) K μ j : ℝ) : EReal))
      ∧ ES i kd qs s (ix2 (at8 g r) 0) = ((Real.exp (T g - μ) : ℝ) : EReal)
      ∧ DEN i kd qs s (ix2 (at8 g r) 0) = ((∑ j, shifted (i 0).val r (Q g r) K μ j + Real.exp (T g - μ) : ℝ) : EReal) := by
  obtain ⟨μ, hμ⟩ := top (i := i) hQ hK hS g r
  have hm (j : Fin 256) := masked (i := i) hQ hK g r j
  have hs := sinkcol hS g r
  have h1 (j : Fin 256) : EX i kd qs s (ix2 (at8 g r) j) = ((shifted (i 0).val r (Q g r) K μ j : ℝ) : EReal) := by
    unfold EX k0_pay38
    generalize k0_pay36 (k0_pay8 i) kd qs = sc at hm ⊢
    generalize k0_pay37 (F := Ideal) (k0_pay8 i) kd qs (s 0) (s 1) (s 2) (s 3) (s 4) (s 5) (s 6) (s 7) = mx at hμ ⊢
    pointwise
    rw [hm, hμ]
    unfold shifted
    split_ifs
    · rw [← EReal.coe_sub, Ideal.exp_coe]
    · rw [EReal.bot_sub, Ideal.exp_bot, EReal.coe_zero]
  have h2 : ES i kd qs s (ix2 (at8 g r) 0) = ((Real.exp (T g - μ) : ℝ) : EReal) := by
    unfold ES k0_pay39
    generalize k0_pay37 (F := Ideal) (k0_pay8 i) kd qs (s 0) (s 1) (s 2) (s 3) (s 4) (s 5) (s 6) (s 7) = mx at hμ ⊢
    generalize k0_pay35 (F := Ideal) (s 0) (s 1) (s 2) (s 3) (s 4) (s 5) (s 6) (s 7) = sk at hs ⊢
    pointwise
    rw [hs, hμ, ← EReal.coe_sub, Ideal.exp_coe]
  refine ⟨μ, h1, h2, ?_⟩
  unfold EX at h1; unfold ES at h2
  unfold DEN k0_pay40
  generalize k0_pay38 (F := Ideal) (k0_pay8 i) kd qs (s 0) (s 1) (s 2) (s 3) (s 4) (s 5) (s 6) (s 7) = e at h1 ⊢
  generalize k0_pay39 (F := Ideal) (k0_pay8 i) kd qs (s 0) (s 1) (s 2) (s 3) (s 4) (s 5) (s 6) (s 7) = z at h2 ⊢
  pointwise
  simp only [h1, h2, coe_sum, EReal.coe_add]

/-- The probabilities. -/
theorem probs (hQ : Stack qs Q) (hK : Twice kd K) (hS : ∀ g, s g = ((T g : ℝ) : EReal)) (g : Fin 8) (r : Fin 128) (j : Fin 256) :
    k0_pay42 (EX i kd qs s) (DEN i kd qs s) (ix2 (at8 g r) j) = ((prob (i 0).val r (Q g r) K (T g) j : ℝ) : EReal) := by
  obtain ⟨μ, h1, -, h3⟩ := exps (i := i) hQ hK hS g r
  generalize EX i kd qs s = e at h1 ⊢
  generalize DEN i kd qs s = z at h3 ⊢
  unfold k0_pay42 k0_pay41
  pointwise
  rw [h1, h3, one_div_real (shifted_total_pos ..).ne', ← EReal.coe_mul, ← shifted_prob (μ := μ), mul_one_div]

/-- The gradients with respect to them. -/
theorem dps (hV : Twice vd V) (hO : Stack os O) (g : Fin 8) (r : Fin 128) (j : Fin 256) :
    k0_pay43 vd os (ix2 (at8 g r) j) = ((dprob (O g r) V j : ℝ) : EReal) := by
  unfold k0_pay43
  pointwise
  have (l : Fin 128) : os (ix2 (at8 g r) l) * vd (ix2 j l)
      = (((if l.val / 64 = g.val % 2 then (fun d => O g r d * V j d) (dim l) else 0 : ℝ) : ℝ) : EReal) := by
    rw [hO g r l, hV j l]; split_ifs
    · exact (EReal.coe_mul _ _).symm
    · rw [zero_mul, EReal.coe_zero]
  simp only [this, coe_sum]
  rw [sum_half (g.val % 2) (Nat.mod_lt _ two_pos) fun d => O g r d * V j d]; rfl

variable (i) in
/-- The row's mean of them. -/
theorem drows (hQ : Stack qs Q) (hK : Twice kd K) (hS : ∀ g, s g = ((T g : ℝ) : EReal)) (hV : Twice vd V) (hO : Stack os O) (g : Fin 8) (r : Fin 128) :
    k0_pay44 vd os (EX i kd qs s) (DEN i kd qs s) (ix2 (at8 g r) 0) = ((drow (i 0).val r (Q g r) (O g r) K V (T g) : ℝ) : EReal) := by
  have hp (j : Fin 256) := probs (i := i) hQ hK hS g r j
  have hd (j : Fin 256) := dps hV hO g r j
  unfold k0_pay44
  generalize k0_pay42 (EX i kd qs s) (DEN i kd qs s) = p at hp ⊢
  generalize k0_pay43 vd os = d at hd ⊢
  pointwise
  simp only [hp, hd, ← EReal.coe_mul, coe_sum]; rfl

variable (i) in
/-- The gradient with respect to a sink, row by row and negated. -/
theorem dcol (hQ : Stack qs Q) (hK : Twice kd K) (hS : ∀ g, s g = ((T g : ℝ) : EReal)) (hV : Twice vd V) (hO : Stack os O) (g : Fin 8) (r : Fin 128) :
    k0_pay45 vd os (EX i kd qs s) (ES i kd qs s) (DEN i kd qs s) (ix2 (at8 g r) 0)
      = ((probSink (i 0).val r (Q g r) K (T g) * drow (i 0).val r (Q g r) (O g r) K V (T g) : ℝ) : EReal) := by
  have hd := drows i hQ hK hS hV hO g r
  obtain ⟨μ, -, h2, h3⟩ := exps (i := i) hQ hK hS g r
  unfold k0_pay45
  generalize k0_pay44 vd os (EX i kd qs s) (DEN i kd qs s) = d at hd ⊢
  generalize ES i kd qs s = e at h2 ⊢
  generalize DEN i kd qs s = z at h3 ⊢
  unfold k0_pay41
  pointwise
  rw [h2, h3, hd, one_div_real (shifted_total_pos ..).ne', ← EReal.coe_mul, ← EReal.coe_mul, ← shifted_probSink (μ := μ), mul_one_div]

/-- The gradients with respect to the scores, -/
abbrev DSC (i : grid0.Coords) (kd vd : FVec Ideal S256x128 .bf16) (qs os : FVec Ideal S1024x128 .bf16) (s : Fin 8 → Ideal .f32) : FVec Ideal S1024x256 .bf16 :=
  k0_pay52 (k0_pay42 (EX i kd qs s) (DEN i kd qs s)) (k0_pay43 vd os) (k0_pay44 vd os (EX i kd qs s) (DEN i kd qs s))

variable (i) in
/-- as real numbers. -/
theorem dscores (hQ : Stack qs Q) (hK : Twice kd K) (hS : ∀ g, s g = ((T g : ℝ) : EReal)) (hV : Twice vd V) (hO : Stack os O) (g : Fin 8) (r : Fin 128) (j : Fin 256) :
    DSC i kd vd qs os s (ix2 (at8 g r) j) = ((dscore (i 0).val r (Q g r) (O g r) K V (T g) j : ℝ) : EReal) := by
  have hp (j : Fin 256) := probs (i := i) hQ hK hS g r j
  have hd (j : Fin 256) := dps hV hO g r j
  have hr := drows i hQ hK hS hV hO g r
  unfold DSC k0_pay52
  generalize k0_pay42 (EX i kd qs s) (DEN i kd qs s) = p at hp ⊢
  generalize k0_pay44 vd os (EX i kd qs s) (DEN i kd qs s) = d at hr ⊢
  generalize k0_pay43 vd os = d at hd ⊢
  pointwise
  simp only [hp, hd, hr, ofBits_eighth, ← EReal.coe_mul, ← EReal.coe_sub]; rfl

end Row

/-- A sum over the stacked rows. -/
theorem sum_rows {M : Type} [AddCommMonoid M] (f : Fin 1024 → M) : ∑ R, f R = ∑ g, ∑ r, f (at8 g r) := by
  exact Fin.sum_univ_tiles 8 128 rfl f

section Products

variable {ds : FVec Ideal S1024x256 .bf16} {pr dp : FVec Ideal S1024x256 .f32} {dr : FVec Ideal S1024x1 .f32} {kd : FVec Ideal S256x128 .bf16} {qs os : FVec Ideal S1024x128 .bf16}
  {K : Fin 256 → Fin 64 → ℝ} {Q O : Fin 8 → Fin 128 → Fin 64 → ℝ} {S P : Fin 8 → Fin 128 → Fin 256 → ℝ}

/-- The gradient with respect to the queries, the same in both halves of the lanes. -/
theorem dqs (hK : Twice kd K) (hS : ∀ g r j, k0_pay52 pr dp dr (ix2 (at8 g r) j) = ((S g r j : ℝ) : EReal)) (g : Fin 8) (r : Fin 128) (l : Fin 128) :
    k0_pay53 kd pr dp dr (ix2 (at8 g r) l) = ((∑ j, S g r j * K j (dim l) : ℝ) : EReal) := by
  unfold k0_pay53
  generalize k0_pay52 pr dp dr = d at hS ⊢
  pointwise
  simp only [hS, hK _ l, ← EReal.coe_mul, coe_sum]

/-- Both halves of the lanes together hold each member once. -/
theorem two_halves (hQ : Stack qs Q) (w : Fin 8 → Fin 128 → ℝ) (l : Fin 128) (l' : Fin 128) (h : l'.val = (l.val + 128 - 64) % 128) (f : Fin 1024 → EReal)
    (hf : ∀ g r, f (at8 g r) = ((w g r : ℝ) : EReal)) :
    ∑ x, f x * qs (ix2 x l) + ∑ x, f x * qs (ix2 x l') = ((∑ g, ∑ r, w g r * Q g r (dim l) : ℝ) : EReal) := by
  rw [← Finset.sum_add_distrib, sum_rows]
  have (g : Fin 8) (r : Fin 128) : f (at8 g r) * qs (ix2 (at8 g r) l) + f (at8 g r) * qs (ix2 (at8 g r) l') = ((w g r * Q g r (dim l) : ℝ) : EReal) := by
    have e : dim l' = dim l := Fin.ext (by simp only [dim]; omega)
    rw [hf, hQ g r l, hQ g r l', e]
    by_cases h1 : l.val / 64 = g.val % 2
    · rw [if_pos h1, if_neg (show ¬ l'.val / 64 = g.val % 2 by omega), mul_zero, add_zero, ← EReal.coe_mul]
    · rw [if_neg h1, if_pos (show l'.val / 64 = g.val % 2 by omega), mul_zero, zero_add, ← EReal.coe_mul]
  simp only [this, coe_sum]

/-- The gradient with respect to the keys, the sum of both halves of the lanes in each. -/
theorem dks (hQ : Stack qs Q) (hS : ∀ g r j, ds (ix2 (at8 g r) j) = ((S g r j : ℝ) : EReal)) (j : Fin 256) (l : Fin 128) :
    k0_pay58 qs ds (ix2 j l) = ((∑ g, ∑ r, S g r j * Q g r (dim l) : ℝ) : EReal) := by
  unfold k0_pay58
  pointwise
  exact two_halves hQ (fun g r => S g r j) l _ rfl (fun x => ds (ix2 x j)) fun g r => hS g r j

/-- The gradient with respect to the values, likewise. -/
theorem dvs (hO : Stack os O) (hP : ∀ g r j, pr (ix2 (at8 g r) j) = ((P g r j : ℝ) : EReal)) (j : Fin 256) (l : Fin 128) :
    k0_pay59 os pr (ix2 j l) = ((∑ g, ∑ r, P g r j * O g r (dim l) : ℝ) : EReal) := by
  unfold k0_pay59
  pointwise
  exact two_halves hO (fun g r => P g r j) l _ rfl (fun x => pr (ix2 x j)) fun g r => hP g r j

end Products

end Cert.SwaVec

end
-- ==== Proof.SwaStack.lean ====
module

public import proofs.«01_k».proof.Proof.SwaVec

@[expose] public section

set_option maxRecDepth 16384

noncomputable section

open Idealize.ShloMosaic Idealize.ShloMosaic.TcCoe Idealize.SL.Sem

/-! How the kernel stacks its heads and doubles its keys, over blocks of reals. -/

namespace Cert.SwaVec

open Cert.SwaKernelIdeal Cert.SwaKernelIdeal.Gen Cert.Lift Cert.Swa
open Cert.SwaRef (select_of select_of_not)

/-- The key positions of the window before and of this one. -/
def before (r : Fin 128) : Fin 256 := ⟨r, by omega⟩
@[inherit_doc before] def own (r : Fin 128) : Fin 256 := ⟨128 + r, by omega⟩

/-- The lane of column `d` in half `e`. -/
def lane (e : Fin 2) (d : Fin 64) : Fin 128 := ⟨e * 64 + d, by omega⟩

/-- The two halves of the lanes. -/
theorem lanes (l : Fin 128) : k0_pay9 (ix2 0 l) = 1#1 ↔ l.val < 64 := by
  unfold k0_pay9
  pointwise
  rw [WordCmp.cmpi_slt_ofNat (by omega) (by omega)]
  simp only [WordCmp.ofBool_eq_one_iff, decide_eq_true_iff]

section Keys

variable {a b : FVec Ideal S128x128 .f32} {A : Fin 256 → Fin 128 → ℝ}
  (ha : ∀ (r l : Fin 128), a (ix2 r l) = ((A (before r) l : ℝ) : EReal))
  (hb : ∀ (r l : Fin 128), b (ix2 r l) = ((A (own r) l : ℝ) : EReal))
include ha hb

/-- The window's keys, one block under the other. -/
theorem both (j : Fin 256) (l : Fin 128) : k0_pay10 (F := Ideal) a b (ix2 j l) = ((A j l : ℝ) : EReal) := by
  unfold k0_pay10
  pointwise
  by_cases h : j.val < 128
  · rw [dif_pos h]; exact ha _ _
  · rw [dif_neg h]; exact (hb _ _).trans (congrArg (fun i => ((A i l : ℝ) : EReal)) (Fin.ext (by dsimp only [own]; omega)))

omit ha hb in
/-- The first group's columns: the lower half of the lanes, or the upper one turned round. -/
theorem lower {k : FVec Ideal S256x128 .f32} (h : ∀ j l, k (ix2 j l) = ((A j l : ℝ) : EReal)) (m : IVec S1x128 1) (hm : ∀ l, m (ix2 0 l) = 1#1 ↔ l.val < 64)
    (j : Fin 256) (l l' : Fin 128) (hl : l'.val = (l.val + 128 - 64) % 128) :
    Scalar.select (m (ix2 0 l)) (k (ix2 j l)) (k (ix2 j l')) = ((A j (lane 0 (dim l)) : ℝ) : EReal) := by
  rw [h, h]
  by_cases hc : l.val < 64
  · rw [select_of ((hm l).2 hc)]
    exact congrArg (fun i => ((A j i : ℝ) : EReal)) (Fin.ext (by simp [lane, dim]; omega))
  · rw [select_of_not (fun e => hc ((hm l).1 e))]
    exact congrArg (fun i => ((A j i : ℝ) : EReal)) (Fin.ext (by simp [lane, dim]; omega))

omit ha hb in
/-- The second group's: the upper half, or the lower one turned round. -/
theorem upper {k : FVec Ideal S256x128 .f32} (h : ∀ j l, k (ix2 j l) = ((A j l : ℝ) : EReal)) (m : IVec S1x128 1) (hm : ∀ l, m (ix2 0 l) = 1#1 ↔ l.val < 64)
    (j : Fin 256) (l l' : Fin 128) (hl : l'.val = (l.val + 128 - 64) % 128) :
    Scalar.select (m (ix2 0 l)) (k (ix2 j l')) (k (ix2 j l)) = ((A j (lane 1 (dim l)) : ℝ) : EReal) := by
  rw [h, h]
  by_cases hc : l.val < 64
  · rw [select_of ((hm l).2 hc)]
    exact congrArg (fun i => ((A j i : ℝ) : EReal)) (Fin.ext (by simp [lane, dim]; omega))
  · rw [select_of_not (fun e => hc ((hm l).1 e))]
    exact congrArg (fun i => ((A j i : ℝ) : EReal)) (Fin.ext (by simp [lane, dim]; omega))

/-- The first head's keys, twice side by side, -/
theorem keys0 : Twice (k0_pay15 (k0_pay10 a b) (k0_pay13 a b) k0_pay14) (fun j d => A j (lane 0 d)) := by
  intro j l
  have h := both ha hb
  have hm := lanes
  unfold k0_pay15 k0_pay13 k0_pay14
  generalize k0_pay10 (F := Ideal) a b = k at h ⊢
  generalize k0_pay9 = m at hm ⊢
  pointwise
  exact lower h m hm j l _ rfl

/-- the second head's keys, -/
theorem keys1 : Twice (k0_pay60 k0_pay9 (k0_pay10 a b)) (fun j d => A j (lane 1 d)) := by
  intro j l
  have h := both ha hb
  have hm := lanes
  unfold k0_pay60
  generalize k0_pay10 (F := Ideal) a b = k at h ⊢
  generalize k0_pay9 = m at hm ⊢
  pointwise
  exact upper h m hm j l _ rfl

/-- the first head's values, -/
theorem values0 : Twice (k0_pay16 k0_pay9 (k0_pay11 a b)) (fun j d => A j (lane 0 d)) := by
  intro j l
  have h : ∀ j l, k0_pay11 (F := Ideal) a b (ix2 j l) = ((A j l : ℝ) : EReal) := both ha hb
  have hm := lanes
  unfold k0_pay16
  generalize k0_pay11 (F := Ideal) a b = k at h ⊢
  generalize k0_pay9 = m at hm ⊢
  pointwise
  exact lower h m hm j l _ rfl

/-- and the second head's values. -/
theorem values1 : Twice (k0_pay61 k0_pay9 (k0_pay11 a b)) (fun j d => A j (lane 1 d)) := by
  intro j l
  have h : ∀ j l, k0_pay11 (F := Ideal) a b (ix2 j l) = ((A j l : ℝ) : EReal) := both ha hb
  have hm := lanes
  unfold k0_pay61
  generalize k0_pay11 (F := Ideal) a b = k at h ⊢
  generalize k0_pay9 = m at hm ⊢
  pointwise
  exact upper h m hm j l _ rfl

end Keys

section Heads

variable {B : Fin 4 → Fin 128 → Fin 128 → ℝ} {p : Fin 4} {x : FVec Ideal S128x128 .f32} (hx : ∀ (r l : Fin 128), x (ix2 r l) = ((B p r l : ℝ) : EReal))
  {m : IVec S1x128 1} (hm : ∀ l, m (ix2 0 l) = 1#1 ↔ l.val < 64) (g : Fin 8) {r r' : Fin 128}
include hx hm

/-- An even member of the stack: a pair's lower half. -/
theorem even_half (he : g.val % 2 = 0) (hp : (⟨g / 2, by omega⟩ : Fin 4) = p) (hr : r' = r) (l : Fin 128) :
    Scalar.select (m (ix2 0 l)) (x (ix2 r' l)) 0
      = if l.val / 64 = g.val % 2 then ((B ⟨g / 2, by omega⟩ r (lane ⟨g % 2, by omega⟩ (dim l)) : ℝ) : EReal) else 0 := by
  subst hr hp
  by_cases hc : l.val < 64
  · rw [select_of ((hm l).2 hc), hx, if_pos (by omega)]
    exact congrArg (fun i => ((B _ _ i : ℝ) : EReal)) (Fin.ext (by simp only [lane, dim]; omega))
  · rw [select_of_not (fun e => hc ((hm l).1 e)), if_neg (by omega)]

/-- An odd one: its upper half. -/
theorem odd_half (he : g.val % 2 = 1) (hp : (⟨g / 2, by omega⟩ : Fin 4) = p) (hr : r' = r) (l : Fin 128) :
    Scalar.select (m (ix2 0 l)) 0 (x (ix2 r' l))
      = if l.val / 64 = g.val % 2 then ((B ⟨g / 2, by omega⟩ r (lane ⟨g % 2, by omega⟩ (dim l)) : ℝ) : EReal) else 0 := by
  subst hr hp
  by_cases hc : l.val < 64
  · rw [select_of ((hm l).2 hc), if_neg (by omega)]
  · rw [select_of_not (fun e => hc ((hm l).1 e)), hx, if_pos (by omega)]
    exact congrArg (fun i => ((B _ _ i : ℝ) : EReal)) (Fin.ext (by simp only [lane, dim]; omega))

end Heads

section Stacks

variable {a b c d : FVec Ideal S128x128 .f32} {B : Fin 4 → Fin 128 → Fin 128 → ℝ}
  (ha : ∀ (r l : Fin 128), a (ix2 r l) = ((B 0 r l : ℝ) : EReal)) (hb : ∀ (r l : Fin 128), b (ix2 r l) = ((B 1 r l : ℝ) : EReal))
  (hc : ∀ (r l : Fin 128), c (ix2 r l) = ((B 2 r l : ℝ) : EReal)) (hd : ∀ (r l : Fin 128), d (ix2 r l) = ((B 3 r l : ℝ) : EReal))
include ha hb hc hd

/-- The first group's queries. -/
theorem queries0 : Stack (k0_pay27 k0_pay9 (k0_pay18 k0_pay9 a) (k0_pay19 k0_pay9 a) (k0_pay21 k0_pay9 b) (k0_pay22 k0_pay9 b) (k0_pay24 k0_pay9 c) (k0_pay25 k0_pay9 c) (k0_pay26 d))
    (fun g r e => B ⟨g / 2, by omega⟩ r (lane ⟨g % 2, by omega⟩ e)) := by
  intro g r l
  have hm := lanes
  unfold k0_pay27 k0_pay26 k0_pay18 k0_pay19 k0_pay21 k0_pay22 k0_pay24 k0_pay25 k0_pay17 k0_pay20 k0_pay23
  generalize k0_pay9 = m at hm ⊢
  pointwise
  have := r.2
  fin_cases g <;> simp (disch := (simp [at8]; try omega)) only [dif_pos, dif_neg]
  exacts [even_half ha hm 0 rfl rfl (Fin.ext (by simp [at8] <;> omega)) l, odd_half ha hm 1 rfl rfl (Fin.ext (by simp [at8] <;> omega)) l, even_half hb hm 2 rfl rfl (Fin.ext (by simp [at8] <;> omega)) l, odd_half hb hm 3 rfl rfl (Fin.ext (by simp [at8] <;> omega)) l,
    even_half hc hm 4 rfl rfl (Fin.ext (by simp [at8] <;> omega)) l, odd_half hc hm 5 rfl rfl (Fin.ext (by simp [at8] <;> omega)) l, even_half hd hm 6 rfl rfl (Fin.ext (by simp [at8] <;> omega)) l, odd_half hd hm 7 rfl rfl (Fin.ext (by simp [at8] <;> omega)) l]

/-- The second group's. -/
theorem queries1 : Stack (k0_pay67 k0_pay9 (k0_pay63 k0_pay9 a) (k0_pay64 k0_pay9 a) (k0_pay65 b) (k0_pay66 k0_pay9 b) (Scalar.ofBits .f32 0x00000000#32) c d)
    (fun g r e => B ⟨g / 2, by omega⟩ r (lane ⟨g % 2, by omega⟩ e)) := by
  intro g r l
  have hm := lanes
  unfold k0_pay67 k0_pay63 k0_pay64 k0_pay66 k0_pay62 k0_pay65
  generalize k0_pay9 = m at hm ⊢
  pointwise
  have := r.2
  fin_cases g <;> simp (disch := (simp [at8]; try omega)) only [dif_pos, dif_neg]
  exacts [even_half ha hm 0 rfl rfl (Fin.ext (by simp [at8] <;> omega)) l, odd_half ha hm 1 rfl rfl (Fin.ext (by simp [at8] <;> omega)) l, even_half hb hm 2 rfl rfl (Fin.ext (by simp [at8] <;> omega)) l, odd_half hb hm 3 rfl rfl (Fin.ext (by simp [at8] <;> omega)) l,
    even_half hc hm 4 rfl rfl (Fin.ext (by simp [at8] <;> omega)) l, odd_half hc hm 5 rfl rfl (Fin.ext (by simp [at8] <;> omega)) l, even_half hd hm 6 rfl rfl (Fin.ext (by simp [at8] <;> omega)) l, odd_half hd hm 7 rfl rfl (Fin.ext (by simp [at8] <;> omega)) l]

/-- The first group's incoming gradients. -/
theorem grads0 : Stack (k0_pay34 k0_pay9 (k0_pay28 k0_pay9 a) (k0_pay29 k0_pay9 a) (k0_pay30 k0_pay9 b) (k0_pay31 k0_pay9 b) (k0_pay32 k0_pay9 c) (k0_pay33 k0_pay9 c) d)
    (fun g r e => B ⟨g / 2, by omega⟩ r (lane ⟨g % 2, by omega⟩ e)) := by
  intro g r l
  have hm := lanes
  unfold k0_pay34 k0_pay28 k0_pay29 k0_pay30 k0_pay31 k0_pay32 k0_pay33
  generalize k0_pay9 = m at hm ⊢
  pointwise
  have := r.2
  fin_cases g <;> simp (disch := (simp [at8]; try omega)) only [dif_pos, dif_neg]
  exacts [even_half ha hm 0 rfl rfl (Fin.ext (by simp [at8] <;> omega)) l, odd_half ha hm 1 rfl rfl (Fin.ext (by simp [at8] <;> omega)) l, even_half hb hm 2 rfl rfl (Fin.ext (by simp [at8] <;> omega)) l, odd_half hb hm 3 rfl rfl (Fin.ext (by simp [at8] <;> omega)) l,
    even_half hc hm 4 rfl rfl (Fin.ext (by simp [at8] <;> omega)) l, odd_half hc hm 5 rfl rfl (Fin.ext (by simp [at8] <;> omega)) l, even_half hd hm 6 rfl rfl (Fin.ext (by simp [at8] <;> omega)) l, odd_half hd hm 7 rfl rfl (Fin.ext (by simp [at8] <;> omega)) l]

/-- The second group's. -/
theorem grads1 : Stack (k0_pay72 k0_pay9 (k0_pay68 k0_pay9 a) (k0_pay69 k0_pay9 a) b (k0_pay70 k0_pay9) k0_pay71 c d)
    (fun g r e => B ⟨g / 2, by omega⟩ r (lane ⟨g % 2, by omega⟩ e)) := by
  intro g r l
  have hm := lanes
  unfold k0_pay72 k0_pay68 k0_pay69 k0_pay70 k0_pay71
  generalize k0_pay9 = m at hm ⊢
  pointwise
  have := r.2
  fin_cases g <;> simp (disch := (simp [at8]; try omega)) only [dif_pos, dif_neg]
  exacts [even_half ha hm 0 rfl rfl (Fin.ext (by simp [at8] <;> omega)) l, odd_half ha hm 1 rfl rfl (Fin.ext (by simp [at8] <;> omega)) l, even_half hb hm 2 rfl rfl (Fin.ext (by simp [at8] <;> omega)) l, odd_half hb hm 3 rfl rfl (Fin.ext (by simp [at8] <;> omega)) l,
    even_half hc hm 4 rfl rfl (Fin.ext (by simp [at8] <;> omega)) l, odd_half hc hm 5 rfl rfl (Fin.ext (by simp [at8] <;> omega)) l, even_half hd hm 6 rfl rfl (Fin.ext (by simp [at8] <;> omega)) l, odd_half hd hm 7 rfl rfl (Fin.ext (by simp [at8] <;> omega)) l]

end Stacks

end Cert.SwaVec

end
-- ==== Proof.SwaOuts.lean ====
module

public import proofs.«01_k».proof.Proof.SwaStack

@[expose] public section

set_option maxRecDepth 16384

noncomputable section

open Idealize.ShloMosaic Idealize.ShloMosaic.TcCoe Idealize.SL.Sem

/-! What the kernel stores of those vectors. -/

namespace Cert.SwaVec

open Cert.SwaKernelIdeal Cert.SwaKernelIdeal.Gen Cert.Lift Cert.Swa
open Cert.SwaRef (select_of select_of_not)

section Queries

variable {dq : FVec Ideal S1024x128 .f32} {D : Fin 8 → Fin 128 → Fin 64 → ℝ} (hD : ∀ g r (l : Fin 128), dq (ix2 (at8 g r) l) = ((D g r (dim l) : ℝ) : EReal))
include hD

/-- A pair of heads side by side again. -/
theorem pair (p : Fin 4) (r l : Fin 128) (h0 : 256 * p.val + r.val < 1024) (h1 : 256 * p.val + 128 + r.val < 1024) (m : IVec S1x128 1) (hm : ∀ l, m (ix2 0 l) = 1#1 ↔ l.val < 64) :
    Scalar.select (m (ix2 0 l)) (dq (ix2 ⟨256 * p + r, h0⟩ l)) (dq (ix2 ⟨256 * p + 128 + r, h1⟩ l))
      = ((D ⟨2 * p + l / 64, by omega⟩ r (dim l) : ℝ) : EReal) := by
  have e0 : (⟨256 * p + r, h0⟩ : Fin 1024) = at8 ⟨2 * p, by omega⟩ r := Fin.ext (by simp only [at8]; omega)
  have e1 : (⟨256 * p + 128 + r, h1⟩ : Fin 1024) = at8 ⟨2 * p + 1, by omega⟩ r := Fin.ext (by simp only [at8]; omega)
  rw [e0, e1, hD, hD]
  by_cases hc : l.val < 64
  · rw [select_of ((hm l).2 hc)]; exact congrArg (fun g => ((D g r (dim l) : ℝ) : EReal)) (Fin.ext (by dsimp only; omega))
  · rw [select_of_not (fun e => hc ((hm l).1 e))]; exact congrArg (fun g => ((D g r (dim l) : ℝ) : EReal)) (Fin.ext (by dsimp only; omega))

/-- The last two heads' columns of the queries' gradient, -/
theorem pair3 (r l : Fin 128) : k0_pay57 k0_pay9 dq (ix2 r l) = ((D ⟨2 * 3 + l / 64, by omega⟩ r (dim l) : ℝ) : EReal) := by
  have hm := lanes
  unfold k0_pay57
  generalize k0_pay9 = m at hm ⊢
  pointwise
  exact pair hD 3 r l _ _ m hm

/-- the two before them, -/
theorem pair2 (r l : Fin 128) : k0_pay101 k0_pay9 dq (ix2 r l) = ((D ⟨2 * 2 + l / 64, by omega⟩ r (dim l) : ℝ) : EReal) := by
  have hm := lanes
  unfold k0_pay101
  generalize k0_pay9 = m at hm ⊢
  pointwise
  exact pair hD 2 r l _ _ m hm

/-- and the two before those. -/
theorem pair1 (r l : Fin 128) : k0_pay100 k0_pay9 dq (ix2 r l) = ((D ⟨2 * 1 + l / 64, by omega⟩ r (dim l) : ℝ) : EReal) := by
  have hm := lanes
  unfold k0_pay100
  generalize k0_pay9 = m at hm ⊢
  pointwise
  exact pair hD 1 r l _ _ m hm

end Queries

section First

variable {kd : FVec Ideal S256x128 .bf16} {pr dp : FVec Ideal S1024x256 .f32} {dr : FVec Ideal S1024x1 .f32} {D : Fin 8 → Fin 128 → Fin 64 → ℝ}
  (hD : ∀ g r (l : Fin 128), k0_pay53 kd pr dp dr (ix2 (at8 g r) l) = ((D g r (dim l) : ℝ) : EReal))
include hD

/-- The first pair of either group. -/
theorem pair0 (r l : Fin 128) : k0_pay54 k0_pay9 kd pr dp dr (ix2 r l) = ((D ⟨2 * 0 + l / 64, by omega⟩ r (dim l) : ℝ) : EReal) := by
  have hm := lanes
  unfold k0_pay54
  generalize k0_pay9 = m at hm ⊢
  generalize k0_pay53 kd pr dp dr = dq at hD ⊢
  pointwise
  have h := pair hD 0 r l (by simp; omega) (by simp; omega) m hm
  simpa using h

end First

section Keys

/-- The gradient with respect to the window's keys: each group in its half of the lanes. -/
theorem keygrads (fk : FVec Ideal S256x128 .f32) (qs : FVec Ideal S1024x128 .bf16) (ds : FVec Ideal S1024x256 .bf16) {E : Fin 2 → Fin 256 → Fin 64 → ℝ}
    (h0 : ∀ j (l : Fin 128), fk (ix2 j l) = ((E 0 j (dim l) : ℝ) : EReal)) (h1 : ∀ j (l : Fin 128), k0_pay58 qs ds (ix2 j l) = ((E 1 j (dim l) : ℝ) : EReal))
    (j : Fin 256) (l : Fin 128) : k0_pay103 k0_pay9 fk qs ds (ix2 j l) = ((E (kv l) j (dim l) : ℝ) : EReal) := by
  have hm := lanes
  have e : k0_pay103 k0_pay9 fk qs ds = select (broadcastTo S256x128 (shapeCast S1x128 k0_pay9 rfl) (by decide)) fk (k0_pay58 qs ds) := rfl
  rw [e]
  generalize k0_pay58 qs ds = f1 at h1 ⊢
  generalize k0_pay9 = m at hm ⊢
  pointwise
  rw [h0, h1]
  by_cases hc : l.val < 64
  · rw [select_of ((hm l).2 hc)]; exact congrArg (fun h => ((E h j (dim l) : ℝ) : EReal)) (Fin.ext (by simp [kv]; omega))
  · rw [select_of_not (fun e => hc ((hm l).1 e))]; exact congrArg (fun h => ((E h j (dim l) : ℝ) : EReal)) (Fin.ext (by simp [kv]; omega))

/-- The gradient with respect to the window's values, likewise. -/
theorem valuegrads (fv : FVec Ideal S256x128 .f32) (os : FVec Ideal S1024x128 .bf16) (pr : FVec Ideal S1024x256 .f32) {E : Fin 2 → Fin 256 → Fin 64 → ℝ}
    (h0 : ∀ j (l : Fin 128), fv (ix2 j l) = ((E 0 j (dim l) : ℝ) : EReal)) (h1 : ∀ j (l : Fin 128), k0_pay59 os pr (ix2 j l) = ((E 1 j (dim l) : ℝ) : EReal))
    (j : Fin 256) (l : Fin 128) : k0_pay104 k0_pay9 fv os pr (ix2 j l) = ((E (kv l) j (dim l) : ℝ) : EReal) := by
  have hm := lanes
  have e : k0_pay104 k0_pay9 fv os pr = select (broadcastTo S256x128 (shapeCast S1x128 k0_pay9 rfl) (by decide)) fv (k0_pay59 os pr) := rfl
  rw [e]
  generalize k0_pay59 os pr = f1 at h1 ⊢
  generalize k0_pay9 = m at hm ⊢
  pointwise
  rw [h0, h1]
  by_cases hc : l.val < 64
  · rw [select_of ((hm l).2 hc)]; exact congrArg (fun h => ((E h j (dim l) : ℝ) : EReal)) (Fin.ext (by simp [kv]; omega))
  · rw [select_of_not (fun e => hc ((hm l).1 e))]; exact congrArg (fun h => ((E h j (dim l) : ℝ) : EReal)) (Fin.ext (by simp [kv]; omega))

end Keys

section Sinks

/-- One head's lane. -/
theorem member {dc : FVec Ideal S1024x1 .f32} {C : Fin 8 → Fin 128 → ℝ} (hC : ∀ g r, dc (ix2 (at8 g r) 0) = ((C g r : ℝ) : EReal)) (g : Fin 8) (a : ℕ) (ha : a < 16)
    (l : Fin 128) (i : Fin 128 → Fin 1024) (hi : ∀ x, i x = at8 g x) :
    Scalar.select (IntOp.cmpi .eq (BitVec.ofNat 32 l.val) (BitVec.ofNat 32 a)) (0 - ∑ x : Fin 128, ∑ _y : Fin 1, dc (ix2 (i x) 0)) 0
      = ((if l.val = a then ∑ r, -C g r else 0 : ℝ) : EReal) := by
  have hs : (0 - ∑ x : Fin 128, ∑ _y : Fin 1, dc (ix2 (i x) 0)) = ((∑ r, -C g r : ℝ) : EReal) := by
    simp only [hi, hC, Finset.univ_unique, Finset.sum_singleton, coe_sum, Finset.sum_neg_distrib, EReal.coe_neg, zero_sub]
  have hc : IntOp.cmpi .eq (BitVec.ofNat 32 l.val) (BitVec.ofNat 32 a) = 1#1 ↔ l.val = a := by
    rw [WordCmp.cmpi_eq_ofNat (by omega) (by omega)]
    simp only [WordCmp.ofBool_eq_one_iff, decide_eq_true_iff]
  rw [hs]
  by_cases h : l.val = a
  · rw [select_of (hc.2 h), if_pos h]
  · rw [select_of_not (fun e => h (hc.1 e)), if_neg h, EReal.coe_zero]

/-- The first group's sinks' gradient, put into its 8 columns. -/
theorem sinks0 (z : IVec S1x128 32) (hz : z = iota .tc S1x128 32 [1] iota_S1x128_d1_w32) (vd : FVec Ideal S256x128 .bf16) (os : FVec Ideal S1024x128 .bf16)
    (e : FVec Ideal S1024x256 .f32) (es den : FVec Ideal S1024x1 .f32) {C : Fin 8 → Fin 128 → ℝ}
    (hC : ∀ g r, k0_pay45 vd os e es den (ix2 (at8 g r) 0) = ((C g r : ℝ) : EReal)) (l : Fin 128) :
    k0_pay51 z (k0_pay45 vd os e es den) (k0_pay48 z (k0_pay45 vd os e es den) (k0_pay46 z k0_pay12 vd os e es den) (k0_pay47 z vd os e es den)) (k0_pay49 z) (k0_pay50 (k0_pay45 vd os e es den)) (ix2 0 l)
      = ((∑ g : Fin 8, if l.val = g.val then ∑ r, -C g r else 0 : ℝ) : EReal) := by
  subst hz
  unfold k0_pay51 k0_pay48 k0_pay46 k0_pay47 k0_pay49 k0_pay50 k0_pay12
  generalize k0_pay45 vd os e es den = dc at hC ⊢
  pointwise
  have h := fun g a ha i hi => member hC g a ha l i hi
  have h0 := h 0 0 (by omega) (fun x => ⟨x, by omega⟩) fun x => Fin.ext (by simp [at8])
  have h1 := h 1 1 (by omega) (fun x => ⟨128 + x, by omega⟩) fun x => Fin.ext (by simp [at8])
  have h2 := h 2 2 (by omega) (fun x => ⟨256 + x, by omega⟩) fun x => Fin.ext (by simp [at8])
  have h3 := h 3 3 (by omega) (fun x => ⟨384 + x, by omega⟩) fun x => Fin.ext (by simp [at8])
  have h4 := h 4 4 (by omega) (fun x => ⟨512 + x, by omega⟩) fun x => Fin.ext (by simp [at8])
  have h5 := h 5 5 (by omega) (fun x => ⟨640 + x, by omega⟩) fun x => Fin.ext (by simp [at8])
  have h6 := h 6 6 (by omega) (fun x => ⟨768 + x, by omega⟩) fun x => Fin.ext (by simp [at8])
  have h7 := h 7 7 (by omega) (fun x => ⟨896 + x, by omega⟩) fun x => Fin.ext (by simp [at8])
  rw [h0, h1, h2, h3, h4, h5, h6, h7, Fin.sum_univ_eight]
  simp only [← EReal.coe_add]
  rfl

/-- The second group's, added to it. -/
theorem sinks1 (z : IVec S1x128 32) (hz : z = iota .tc S1x128 32 [1] iota_S1x128_d1_w32) (acc : FVec Ideal S1x128 .f32) (mk : IVec S1024x256 1) (kd vd : FVec Ideal S256x128 .bf16)
    (qs os : FVec Ideal S1024x128 .bf16) (b0 b1 b2 b3 b4 b5 b6 : FVec Ideal S128x1 .f32) (s7 : Ideal .f32) {A : Fin 128 → ℝ} {C : Fin 8 → Fin 128 → ℝ}
    (hA : ∀ l, acc (ix2 0 l) = ((A l : ℝ) : EReal))
    (hC : ∀ g r, k0_pay89 mk kd vd qs os b0 b1 b2 b3 b4 b5 b6 s7 (ix2 (at8 g r) 0) = ((C g r : ℝ) : EReal)) (l : Fin 128) :
    k0_pay95 z (k0_pay89 mk kd vd qs os b0 b1 b2 b3 b4 b5 b6 s7)
        (k0_pay93 z (k0_pay89 mk kd vd qs os b0 b1 b2 b3 b4 b5 b6 s7) (k0_pay90 mk z acc kd vd qs os b0 b1 b2 b3 b4 b5 b6 s7) (k0_pay91 z) (k0_pay92 mk kd vd qs os b0 b1 b2 b3 b4 b5 b6 s7))
        k0_pay94 (ix2 0 l)
      = ((A l + ∑ g : Fin 8, if l.val = 8 + g.val then ∑ r, -C g r else 0 : ℝ) : EReal) := by
  subst hz
  unfold k0_pay95 k0_pay93 k0_pay90 k0_pay91 k0_pay92 k0_pay94
  generalize k0_pay89 mk kd vd qs os b0 b1 b2 b3 b4 b5 b6 s7 = dc at hC ⊢
  pointwise
  have h := fun g a ha i hi => member hC g a ha l i hi
  have h0 := h 0 8 (by omega) (fun x => ⟨x, by omega⟩) fun x => Fin.ext (by simp [at8])
  have h1 := h 1 9 (by omega) (fun x => ⟨128 + x, by omega⟩) fun x => Fin.ext (by simp [at8])
  have h2 := h 2 10 (by omega) (fun x => ⟨256 + x, by omega⟩) fun x => Fin.ext (by simp [at8])
  have h3 := h 3 11 (by omega) (fun x => ⟨384 + x, by omega⟩) fun x => Fin.ext (by simp [at8])
  have h4 := h 4 12 (by omega) (fun x => ⟨512 + x, by omega⟩) fun x => Fin.ext (by simp [at8])
  have h5 := h 5 13 (by omega) (fun x => ⟨640 + x, by omega⟩) fun x => Fin.ext (by simp [at8])
  have h6 := h 6 14 (by omega) (fun x => ⟨768 + x, by omega⟩) fun x => Fin.ext (by simp [at8])
  have h7 := h 7 15 (by omega) (fun x => ⟨896 + x, by omega⟩) fun x => Fin.ext (by simp [at8])
  rw [h0, h1, h2, h3, h4, h5, h6, h7, hA, Fin.sum_univ_eight]
  simp only [← EReal.coe_add, ← add_assoc]
  rfl

/-- The sixteen lanes together. -/
theorem sixteen (c : Fin 2 → Fin 8 → ℝ) (l : Fin 128) :
    (∑ g : Fin 8, if l.val = g.val then c 0 g else 0) + (∑ g : Fin 8, if l.val = 8 + g.val then c 1 g else 0)
      = if h : l.val < 16 then c ⟨l / 8, by omega⟩ ⟨l % 8, by omega⟩ else 0 := by
  obtain ⟨l, hl⟩ := l
  dsimp only
  by_cases h : l < 16
  · rw [dif_pos h]
    interval_cases l <;> simp [Fin.sum_univ_eight] <;> rfl
  · rw [dif_neg h, Finset.sum_eq_zero, Finset.sum_eq_zero, add_zero]
    · intro g _; rw [if_neg (by omega)]
    · intro g _; rw [if_neg (by omega)]

end Sinks

end Cert.SwaVec

end
-- ==== Proof.SwaPoint.lean ====
module

public import proofs.«01_k».proof.Proof.SwaOuts

@[expose] public section

set_option maxRecDepth 16384

noncomputable section

open Idealize.ShloMosaic Idealize.ShloMosaic.TcCoe Idealize.ShloMosaic.Tactic Idealize.SL.Sem

/-! One window of rows: the vectors its body computes, named after what they are, and the run's lists of stores written with them. -/

namespace Cert.SwaPoint

open Cert.SwaKernelIdeal Cert.SwaKernelIdeal.Gen

/-- What the body loads: the sinks, the queries and the output gradients two heads at a time, the keys and the values of the window before and of this one. -/
structure Loads (F : FTy → Type) where
  s : Fin 16 → F .f32
  q : Fin 8 → Vec F S128x128 .f32
  ka : Vec F S128x128 .f32
  kb : Vec F S128x128 .f32
  va : Vec F S128x128 .f32
  vb : Vec F S128x128 .f32
  o : Fin 8 → Vec F S128x128 .f32

section Vectors

variable {F : FTy → Type} [FloatOps F] [Named F] (i : grid0.Coords) (L : Loads F)

/-- The keys and the values of either group, once in each half of the lanes. -/
def kd0 : FVec F S256x128 .bf16 := k0_pay15 (k0_pay10 L.ka L.kb) (k0_pay13 L.ka L.kb) k0_pay14
@[inherit_doc kd0] def kd1 : FVec F S256x128 .bf16 := k0_pay60 k0_pay9 (k0_pay10 L.ka L.kb)
@[inherit_doc kd0] def vd0 : FVec F S256x128 .bf16 := k0_pay16 k0_pay9 (k0_pay11 L.va L.vb)
@[inherit_doc kd0] def vd1 : FVec F S256x128 .bf16 := k0_pay61 k0_pay9 (k0_pay11 L.va L.vb)

/-- The eight heads' queries and output gradients of either group, stacked. -/
def qs0 : FVec F S1024x128 .bf16 :=
  k0_pay27 k0_pay9 (k0_pay18 k0_pay9 (L.q 0)) (k0_pay19 k0_pay9 (L.q 0)) (k0_pay21 k0_pay9 (L.q 1)) (k0_pay22 k0_pay9 (L.q 1)) (k0_pay24 k0_pay9 (L.q 2)) (k0_pay25 k0_pay9 (L.q 2)) (k0_pay26 (L.q 3))
@[inherit_doc qs0] def qs1 : FVec F S1024x128 .bf16 :=
  k0_pay67 k0_pay9 (k0_pay63 k0_pay9 (L.q 4)) (k0_pay64 k0_pay9 (L.q 4)) (k0_pay65 (L.q 5)) (k0_pay66 k0_pay9 (L.q 5)) (Scalar.ofBits .f32 0x00000000#32) (L.q 6) (L.q 7)
@[inherit_doc qs0] def os0 : FVec F S1024x128 .bf16 :=
  k0_pay34 k0_pay9 (k0_pay28 k0_pay9 (L.o 0)) (k0_pay29 k0_pay9 (L.o 0)) (k0_pay30 k0_pay9 (L.o 1)) (k0_pay31 k0_pay9 (L.o 1)) (k0_pay32 k0_pay9 (L.o 2)) (k0_pay33 k0_pay9 (L.o 2)) (L.o 3)
@[inherit_doc qs0] def os1 : FVec F S1024x128 .bf16 :=
  k0_pay72 k0_pay9 (k0_pay68 k0_pay9 (L.o 4)) (k0_pay69 k0_pay9 (L.o 4)) (L.o 5) (k0_pay70 k0_pay9) k0_pay71 (L.o 6) (L.o 7)

/-- Of the first group: the exponentials, the sinks' and their sum, -/
def ex0 : FVec F S1024x256 .f32 := k0_pay38 (k0_pay8 i) (kd0 L) (qs0 L) (L.s 0) (L.s 1) (L.s 2) (L.s 3) (L.s 4) (L.s 5) (L.s 6) (L.s 7)
@[inherit_doc ex0] def es0 : FVec F S1024x1 .f32 := k0_pay39 (k0_pay8 i) (kd0 L) (qs0 L) (L.s 0) (L.s 1) (L.s 2) (L.s 3) (L.s 4) (L.s 5) (L.s 6) (L.s 7)
@[inherit_doc ex0] def den0 : FVec F S1024x1 .f32 := k0_pay40 (k0_pay8 i) (kd0 L) (qs0 L) (L.s 0) (L.s 1) (L.s 2) (L.s 3) (L.s 4) (L.s 5) (L.s 6) (L.s 7)
/-- the probabilities, their gradient and its mean, -/
def pr0 : FVec F S1024x256 .f32 := k0_pay42 (ex0 i L) (den0 i L)
@[inherit_doc pr0] def dp0 : FVec F S1024x256 .f32 := k0_pay43 (vd0 L) (os0 L)
@[inherit_doc pr0] def dr0 : FVec F S1024x1 .f32 := k0_pay44 (vd0 L) (os0 L) (ex0 i L) (den0 i L)
/-- and the sinks' column. -/
def dc0 : FVec F S1024x1 .f32 := k0_pay45 (vd0 L) (os0 L) (ex0 i L) (es0 i L) (den0 i L)

/-- The second group's probabilities, their gradient and its mean, -/
def pr1 : FVec F S1024x256 .f32 :=
  k0_pay86 (k0_pay8 i) (kd1 L) (qs1 L) (k0_pay73 (L.s 8)) (k0_pay74 (L.s 9)) (k0_pay75 (L.s 10)) (k0_pay76 (L.s 11)) (k0_pay77 (L.s 12)) (k0_pay78 (L.s 13)) (k0_pay79 (L.s 14)) (L.s 15)
@[inherit_doc pr1] def dp1 : FVec F S1024x256 .f32 := k0_pay87 (vd1 L) (os1 L)
@[inherit_doc pr1] def dr1 : FVec F S1024x1 .f32 :=
  k0_pay88 (k0_pay8 i) (kd1 L) (vd1 L) (qs1 L) (os1 L) (k0_pay73 (L.s 8)) (k0_pay74 (L.s 9)) (k0_pay75 (L.s 10)) (k0_pay76 (L.s 11)) (k0_pay77 (L.s 12)) (k0_pay78 (L.s 13)) (k0_pay79 (L.s 14)) (L.s 15)
/-- and its sinks' column. -/
def dc1 : FVec F S1024x1 .f32 :=
  k0_pay89 (k0_pay8 i) (kd1 L) (vd1 L) (qs1 L) (os1 L) (k0_pay73 (L.s 8)) (k0_pay74 (L.s 9)) (k0_pay75 (L.s 10)) (k0_pay76 (L.s 11)) (k0_pay77 (L.s 12)) (k0_pay78 (L.s 13)) (k0_pay79 (L.s 14)) (L.s 15)

/-- The lanes' numbers. -/
abbrev lane128 : IVec S1x128 32 := iota .tc S1x128 32 [1] iota_S1x128_d1_w32

/-- What the window adds to the sinks' gradient: the first group's lanes, then both groups'. -/
def sk0 : FVec F S1x128 .f32 :=
  k0_pay51 lane128 (dc0 i L) (k0_pay48 lane128 (dc0 i L) (k0_pay46 lane128 k0_pay12 (vd0 L) (os0 L) (ex0 i L) (es0 i L) (den0 i L)) (k0_pay47 lane128 (vd0 L) (os0 L) (ex0 i L) (es0 i L) (den0 i L))) (k0_pay49 lane128) (k0_pay50 (dc0 i L))
@[inherit_doc sk0] def sk : FVec F S1x128 .f32 :=
  k0_pay95 lane128 (dc1 i L) (k0_pay93 lane128 (dc1 i L) (k0_pay90 (k0_pay8 i) lane128 (sk0 i L) (kd1 L) (vd1 L) (qs1 L) (os1 L) (k0_pay73 (L.s 8)) (k0_pay74 (L.s 9)) (k0_pay75 (L.s 10)) (k0_pay76 (L.s 11)) (k0_pay77 (L.s 12)) (k0_pay78 (L.s 13)) (k0_pay79 (L.s 14)) (L.s 15)) (k0_pay91 lane128)
    (k0_pay92 (k0_pay8 i) (kd1 L) (vd1 L) (qs1 L) (os1 L) (k0_pay73 (L.s 8)) (k0_pay74 (L.s 9)) (k0_pay75 (L.s 10)) (k0_pay76 (L.s 11)) (k0_pay77 (L.s 12)) (k0_pay78 (L.s 13)) (k0_pay79 (L.s 14)) (L.s 15))) k0_pay94

/-- What it adds to the keys' gradient and to the values'. -/
def dk : FVec F S256x128 .f32 :=
  k0_pay103 k0_pay9 (k0_pay58 (qs0 L) (k0_pay52 (pr0 i L) (dp0 L) (dr0 i L))) (qs1 L) (k0_pay96 (pr1 i L) (dp1 L) (dr1 i L))
@[inherit_doc dk] def dv : FVec F S256x128 .f32 := k0_pay104 k0_pay9 (k0_pay59 (os0 L) (pr0 i L)) (os1 L) (pr1 i L)

/-- The eight pairs of heads it stores of the queries' gradient. -/
def pieces : List (View.Piece (Elt F) S128x1024 .bf16) :=
  [⟨Rect.unit ![0, 896] S128x128.size inb_S128x1024_S128x128_0_896, k0_pay102 k0_pay9 (k0_pay97 (kd1 L) (pr1 i L) (dp1 L) (dr1 i L))⟩,
    ⟨Rect.unit ![0, 768] S128x128.size inb_S128x1024_S128x128_0_768, k0_pay101 k0_pay9 (k0_pay97 (kd1 L) (pr1 i L) (dp1 L) (dr1 i L))⟩,
    ⟨Rect.unit ![0, 640] S128x128.size inb_S128x1024_S128x128_0_640, k0_pay100 k0_pay9 (k0_pay97 (kd1 L) (pr1 i L) (dp1 L) (dr1 i L))⟩,
    ⟨Rect.unit ![0, 512] S128x128.size inb_S128x1024_S128x128_0_512, k0_pay99 (k0_pay98 k0_pay9 (kd1 L) (pr1 i L) (dp1 L) (dr1 i L))⟩,
    ⟨Rect.unit ![0, 384] S128x128.size inb_S128x1024_S128x128_0_384, k0_pay57 k0_pay9 (k0_pay53 (kd0 L) (pr0 i L) (dp0 L) (dr0 i L))⟩,
    ⟨Rect.unit ![0, 256] S128x128.size inb_S128x1024_S128x128_0_256, k0_pay56 k0_pay9 (kd0 L) (pr0 i L) (dp0 L) (dr0 i L)⟩,
    ⟨Rect.unit ![0, 128] S128x128.size inb_S128x1024_S128x128_0_128, k0_pay55 k0_pay9 (kd0 L) (pr0 i L) (dp0 L) (dr0 i L)⟩,
    ⟨Rect.unit ![0, 0] S128x128.size inb_S128x1024_S128x128_0_0, k0_pay54 k0_pay9 (kd0 L) (pr0 i L) (dp0 L) (dr0 i L)⟩]

end Vectors

section Lists

variable {F : FTy → Type} [FloatOps F] [Named F] (m : (ℓ : Loc nD τ sig) → Buf (Elt F) ℓ) (c : Dev nD) (t : Fin cfg0.N)

/-- One sink, two heads' queries and two heads' output gradients, as the body loads them. -/
abbrev sinkAt (k : ℕ) (h : ∀ a, (![k] : Fin 1 → ℕ) a + S1.size a ≤ S16.size a) : F .f32 :=
  View.readAt (Elt F) (st0_0 t).view (Rect.unit (s := S16) ![k] S1.size h).toLoadRect ((hstage0_0 ((cfg0.slots t 0).cast nbuf0_0)).unread (iblk m c 0 t)) (Shape.Idx.first (show 0 < S1.numel by decide))
@[inherit_doc sinkAt] abbrev qryAt (o : ℕ) (h : ∀ a, (![0, o] : Fin 2 → ℕ) a + S128x128.size a ≤ S128x1024.size a) : Vec F S128x128 .f32 :=
  View.readAt (Elt F) (st0_1 t).view (Rect.unit (s := S128x1024) ![0, o] S128x128.size h).toLoadRect ((hstage0_1 ((cfg0.slots t 1).cast nbuf0_1)).unread (X0_1 m c t))
@[inherit_doc sinkAt] abbrev outAt (o : ℕ) (h : ∀ a, (![0, o] : Fin 2 → ℕ) a + S128x128.size a ≤ S128x1024.size a) : Vec F S128x128 .f32 :=
  View.readAt (Elt F) (st0_6 t).view (Rect.unit (s := S128x1024) ![0, o] S128x128.size h).toLoadRect ((hstage0_6 ((cfg0.slots t 6).cast nbuf0_6)).unread (iblk m c 6 t))

/-- They lie in the array. -/
theorem sink_in (k : Fin 16) : ∀ a, (![k.val] : Fin 1 → ℕ) a + S1.size a ≤ S16.size a := by
  intro a; fin_cases a; show k.val + 1 ≤ 16; omega
@[inherit_doc sink_in] theorem pair_in (p : Fin 8) : ∀ a, (![0, 128 * p.val] : Fin 2 → ℕ) a + S128x128.size a ≤ S128x1024.size a := by
  intro a; fin_cases a
  · show 0 + 128 ≤ 128; omega
  · show 128 * p.val + 128 ≤ 1024; omega

/-- Everything the body loads at a point. -/
def loads : Loads F where
  s k := sinkAt m c t k.val (sink_in k)
  q p := qryAt m c t (128 * p.val) (pair_in p)
  ka := View.readAt (Elt F) (st0_2 t).view (Rect.unit ![0, 0] S128x128.size inb_S128x128_S128x128_0_0).toLoadRect ((hstage0_2 ((cfg0.slots t 2).cast nbuf0_2)).unread (iblk m c 2 t))
  kb := View.readAt (Elt F) (st0_3 t).view (Rect.unit ![0, 0] S128x128.size inb_S128x128_S128x128_0_0).toLoadRect ((hstage0_3 ((cfg0.slots t 3).cast nbuf0_3)).unread (iblk m c 3 t))
  va := View.readAt (Elt F) (st0_4 t).view (Rect.unit ![0, 0] S128x128.size inb_S128x128_S128x128_0_0).toLoadRect ((hstage0_4 ((cfg0.slots t 4).cast nbuf0_4)).unread (iblk m c 4 t))
  vb := View.readAt (Elt F) (st0_5 t).view (Rect.unit ![0, 0] S128x128.size inb_S128x128_S128x128_0_0).toLoadRect ((hstage0_5 ((cfg0.slots t 5).cast nbuf0_5)).unread (iblk m c 5 t))
  o p := outAt m c t (128 * p.val) (pair_in p)

/-- The stores into the keys' gradient, and into the values', at the first point: zeros, then the window's own rows of `D` added. -/
def rowsFirst (i : grid0.Coords) (D : FVec F S256x128 .f32) {κ : Kind} {sp : Space} (v : View sig κ sp S4096x128 .f32) : List (View.Piece (Elt F) S4096x128 .f32) :=
  ⟨Rect.unit (s := S4096x128) (k0_off1 i) S128x128.size (k0_off1_inb i), k0_pay1 D (View.readAt (Elt F) v (Rect.unit (s := S4096x128) (k0_off1 i) S128x128.size (k0_off1_inb i)).toLoadRect
      (v.writes (Elt F) v.junk [⟨Rect.unit ![0, 0] S4096x128.size inb_S4096x128_S4096x128_0_0, k0_pay5⟩]))⟩
    :: [⟨Rect.unit ![0, 0] S4096x128.size inb_S4096x128_S4096x128_0_0, k0_pay5⟩]

/-- At a later point the window's own rows of `D` are added, -/
def rowsOwn (i : grid0.Coords) (D : FVec F S256x128 .f32) {κ : Kind} {sp : Space} (v : View sig κ sp S4096x128 .f32) (f : v.ty.Contents (Elt F)) : List (View.Piece (Elt F) S4096x128 .f32) :=
  [⟨Rect.unit (s := S4096x128) (k0_off1 i) S128x128.size (k0_off1_inb i), k0_pay1 D (View.readAt (Elt F) v (Rect.unit (s := S4096x128) (k0_off1 i) S128x128.size (k0_off1_inb i)).toLoadRect f)⟩]

/-- then those of the window before. -/
def rowsLater (i : grid0.Coords) (h2 : k0_cond2 i = 1#1) (D : FVec F S256x128 .f32) {κ : Kind} {sp : Space} (v : View sig κ sp S4096x128 .f32) (f : v.ty.Contents (Elt F)) : List (View.Piece (Elt F) S4096x128 .f32) :=
  ⟨Rect.unit (s := S4096x128) (k0_off2 i) S128x128.size (k0_off2_inb i h2), k0_pay3 D (View.readAt (Elt F) v (Rect.unit (s := S4096x128) (k0_off2 i) S128x128.size (k0_off2_inb i h2)).toLoadRect (v.writes (Elt F) f (rowsOwn i D v f)))⟩
    :: rowsOwn i D v f

/-- The queries' gradient as the run stores it, at the first point and at a later one. -/
theorem first_pieces (h : t.val = 0) : (atFirst m c t h).1 = pieces (grid0.coords t) (loads m c t) := by sl_kernel_rfl
@[inherit_doc first_pieces] theorem later_pieces (h : t.val ≠ 0) (y : Outs F) : (atLater m c t h y).1 = pieces (grid0.coords t) (loads m c t) := by sl_kernel_rfl

/-- The keys' gradient, likewise. -/
theorem first_keys (h : t.val = 0) : (atFirst m c t h).2.1 = rowsFirst (grid0.coords t) (dk (grid0.coords t) (loads m c t)) (st0_8 t).view := by sl_kernel_rfl
@[inherit_doc first_keys] theorem later_keys (h : t.val ≠ 0) (y : Outs F) : (atLater m c t h y).2.1
    = rowsLater (grid0.coords t) ((later_iff t).mpr h) (dk (grid0.coords t) (loads m c t)) (st0_8 t).view ((hstage0_8 ((cfg0.slots t 8).cast nbuf0_8)).unread y.2.1) := by sl_kernel_rfl

/-- The values' gradient. -/
theorem first_values (h : t.val = 0) : (atFirst m c t h).2.2.1 = rowsFirst (grid0.coords t) (dv (grid0.coords t) (loads m c t)) (st0_9 t).view := by sl_kernel_rfl
@[inherit_doc first_values] theorem later_values (h : t.val ≠ 0) (y : Outs F) : (atLater m c t h y).2.2.1
    = rowsLater (grid0.coords t) ((later_iff t).mpr h) (dv (grid0.coords t) (loads m c t)) (st0_9 t).view ((hstage0_9 ((cfg0.slots t 9).cast nbuf0_9)).unread y.2.2.1) := by sl_kernel_rfl

/-- The sinks' gradient. -/
theorem first_sinks (h : t.val = 0) : (atFirst m c t h).2.2.2.1
    = [⟨Rect.unit ![0, 0] S1x128.size inb_S1x128_S1x128_0_0, k0_pay105 (sk (grid0.coords t) (loads m c t)) ((st0_10 t).view.readCov [⟨Rect.unit ![0, 0] S1x128.size inb_S1x128_S1x128_0_0, k0_pay7⟩] (Rect.unit ![0, 0] S1x128.size inb_S1x128_S1x128_0_0).toLoadRect)⟩,
      ⟨Rect.unit ![0, 0] S1x128.size inb_S1x128_S1x128_0_0, k0_pay7⟩] := by sl_kernel_rfl
@[inherit_doc first_sinks] theorem later_sinks (h : t.val ≠ 0) (y : Outs F) : (atLater m c t h y).2.2.2.1
    = [⟨Rect.unit ![0, 0] S1x128.size inb_S1x128_S1x128_0_0, k0_pay105 (sk (grid0.coords t) (loads m c t)) (View.readAt (Elt F) (st0_10 t).view (Rect.unit ![0, 0] S1x128.size inb_S1x128_S1x128_0_0).toLoadRect ((hstage0_10 ((cfg0.slots t 10).cast nbuf0_10)).unread y.2.2.2))⟩] := by sl_kernel_rfl

end Lists

end Cert.SwaPoint

end
-- ==== Proof.SwaReal.lean ====
module

public import proofs.«01_k».proof.Proof.SwaPoint
public import Idealize.ShloMosaic.Lib.WritesUnit
public import Idealize.ShloMosaic.Lib.WholeRead
public import Idealize.ShloMosaic.Lib.VecWindow

@[expose] public section

set_option maxRecDepth 16384

noncomputable section

open Idealize.ShloMosaic Idealize.ShloMosaic.TcCoe Idealize.ShloMosaic.Tactic Idealize.SL.Sem

/-! Those vectors over real loads: each is the real vector of the same name. -/

namespace Cert.SwaPoint

open Cert.SwaKernelIdeal Cert.SwaKernelIdeal.Gen Cert.Swa Cert.SwaVec

/-- The loads are real numbers: those of window `n`. -/
structure Holds (L : Loads Ideal) (X : Fin 4096 → Fin 1280 → ℝ) (T : Fin 16 → ℝ) (O : Fin 4096 → Fin 1024 → ℝ) (n : Fin 32) : Prop where
  s : ∀ a, L.s a = ((T a : ℝ) : EReal)
  q : ∀ (p : Fin 8) (r l : Fin 128), L.q p (ix2 r l) = ((X (at_ n r) ⟨128 * p + l, by omega⟩ : ℝ) : EReal)
  ka : ∀ r l : Fin 128, L.ka (ix2 r l) = ((X (pos n (before r)) ⟨1024 + l, by omega⟩ : ℝ) : EReal)
  kb : ∀ r l : Fin 128, L.kb (ix2 r l) = ((X (pos n (own r)) ⟨1024 + l, by omega⟩ : ℝ) : EReal)
  va : ∀ r l : Fin 128, L.va (ix2 r l) = ((X (pos n (before r)) ⟨1152 + l, by omega⟩ : ℝ) : EReal)
  vb : ∀ r l : Fin 128, L.vb (ix2 r l) = ((X (pos n (own r)) ⟨1152 + l, by omega⟩ : ℝ) : EReal)
  o : ∀ (p : Fin 8) (r l : Fin 128), L.o p (ix2 r l) = ((O (at_ n r) ⟨128 * p + l, by omega⟩ : ℝ) : EReal)

/-- A store of 128 columns from `o` on, read under it and elsewhere. -/
theorem hit {κ : Kind} {sp : Space} (v : View sig κ sp S128x1024 .bf16) (f : v.ty.Contents (Elt Ideal)) (r : Fin 128) (c : Fin 1024) (o : ℕ)
    (inb : ∀ a, (![0, o] : Fin 2 → ℕ) a + S128x128.size a ≤ S128x1024.size a) (w : Vec Ideal S128x128 .bf16) (N : List (View.Piece (Elt Ideal) S128x1024 .bf16))
    (h : o ≤ c.val ∧ c.val < o + 128) :
    v.read (Elt Ideal) (v.writes (Elt Ideal) f (⟨Rect.unit (s := S128x1024) ![0, o] S128x128.size inb, w⟩ :: N)) (ix2 r c) = w (ix2 r ⟨c - o, by omega⟩) := by
  refine View.read_writes_cons_unit_of_mem v f inb w N (ix2 r c) (ix2 r ⟨c - o, by omega⟩) rfl fun a => ?_
  fin_cases a
  · exact (Nat.zero_add _).symm
  · show c.val = o + (c.val - o); omega

@[inherit_doc hit] theorem miss {κ : Kind} {sp : Space} (v : View sig κ sp S128x1024 .bf16) (f : v.ty.Contents (Elt Ideal)) (r : Fin 128) (c : Fin 1024) (o : ℕ)
    (inb : ∀ a, (![0, o] : Fin 2 → ℕ) a + S128x128.size a ≤ S128x1024.size a) (w : Vec Ideal S128x128 .bf16) (N : List (View.Piece (Elt Ideal) S128x1024 .bf16))
    (h : c.val < o) :
    v.read (Elt Ideal) (v.writes (Elt Ideal) f (⟨Rect.unit (s := S128x1024) ![0, o] S128x128.size inb, w⟩ :: N)) (ix2 r c) = v.read (Elt Ideal) (v.writes (Elt Ideal) f N) (ix2 r c) :=
  View.read_writes_cons_unit_of_not_mem v f inb w N (ix2 r c) rfl 1 (Or.inl h)

variable {L : Loads Ideal} {X : Fin 4096 → Fin 1280 → ℝ} {T : Fin 16 → ℝ} {O : Fin 4096 → Fin 1024 → ℝ} {n : Fin 32} (H : Holds L X T O n)
include H

/-- Keys and values. -/
theorem kd0_real : Twice (kd0 L) (key X n 0) := by
  have h := keys0 (A := fun j l => X (pos n j) ⟨1024 + l, by omega⟩) H.ka H.kb
  intro j l
  exact (h j l).trans (congrArg (fun c => ((X (pos n j) c : ℝ) : EReal)) (Fin.ext (by simp [lane])))
@[inherit_doc kd0_real] theorem kd1_real : Twice (kd1 L) (key X n 1) := by
  have h := keys1 (A := fun j l => X (pos n j) ⟨1024 + l, by omega⟩) H.ka H.kb
  intro j l
  exact (h j l).trans (congrArg (fun c => ((X (pos n j) c : ℝ) : EReal)) (Fin.ext (by simp [lane]; omega)))
@[inherit_doc kd0_real] theorem vd0_real : Twice (vd0 L) (vlu X n 0) := by
  have h := values0 (A := fun j l => X (pos n j) ⟨1152 + l, by omega⟩) H.va H.vb
  intro j l
  exact (h j l).trans (congrArg (fun c => ((X (pos n j) c : ℝ) : EReal)) (Fin.ext (by simp [lane])))
@[inherit_doc kd0_real] theorem vd1_real : Twice (vd1 L) (vlu X n 1) := by
  have h := values1 (A := fun j l => X (pos n j) ⟨1152 + l, by omega⟩) H.va H.vb
  intro j l
  exact (h j l).trans (congrArg (fun c => ((X (pos n j) c : ℝ) : EReal)) (Fin.ext (by simp [lane]; omega)))

/-- Queries and output gradients. -/
theorem qs0_real : Stack (qs0 L) (qry X n 0) := by
  have h := queries0 (B := fun p r l => X (at_ n r) ⟨128 * p + l, by omega⟩) (H.q 0) (H.q 1) (H.q 2) (H.q 3)
  intro g r l
  refine (h g r l).trans (if_congr Iff.rfl (congrArg (fun c => ((X (at_ n r) c : ℝ) : EReal)) (Fin.ext ?_)) rfl)
  simp [lane]; omega
@[inherit_doc qs0_real] theorem qs1_real : Stack (qs1 L) (qry X n 1) := by
  have h := queries1 (B := fun p r l => X (at_ n r) ⟨512 + (128 * p + l), by omega⟩)
    (fun r l => (H.q 4 r l).trans (congrArg (fun c => ((X (at_ n r) c : ℝ) : EReal)) (Fin.ext (by simp)))) (fun r l => (H.q 5 r l).trans (congrArg (fun c => ((X (at_ n r) c : ℝ) : EReal)) (Fin.ext (by simp; omega))))
    (fun r l => (H.q 6 r l).trans (congrArg (fun c => ((X (at_ n r) c : ℝ) : EReal)) (Fin.ext (by simp; omega)))) (fun r l => (H.q 7 r l).trans (congrArg (fun c => ((X (at_ n r) c : ℝ) : EReal)) (Fin.ext (by simp; omega))))
  intro g r l
  refine (h g r l).trans (if_congr Iff.rfl (congrArg (fun c => ((X (at_ n r) c : ℝ) : EReal)) (Fin.ext ?_)) rfl)
  simp [lane]; omega
@[inherit_doc qs0_real] theorem os0_real : Stack (os0 L) (out O n 0) := by
  have h := grads0 (B := fun p r l => O (at_ n r) ⟨128 * p + l, by omega⟩) (H.o 0) (H.o 1) (H.o 2) (H.o 3)
  intro g r l
  refine (h g r l).trans (if_congr Iff.rfl (congrArg (fun c => ((O (at_ n r) c : ℝ) : EReal)) (Fin.ext ?_)) rfl)
  simp [lane]; omega
@[inherit_doc qs0_real] theorem os1_real : Stack (os1 L) (out O n 1) := by
  have h := grads1 (B := fun p r l => O (at_ n r) ⟨512 + (128 * p + l), by omega⟩)
    (fun r l => (H.o 4 r l).trans (congrArg (fun c => ((O (at_ n r) c : ℝ) : EReal)) (Fin.ext (by simp)))) (fun r l => (H.o 5 r l).trans (congrArg (fun c => ((O (at_ n r) c : ℝ) : EReal)) (Fin.ext (by simp; omega))))
    (fun r l => (H.o 6 r l).trans (congrArg (fun c => ((O (at_ n r) c : ℝ) : EReal)) (Fin.ext (by simp; omega)))) (fun r l => (H.o 7 r l).trans (congrArg (fun c => ((O (at_ n r) c : ℝ) : EReal)) (Fin.ext (by simp; omega))))
  intro g r l
  refine (h g r l).trans (if_congr Iff.rfl (congrArg (fun c => ((O (at_ n r) c : ℝ) : EReal)) (Fin.ext ?_)) rfl)
  simp [lane]; omega

/-- The sinks of either group. -/
theorem s0_real (g : Fin 8) : (fun g : Fin 8 => L.s ⟨g, by omega⟩) g = ((T (head 0 g) : ℝ) : EReal) :=
  (H.s _).trans (congrArg (fun a => ((T a : ℝ) : EReal)) (Fin.ext (by simp [head])))
@[inherit_doc s0_real] theorem s1_real (g : Fin 8) : (fun g : Fin 8 => L.s ⟨8 + g, by omega⟩) g = ((T (head 1 g) : ℝ) : EReal) :=
  (H.s _).trans (congrArg (fun a => ((T a : ℝ) : EReal)) (Fin.ext (by simp [head])))

variable (i : grid0.Coords) (hi : (i 0).val = n.val)
include hi

/-- The probabilities of either group, -/
theorem pr0_real (g : Fin 8) (r : Fin 128) (j : Fin 256) : pr0 i L (ix2 (at8 g r) j) = ((P X T n 0 g r j : ℝ) : EReal) := by
  have h := probs (i := i) (qs0_real H) (kd0_real H) (s0_real H) g r j
  rw [hi] at h; exact h
@[inherit_doc pr0_real] theorem pr1_real (g : Fin 8) (r : Fin 128) (j : Fin 256) : pr1 i L (ix2 (at8 g r) j) = ((P X T n 1 g r j : ℝ) : EReal) := by
  have h := probs (i := i) (qs1_real H) (kd1_real H) (s1_real H) g r j
  rw [hi] at h; exact h

/-- the gradients of the scores, -/
theorem ds0_real (g : Fin 8) (r : Fin 128) (j : Fin 256) : k0_pay52 (pr0 i L) (dp0 L) (dr0 i L) (ix2 (at8 g r) j) = ((DS X T O n 0 g r j : ℝ) : EReal) := by
  have h := dscores i (qs0_real H) (kd0_real H) (s0_real H) (vd0_real H) (os0_real H) g r j
  rw [hi] at h; exact h
@[inherit_doc ds0_real] theorem ds1_real (g : Fin 8) (r : Fin 128) (j : Fin 256) : k0_pay52 (pr1 i L) (dp1 L) (dr1 i L) (ix2 (at8 g r) j) = ((DS X T O n 1 g r j : ℝ) : EReal) := by
  have h := dscores i (qs1_real H) (kd1_real H) (s1_real H) (vd1_real H) (os1_real H) g r j
  rw [hi] at h; exact h

/-- and the sinks' column. -/
theorem dc0_real (g : Fin 8) (r : Fin 128) : dc0 i L (ix2 (at8 g r) 0) = ((DT X T O n 0 g r : ℝ) : EReal) := by
  have h := dcol i (qs0_real H) (kd0_real H) (s0_real H) (vd0_real H) (os0_real H) g r
  rw [hi] at h; exact h
@[inherit_doc dc0_real] theorem dc1_real (g : Fin 8) (r : Fin 128) : dc1 i L (ix2 (at8 g r) 0) = ((DT X T O n 1 g r : ℝ) : EReal) := by
  have h := dcol i (qs1_real H) (kd1_real H) (s1_real H) (vd1_real H) (os1_real H) g r
  rw [hi] at h; exact h

/-- The queries' gradient of either group. -/
theorem dq0_real (g : Fin 8) (r l : Fin 128) : k0_pay53 (kd0 L) (pr0 i L) (dp0 L) (dr0 i L) (ix2 (at8 g r) l) = ((dQry X T O n 0 g r (dim l) : ℝ) : EReal) :=
  dqs (kd0_real H) (ds0_real H i hi) g r l
@[inherit_doc dq0_real] theorem dq1_real (g : Fin 8) (r l : Fin 128) : k0_pay53 (kd1 L) (pr1 i L) (dp1 L) (dr1 i L) (ix2 (at8 g r) l) = ((dQry X T O n 1 g r (dim l) : ℝ) : EReal) :=
  dqs (kd1_real H) (ds1_real H i hi) g r l

/-- What the window adds to the keys' gradient, -/
theorem dk_real (j : Fin 256) (l : Fin 128) : dk i L (ix2 j l) = ((dKey X T O n (kv l) j (dim l) : ℝ) : EReal) := by
  refine keygrads (E := fun h j d => dKey X T O n h j d) _ (qs1 L) _ (fun j l => ?_) (fun j l => ?_) j l
  · exact dks (qs0_real H) (ds0_real H i hi) j l
  · exact dks (qs1_real H) (ds1_real H i hi) j l

/-- to the values', -/
theorem dv_real (j : Fin 256) (l : Fin 128) : dv i L (ix2 j l) = ((dVlu X T O n (kv l) j (dim l) : ℝ) : EReal) := by
  refine valuegrads (E := fun h j d => dVlu X T O n h j d) _ (os1 L) _ (fun j l => ?_) (fun j l => ?_) j l
  · exact dvs (os0_real H) (pr0_real H i hi) j l
  · exact dvs (os1_real H) (pr1_real H i hi) j l

/-- and to the sinks'. -/
theorem sk_real (l : Fin 128) : sk i L (ix2 0 l)
    = ((if h : l.val < 16 then ∑ r, -DT X T O n ⟨l / 8, by omega⟩ ⟨l % 8, by omega⟩ r else 0 : ℝ) : EReal) := by
  have h0 := sinks0 lane128 rfl (vd0 L) (os0 L) (ex0 i L) (es0 i L) (den0 i L) (dc0_real H i hi)
  have h1 := sinks1 lane128 rfl (sk0 i L) (k0_pay8 i) (kd1 L) (vd1 L) (qs1 L) (os1 L) _ _ _ _ _ _ _ (L.s 15) h0 (dc1_real H i hi) l
  refine h1.trans (congrArg (fun x : ℝ => (x : EReal)) ?_)
  exact sixteen (fun h g => ∑ r, -DT X T O n h g r) l

/-- The stores of the queries' gradient. -/
theorem pieces_real {κ : Kind} {sp : Space} (v : View sig κ sp S128x1024 .bf16) (f : v.ty.Contents (Elt Ideal)) (r : Fin 128) (c : Fin 1024) :
    v.read (Elt Ideal) (v.writes (Elt Ideal) f (pieces i L)) (ix2 r c) = ((dQry X T O n (grp c) (mem c) r (dim c) : ℝ) : EReal) := by
  have h0 := dq0_real H i hi
  have h1 := dq1_real H i hi
  have key (h : Fin 2) (p : Fin 4) (o : ℕ) (ho : o = h.val * 512 + p.val * 128) (hc : o ≤ c.val ∧ c.val < o + 128) :
      ((dQry X T O n h ⟨2 * p + (c.val - o) / 64, by omega⟩ r (dim (c.val - o)) : ℝ) : EReal) = ((dQry X T O n (grp c) (mem c) r (dim c) : ℝ) : EReal) := by
    have e1 : h = grp c := Fin.ext (by simp [grp]; omega)
    have e2 : (⟨2 * p + (c.val - o) / 64, by omega⟩ : Fin 8) = mem c := Fin.ext (by simp [mem]; omega)
    have e3 : dim (c.val - o) = dim c := Fin.ext (by simp [dim]; omega)
    rw [e2, e3, e1]
  have := c.2
  unfold pieces
  by_cases c7 : 896 ≤ c.val
  · rw [hit v f r c 896 _ _ _ ⟨c7, by omega⟩]; exact (pair3 h1 r _).trans (key 1 3 896 rfl ⟨c7, by omega⟩)
  rw [miss v f r c 896 _ _ _ (by omega)]
  by_cases c6 : 768 ≤ c.val
  · rw [hit v f r c 768 _ _ _ ⟨c6, by omega⟩]; exact (pair2 h1 r _).trans (key 1 2 768 rfl ⟨c6, by omega⟩)
  rw [miss v f r c 768 _ _ _ (by omega)]
  by_cases c5 : 640 ≤ c.val
  · rw [hit v f r c 640 _ _ _ ⟨c5, by omega⟩]; exact (pair1 h1 r _).trans (key 1 1 640 rfl ⟨c5, by omega⟩)
  rw [miss v f r c 640 _ _ _ (by omega)]
  by_cases c4 : 512 ≤ c.val
  · rw [hit v f r c 512 _ _ _ ⟨c4, by omega⟩]; exact (pair0 h1 r _).trans (key 1 0 512 rfl ⟨c4, by omega⟩)
  rw [miss v f r c 512 _ _ _ (by omega)]
  by_cases c3 : 384 ≤ c.val
  · rw [hit v f r c 384 _ _ _ ⟨c3, by omega⟩]; exact (pair3 h0 r _).trans (key 0 3 384 rfl ⟨c3, by omega⟩)
  rw [miss v f r c 384 _ _ _ (by omega)]
  by_cases c2 : 256 ≤ c.val
  · rw [hit v f r c 256 _ _ _ ⟨c2, by omega⟩]; exact (pair2 h0 r _).trans (key 0 2 256 rfl ⟨c2, by omega⟩)
  rw [miss v f r c 256 _ _ _ (by omega)]
  by_cases c1 : 128 ≤ c.val
  · rw [hit v f r c 128 _ _ _ ⟨c1, by omega⟩]; exact (pair1 h0 r _).trans (key 0 1 128 rfl ⟨c1, by omega⟩)
  rw [miss v f r c 128 _ _ _ (by omega), hit v f r c 0 _ _ _ ⟨by omega, by omega⟩]
  exact (pair0 h0 r _).trans (key 0 0 0 rfl ⟨by omega, by omega⟩)

end Cert.SwaPoint

end
-- ==== Proof.SwaLeft.lean ====
module

public import proofs.«01_k».proof.Proof.SwaReal

@[expose] public section

set_option maxRecDepth 16384

noncomputable section

open Idealize.ShloMosaic Idealize.ShloMosaic.TcCoe Idealize.ShloMosaic.Tactic Idealize.SL.Sem

/-! What one window of rows leaves in the gradients of the keys, of the values and of the sinks. -/

namespace Cert.SwaPoint

open Cert.SwaKernelIdeal Cert.SwaKernelIdeal.Gen Cert.Swa Cert.SwaVec

/-- The rows of the point's own window. -/
theorem off1 : ∀ i : grid0.Coords, k0_off1 i = ![128 * (i 0).val, 0] := by decide +kernel

section Rows

variable {κ κ' : Kind} {sp sp' : Space} (v : View sig κ sp S4096x128 .f32) (v' : View sig κ' sp' S4096x128 .f32) (i : grid0.Coords) {D : FVec Ideal S256x128 .f32}
  {d : Fin 256 → Fin 128 → ℝ} (hD : ∀ j l, D (ix2 j l) = ((d j l : ℝ) : EReal)) (R : Fin 4096) (l : Fin 128)

/-- A store of 128 rows from `o` on, read under it. -/
theorem row_hit (f : v.ty.Contents (Elt Ideal)) (off : Fin 2 → ℕ) (o : ℕ) (inb : ∀ a, off a + S128x128.size a ≤ S4096x128.size a) (w : Vec Ideal S128x128 .f32)
    (N : List (View.Piece (Elt Ideal) S4096x128 .f32)) (ho : off = ![128 * o, 0]) (h : R.val / 128 = o) :
    v.read (Elt Ideal) (v.writes (Elt Ideal) f (⟨Rect.unit (s := S4096x128) off S128x128.size inb, w⟩ :: N)) (ix2 R l) = w (ix2 (low R) l) := by
  refine View.read_writes_cons_rows_of_mem v f inb w N (ix2 R l) (ix2 (low R) l) ho ?_ rfl
  show R.val = 128 * o + R.val % 128
  omega

/-- A store of 128 rows from `o` on, read elsewhere. -/
theorem row_miss (f : v.ty.Contents (Elt Ideal)) (off : Fin 2 → ℕ) (o : ℕ) (inb : ∀ a, off a + S128x128.size a ≤ S4096x128.size a) (w : Vec Ideal S128x128 .f32)
    (N : List (View.Piece (Elt Ideal) S4096x128 .f32)) (ho : off = ![128 * o, 0]) (h : R.val / 128 ≠ o) :
    v.read (Elt Ideal) (v.writes (Elt Ideal) f (⟨Rect.unit (s := S4096x128) off S128x128.size inb, w⟩ :: N)) (ix2 R l) = v.read (Elt Ideal) (v.writes (Elt Ideal) f N) (ix2 R l) := by
  refine View.read_writes_cons_rows_of_not_mem v f inb w N (ix2 R l) ho rfl ?_
  show R.val < 128 * o ∨ 128 * o + 128 ≤ R.val
  omega

/-- A load of 128 rows from `o` on. -/
theorem row_load (f : v.ty.Contents (Elt Ideal)) (off : Fin 2 → ℕ) (o : ℕ) (inb : ∀ a, off a + S128x128.size a ≤ S4096x128.size a) (ho : off = ![128 * o, 0]) (h : R.val / 128 = o) :
    View.readAt (Elt Ideal) v (Rect.unit (s := S4096x128) off S128x128.size inb).toLoadRect f (ix2 (low R) l) = v.read (Elt Ideal) f (ix2 R l) := by
  subst ho
  rw [View.readAt_apply]
  refine congrArg (v.read (Elt Ideal) f) (funext fun a => Fin.ext ?_)
  fin_cases a
  · show 128 * o + 1 * (R.val % 128) = R.val; omega
  · show 0 + 1 * l.val = l.val; omega

/-- The zeros stored first. -/
theorem zeros (f : v.ty.Contents (Elt Ideal)) :
    v.read (Elt Ideal) (v.writes (Elt Ideal) f [⟨Rect.unit ![0, 0] S4096x128.size inb_S4096x128_S4096x128_0_0, k0_pay5 (F := Ideal)⟩]) (ix2 R l) = (0 : EReal) := by
  refine (View.read_writes_cons_rows_of_mem (o := 0) v f inb_S4096x128_S4096x128_0_0 (k0_pay5 (F := Ideal)) [] (ix2 R l) (ix2 R l) rfl (Nat.zero_add _).symm rfl).trans ?_
  unfold k0_pay5
  pointwise

/-- Adding the window's own rows, and those before. -/
theorem add_own (w : Vec Ideal S128x128 .f32) (r : Fin 128) : k0_pay1 D w (ix2 r l) = w (ix2 r l) + D (ix2 (own r) l) := by
  unfold k0_pay1; pointwise; rfl
@[inherit_doc add_own] theorem add_before (w : Vec Ideal S128x128 .f32) (r : Fin 128) : k0_pay3 D w (ix2 r l) = w (ix2 r l) + D (ix2 (before r) l) := by
  unfold k0_pay3; pointwise; rfl

include hD

/-- What the first point leaves. -/
theorem rowsFirst_real (f : v'.ty.Contents (Elt Ideal)) (hi : (i 0).val = 0) :
    v'.read (Elt Ideal) (v'.writes (Elt Ideal) f (rowsFirst i D v)) (ix2 R l) = ((if R.val / 128 = 0 then d (own (low R)) l else 0 : ℝ) : EReal) := by
  have ho : k0_off1 i = ![128 * 0, 0] := (off1 i).trans (by rw [hi])
  unfold rowsFirst
  by_cases h : R.val / 128 = 0
  · rw [row_hit v' R l f (k0_off1 i) 0 _ _ _ ho h, add_own, row_load v R l _ _ 0 _ ho h, zeros, zero_add, hD, if_pos h]
  · rw [row_miss v' R l f (k0_off1 i) 0 _ _ _ ho h, zeros, if_neg h, EReal.coe_zero]

/-- What a later point leaves. -/
theorem rowsLater_real (f : v.ty.Contents (Elt Ideal)) (f' : v'.ty.Contents (Elt Ideal)) (h2 : k0_cond2 i = 1#1) (n : ℕ) (hi : (i 0).val = n + 1) {Y : Fin 4096 → Fin 128 → ℝ}
    (hf : ∀ R l, v.read (Elt Ideal) f (ix2 R l) = ((Y R l : ℝ) : EReal)) (hf' : ∀ R l, v'.read (Elt Ideal) f' (ix2 R l) = ((Y R l : ℝ) : EReal)) :
    v'.read (Elt Ideal) (v'.writes (Elt Ideal) f' (rowsLater i h2 D v f)) (ix2 R l)
      = ((Y R l + (if R.val / 128 = n + 1 then d (own (low R)) l else 0) + (if R.val / 128 = n then d (before (low R)) l else 0) : ℝ) : EReal) := by
  have ho : k0_off1 i = ![128 * (n + 1), 0] := (off1 i).trans (by rw [hi])
  have hb : k0_off2 i = ![128 * n, 0] := (off2 i h2).trans (by rw [hi]; rfl)
  unfold rowsLater rowsOwn
  by_cases h : R.val / 128 = n
  · rw [row_hit v' R l f' (k0_off2 i) n _ _ _ hb h, add_before, row_load v R l _ _ n _ hb h, row_miss v R l f (k0_off1 i) (n + 1) _ _ _ ho (by omega),
      if_neg (show ¬ R.val / 128 = n + 1 by omega), if_pos h, View.writes_nil, hf, hD, ← EReal.coe_add, add_zero]
  · rw [row_miss v' R l f' (k0_off2 i) n _ _ _ hb h, if_neg h]
    by_cases h1 : R.val / 128 = n + 1
    · rw [row_hit v' R l f' (k0_off1 i) (n + 1) _ _ _ ho h1, add_own, row_load v R l _ _ (n + 1) _ ho h1, if_pos h1, hf, hD, ← EReal.coe_add, add_zero]
    · rw [row_miss v' R l f' (k0_off1 i) (n + 1) _ _ _ ho h1, if_neg h1, View.writes_nil, hf', add_zero, add_zero]

end Rows

section Sinks

variable {κ κ' : Kind} {sp sp' : Space} (v : View sig κ sp S1x128 .f32) (v' : View sig κ' sp' S1x128 .f32) {a : FVec Ideal S1x128 .f32} {A : Fin 128 → ℝ}
  (hA : ∀ l, a (ix2 0 l) = ((A l : ℝ) : EReal)) (l : Fin 128)
include hA

/-- The sinks' gradient after the first point. -/
theorem sinksFirst_real (f : v'.ty.Contents (Elt Ideal)) (N : List (View.Piece (Elt Ideal) S1x128 .f32)) :
    v'.read (Elt Ideal) (v'.writes (Elt Ideal) f (⟨Rect.unit ![0, 0] S1x128.size inb_S1x128_S1x128_0_0, k0_pay105 a (v.readCov [⟨Rect.unit ![0, 0] S1x128.size inb_S1x128_S1x128_0_0, k0_pay7 (F := Ideal)⟩] (Rect.unit ![0, 0] S1x128.size inb_S1x128_S1x128_0_0).toLoadRect)⟩ :: N)) (ix2 0 l)
      = ((A l : ℝ) : EReal) := by
  refine (congrFun (View.read_writes_full v' f inb_S1x128_S1x128_0_0 _ N) _).trans ?_
  rw [View.readCov_full v inb_S1x128_S1x128_0_0 inb_S1x128_S1x128_0_0]
  unfold k0_pay105 k0_pay7
  pointwise
  exact hA l

/-- … and after a later one. -/
theorem sinksLater_real (f : v.ty.Contents (Elt Ideal)) (f' : v'.ty.Contents (Elt Ideal)) {Y : Fin 128 → ℝ} (hf : ∀ l, v.read (Elt Ideal) f (ix2 0 l) = ((Y l : ℝ) : EReal)) :
    v'.read (Elt Ideal) (v'.writes (Elt Ideal) f' [⟨Rect.unit ![0, 0] S1x128.size inb_S1x128_S1x128_0_0, k0_pay105 a (View.readAt (Elt Ideal) v (Rect.unit ![0, 0] S1x128.size inb_S1x128_S1x128_0_0).toLoadRect f)⟩]) (ix2 0 l)
      = ((Y l + A l : ℝ) : EReal) := by
  refine (congrFun (View.read_writes_full v' f' inb_S1x128_S1x128_0_0 _ []) _).trans ?_
  rw [View.readAt_full v f inb_S1x128_S1x128_0_0]
  unfold k0_pay105
  pointwise
  rw [hA, hf, EReal.coe_add]

end Sinks

end Cert.SwaPoint

end
-- ==== Proof.SwaBlocks.lean ====
module

public import proofs.«01_k».proof.Proof.SwaLeft

@[expose] public section

set_option maxRecDepth 16384

noncomputable section

open Idealize.ShloMosaic Idealize.ShloMosaic.TcCoe Idealize.ShloMosaic.Tactic Idealize.SL.Sem
open Idealize.ShloMosaic.Pipeline (Dat)

/-! What the attention gradient's kernel loads at each window of rows, over arguments that hold real numbers. -/

namespace Cert.SwaPoint

open Cert.SwaKernelIdeal Cert.SwaKernelIdeal.Gen Cert.Swa Cert.SwaVec

/-- Every window's block at every grid point. -/
theorem idx : ∀ t : Fin cfg0.N, win0_0.index t = ![0] ∧ win0_1.index t = ![t.val, 3] ∧ win0_2.index t = ![t.val - 1, 32] ∧ win0_3.index t = ![t.val, 32]
    ∧ win0_4.index t = ![t.val - 1, 33] ∧ win0_5.index t = ![t.val, 33] ∧ win0_6.index t = ![t.val, 1]
    ∧ win0_7.index t = ![t.val, 0] ∧ win0_8.index t = ![0, 0] ∧ win0_9.index t = ![0, 0] ∧ win0_10.index t = ![0, 0] :=
  (by decide +kernel : ∀ t : Fin grid0.N, _)

/-- The grid point is the window's number. -/
theorem coord : ∀ t : Fin cfg0.N, ((grid0.coords t) 0).val = t.val := (by decide +kernel : ∀ t : Fin grid0.N, _)

/-- The window of a point. -/
def wnd (t : Fin cfg0.N) : Fin 32 := ⟨t.val, t.isLt.trans_eq N_0⟩

/-- The rows of the key positions before the window and in it. -/
theorem pos_before (n : Fin 32) (r : Fin 128) : (pos n (before r)).val = (n.val - 1) * 128 + r := by
  show (if r.val < 128 then _ else _) = _
  rw [if_pos r.2]; rfl
@[inherit_doc pos_before] theorem pos_own (n : Fin 32) (r : Fin 128) : (pos n (own r)).val = n.val * 128 + r := by
  show (if 128 + r.val < 128 then _ else _) = _
  rw [if_neg (show ¬ 128 + r.val < 128 by omega)]
  show n.val * 128 + (128 + r.val - 128) = _
  omega

variable (m : (ℓ : Loc nD τ sig) → Buf (Elt Ideal) ℓ) (c : Dev nD) {X : Fin 4096 → Fin 1280 → ℝ} {T : Fin 16 → ℝ} {O : Fin 4096 → Fin 1024 → ℝ}
  (H : SwaRef.Reals (m ((c : Thread nD τ).loc main_arg0)) (m ((c : Thread nD τ).loc main_arg1)) (m ((c : Thread nD τ).loc main_arg2)) X T O)
include H

omit H in
/-- The padded projection: the reference's columns with the low-rank gate's moved to the end. -/
theorem entry_proj : (V m c main_v4 : FVec Ideal S4096x4480 .f32) =
    let x : FVec Ideal S4096x4368 .f32 := m ((c : Thread nD τ).loc main_arg0)
    concatenate S4096x4480 1
      [⟨S4096x3072, extractStridedSlice S4096x3072 ![0, 0] x slices_S4096x4368_S4096x3072_0_0⟩,
       ⟨S4096x1280, extractStridedSlice S4096x1280 ![0, 3088] x slices_S4096x4368_S4096x1280_0_3088⟩,
       ⟨S4096x16, extractStridedSlice S4096x16 ![0, 3072] x slices_S4096x4368_S4096x16_0_3072⟩,
       ⟨S4096x112, broadcastInDim S4096x112 ![] bcast_S_S4096x112 (constant (F := Ideal) S_ .f32 0x00000000#32)⟩]
      concatenates_S4096x3072_S4096x1280_S4096x16_S4096x112_S4096x4480_d1 := by
  unfold V
  after_results
  rfl

/-- It holds the queries, keys and values in its columns from 3072 on. -/
theorem entry_x (r : Fin 4096) (k : Fin 1280) (hk) : V m c main_v4 (ix2 r ⟨3072 + k, hk⟩) = ((X r k : ℝ) : EReal) := by
  rw [entry_proj]
  dsimp only
  refine (concatenate_apply_piece (t := S4096x4480) 1 _ _ _ 1 (by simp) S4096x1280 _ rfl rfl 3072 rfl (ix2 r k)
    (fun b hb => by fin_cases b; exacts [rfl, absurd rfl hb]) rfl).trans ?_
  pointwise
  exact H.x r k _

/-- The blocks of the queries, -/
theorem block_q (t : Fin cfg0.N) (r : Fin 128) (k : Fin 1024) : X0_1 m c t (ix2 r k) = ((X (at_ (wnd t) r) ⟨k, by omega⟩ : ℝ) : EReal) := by
  rw [X0_1, Pipeline.Window.fill, dif_pos (moved0_1 t _), ← entry_x m c H _ _ (by dsimp only; omega)]
  blk_ext [iblk, at_, wnd, idx t]

/-- of the keys and values before and of this window's, -/
theorem block_ka (t : Fin cfg0.N) (r l : Fin 128) : iblk m c 2 t (ix2 r l) = ((X (pos (wnd t) (before r)) ⟨1024 + l, by omega⟩ : ℝ) : EReal) := by
  rw [← entry_x m c H _ _ (by dsimp only; omega)]
  blk_ext [iblk, wnd, idx t]
  exact (pos_before _ _).symm
@[inherit_doc block_ka] theorem block_kb (t : Fin cfg0.N) (r l : Fin 128) : iblk m c 3 t (ix2 r l) = ((X (pos (wnd t) (own r)) ⟨1024 + l, by omega⟩ : ℝ) : EReal) := by
  rw [← entry_x m c H _ _ (by dsimp only; omega)]
  blk_ext [iblk, wnd, idx t]
  exact (pos_own _ _).symm
@[inherit_doc block_ka] theorem block_va (t : Fin cfg0.N) (r l : Fin 128) : iblk m c 4 t (ix2 r l) = ((X (pos (wnd t) (before r)) ⟨1152 + l, by omega⟩ : ℝ) : EReal) := by
  rw [← entry_x m c H _ _ (by dsimp only; omega)]
  blk_ext [iblk, wnd, idx t]
  exact (pos_before _ _).symm
@[inherit_doc block_ka] theorem block_vb (t : Fin cfg0.N) (r l : Fin 128) : iblk m c 5 t (ix2 r l) = ((X (pos (wnd t) (own r)) ⟨1152 + l, by omega⟩ : ℝ) : EReal) := by
  rw [← entry_x m c H _ _ (by dsimp only; omega)]
  blk_ext [iblk, wnd, idx t]
  exact (pos_own _ _).symm

/-- of the gradient that arrives, -/
theorem block_o (t : Fin cfg0.N) (r : Fin 128) (k : Fin 1024) : iblk m c 6 t (ix2 r k) = ((O (at_ (wnd t) r) k : ℝ) : EReal) := by
  rw [← H.o (at_ (wnd t) r) k (by omega)]
  blk_ext [iblk, V, at_, wnd, idx t]

/-- and of the sinks. -/
theorem block_s (t : Fin cfg0.N) (a : Fin 16) : iblk m c 0 t (ix1 a) = ((T a : ℝ) : EReal) := by
  rw [← H.t]
  blk_ext [iblk, V, idx t]

/-- One load of a sink, of two heads' queries, of two heads' output gradients. -/
theorem sink_load (t : Fin cfg0.N) (k : ℕ) (hk : k < 16) (h) : sinkAt m c t k h = ((T ⟨k, hk⟩ : ℝ) : EReal) := by
  refine ((hstage0_0 ((cfg0.slots t 0).cast nbuf0_0)).readAt_unread _ _ _).trans ((congrArg (iblk m c 0 t) (funext fun a => Fin.ext ?_)).trans (block_s m c H t ⟨k, hk⟩))
  fin_cases a
  rfl
@[inherit_doc sink_load] theorem qry_load (t : Fin cfg0.N) (p : Fin 8) (o : ℕ) (ho : o = 128 * p.val) (h) (r l : Fin 128) :
    qryAt m c t o h (ix2 r l) = ((X (at_ (wnd t) r) ⟨128 * p + l, by omega⟩ : ℝ) : EReal) := by
  subst ho
  refine ((hstage0_1 ((cfg0.slots t 1).cast nbuf0_1)).readAt_unread _ _ _).trans ((congrArg (X0_1 m c t) (funext fun a => Fin.ext ?_)).trans (block_q m c H t r ⟨128 * p + l, by omega⟩))
  fin_cases a
  · show 0 + 1 * r.val = r.val; omega
  · show 128 * p.val + 1 * l.val = 128 * p.val + l.val; omega
@[inherit_doc sink_load] theorem out_load (t : Fin cfg0.N) (p : Fin 8) (o : ℕ) (ho : o = 128 * p.val) (h) (r l : Fin 128) :
    outAt m c t o h (ix2 r l) = ((O (at_ (wnd t) r) ⟨128 * p + l, by omega⟩ : ℝ) : EReal) := by
  subst ho
  refine ((hstage0_6 ((cfg0.slots t 6).cast nbuf0_6)).readAt_unread _ _ _).trans ((congrArg (iblk m c 6 t) (funext fun a => Fin.ext ?_)).trans (block_o m c H t r ⟨128 * p + l, by omega⟩))
  fin_cases a
  · show 0 + 1 * r.val = r.val; omega
  · show 128 * p.val + 1 * l.val = 128 * p.val + l.val; omega

/-- Everything a point loads is the window's. -/
theorem holds (t : Fin cfg0.N) : Holds (loads m c t) X T O (wnd t) where
  s := fun k => sink_load m c H t k.val k.2 _
  q := fun p r l => qry_load m c H t p _ rfl _ r l
  o := fun p r l => out_load m c H t p _ rfl _ r l
  ka r l := by
    unfold loads
    dsimp only
    rw [View.readAt_full, Memref.IsWhole.read_unread]
    exact block_ka m c H t r l
  kb r l := by
    unfold loads
    dsimp only
    rw [View.readAt_full, Memref.IsWhole.read_unread]
    exact block_kb m c H t r l
  va r l := by
    unfold loads
    dsimp only
    rw [View.readAt_full, Memref.IsWhole.read_unread]
    exact block_va m c H t r l
  vb r l := by
    unfold loads
    dsimp only
    rw [View.readAt_full, Memref.IsWhole.read_unread]
    exact block_vb m c H t r l

end Cert.SwaPoint

end
-- ==== Proof.SwaArrays.lean ====
module

public import proofs.«01_k».proof.Proof.SwaBlocks

@[expose] public section

set_option maxRecDepth 16384

noncomputable section

open Idealize.ShloMosaic Idealize.ShloMosaic.TcCoe Idealize.ShloMosaic.Tactic Idealize.SL.Sem
open Idealize.ShloMosaic.Pipeline (Dat)

/-! The four arrays the attention gradient's kernel leaves, window by window and at the end. -/

namespace Cert.SwaPoint

open Cert.SwaKernelIdeal Cert.SwaKernelIdeal.Gen Cert.Swa Cert.SwaVec Cert.Lift

/-- A row's gradient once the windows up to `n` are done: from its own window, and from the next. -/
def stage (f : Fin 32 → Fin 2 → Fin 256 → Fin 64 → ℝ) (n : ℕ) (R : Fin 4096) (l : Fin 128) : ℝ :=
  (if R.val / 128 ≤ n then f (win R) (kv l) (own (low R)) (dim l) else 0)
    + (if h : R.val / 128 + 1 ≤ n ∧ R.val / 128 + 1 < 32 then f ⟨R.val / 128 + 1, h.2⟩ (kv l) (before (low R)) (dim l) else 0)

/-- After the first window. -/
theorem stage_first (f : Fin 32 → Fin 2 → Fin 256 → Fin 64 → ℝ) (R : Fin 4096) (l : Fin 128) :
    (if R.val / 128 = 0 then f 0 (kv l) (own (low R)) (dim l) else 0) = stage f 0 R l := by
  unfold stage
  rw [dif_neg (by omega), add_zero]
  by_cases h : R.val / 128 = 0
  · have e : win R = 0 := Fin.ext h
    rw [if_pos h, if_pos h.le, e]
  · rw [if_neg h, if_neg (by omega)]

/-- One window more. -/
theorem stage_later (f : Fin 32 → Fin 2 → Fin 256 → Fin 64 → ℝ) (n : ℕ) (hn : n + 1 < 32) (R : Fin 4096) (l : Fin 128) :
    stage f n R l + (if R.val / 128 = n + 1 then f ⟨n + 1, hn⟩ (kv l) (own (low R)) (dim l) else 0) + (if R.val / 128 = n then f ⟨n + 1, hn⟩ (kv l) (before (low R)) (dim l) else 0)
      = stage f (n + 1) R l := by
  unfold stage
  by_cases h : R.val / 128 = n
  · subst h
    rw [if_pos le_rfl, dif_neg (by omega), if_neg (show ¬ R.val / 128 = R.val / 128 + 1 by omega), if_pos rfl, if_pos (by omega), dif_pos ⟨le_rfl, hn⟩, add_zero, add_zero]
  rw [if_neg h]
  by_cases h1 : R.val / 128 = n + 1
  · have e : (⟨n + 1, hn⟩ : Fin 32) = win R := Fin.ext h1.symm
    rw [if_neg (show ¬ R.val / 128 ≤ n by omega), dif_neg (by omega), if_pos h1, if_pos h1.le, dif_neg (by omega), e]; ring
  rw [if_neg h1, add_zero, add_zero]
  by_cases h2 : R.val / 128 < n
  · rw [if_pos h2.le, if_pos (by omega), dif_pos ⟨h2, by omega⟩, dif_pos ⟨by omega, by omega⟩]
  · rw [if_neg (by omega), if_neg (by omega), dif_neg (by omega), dif_neg (by omega)]

/-- After the last window every row has both. -/
theorem stage_last (f : Fin 32 → Fin 2 → Fin 256 → Fin 64 → ℝ) (R : Fin 4096) (l : Fin 128) : stage f 31 R l = gather f (win R) (low R) (kv l) (dim l) := by
  have hR : R.val / 128 < 32 := by omega
  unfold stage gather
  rw [if_pos (by omega)]
  congr 1
  by_cases h : R.val / 128 + 1 < 32
  · rw [dif_pos ⟨by omega, h⟩, dif_pos (show (win R).val + 1 < 32 from h)]; rfl
  · rw [dif_neg (fun e => h e.2), dif_neg (show ¬ (win R).val + 1 < 32 from h)]

/-- The grid's last point. -/
def lastPoint : Fin cfg0.N := ⟨31, by decide +kernel⟩

/-- The sum over the windows up to `n`. -/
def upto (a : Fin 32 → ℝ) (n : ℕ) : ℝ := ∑ w, if w.val ≤ n then a w else 0

/-- The first partial sum is the first term. -/
theorem upto_first (a : Fin 32 → ℝ) : upto a 0 = a 0 := by
  unfold upto
  rw [Finset.sum_eq_single 0 (fun w _ hw => if_neg fun e => hw (Fin.ext (by simpa using e))) (fun h => absurd (Finset.mem_univ _) h)]
  rfl

/-- The next partial sum adds the next term. -/
theorem upto_later (a : Fin 32 → ℝ) (n : ℕ) (hn : n + 1 < 32) : upto a n + a ⟨n + 1, hn⟩ = upto a (n + 1) := by
  unfold upto
  rw [show a ⟨n + 1, hn⟩ = ∑ w, if w = ⟨n + 1, hn⟩ then a w else 0 by simp, ← Finset.sum_add_distrib]
  refine Finset.sum_congr rfl fun w _ => ?_
  by_cases h : w = ⟨n + 1, hn⟩
  · subst h; rw [if_neg (by dsimp only; omega), if_pos rfl, if_pos le_rfl, zero_add]
  · have : w.val ≠ n + 1 := fun e => h (Fin.ext e)
    rw [if_neg h, add_zero]
    exact if_congr (by omega) rfl rfl

/-- The last partial sum is the whole sum. -/
theorem upto_last (a : Fin 32 → ℝ) : upto a 31 = ∑ w, a w :=
  Finset.sum_congr rfl fun w _ => if_pos (by omega)

variable (m : (ℓ : Loc nD τ sig) → Buf (Elt Ideal) ℓ) (c : Dev nD) {X : Fin 4096 → Fin 1280 → ℝ} {T : Fin 16 → ℝ} {O : Fin 4096 → Fin 1024 → ℝ}
  (H : SwaRef.Reals (m ((c : Thread nD τ).loc main_arg0)) (m ((c : Thread nD τ).loc main_arg1)) (m ((c : Thread nD τ).loc main_arg2)) X T O)
include H

/-- What a window adds to the sinks' gradient, lane by lane. -/
def share (X : Fin 4096 → Fin 1280 → ℝ) (T : Fin 16 → ℝ) (O : Fin 4096 → Fin 1024 → ℝ) (l : Fin 128) (n : Fin 32) : ℝ :=
  if h : l.val < 16 then ∑ r, -DT X T O n ⟨l / 8, by omega⟩ ⟨l % 8, by omega⟩ r else 0

omit H in
/-- All the windows' shares. -/
theorem shares (X : Fin 4096 → Fin 1280 → ℝ) (T : Fin 16 → ℝ) (O : Fin 4096 → Fin 1024 → ℝ) (l : Fin 128) : ∑ n, share X T O l n = resS X T O l := by
  unfold share resS dSink
  by_cases h : l.val < 16
  · simp only [h, dif_pos]
  · simp only [h, dif_neg, not_false_eq_true, Finset.sum_const_zero]

/-- The queries' gradient after a point: the window's. -/
theorem left_q (t : Fin cfg0.N) (r : Fin 128) (k : Fin 1024) : (outsAt m c t.val t.isLt).1 (ix2 r k) = ((dQry X T O (wnd t) (grp k) (mem k) r (dim k) : ℝ) : EReal) := by
  by_cases h : t.val = 0
  · rw [outsAt_first m c t h, leftFirst]
    dsimp only
    rw [first_pieces]
    exact pieces_real (holds m c H t) _ (coord t) _ _ r k
  · rw [outsAt_later m c t h, leftLater]
    dsimp only
    rw [later_pieces]
    exact pieces_real (holds m c H t) _ (coord t) _ _ r k

/-- The other three after the points up to `n`. -/
theorem left (n : ℕ) (hn : n < cfg0.N) :
    (∀ (R : Fin 4096) (l : Fin 128), (outsAt m c n hn).2.1 (ix2 R l) = ((stage (dKey X T O) n R l : ℝ) : EReal))
      ∧ (∀ (R : Fin 4096) (l : Fin 128), (outsAt m c n hn).2.2.1 (ix2 R l) = ((stage (dVlu X T O) n R l : ℝ) : EReal))
      ∧ (∀ l : Fin 128, (outsAt m c n hn).2.2.2 (ix2 0 l) = ((upto (share X T O l) n : ℝ) : EReal)) := by
  induction n with
  | zero =>
    have hl := holds m c H ⟨0, hn⟩
    have hi := coord ⟨0, hn⟩
    rw [outsAt_first m c ⟨0, hn⟩ rfl, leftFirst]
    dsimp only
    refine ⟨fun R l => ?_, fun R l => ?_, fun l => ?_⟩
    · rw [first_keys]
      exact (rowsFirst_real _ _ _ (dk_real hl _ hi) R l _ hi).trans (congrArg _ (stage_first _ R l))
    · rw [first_values]
      exact (rowsFirst_real _ _ _ (dv_real hl _ hi) R l _ hi).trans (congrArg _ (stage_first _ R l))
    · rw [first_sinks]
      exact (sinksFirst_real _ _ (sk_real hl _ hi) l _ _).trans (congrArg _ (upto_first (share X T O l)).symm)
  | succ n ih =>
    have hl := holds m c H ⟨n + 1, hn⟩
    have hi := coord ⟨n + 1, hn⟩
    obtain ⟨ik, iv, is⟩ := ih (Nat.lt_of_succ_lt hn)
    rw [outsAt_later m c ⟨n + 1, hn⟩ (Nat.succ_ne_zero n), leftLater]
    dsimp only
    refine ⟨fun R l => ?_, fun R l => ?_, fun l => ?_⟩
    · rw [later_keys]
      exact (rowsLater_real _ _ _ (dk_real hl _ hi) R l _ _ _ n hi (fun R l => (congrFun (Memref.IsWhole.read_unread _ _) _).trans (ik R l)) (fun R l => (congrFun (Memref.IsWhole.read_unread _ _) _).trans (ik R l))).trans (congrArg _ (stage_later _ n (hn.trans_eq N_0) R l))
    · rw [later_values]
      exact (rowsLater_real _ _ _ (dv_real hl _ hi) R l _ _ _ n hi (fun R l => (congrFun (Memref.IsWhole.read_unread _ _) _).trans (iv R l)) (fun R l => (congrFun (Memref.IsWhole.read_unread _ _) _).trans (iv R l))).trans (congrArg _ (stage_later _ n (hn.trans_eq N_0) R l))
    · rw [later_sinks]
      exact (sinksLater_real _ _ (sk_real hl _ hi) l _ _ (fun l => (congrFun (Memref.IsWhole.read_unread _ _) _).trans (is l))).trans (congrArg _ (upto_later (share X T O l) n (hn.trans_eq N_0)))

/-- The queries' gradient. -/
theorem final_q : (dats m 0 c).arrAt 7 cfg0.N = fun j : S4096x1024.Idx => ((resQ X T O (j 0) (j 1) : ℝ) : EReal) := by
  refine (dats m 0 c).arrAt_eq_of_covers 7 _ (by decide +kernel) fun t hf y => ?_
  have key : ∀ y : S128x1024.Idx, (outsAt m c t.val t.isLt).1 y = ((resQ X T O (at_ (wnd t) (y 0)) (y 1) : ℝ) : EReal) := fun y => by
    have e1 : wnd t = win (at_ (wnd t) (y 0)) := Fin.ext (by simp only [win, at_]; have h : (y 0).val < 128 := (y 0).isLt; omega)
    have e2 : y 0 = low (at_ (wnd t) (y 0)) := Fin.ext (by simp only [low, at_]; have h : (y 0).val < 128 := (y 0).isLt; omega)
    unfold resQ
    rw [← e1, ← e2]
    exact (congrArg _ (eq_ix2 y)).trans (left_q m c H t (y 0) (y 1))
  blk_simp; rw [after7]
  refine (key y).trans (congrArg _ ?_)
  refine congrArg₂ (resQ X T O) (Fin.ext ?_) (Fin.ext ?_) <;> blk_ext [at_, wnd, idx t]

/-- The keys' gradient, -/
theorem final_k : (dats m 0 c).arrAt 8 cfg0.N = fun j : S4096x128.Idx => ((resK X T O (j 0) (j 1) : ℝ) : EReal) := by
  refine (dats m 0 c).arrAt_eq_of_after_last 8 lastPoint (by decide +kernel) _ fun j => ?_
  blk_simp
  rw [after8, eq_ix2 j]
  exact ((left m c H 31 _).1 _ _).trans (congrArg _ (stage_last _ _ _))

/-- the values', -/
theorem final_v : (dats m 0 c).arrAt 9 cfg0.N = fun j : S4096x128.Idx => ((resV X T O (j 0) (j 1) : ℝ) : EReal) := by
  refine (dats m 0 c).arrAt_eq_of_after_last 9 lastPoint (by decide +kernel) _ fun j => ?_
  blk_simp
  rw [after9, eq_ix2 j]
  exact ((left m c H 31 _).2.1 _ _).trans (congrArg _ (stage_last _ _ _))

/-- and the sinks'. -/
theorem final_s : (dats m 0 c).arrAt 10 cfg0.N = fun j : S1x128.Idx => ((resS X T O (j 1) : ℝ) : EReal) := by
  refine (dats m 0 c).arrAt_eq_of_after_last 10 lastPoint (by decide +kernel) _ fun j => ?_
  blk_simp
  have e : j = ix2 0 (j 1) := by rw [eq_ix2 j]; congr 1; exact Subsingleton.elim _ _
  rw [after10, e]
  exact ((left m c H 31 _).2.2 _).trans (congrArg _ ((upto_last _).trans (shares X T O _)))

end Cert.SwaPoint

end
-- ==== Proof.SwaRefRow.lean ====
module

public import proofs.«01_k».proof.Proof.SwaRef
public import Idealize.ShloMosaic.Lib.Pipeline.ValueKit
public import Idealize.ShloMosaic.Lib.ValueIdxRank6
public import Idealize.ShloMosaic.Lib.WordCmp

@[expose] public section

set_option maxRecDepth 16384

noncomputable section

open Idealize.ShloMosaic Idealize.ShloMosaic.TcCoe Idealize.SL.Sem

/-! The reference's rows of probabilities and of score gradients. -/

namespace Cert.SwaRef

open Cert.SwaReferenceIdeal Cert.SwaReferenceIdeal.Gen Cert.SwaReferenceIdeal.Read Cert.Lift Cert.Swa

variable {x0 : FVec Ideal S4096x4368 .f32} {x1 : FVec Ideal S16 .f32} {x2 : FVec Ideal S4096x2048 .f32}
  {X : Fin 4096 → Fin 1280 → ℝ} {T : Fin 16 → ℝ} {O : Fin 4096 → Fin 1024 → ℝ}

/-- The exponentials of a row, shifted by its maximum. -/
def ex (x0 : FVec Ideal S4096x4368 .f32) (x1 : FVec Ideal S16 .f32) (X : Fin 4096 → Fin 1280 → ℝ)
    (n : Fin 32) (h : Fin 2) (g : Fin 8) (r : Fin 128) (j : Fin 256) : ℝ :=
  shifted n r (qry X n h g r) (band (key X) n h) (mu x0 x1 n h g r) j

/-- The sink's. -/
def es (x0 : FVec Ideal S4096x4368 .f32) (x1 : FVec Ideal S16 .f32) (T : Fin 16 → ℝ)
    (n : Fin 32) (h : Fin 2) (g : Fin 8) (r : Fin 128) : ℝ := Real.exp (T (head h g) - mu x0 x1 n h g r)

/-- Their sum. -/
def den (x0 : FVec Ideal S4096x4368 .f32) (x1 : FVec Ideal S16 .f32) (X : Fin 4096 → Fin 1280 → ℝ) (T : Fin 16 → ℝ)
    (n : Fin 32) (h : Fin 2) (g : Fin 8) (r : Fin 128) : ℝ := ∑ j, ex x0 x1 X n h g r j + es x0 x1 T n h g r

/-- A row's shifted denominator is positive. -/
theorem den_pos (n : Fin 32) (h : Fin 2) (g : Fin 8) (r : Fin 128) : 0 < den x0 x1 X T n h g r := shifted_total_pos ..

/-- A row's own index under the one that is broadcast along its keys. -/
theorem row_idx (n : Fin 32) (h : Fin 2) (g : Fin 8) (r : Fin 128) (j : Fin 256) :
    idx_main_v83 (ix6 0 n h g r j) = ix6 0 n h g r 0 := by
  funext a; fin_cases a <;> rfl

/-- The reference's shifted exponentials, -/
theorem exps (H : Reals x0 x1 x2 X T O) (n : Fin 32) (h : Fin 2) (g : Fin 8) (r : Fin 128) (j : Fin 256) :
    val_main_v85 (F := Ideal) x0 x1 (ix6 0 n h g r j) = ((ex x0 x1 X n h g r j : ℝ) : EReal) := by
  have e : val_main_v85 (F := Ideal) x0 x1 (ix6 0 n h g r j)
      = Ideal.exp (val_main_v53_0 (F := Ideal) x0 (ix6 0 n h g r j) - val_main_v64 (F := Ideal) x0 x1 (ix6 0 n h g r 0)) := by
    rw [val_main_v85_apply, val_main_v84_apply, val_main_v83_apply, row_idx]; rfl
  rw [e, masked H, top H]
  unfold ex shifted
  split_ifs
  · rw [← EReal.coe_sub, Ideal.exp_coe]
  · rw [EReal.bot_sub, Ideal.exp_bot, EReal.coe_zero]

/-- its shifted exponential of the sink, -/
theorem sinks (H : Reals x0 x1 x2 X T O) (n : Fin 32) (h : Fin 2) (g : Fin 8) (r : Fin 128) :
    val_main_v90 (F := Ideal) x0 x1 (ix6 0 n h g r 0) = ((es x0 x1 T n h g r : ℝ) : EReal) := by
  have e : val_main_v90 (F := Ideal) x0 x1 (ix6 0 n h g r 0)
      = Ideal.exp (x1 (ix1 (head h g)) - val_main_v64 (F := Ideal) x0 x1 (ix6 0 n h g r 0)) := by
    rw [val_main_v90_apply, val_main_v89_apply, val_main_v88_apply, val_main_v55_apply, val_main_v54_apply]
    refine congrArg (fun a => Ideal.exp (a - _)) (congrArg x1 (funext fun a => ?_))
    fin_cases a; rfl
  rw [e, H.t, top H, ← EReal.coe_sub, Ideal.exp_coe]; rfl

/-- its denominator, -/
theorem denom (H : Reals x0 x1 x2 X T O) (n : Fin 32) (h : Fin 2) (g : Fin 8) (r : Fin 128) :
    val_main_v91 (F := Ideal) x0 x1 (ix6 0 n h g r 0) = ((den x0 x1 X T n h g r : ℝ) : EReal) := by
  have e : val_main_v91 (F := Ideal) x0 x1 (ix6 0 n h g r 0)
      = (Ideal.ofBits .f32 0x00000000#32 + ∑ j : Fin 256, val_main_v85 (F := Ideal) x0 x1 (ix6 0 n h g r j)) + val_main_v90 (F := Ideal) x0 x1 (ix6 0 n h g r 0) := by
    rw [val_main_v91_apply, val_main_v87_apply, val_main_v86_apply]
    refine congrArg (· + _) (congrArg (_ + ·) (Finset.sum_congr rfl fun j _ => congrArg _ (funext fun a => ?_)))
    fin_cases a <;> rfl
  rw [e, sinks H, Ideal.ofBits_zero]
  simp only [exps H, coe_sum, zero_add, ← EReal.coe_add]
  rfl

/-- its probabilities, -/
theorem probs (H : Reals x0 x1 x2 X T O) (n : Fin 32) (h : Fin 2) (g : Fin 8) (r : Fin 128) (j : Fin 256) :
    val_main_v93 (F := Ideal) x0 x1 (ix6 0 n h g r j) = ((P X T n h g r j : ℝ) : EReal) := by
  have e : val_main_v93 (F := Ideal) x0 x1 (ix6 0 n h g r j)
      = Ideal.div (val_main_v85 (F := Ideal) x0 x1 (ix6 0 n h g r j)) (val_main_v91 (F := Ideal) x0 x1 (ix6 0 n h g r 0)) := by
    rw [val_main_v93_apply, val_main_v92_apply, show idx_main_v92 (ix6 0 n h g r j) = _ from row_idx n h g r j]; rfl
  rw [e, exps H, denom H, div_real (den_pos n h g r).ne']
  exact congrArg _ ((shifted_prob ..).trans (congrFun (prob_congr _ _ _ _ _ fun j hj => band_of_ok _ n h r j hj) j))

/-- and the gradient of the probabilities. -/
theorem dps (H : Reals x0 x1 x2 X T O) (n : Fin 32) (h : Fin 2) (g : Fin 8) (r : Fin 128) (j : Fin 256) :
    val_main_v104 (F := Ideal) x0 x2 (ix6 0 n h g r j) = ((dprob (out O n h g r) (band (vlu X) n h) j : ℝ) : EReal) := by
  pointwise [val_main_v104, val_main_v103]
  simp only [outgrad H, values H, ← EReal.coe_mul, coe_sum]
  rfl

end Cert.SwaRef

end
-- ==== Proof.SwaRefLayout.lean ====
module

public import proofs.«01_k».proof.Proof.SwaRefRow
public import Idealize.ShloMosaic.Lib.Pipeline.ValueKit
public import Idealize.ShloMosaic.Lib.ValueIdxRank6
public import Idealize.ShloMosaic.Lib.WordCmp

@[expose] public section

set_option maxRecDepth 16384

noncomputable section

open Idealize.ShloMosaic Idealize.ShloMosaic.TcCoe Idealize.SL.Sem

/-! The reference's reshapes, sums, paddings and products, read at an element. -/

namespace Cert.SwaRef

open Cert.SwaReferenceIdeal Cert.SwaReferenceIdeal.Gen Cert.SwaReferenceIdeal.Read Cert.Lift Cert.Swa

/-- A row's entry after an axis of length one is added. -/
theorem cast_row (y : FVec Ideal S1x32x2x8x128 .f32) (n : Fin 32) (h : Fin 2) (g : Fin 8) (r : Fin 128) :
    shapeCast S1x32x2x8x128x1 y shapeCasts_S1x32x2x8x128_S1x32x2x8x128x1 (ix6 0 n h g r 0) = y (ix5 0 n h g r) := by
  pointwise

/-- A constant's only entry. -/
theorem first_zero (c : FVec Ideal S_ .f32) : c (Shape.Idx.first h_S_) = c ix0 := congrArg c (Subsingleton.elim _ _)

/-- A sum into an element is the sum over any numbering of the operand's elements that reduce into it. -/
theorem sum_fibre {s t : Shape} {axes : List (Fin s.rank)} (h : s.ReducesTo axes t) (x : s.Idx → EReal) (init : EReal) (j : t.Idx)
    {ι : Type} [Fintype ι] (p : ι → s.Idx) (hp : ∀ i, h.drop (p i) = j) (inj : Function.Injective p) (sur : ∀ k, h.drop k = j → ∃ i, p i = k) :
    Ideal.hostReduceAdd h x init j = init + ∑ i, x (p i) := by
  unfold Ideal.hostReduceAdd
  refine congrArg _ (Finset.sum_bij (fun i _ => p i) (fun i _ => Finset.mem_filter.2 ⟨Finset.mem_univ _, hp i⟩) (fun _ _ _ _ e => inj e) (fun k hk => ?_) (fun _ _ => rfl)).symm
  obtain ⟨i, e⟩ := sur k (Finset.mem_filter.1 hk).2
  exact ⟨i, Finset.mem_univ _, e⟩

/-- A sum over an axis of length one. -/
theorem sum_unit (y : FVec Ideal S1x32x2x8x128x1 .f32) (c : FVec Ideal S_ .f32) (n : Fin 32) (h : Fin 2) (g : Fin 8) (r : Fin 128) :
    Host.reduceAdd y c reducesTo_S1x32x2x8x128x1_S32x2x8x128_d0_5 h_S_ (ix4 n h g r) = c ix0 + y (ix6 0 n h g r 0) := by
  pointwise
  rw [first_zero c]
  refine (sum_fibre _ y _ _ (fun _ : Unit => ix6 0 n h g r 0) (fun _ => ?_) (fun _ _ _ => rfl) fun i e => ⟨(), ?_⟩).trans (congrArg _ (Fintype.sum_unique _))
  · funext d; fin_cases d <;> rfl
  · rw [eq_ix6 i]
    obtain rfl : i 1 = n := congrFun e 0
    obtain rfl : i 2 = h := congrFun e 1
    obtain rfl : i 3 = g := congrFun e 2
    obtain rfl : i 4 = r := congrFun e 3
    exact congrArg₂ (fun a b => ix6 a _ _ _ _ b) (Subsingleton.elim (α := Fin 1) _ _) (Subsingleton.elim (α := Fin 1) _ _)

/-- A sum over the windows and the rows in them. -/
theorem sum_windows (y : FVec Ideal S1x32x2x8x128x1 .f32) (c : FVec Ideal S_ .f32) (h : Fin 2) (g : Fin 8) :
    Host.reduceAdd y c reducesTo_S1x32x2x8x128x1_S1x2x8x1_d1_4 h_S_ (ix4 0 h g 0) = c ix0 + ∑ n : Fin 32, ∑ r : Fin 128, y (ix6 0 n h g r 0) := by
  pointwise
  rw [first_zero c]
  refine (sum_fibre _ y _ _ (fun p : Fin 32 × Fin 128 => ix6 0 p.1 h g p.2 0) (fun _ => ?_) (fun p q e => ?_) fun i e => ⟨(i 1, i 4), ?_⟩).trans (congrArg _ (Fintype.sum_prod_type _))
  · funext d; fin_cases d <;> rfl
  · exact Prod.ext (congrFun e 1) (congrFun e 4)
  · rw [eq_ix6 i]
    obtain rfl : i 2 = h := congrFun e 1
    obtain rfl : i 3 = g := congrFun e 2
    exact congrArg₂ (fun a b => ix6 a _ _ _ _ b) (Subsingleton.elim (α := Fin 1) _ _) (Subsingleton.elim (α := Fin 1) _ _)

/-- A sum over axes of length one. -/
theorem sum_units (y : FVec Ideal S1x1x2x8x1x1 .f32) (c : FVec Ideal S_ .f32) (h : Fin 2) (g : Fin 8) :
    Host.reduceAdd y c reducesTo_S1x1x2x8x1x1_S2x8_d0_1_4_5 h_S_ (ix2 h g) = c ix0 + y (ix6 0 0 h g 0 0) := by
  pointwise
  rw [first_zero c]
  refine (sum_fibre _ y _ _ (fun _ : Unit => ix6 0 0 h g 0 0) (fun _ => ?_) (fun _ _ _ => rfl) fun i e => ⟨(), ?_⟩).trans (congrArg _ (Fintype.sum_unique _))
  · funext d; fin_cases d <;> rfl
  · obtain rfl : i 2 = h := congrFun e 0
    obtain rfl : i 3 = g := congrFun e 1
    funext a
    fin_cases a
    exacts [Subsingleton.elim (α := Fin 1) _ _, Subsingleton.elim (α := Fin 1) _ _, rfl, rfl, Subsingleton.elim (α := Fin 1) _ _, Subsingleton.elim (α := Fin 1) _ _]

/-- A sink's entry after axes of length one are added. -/
theorem cast_sinks (y : FVec Ideal S1x2x8x1 .f32) (h : Fin 2) (g : Fin 8) :
    shapeCast S1x1x2x8x1x1 y shapeCasts_S1x2x8x1_S1x1x2x8x1x1 (ix6 0 0 h g 0 0) = y (ix4 0 h g 0) := by
  pointwise

/-- The product that makes the values' gradient: a sum over a window's rows and a group's heads. -/
theorem dot_value (a : FVec Ideal S1x32x2x64x8x128 .f32) (b : FVec Ideal S1x32x2x8x128x256 .f32) (n : Fin 32) (h : Fin 2) (d : Fin 64) (j : Fin 256) :
    Host.dotGeneral dot_S1x32x2x64x8x128_S1x32x2x8x128x256_S1x32x2x64x256_45_34_3_5_012_012 none a b (ix5 0 n h d j)
      = ∑ g : Fin 8, ∑ r : Fin 128, a (ix6 0 n h d g r) * b (ix6 0 n h g r j) := by
  pointwise

/-- The product that makes the keys' gradient: the same sum. -/
theorem dot_key (a : FVec Ideal S1x32x2x256x128x8 .f32) (b : FVec Ideal S1x32x128x2x8x64 .f32) (n : Fin 32) (h : Fin 2) (d : Fin 64) (j : Fin 256) :
    Host.dotGeneral dot_S1x32x2x256x128x8_S1x32x128x2x8x64_S1x32x2x256x64_45_24_3_5_012_013 none a b (ix5 0 n h j d)
      = ∑ r : Fin 128, ∑ g : Fin 8, a (ix6 0 n h j r g) * b (ix6 0 n r h g d) := by
  pointwise

/-- An array of windows moved on by one, with zeros in the last. -/
theorem pad_next (y : FVec Ideal S1x31x128x2x64 .f32) (c : FVec Ideal S_ .f32) (n : Fin 32) (r : Fin 128) (h : Fin 2) (d : Fin 64) :
    pad S1x32x128x2x64 ![0, 0, 0, 0, 0] ![0, 1, 0, 0, 0] ![0, 0, 0, 0, 0] y c pads_S1x31x128x2x64_S1x32x128x2x64_000_010_000_000_000 h_S_ (ix5 0 n r h d)
      = if hn : n.val < 31 then y (ix5 0 ⟨n, hn⟩ r h d) else c ix0 := by
  pointwise
  rw [first_zero c]

end Cert.SwaRef

end
-- ==== Proof.SwaRefGrad.lean ====
module

public import proofs.«01_k».proof.Proof.SwaRefLayout
public import Idealize.ShloMosaic.Lib.Pipeline.ValueKit
public import Idealize.ShloMosaic.Lib.ValueIdxRank6
public import Idealize.ShloMosaic.Lib.WordCmp

@[expose] public section

set_option maxRecDepth 16384

noncomputable section

open Idealize.ShloMosaic Idealize.ShloMosaic.TcCoe Idealize.SL.Sem

/-! The reference's score gradients and its four results, read at an element over finite arguments. -/

namespace Cert.SwaRef

open Cert.SwaReferenceIdeal Cert.SwaReferenceIdeal.Gen Cert.SwaReferenceIdeal.Read Cert.Lift Cert.Swa

variable {x0 : FVec Ideal S4096x4368 .f32} {x1 : FVec Ideal S16 .f32} {x2 : FVec Ideal S4096x2048 .f32}
  {X : Fin 4096 → Fin 1280 → ℝ} {T : Fin 16 → ℝ} {O : Fin 4096 → Fin 1024 → ℝ}

/-- The gradient with respect to a probability. -/
def dp (X : Fin 4096 → Fin 1280 → ℝ) (O : Fin 4096 → Fin 1024 → ℝ) (n : Fin 32) (h : Fin 2) (g : Fin 8) (r : Fin 128) (j : Fin 256) : ℝ :=
  dprob (out O n h g r) (band (vlu X) n h) j

/-- The gradient with respect to the row's sum, but for its sign. -/
def ds (x0 : FVec Ideal S4096x4368 .f32) (x1 : FVec Ideal S16 .f32) (X : Fin 4096 → Fin 1280 → ℝ) (T : Fin 16 → ℝ) (O : Fin 4096 → Fin 1024 → ℝ)
    (n : Fin 32) (h : Fin 2) (g : Fin 8) (r : Fin 128) : ℝ :=
  ∑ j, dp X O n h g r j * (1 / (den x0 x1 X T n h g r * den x0 x1 X T n h g r)) * ex x0 x1 X n h g r j

/-- The word of one. -/
theorem one_word : Ideal.ofBits .f32 0x3F800000#32 = 1 := by
  simp [Ideal.ofBits, Ideal.ieee, -EReal.coe_mul]; norm_num

/-- The reference's sum of the probabilities times their gradients. -/
theorem sums (H : Reals x0 x1 x2 X T O) (n : Fin 32) (h : Fin 2) (g : Fin 8) (r : Fin 128) :
    val_main_v112 (F := Ideal) x0 x1 x2 (ix6 0 n h g r 0) = ((-ds x0 x1 X T O n h g r : ℝ) : EReal) := by
  have e1 : val_main_v112 (F := Ideal) x0 x1 x2 (ix6 0 n h g r 0) = -(val_main_v110 (F := Ideal) x0 x1 x2 (ix5 0 n h g r)) := by
    rw [val_main_v112_apply]; unfold val_main_v111; rw [cast_row]; rfl
  have e2 : val_main_v110 (F := Ideal) x0 x1 x2 (ix5 0 n h g r)
      = Ideal.ofBits .f32 0x00000000#32 + ∑ j : Fin 256, val_main_v109 (F := Ideal) x0 x1 x2 (ix6 0 n h g r j) := by
    rw [val_main_v110_apply]
    refine congrArg (_ + ·) (Finset.sum_congr rfl fun j _ => congrArg _ (funext fun a => ?_))
    fin_cases a <;> rfl
  have e3 (j : Fin 256) : val_main_v109 (F := Ideal) x0 x1 x2 (ix6 0 n h g r j)
      = val_main_v104 (F := Ideal) x0 x2 (ix6 0 n h g r j) * Ideal.div (Ideal.ofBits .f32 0x3F800000#32)
        (val_main_v91 (F := Ideal) x0 x1 (ix6 0 n h g r 0) * val_main_v91 (F := Ideal) x0 x1 (ix6 0 n h g r 0)) * val_main_v85 (F := Ideal) x0 x1 (ix6 0 n h g r j) := by
    rw [val_main_v109_apply, val_main_v108_apply, val_main_v107_apply, show idx_main_v107 (ix6 0 n h g r j) = _ from row_idx n h g r j,
      val_main_v96_apply, val_main_v95_apply, val_main_v94_apply]; rfl
  have hD := den_pos (x0 := x0) (x1 := x1) (X := X) (T := T) n h g r
  rw [e1, e2, Ideal.ofBits_zero, zero_add]
  simp only [e3, dps H, denom H, exps H, one_word, ← EReal.coe_mul, one_div_real (mul_pos hD hD).ne', coe_sum, ← EReal.coe_neg]
  rfl

/-- The gradient with respect to the sink, in one row. -/
theorem sinkrow (H : Reals x0 x1 x2 X T O) (n : Fin 32) (h : Fin 2) (g : Fin 8) (r : Fin 128) :
    val_main_v115 (F := Ideal) x0 x1 x2 (ix6 0 n h g r 0) = ((-ds x0 x1 X T O n h g r * es x0 x1 T n h g r : ℝ) : EReal) := by
  rw [val_main_v115_apply, sums H, sinks H]; exact (EReal.coe_mul _ _).symm

/-- The gradient with respect to a shifted score. -/
def dsc (x0 : FVec Ideal S4096x4368 .f32) (x1 : FVec Ideal S16 .f32) (X : Fin 4096 → Fin 1280 → ℝ) (T : Fin 16 → ℝ) (O : Fin 4096 → Fin 1024 → ℝ)
    (n : Fin 32) (h : Fin 2) (g : Fin 8) (r : Fin 128) (j : Fin 256) : ℝ :=
  (dp X O n h g r j / den x0 x1 X T n h g r + -ds x0 x1 X T O n h g r) * ex x0 x1 X n h g r j

/-- The reference's gradient of the scores, before the mask. -/
theorem shiftedGrad (H : Reals x0 x1 x2 X T O) (n : Fin 32) (h : Fin 2) (g : Fin 8) (r : Fin 128) (j : Fin 256) :
    val_main_v123 (F := Ideal) x0 x1 x2 (ix6 0 n h g r j) = ((dsc x0 x1 X T O n h g r j : ℝ) : EReal) := by
  have e1 : idx_main_v120 (idx_main_v121 (ix6 0 n h g r j)) = ix4 n h g r := by funext a; fin_cases a <;> rfl
  have e2 : val_main_v119 (F := Ideal) x0 x1 x2 (ix4 n h g r) = val_main_v112 (F := Ideal) x0 x1 x2 (ix6 0 n h g r 0) := by
    unfold val_main_v119; rw [sum_unit]; show Ideal.ofBits .f32 0x00000000#32 + _ = _; rw [Ideal.ofBits_zero, zero_add]
  have e3 : val_main_v114 (F := Ideal) x0 x1 x2 (ix6 0 n h g r j) = Ideal.div (val_main_v104 (F := Ideal) x0 x2 (ix6 0 n h g r j)) (val_main_v91 (F := Ideal) x0 x1 (ix6 0 n h g r 0)) := by
    rw [val_main_v114_apply, val_main_v113_apply, show idx_main_v113 (ix6 0 n h g r j) = _ from row_idx n h g r j]; rfl
  rw [val_main_v123_apply, val_main_v122_apply, val_main_v121_apply, val_main_v120_apply, e1, e2, e3, sums H, dps H, denom H, exps H,
    div_real (den_pos n h g r).ne']
  show (_ + _) * _ = _
  rw [← EReal.coe_add, ← EReal.coe_mul]; rfl

/-- The row's maximum has no gradient. -/
theorem shiftGrad (H : Reals x0 x1 x2 X T O) (n : Fin 32) (h : Fin 2) (g : Fin 8) (r : Fin 128) :
    val_main_v127 (F := Ideal) x0 x1 x2 (ix6 0 n h g r 0) = 0 := by
  have e1 : val_main_v126 (F := Ideal) x0 x1 x2 (ix6 0 n h g r 0) = val_main_v125 (F := Ideal) x0 x1 x2 (ix5 0 n h g r) := by
    unfold val_main_v126; exact cast_row _ n h g r
  have e2 : val_main_v125 (F := Ideal) x0 x1 x2 (ix5 0 n h g r)
      = Ideal.ofBits .f32 0x00000000#32 + ∑ j : Fin 256, -val_main_v123 (F := Ideal) x0 x1 x2 (ix6 0 n h g r j) := by
    rw [val_main_v125_apply]
    refine congrArg (_ + ·) (Finset.sum_congr rfl fun j _ => ?_)
    rw [val_main_v124_apply]
    refine congrArg (fun i => -(val_main_v123 (F := Ideal) x0 x1 x2 i)) (funext fun a => ?_)
    fin_cases a <;> rfl
  have e3 : val_main_v127 (F := Ideal) x0 x1 x2 (ix6 0 n h g r 0)
      = -val_main_v115 (F := Ideal) x0 x1 x2 (ix6 0 n h g r 0) + val_main_v126 (F := Ideal) x0 x1 x2 (ix6 0 n h g r 0) := by
    rw [val_main_v127_apply, val_main_v118_apply]; rfl
  rw [e3, e1, e2, sinkrow H, Ideal.ofBits_zero, zero_add]
  simp only [shiftedGrad H, ← EReal.coe_neg, coe_sum, ← EReal.coe_add]
  rw [← EReal.coe_zero]
  exact congrArg _ (shift_rule (dp X O n h g r) (ex x0 x1 X n h g r) _ _ rfl (den_pos n h g r).ne')

/-- What a tie for the maximum would share vanishes. -/
theorem tieGrad (H : Reals x0 x1 x2 X T O) (n : Fin 32) (h : Fin 2) (g : Fin 8) (r : Fin 128) (j : Fin 256) :
    val_main_v137 (F := Ideal) x0 x1 x2 (ix6 0 n h g r j) = 0 := by
  have i1 : idx_main_v136 (ix6 0 n h g r j) = ix5 0 n h g r := by funext a; fin_cases a <;> rfl
  have i2 : idx_main_v134 (ix5 0 n h g r) = ix4 n h g r := by funext a; fin_cases a <;> rfl
  have e2 : val_main_v133 (F := Ideal) x0 x1 x2 (ix4 n h g r) = 0 := by
    unfold val_main_v133; rw [sum_unit, val_main_v132_apply, shiftGrad H]
    show Ideal.ofBits .f32 0x00000000#32 + 0 * _ = (0 : EReal); rw [Ideal.ofBits_zero, zero_mul, zero_add]
  have e4 : val_main_v61 (F := Ideal) x0 (ix5 0 n h g r)
      = Ideal.ofBits .f32 0x00000000#32 + ∑ j : Fin 256, val_main_v60 (F := Ideal) x0 (ix6 0 n h g r j) := by
    rw [val_main_v61_apply]
    refine congrArg (_ + ·) (Finset.sum_congr rfl fun j _ => congrArg _ (funext fun a => ?_))
    fin_cases a <;> rfl
  have n0 (i) : (0 : EReal) ≤ val_main_v60 (F := Ideal) x0 i := by
    rw [val_main_v60_apply]
    exact EReal.coe_nonneg.2 (Nat.cast_nonneg _)
  have e5 : val_main_v137 (F := Ideal) x0 x1 x2 (ix6 0 n h g r j)
      = Ideal.div 0 (val_main_v61 (F := Ideal) x0 (ix5 0 n h g r)) * val_main_v60 (F := Ideal) x0 (ix6 0 n h g r j) := by
    rw [val_main_v137_apply, val_main_v136_apply, i1, val_main_v135_apply, val_main_v134_apply, i2, e2]; rfl
  rw [e5]
  by_cases hz : val_main_v60 (F := Ideal) x0 (ix6 0 n h g r j) = 0
  · rw [hz, mul_zero]
  · have : val_main_v61 (F := Ideal) x0 (ix5 0 n h g r) ≠ 0 := by
      rw [e4, Ideal.ofBits_zero, zero_add]
      exact ((lt_of_le_of_ne (n0 _) (Ne.symm hz)).trans_le (Finset.single_le_sum (f := fun j : Fin 256 => val_main_v60 (F := Ideal) x0 (ix6 0 n h g r j)) (fun _ _ => n0 _) (Finset.mem_univ j))).ne'
    unfold Ideal.div
    rw [if_neg this, zero_mul, zero_mul]

/-- The gradient with respect to an unscaled score. -/
theorem scoreGrad (H : Reals x0 x1 x2 X T O) (n : Fin 32) (h : Fin 2) (g : Fin 8) (r : Fin 128) (j : Fin 256) :
    val_main_v143 (F := Ideal) x0 x1 x2 (ix6 0 n h g r j) = ((DS X T O n h g r j : ℝ) : EReal) := by
  have e1 : val_main_v143 (F := Ideal) x0 x1 x2 (ix6 0 n h g r j)
      = Scalar.select (val_main_v53_1 (F := Ideal) (ix6 0 n h g r j)) (val_main_v123 (F := Ideal) x0 x1 x2 (ix6 0 n h g r j) + val_main_v137 (F := Ideal) x0 x1 x2 (ix6 0 n h g r j))
        (Ideal.ofBits .f32 0x00000000#32) * Ideal.ofBits .f32 0x3E000000#32 := by
    rw [val_main_v143_apply, val_main_v142_apply, val_main_v141_apply, val_main_v138_apply, val_main_call1_v0_apply]; rfl
  rw [e1, tieGrad H, add_zero, shiftedGrad H, ofBits_eighth, Ideal.ofBits_zero]
  unfold DS
  by_cases hj : ok n r j
  · rw [select_of ((mask 0 n h g r j).2 hj), ← EReal.coe_mul]
    refine congrArg _ ?_
    unfold dsc
    have q := quotient_rule (dp X O n h g r) (ex x0 x1 X n h g r) _ _ rfl (den_pos (x0 := x0) (x1 := x1) (X := X) (T := T) n h g r).ne' j
    rw [← dscore_congr n r _ _ _ _ _ (fun j hj => band_of_ok (key X) n h r j hj) (fun j hj => band_of_ok (vlu X) n h r j hj)]
    unfold dscore drow
    refine congrArg (· * _) (q.trans ?_)
    have p (k : Fin 256) : ex x0 x1 X n h g r k / (∑ j, ex x0 x1 X n h g r j + es x0 x1 T n h g r) = prob n r (qry X n h g r) (band (key X) n h) (T (head h g)) k := shifted_prob ..
    simp only [p]; rfl
  · rw [select_of_not (fun e => hj ((mask 0 n h g r j).1 e)), dscore_of_not _ _ _ _ _ _ _ hj, zero_mul, EReal.coe_zero]

end Cert.SwaRef

end
-- ==== Proof.SwaRefOut.lean ====
module

public import proofs.«01_k».proof.Proof.SwaRefGrad
public import Idealize.ShloMosaic.Lib.Pipeline.ValueKit
public import Idealize.ShloMosaic.Lib.ValueIdxRank6
public import Idealize.ShloMosaic.Lib.WordCmp

@[expose] public section

set_option maxRecDepth 16384

noncomputable section

open Idealize.ShloMosaic Idealize.ShloMosaic.TcCoe Idealize.SL.Sem

/-! The reference's four results, read at an element over finite arguments. -/

namespace Cert.SwaRef

open Cert.SwaReferenceIdeal Cert.SwaReferenceIdeal.Gen Cert.SwaReferenceIdeal.Read Cert.Lift Cert.Swa

variable {x0 : FVec Ideal S4096x4368 .f32} {x1 : FVec Ideal S16 .f32} {x2 : FVec Ideal S4096x2048 .f32}
  {X : Fin 4096 → Fin 1280 → ℝ} {T : Fin 16 → ℝ} {O : Fin 4096 → Fin 1024 → ℝ}

/-- The reference's gradient of a query, -/
theorem query_grad (H : Reals x0 x1 x2 X T O) (n : Fin 32) (h : Fin 2) (r : Fin 128) (g : Fin 8) (d : Fin 64) :
    val_main_v145 (F := Ideal) x0 x1 x2 (ix6 0 n h r g d) = ((dQry X T O n h g r d : ℝ) : EReal) := by
  have e1 (j : Fin 256) : val_main_v144 (F := Ideal) x0 x1 x2 (ix6 0 n h j r g) = val_main_v143 (F := Ideal) x0 x1 x2 (ix6 0 n h g r j) := by
    rw [val_main_v144_apply]; exact congrArg _ (funext fun a => by fin_cases a <;> rfl)
  have e2 : val_main_v145 (F := Ideal) x0 x1 x2 (ix6 0 n h r g d)
      = ∑ j : Fin 256, val_main_v143 (F := Ideal) x0 x1 x2 (ix6 0 n h g r j) * val_main_v13 (F := Ideal) x0 (ix5 0 n j h d) := by
    rw [val_main_v145_apply]
    refine Finset.sum_congr rfl fun j _ => ?_
    rw [← e1 j]
    refine congrArg₂ (fun a b => val_main_v144 (F := Ideal) x0 x1 x2 a * val_main_v13 (F := Ideal) x0 b) (funext fun a => ?_) (funext fun a => ?_)
    · fin_cases a <;> rfl
    · fin_cases a <;> rfl
  rw [e2]
  simp only [scoreGrad H, keys H, ← EReal.coe_mul, coe_sum]
  unfold dQry
  refine congrArg _ (Finset.sum_congr rfl fun j _ => ?_)
  by_cases hj : ok n r j
  · rw [congrFun (band_of_ok (key X) n h r j hj) d]
  · unfold DS; rw [dscore_of_not _ _ _ _ _ _ _ hj, zero_mul, zero_mul]

/-- of a key as one window sees it, -/
theorem key_grad (H : Reals x0 x1 x2 X T O) (n : Fin 32) (h : Fin 2) (j : Fin 256) (d : Fin 64) :
    val_main_v148 (F := Ideal) x0 x1 x2 (ix5 0 n j h d) = ((dKey X T O n h j d : ℝ) : EReal) := by
  have e1 (r : Fin 128) (g : Fin 8) : val_main_v144 (F := Ideal) x0 x1 x2 (ix6 0 n h j r g) = val_main_v143 (F := Ideal) x0 x1 x2 (ix6 0 n h g r j) := by
    rw [val_main_v144_apply]; exact congrArg _ (funext fun a => by fin_cases a <;> rfl)
  have e2 : val_main_v148 (F := Ideal) x0 x1 x2 (ix5 0 n j h d) = val_main_v147 (F := Ideal) x0 x1 x2 (ix5 0 n h j d) := by
    rw [val_main_v148_apply]; exact congrArg _ (funext fun a => by fin_cases a <;> rfl)
  rw [e2]; unfold val_main_v147
  rw [dot_key]
  simp only [e1, scoreGrad H, query H, ← EReal.coe_mul, coe_sum]
  exact congrArg _ Finset.sum_comm

/-- and of a value as one window sees it. -/
theorem value_grad (H : Reals x0 x1 x2 X T O) (n : Fin 32) (h : Fin 2) (j : Fin 256) (d : Fin 64) :
    val_main_v106 (F := Ideal) x0 x1 x2 (ix5 0 n j h d) = ((dVlu X T O n h j d : ℝ) : EReal) := by
  have e1 (r : Fin 128) (g : Fin 8) : val_main_v103 (F := Ideal) x2 (ix6 0 n h d g r) = val_main_v102 (F := Ideal) x2 (ix6 0 n r h g d) := by
    rw [val_main_v103_apply]; exact congrArg _ (funext fun a => by fin_cases a <;> rfl)
  have e2 : val_main_v106 (F := Ideal) x0 x1 x2 (ix5 0 n j h d) = val_main_v105 (F := Ideal) x0 x1 x2 (ix5 0 n h d j) := by
    rw [val_main_v106_apply]; exact congrArg _ (funext fun a => by fin_cases a <;> rfl)
  rw [e2]; unfold val_main_v105
  rw [dot_value]
  simp only [e1, probs H, outgrad H, ← EReal.coe_mul, coe_sum]
  unfold dVlu
  simp only [mul_comm]

/-- The reference's array of the queries' gradient, -/
theorem result_q (H : Reals x0 x1 x2 X T O) (R : Fin 4096) (c : Fin 1024) :
    val_main_v165 (F := Ideal) x0 x1 x2 (ix2 R c) = ((resQ X T O R c : ℝ) : EReal) := by
  unfold val_main_v165 val_main_v164 val_main_v163 val_main_v146
  have hy := query_grad H
  generalize val_main_v145 (F := Ideal) x0 x1 x2 = y at hy
  pointwise
  exact hy (win R) (grp c) (low R) (mem c) (dim c)

/-- A window's gradient with the next one's, where there is a next one. -/
theorem gather_eq (f : Fin 32 → Fin 2 → Fin 256 → Fin 64 → ℝ) (y : FVec Ideal S1x32x256x2x64 .f32)
    (hy : ∀ n h j d, y (ix5 0 n j h d) = ((f n h j d : ℝ) : EReal)) (n : Fin 32) (r : Fin 128) (h : Fin 2) (d : Fin 64) (p : Prop) [Decidable p]
    (hp : p ↔ n.val < 31) (i : p → Fin 32) (hi : ∀ q, (i q).val = 1 + n.val) :
    y (ix5 0 n ⟨128 + r, by omega⟩ h d) + (if q : p then y (ix5 0 (i q) ⟨r, by omega⟩ h d) else 0) = ((gather f n r h d : ℝ) : EReal) := by
  unfold gather
  by_cases q : p
  · have hn : n.val + 1 < 32 := by have := hp.1 q; omega
    rw [dif_pos q, dif_pos hn, hy, hy, ← EReal.coe_add, show i q = ⟨n + 1, hn⟩ from Fin.ext ((hi q).trans (Nat.add_comm _ _))]
  · rw [dif_neg q, dif_neg (fun hn => q (hp.2 (by omega))), hy, add_zero, add_zero]

/-- of the keys', -/
theorem result_k (H : Reals x0 x1 x2 X T O) (R : Fin 4096) (c : Fin 128) :
    val_main_v166 (F := Ideal) x0 x1 x2 (ix2 R c) = ((resK X T O R c : ℝ) : EReal) := by
  unfold val_main_v166 val_main_v162 val_main_v161 val_main_v160 val_main_v159 val_main_v157 val_main_v156 val_main_cst_26
  have hy := key_grad H
  generalize val_main_v148 (F := Ideal) x0 x1 x2 = y at hy
  pointwise
  exact gather_eq (dKey X T O) y hy (win R) (low R) (kv c) (dim c) _ (by unfold win; dsimp only; omega) (fun q => ⟨1 + R / 128, by omega⟩) fun _ => rfl

/-- and of the values'. -/
theorem result_v (H : Reals x0 x1 x2 X T O) (R : Fin 4096) (c : Fin 128) :
    val_main_v167 (F := Ideal) x0 x1 x2 (ix2 R c) = ((resV X T O R c : ℝ) : EReal) := by
  unfold val_main_v167 val_main_v155 val_main_v154 val_main_v153 val_main_v152 val_main_v150 val_main_v149 val_main_cst_25
  have hy := value_grad H
  generalize val_main_v106 (F := Ideal) x0 x1 x2 = y at hy
  pointwise
  exact gather_eq (dVlu X T O) y hy (win R) (low R) (kv c) (dim c) _ (by unfold win; dsimp only; omega) (fun q => ⟨1 + R / 128, by omega⟩) fun _ => rfl

/-- One row's share of a sink's gradient. -/
theorem sink_share (n : Fin 32) (h : Fin 2) (g : Fin 8) (r : Fin 128) :
    -ds x0 x1 X T O n h g r * es x0 x1 T n h g r = -DT X T O n h g r := by
  have h0 := (den_pos (x0 := x0) (x1 := x1) (X := X) (T := T) n h g r).ne'
  have hp : es x0 x1 T n h g r / den x0 x1 X T n h g r = probSink n r (qry X n h g r) (key X n h) (T (head h g)) :=
    (shifted_probSink ..).trans (probSink_congr _ _ _ _ _ fun j hj => band_of_ok _ n h r j hj)
  have hd : ∑ j, dp X O n h g r j * (ex x0 x1 X n h g r j / den x0 x1 X T n h g r)
      = drow n r (qry X n h g r) (out O n h g r) (key X n h) (vlu X n h) (T (head h g)) := by
    rw [← drow_congr n r _ _ _ _ _ (fun j hj => band_of_ok (key X) n h r j hj) (fun j hj => band_of_ok (vlu X) n h r j hj)]
    exact Finset.sum_congr rfl fun j _ => congrArg (_ * ·) (shifted_prob ..)
  have hs : ds x0 x1 X T O n h g r = (∑ j, dp X O n h g r j * (ex x0 x1 X n h g r j / den x0 x1 X T n h g r)) / den x0 x1 X T n h g r := by
    unfold ds; rw [Finset.sum_div]; exact Finset.sum_congr rfl fun j _ => by field_simp
  unfold DT
  rw [← hp, hs, hd]; ring

/-- The reference's gradient of a sink, -/
theorem sink_grad (H : Reals x0 x1 x2 X T O) (h : Fin 2) (g : Fin 8) :
    val_main_v139 (F := Ideal) x0 x1 x2 (ix2 h g) = ((dSink X T O h g : ℝ) : EReal) := by
  have e1 : val_main_v117 (F := Ideal) x0 x1 x2 (ix6 0 0 h g 0 0) = ((dSink X T O h g : ℝ) : EReal) := by
    unfold val_main_v117 val_main_v116
    rw [cast_sinks, sum_windows]
    show Ideal.ofBits .f32 0x00000000#32 + _ = _
    rw [Ideal.ofBits_zero, zero_add]
    simp only [sinkrow H, sink_share, coe_sum]
    rfl
  have e2 : val_main_v130 (F := Ideal) x0 x1 x2 (ix6 0 0 h g 0 0) = 0 := by
    unfold val_main_v130 val_main_v129
    rw [cast_sinks, sum_windows]
    show Ideal.ofBits .f32 0x00000000#32 + _ = _
    rw [Ideal.ofBits_zero, zero_add]
    refine Finset.sum_eq_zero fun n _ => Finset.sum_eq_zero fun r _ => ?_
    rw [val_main_v128_apply, shiftGrad H]
    exact zero_mul _
  unfold val_main_v139
  rw [sum_units, val_main_v131_apply, e1, e2]
  show Ideal.ofBits .f32 0x00000000#32 + (_ + _) = _
  rw [Ideal.ofBits_zero, zero_add, add_zero]

/-- and the array of them. -/
theorem result_s (H : Reals x0 x1 x2 X T O) (l : Fin 128) :
    val_main_v170 (F := Ideal) x0 x1 x2 (ix2 0 l) = ((resS X T O l : ℝ) : EReal) := by
  unfold val_main_v170 val_main_v169 val_main_v168 val_main_v140 val_main_cst_27
  have hy := sink_grad H
  generalize val_main_v139 (F := Ideal) x0 x1 x2 = y at hy
  pointwise
  unfold resS
  by_cases hl : l.val < 16
  · rw [dif_pos hl, dif_pos hl]; exact hy _ _
  · rw [dif_neg hl, dif_neg hl, EReal.coe_zero]

end Cert.SwaRef

end
-- ==== Proof.SwaFrames.lean ====
module

public import proofs.«01_k».proof.Proof.SwaFrame
public import proofs.«01_k».proof.Proof.Gen.SwaReferenceIdeal.Run
public import proofs.«01_k».proof.SwaKernel
public import Idealize.ShloMosaic.PureOps.IdealRules
public import Idealize.ShloMosaic.Lib.Quiescent

@[expose] public section

noncomputable section

/-! The frames of the three attention programs, the replaced constant, and the kernel's results as the final arrays. -/

namespace Cert.Swa

open Idealize.ShloMosaic Idealize.ShloMosaic.TcCoe Idealize.ShloMosaic.Tactic Idealize.SL.Sem
open Cert.SwaKernelIdeal (nD τ sig)

/-- The word of a float kept for a named constant: the program before the constant was named. -/
abbrev words : Named Bits := ⟨fun _ _ {φ} bits => Scalar.ofBits φ bits⟩

set_option maxRecDepth 100000 in
/-- The frame of the printed kernel: the idealized one's, its named constant read as the word. -/
theorem frame_kernel [hSwaKernel : Cert.SwaKernel.Facts] (m : (ℓ : Loc Cert.SwaKernel.nD Cert.SwaKernel.τ Cert.SwaKernel.sig) → Buf (Elt Bits) ℓ) (g : Dev Cert.SwaKernel.nD → PrngReg) :
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2))
      ∧ r.2.sem = fun _ => 0) :=
  letI := words
  cast (by sl_kernel_rfl) (Cert.SwaKernelIdeal.Gen.frame (F := Bits) m g)

/-- The replaced constant: the named word is the mask's. -/
theorem preserves : IdealRules.named_const.Statement Cert.SwaKernelIdeal.κ "mask" .f32 0xF149F2CA#32 ⊥ :=
  IdealRules.named_const.statement _ _ _ _ _ rfl

/-- The reference's frame. -/
theorem frame_reference [Cert.SwaReferenceIdeal.Facts] (m : (ℓ : Loc Cert.SwaReferenceIdeal.nD Cert.SwaReferenceIdeal.τ Cert.SwaReferenceIdeal.sig) → Buf (Elt Ideal) ℓ) (g : Dev Cert.SwaReferenceIdeal.nD → PrngReg) :
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0) :=
  (θ_run _ _ _).mono (fun r h => ⟨fun c => (h c).2.2.2.2, sem_eq_zero_of_no_sems rfl _⟩) (Cert.SwaReferenceIdeal.Value.run (F := Ideal) m g)

open Cert.SwaKernelIdeal Cert.SwaKernelIdeal.Gen in
/-- The kernel's run: each result ends as what the points left in its window, the arguments unchanged. -/
theorem run_blocks (m : (ℓ : Loc nD τ sig) → Buf (Elt Ideal) ℓ) (g : Dev nD → PrngReg) :
    θ_run Cert.SwaKernelIdeal.defs (onTc (τ := τ) (Cert.SwaKernelIdeal.main (F := Ideal))) ⟨m, fun _ => 0, g⟩ fun r => ∀ c : Dev nD,
      r.2.mem ((c : Thread nD τ).loc main_v5_0) = (dats m 0 c).arrAt 7 cfg0.N
      ∧ r.2.mem ((c : Thread nD τ).loc main_v5_1) = (dats m 0 c).arrAt 8 cfg0.N
      ∧ r.2.mem ((c : Thread nD τ).loc main_v5_2) = (dats m 0 c).arrAt 9 cfg0.N
      ∧ r.2.mem ((c : Thread nD τ).loc main_v5_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h.1 c).1 7, (h.1 c).1 8, (h.1 c).1 9, (h.1 c).1 10, h.2.1 c⟩)
    (θ_run_and (run_main m g) (frame m g))

end Cert.Swa

end
-- ==== Proof.SwaClaim.lean ====
/- The windowed attention's backward kernel and the derivative of the reference's lines are one function over finite arguments. -/
module

public import proofs.«01_k».proof.Defs
public import proofs.«01_k».proof.Proof.SwaArrays
public import proofs.«01_k».proof.Proof.SwaRefOut
public import proofs.«01_k».proof.Proof.SwaFrames

@[expose] public section

set_option maxRecDepth 16384

noncomputable section

open Idealize.ShloMosaic Idealize.ShloMosaic.TcCoe Idealize.SL.Sem

namespace Cert.SwaClaim

open Cert.Lift Cert.Swa

/-- The precondition's own shape relations. -/
theorem preFacts : Cert.Pre_finite_swa.Facts where
  slices_S4096x4368_S4096x1280_0_3088 := by decide
  bcast_S_S4096x1280 := by decide
  reducesTo_S4096x1280_S_d0_1 := by decide
  h_S_ := by decide
  bcast_S_S16 := by decide
  reducesTo_S16_S_d0 := by decide
  slices_S4096x2048_S4096x1024_0_1024 := by decide
  bcast_S_S4096x1024 := by decide
  reducesTo_S4096x1024_S_d0_1 := by decide

instance : Cert.Pre_finite_swa.Facts := preFacts

/-- Arguments that meet the precondition hold real numbers. -/
theorem reals (x0 : FVec Ideal Cert.Pre_finite_swa.S4096x4368 .f32) (x1 : FVec Ideal Cert.Pre_finite_swa.S16 .f32)
    (x2 : FVec Ideal Cert.Pre_finite_swa.S4096x2048 .f32) (h : Cert.Pre_finite_swa.fn (F := Ideal) x0 x1 x2 = fun _ => 1#1) :
    ∃ (X : Fin 4096 → Fin 1280 → ℝ) (T : Fin 16 → ℝ) (O : Fin 4096 → Fin 1024 → ℝ), SwaRef.Reals x0 x1 x2 X T O := by
  have h0 := congrFun h ix0
  dsimp only [Cert.Pre_finite_swa.fn, andi] at h0
  obtain ⟨h01, h2⟩ := IntOp.andi_eq_one.1 h0
  obtain ⟨h0, h1⟩ := IntOp.andi_eq_one.1 h01
  refine ⟨fun r k => (x0 (ix2 r ⟨3088 + k.val, by omega⟩)).toReal, fun a => (x1 (ix1 a)).toReal,
    fun r k => (x2 (ix2 r ⟨1024 + k.val, by omega⟩)).toReal, ?_, ?_, ?_⟩
  · intro r k hk
    have := real_of_all _ _ _ _ _ _ _ h0 (ix2 r k)
    pointwise at this
    exact this
  · exact fun a => real_of_all _ _ _ _ _ _ _ h1 (ix1 a)
  · intro r k hk
    have := real_of_all _ _ _ _ _ _ _ h2 (ix2 r k)
    pointwise at this
    exact this

section Reference
open Cert.SwaReferenceIdeal Cert.SwaReferenceIdeal.Read

variable {x0 : (⟨S4096x4368, .f32⟩ : BufTy).Contents (Elt Ideal)} {x1 : (⟨S16, .f32⟩ : BufTy).Contents (Elt Ideal)}
  {x2 : (⟨S4096x2048, .f32⟩ : BufTy).Contents (Elt Ideal)}
  {X : Fin 4096 → Fin 1280 → ℝ} {T : Fin 16 → ℝ} {O : Fin 4096 → Fin 1024 → ℝ} (H : SwaRef.Reals x0 x1 x2 X T O)
include H

/-- The reference's gradient of the queries, -/
theorem ref_q : val_main_v165 (F := Ideal) x0 x1 x2 = fun j : S4096x1024.Idx => ((resQ X T O (j 0) (j 1) : ℝ) : EReal) :=
  funext fun j => (congrArg _ (eq_ix2 j)).trans (SwaRef.result_q H (j 0) (j 1))

/-- of the keys, -/
theorem ref_k : val_main_v166 (F := Ideal) x0 x1 x2 = fun j : S4096x128.Idx => ((resK X T O (j 0) (j 1) : ℝ) : EReal) :=
  funext fun j => (congrArg _ (eq_ix2 j)).trans (SwaRef.result_k H (j 0) (j 1))

/-- of the values, -/
theorem ref_v : val_main_v167 (F := Ideal) x0 x1 x2 = fun j : S4096x128.Idx => ((resV X T O (j 0) (j 1) : ℝ) : EReal) :=
  funext fun j => (congrArg _ (eq_ix2 j)).trans (SwaRef.result_v H (j 0) (j 1))

/-- and of the sinks. -/
theorem ref_s : val_main_v170 (F := Ideal) x0 x1 x2 = fun j : S1x128.Idx => ((resS X T O (j 1) : ℝ) : EReal) := by
  funext j
  have e : j = ix2 0 (j 1) := by rw [eq_ix2 j]; congr 1; exact Subsingleton.elim _ _
  exact (congrArg _ e).trans (SwaRef.result_s H (j 1))
end Reference

/-- From equal finite arguments both programs leave the same four arrays. -/
theorem algebraic : Cert.algebraic_SwaKernelIdeal_SwaReferenceIdeal_pre_finite_swa (hSwaKernelIdeal := Cert.SwaKernelIdeal.Gen.facts)
    (hSwaReferenceIdeal := Cert.SwaReferenceIdeal.Gen.facts) (hPre_finite_swa := preFacts) := by
  intro m ρ m' ρ' hpre hag
  refine ⟨_, _, _, _, Cert.Swa.run_blocks m ρ, (θ_run _ _ _).mono (fun r h c => ?_) (Cert.SwaReferenceIdeal.Value.run (F := Ideal) m' ρ')⟩
  obtain ⟨X, T, O, H⟩ := reals _ _ _ (hpre c)
  obtain ⟨a0, a1, a2⟩ := hag c
  obtain ⟨r0, r1, r2, r3, k0, k1, k2⟩ := h c
  have H' := H
  rw [← a0, ← a1, ← a2] at H'
  refine ⟨?_, ?_, ?_, ?_, k0, k1, k2⟩
  · exact ((r0.trans (Cert.SwaReferenceIdeal.Read.val_main_v165_eq _)).trans (ref_q H')).trans (SwaPoint.final_q m c H).symm
  · exact ((r1.trans (Cert.SwaReferenceIdeal.Read.val_main_v166_eq _)).trans (ref_k H')).trans (SwaPoint.final_k m c H).symm
  · exact ((r2.trans (Cert.SwaReferenceIdeal.Read.val_main_v167_eq _)).trans (ref_v H')).trans (SwaPoint.final_v m c H).symm
  · exact ((r3.trans (Cert.SwaReferenceIdeal.Read.val_main_v170_eq _)).trans (ref_s H')).trans (SwaPoint.final_s m c H).symm

end Cert.SwaClaim

end
-- ==== Proof.LnMath.lean ====
/- The gradient of a layer normalisation of one row of 2048 numbers, over the reals. -/
module

public import proofs.«01_k».proof.Proof.Lift
public import Idealize.ShloMosaic.Lib.Pipeline.ValueKit

@[expose] public section

noncomputable section

open Idealize.ShloMosaic

namespace Cert.LnMath

open Cert.Lift

/-- The value 2048 of a float word. -/
theorem ofBits_2048 : Ideal.ofBits .f32 0x45000000#32 = ((2048 : ℝ) : EReal) := by
  simp [Ideal.ofBits, Ideal.ieee, -EReal.coe_mul]; norm_num

/-- The value of the float word nearest the fourth root of two, the factor of the residual. -/
def alpha : ℝ := 9975792 * 2 ^ (-23 : ℤ)

/-- The float that both programs write for ALPHA is that number. -/
theorem ofBits_alpha : Ideal.ofBits .f32 0x3F9837F0#32 = (alpha : EReal) := by
  simp [Ideal.ofBits, Ideal.ieee, alpha, -EReal.coe_mul]

/-- The mean of a row. -/
def mu (r : Fin 2048 → ℝ) : ℝ := (∑ k, r k) / 2048

/-- The mean of the squares of the centred row, plus the constant of the norm. -/
def va (r : Fin 2048 → ℝ) : ℝ := (∑ k, (r k - mu r) * (r k - mu r)) / 2048 + eps

/-- The variance with the small constant added is positive. -/
theorem va_pos (r : Fin 2048 → ℝ) : 0 < va r :=
  add_pos_of_nonneg_of_pos (div_nonneg (Finset.sum_nonneg fun k _ => mul_self_nonneg _) (by norm_num)) eps_pos

/-- The factor a row is scaled by. -/
def rs (r : Fin 2048 → ℝ) : ℝ := (Real.sqrt (va r))⁻¹

/-- The normalised row. -/
def hat (r : Fin 2048 → ℝ) (l : Fin 2048) : ℝ := (r l - mu r) * rs r

/-- A row's sum over 2048 is its mean. -/
theorem mu_fold (r : Fin 2048 → ℝ) : (∑ k, r k) / 2048 = mu r := rfl

/-- The mean square distance from the mean, with the small constant, is the variance, -/
theorem va_fold (r : Fin 2048 → ℝ) : (∑ k, (r k - mu r) * (r k - mu r)) / 2048 + eps = va r := rfl

/-- also where the mean is written out. -/
theorem va_raw (r : Fin 2048 → ℝ) : (∑ k, (r k - (∑ j, r j) / 2048) * (r k - (∑ j, r j) / 2048)) / 2048 + eps = va r := rfl

/-- The inverse root of the variance. -/
theorem rs_fold (r : Fin 2048 → ℝ) : (Real.sqrt (va r))⁻¹ = rs r := rfl

/-- The distance from the mean times the inverse root is the normalised row. -/
theorem hat_fold (r : Fin 2048 → ℝ) (l : Fin 2048) : (r l - mu r) * rs r = hat r l := rfl

/-- The inverse root squared is the inverse of the variance. -/
theorem rs_mul_rs (r : Fin 2048 → ℝ) : rs r * rs r = 1 / va r := by
  unfold rs
  rw [← mul_inv, Real.mul_self_sqrt (va_pos r).le, one_div]

/-- The centred row sums to zero. -/
theorem sum_centred (r : Fin 2048 → ℝ) : ∑ k, (r k - mu r) = 0 := by
  rw [Finset.sum_sub_distrib, Finset.sum_const, Finset.card_univ, Fintype.card_fin, nsmul_eq_mul]
  unfold mu
  push_cast
  ring

/-- The gradient with respect to the row, `y` being the cotangent times the weight. -/
def dR (r y : Fin 2048 → ℝ) (l : Fin 2048) : ℝ :=
  rs r * (y l - (∑ k, y k) / 2048 - hat r l * ((∑ k, y k * hat r k) / 2048))

/-- The derivative as the chain rule writes it, through the variance and both uses of the mean, is `dR`. -/
theorem dR_chain (r y : Fin 2048 → ℝ) (l : Fin 2048) :
    y l * rs r + (∑ i, (r i - mu r) * y i) * (-(1 / 2) * (rs r / va r)) / 2048 * (2 * (r l - mu r))
      + (∑ i, -(y i * rs r) + ∑ i, -((∑ i, (r i - mu r) * y i) * (-(1 / 2) * (rs r / va r)) / 2048 * (2 * (r i - mu r)))) / 2048
      = dR r y l := by
  have h : rs r / va r = rs r * (rs r * rs r) := by rw [rs_mul_rs, mul_one_div]
  have h1 : ∑ i, -(y i * rs r) = -((∑ i, y i) * rs r) := by rw [Finset.sum_neg_distrib, Finset.sum_mul]
  have h2 : ∀ a : ℝ, ∑ i, -(a * (2 * (r i - mu r))) = 0 := fun a => by
    rw [Finset.sum_neg_distrib, ← Finset.mul_sum, ← Finset.mul_sum, sum_centred, mul_zero, mul_zero, neg_zero]
  have h3 : ∑ k, y k * hat r k = (∑ i, (r i - mu r) * y i) * rs r := by
    rw [Finset.sum_mul]
    exact Finset.sum_congr rfl fun k _ => by unfold hat; ring
  rw [h2, dR, h3, h, h1]
  unfold hat
  ring

/-- The difference of the layer norm's output to the target, with weight `w` and bias `b`. -/
def err (r t w b : Fin 2048 → ℝ) (l : Fin 2048) : ℝ := hat r l * w l + b l - t l

/-- A row's part of the loss: half the mean of the squared differences. -/
def rowLoss (r t w b : Fin 2048 → ℝ) : ℝ := 1 / 2 * ((∑ l, err r t w b l * err r t w b l) / 2048)

/-- The loss's gradient with respect to the row. -/
def dRow (r t w b : Fin 2048 → ℝ) : Fin 2048 → ℝ := dR r fun l => err r t w b l * (1 / 2048) * w l

/-- A sum over the 256 rows of a block, in four runs of 64. -/
theorem four_runs (f : Fin 256 → ℝ) : ∑ r, f r = ∑ r : Fin 64, f ⟨r, by omega⟩ + ∑ r : Fin 64, f ⟨64 + r, by omega⟩
    + ∑ r : Fin 64, f ⟨128 + r, by omega⟩ + ∑ r : Fin 64, f ⟨192 + r, by omega⟩ := by
  have h : ∑ r, f r = ∑ a : Fin 4, ∑ r : Fin 64, f ⟨a.val * 64 + r.val, by omega⟩ :=
    (Fin.sum_mul_add_congr (fun a r h => rfl) (by norm_num)).symm
  rw [h, Fin.sum_univ_four]
  simp

end Cert.LnMath

end
-- ==== Proof.Ln1Point.lean ====
/- What one grid point of the first layer norm's backward kernel leaves in its output blocks, over blocks of reals. -/
module

public import proofs.«01_k».proof.Proof.Gen.Ln1KernelIdeal.Value
public import proofs.«01_k».proof.Proof.LnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ln1Point

open Cert.Ln1KernelIdeal Cert.Ln1KernelIdeal.Gen
open Cert.Lift Cert.LnMath

/-- A block's part of the weight's gradient: the sum over its rows, -/
def gPart (E D R : Fin 256 → Fin 2048 → ℝ) (l : Fin 2048) : ℝ := ∑ r, (alpha * D r l + E r l) * hat (R r) l

/-- and of the bias's. -/
def bPart (E D : Fin 256 → Fin 2048 → ℝ) (l : Fin 2048) : ℝ := ∑ r, (alpha * D r l + E r l)

/-- What a block of the row's gradient holds. -/
def out (E D R : Fin 256 → Fin 2048 → ℝ) (W : Fin 2048 → ℝ) (y : S256x2048.Idx) : ℝ :=
  dR (R (y 0)) (fun l => (alpha * D (y 0) l + E (y 0) l) * W l) (y 1)

/-- Two rows with the same number are the same row. -/
theorem row_at {a : Fin 256} {n : ℕ} (h : a.val = n) {hn : n < 256} : a = ⟨n, hn⟩ := Fin.ext h

variable (c : Dev nD) (t : Fin cfg0.N) {x0 x1 x2 : FVec Ideal S256x2048 .f32} {x3 : FVec Ideal S1x2048 .f32}
  {E D R : Fin 256 → Fin 2048 → ℝ} {W : Fin 2048 → ℝ}
  (hE : ∀ r l, x0 (ix2 r l) = ((E r l : ℝ) : EReal)) (hD : ∀ r l, x1 (ix2 r l) = ((D r l : ℝ) : EReal))
  (hR : ∀ r l, x2 (ix2 r l) = ((R r l : ℝ) : EReal)) (hW : ∀ l, x3 (ix2 0 l) = ((W l : ℝ) : EReal))
include hE hD hR hW

set_option maxHeartbeats 3200000 in
/-- At every point the block of the row's gradient, and its copy, is the real function's. -/
theorem rows (y : S256x2048.Idx) :
    (∀ h0 : t.val % 16 = 0,
      (out0_A_4 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        ((hcond0_0 t).mpr h0) x0 x1 x2 x3) y = ((out E D R W y : ℝ) : EReal)
      ∧ (out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        ((hcond0_0 t).mpr h0) x0 x1 x2 x3) y = ((out E D R W y : ℝ) : EReal))
    ∧ ∀ (h0 : ¬t.val % 16 = 0) (xg xb : FVec Ideal S1x2048 .f32),
      (out0_B_4 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        (fun h => h0 ((hcond0_0 t).mp h)) x0 x1 x2 x3 xg xb) y = ((out E D R W y : ℝ) : EReal)
      ∧ (out0_B_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        (fun h => h0 ((hcond0_0 t).mp h)) x0 x1 x2 x3 xg xb) y = ((out E D R W y : ℝ) : EReal) := by
  refine ⟨fun h0 => ⟨?_, ?_⟩, fun h0 xg xb => ⟨?_, ?_⟩⟩ <;>
  · frame_out
    canon_tiles p hp
    all_goals (idx_vars p; open_payloads; pointwise)
    all_goals
      simp (disch := first | exact (va_pos _).ne' | exact va_pos _ | norm_num) only [hE, hD, hR, hW,
        ofBits_2048, ofBits_eps, ofBits_alpha, ← EReal.coe_mul, ← EReal.coe_add, ← EReal.coe_sub, ← EReal.coe_zero, coe_sum, div_real,
        rsqrt_real, va_raw, rs_fold, EReal.coe_eq_coe_iff]
      obtain rfl : y 1 = p1 := Fin.ext (by omega)
      unfold out
      rw [row_at hp0]
      rfl

set_option maxHeartbeats 3200000 in
/-- The first point leaves the block's parts of the weight's and of the bias's gradient; a later one adds them to what the point before left. -/
theorem sums (l : Fin 2048) :
    (∀ h0 : t.val % 16 = 0,
      (out0_A_6 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        ((hcond0_0 t).mpr h0) x0 x1 x2 x3) (ix2 0 l) = ((gPart E D R l : ℝ) : EReal)
      ∧ (out0_A_7 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        ((hcond0_0 t).mpr h0) x0 x1 x2 x3) (ix2 0 l) = ((bPart E D l : ℝ) : EReal))
    ∧ ∀ (h0 : ¬t.val % 16 = 0) (xg xb : FVec Ideal S1x2048 .f32),
      (out0_B_6 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        (fun h => h0 ((hcond0_0 t).mp h)) x0 x1 x2 x3 xg xb) (ix2 0 l) = xg (ix2 0 l) + ((gPart E D R l : ℝ) : EReal)
      ∧ (out0_B_7 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t)
        (fun h => h0 ((hcond0_0 t).mp h)) x0 x1 x2 x3 xg xb) (ix2 0 l) = xb (ix2 0 l) + ((bPart E D l : ℝ) : EReal) := by
  refine ⟨fun h0 => ⟨?_, ?_⟩, fun h0 xg xb => ⟨?_, ?_⟩⟩ <;>
  · frame_out
    open_payloads
    pointwise
    simp (disch := first | exact (va_pos _).ne' | exact va_pos _ | norm_num) only [hE, hD, hR, hW,
      ofBits_2048, ofBits_eps, ofBits_alpha, ← EReal.coe_mul, ← EReal.coe_add, ← EReal.coe_sub, ← EReal.coe_zero, coe_sum, div_real,
      rsqrt_real, va_raw, rs_fold]
    first | unfold gPart | unfold bPart
    simp only [four_runs, EReal.coe_add, add_assoc]
    try rfl

end Cert.Ln1Point

end
-- ==== Proof.Ln1Ref.lean ====
/- The reference's gradients of the first layer norm, read at an element: over finite arguments they are the real functions of `LnMath`. -/
module

public import proofs.«01_k».proof.Proof.Gen.Ln1ReferenceIdeal.Read
public import proofs.«01_k».proof.Proof.LnMath
public import Idealize.ShloMosaic.Lib.Pipeline.ValueKit

@[expose] public section

set_option maxRecDepth 16384

noncomputable section

open Idealize.ShloMosaic Idealize.ShloMosaic.TcCoe Idealize.SL.Sem

namespace Cert.Ln1Ref

open Cert.Ln1ReferenceIdeal Cert.Ln1ReferenceIdeal.Gen Cert.Ln1ReferenceIdeal.Read
open Cert.Lift Cert.LnMath

variable (x0 x1 : FVec Ideal S4096x2048 .f32) (x2 x3 : FVec Ideal S1x2048 .f32) (x4 x5 : FVec Ideal S4096x2048 .f32)
  (X M D E : Fin 4096 → Fin 2048 → ℝ) (W : Fin 2048 → ℝ)

/-- The arguments are these real arrays; of the bias nothing is asked. -/
structure Reals : Prop where
  x : ∀ t l, x0 (ix2 t l) = ((X t l : ℝ) : EReal)
  m : ∀ t l, x1 (ix2 t l) = ((M t l : ℝ) : EReal)
  w : ∀ l, x2 (ix2 0 l) = ((W l : ℝ) : EReal)
  d : ∀ t l, x4 (ix2 t l) = ((D t l : ℝ) : EReal)
  e : ∀ t l, x5 (ix2 t l) = ((E t l : ℝ) : EReal)

/-- The row that is normalised. -/
def rowIn (X M : Fin 4096 → Fin 2048 → ℝ) (t : Fin 4096) (l : Fin 2048) : ℝ := alpha * X t l + M t l

/-- The cotangent of the normalised row. -/
def ct (D E : Fin 4096 → Fin 2048 → ℝ) (t : Fin 4096) (l : Fin 2048) : ℝ := alpha * D t l + E t l

variable {x0 x1 x2 x3 x4 x5 X M D E W} (H : Reals x0 x1 x2 x4 x5 X M D E W)
include H

/-- The reference's residual is a real number. -/
theorem row_real (t : Fin 4096) (l : Fin 2048) : val_main_v2 (F := Ideal) x0 x1 (ix2 t l) = ((rowIn X M t l : ℝ) : EReal) := by
  pointwise [val_main_v2, val_main_v1, val_main_v0, val_main_cst]
  simp only [H.x, H.m, ofBits_alpha, ← EReal.coe_mul, ← EReal.coe_add]; rfl

/-- The reference's cotangent is a real number, -/
theorem ct_real' (t : Fin 4096) (l : Fin 2048) : val_main_v38 (F := Ideal) x4 x5 (ix2 t l) = ((ct D E t l : ℝ) : EReal) := by
  pointwise [val_main_v38, val_main_v37, val_main_v36, val_main_cst_8]
  simp only [H.d, H.e, ofBits_alpha, ← EReal.coe_mul, ← EReal.coe_add, EReal.coe_eq_coe_iff]; unfold ct; ring

/-- also after its cast. -/
theorem ct_real (t : Fin 4096) (l : Fin 2048) : val_main_v39 (F := Ideal) x4 x5 (ix2 t l) = ((ct D E t l : ℝ) : EReal) := by
  pointwise [val_main_v39]
  exact ct_real' H t l

/-- The reference's mean of a row. -/
theorem mu_real (t : Fin 4096) : val_main_v8 (F := Ideal) x0 x1 (ix2 t 0) = ((mu (rowIn X M t) : ℝ) : EReal) := by
  pointwise [val_main_cst_0, val_main_v5, val_main_v6, val_main_cst_1, val_main_v7, val_main_v8]
  simp (disch := norm_num) only [row_real H, ofBits_2048, coe_sum, div_real, mu_fold]

/-- The reference's variance of a row, with the small constant added. -/
theorem va_real (t : Fin 4096) : val_main_v21 (F := Ideal) x0 x1 (ix2 t 0) = ((va (rowIn X M t) : ℝ) : EReal) := by
  pointwise [val_main_v9, val_main_v10, val_main_v11, val_main_cst_3, val_main_v14, val_main_v15, val_main_cst_4, val_main_v16, val_main_v17, val_main_cst_5, val_main_v20, val_main_v21]
  simp (disch := norm_num) only [row_real H, mu_real H, ofBits_2048, ofBits_eps, ← EReal.coe_sub, ← EReal.coe_mul, ← EReal.coe_add, coe_sum, div_real, va_fold]

/-- The gradient with respect to the normalised row. -/
theorem dr_real (t : Fin 4096) (l : Fin 2048) :
    val_main_v72 (F := Ideal) x0 x1 x2 x4 x5 (ix2 t l) = ((dR (rowIn X M t) (fun l => ct D E t l * W l) l : ℝ) : EReal) := by
  pointwise [val_main_v3, val_main_v12, val_main_v13, val_main_cst_2, val_main_v9, val_main_v10, val_main_v18, val_main_v19, val_main_v22, val_main_v23, val_main_cst_6, val_main_v24, val_main_v25, val_main_v26, val_main_v27, val_main_v28, val_main_v29, val_main_v46, val_main_v47, val_main_v49, val_main_cst_13, val_main_v50, val_main_v51, val_main_v52, val_main_v53, val_main_v54, val_main_v55, val_main_cst_14, val_main_v56, val_main_v57, val_main_cst_15, val_main_v58, val_main_v59, val_main_cst_16, val_main_v60, val_main_v61, val_main_v62, val_main_v63, val_main_cst_17, val_main_v64, val_main_v65, val_main_v66, val_main_v67, val_main_cst_18, val_main_v68, val_main_v69, val_main_cst_19, val_main_v70, val_main_v71, val_main_v72]
  simp (disch := first | exact (va_pos _).ne' | exact va_pos _ | norm_num) only [row_real H, mu_real H, va_real H, ct_real H, H.w, ofBits_2048, ofBits_two, ofBits_neg_half, Finset.univ_unique, Finset.sum_singleton, Fin.default_eq_zero, Fin.isValue, ← EReal.coe_sub, ← EReal.coe_mul, ← EReal.coe_add,
    ← EReal.coe_neg, ← EReal.coe_one, ← EReal.coe_zero, coe_sum, div_real, rsqrt_real, rs_fold, EReal.coe_eq_coe_iff]
  exact dR_chain _ (fun l => ct D E t l * W l) _

/-- The gradient with respect to the weight: the sum over the rows. -/
theorem dg_real (l : Fin 2048) : val_main_v74 (F := Ideal) x0 x1 x4 x5 (ix2 0 l) = ((∑ t, ct D E t l * hat (rowIn X M t) l : ℝ) : EReal) := by
  pointwise [val_main_v18, val_main_v19, val_main_v22, val_main_v23, val_main_cst_6, val_main_v24, val_main_v25, val_main_v26, val_main_v27, val_main_v43, val_main_cst_11, val_main_v44, val_main_v45, val_main_cst_12, val_main_v48, val_main_v74]
  simp (disch := first | exact (va_pos _).ne' | exact va_pos _ | norm_num) only [row_real H, mu_real H, va_real H, ct_real H, Finset.univ_unique, Finset.sum_singleton, Fin.default_eq_zero, Fin.isValue, ← EReal.coe_sub, ← EReal.coe_mul, ← EReal.coe_add,
    ← EReal.coe_zero, coe_sum, rsqrt_real, rs_fold, hat_fold, EReal.coe_eq_coe_iff]
  exact Finset.sum_congr rfl fun t _ => by ring

/-- The gradient with respect to the bias. -/
theorem db_real (l : Fin 2048) : val_main_v73 (F := Ideal) x4 x5 (ix2 0 l) = ((∑ t, ct D E t l : ℝ) : EReal) := by
  pointwise [val_main_cst_9, val_main_v40, val_main_v41, val_main_cst_10, val_main_v42, val_main_v73]
  simp only [ct_real' H, Finset.univ_unique, Finset.sum_singleton, Fin.default_eq_zero, Fin.isValue, coe_sum, EReal.coe_eq_coe_iff]

end Cert.Ln1Ref

end
-- ==== Proof.Ln1Arrays.lean ====
/- What the first layer norm's backward kernel is handed, and what it leaves in its four result arrays, over arguments that hold real numbers. -/
module

public import proofs.«01_k».proof.Proof.Ln1Point
public import proofs.«01_k».proof.Proof.Ln1Ref
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ln1Arrays

open Cert.Ln1KernelIdeal Cert.Ln1KernelIdeal.Gen
open Cert.Lift Cert.LnMath Cert.Ln1Ref Cert.Ln1Point

/-- Every window's block at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

/-- The row of the whole array that row `r` of block `t` is. -/
def row (t : Fin cfg0.N) (r : Fin 256) : Fin 4096 := ⟨t.val * 256 + r.val, by have := t.isLt.trans_eq N_0; omega⟩

variable (m : (ℓ : Loc nD τ sig) → Buf (Elt Ideal) ℓ) (c : Dev nD) {X M D E : Fin 4096 → Fin 2048 → ℝ} {W : Fin 2048 → ℝ}
  (H : Ln1Ref.Reals (m ((c : Thread nD τ).loc main_arg0)) (m ((c : Thread nD τ).loc main_arg1)) (m ((c : Thread nD τ).loc main_arg2))
    (m ((c : Thread nD τ).loc main_arg4)) (m ((c : Thread nD τ).loc main_arg5)) X M D E W)
include H

/-- The kernel is handed the residual ALPHA x + mix. -/
theorem entry_r (r : Fin 4096) (l : Fin 2048) : V m c main_v2 (ix2 r l) = ((rowIn X M r l : ℝ) : EReal) := by
  entry_read
  pointwise
  simp only [H.x, H.m, ofBits_alpha, ← EReal.coe_mul, ← EReal.coe_add]
  rfl

/-- Window 0 reads the rows of the block's part of the first cotangent. -/
theorem block_e (t : Fin cfg0.N) (r : Fin 256) (l : Fin 2048) : iblk m c 0 t (ix2 r l) = ((E (row t r) l : ℝ) : EReal) := by
  rw [← H.e]; blk_ext [iblk, V, row, idx t]

/-- Window 1 reads those of the second cotangent. -/
theorem block_d (t : Fin cfg0.N) (r : Fin 256) (l : Fin 2048) : iblk m c 1 t (ix2 r l) = ((D (row t r) l : ℝ) : EReal) := by
  rw [← H.d]; blk_ext [iblk, V, row, idx t]

/-- Window 2 reads those of the residual. -/
theorem block_r (t : Fin cfg0.N) (r : Fin 256) (l : Fin 2048) : iblk m c 2 t (ix2 r l) = ((rowIn X M (row t r) l : ℝ) : EReal) := by
  rw [← entry_r m c H]; blk_ext [iblk, row, idx t]

/-- Window 3 reads the whole weight. -/
theorem block_w (t : Fin cfg0.N) (l : Fin 2048) : iblk m c 3 t (ix2 0 l) = ((W l : ℝ) : EReal) := by
  rw [← H.w]; blk_ext [iblk, V, idx t]

/-- The gradient of the normalised row, as an array. -/
def rowGrad (X M D E : Fin 4096 → Fin 2048 → ℝ) (W : Fin 2048 → ℝ) (j : S4096x2048.Idx) : EReal :=
  ((dR (rowIn X M (j 0)) (fun l => ct D E (j 0) l * W l) (j 1) : ℝ) : EReal)

/-- After a point the two row windows hold the block of the row's gradient. -/
theorem left_rows (t : Fin cfg0.N) (y : S256x2048.Idx) : (outsAt0 m c t.val t.isLt).1 y = rowGrad X M D E W (ix2 (row t (y 0)) (y 1))
    ∧ (outsAt0 m c t.val t.isLt).2.1 y = rowGrad X M D E W (ix2 (row t (y 0)) (y 1)) := by
  have h := rows c t (block_e m c H t) (block_d m c H t) (block_r m c H t) (block_w m c H t) y
  by_cases h0 : t.val % 16 = 0
  · rw [outsAt0_A m c t h0]; dsimp only; exact h.1 h0
  · rw [outsAt0_B m c t h0]; dsimp only; exact h.2 h0 _ _

/-- The first result array is the gradient of the residual, -/
theorem final_4 : (dats m 0 c).arrAt 4 cfg0.N = rowGrad X M D E W := by
  refine (dats m 0 c).arrAt_eq_of_covers 4 _ (by decide +kernel) fun t hf y => ?_
  blk_simp; rw [after0_4]
  refine (left_rows m c H t y).1.trans ?_
  blk_ext [row, idx t]

/-- and so is the second, its copy in bfloat16. -/
theorem final_5 : (dats m 0 c).arrAt 5 cfg0.N = rowGrad X M D E W := by
  refine (dats m 0 c).arrAt_eq_of_covers 5 _ (by decide +kernel) fun t hf y => ?_
  blk_simp; rw [after0_5]
  refine (left_rows m c H t y).2.trans ?_
  blk_ext [row, idx t]

omit H in
/-- An index into an array with one row is its column's. -/
theorem one_row (j : S1x2048.Idx) : j = ix2 0 (j 1) := by rw [eq_ix2 j]; congr 1; exact Subsingleton.elim _ _

/-- The weight's gradient is the sum over every row, -/
theorem final_6 (j : S1x2048.Idx) : (dats m 0 c).arrAt 6 cfg0.N j = ((∑ t, ct D E t (j 1) * hat (rowIn X M t) (j 1) : ℝ) : EReal) := by
  revert j
  refine fun j => congrFun ((dats m 0 c).arrAt_eq_of_after_last 6 t0_15 (by decide +kernel) (fun j => ((∑ t, ct D E t (j 1) * hat (rowIn X M t) (j 1) : ℝ) : EReal)) fun j => ?_) j
  blk_simp
  rw [after0_6]
  refine (Pipeline.eq_sum_fin_of_reset_step_apply_last (fun n h => (outsAt0 m c n h).2.2.1) 16 (fun _ => 0)
    (fun t j => ((gPart (fun r => E (row t r)) (fun r => D (row t r)) (fun r => rowIn X M (row t r)) (j 1) : ℝ) : EReal))
    (fun t h j => ?_) (fun t h j => ?_) (le_of_eq N_0) t0_15 rfl j).trans ?_
  · rw [outsAt0_A m c t h, one_row j, zero_add]
    dsimp only
    exact ((sums c t (block_e m c H t) (block_d m c H t) (block_r m c H t) (block_w m c H t) (j 1)).1 h).1
  · rw [outsAt0_B m c t h, one_row j]
    dsimp only
    exact ((sums c t (block_e m c H t) (block_d m c H t) (block_r m c H t) (block_w m c H t) (j 1)).2 h _ _).1
  · rw [zero_add, coe_sum]
    exact congrArg _ (Fin.sum_mul_add_congr (fun _ _ _ => rfl) (by rw [show cfg0.N = 16 from N_0]))

/-- and the bias's. -/
theorem final_7 (j : S1x2048.Idx) : (dats m 0 c).arrAt 7 cfg0.N j = ((∑ t, ct D E t (j 1) : ℝ) : EReal) := by
  revert j
  refine fun j => congrFun ((dats m 0 c).arrAt_eq_of_after_last 7 t0_15 (by decide +kernel) (fun j => ((∑ t, ct D E t (j 1) : ℝ) : EReal)) fun j => ?_) j
  blk_simp
  rw [after0_7]
  refine (Pipeline.eq_sum_fin_of_reset_step_apply_last (fun n h => (outsAt0 m c n h).2.2.2) 16 (fun _ => 0)
    (fun t j => ((bPart (fun r => E (row t r)) (fun r => D (row t r)) (j 1) : ℝ) : EReal))
    (fun t h j => ?_) (fun t h j => ?_) (le_of_eq N_0) t0_15 rfl j).trans ?_
  · rw [outsAt0_A m c t h, one_row j, zero_add]
    dsimp only
    exact ((sums c t (block_e m c H t) (block_d m c H t) (block_r m c H t) (block_w m c H t) (j 1)).1 h).2
  · rw [outsAt0_B m c t h, one_row j]
    dsimp only
    exact ((sums c t (block_e m c H t) (block_d m c H t) (block_r m c H t) (block_w m c H t) (j 1)).2 h _ _).2
  · rw [zero_add, coe_sum]
    exact congrArg _ (Fin.sum_mul_add_congr (fun _ _ _ => rfl) (by rw [show cfg0.N = 16 from N_0]))

end Cert.Ln1Arrays

end
-- ==== Proof.Ln1Claim.lean ====
/- The first layer norm's backward kernel and the derivative of the reference's lines are one function over finite arguments. -/
module

public import proofs.«01_k».proof.Defs
public import proofs.«01_k».proof.Proof.Ln1Arrays
public import Idealize.ShloMosaic.Lib.Quiescent

@[expose] public section

set_option maxRecDepth 16384

noncomputable section

open Idealize.ShloMosaic Idealize.ShloMosaic.TcCoe Idealize.SL.Sem

namespace Cert.Ln1Claim

open Cert.Lift Cert.LnMath Cert.Ln1Ref Cert.Ln1Arrays

/-- The precondition's own shape relations. -/
theorem preFacts : Cert.Pre_finite_ln1.Facts where
  bcast_S_S4096x2048 := by decide
  reducesTo_S4096x2048_S_d0_1 := by decide
  h_S_ := by decide
  bcast_S_S1x2048 := by decide
  reducesTo_S1x2048_S_d0_1 := by decide

instance : Cert.Pre_finite_ln1.Facts := preFacts

/-- Arguments that meet the precondition hold real numbers. -/
theorem reals (x0 x1 : FVec Ideal Cert.Pre_finite_ln1.S4096x2048 .f32) (x2 x3 : FVec Ideal Cert.Pre_finite_ln1.S1x2048 .f32)
    (x4 x5 : FVec Ideal Cert.Pre_finite_ln1.S4096x2048 .f32) (h : Cert.Pre_finite_ln1.fn (F := Ideal) x0 x1 x2 x3 x4 x5 = fun _ => 1#1) :
    ∃ (X M D E : Fin 4096 → Fin 2048 → ℝ) (W : Fin 2048 → ℝ), Ln1Ref.Reals x0 x1 x2 x4 x5 X M D E W := by
  have h0 := congrFun h ix0
  dsimp only [Cert.Pre_finite_ln1.fn, Cert.Pre_finite_ln1.fn_part1, andi] at h0
  obtain ⟨h0124, h5⟩ := IntOp.andi_eq_one.1 h0
  obtain ⟨h012, h4⟩ := IntOp.andi_eq_one.1 h0124
  obtain ⟨h01, h2⟩ := IntOp.andi_eq_one.1 h012
  obtain ⟨h0, h1⟩ := IntOp.andi_eq_one.1 h01
  exact ⟨fun t l => (x0 (ix2 t l)).toReal, fun t l => (x1 (ix2 t l)).toReal, fun t l => (x4 (ix2 t l)).toReal, fun t l => (x5 (ix2 t l)).toReal,
    fun l => (x2 (ix2 0 l)).toReal, fun t l => real_of_all _ _ _ _ _ _ _ h0 (ix2 t l), fun t l => real_of_all _ _ _ _ _ _ _ h1 (ix2 t l),
    fun l => real_of_all _ _ _ _ _ _ _ h2 (ix2 0 l), fun t l => real_of_all _ _ _ _ _ _ _ h4 (ix2 t l), fun t l => real_of_all _ _ _ _ _ _ _ h5 (ix2 t l)⟩

/-- The reference terminates and leaves its arguments as they were. -/
theorem frame_reference : Cert.quiescent_Ln1ReferenceIdeal (hLn1ReferenceIdeal := Cert.Ln1ReferenceIdeal.Gen.facts) := fun m ρ _ =>
  (θ_run _ _ _).mono (fun r h => ⟨fun c => (h c).2.2.2.2, sem_eq_zero_of_no_sems rfl _⟩) (Cert.Ln1ReferenceIdeal.Value.run (F := Ideal) m ρ)

/-- From equal finite arguments both programs leave the same four arrays. -/
theorem algebraic : Cert.algebraic_Ln1KernelIdeal_Ln1ReferenceIdeal_pre_finite_ln1 (hLn1KernelIdeal := Cert.Ln1KernelIdeal.Gen.facts)
    (hLn1ReferenceIdeal := Cert.Ln1ReferenceIdeal.Gen.facts) (hPre_finite_ln1 := preFacts) := by
  intro m ρ m' ρ' hpre hag
  refine ⟨_, _, _, _, Cert.Ln1KernelIdeal.Value.run_blocks m ρ, (θ_run _ _ _).mono (fun r h c => ?_) (Cert.Ln1ReferenceIdeal.Value.run (F := Ideal) m' ρ')⟩
  obtain ⟨X, M, D, E, W, H⟩ := reals _ _ _ _ _ _ (hpre c)
  obtain ⟨a0, a1, a2, a3, a4, a5⟩ := hag c
  obtain ⟨r0, r1, r2, r3, k⟩ := h c
  have H' := H
  rw [← a0, ← a1, ← a2, ← a4, ← a5] at H'
  refine ⟨?_, ?_, ?_, ?_, k⟩
  · refine ((r0.trans (Cert.Ln1ReferenceIdeal.Read.val_main_v72_eq _ _)).trans (funext fun j => ?_)).trans (final_4 m c H).symm
    exact (congrArg _ (eq_ix2 j)).trans (dr_real H' (j 0) (j 1))
  · refine ((r1.trans (Cert.Ln1ReferenceIdeal.Read.val_main_v75_eq _ _)).trans (funext fun j => ?_)).trans (final_5 m c H).symm
    exact (congrArg _ (eq_ix2 j)).trans (dr_real H' (j 0) (j 1))
  · refine (r2.trans (Cert.Ln1ReferenceIdeal.Read.val_main_v74_eq _ _ _ _)).trans (funext fun j => Eq.trans ?_ (final_6 m c H j).symm)
    exact (congrArg _ (one_row j)).trans (dg_real H' (j 1))
  · refine (r3.trans (Cert.Ln1ReferenceIdeal.Read.val_main_v73_eq _ _)).trans (funext fun j => Eq.trans ?_ (final_7 m c H j).symm)
    exact (congrArg _ (one_row j)).trans (db_real H' (j 1))

end Cert.Ln1Claim

end
-- ==== Proof.Ln2Point.lean ====
/- What one grid point of the loss kernel leaves in its output blocks, over blocks of reals. -/
module

public import proofs.«01_k».proof.Proof.Gen.Ln2KernelIdeal.Value
public import proofs.«01_k».proof.Proof.LnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ln2Point

open Cert.Ln2KernelIdeal Cert.Ln2KernelIdeal.Gen
open Cert.Lift Cert.LnMath

/-- The value 1 / 2048 of a float word. -/
theorem ofBits_share : Ideal.ofBits .f32 0x3A000000#32 = ((1 / 2048 : ℝ) : EReal) := by
  simp [Ideal.ofBits, Ideal.ieee, -EReal.coe_mul]; norm_num

/-- The rows a block normalises. -/
def rowIn (Q X : Fin 256 → Fin 2048 → ℝ) (r : Fin 256) (l : Fin 2048) : ℝ := alpha * X r l + Q r l

/-- A block's part of the weight's gradient: the sum over its rows, -/
def gPart (Q X T : Fin 256 → Fin 2048 → ℝ) (W B : Fin 2048 → ℝ) (l : Fin 2048) : ℝ :=
  ∑ r, err (rowIn Q X r) (T r) W B l * (1 / 2048) * hat (rowIn Q X r) l

/-- of the bias's, -/
def bPart (Q X T : Fin 256 → Fin 2048 → ℝ) (W B : Fin 2048 → ℝ) (l : Fin 2048) : ℝ := ∑ r, err (rowIn Q X r) (T r) W B l * (1 / 2048)

/-- and of the loss. -/
def lPart (Q X T : Fin 256 → Fin 2048 → ℝ) (W B : Fin 2048 → ℝ) : ℝ := ∑ r, rowLoss (rowIn Q X r) (T r) W B

/-- What a block of the row's gradient holds. -/
def out (Q X T : Fin 256 → Fin 2048 → ℝ) (W B : Fin 2048 → ℝ) (y : S256x2048.Idx) : ℝ := dRow (rowIn Q X (y 0)) (T (y 0)) W B (y 1)

/-- Two rows with the same number are the same row. -/
theorem row_at {a : Fin 256} {n : ℕ} (h : a.val = n) {hn : n < 256} : a = ⟨n, hn⟩ := Fin.ext h

variable (c : Dev nD) (t : Fin cfg0.N) {x0 x1 x2 : FVec Ideal S256x2048 .f32} {x3 x4 : FVec Ideal S1x2048 .f32}
  {Q X T : Fin 256 → Fin 2048 → ℝ} {W B : Fin 2048 → ℝ}
  (hQ : ∀ r l, x0 (ix2 r l) = ((Q r l : ℝ) : EReal)) (hX : ∀ r l, x1 (ix2 r l) = ((X r l : ℝ) : EReal))
  (hT : ∀ r l, x2 (ix2 r l) = ((T r l : ℝ) : EReal)) (hW : ∀ l, x3 (ix2 0 l) = ((W l : ℝ) : EReal)) (hB : ∀ l, x4 (ix2 0 l) = ((B l : ℝ) : EReal))
include hQ hX hT hW hB

set_option maxHeartbeats 3200000 in
/-- At every point the block of the row's gradient, and its copy, is the real function's. -/
theorem rows (y : S256x2048.Idx) :
    (∀ h0 : t.val % 16 = 0,
      (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        ((hcond0_0 t).mpr h0) x0 x1 x2 x3 x4) y = ((out Q X T W B y : ℝ) : EReal)
      ∧ (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        ((hcond0_0 t).mpr h0) x0 x1 x2 x3 x4) y = ((out Q X T W B y : ℝ) : EReal))
    ∧ ∀ (h0 : ¬t.val % 16 = 0) (xg xb : FVec Ideal S1x2048 .f32) (xl : FVec Ideal S1x128 .f32),
      (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (fun h => h0 ((hcond0_0 t).mp h)) x0 x1 x2 x3 x4 xg xb xl) y = ((out Q X T W B y : ℝ) : EReal)
      ∧ (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (fun h => h0 ((hcond0_0 t).mp h)) x0 x1 x2 x3 x4 xg xb xl) y = ((out Q X T W B y : ℝ) : EReal) := by
  refine ⟨fun h0 => ⟨?_, ?_⟩, fun h0 xg xb xl => ⟨?_, ?_⟩⟩ <;>
  · frame_out
    canon_tiles p hp
    all_goals (idx_vars p; open_payloads; pointwise)
    all_goals
      simp (disch := first | exact (va_pos _).ne' | exact va_pos _ | norm_num) only [hQ, hX, hT, hW, hB,
        ofBits_2048, ofBits_eps, ofBits_alpha, ofBits_share, ← EReal.coe_mul, ← EReal.coe_add, ← EReal.coe_sub, ← EReal.coe_zero, coe_sum, div_real,
        rsqrt_real, va_raw, rs_fold, EReal.coe_eq_coe_iff]
      obtain rfl : y 1 = p1 := Fin.ext (by omega)
      unfold out
      rw [row_at hp0]
      rfl

set_option maxHeartbeats 3200000 in
/-- The first point leaves the block's parts of the two gradients; a later one adds them to what the point before left. -/
theorem sums (l : Fin 2048) :
    (∀ h0 : t.val % 16 = 0,
      (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        ((hcond0_0 t).mpr h0) x0 x1 x2 x3 x4) (ix2 0 l) = ((gPart Q X T W B l : ℝ) : EReal)
      ∧ (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        ((hcond0_0 t).mpr h0) x0 x1 x2 x3 x4) (ix2 0 l) = ((bPart Q X T W B l : ℝ) : EReal))
    ∧ ∀ (h0 : ¬t.val % 16 = 0) (xg xb : FVec Ideal S1x2048 .f32) (xl : FVec Ideal S1x128 .f32),
      (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (fun h => h0 ((hcond0_0 t).mp h)) x0 x1 x2 x3 x4 xg xb xl) (ix2 0 l) = xg (ix2 0 l) + ((gPart Q X T W B l : ℝ) : EReal)
      ∧ (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (fun h => h0 ((hcond0_0 t).mp h)) x0 x1 x2 x3 x4 xg xb xl) (ix2 0 l) = xb (ix2 0 l) + ((bPart Q X T W B l : ℝ) : EReal) := by
  refine ⟨fun h0 => ⟨?_, ?_⟩, fun h0 xg xb xl => ⟨?_, ?_⟩⟩ <;>
  · frame_out
    open_payloads
    pointwise
    simp (disch := first | exact (va_pos _).ne' | exact va_pos _ | norm_num) only [hQ, hX, hT, hW, hB,
      ofBits_2048, ofBits_eps, ofBits_alpha, ofBits_share, ← EReal.coe_mul, ← EReal.coe_add, ← EReal.coe_sub, ← EReal.coe_zero, coe_sum, div_real,
      rsqrt_real, va_raw, rs_fold]
    first | unfold gPart | unfold bPart
    simp only [four_runs, EReal.coe_add, add_assoc]
    try rfl

set_option maxHeartbeats 3200000 in
/-- The first point leaves the block's part of the loss in every lane; a later one adds it to what the point before left. -/
theorem loss (l : Fin 128) :
    (∀ h0 : t.val % 16 = 0,
      (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        ((hcond0_0 t).mpr h0) x0 x1 x2 x3 x4) (ix2 0 l) = ((lPart Q X T W B : ℝ) : EReal))
    ∧ ∀ (h0 : ¬t.val % 16 = 0) (xg xb : FVec Ideal S1x2048 .f32) (xl : FVec Ideal S1x128 .f32),
      (out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (fun h => h0 ((hcond0_0 t).mp h)) x0 x1 x2 x3 x4 xg xb xl) (ix2 0 l) = xl (ix2 0 l) + ((lPart Q X T W B : ℝ) : EReal) := by
  refine ⟨fun h0 => ?_, fun h0 xg xb xl => ?_⟩ <;>
  · frame_out
    open_payloads
    pointwise
    simp (disch := first | exact (va_pos _).ne' | exact va_pos _ | norm_num) only [hQ, hX, hT, hW, hB,
      ofBits_2048, ofBits_eps, ofBits_alpha, ofBits_half, ← EReal.coe_mul, ← EReal.coe_add, ← EReal.coe_sub, ← EReal.coe_zero, coe_sum, div_real,
      rsqrt_real, va_raw, rs_fold, Finset.univ_unique, Finset.sum_singleton]
    unfold lPart
    simp only [four_runs, EReal.coe_add, add_assoc, Finset.mul_sum]
    try rfl

end Cert.Ln2Point

end
-- ==== Proof.Ln2Ref.lean ====
/- The reference's loss and its gradients at the second layer norm, read at an element: over finite arguments they are real functions. -/
module

public import proofs.«01_k».proof.Proof.Gen.Ln2ReferenceIdeal.Read
public import proofs.«01_k».proof.Proof.LnMath
public import Idealize.ShloMosaic.Lib.Pipeline.ValueKit

@[expose] public section

set_option maxRecDepth 16384

noncomputable section

open Idealize.ShloMosaic Idealize.ShloMosaic.TcCoe Idealize.SL.Sem

namespace Cert.Ln2Ref

open Cert.Ln2ReferenceIdeal Cert.Ln2ReferenceIdeal.Gen Cert.Ln2ReferenceIdeal.Read
open Cert.Lift Cert.LnMath

variable (x0 x1 x2 : FVec Ideal S4096x2048 .f32) (x3 x4 : FVec Ideal S1x2048 .f32)
  (Q X T : Fin 4096 → Fin 2048 → ℝ) (W B : Fin 2048 → ℝ)

/-- The arguments are these real arrays. -/
structure Reals : Prop where
  q : ∀ t l, x0 (ix2 t l) = ((Q t l : ℝ) : EReal)
  x : ∀ t l, x1 (ix2 t l) = ((X t l : ℝ) : EReal)
  t : ∀ t l, x2 (ix2 t l) = ((T t l : ℝ) : EReal)
  w : ∀ l, x3 (ix2 0 l) = ((W l : ℝ) : EReal)
  b : ∀ l, x4 (ix2 0 l) = ((B l : ℝ) : EReal)

/-- The row that is normalised. -/
def rowIn (Q X : Fin 4096 → Fin 2048 → ℝ) (t : Fin 4096) (l : Fin 2048) : ℝ := alpha * X t l + Q t l

variable {x0 x1 x2 x3 x4 Q X T W B} (H : Reals x0 x1 x2 x3 x4 Q X T W B)
include H

/-- The reference's residual is a real number. -/
theorem row_real (t : Fin 4096) (l : Fin 2048) : val_main_v2 (F := Ideal) x0 x1 (ix2 t l) = ((rowIn Q X t l : ℝ) : EReal) := by
  pointwise [val_main_v2, val_main_v1, val_main_v0, val_main_cst]
  simp only [H.q, H.x, ofBits_alpha, ← EReal.coe_mul, ← EReal.coe_add]; rfl

/-- The reference's mean of a row. -/
theorem mu_real (t : Fin 4096) : val_main_v8 (F := Ideal) x0 x1 (ix2 t 0) = ((mu (rowIn Q X t) : ℝ) : EReal) := by
  pointwise [val_main_cst_0, val_main_v5, val_main_v6, val_main_cst_1, val_main_v7, val_main_v8]
  simp (disch := norm_num) only [row_real H, ofBits_2048, coe_sum, div_real, mu_fold]

/-- The reference's variance of a row, with the small constant added. -/
theorem va_real (t : Fin 4096) : val_main_v21 (F := Ideal) x0 x1 (ix2 t 0) = ((va (rowIn Q X t) : ℝ) : EReal) := by
  pointwise [val_main_v9, val_main_v10, val_main_v11, val_main_cst_3, val_main_v14, val_main_v15, val_main_cst_4, val_main_v16, val_main_v17, val_main_cst_5, val_main_v20, val_main_v21]
  simp (disch := norm_num) only [row_real H, mu_real H, ofBits_2048, ofBits_eps, ← EReal.coe_sub, ← EReal.coe_mul, ← EReal.coe_add, coe_sum, div_real, va_fold]

/-- The reference's normalised row. -/
theorem hat_real (t : Fin 4096) (l : Fin 2048) : val_main_v27 (F := Ideal) x0 x1 (ix2 t l) = ((hat (rowIn Q X t) l : ℝ) : EReal) := by
  pointwise [val_main_v18, val_main_v19, val_main_v22, val_main_v23, val_main_cst_6, val_main_v24, val_main_v25, val_main_v26, val_main_v27]
  simp (disch := first | exact (va_pos _).ne' | exact va_pos _ | norm_num) only [row_real H, mu_real H, va_real H, ← EReal.coe_sub, ← EReal.coe_mul, rsqrt_real, rs_fold, hat_fold]

/-- The difference to the target. -/
theorem err_real (t : Fin 4096) (l : Fin 2048) :
    val_main_v34 (F := Ideal) x0 x1 x2 x3 x4 (ix2 t l) = ((err (rowIn Q X t) (T t) W B l : ℝ) : EReal) := by
  pointwise [val_main_v3, val_main_v4, val_main_v28, val_main_v29, val_main_v30, val_main_v31, val_main_v32, val_main_v33, val_main_v34]
  simp only [hat_real H, H.w, H.b, H.t, ← EReal.coe_sub, ← EReal.coe_mul, ← EReal.coe_add]; rfl

/-- The cotangent of the normalised row. -/
theorem ct_real (t : Fin 4096) (l : Fin 2048) :
    val_main_v48 (F := Ideal) x0 x1 x2 x3 x4 (ix2 t l) = ((err (rowIn Q X t) (T t) W B l * (1 / 2048) : ℝ) : EReal) := by
  pointwise [val_main_cst_7, val_main_v36, val_main_v37, val_main_cst_12, val_main_cst_13, val_main_v43, val_main_v44, val_main_cst_14, val_main_v45, val_main_v46, val_main_v47, val_main_v48]
  simp (disch := norm_num) only [err_real H, ofBits_two, ofBits_half, ofBits_2048, ← EReal.coe_one, ← EReal.coe_mul, div_real, EReal.coe_eq_coe_iff]
  ring

/-- The gradient with respect to the normalised row. -/
theorem dr_real (t : Fin 4096) (l : Fin 2048) :
    val_main_v81 (F := Ideal) x0 x1 x2 x3 x4 (ix2 t l) = ((dRow (rowIn Q X t) (T t) W B l : ℝ) : EReal) := by
  pointwise [val_main_v3, val_main_v12, val_main_v13, val_main_cst_2, val_main_v9, val_main_v10, val_main_v18, val_main_v19, val_main_v22, val_main_v23, val_main_cst_6, val_main_v24, val_main_v25, val_main_v26, val_main_v28, val_main_v55, val_main_v56, val_main_v58, val_main_cst_19, val_main_v59, val_main_v60, val_main_v61, val_main_v62, val_main_v63, val_main_v64, val_main_cst_20, val_main_v65, val_main_v66, val_main_cst_21, val_main_v67, val_main_v68, val_main_cst_22, val_main_v69, val_main_v70, val_main_v71, val_main_v72, val_main_cst_23, val_main_v73, val_main_v74, val_main_v75, val_main_v76, val_main_cst_24, val_main_v77, val_main_v78, val_main_cst_25, val_main_v79, val_main_v80, val_main_v81]
  simp (disch := first | exact (va_pos _).ne' | exact va_pos _ | norm_num) only [row_real H, mu_real H, va_real H, ct_real H, H.w, ofBits_2048, ofBits_two, ofBits_neg_half, Finset.univ_unique, Finset.sum_singleton, Fin.default_eq_zero, Fin.isValue, ← EReal.coe_sub, ← EReal.coe_mul, ← EReal.coe_add,
    ← EReal.coe_neg, ← EReal.coe_one, ← EReal.coe_zero, coe_sum, div_real, rsqrt_real, rs_fold, EReal.coe_eq_coe_iff]
  exact dR_chain _ (fun l => err (rowIn Q X t) (T t) W B l * (1 / 2048) * W l) _

/-- The gradient with respect to the weight: the sum over the rows. -/
theorem dg_real (l : Fin 2048) : val_main_v83 (F := Ideal) x0 x1 x2 x3 x4 (ix2 0 l)
    = ((∑ t, err (rowIn Q X t) (T t) W B l * (1 / 2048) * hat (rowIn Q X t) l : ℝ) : EReal) := by
  pointwise [val_main_v52, val_main_cst_17, val_main_v53, val_main_v54, val_main_cst_18, val_main_v57, val_main_v83]
  simp only [hat_real H, ct_real H, Finset.univ_unique, Finset.sum_singleton, Fin.default_eq_zero, Fin.isValue, ← EReal.coe_mul, coe_sum, EReal.coe_eq_coe_iff]
  exact Finset.sum_congr rfl fun t _ => by ring

/-- The gradient with respect to the bias. -/
theorem db_real (l : Fin 2048) : val_main_v82 (F := Ideal) x0 x1 x2 x3 x4 (ix2 0 l) = ((∑ t, err (rowIn Q X t) (T t) W B l * (1 / 2048) : ℝ) : EReal) := by
  pointwise [val_main_cst_15, val_main_v49, val_main_v50, val_main_cst_16, val_main_v51, val_main_v82]
  simp only [ct_real H, Finset.univ_unique, Finset.sum_singleton, Fin.default_eq_zero, Fin.isValue, coe_sum, EReal.coe_eq_coe_iff]

/-- The loss, the same number in every lane. -/
theorem loss_real (j : S1x128.Idx) : val_main_v85 (F := Ideal) x0 x1 x2 x3 x4 j = ((∑ t, rowLoss (rowIn Q X t) (T t) W B : ℝ) : EReal) := by
  have h : ∀ t : Fin 4096, val_main_v40 (F := Ideal) x0 x1 x2 x3 x4 (ix1 t)
      = (((∑ l, err (rowIn Q X t) (T t) W B l * err (rowIn Q X t) (T t) W B l) / 2048 : ℝ) : EReal) := fun t => by
    pointwise [val_main_v35, val_main_cst_8, val_main_v38, val_main_cst_9, val_main_v39, val_main_v40]
    simp (disch := norm_num) only [err_real H, ofBits_2048, ← EReal.coe_mul, coe_sum, div_real]
  pointwise [val_main_cst_10, val_main_v41, val_main_cst_11, val_main_v42, val_main_v85]
  simp only [h, ofBits_half, coe_sum, ← EReal.coe_mul, EReal.coe_eq_coe_iff, Finset.mul_sum]
  rfl

end Cert.Ln2Ref

end
-- ==== Proof.Ln2Arrays.lean ====
/- What the loss kernel is handed, and what it leaves in its five result arrays, over arguments that hold real numbers. -/
module

public import proofs.«01_k».proof.Proof.Ln2Point
public import proofs.«01_k».proof.Proof.Ln2Ref
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ln2Arrays

open Cert.Ln2KernelIdeal Cert.Ln2KernelIdeal.Gen
open Cert.Lift Cert.LnMath Cert.Ln2Point

/-- Every window's block at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

/-- The row of the whole array that row `r` of block `t` is. -/
def row (t : Fin cfg0.N) (r : Fin 256) : Fin 4096 := ⟨t.val * 256 + r.val, by have := t.isLt.trans_eq N_0; omega⟩

variable (m : (ℓ : Loc nD τ sig) → Buf (Elt Ideal) ℓ) (c : Dev nD) {Q X T : Fin 4096 → Fin 2048 → ℝ} {W B : Fin 2048 → ℝ}
  (H : Ln2Ref.Reals (m ((c : Thread nD τ).loc main_arg0)) (m ((c : Thread nD τ).loc main_arg1)) (m ((c : Thread nD τ).loc main_arg2))
    (m ((c : Thread nD τ).loc main_arg3)) (m ((c : Thread nD τ).loc main_arg4)) Q X T W B)
include H

/-- At every point the input blocks hold the rows of the block and the whole weight and bias. -/
theorem block_q (t : Fin cfg0.N) (r : Fin 256) (l : Fin 2048) : iblk m c 0 t (ix2 r l) = ((Q (row t r) l : ℝ) : EReal) := by
  rw [← H.q]; blk_ext [iblk, V, row, idx t]

/-- Window 1 reads the block's rows of the residual's first part. -/
theorem block_x (t : Fin cfg0.N) (r : Fin 256) (l : Fin 2048) : iblk m c 1 t (ix2 r l) = ((X (row t r) l : ℝ) : EReal) := by
  rw [← H.x]; blk_ext [iblk, V, row, idx t]

/-- Window 2 reads the block's rows of the target. -/
theorem block_t (t : Fin cfg0.N) (r : Fin 256) (l : Fin 2048) : iblk m c 2 t (ix2 r l) = ((T (row t r) l : ℝ) : EReal) := by
  rw [← H.t]; blk_ext [iblk, V, row, idx t]

/-- Window 3 reads the whole weight, -/
theorem block_w (t : Fin cfg0.N) (l : Fin 2048) : iblk m c 3 t (ix2 0 l) = ((W l : ℝ) : EReal) := by
  rw [← H.w]; blk_ext [iblk, V, idx t]

/-- and window 4 the whole bias. -/
theorem block_b (t : Fin cfg0.N) (l : Fin 2048) : iblk m c 4 t (ix2 0 l) = ((B l : ℝ) : EReal) := by
  rw [← H.b]; blk_ext [iblk, V, idx t]

/-- The gradient of the normalised row, as an array. -/
def rowGrad (Q X T : Fin 4096 → Fin 2048 → ℝ) (W B : Fin 2048 → ℝ) (j : S4096x2048.Idx) : EReal :=
  ((dRow (Ln2Ref.rowIn Q X (j 0)) (T (j 0)) W B (j 1) : ℝ) : EReal)

/-- After a point the two row windows hold the block of the row's gradient. -/
theorem left_rows (t : Fin cfg0.N) (y : S256x2048.Idx) : (outsAt0 m c t.val t.isLt).1 y = rowGrad Q X T W B (ix2 (row t (y 0)) (y 1))
    ∧ (outsAt0 m c t.val t.isLt).2.1 y = rowGrad Q X T W B (ix2 (row t (y 0)) (y 1)) := by
  have h := rows c t (block_q m c H t) (block_x m c H t) (block_t m c H t) (block_w m c H t) (block_b m c H t) y
  by_cases h0 : t.val % 16 = 0
  · rw [outsAt0_A m c t h0]; dsimp only; exact h.1 h0
  · rw [outsAt0_B m c t h0]; dsimp only; exact h.2 h0 _ _ _

/-- The row's gradient, -/
theorem final_5 : (dats m 0 c).arrAt 5 cfg0.N = rowGrad Q X T W B := by
  refine (dats m 0 c).arrAt_eq_of_covers 5 _ (by decide +kernel) fun t hf y => ?_
  blk_simp; rw [after0_5]
  refine (left_rows m c H t y).1.trans ?_
  blk_ext [row, idx t]

/-- and its copy. -/
theorem final_6 : (dats m 0 c).arrAt 6 cfg0.N = rowGrad Q X T W B := by
  refine (dats m 0 c).arrAt_eq_of_covers 6 _ (by decide +kernel) fun t hf y => ?_
  blk_simp; rw [after0_6]
  refine (left_rows m c H t y).2.trans ?_
  blk_ext [row, idx t]

omit H in
/-- An index into an array with one row is its column's. -/
theorem one_row {n : ℕ} (j : (⟨2, ![1, n]⟩ : Shape).Idx) : j = ix2 0 (j 1) := by rw [eq_ix2 j]; congr 1; exact Subsingleton.elim _ _

/-- The weight's gradient is the sum over every row, -/
theorem final_7 (j : S1x2048.Idx) : (dats m 0 c).arrAt 7 cfg0.N j = ((∑ t, err (Ln2Ref.rowIn Q X t) (T t) W B (j 1) * (1 / 2048) * hat (Ln2Ref.rowIn Q X t) (j 1) : ℝ) : EReal) := by
  revert j
  refine fun j => congrFun ((dats m 0 c).arrAt_eq_of_after_last 7 t0_15 (by decide +kernel) (fun j => ((∑ t, err (Ln2Ref.rowIn Q X t) (T t) W B (j 1) * (1 / 2048) * hat (Ln2Ref.rowIn Q X t) (j 1) : ℝ) : EReal)) fun j => ?_) j
  blk_simp
  rw [after0_7]
  refine (Pipeline.eq_sum_fin_of_reset_step_apply_last (fun n h => (outsAt0 m c n h).2.2.1) 16 (fun _ => 0)
    (fun t j => ((gPart (fun r => Q (row t r)) (fun r => X (row t r)) (fun r => T (row t r)) W B (j 1) : ℝ) : EReal))
    (fun t h j => ?_) (fun t h j => ?_) (le_of_eq N_0) t0_15 rfl j).trans ?_
  · rw [outsAt0_A m c t h, one_row j, zero_add]
    dsimp only
    exact (sums c t (block_q m c H t) (block_x m c H t) (block_t m c H t) (block_w m c H t) (block_b m c H t) (j 1)).1 h |>.1
  · rw [outsAt0_B m c t h, one_row j]
    dsimp only
    exact (sums c t (block_q m c H t) (block_x m c H t) (block_t m c H t) (block_w m c H t) (block_b m c H t) (j 1)).2 h _ _ _ |>.1
  · rw [zero_add, coe_sum]
    exact congrArg _ (Fin.sum_mul_add_congr (fun _ _ _ => rfl) (by rw [show cfg0.N = 16 from N_0]))

/-- so is the bias's, -/
theorem final_8 (j : S1x2048.Idx) : (dats m 0 c).arrAt 8 cfg0.N j = ((∑ t, err (Ln2Ref.rowIn Q X t) (T t) W B (j 1) * (1 / 2048) : ℝ) : EReal) := by
  revert j
  refine fun j => congrFun ((dats m 0 c).arrAt_eq_of_after_last 8 t0_15 (by decide +kernel) (fun j => ((∑ t, err (Ln2Ref.rowIn Q X t) (T t) W B (j 1) * (1 / 2048) : ℝ) : EReal)) fun j => ?_) j
  blk_simp
  rw [after0_8]
  refine (Pipeline.eq_sum_fin_of_reset_step_apply_last (fun n h => (outsAt0 m c n h).2.2.2.1) 16 (fun _ => 0)
    (fun t j => ((bPart (fun r => Q (row t r)) (fun r => X (row t r)) (fun r => T (row t r)) W B (j 1) : ℝ) : EReal))
    (fun t h j => ?_) (fun t h j => ?_) (le_of_eq N_0) t0_15 rfl j).trans ?_
  · rw [outsAt0_A m c t h, one_row j, zero_add]
    dsimp only
    exact (sums c t (block_q m c H t) (block_x m c H t) (block_t m c H t) (block_w m c H t) (block_b m c H t) (j 1)).1 h |>.2
  · rw [outsAt0_B m c t h, one_row j]
    dsimp only
    exact (sums c t (block_q m c H t) (block_x m c H t) (block_t m c H t) (block_w m c H t) (block_b m c H t) (j 1)).2 h _ _ _ |>.2
  · rw [zero_add, coe_sum]
    exact congrArg _ (Fin.sum_mul_add_congr (fun _ _ _ => rfl) (by rw [show cfg0.N = 16 from N_0]))

/-- and the loss, in every lane. -/
theorem final_9 (j : S1x128.Idx) : (dats m 0 c).arrAt 9 cfg0.N j = ((∑ t, rowLoss (Ln2Ref.rowIn Q X t) (T t) W B : ℝ) : EReal) := by
  revert j
  refine fun j => congrFun ((dats m 0 c).arrAt_eq_of_after_last 9 t0_15 (by decide +kernel) (fun j => ((∑ t, rowLoss (Ln2Ref.rowIn Q X t) (T t) W B : ℝ) : EReal)) fun j => ?_) j
  blk_simp
  rw [after0_9]
  refine (Pipeline.eq_sum_fin_of_reset_step_apply_last (fun n h => (outsAt0 m c n h).2.2.2.2) 16 (fun _ => 0)
    (fun t j => ((lPart (fun r => Q (row t r)) (fun r => X (row t r)) (fun r => T (row t r)) W B : ℝ) : EReal))
    (fun t h j => ?_) (fun t h j => ?_) (le_of_eq N_0) t0_15 rfl j).trans ?_
  · rw [outsAt0_A m c t h, one_row j, zero_add]
    dsimp only
    exact (loss c t (block_q m c H t) (block_x m c H t) (block_t m c H t) (block_w m c H t) (block_b m c H t) (j 1)).1 h
  · rw [outsAt0_B m c t h, one_row j]
    dsimp only
    exact (loss c t (block_q m c H t) (block_x m c H t) (block_t m c H t) (block_w m c H t) (block_b m c H t) (j 1)).2 h _ _ _
  · rw [zero_add, coe_sum]
    exact congrArg _ (Fin.sum_mul_add_congr (fun _ _ _ => rfl) (by rw [show cfg0.N = 16 from N_0]))

end Cert.Ln2Arrays

end
-- ==== Proof.Ln2Claim.lean ====
/- The loss kernel and the reference's loss with its derivative are one function over finite arguments. -/
module

public import proofs.«01_k».proof.Defs
public import proofs.«01_k».proof.Proof.Ln2Arrays
public import Idealize.ShloMosaic.Lib.Quiescent

@[expose] public section

set_option maxRecDepth 16384

noncomputable section

open Idealize.ShloMosaic Idealize.ShloMosaic.TcCoe Idealize.SL.Sem

namespace Cert.Ln2Claim

open Cert.Lift Cert.LnMath Cert.Ln2Ref Cert.Ln2Arrays

/-- The precondition's own shape relations. -/
theorem preFacts : Cert.Pre_finite_ln2.Facts where
  bcast_S_S4096x2048 := by decide
  reducesTo_S4096x2048_S_d0_1 := by decide
  h_S_ := by decide
  bcast_S_S1x2048 := by decide
  reducesTo_S1x2048_S_d0_1 := by decide

instance : Cert.Pre_finite_ln2.Facts := preFacts

/-- Arguments that meet the precondition hold real numbers. -/
theorem reals (x0 x1 x2 : FVec Ideal Cert.Pre_finite_ln2.S4096x2048 .f32) (x3 x4 : FVec Ideal Cert.Pre_finite_ln2.S1x2048 .f32)
    (h : Cert.Pre_finite_ln2.fn (F := Ideal) x0 x1 x2 x3 x4 = fun _ => 1#1) :
    ∃ (Q X T : Fin 4096 → Fin 2048 → ℝ) (W B : Fin 2048 → ℝ), Ln2Ref.Reals x0 x1 x2 x3 x4 Q X T W B := by
  have h0 := congrFun h ix0
  dsimp only [Cert.Pre_finite_ln2.fn, Cert.Pre_finite_ln2.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0, h1⟩ := IntOp.andi_eq_one.1 h01
  exact ⟨fun t l => (x0 (ix2 t l)).toReal, fun t l => (x1 (ix2 t l)).toReal, fun t l => (x2 (ix2 t l)).toReal, fun l => (x3 (ix2 0 l)).toReal,
    fun l => (x4 (ix2 0 l)).toReal, fun t l => real_of_all _ _ _ _ _ _ _ h0 (ix2 t l), fun t l => real_of_all _ _ _ _ _ _ _ h1 (ix2 t l),
    fun t l => real_of_all _ _ _ _ _ _ _ h2 (ix2 t l), fun l => real_of_all _ _ _ _ _ _ _ h3 (ix2 0 l), fun l => real_of_all _ _ _ _ _ _ _ h4 (ix2 0 l)⟩

/-- The reference terminates and leaves its arguments as they were. -/
theorem frame_reference : Cert.quiescent_Ln2ReferenceIdeal (hLn2ReferenceIdeal := Cert.Ln2ReferenceIdeal.Gen.facts) := fun m ρ _ =>
  (θ_run _ _ _).mono (fun r h => ⟨fun c => (h c).2.2.2.2.2, sem_eq_zero_of_no_sems rfl _⟩) (Cert.Ln2ReferenceIdeal.Value.run (F := Ideal) m ρ)

/-- From equal finite arguments both programs leave the same five arrays. -/
theorem algebraic : Cert.algebraic_Ln2KernelIdeal_Ln2ReferenceIdeal_pre_finite_ln2 (hLn2KernelIdeal := Cert.Ln2KernelIdeal.Gen.facts)
    (hLn2ReferenceIdeal := Cert.Ln2ReferenceIdeal.Gen.facts) (hPre_finite_ln2 := preFacts) := by
  intro m ρ m' ρ' hpre hag
  refine ⟨_, _, _, _, _, Cert.Ln2KernelIdeal.Value.run_blocks m ρ, (θ_run _ _ _).mono (fun r h c => ?_) (Cert.Ln2ReferenceIdeal.Value.run (F := Ideal) m' ρ')⟩
  obtain ⟨Q, X, T, W, B, H⟩ := reals _ _ _ _ _ (hpre c)
  obtain ⟨a0, a1, a2, a3, a4⟩ := hag c
  obtain ⟨r0, r1, r2, r3, r4, k⟩ := h c
  have H' := H
  rw [← a0, ← a1, ← a2, ← a3, ← a4] at H'
  refine ⟨?_, ?_, ?_, ?_, ?_, k⟩
  · refine ((r0.trans (Cert.Ln2ReferenceIdeal.Read.val_main_v81_eq _ _)).trans (funext fun j => ?_)).trans (final_5 m c H).symm
    exact (congrArg _ (eq_ix2 j)).trans (dr_real H' (j 0) (j 1))
  · refine ((r1.trans (Cert.Ln2ReferenceIdeal.Read.val_main_v84_eq _ _)).trans (funext fun j => ?_)).trans (final_6 m c H).symm
    exact (congrArg _ (eq_ix2 j)).trans (dr_real H' (j 0) (j 1))
  · refine (r2.trans (Cert.Ln2ReferenceIdeal.Read.val_main_v83_eq _ _)).trans (funext fun j => Eq.trans ?_ (final_7 m c H j).symm)
    exact (congrArg _ (one_row j)).trans (dg_real H' (j 1))
  · refine (r3.trans (Cert.Ln2ReferenceIdeal.Read.val_main_v82_eq _ _ _ _ _)).trans (funext fun j => Eq.trans ?_ (final_8 m c H j).symm)
    exact (congrArg _ (one_row j)).trans (db_real H' (j 1))
  · exact (r4.trans (Cert.Ln2ReferenceIdeal.Read.val_main_v85_eq _ _)).trans (funext fun j => (loss_real H' j).trans (final_9 m c H j).symm)

end Cert.Ln2Claim

end
-- ==== Proof.Relu2Run.lean ====
/- The run of the squared ReLU's two calls: every buffer ends at the contents the last segment leaves. -/
module

public import proofs.«01_k».proof.Proof.Gen.Relu2KernelIdeal.Frame

@[expose] public section

set_option maxRecDepth 16384
set_option backward.isDefEq.respectTransparency.types false

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Relu2Run

open Cert.Relu2KernelIdeal Cert.Relu2KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution of @main terminates with every unscoped buffer at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Relu2Run

end
-- ==== Proof.Relu2Arrays.lean ====
/- What the squared ReLU's forward and backward kernels leave in their arrays, over any arguments at all. -/
module

public import proofs.«01_k».proof.Proof.Relu2Run
public import proofs.«01_k».proof.Proof.Lift
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Relu2Arrays

open Cert.Relu2KernelIdeal Cert.Relu2KernelIdeal.Gen
open Cert.Lift

/-- One point of the forward kernel: the rectified product of a block of rows and a block of columns, and its square. -/
theorem up_point (x0 : Vec Ideal S1024x2048 .bf16) (x1 : Vec Ideal S1x2048x1024 .bf16) (y : S1024x1024.Idx) :
    out0_2 x0 x1 y = max (∑ k : Fin 2048, x0 (ix2 (y 0) k) * x1 (ix3 0 k (y 1))) 0
    ∧ out0_3 x0 x1 y = max (∑ k : Fin 2048, x0 (ix2 (y 0) k) * x1 (ix3 0 k (y 1))) 0 * max (∑ k : Fin 2048, x0 (ix2 (y 0) k) * x1 (ix3 0 k (y 1))) 0 := by
  refine ⟨?_, ?_⟩ <;>
  · frame_out
    canon_tiles p hp
    all_goals (idx_vars p; open_payloads; pointwise)
    all_goals (rw [show y 0 = ⟨(y 0).val, (y 0).isLt⟩ from rfl, show y 1 = p1 from Fin.ext hp1]; simp only [hp0]; rfl)

/-- One point of the backward kernel: the product with the transposed weight, times twice the saved rectified value. -/
theorem down_point (x0 x1 : Vec Ideal S1024x2048 .bf16) (x2 : Vec Ideal S1024x1024 .bf16) (y : S1024x1024.Idx) :
    out1_3 x0 x1 x2 y = (∑ k : Fin 2048, x0 (ix2 (y 0) k) * x1 (ix2 (y 1) k)) * (Ideal.ofBits .f32 0x40000000#32 * x2 y) := by
  frame_out
  canon_tiles p hp
  all_goals (idx_vars p; open_payloads; pointwise)
  all_goals rw [show x2 y = x2 (ix2 (y 0) (y 1)) from congrArg x2 (eq_ix2 y)]
  all_goals (rw [show y 0 = ⟨(y 0).val, (y 0).isLt⟩ from rfl, show y 1 = p1 from Fin.ext hp1]; simp only [hp0]; rfl)

/-- Every window's block at every grid point of the forward call, -/
theorem idx0 : ∀ t : Fin cfg0.N, win0_0.index t = ![t.val / 8, 0] ∧ win0_1.index t = ![t.val % 8, 0, 0] ∧ win0_2.index t = ![t.val / 8, t.val % 8]
    ∧ win0_3.index t = ![t.val / 8, t.val % 8] := (by decide +kernel : ∀ t : Fin grid0.N, _)

/-- and of the backward call. -/
theorem idx1 : ∀ t : Fin cfg1.N, win1_0.index t = ![t.val / 8, 0] ∧ win1_1.index t = ![t.val % 8, 0] ∧ win1_2.index t = ![t.val / 8, t.val % 8]
    ∧ win1_3.index t = ![t.val / 8, t.val % 8] := (by decide +kernel : ∀ t : Fin grid1.N, _)

/-- Row `r` of the block of 1024 rows that point `n` of either call reads, in the whole array, -/
def row (n : Fin 32) (r : Fin 1024) : Fin 4096 := ⟨n.val / 8 * 1024 + r.val, by omega⟩

/-- and column `l` of its block of 1024 columns. -/
def col (n : Fin 32) (l : Fin 1024) : Fin 8192 := ⟨n.val % 8 * 1024 + l.val, by omega⟩

/-- A point of the forward call, of 32, -/
def pt0 (t : Fin cfg0.N) : Fin 32 := ⟨t.val, t.isLt.trans_eq N_0⟩

/-- and of the backward call. -/
def pt1 (t : Fin cfg1.N) : Fin 32 := ⟨t.val, t.isLt.trans_eq N_1⟩

variable (m : (ℓ : Loc nD τ sig) → Buf (Elt Ideal) ℓ) (ρ : Dev nD → PrngReg) (c : Dev nD)

/-- The hidden layer's rectified entry: `max (h1 · w_up) 0`. -/
def act (H : FVec Ideal S4096x2048 .f32) (U : FVec Ideal S2048x8192 .f32) (j : S4096x8192.Idx) : EReal :=
  max (∑ k : Fin 2048, H (ix2 (j 0) k) * U (ix2 k (j 1))) 0

/-- Its square. -/
def sq (H : FVec Ideal S4096x2048 .f32) (U : FVec Ideal S2048x8192 .f32) (j : S4096x8192.Idx) : EReal := act H U j * act H U j

/-- The forward call's weight is the argument's columns, shard by shard. -/
theorem entry_w (j : Fin 8) (k : Fin 2048) (l : Fin 1024) :
    V1 m ρ c main_v2 (ix3 j k l) = m ((c : Thread nD τ).loc main_arg1) (ix2 k ⟨j.val * 1024 + l.val, by omega⟩) := by
  change StableHlo.after hostOps0 (W0 m ρ c) (Proc.devRef .tc main_v2) _ = _
  entry_read
  pointwise

/-- The first call is handed the layer's input as it is. -/
theorem entry_h (r : Fin 4096) (k : Fin 2048) : V1 m ρ c main_v3 (ix2 r k) = m ((c : Thread nD τ).loc main_arg0) (ix2 r k) := by
  change StableHlo.after hostOps0 (W0 m ρ c) (Proc.devRef .tc main_v3) _ = _
  entry_read
  pointwise

/-- The second call is handed the cotangent as it is, -/
theorem entry_d (r : Fin 4096) (k : Fin 2048) : V3 m ρ c main_v5 (ix2 r k) = m ((c : Thread nD τ).loc main_arg3) (ix2 r k) := by
  change StableHlo.after hostOps1 (W2 m ρ c) (Proc.devRef .tc main_v5) _ = _
  entry_read
  rw [W2_args m ρ c main_arg3 (by decide)]
  rfl

/-- and the second weight. -/
theorem entry_u (r : Fin 8192) (k : Fin 2048) : V3 m ρ c main_v6 (ix2 r k) = m ((c : Thread nD τ).loc main_arg2) (ix2 r k) := by
  change StableHlo.after hostOps1 (W2 m ρ c) (Proc.devRef .tc main_v6) _ = _
  entry_read
  rw [W2_args m ρ c main_arg2 (by decide)]
  rfl

/-- The first call's window 0 reads the block's rows of the input, -/
theorem block_h (t : Fin cfg0.N) (r : Fin 1024) (k : Fin 2048) :
    iblk0 (V1 m ρ) c 0 t (ix2 r k) = m ((c : Thread nD τ).loc main_arg0) (ix2 (row (pt0 t) r) k) := by
  rw [← entry_h m ρ c]; blk_ext [iblk0, row, pt0, idx0 t]

/-- and its window 1 the block's shard of the first weight. -/
theorem block_w (t : Fin cfg0.N) (k : Fin 2048) (l : Fin 1024) :
    iblk0 (V1 m ρ) c 1 t (ix3 0 k l) = m ((c : Thread nD τ).loc main_arg1) (ix2 k (col (pt0 t) l)) := by
  refine Eq.trans ?_ (entry_w m ρ c ⟨t.val % 8, by omega⟩ k l); blk_ext [iblk0, idx0 t]

/-- What the forward call leaves at a point: a block of the rectified entries and a block of their squares. -/
theorem left_up (t : Fin cfg0.N) (y : S1024x1024.Idx) :
    out0_2 (iblk0 (V1 m ρ) c 0 t) (iblk0 (V1 m ρ) c 1 t) y = act (m ((c : Thread nD τ).loc main_arg0)) (m ((c : Thread nD τ).loc main_arg1)) (ix2 (row (pt0 t) (y 0)) (col (pt0 t) (y 1)))
    ∧ out0_3 (iblk0 (V1 m ρ) c 0 t) (iblk0 (V1 m ρ) c 1 t) y = sq (m ((c : Thread nD τ).loc main_arg0)) (m ((c : Thread nD τ).loc main_arg1)) (ix2 (row (pt0 t) (y 0)) (col (pt0 t) (y 1))) := by
  have e (x0 : Vec Ideal S1024x2048 .bf16) (x1 : Vec Ideal S1x2048x1024 .bf16)
      (h0 : ∀ k, x0 (ix2 (y 0) k) = m ((c : Thread nD τ).loc main_arg0) (ix2 (row (pt0 t) (y 0)) k))
      (h1 : ∀ k, x1 (ix3 0 k (y 1)) = m ((c : Thread nD τ).loc main_arg1) (ix2 k (col (pt0 t) (y 1)))) :
      max (∑ k : Fin 2048, x0 (ix2 (y 0) k) * x1 (ix3 0 k (y 1))) 0 = act (m ((c : Thread nD τ).loc main_arg0)) (m ((c : Thread nD τ).loc main_arg1)) (ix2 (row (pt0 t) (y 0)) (col (pt0 t) (y 1))) :=
    congrArg (max · 0) (Finset.sum_congr rfl fun k _ => congrArg₂ (· * ·) (h0 k) (h1 k))
  have e := e _ _ (fun k => block_h m ρ c t (y 0) k) (fun k => block_w m ρ c t k (y 1))
  exact ⟨(up_point _ _ y).1.trans e, (up_point _ _ y).2.trans (congrArg₂ (· * ·) e e)⟩

/-- The forward call leaves the rectified entries in its first result, -/
theorem final_a : (dat0 (V1 m ρ) c).arrAt 2 cfg0.N = act (m ((c : Thread nD τ).loc main_arg0)) (m ((c : Thread nD τ).loc main_arg1)) := by
  refine (dat0 (V1 m ρ) c).arrAt_eq_of_covers 2 _ (by decide +kernel) fun t hf y => ?_
  blk_simp
  rw [after0_2]
  refine (left_up m ρ c t y).1.trans ?_
  blk_ext [row, col, pt0, idx0 t]

/-- and their squares in its second. -/
theorem final_h : (dat0 (V1 m ρ) c).arrAt 3 cfg0.N = sq (m ((c : Thread nD τ).loc main_arg0)) (m ((c : Thread nD τ).loc main_arg1)) := by
  refine (dat0 (V1 m ρ) c).arrAt_eq_of_covers 3 _ (by decide +kernel) fun t hf y => ?_
  blk_simp
  rw [after0_3]
  refine (left_up m ρ c t y).2.trans ?_
  blk_ext [row, col, pt0, idx0 t]

/-- The backward call finds those rectified entries where the forward call left them. -/
theorem entry_a : V3 m ρ c main_v4_0 = act (m ((c : Thread nD τ).loc main_arg0)) (m ((c : Thread nD τ).loc main_arg1)) :=
  ((W3_of m ρ c main_v4_0 (by decide)).trans (W2_arr m ρ c 2)).trans (final_a m ρ c)

/-- The second call's window 0 reads the block's rows of the cotangent, -/
theorem block_d (t : Fin cfg1.N) (r : Fin 1024) (k : Fin 2048) :
    iblk1 (V3 m ρ) c 0 t (ix2 r k) = m ((c : Thread nD τ).loc main_arg3) (ix2 (row (pt1 t) r) k) := by
  rw [← entry_d m ρ c]; blk_ext [iblk1, row, pt1, idx1 t]

/-- its window 1 the block's rows of the second weight, -/
theorem block_u (t : Fin cfg1.N) (r : Fin 1024) (k : Fin 2048) :
    iblk1 (V3 m ρ) c 1 t (ix2 r k) = m ((c : Thread nD τ).loc main_arg2) (ix2 (col (pt1 t) r) k) := by
  rw [← entry_u m ρ c]; blk_ext [iblk1, col, pt1, idx1 t]

/-- and its window 2 the block of rectified values that the first call left. -/
theorem block_a (t : Fin cfg1.N) (y : S1024x1024.Idx) :
    iblk1 (V3 m ρ) c 2 t y = act (m ((c : Thread nD τ).loc main_arg0)) (m ((c : Thread nD τ).loc main_arg1)) (ix2 (row (pt1 t) (y 0)) (col (pt1 t) (y 1))) := by
  refine Eq.trans ?_ (congrFun (entry_a m ρ c) (ix2 (row (pt1 t) (y 0)) (col (pt1 t) (y 1)))); blk_ext [iblk1, row, col, pt1, idx1 t]

/-- The gradient before the rectifier: the product with the transposed weight, times twice the rectified entry. -/
def grad (H : FVec Ideal S4096x2048 .f32) (U : FVec Ideal S2048x8192 .f32) (W : FVec Ideal S8192x2048 .f32) (D : FVec Ideal S4096x2048 .f32)
    (j : S4096x8192.Idx) : EReal :=
  (∑ k : Fin 2048, D (ix2 (j 0) k) * W (ix2 (j 1) k)) * (Ideal.ofBits .f32 0x40000000#32 * act H U j)

/-- What the backward call leaves at a point: a block of that gradient. -/
theorem left_down (t : Fin cfg1.N) (y : S1024x1024.Idx) :
    out1_3 (iblk1 (V3 m ρ) c 0 t) (iblk1 (V3 m ρ) c 1 t) (iblk1 (V3 m ρ) c 2 t) y = grad (m ((c : Thread nD τ).loc main_arg0)) (m ((c : Thread nD τ).loc main_arg1))
    (m ((c : Thread nD τ).loc main_arg2)) (m ((c : Thread nD τ).loc main_arg3)) (ix2 (row (pt1 t) (y 0)) (col (pt1 t) (y 1))) :=
  (down_point _ _ _ y).trans (congrArg₂ (· * ·) (Finset.sum_congr rfl fun k _ => congrArg₂ (· * ·) (block_d m ρ c t _ k) (block_u m ρ c t _ k))
    (congrArg (_ * ·) (block_a m ρ c t y)))

/-- The backward call leaves that gradient. -/
theorem final_u : (dat1 (V3 m ρ) c).arrAt 3 cfg1.N = grad (m ((c : Thread nD τ).loc main_arg0)) (m ((c : Thread nD τ).loc main_arg1))
    (m ((c : Thread nD τ).loc main_arg2)) (m ((c : Thread nD τ).loc main_arg3)) := by
  refine (dat1 (V3 m ρ) c).arrAt_eq_of_covers 3 _ (by decide +kernel) fun t hf y => ?_
  blk_simp
  rw [after1_3]
  refine (left_down m ρ c t y).trans ?_
  blk_ext [row, col, pt1, idx1 t]

/-- The program's two results: the gradient, and the squares the forward call left. -/
theorem results : θ_run defs (onTc (τ := τ) (main (F := Ideal))) ⟨m, fun _ => 0, ρ⟩ (fun r => ∀ c : Dev nD,
    (r.2.mem ((c.tc : Thread nD τ).loc main_v7) = grad (m ((c : Thread nD τ).loc main_arg0)) (m ((c : Thread nD τ).loc main_arg1))
    (m ((c : Thread nD τ).loc main_arg2)) (m ((c : Thread nD τ).loc main_arg3))
    ∧ r.2.mem ((c.tc : Thread nD τ).loc main_v4_1) = sq (m ((c : Thread nD τ).loc main_arg0)) (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun r h c => ⟨⟨((h c _ (mem_uc main_v7 (by decide))).trans (W4_arr m ρ c 3)).trans (final_u m ρ c),
    (((h c _ (mem_uc main_v4_1 (by decide))).trans (W4_of m ρ c main_v4_1 (by decide))).trans ((W3_of m ρ c main_v4_1 (by decide)).trans (W2_arr m ρ c 3))).trans
      (final_h m ρ c)⟩,
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩)
    (Relu2Run.run_all m ρ)

end Cert.Relu2Arrays

end
-- ==== Proof.Relu2Claim.lean ====
/- The squared ReLU: both programs leave the same two arrays, whatever the arguments hold. -/
module

public import proofs.«01_k».proof.Proof.Relu2Arrays
public import proofs.«01_k».proof.Proof.Gen.Relu2ReferenceIdeal.Run
public import proofs.«01_k».proof.Proof.Gen.Relu2ReferenceIdeal.Read
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Relu2Claim

open Cert.Lift Cert.Relu2Arrays

/-- A product kept where the rectifier is open is the product with the rectified value: elsewhere that value is zero. -/
theorem open_mul (u g a : EReal) : (if 0 < u then g * (a * max u 0) else 0) = g * (a * max u 0) := by
  by_cases h : 0 < u
  · exact if_pos h
  · rw [if_neg h, max_eq_right (not_lt.1 h), mul_zero, mul_zero]

open Relu2ReferenceIdeal.Read in
/-- The reference's gradient before the rectifier, -/
theorem ref_grad (x0 : FVec Ideal Relu2KernelIdeal.S4096x2048 .f32) (x1 : FVec Ideal Relu2KernelIdeal.S2048x8192 .f32)
    (x2 : FVec Ideal Relu2KernelIdeal.S8192x2048 .f32) (x3 : FVec Ideal Relu2KernelIdeal.S4096x2048 .f32) (r : Fin 4096) (l : Fin 8192) :
    val_main_v13 (F := Ideal) x0 x1 x2 x3 (ix2 r l) = grad x0 x1 x2 x3 (ix2 r l) := by
  pointwise [val_main_v13, val_main_v12, val_main_v10,
    val_main_v9, val_main_v7, val_main_v3, val_main_v1,
    val_main_v0, val_main_v2, val_main_v6,
    val_main_v11, val_main_call0_v0, val_main_cst, val_main_cst_1, val_main_cst_2, val_main_call0_cst]
  exact open_mul _ _ _

open Relu2ReferenceIdeal.Read in
/-- and its squared activation. -/
theorem ref_sq (x0 : FVec Ideal Relu2KernelIdeal.S4096x2048 .f32) (x1 : FVec Ideal Relu2KernelIdeal.S2048x8192 .f32) (r : Fin 4096) (l : Fin 8192) :
    val_main_v16 (F := Ideal) x0 x1 (ix2 r l) = sq x0 x1 (ix2 r l) := by
  pointwise [val_main_v16, val_main_v15, val_main_v14, val_main_v1,
    val_main_v0, val_main_call1_v0, val_main_call1_cst]
  rfl

/-- The reference terminates and leaves its arguments as they were. -/
theorem frame_reference : Cert.quiescent_Relu2ReferenceIdeal (hRelu2ReferenceIdeal := Cert.Relu2ReferenceIdeal.Gen.facts) := fun m ρ _ =>
  (θ_run _ _ _).mono (fun r h => ⟨fun c => (h c).2.2, sem_eq_zero_of_no_sems rfl _⟩) (Cert.Relu2ReferenceIdeal.Value.run (F := Ideal) m ρ)

/-- From equal arguments both programs leave the same two arrays. -/
theorem algebraic : Cert.algebraic_Relu2KernelIdeal_Relu2ReferenceIdeal (hRelu2KernelIdeal := Cert.Relu2KernelIdeal.Gen.facts)
    (hRelu2ReferenceIdeal := Cert.Relu2ReferenceIdeal.Gen.facts) := by
  intro m ρ m' ρ' hpre hag
  refine ⟨_, _, (θ_run _ _ _).mono (fun r h c => ⟨(h c).1.1, (h c).1.2, (h c).2⟩) (results m ρ),
    (θ_run _ _ _).mono (fun r h c => ?_) (Cert.Relu2ReferenceIdeal.Value.run (F := Ideal) m' ρ')⟩
  obtain ⟨a0, a1, a2, a3⟩ := hag c
  obtain ⟨r0, r1, k⟩ := h c
  refine ⟨(r0.trans (Cert.Relu2ReferenceIdeal.Read.val_main_v13_eq _ _ _ _)).trans (funext fun j => ?_),
    (r1.trans (Cert.Relu2ReferenceIdeal.Read.val_main_v16_eq _ _)).trans (funext fun j => ?_), k⟩
  · rw [a0, a1, a2, a3]
    exact ((congrArg _ (eq_ix2 j)).trans (ref_grad _ _ _ _ (j 0) (j 1))).trans (congrArg _ (eq_ix2 j).symm)
  · rw [a0, a1]
    exact ((congrArg _ (eq_ix2 j)).trans (ref_sq _ _ (j 0) (j 1))).trans (congrArg _ (eq_ix2 j).symm)

end Cert.Relu2Claim

end
-- ==== Proof.GateRun.lean ====
/- The run of the gates' two calls: every buffer ends at the contents the last segment leaves. -/
module

public import proofs.«01_k».proof.Proof.Gen.GateKernelIdeal.Frame

@[expose] public section

set_option maxRecDepth 16384
set_option backward.isDefEq.respectTransparency.types false

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GateRun

open Cert.GateKernelIdeal Cert.GateKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution of @main terminates with every unscoped buffer at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.GateRun

end
-- ==== Proof.GateMath.lean ====
/- The log-sigmoid gates over the reals: the two ways the gate and its derivative are written, sums within groups of 16 rows, and rows padded by zeros. -/
module

public import proofs.«01_k».proof.Proof.Lift
public import Idealize.ShloMosaic.Lib.Pipeline.ValueKit

@[expose] public section

noncomputable section

open Idealize.ShloMosaic

namespace Cert.GateMath

open Cert.Lift

/-- The value 16 of a float word. -/
theorem ofBits_16 : Ideal.ofBits .f32 0x41800000#32 = ((16 : ℝ) : EReal) := by
  simp [Ideal.ofBits, Ideal.ieee, -EReal.coe_mul]; norm_num

/-- The value 1/16 of a float word. -/
theorem ofBits_sixteenth : Ideal.ofBits .f32 0x3D800000#32 = ((1 / 16 : ℝ) : EReal) := by
  simp [Ideal.ofBits, Ideal.ieee, -EReal.coe_mul]; norm_num

/-- The smaller of two reals. -/
theorem min_real (a b : ℝ) : min (a : EReal) (b : EReal) = ((min a b : ℝ) : EReal) :=
  (EReal.coe_strictMono.monotone.map_min (a := a) (b := b)).symm

/-- The absolute value of a real. -/
theorem abs_real (a : ℝ) : FloatOps.absf (F := Ideal) (φ := .f32) (a : EReal) = ((|a| : ℝ) : EReal) := by
  show max (a : EReal) (-(a : EReal)) = _
  rw [← EReal.coe_neg, max_real]; rfl

/-- The logarithm of one plus a positive real. -/
theorem log1p_real {a : ℝ} (h : 0 < a) : Ideal.log1p (a : EReal) = ((Real.log (1 + a) : ℝ) : EReal) := by
  unfold Ideal.log1p
  rw [← EReal.coe_one, ← EReal.coe_add, Ideal.log_coe, if_neg (by linarith)]

/-- The exponential of minus the absolute value. -/
def ex (z : ℝ) : ℝ := Real.exp (-|z|)

/-- An exponential is positive. -/
theorem ex_pos (z : ℝ) : 0 < ex z := Real.exp_pos _

/-- The gate: the log-sigmoid over 16. -/
def gate (z : ℝ) : ℝ := (min z 0 - Real.log (1 + ex z)) * (1 / 16)

/-- Its derivative: the sigmoid of `-z` over 16. -/
def slope (z : ℝ) : ℝ := (if 0 ≤ z then ex z * (1 / (1 + ex z)) else 1 / (1 + ex z)) * (1 / 16)

/-- The gate as minus the softplus of `-z`. -/
theorem gate_softplus (z : ℝ) : -(max (-z) 0 + Real.log (1 + ex z)) / 16 = gate z := by
  have h : min z 0 = -max (-z) 0 := by
    rcases le_total 0 z with h | h
    · rw [min_eq_right h, max_eq_right (by linarith), neg_zero]
    · rw [min_eq_left h, max_eq_left (by linarith), neg_neg]
  rw [gate, h]; ring

/-- The derivative as the exponential of `-z` minus its softplus. -/
theorem slope_exp (z : ℝ) : Real.exp (-z - (max (-z) 0 + Real.log (1 + ex z))) = slope z * 16 := by
  have hp : 0 < 1 + ex z := by have := ex_pos z; linarith
  rw [show -z - (max (-z) 0 + Real.log (1 + ex z)) = (-z - max (-z) 0) - Real.log (1 + ex z) by ring, Real.exp_sub, Real.exp_log hp, slope]
  by_cases h : 0 ≤ z
  · rw [if_pos h, max_eq_right (by linarith), sub_zero, show Real.exp (-z) = ex z by rw [ex, abs_of_nonneg h]]; ring
  · rw [if_neg h, max_eq_left (by linarith), sub_self, Real.exp_zero]; ring

/-- Entry `(g, j, c)` of a window sum over 16 rows of a group, the window padded to start at row `j - lo`. -/
theorem window_sum {G C lo hi : ℕ} (x : (⟨3, ![G, 16, C]⟩ : Shape).Idx → EReal)
    (h : (⟨3, ![G, 16, C]⟩ : Shape).ReduceWindows ![1, 16, 1] ![1, 1, 1] ![0, lo, 0] ![0, hi, 0] ⟨3, ![G, 16, C]⟩) (g : Fin G) (j : Fin 16) (c : Fin C) :
    Ideal.hostReduceWindowAdd ![1, 16, 1] ![1, 1, 1] ![0, lo, 0] ![0, hi, 0] h x 0 (ix3 g j c)
      = ∑ n : Fin 16, if hn : lo ≤ j.val + n.val ∧ j.val + n.val - lo < 16 then x (ix3 g ⟨j.val + n.val - lo, hn.2⟩ c) else 0 := by
  have hW : ∀ n : Fin (⟨3, ![1, 16, 1]⟩ : Shape).numel, ((⟨3, ![1, 16, 1]⟩ : Shape).rowMajor.symm n 0).val = 0
      ∧ ((⟨3, ![1, 16, 1]⟩ : Shape).rowMajor.symm n 1).val = n.val ∧ ((⟨3, ![1, 16, 1]⟩ : Shape).rowMajor.symm n 2).val = 0 := by decide +kernel
  have hf : ∀ (M : ℕ) (f : Fin M → EReal) (v : EReal), (List.finRange M).foldl (fun r n => r + f n) v = v + ∑ n, f n := fun M f v => by
    rw [Fin.sum_univ_def]
    generalize List.finRange M = l
    induction l generalizing v with
    | nil => simp
    | cons a l ih => rw [List.foldl_cons, ih, List.map_cons, List.sum_cons, add_assoc]
  unfold Ideal.hostReduceWindowAdd Host.reduceWindow
  refine (hf _ _ _).trans ?_
  rw [zero_add]
  have hN : (⟨3, ![1, 16, 1]⟩ : Shape).numel = 16 := by decide +kernel
  refine Fintype.sum_equiv (finCongr hN) _ _ fun n => ?_
  obtain ⟨h0, h1, h2⟩ := hW n
  have hg := g.isLt
  have hc := c.isLt
  have e0 : g.val * 1 + ((⟨3, ![1, 16, 1]⟩ : Shape).rowMajor.symm n 0).val = g.val := by omega
  have e1 : j.val * 1 + ((⟨3, ![1, 16, 1]⟩ : Shape).rowMajor.symm n 1).val = j.val + (finCongr hN n).val := by rw [h1, mul_one]; rfl
  have e2 : c.val * 1 + ((⟨3, ![1, 16, 1]⟩ : Shape).rowMajor.symm n 2).val = c.val := by omega
  by_cases hn : lo ≤ j.val + (finCongr hN n).val ∧ j.val + (finCongr hN n).val - lo < 16
  · rw [dif_pos hn]
    refine (dif_pos fun a => ?_).trans (congrArg x (funext fun a => Fin.ext ?_))
    · match a with
      | ⟨0, _⟩ => exact ⟨Nat.zero_le _, lt_of_eq_of_lt (congrArg (· - 0) e0) hg⟩
      | ⟨1, _⟩ => exact ⟨hn.1.trans_eq e1.symm, lt_of_eq_of_lt (congrArg (· - lo) e1) hn.2⟩
      | ⟨2, _⟩ => exact ⟨Nat.zero_le _, lt_of_eq_of_lt (congrArg (· - 0) e2) hc⟩
    · match a with
      | ⟨0, _⟩ => exact congrArg (· - 0) e0
      | ⟨1, _⟩ => exact congrArg (· - lo) e1
      | ⟨2, _⟩ => exact congrArg (· - 0) e2
  · rw [dif_neg hn]
    refine dif_neg fun ha => hn ?_
    exact ⟨(ha 1).1.trans_eq e1, lt_of_eq_of_lt (congrArg (· - lo) e1).symm (ha 1).2⟩

/-- The same of the host's operation, its initial value being zero. -/
theorem host_window_sum {G C lo hi : ℕ} {u : Shape} (x : FVec Ideal ⟨3, ![G, 16, C]⟩ .f32) (init : FVec Ideal u .f32)
    (h : (⟨3, ![G, 16, C]⟩ : Shape).ReduceWindows ![1, 16, 1] ![1, 1, 1] ![0, lo, 0] ![0, hi, 0] ⟨3, ![G, 16, C]⟩) (hu : 0 < u.numel)
    (h0 : init (Shape.Idx.first hu) = 0) (g : Fin G) (j : Fin 16) (c : Fin C) :
    Host.reduceWindowAdd ![1, 16, 1] ![1, 1, 1] ![0, lo, 0] ![0, hi, 0] x init h hu (ix3 g j c)
      = ∑ n : Fin 16, if hn : lo ≤ j.val + n.val ∧ j.val + n.val - lo < 16 then x (ix3 g ⟨j.val + n.val - lo, hn.2⟩ c) else 0 := by
  unfold Host.reduceWindowAdd
  rw [h0]
  exact window_sum x h g j c

/-- The running sum within a group: the window reaching back over the group. -/
theorem sum_back {M : Type} [AddCommMonoid M] (f : Fin 16 → M) (j : Fin 16) :
    (∑ n : Fin 16, if hn : 15 ≤ j.val + n.val ∧ j.val + n.val - 15 < 16 then f ⟨j.val + n.val - 15, hn.2⟩ else 0) = ∑ i : Fin 16, if i.val ≤ j.val then f i else 0 := by
  refine Fintype.sum_equiv (Equiv.addRight (j + 1)) _ _ fun n => ?_
  have hv : (n + (j + 1)).val = (n.val + (j.val + 1) % 16) % 16 := by rw [Fin.val_add, Fin.val_add]; rfl
  simp only [Equiv.coe_addRight, hv]
  split_ifs <;> first | omega | rfl | exact congrArg f (Fin.ext (by rw [hv]; dsimp only; omega))

/-- The running sum from a group's end: the window reaching on over the group. -/
theorem sum_on {M : Type} [AddCommMonoid M] (f : Fin 16 → M) (j : Fin 16) :
    (∑ n : Fin 16, if hn : 0 ≤ j.val + n.val ∧ j.val + n.val - 0 < 16 then f ⟨j.val + n.val - 0, hn.2⟩ else 0) = ∑ i : Fin 16, if j.val ≤ i.val then f i else 0 := by
  refine Fintype.sum_equiv (Equiv.addRight j) _ _ fun n => ?_
  have hv : (n + j).val = (n.val + j.val) % 16 := Fin.val_add n j
  simp only [Equiv.coe_addRight, hv]
  split_ifs <;> first | omega | rfl | exact congrArg f (Fin.ext (by rw [hv]; dsimp only; omega))

/-- Row `i` of the group of 16 that row `t` lies in. -/
def grp (t : Fin 4096) (i : Fin 16) : Fin 4096 := ⟨t.val / 16 * 16 + i.val, by omega⟩

/-- The sum of a group's rows up to row `t`, -/
def upTo (G : Fin 4096 → ℝ) (t : Fin 4096) : ℝ := ∑ i : Fin 16, if i.val ≤ t.val % 16 then G (grp t i) else 0

/-- and from row `t` on. -/
def fromOn (G : Fin 4096 → ℝ) (t : Fin 4096) : ℝ := ∑ i : Fin 16, if t.val % 16 ≤ i.val then G (grp t i) else 0

/-- The mask of a block of 256 rows: one where row `k` is of row `r`'s group and not after it. -/
def mask (r k : Fin 256) : ℝ := if r.val / 16 = k.val / 16 ∧ k.val ≤ r.val then 1 else 0

/-- Row `r` of block `t` of 256 rows. -/
def brow (t : Fin 16) (r : Fin 256) : Fin 4096 := ⟨t.val * 256 + r.val, by omega⟩

/-- A block's sum under a condition that holds in one group only is a sum over that group. -/
theorem sum_group (G : Fin 4096 → ℝ) (t : Fin 16) (r : Fin 256) (q : ℕ → Prop) [DecidablePred q] (w : Fin 256 → ℝ)
    (hw : ∀ k, w k = if r.val / 16 = k.val / 16 ∧ q (k.val % 16) then 1 else 0) :
    ∑ k, w k * G (brow t k) = ∑ i : Fin 16, if q i.val then G (grp (brow t r) i) else 0 := by
  have h : ∑ k, w k * G (brow t k) = ∑ a : Fin 16, ∑ b : Fin 16, w ⟨a.val * 16 + b.val, by omega⟩ * G (brow t ⟨a.val * 16 + b.val, by omega⟩) :=
    (Fin.sum_mul_add_congr (fun a b _ => rfl) (by norm_num)).symm
  rw [h, Finset.sum_eq_single (⟨r.val / 16, by omega⟩ : Fin 16)]
  · refine Finset.sum_congr rfl fun b _ => ?_
    rw [hw, show (r.val / 16 * 16 + b.val) % 16 = b.val by omega]
    by_cases hq : q b.val
    · rw [if_pos ⟨by dsimp only; omega, hq⟩, if_pos hq, one_mul]
      exact congrArg G (Fin.ext (by simp only [brow, grp]; omega))
    · rw [if_neg fun h => hq h.2, if_neg hq, zero_mul]
  · intro a _ ha
    refine Finset.sum_eq_zero fun b _ => ?_
    rw [hw, if_neg, zero_mul]
    rintro ⟨h, -⟩
    exact ha (Fin.ext (by dsimp only at h ⊢; omega))
  · exact fun h => absurd (Finset.mem_univ _) h

/-- The masked block product is the running sum within the group, -/
theorem mask_sum (G : Fin 4096 → ℝ) (t : Fin 16) (r : Fin 256) : ∑ k, mask r k * G (brow t k) = upTo G (brow t r) := by
  refine (sum_group G t r (· ≤ r.val % 16) _ fun k => ?_).trans ?_
  · rw [mask]; congr 1; apply propext; omega
  · rw [upTo, show (brow t r).val % 16 = r.val % 16 by simp only [brow]; omega]

/-- and with the mask turned over, the running sum from the group's end. -/
theorem mask_sum_on (G : Fin 4096 → ℝ) (t : Fin 16) (r : Fin 256) : ∑ k, mask k r * G (brow t k) = fromOn G (brow t r) := by
  refine (sum_group G t r (r.val % 16 ≤ ·) _ fun k => ?_).trans ?_
  · rw [mask]; congr 1; apply propext; omega
  · rw [fromOn, show (brow t r).val % 16 = r.val % 16 by simp only [brow]; omega]

/-- Sixteen numbers, then zeros up to 128. -/
def padded (f : Fin 16 → ℝ) (k : Fin 128) : ℝ := if h : k.val < 16 then f ⟨k.val, h⟩ else 0

/-- The product of two padded rows is that of the sixteen numbers. -/
theorem padded_dot (f g : Fin 16 → ℝ) : ∑ k, padded f k * padded g k = ∑ k, f k * g k := by
  rw [show ∑ k : Fin 128, padded f k * padded g k = ∑ k : Fin (16 + 112), padded f k * padded g k from rfl, Fin.sum_univ_add]
  rw [Finset.sum_eq_zero (s := Finset.univ) (f := fun i : Fin 112 => _) fun i _ => ?_, add_zero]
  · refine Finset.sum_congr rfl fun k _ => ?_
    simp [padded]
  · simp [padded]

/-- The gate's argument at row `t`, column `l`. -/
def lin (L : Fin 4096 → Fin 16 → ℝ) (W : Fin 16 → Fin 512 → ℝ) (B : Fin 512 → ℝ) (t : Fin 4096) (l : Fin 512) : ℝ := ∑ k, L t k * W k l + B l

/-- The gradient of the gate's argument. -/
def dz (L : Fin 4096 → Fin 16 → ℝ) (W : Fin 16 → Fin 512 → ℝ) (B : Fin 512 → ℝ) (D : Fin 4096 → Fin 512 → ℝ) (t : Fin 4096) (l : Fin 512) : ℝ :=
  fromOn (D · l) t * slope (lin L W B t l)

end Cert.GateMath

end
-- ==== Proof.GatePoint.lean ====
/- One grid point of the gates' two kernels, over blocks that hold real numbers. -/
module

public import proofs.«01_k».proof.Proof.GateRun
public import proofs.«01_k».proof.Proof.GateMath
public import Idealize.ShloMosaic.Lib.Pipeline.ValueKit

@[expose] public section

set_option maxRecDepth 16384

noncomputable section

open Idealize.ShloMosaic Idealize.ShloMosaic.TcCoe Idealize.SL.Sem

namespace Cert.GatePoint

open Cert.GateKernelIdeal Cert.GateKernelIdeal.Gen
open Cert.Lift Cert.GateMath

variable {L : Fin 4096 → Fin 16 → ℝ} {W : Fin 16 → Fin 512 → ℝ} {B : Fin 512 → ℝ} {D : Fin 4096 → Fin 512 → ℝ} (T : Fin 16)

/-- A point of the forward kernel, over its block's real numbers: the running sums of the gates, and the gate's derivative. -/
theorem fwd (x0 : Vec Ideal S256x128 .f32) (x1 : Vec Ideal S128x512 .bf16) (x2 : Vec Ideal S1x512 .f32) (x3 : Vec Ideal S256x256 .f32)
    (h0 : ∀ r k, x0 (ix2 r k) = ((padded (L (brow T r)) k : ℝ) : EReal)) (h1 : ∀ k l, x1 (ix2 k l) = ((padded (W · l) k : ℝ) : EReal))
    (h2 : ∀ l, x2 (ix2 0 l) = ((B l : ℝ) : EReal)) (h3 : ∀ r k, x3 (ix2 r k) = ((mask r k : ℝ) : EReal)) (r : Fin 256) (l : Fin 512) :
    out0_4 x0 x1 x2 x3 (ix2 r l) = ((upTo (fun t => gate (lin L W B t l)) (brow T r) : ℝ) : EReal)
    ∧ out0_5 x0 x1 x2 x3 (ix2 r l) = ((GateMath.slope (lin L W B (brow T r) l) : ℝ) : EReal) := by
  have z (r) : ∑ k, x0 (ix2 r k) * x1 (ix2 k l) + x2 (ix2 0 l) = ((lin L W B (brow T r) l : ℝ) : EReal) := by
    simp only [h0, h1, h2, ← EReal.coe_mul, ← EReal.coe_add, coe_sum, padded_dot]; rfl
  have e (x : ℝ) : Ideal.exp (((0 : ℝ) : EReal) - FloatOps.absf (F := Ideal) (φ := .f32) (x : EReal)) = ((ex x : ℝ) : EReal) := by
    rw [abs_real, ← EReal.coe_sub, zero_sub, Ideal.exp_coe]; rfl
  have p (x : ℝ) : 1 + ex x ≠ 0 := by have := ex_pos x; linarith
  refine ⟨?_, ?_⟩
  · rw [← mask_sum, ← coe_sum]
    frame_out
    open_payloads
    pointwise
    simp only [z, e, h3, log1p_real (ex_pos _), ofBits_sixteenth, ← EReal.coe_zero, min_real, ← EReal.coe_sub, ← EReal.coe_mul]
    rfl
  · frame_out
    open_payloads
    pointwise
    simp only [z, e, ofBits_sixteenth, ← EReal.coe_zero, ← EReal.coe_one, ← EReal.coe_add, div_real (p _), EReal.coe_le_coe_iff, ← EReal.coe_mul]
    unfold GateMath.slope
    split_ifs <;> rw [← EReal.coe_mul]

/-- A sum of products with a padded row is a padded sum. -/
theorem padded_sum {ι : Type} [Fintype ι] (f : ι → ℝ) (g : ι → Fin 16 → ℝ) (k : Fin 128) : ∑ i, f i * padded (g i) k = padded (fun k => ∑ i, f i * g i k) k := by
  unfold padded
  split_ifs <;> simp

/-- What a point of the backward kernel is handed: a block of the incoming gradient and of the gates' derivatives, of the low-rank input, the
    weight, and the mask turned over. -/
structure Handed (L : Fin 4096 → Fin 16 → ℝ) (W : Fin 16 → Fin 512 → ℝ) (B : Fin 512 → ℝ) (D : Fin 4096 → Fin 512 → ℝ) (T : Fin 16) (y0 y1 : Vec Ideal S256x512 .f32)
    (y2 : Vec Ideal S256x128 .f32) (y3 : Vec Ideal S128x512 .bf16) (y4 : Vec Ideal S256x256 .f32) : Prop where
  d : ∀ r l, y0 (ix2 r l) = ((D (brow T r) l : ℝ) : EReal)
  s : ∀ r l, y1 (ix2 r l) = ((GateMath.slope (lin L W B (brow T r) l) : ℝ) : EReal)
  lo : ∀ r k, y2 (ix2 r k) = ((padded (L (brow T r)) k : ℝ) : EReal)
  w : ∀ k l, y3 (ix2 k l) = ((padded (W · l) k : ℝ) : EReal)
  tri : ∀ r k, y4 (ix2 r k) = ((mask k r : ℝ) : EReal)

/-- A point of the backward kernel, over its block's real numbers: the block's gradient with respect to the low-rank input, and what it adds to the
    weight's and the bias's (the first point starts both). -/
theorem bwd (c : Dev nD) (t : Fin cfg1.N) (y0 y1 : Vec Ideal S256x512 .f32) (y2 : Vec Ideal S256x128 .f32) (y3 : Vec Ideal S128x512 .bf16) (y4 : Vec Ideal S256x256 .f32)
    (H : Handed L W B D T y0 y1 y2 y3 y4) (r : Fin 256) (k : Fin 128) (l : Fin 512) :
    (∀ hc, out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 (ix2 r k) = ((padded (fun k => ∑ l, dz L W B D (brow T r) l * W k l) k : ℝ) : EReal)
      ∧ out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 (ix2 k l) = ((∑ r, padded (L (brow T r)) k * dz L W B D (brow T r) l : ℝ) : EReal)
      ∧ out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 (ix2 0 l) = ((∑ r, dz L W B D (brow T r) l : ℝ) : EReal))
    ∧ ∀ hc p6 p7, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 p6 p7 (ix2 r k) = ((padded (fun k => ∑ l, dz L W B D (brow T r) l * W k l) k : ℝ) : EReal)
      ∧ out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 p6 p7 (ix2 k l) = p6 (ix2 k l) + ((∑ r, padded (L (brow T r)) k * dz L W B D (brow T r) l : ℝ) : EReal)
      ∧ out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc y0 y1 y2 y3 y4 p6 p7 (ix2 0 l) = p7 (ix2 0 l) + ((∑ r, dz L W B D (brow T r) l : ℝ) : EReal) := by
  have z (r l) : (∑ x, y4 (ix2 r x) * y0 (ix2 x l)) * y1 (ix2 r l) = ((dz L W B D (brow T r) l : ℝ) : EReal) := by
    simp only [H.d, H.s, H.tri, ← EReal.coe_mul, coe_sum, mask_sum_on (D · l)]; rfl
  refine ⟨fun hc => ⟨?_, ?_, ?_⟩, fun hc p6 p7 => ⟨?_, ?_, ?_⟩⟩ <;>
  · frame_out
    open_payloads
    pointwise
    simp only [z, H.lo, H.w, ← EReal.coe_mul, coe_sum, padded_sum]

end Cert.GatePoint

end
-- ==== Proof.GateRef.lean ====
/- The reference's gates and their gradients, read at an element: over finite arguments they are the real functions of `GateMath`. -/
module

public import proofs.«01_k».proof.Proof.Gen.GateReferenceIdeal.Read
public import proofs.«01_k».proof.Proof.GateMath
public import Idealize.ShloMosaic.Lib.Pipeline.ValueKit

@[expose] public section

set_option maxRecDepth 16384

noncomputable section

open Idealize.ShloMosaic Idealize.ShloMosaic.TcCoe Idealize.SL.Sem

namespace Cert.GateRef

open Cert.GateReferenceIdeal Cert.GateReferenceIdeal.Gen Cert.GateReferenceIdeal.Read
open Cert.Lift Cert.GateMath

/-- The word of the integer zero as a float. -/
theorem sitofp_zero : FloatOps.sitofp (F := Ideal) .f32 (0#32) = ((0 : ℝ) : EReal) := by
  show (((0#32).toInt : ℝ) : EReal) = _
  simp

variable (x0 : FVec Ideal S4096x4368 .f32) (x1 : FVec Ideal S16x512 .f32) (x2 : FVec Ideal S1x512 .f32) (x3 : FVec Ideal S4096x512 .f32)
  (L : Fin 4096 → Fin 16 → ℝ) (W : Fin 16 → Fin 512 → ℝ) (B : Fin 512 → ℝ) (D : Fin 4096 → Fin 512 → ℝ)

/-- The arguments are these real arrays; of the projection only the gates' sixteen columns are named. -/
structure Reals : Prop where
  lo : ∀ t (k : Fin 16), x0 (ix2 t ⟨3072 + k.val, by omega⟩) = ((L t k : ℝ) : EReal)
  w : ∀ k l, x1 (ix2 k l) = ((W k l : ℝ) : EReal)
  b : ∀ l, x2 (ix2 0 l) = ((B l : ℝ) : EReal)
  d : ∀ t l, x3 (ix2 t l) = ((D t l : ℝ) : EReal)

variable {x0 x1 x2 x3 L W B D} (H : Reals x0 x1 x2 x3 L W B D)
include H

/-- The gate's argument. -/
theorem lin_real (t : Fin 4096) (l : Fin 512) : val_main_v5 (F := Ideal) x0 x1 x2 (ix2 t l) = ((lin L W B t l : ℝ) : EReal) := by
  pointwise [val_main_v0, val_main_v1, val_main_v2, val_main_v3, val_main_v4, val_main_v5]
  simp only [H.lo, H.w, H.b, ← EReal.coe_mul, ← EReal.coe_add, coe_sum]
  rfl

/-- The negated low-rank product, as a real number. -/
theorem neg_real (t : Fin 4096) (l : Fin 512) : val_main_call0_v0 (F := Ideal) x0 x1 x2 (ix2 t l) = ((-lin L W B t l : ℝ) : EReal) := by
  pointwise [val_main_call0_v0]
  rw [lin_real H, EReal.coe_neg]

/-- The softplus of minus the argument. -/
theorem softplus_real (t : Fin 4096) (l : Fin 512) :
    val_main_call0_v1_0 (F := Ideal) x0 x1 x2 (ix2 t l) = ((max (-lin L W B t l) 0 + Real.log (1 + ex (lin L W B t l)) : ℝ) : EReal) := by
  pointwise [val_main_call0_v1_0, val_main_call0_call0_v4, val_main_call0_call0_v6, val_main_call0_call0_v11, val_main_call0_call0_v10, val_main_call0_call0_v9, val_main_call0_call0_v8,
    val_main_call0_call0_v7, val_main_call0_call0_v5, val_main_call0_call0_v3, val_main_call0_call0_v2, val_main_call0_call0_v1, val_main_call0_call0_v0, val_main_call0_call0_cst]
  rw [if_neg (fun h => h rfl), neg_real H, abs_real, ← EReal.coe_neg, Ideal.exp_coe, abs_neg, log1p_real (Real.exp_pos _), ← EReal.coe_zero, max_real, ← EReal.coe_add]
  rfl

/-- The gate. -/
theorem gate_real (t : Fin 4096) (l : Fin 512) : val_main_v8 (F := Ideal) x0 x1 x2 (ix2 t l) = ((gate (lin L W B t l) : ℝ) : EReal) := by
  pointwise [val_main_v8, val_main_v7, val_main_v6_0, val_main_cst]
  simp (disch := norm_num) only [softplus_real H, ofBits_16, ← EReal.coe_neg, div_real, gate_softplus]

/-- The gate's derivative, times 16. -/
theorem slope_real (t : Fin 4096) (l : Fin 512) : val_main_v6_1 (F := Ideal) x0 x1 x2 (ix2 t l) = ((GateMath.slope (lin L W B t l) * 16 : ℝ) : EReal) := by
  pointwise [val_main_v6_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3]
  simp only [softplus_real H, neg_real H, ofBits_inf, EReal.coe_ne_top, if_false]
  rw [← EReal.coe_sub, Ideal.exp_coe, slope_exp]

/-- The gates' running sums. -/
theorem sums_real (t : Fin 4096) (l : Fin 512) :
    val_main_v11 (F := Ideal) x0 x1 x2 (ix2 t l) = ((upTo (fun t => gate (lin L W B t l)) t : ℝ) : EReal) := by
  pointwise [val_main_v11, val_main_v10]
  refine (host_window_sum _ _ _ _ (by pointwise [val_main_call1_call0_v0, val_main_call1_call0_cst]) _ _ _).trans ((sum_back (fun i => val_main_v9 (F := Ideal) x0 x1 x2 (ix3 _ i l)) _).trans ?_)
  rw [upTo, ← coe_sum]
  refine Finset.sum_congr rfl fun i _ => ?_
  pointwise [val_main_v9]
  rw [gate_real H]
  split_ifs <;> rfl

/-- The gradient of the gate's argument. -/
theorem dz_real (t : Fin 4096) (l : Fin 512) : val_main_v17 (F := Ideal) x0 x1 x2 x3 (ix2 t l) = ((dz L W B D t l : ℝ) : EReal) := by
  have e : val_main_v14 (F := Ideal) x3 (ix2 t l) = ((fromOn (D · l) t : ℝ) : EReal) := by
    pointwise [val_main_v14, val_main_v13]
    refine (host_window_sum _ _ _ _ (by pointwise [val_main_call2_call0_v0, val_main_call2_call0_cst]) _ _ _).trans ((sum_on (fun i => val_main_v12 (F := Ideal) x3 (ix3 _ i l)) _).trans ?_)
    rw [fromOn, ← coe_sum]
    refine Finset.sum_congr rfl fun i _ => ?_
    pointwise [val_main_v12]
    rw [H.d]
    split_ifs <;> rfl
  pointwise [val_main_v17, val_main_call3_v1, val_main_call3_v0, val_main_v16, val_main_v15, val_main_cst_0]
  simp (disch := norm_num) only [e, slope_real H, ofBits_16, div_real, ← EReal.coe_neg, ← EReal.coe_mul, EReal.coe_eq_coe_iff]
  unfold dz; ring

/-- The bias's gradient. -/
theorem db_real (l : Fin 512) : val_main_v21 (F := Ideal) x0 x1 x2 x3 (ix2 0 l) = ((∑ t, dz L W B D t l : ℝ) : EReal) := by
  pointwise [val_main_v18, val_main_v19, val_main_v20, val_main_v21, val_main_cst_1, val_main_cst_2]
  simp only [dz_real H, coe_sum, Finset.univ_unique, Finset.sum_singleton]

/-- The weight's gradient. -/
theorem dw_real (k : Fin 128) (l : Fin 512) : val_main_v26 (F := Ideal) x0 x1 x2 x3 (ix2 k l) = ((padded (fun k => ∑ t, L t k * dz L W B D t l) k : ℝ) : EReal) := by
  pointwise [val_main_v22, val_main_v23, val_main_v26, val_main_v0, val_main_call5_v0, val_main_c_3]
  unfold padded
  split_ifs with h
  · simp only [dz_real H, H.lo _ ⟨k.val, h⟩, ← EReal.coe_mul, coe_sum, EReal.coe_eq_coe_iff, mul_comm]
  · exact sitofp_zero

/-- The low-rank input's gradient. -/
theorem dlo_real (t : Fin 4096) (k : Fin 128) : val_main_v27 (F := Ideal) x0 x1 x2 x3 (ix2 t k) = ((padded (fun k => ∑ l, dz L W B D t l * W k l) k : ℝ) : EReal) := by
  pointwise [val_main_v24, val_main_v25, val_main_v27, val_main_call4_v0, val_main_c]
  unfold padded
  split_ifs with h
  · simp only [dz_real H, H.w, ← EReal.coe_mul, coe_sum]
  · exact sitofp_zero

end Cert.GateRef

end
-- ==== Proof.GateArrays.lean ====
/- What the gates' two kernels are handed, and what they leave in their result arrays, over arguments that hold real numbers. -/
module

public import proofs.«01_k».proof.Proof.GatePoint
public import proofs.«01_k».proof.Proof.GateRef
public import proofs.«01_k».proof.Proof.GateRun
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateArrays

open Cert.GateKernelIdeal Cert.GateKernelIdeal.Gen
open Cert.Lift Cert.GateMath Cert.GatePoint

/-- Every window's block at every grid point of the forward call, -/
theorem idx0 : ∀ t : Fin cfg0.N, win0_0.index t = ![t.val, 34] ∧ win0_1.index t = ![0, 0] ∧ win0_2.index t = ![0, 0] ∧ win0_3.index t = ![0, 0]
    ∧ win0_4.index t = ![t.val, 0] ∧ win0_5.index t = ![t.val, 0] := (by decide +kernel : ∀ t : Fin grid0.N, _)

/-- and of the backward call. -/
theorem idx1 : ∀ t : Fin cfg1.N, win1_0.index t = ![t.val, 0] ∧ win1_1.index t = ![t.val, 0] ∧ win1_2.index t = ![t.val, 34] ∧ win1_3.index t = ![0, 0]
    ∧ win1_4.index t = ![0, 0] ∧ win1_5.index t = ![t.val, 0] ∧ win1_6.index t = ![0, 0] ∧ win1_7.index t = ![0, 0] := (by decide +kernel : ∀ t : Fin grid1.N, _)

/-- A point of the forward call, of 16, -/
def pt0 (t : Fin cfg0.N) : Fin 16 := ⟨t.val, t.isLt.trans_eq N_0⟩

/-- and of the backward call. -/
def pt1 (t : Fin cfg1.N) : Fin 16 := ⟨t.val, t.isLt.trans_eq N_1⟩

variable (m : (ℓ : Loc nD τ sig) → Buf (Elt Ideal) ℓ) (ρ : Dev nD → PrngReg) (c : Dev nD)

/-- The floor of a row number over 16, as the host computes it on words. -/
theorem quotient : ∀ r : Fin 256,
    Scalar.select (IntOp.andi (IntOp.cmpi CmpIPredicate.ne (if BitVec.ofNat 32 r.val = 0 then 0 else if (BitVec.ofNat 32 r.val).msb = true then -1 else 1 : BitVec 32)
      (if 16#32 = 0 then 0 else if (16#32).msb = true then -1 else 1 : BitVec 32)) (IntOp.cmpi CmpIPredicate.ne (IntOp.remsi ArithUnit.host (BitVec.ofNat 32 r.val) 16#32) 0#32))
      (IntOp.subi (IntOp.divsi ArithUnit.host (BitVec.ofNat 32 r.val) 16#32) 1#32) (IntOp.divsi ArithUnit.host (BitVec.ofNat 32 r.val) 16#32) = BitVec.ofNat 32 (r.val / 16) := by
  decide +kernel

/-- The number a conjunction of two conditions is turned into. -/
theorem bit_and (p q : Prop) [Decidable p] [Decidable q] :
    FloatOps.uitofp (F := Ideal) .f32 (IntOp.andi (BitVec.ofBool (decide p)) (BitVec.ofBool (decide q))) = ((if p ∧ q then 1 else 0 : ℝ) : EReal) := by
  by_cases hp : p <;> by_cases hq : q <;> simp [hp, hq, FloatOps.uitofp, IntOp.andi]

/-- The host's mask is the mask. -/
theorem entry_mask (r k : Fin 256) : V5 m ρ c main_v19 (ix2 r k) = ((mask r k : ℝ) : EReal) := by
  change StableHlo.after hostOps0_4 (W4 m ρ c) (Proc.devRef .tc main_v19) _ = _
  entry_read
  simp only [StableHlo.TRef.toBuf, StableHlo.TRef.ofBuf, cast_cast, cast_eq]
  pointwise
  refine (congrArg (FloatOps.uitofp .f32) (congrArg₂ IntOp.andi (congrArg₂ (IntOp.cmpi CmpIPredicate.eq) (quotient r) (quotient k)) rfl)).trans ?_
  rw [WordCmp.cmpi_eq_ofNat (by omega) (by omega), WordCmp.cmpi_sle_ofNat (by omega) (by omega)]
  unfold mask
  exact bit_and _ _

/-- Four runs of columns side by side. -/
def beside (a : FVec Ideal S4096x3072 .f32) (b : FVec Ideal S4096x1280 .f32) (d : FVec Ideal S4096x16 .f32) (z : FVec Ideal S4096x112 .f32) : FVec Ideal S4096x4480 .f32 :=
  concatenate S4096x4480 1 [⟨S4096x3072, a⟩, ⟨S4096x1280, b⟩, ⟨S4096x16, d⟩, ⟨S4096x112, z⟩] concatenates_S4096x3072_S4096x1280_S4096x16_S4096x112_S4096x4480_d1

/-- The projection with its sixteen gate columns moved to the end and filled up with zeros. -/
def columns (P : FVec Ideal S4096x4368 .f32) : FVec Ideal S4096x4480 .f32 :=
  beside (extractStridedSlice S4096x3072 ![0, 0] P slices_S4096x4368_S4096x3072_0_0) (extractStridedSlice S4096x1280 ![0, 3088] P slices_S4096x4368_S4096x1280_0_3088)
    (extractStridedSlice S4096x16 ![0, 3072] P slices_S4096x4368_S4096x16_0_3072) (broadcastInDim S4096x112 ![] bcast_S_S4096x112 (constant S_ .f32 0x00000000#32))

/-- The host reorders the projection so. -/
theorem entry_columns : W1 m ρ c (Proc.devRef .tc main_v4) = columns (m ((c : Thread nD τ).loc main_arg0)) := by
  show StableHlo.after hostOps0 (W0 m ρ c) (Proc.devRef .tc main_v4) = _
  rw [show m ((c : Thread nD τ).loc main_arg0) = W0 m ρ c (Proc.devRef .tc main_arg0) from rfl]
  generalize W0 m ρ c = V
  simp only [hostOps0, StableHlo.after_cons, StableHlo.after_nil]
  refine (StableHlo.nullary_result_ne _ _ _ _ (by decide)).trans ((StableHlo.unary_result_ne _ _ _ _ _ _ (by decide)).trans ((StableHlo.nullary_result_ne _ _ _ _ (by decide)).trans
    ((StableHlo.nary4_result _ _ _ _).trans ?_)))
  refine Eq.trans (b := beside _ _ _ _) rfl ?_
  unfold columns
  congr 1
  all_goals after_results_simp

/-- The last 128 of those columns. -/
theorem columns_last (P : FVec Ideal S4096x4368 .f32) (t : Fin 4096) (k : Fin 128) :
    columns P (ix2 t ⟨4352 + k.val, by omega⟩) = if h : k.val < 16 then P (ix2 t ⟨3072 + k.val, by omega⟩) else 0 := by
  unfold columns beside
  pointwise
  rw [dif_neg (by omega), dif_neg (by omega)]
  simp only [show 4352 + k.val - 3072 - 1280 = k.val by omega]

variable {L : Fin 4096 → Fin 16 → ℝ} {W : Fin 16 → Fin 512 → ℝ} {B : Fin 512 → ℝ} {D : Fin 4096 → Fin 512 → ℝ}
  (H : GateRef.Reals (m ((c : Thread nD τ).loc main_arg0)) (m ((c : Thread nD τ).loc main_arg1)) (m ((c : Thread nD τ).loc main_arg2))
    (m ((c : Thread nD τ).loc main_arg3)) L W B D)
include H

/-- The last 128 columns of the reordered projection: the gates' sixteen, and zeros. -/
theorem entry_lo (t : Fin 4096) (k : Fin 128) : V5 m ρ c main_v4 (ix2 t ⟨4352 + k.val, by omega⟩) = ((padded (L t) k : ℝ) : EReal) := by
  refine (congrFun ((W5_of m ρ c main_v4 (by decide)).trans ((W4_of m ρ c main_v4 (by decide)).trans ((W3_of m ρ c main_v4 (by decide)).trans
    ((W2_of m ρ c main_v4 (by decide)).trans (entry_columns m ρ c))))) _).trans ((columns_last _ t k).trans ?_)
  unfold padded
  split_ifs with h
  · exact H.lo t ⟨k.val, h⟩
  · rfl

/-- The weight, filled up with rows of zeros. -/
theorem entry_w (k : Fin 128) (l : Fin 512) : V5 m ρ c main_v22 (ix2 k l) = ((padded (W · l) k : ℝ) : EReal) := by
  change StableHlo.after hostOps0_4 (W4 m ρ c) (Proc.devRef .tc main_v22) _ = _
  entry_read
  pointwise
  unfold padded
  split_ifs with h
  · exact H.w ⟨k.val, h⟩ l
  · rfl

/-- The bias. -/
theorem entry_b (l : Fin 512) : V5 m ρ c main_arg2 (ix2 0 l) = ((B l : ℝ) : EReal) := by
  change StableHlo.after hostOps0_4 (W4 m ρ c) (Proc.devRef .tc main_arg2) _ = _
  entry_read
  exact H.b l

/-- What a point of the forward call leaves. -/
theorem left_fwd (t : Fin cfg0.N) (y : S256x512.Idx) :
    out0_4 (iblk0 (V5 m ρ) c 0 t) (iblk0 (V5 m ρ) c 1 t) (iblk0 (V5 m ρ) c 2 t) (iblk0 (V5 m ρ) c 3 t) y
      = ((upTo (fun t => gate (lin L W B t (y 1))) (brow (pt0 t) (y 0)) : ℝ) : EReal)
    ∧ out0_5 (iblk0 (V5 m ρ) c 0 t) (iblk0 (V5 m ρ) c 1 t) (iblk0 (V5 m ρ) c 2 t) (iblk0 (V5 m ρ) c 3 t) y
      = ((GateMath.slope (lin L W B (brow (pt0 t) (y 0)) (y 1)) : ℝ) : EReal) := by
  have h := fwd (L := L) (W := W) (B := B) (pt0 t) (iblk0 (V5 m ρ) c 0 t) (iblk0 (V5 m ρ) c 1 t) (iblk0 (V5 m ρ) c 2 t) (iblk0 (V5 m ρ) c 3 t)
    (fun r k => by rw [← entry_lo m ρ c H]; blk_ext [iblk0, brow, pt0, idx0 t])
    (fun k l => by rw [← entry_w m ρ c H]; blk_ext [iblk0, idx0 t])
    (fun l => by rw [← entry_b m ρ c H]; blk_ext [iblk0, idx0 t])
    (fun r k => by rw [← entry_mask m ρ c]; blk_ext [iblk0, idx0 t]) (y 0) (y 1)
  rw [eq_ix2 y]
  exact h

/-- The running sums of the gates, as an array, -/
def sumsArr (L : Fin 4096 → Fin 16 → ℝ) (W : Fin 16 → Fin 512 → ℝ) (B : Fin 512 → ℝ) (j : S4096x512.Idx) : EReal :=
  ((upTo (fun t => gate (lin L W B t (j 1))) (j 0) : ℝ) : EReal)

/-- and the gates' derivatives. -/
def slopeArr (L : Fin 4096 → Fin 16 → ℝ) (W : Fin 16 → Fin 512 → ℝ) (B : Fin 512 → ℝ) (j : S4096x512.Idx) : EReal :=
  ((GateMath.slope (lin L W B (j 0) (j 1)) : ℝ) : EReal)

/-- The forward call leaves the running sums, -/
theorem final_sums : (dat0 (V5 m ρ) c).arrAt 4 cfg0.N = sumsArr L W B := by
  refine (dat0 (V5 m ρ) c).arrAt_eq_of_covers 4 _ (by decide +kernel) fun t hf y => ?_
  blk_simp
  rw [after0_4]
  refine (show _ = sumsArr L W B (ix2 (brow (pt0 t) (y 0)) (y 1)) from (left_fwd m ρ c H t y).1).trans ?_
  blk_ext [brow, pt0, idx0 t]

/-- and the derivatives. -/
theorem final_slope : (dat0 (V5 m ρ) c).arrAt 5 cfg0.N = slopeArr L W B := by
  refine (dat0 (V5 m ρ) c).arrAt_eq_of_covers 5 _ (by decide +kernel) fun t hf y => ?_
  blk_simp
  rw [after0_5]
  refine (show _ = slopeArr L W B (ix2 (brow (pt0 t) (y 0)) (y 1)) from (left_fwd m ρ c H t y).2).trans ?_
  blk_ext [brow, pt0, idx0 t]

/-- The backward call's operands: the derivatives the forward call left, -/
theorem back_slope (r : Fin 4096) (l : Fin 512) : V7 m ρ c main_v23_1 (ix2 r l) = ((GateMath.slope (lin L W B r l) : ℝ) : EReal) :=
  congrFun (((W7_of m ρ c main_v23_1 (by decide)).trans (W6_arr m ρ c 5)).trans (final_slope m ρ c H)) (ix2 r l)

/-- the low-rank columns, -/
theorem back_lo (t : Fin 4096) (k : Fin 128) : V7 m ρ c main_v4 (ix2 t ⟨4352 + k.val, by omega⟩) = ((padded (L t) k : ℝ) : EReal) :=
  (congrFun ((W7_of m ρ c main_v4 (by decide)).trans (W6_arr m ρ c 0)) _).trans (entry_lo m ρ c H t k)

/-- the weight, -/
theorem back_w (k : Fin 128) (l : Fin 512) : V7 m ρ c main_v22 (ix2 k l) = ((padded (W · l) k : ℝ) : EReal) :=
  (congrFun ((W7_of m ρ c main_v22 (by decide)).trans (W6_arr m ρ c 1)) _).trans (entry_w m ρ c H k l)

omit H in
/-- the mask turned over, -/
theorem back_mask (r k : Fin 256) : V7 m ρ c main_v24 (ix2 r k) = ((mask k r : ℝ) : EReal) := by
  change StableHlo.after hostOps1 (W6 m ρ c) (Proc.devRef .tc main_v24) _ = _
  entry_read
  pointwise
  exact (congrFun (W6_arr m ρ c 3) _).trans (entry_mask m ρ c k r)

/-- and the gradient it is handed. -/
theorem back_d (r : Fin 4096) (l : Fin 512) : V7 m ρ c main_arg3 (ix2 r l) = ((D r l : ℝ) : EReal) :=
  (congrFun (W7_args m ρ c main_arg3 (by decide)) _).trans (H.d r l)

/-- What a point of the backward call is handed. -/
theorem handed (t : Fin cfg1.N) : Handed L W B D (pt1 t) (iblk1 (V7 m ρ) c 0 t) (iblk1 (V7 m ρ) c 1 t) (iblk1 (V7 m ρ) c 2 t) (iblk1 (V7 m ρ) c 3 t)
    (iblk1 (V7 m ρ) c 4 t) where
  d r l := by rw [← back_d m ρ c H]; blk_ext [iblk1, brow, pt1, idx1 t]
  s r l := by rw [← back_slope m ρ c H]; blk_ext [iblk1, brow, pt1, idx1 t]
  lo r k := by rw [← back_lo m ρ c H]; blk_ext [iblk1, brow, pt1, idx1 t]
  w k l := by rw [← back_w m ρ c H]; blk_ext [iblk1, idx1 t]
  tri r k := by rw [← back_mask m ρ c]; blk_ext [iblk1, idx1 t]

/-- The low-rank input's gradient, as an array, -/
def dloArr (L : Fin 4096 → Fin 16 → ℝ) (W : Fin 16 → Fin 512 → ℝ) (B : Fin 512 → ℝ) (D : Fin 4096 → Fin 512 → ℝ) (j : S4096x128.Idx) : EReal :=
  ((padded (fun k => ∑ l, dz L W B D (j 0) l * W k l) (j 1) : ℝ) : EReal)

/-- the weight's, -/
def dwArr (L : Fin 4096 → Fin 16 → ℝ) (W : Fin 16 → Fin 512 → ℝ) (B : Fin 512 → ℝ) (D : Fin 4096 → Fin 512 → ℝ) (j : S128x512.Idx) : EReal :=
  ((padded (fun k => ∑ t, L t k * dz L W B D t (j 1)) (j 0) : ℝ) : EReal)

/-- and the bias's. -/
def dbArr (L : Fin 4096 → Fin 16 → ℝ) (W : Fin 16 → Fin 512 → ℝ) (B : Fin 512 → ℝ) (D : Fin 4096 → Fin 512 → ℝ) (j : S1x512.Idx) : EReal :=
  ((∑ t, dz L W B D t (j 1) : ℝ) : EReal)

/-- The backward call leaves the low-rank input's gradient, -/
theorem final_dlo : (dat1 (V7 m ρ) c).arrAt 5 cfg1.N = dloArr L W B D := by
  refine (dat1 (V7 m ρ) c).arrAt_eq_of_covers 5 _ (by decide +kernel) fun t hf y => ?_
  blk_simp
  rw [after1_5]
  have key : (outsAt1 (V7 m ρ) c t.val t.isLt).1 y = dloArr L W B D (ix2 (brow (pt1 t) (y 0)) (y 1)) := by
    have h := bwd (pt1 t) c t _ _ _ _ _ (handed m ρ c H t) (y 0) (y 1) 0
    rw [eq_ix2 y]
    by_cases h0 : t.val % 16 = 0
    · rw [outsAt1_A _ c t h0]; dsimp only; exact (h.1 _).1
    · rw [outsAt1_B _ c t h0]; dsimp only; exact (h.2 _ _ _).1
  refine key.trans ?_
  blk_ext [brow, pt1, idx1 t]

omit H in
/-- A padded row's products, added up over the rows. -/
theorem sum_rows (f : Fin 4096 → Fin 16 → ℝ) (g : Fin 4096 → ℝ) (k : Fin 128) : ∑ t, padded (f t) k * g t = padded (fun k => ∑ t, f t k * g t) k := by
  rw [show (fun k => ∑ t, f t k * g t) = fun k => ∑ t, g t * f t k from funext fun k => Finset.sum_congr rfl fun t _ => mul_comm _ _, ← padded_sum]
  exact Finset.sum_congr rfl fun t _ => mul_comm _ _

/-- the weight's gradient, the blocks' added up, -/
theorem final_dw (j) : (dat1 (V7 m ρ) c).arrAt 6 cfg1.N j = dwArr L W B D j := by
  revert j
  refine fun j => congrFun ((dat1 (V7 m ρ) c).arrAt_eq_of_after_last 6 t1_15 (by decide +kernel) (dwArr L W B D) fun j => ?_) j
  blk_simp
  rw [after1_6]
  refine (Pipeline.eq_sum_fin_of_reset_step_apply_last (fun n h => (outsAt1 (V7 m ρ) c n h).2.1) 16 (fun _ => 0)
    (fun t j => ((∑ r, padded (L (brow (pt1 t) r)) (j 0) * dz L W B D (brow (pt1 t) r) (j 1) : ℝ) : EReal))
    (fun t h j => ?_) (fun t h j => ?_) (le_of_eq N_1) t1_15 rfl j).trans ?_
  · rw [outsAt1_A _ c t h, eq_ix2 j, zero_add]
    dsimp only
    exact ((bwd (pt1 t) c t _ _ _ _ _ (handed m ρ c H t) 0 (j 0) (j 1)).1 _).2.1
  · rw [outsAt1_B _ c t h, eq_ix2 j]
    dsimp only
    exact ((bwd (pt1 t) c t _ _ _ _ _ (handed m ρ c H t) 0 (j 0) (j 1)).2 _ _ _).2.1
  · rw [zero_add, coe_sum]
    refine congrArg _ ((Fin.sum_mul_add_congr (fun _ _ _ => rfl) (by rw [show cfg1.N = 16 from N_1])).trans (sum_rows (fun t => L t) (fun t => dz L W B D t (j 1)) (j 0)))

omit H in
/-- A one-row array's index. -/
theorem one_row (j : S1x512.Idx) : j = ix2 0 (j 1) := by rw [eq_ix2 j]; congr 1; exact Subsingleton.elim _ _

/-- and the bias's. -/
theorem final_db (j) : (dat1 (V7 m ρ) c).arrAt 7 cfg1.N j = dbArr L W B D j := by
  revert j
  refine fun j => congrFun ((dat1 (V7 m ρ) c).arrAt_eq_of_after_last 7 t1_15 (by decide +kernel) (dbArr L W B D) fun j => ?_) j
  blk_simp
  rw [after1_7]
  refine (Pipeline.eq_sum_fin_of_reset_step_apply_last (fun n h => (outsAt1 (V7 m ρ) c n h).2.2) 16 (fun _ => 0)
    (fun t j => ((∑ r, dz L W B D (brow (pt1 t) r) (j 1) : ℝ) : EReal))
    (fun t h j => ?_) (fun t h j => ?_) (le_of_eq N_1) t1_15 rfl j).trans ?_
  · rw [outsAt1_A _ c t h, one_row j, zero_add]
    dsimp only
    exact ((bwd (pt1 t) c t _ _ _ _ _ (handed m ρ c H t) 0 0 (j 1)).1 _).2.2
  · rw [outsAt1_B _ c t h, one_row j]
    dsimp only
    exact ((bwd (pt1 t) c t _ _ _ _ _ (handed m ρ c H t) 0 0 (j 1)).2 _ _ _).2.2
  · rw [zero_add, coe_sum]
    exact congrArg _ (Fin.sum_mul_add_congr (fun _ _ _ => rfl) (by rw [show cfg1.N = 16 from N_1]))

omit H in
/-- The program's four results, and its arguments as they were. -/
theorem results {L : Dev nD → Fin 4096 → Fin 16 → ℝ} {W : Dev nD → Fin 16 → Fin 512 → ℝ} {B : Dev nD → Fin 512 → ℝ} {D : Dev nD → Fin 4096 → Fin 512 → ℝ}
    (H : ∀ c : Dev nD, GateRef.Reals (m ((c : Thread nD τ).loc main_arg0)) (m ((c : Thread nD τ).loc main_arg1)) (m ((c : Thread nD τ).loc main_arg2))
    (m ((c : Thread nD τ).loc main_arg3)) (L c) (W c) (B c) (D c)) :
    θ_run defs (onTc (τ := τ) (main (F := Ideal))) ⟨m, fun _ => 0, ρ⟩ (fun r => ∀ c : Dev nD,
    (r.2.mem ((c.tc : Thread nD τ).loc main_v25_0) = dloArr (L c) (W c) (B c) (D c)
    ∧ r.2.mem ((c.tc : Thread nD τ).loc main_v25_1) = dwArr (L c) (W c) (B c) (D c)
    ∧ r.2.mem ((c.tc : Thread nD τ).loc main_v25_2) = dbArr (L c) (W c) (B c) (D c)
    ∧ r.2.mem ((c.tc : Thread nD τ).loc main_v23_0) = sumsArr (L c) (W c) (B c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun r h c => ⟨⟨((h c _ (mem_uc main_v25_0 (by decide))).trans (W8_arr m ρ c 5)).trans (final_dlo m ρ c (H c)),
    ((h c _ (mem_uc main_v25_1 (by decide))).trans (W8_arr m ρ c 6)).trans (funext (final_dw m ρ c (H c))),
    ((h c _ (mem_uc main_v25_2 (by decide))).trans (W8_arr m ρ c 7)).trans (funext (final_db m ρ c (H c))),
    (((h c _ (mem_uc main_v23_0 (by decide))).trans (W8_of m ρ c main_v23_0 (by decide))).trans ((W7_of m ρ c main_v23_0 (by decide)).trans (W6_arr m ρ c 4))).trans
      (final_sums m ρ c (H c))⟩,
    (h c _ (mem_uc main_arg0 (by decide))).trans (W8_main_arg0 m ρ c), (h c _ (mem_uc main_arg1 (by decide))).trans (W8_main_arg1 m ρ c),
    (h c _ (mem_uc main_arg2 (by decide))).trans (W8_main_arg2 m ρ c), (h c _ (mem_uc main_arg3 (by decide))).trans (W8_main_arg3 m ρ c)⟩)
    (GateRun.run_all m ρ)

end Cert.GateArrays

end
-- ==== Proof.GateClaim.lean ====
/- The gates: both calls of the kernel and the derivative of the reference's lines are one function over finite arguments. -/
module

public import proofs.«01_k».proof.Defs
public import proofs.«01_k».proof.Proof.GateArrays
public import Idealize.ShloMosaic.Lib.Quiescent

@[expose] public section

set_option maxRecDepth 16384

noncomputable section

open Idealize.ShloMosaic Idealize.ShloMosaic.TcCoe Idealize.SL.Sem

namespace Cert.GateClaim

open Cert.Lift Cert.GateMath Cert.GateRef Cert.GateArrays

/-- The precondition's own shape relations. -/
theorem preFacts : Cert.Pre_finite_gate.Facts where
  bcast_S_S4096x4368 := by decide
  reducesTo_S4096x4368_S_d0_1 := by decide
  h_S_ := by decide
  bcast_S_S16x512 := by decide
  reducesTo_S16x512_S_d0_1 := by decide
  bcast_S_S1x512 := by decide
  reducesTo_S1x512_S_d0_1 := by decide
  bcast_S_S4096x512 := by decide
  reducesTo_S4096x512_S_d0_1 := by decide

instance : Cert.Pre_finite_gate.Facts := preFacts

/-- Arguments that meet the precondition hold real numbers. -/
theorem reals (x0 : FVec Ideal Cert.Pre_finite_gate.S4096x4368 .f32) (x1 : FVec Ideal Cert.Pre_finite_gate.S16x512 .f32)
    (x2 : FVec Ideal Cert.Pre_finite_gate.S1x512 .f32) (x3 : FVec Ideal Cert.Pre_finite_gate.S4096x512 .f32)
    (h : Cert.Pre_finite_gate.fn (F := Ideal) x0 x1 x2 x3 = fun _ => 1#1) :
    ∃ (L : Fin 4096 → Fin 16 → ℝ) (W : Fin 16 → Fin 512 → ℝ) (B : Fin 512 → ℝ) (D : Fin 4096 → Fin 512 → ℝ), GateRef.Reals x0 x1 x2 x3 L W B D := by
  have h0 := congrFun h ix0
  dsimp only [Cert.Pre_finite_gate.fn, andi] at h0
  obtain ⟨h012, h3⟩ := IntOp.andi_eq_one.1 h0
  obtain ⟨h01, h2⟩ := IntOp.andi_eq_one.1 h012
  obtain ⟨h0, h1⟩ := IntOp.andi_eq_one.1 h01
  exact ⟨fun t k => (x0 (ix2 t ⟨3072 + k.val, by omega⟩)).toReal, fun k l => (x1 (ix2 k l)).toReal, fun l => (x2 (ix2 0 l)).toReal,
    fun t l => (x3 (ix2 t l)).toReal, fun t k => real_of_all _ _ _ _ _ _ _ h0 (ix2 t ⟨3072 + k.val, by omega⟩),
    fun k l => real_of_all _ _ _ _ _ _ _ h1 (ix2 k l), fun l => real_of_all _ _ _ _ _ _ _ h2 (ix2 0 l), fun t l => real_of_all _ _ _ _ _ _ _ h3 (ix2 t l)⟩

/-- The reference terminates and leaves its arguments as they were. -/
theorem frame_reference : Cert.quiescent_GateReferenceIdeal (hGateReferenceIdeal := Cert.GateReferenceIdeal.Gen.facts) := fun m ρ _ =>
  (θ_run _ _ _).mono (fun r h => ⟨fun c => (h c).2.2.2.2, sem_eq_zero_of_no_sems rfl _⟩) (Cert.GateReferenceIdeal.Value.run (F := Ideal) m ρ)

/-- From equal finite arguments both programs leave the same four arrays. -/
theorem algebraic : Cert.algebraic_GateKernelIdeal_GateReferenceIdeal_pre_finite_gate (hGateKernelIdeal := Cert.GateKernelIdeal.Gen.facts)
    (hGateReferenceIdeal := Cert.GateReferenceIdeal.Gen.facts) (hPre_finite_gate := preFacts) := by
  intro m ρ m' ρ' hpre hag
  choose L W B D H using fun c => reals _ _ _ _ (hpre c)
  refine ⟨_, _, _, _, (θ_run _ _ _).mono (fun r h c => ⟨(h c).1.1, (h c).1.2.1, (h c).1.2.2.1, (h c).1.2.2.2, (h c).2⟩) (results m ρ H),
    (θ_run _ _ _).mono (fun r h c => ?_) (Cert.GateReferenceIdeal.Value.run (F := Ideal) m' ρ')⟩
  obtain ⟨a0, a1, a2, a3⟩ := hag c
  obtain ⟨r0, r1, r2, r3, k⟩ := h c
  have H' := H c
  rw [← a0, ← a1, ← a2, ← a3] at H'
  refine ⟨?_, ?_, ?_, ?_, k⟩
  · exact (r0.trans (Cert.GateReferenceIdeal.Read.val_main_v27_eq _ _)).trans (funext fun j => (congrArg _ (eq_ix2 j)).trans (dlo_real H' (j 0) (j 1)))
  · exact (r1.trans (Cert.GateReferenceIdeal.Read.val_main_v26_eq _ _)).trans (funext fun j => (congrArg _ (eq_ix2 j)).trans (dw_real H' (j 0) (j 1)))
  · exact (r2.trans (Cert.GateReferenceIdeal.Read.val_main_v21_eq _ _)).trans (funext fun j => (congrArg _ (one_row j)).trans (db_real H' (j 1)))
  · exact (r3.trans (Cert.GateReferenceIdeal.Read.val_main_v11_eq _ _ _)).trans (funext fun j => (congrArg _ (eq_ix2 j)).trans (sums_real H' (j 0) (j 1)))

end Cert.GateClaim

end
-- ==== Proof.NormFwdPoint.lean ====
/- What one grid point of the gated norm's forward kernel leaves in its output block, over any blocks. -/
module

public import proofs.«01_k».proof.Proof.Gen.NormFwdKernelIdeal.Value
public import proofs.«01_k».proof.Proof.Lift
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFwdPoint

open Cert.NormFwdKernelIdeal Cert.NormFwdKernelIdeal.Gen
open Cert.Lift

/-- The gated norm of one head's row `A`, at lane `l`, with gate `g` and weight `w`. -/
def gated (A : Fin 256 → EReal) (l : Fin 256) (g w : EReal) : EReal :=
  A l * Ideal.rsqrt (Ideal.div (∑ j, A j * A j) (Ideal.ofBits .f32 0x43800000#32) + Ideal.ofBits .f32 0x3727C5AC#32) * w * (g * Ideal.logistic g)

/-- A block of 512 rows and four heads holds `X`. -/
structure Heads (x : FVec Ideal S512x1024 .f32) (X : Fin 512 → Fin 4 → Fin 256 → EReal) : Prop where
  at0 : ∀ r (l : Fin 256) h, x (ix2 r ⟨↑l, h⟩) = X r 0 l
  at1 : ∀ r (l : Fin 256) h, x (ix2 r ⟨256 + ↑l, h⟩) = X r 1 l
  at2 : ∀ r (l : Fin 256) h, x (ix2 r ⟨512 + ↑l, h⟩) = X r 2 l
  at3 : ∀ r (l : Fin 256) h, x (ix2 r ⟨768 + ↑l, h⟩) = X r 3 l

/-- Read at a head, whichever it is. -/
theorem Heads.of_head {x : FVec Ideal S512x1024 .f32} {X : Fin 512 → Fin 4 → Fin 256 → EReal}
    (h : ∀ r (k : Fin 4) (l : Fin 256) hk, x (ix2 r ⟨↑k * 256 + ↑l, hk⟩) = X r k l) : Heads x X where
  at0 r l hk := by simpa using h r 0 l (by simp; omega)
  at1 r l hk := by simpa using h r 1 l (by simp; omega)
  at2 r l hk := by simpa using h r 2 l (by simp; omega)
  at3 r l hk := by simpa using h r 3 l (by simp; omega)

variable (c : Dev nD) (t : Fin cfg0.N) {x0 x1 : FVec Ideal S512x1024 .f32} {x2 : FVec Ideal S1x256 .f32}
  {A G : Fin 512 → Fin 4 → Fin 256 → EReal} {W : Fin 256 → EReal}
  (hA : Heads x0 A) (hG : Heads x1 G) (hW : ∀ l, x2 (ix2 0 l) = W l)
include hA hG hW

set_option maxHeartbeats 1600000 in
/-- The block is the gated norm of its rows, head by head. -/
theorem point (y : S512x1024.Idx) (h : Fin 4) (l : Fin 256) (hy : (y 1).val = ↑h * 256 + ↑l) :
    (out0_A_3 (F := Ideal) c (grid0.coords t) (ms0_0 t) (hs0_0 t) (ms0_1 t) (hs0_1 t) (ms0_2 t) (hs0_2 t) (ms0_3 t) (hs0_3 t) x0 x1 x2) y
      = gated (A (y 0) h) l (G (y 0) h l) (W l) := by
  frame_out
  canon_tiles p hp
  all_goals (idx_vars p; open_payloads; pointwise)
  all_goals
    simp only [hA.at0, hA.at1, hA.at2, hA.at3, hG.at0, hG.at1, hG.at2, hG.at3, hW]
    obtain rfl : l = p1 := Fin.ext (by omega)
    obtain rfl : y 0 = p0 := Fin.ext hp0
  exacts [by obtain rfl : h = 3 := Fin.ext (by omega)
             rfl,
    by obtain rfl : h = 2 := Fin.ext (by omega)
       rfl,
    by obtain rfl : h = 1 := Fin.ext (by omega)
       rfl,
    by obtain rfl : h = 0 := Fin.ext (by omega)
       rfl]

end Cert.NormFwdPoint

end
-- ==== Proof.NormFwdClaim.lean ====
/- The gated norm's forward kernel and the reference's lines are one function over all arguments. -/
module

public import proofs.«01_k».proof.Defs
public import proofs.«01_k».proof.Proof.NormFwdPoint
public import proofs.«01_k».proof.Proof.Gen.NormFwdReferenceIdeal.Run
public import proofs.«01_k».proof.Proof.Gen.NormFwdReferenceIdeal.Read
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormFwdClaim

open Cert.Lift Cert.NormFwdPoint

section Arrays
open Cert.NormFwdKernelIdeal Cert.NormFwdKernelIdeal.Gen

/-- Every window's block at every grid point. -/
theorem idx : ∀ t : Fin cfg0.N, win0_0.index t = ![t.val, 0] ∧ win0_1.index t = ![t.val, 2] ∧ win0_2.index t = ![0, 0] ∧ win0_3.index t = ![t.val, 0] :=
  (by decide +kernel : ∀ t : Fin grid0.N, _)

/-- The row of the whole array that row `r` of block `t` is. -/
def row (t : Fin cfg0.N) (r : Fin 512) : Fin 4096 := ⟨t.val * 512 + r.val, by have := t.isLt.trans_eq N_0; omega⟩

/-- The result over whole arguments: the gated norm of each row and head. -/
def normed (x0 : FVec Ideal S4096x4x256 .f32) (x1 : FVec Ideal S4096x4368 .f32) (x2 : FVec Ideal S1x256 .f32)
    (r : Fin 4096) (k : Fin 4) (l : Fin 256) : EReal :=
  gated (fun j => x0 (ix3 r k j)) l (x1 (ix2 r ⟨2048 + (↑k * 256 + ↑l), by omega⟩)) (x2 (ix2 0 l))

/-- A function of row, head and lane as an array of rows and columns. -/
def byHead (f : Fin 4096 → Fin 4 → Fin 256 → EReal) (i : S4096x1024.Idx) : EReal :=
  f (i 0) ⟨(i 1).val / 256, by have : (i 1).val < 1024 := (i 1).isLt; omega⟩ ⟨(i 1).val % 256, Nat.mod_lt _ (by decide)⟩

variable (m : (ℓ : Loc nD τ sig) → Buf (Elt Ideal) ℓ) (c : Dev nD)

/-- The padded projection: the reference's columns with the low-rank gate's moved to the end. -/
theorem entry_proj : (V m c main_v5 : FVec Ideal S4096x4480 .f32) =
    let x : FVec Ideal S4096x4368 .f32 := m ((c : Thread nD τ).loc main_arg1)
    concatenate S4096x4480 1
      [⟨S4096x3072, extractStridedSlice S4096x3072 ![0, 0] x slices_S4096x4368_S4096x3072_0_0⟩,
       ⟨S4096x1280, extractStridedSlice S4096x1280 ![0, 3088] x slices_S4096x4368_S4096x1280_0_3088⟩,
       ⟨S4096x16, extractStridedSlice S4096x16 ![0, 3072] x slices_S4096x4368_S4096x16_0_3072⟩,
       ⟨S4096x112, broadcastInDim S4096x112 ![] bcast_S_S4096x112 (constant (F := Ideal) S_ .f32 0x00000000#32)⟩]
      concatenates_S4096x3072_S4096x1280_S4096x16_S4096x112_S4096x4480_d1 := by
  unfold V
  after_results
  rfl

/-- The array to be normed, its heads side by side. -/
theorem entry_o (r : Fin 4096) (k : Fin 4) (l : Fin 256) (hk) :
    V m c main_v0 (ix2 r ⟨↑k * 256 + ↑l, hk⟩) = (m ((c : Thread nD τ).loc main_arg0) : FVec Ideal S4096x4x256 .f32) (ix3 r k l) := by
  entry_read
  pointwise
  blk_ext []

/-- The padded projection holds the gate in its columns from 2048 on. -/
theorem entry_g (r : Fin 4096) (k : Fin 4) (l : Fin 256) (hk) :
    V m c main_v5 (ix2 r ⟨2048 + (↑k * 256 + ↑l), hk⟩)
      = (m ((c : Thread nD τ).loc main_arg1) : FVec Ideal S4096x4368 .f32) (ix2 r ⟨2048 + (↑k * 256 + ↑l), by omega⟩) := by
  rw [entry_proj]
  dsimp only
  refine (concatenate_apply_piece (t := S4096x4480) 1 _ _ _ 0 (by simp) S4096x3072 _ rfl rfl 0 rfl (ix2 r ⟨2048 + (↑k * 256 + ↑l), by omega⟩)
    (fun b hb => by fin_cases b; exacts [rfl, absurd rfl hb]) (Nat.zero_add _)).trans ?_
  pointwise

/-- A block of the array to be normed. -/
theorem block_o (t : Fin cfg0.N) : Heads (iblk m c 0 t) fun r k l => (m ((c : Thread nD τ).loc main_arg0) : FVec Ideal S4096x4x256 .f32) (ix3 (row t r) k l) :=
  Heads.of_head fun r k l hk => by
    rw [← entry_o m c (row t r) k l (by omega)]
    blk_ext [iblk, row, idx t]

/-- A block of the gate. -/
theorem block_g (t : Fin cfg0.N) : Heads (X0_1 m c t) fun r k l =>
    (m ((c : Thread nD τ).loc main_arg1) : FVec Ideal S4096x4368 .f32) (ix2 (row t r) ⟨2048 + (↑k * 256 + ↑l), by omega⟩) :=
  Heads.of_head fun r k l hk => by
    rw [X0_1, Pipeline.Window.fill, dif_pos (moved0_1 t _), ← entry_g m c _ _ _ (by omega)]
    blk_ext [iblk, row, idx t]

/-- The weight, whole at every grid point. -/
theorem block_w (t : Fin cfg0.N) (l : Fin 256) : iblk m c 2 t (ix2 0 l) = (m ((c : Thread nD τ).loc main_arg2) : FVec Ideal S1x256 .f32) (ix2 0 l) := by
  blk_ext [iblk, V, idx t]

/-- The result array. -/
theorem final : (dats m 0 c).arrAt 3 cfg0.N
    = byHead (normed (m ((c : Thread nD τ).loc main_arg0)) (m ((c : Thread nD τ).loc main_arg1)) (m ((c : Thread nD τ).loc main_arg2))) := by
  refine (dats m 0 c).arrAt_eq_of_covers 3 _ (by decide +kernel) fun t hf y => ?_
  have key : ∀ y : S512x1024.Idx, outsAt0 m c t y = byHead (normed (m ((c : Thread nD τ).loc main_arg0)) (m ((c : Thread nD τ).loc main_arg1))
      (m ((c : Thread nD τ).loc main_arg2))) (ix2 (row t (y 0)) (y 1)) := fun y =>
    point c t (block_o m c t) (block_g m c t) (block_w m c t) y _ _ (Nat.div_add_mod' _ _).symm
  blk_simp; rw [after0_3]
  refine (key y).trans ?_
  blk_ext [row, idx t]

end Arrays

section Reference
open Cert.NormFwdReferenceIdeal Cert.NormFwdReferenceIdeal.Read

/-- The reference's lines compute the same function. -/
theorem ref_o (x0 : FVec Ideal S4096x4x256 .f32) (x1 : FVec Ideal S4096x4368 .f32) (x2 : FVec Ideal S1x256 .f32) :
    val_main_v19 (F := Ideal) x0 x1 x2 = byHead (normed x0 x1 x2) := by
  funext (i : S4096x1024.Idx)
  obtain ⟨a, b, rfl⟩ : ∃ (a : Fin 4096) (b : Fin 1024), i = ix2 a b := ⟨i 0, i 1, eq_ix2 i⟩
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0, val_main_cst_1,
    val_main_call0_v0, val_main_call0_v1, val_main_call0_v2, val_main_call0_v3, val_main_call0_v4, val_main_call0_v5, val_main_call0_cst, val_main_call0_cst_0]
  have e : (⟨2048 + ↑b, by omega⟩ : Fin 4368) = ⟨2048 + (↑b / 256 * 256 + ↑b % 256), by omega⟩ := Fin.ext (by dsimp only; omega)
  rw [e]
  rfl

end Reference

/-- The reference terminates and leaves its arguments as they were. -/
theorem frame_reference : Cert.quiescent_NormFwdReferenceIdeal (hNormFwdReferenceIdeal := Cert.NormFwdReferenceIdeal.Gen.facts) := fun m ρ _ =>
  (θ_run _ _ _).mono (fun r h => ⟨fun c => (h c).2, sem_eq_zero_of_no_sems rfl _⟩) (Cert.NormFwdReferenceIdeal.Value.run (F := Ideal) m ρ)

/-- From equal arguments both programs leave the same array. -/
theorem algebraic : Cert.algebraic_NormFwdKernelIdeal_NormFwdReferenceIdeal (hNormFwdKernelIdeal := Cert.NormFwdKernelIdeal.Gen.facts)
    (hNormFwdReferenceIdeal := Cert.NormFwdReferenceIdeal.Gen.facts) := by
  intro m ρ m' ρ' hpre hag
  refine ⟨_, Cert.NormFwdKernelIdeal.Value.run_blocks m ρ, (θ_run _ _ _).mono (fun r h c => ?_) (Cert.NormFwdReferenceIdeal.Value.run (F := Ideal) m' ρ')⟩
  obtain ⟨a0, a1, a2⟩ := hag c
  obtain ⟨r0, k⟩ := h c
  refine ⟨(r0.trans (Cert.NormFwdReferenceIdeal.Read.val_main_v19_eq _ _ _)).trans (Eq.trans ?_ (final m c).symm), k⟩
  rw [a0, a1, a2]
  exact ref_o _ _ _

end Cert.NormFwdClaim

end
-- ==== Proof.MixArrays.lean ====
/- What the output projection with the first layer norm leaves in its three arrays, over any arguments at all. -/
module

public import proofs.«01_k».proof.Proof.Gen.MixKernelIdeal.Value
public import proofs.«01_k».proof.Proof.Lift
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixArrays

open Cert.MixKernelIdeal Cert.MixKernelIdeal.Gen
open Cert.Lift

/-- An entry of a residual row: the scaled input plus the product of the mixers' row with the weight. -/
def resid (C : Fin 2048 → EReal) (U : Fin 2048 → Fin 2048 → EReal) (X : Fin 2048 → EReal) (l : Fin 2048) : EReal :=
  Ideal.ofBits .f32 0x3F9837F0#32 * X l + ∑ k, C k * U k l

/-- A row's mean. -/
def mean (R : Fin 2048 → EReal) : EReal := Ideal.div (∑ j, R j) (Ideal.ofBits .f32 0x45000000#32)

/-- A row's layer norm at lane `l`, with gain `g` and offset `b`. -/
def normed (R : Fin 2048 → EReal) (l : Fin 2048) (g b : EReal) : EReal :=
  (R l - mean R) * Ideal.rsqrt (mean (fun j => (R j - mean R) * (R j - mean R)) + Ideal.ofBits .f32 0x3727C5AC#32) * g + b

variable (x0 : FVec Ideal S256x2048 .bf16) (x1 : FVec Ideal S2048x2048 .bf16) (x2 : FVec Ideal S256x2048 .f32) (x3 x4 : FVec Ideal S1x2048 .f32)

/-- The residual row of a block. -/
def blockRow (r : Fin 256) : Fin 2048 → EReal := resid (fun k => x0 (ix2 r k)) (fun k l => x1 (ix2 k l)) fun l => x2 (ix2 r l)

/-- One grid point leaves the residual rows of its block, -/
theorem point_5 (y : S256x2048.Idx) : out0_5 (F := Ideal) x0 x1 x2 x3 x4 y = blockRow x0 x1 x2 (y 0) (y 1) := by
  frame_out
  canon_tiles p hp
  all_goals (idx_vars p; open_payloads; pointwise)
  all_goals (rw [show y 0 = ⟨(y 0).val, (y 0).isLt⟩ from rfl, show y 1 = p1 from Fin.ext hp1]; simp only [hp0]; rfl)

/-- their layer norms, -/
theorem point_6 (y : S256x2048.Idx) : out0_6 (F := Ideal) x0 x1 x2 x3 x4 y = normed (blockRow x0 x1 x2 (y 0)) (y 1) (x3 (ix2 0 (y 1))) (x4 (ix2 0 (y 1))) := by
  frame_out
  canon_tiles p hp
  all_goals (idx_vars p; open_payloads; pointwise)
  all_goals (rw [show y 0 = ⟨(y 0).val, (y 0).isLt⟩ from rfl, show y 1 = p1 from Fin.ext hp1]; simp only [hp0]; rfl)

/-- and the same again in the narrower type. -/
theorem point_7 (y : S256x2048.Idx) : out0_7 (F := Ideal) x0 x1 x2 x3 x4 y = normed (blockRow x0 x1 x2 (y 0)) (y 1) (x3 (ix2 0 (y 1))) (x4 (ix2 0 (y 1))) := by
  frame_out
  canon_tiles p hp
  all_goals (idx_vars p; open_payloads; pointwise)
  all_goals (rw [show y 0 = ⟨(y 0).val, (y 0).isLt⟩ from rfl, show y 1 = p1 from Fin.ext hp1]; simp only [hp0]; rfl)

/-- Every window's block at every grid point. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the whole array that row `r` of block `t` is. -/
def row (t : Fin cfg0.N) (r : Fin 256) : Fin 4096 := ⟨t.val * 256 + r.val, by have := t.isLt.trans_eq N_0; omega⟩

/-- The residual over whole arguments, -/
def residAt (C : FVec Ideal S4096x2048 .f32) (U : FVec Ideal S2048x2048 .f32) (X : FVec Ideal S4096x2048 .f32) (j : S4096x2048.Idx) : EReal :=
  resid (fun k => C (ix2 (j 0) k)) (fun k l => U (ix2 k l)) (fun l => X (ix2 (j 0) l)) (j 1)

/-- and its layer norm. -/
def normedAt (C : FVec Ideal S4096x2048 .f32) (U : FVec Ideal S2048x2048 .f32) (X : FVec Ideal S4096x2048 .f32) (G B : FVec Ideal S1x2048 .f32)
    (j : S4096x2048.Idx) : EReal :=
  normed (fun l => residAt C U X (ix2 (j 0) l)) (j 1) (G (ix2 0 (j 1))) (B (ix2 0 (j 1)))

variable (m : (ℓ : Loc nD τ sig) → Buf (Elt Ideal) ℓ) (c : Dev nD)

/-- The kernel is handed the mixers' rows as they are, -/
theorem entry_c (r : Fin 4096) (k : Fin 2048) : V m c main_v0 (ix2 r k) = m ((c : Thread nD τ).loc main_arg0) (ix2 r k) := by
  entry_read
  pointwise

/-- and the weight. -/
theorem entry_u (r k : Fin 2048) : V m c main_v1 (ix2 r k) = m ((c : Thread nD τ).loc main_arg1) (ix2 r k) := by
  entry_read
  pointwise

/-- A block's residual row is the whole arguments'. -/
theorem rows (t : Fin cfg0.N) (r : Fin 256) (l : Fin 2048) : blockRow (iblk m c 0 t) (iblk m c 1 t) (iblk m c 2 t) r l
    = residAt (m ((c : Thread nD τ).loc main_arg0)) (m ((c : Thread nD τ).loc main_arg1)) (m ((c : Thread nD τ).loc main_arg2)) (ix2 (row t r) l) := by
  have h0 (k : Fin 2048) : iblk m c 0 t (ix2 r k) = m ((c : Thread nD τ).loc main_arg0) (ix2 (row t r) k) := by
    rw [← entry_c m c]; blk_ext [iblk, row, idx t]
  have h1 (k l : Fin 2048) : iblk m c 1 t (ix2 k l) = m ((c : Thread nD τ).loc main_arg1) (ix2 k l) := by
    rw [← entry_u m c]; blk_ext [iblk, row, idx t]
  have h2 (l : Fin 2048) : iblk m c 2 t (ix2 r l) = m ((c : Thread nD τ).loc main_arg2) (ix2 (row t r) l) := by
    blk_ext [iblk, V, row, idx t]
  exact congrArg₂ (· + ·) (congrArg (_ * ·) (h2 l)) (Finset.sum_congr rfl fun k _ => congrArg₂ (· * ·) (h0 k) (h1 k l))

/-- A block's layer norm is the whole arguments'. -/
theorem norms (t : Fin cfg0.N) (r : Fin 256) (l : Fin 2048) :
    normed (blockRow (iblk m c 0 t) (iblk m c 1 t) (iblk m c 2 t) r) l (iblk m c 3 t (ix2 0 l)) (iblk m c 4 t (ix2 0 l))
      = normedAt (m ((c : Thread nD τ).loc main_arg0)) (m ((c : Thread nD τ).loc main_arg1)) (m ((c : Thread nD τ).loc main_arg2))
          (m ((c : Thread nD τ).loc main_arg3)) (m ((c : Thread nD τ).loc main_arg4)) (ix2 (row t r) l) := by
  have h3 : iblk m c 3 t (ix2 0 l) = m ((c : Thread nD τ).loc main_arg3) (ix2 0 l) := by blk_ext [iblk, V, idx t]
  have h4 : iblk m c 4 t (ix2 0 l) = m ((c : Thread nD τ).loc main_arg4) (ix2 0 l) := by blk_ext [iblk, V, idx t]
  have e : blockRow (iblk m c 0 t) (iblk m c 1 t) (iblk m c 2 t) r = _ := funext fun l => rows m c t r l
  exact (congrArg (fun R => normed R l _ _) e).trans (congrArg₂ (normed _ l) h3 h4)

/-- The residual array, -/
theorem final_5 : (dats m 0 c).arrAt 5 cfg0.N
    = residAt (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  refine (point_5 _ _ _ _ _ y).trans ((rows m c t (y 0) (y 1)).trans ?_)
  blk_ext [row, idx t]

/-- the normed array, -/
theorem final_6 : (dats m 0 c).arrAt 6 cfg0.N
    = normedAt (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp; rw [after0_6]
  refine (point_6 _ _ _ _ _ y).trans ((norms m c t (y 0) (y 1)).trans ?_)
  blk_ext [row, idx t]

/-- and the same again in the narrower type. -/
theorem final_7 : (dats m 0 c).arrAt 7 cfg0.N
    = normedAt (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp; rw [after0_7]
  refine (point_7 _ _ _ _ _ y).trans ((norms m c t (y 0) (y 1)).trans ?_)
  blk_ext [row, idx t]

end Cert.MixArrays

end
-- ==== Proof.MixClaim.lean ====
/- The output projection with the first layer norm and the reference's lines are one function over all arguments. -/
module

public import proofs.«01_k».proof.Defs
public import proofs.«01_k».proof.Proof.MixArrays
public import proofs.«01_k».proof.Proof.Gen.MixReferenceIdeal.Run
public import proofs.«01_k».proof.Proof.Gen.MixReferenceIdeal.Read
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MixClaim

open Cert.Lift Cert.MixArrays

section Reference
open Cert.MixReferenceIdeal Cert.MixReferenceIdeal.Read

variable (x0 : FVec Ideal S4096x2048 .f32) (x1 : FVec Ideal S2048x2048 .f32) (x2 : FVec Ideal S4096x2048 .f32) (x3 x4 : FVec Ideal S1x2048 .f32)

/-- The reference's residual, -/
theorem ref_resid (r : Fin 4096) (l : Fin 2048) : val_main_v3 (F := Ideal) x0 x1 x2 (ix2 r l) = residAt x0 x1 x2 (ix2 r l) := by
  pointwise [val_main_v3, val_main_v2, val_main_v1, val_main_v0, val_main_cst]
  rfl

/-- its mean, -/
theorem ref_mean (r : Fin 4096) : val_main_v9 (F := Ideal) x0 x1 x2 (ix2 r 0) = mean fun l => residAt x0 x1 x2 (ix2 r l) := by
  pointwise [val_main_v9, val_main_v8, val_main_v7, val_main_v6, val_main_cst_0, val_main_cst_1]
  simp only [ref_resid, Ideal.ofBits_zero, zero_add]
  rfl

/-- and its layer norm. -/
theorem ref_norm (r : Fin 4096) (l : Fin 2048) : val_main_v29 (F := Ideal) x0 x1 x2 x3 x4 (ix2 r l) = normedAt x0 x1 x2 x3 x4 (ix2 r l) := by
  pointwise [val_main_v29, val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v5, val_main_v4,
    val_main_cst_2, val_main_cst_3, val_main_cst_4]
  simp only [ref_resid, ref_mean, Ideal.ofBits_zero, zero_add]
  rfl

end Reference

/-- The reference terminates and leaves its arguments as they were. -/
theorem frame_reference : Cert.quiescent_MixReferenceIdeal (hMixReferenceIdeal := Cert.MixReferenceIdeal.Gen.facts) := fun m ρ _ =>
  (θ_run _ _ _).mono (fun r h => ⟨fun c => (h c).2.2.2, sem_eq_zero_of_no_sems rfl _⟩) (Cert.MixReferenceIdeal.Value.run (F := Ideal) m ρ)

/-- From equal arguments both programs leave the same three arrays. -/
theorem algebraic : Cert.algebraic_MixKernelIdeal_MixReferenceIdeal (hMixKernelIdeal := Cert.MixKernelIdeal.Gen.facts)
    (hMixReferenceIdeal := Cert.MixReferenceIdeal.Gen.facts) := by
  intro m ρ m' ρ' hpre hag
  refine ⟨_, _, _, Cert.MixKernelIdeal.Value.run_blocks m ρ, (θ_run _ _ _).mono (fun r h c => ?_) (Cert.MixReferenceIdeal.Value.run (F := Ideal) m' ρ')⟩
  obtain ⟨a0, a1, a2, a3, a4⟩ := hag c
  obtain ⟨r0, r1, r2, k⟩ := h c
  refine ⟨(r0.trans (Cert.MixReferenceIdeal.Read.val_main_v3_eq _ _ _)).trans (Eq.trans (funext fun j => ?_) (final_5 m c).symm),
    (r1.trans (Cert.MixReferenceIdeal.Read.val_main_v29_eq _ _ _ _ _)).trans (Eq.trans (funext fun j => ?_) (final_6 m c).symm),
    (r2.trans (Cert.MixReferenceIdeal.Read.val_main_v30_eq _ _ _ _ _)).trans (Eq.trans (funext fun j => ?_) (final_7 m c).symm), k⟩
  · rw [a0, a1, a2]
    exact ((congrArg _ (eq_ix2 j)).trans (ref_resid _ _ _ (j 0) (j 1))).trans (congrArg _ (eq_ix2 j).symm)
  · rw [a0, a1, a2, a3, a4]
    exact ((congrArg _ (eq_ix2 j)).trans (ref_norm _ _ _ _ _ (j 0) (j 1))).trans (congrArg _ (eq_ix2 j).symm)
  · rw [a0, a1, a2, a3, a4]
    exact ((congrArg _ (eq_ix2 j)).trans (ref_norm _ _ _ _ _ (j 0) (j 1))).trans (congrArg _ (eq_ix2 j).symm)

end Cert.MixClaim

end
-- ==== Proof.SwaFwdVec.lean ====
module

public import proofs.«01_k».proof.Proof.SwaStack
public import proofs.«01_k».proof.Proof.Gen.SwaFwdKernelIdeal.Frame

@[expose] public section

set_option maxRecDepth 16384

noncomputable section

open Idealize.ShloMosaic Idealize.ShloMosaic.TcCoe Idealize.SL.Sem

/-! What the attention's forward kernel computes for a pair of heads side by side in the lanes, over real blocks. -/

namespace Cert.SwaFwdVec

open Cert.SwaFwdKernelIdeal Cert.SwaFwdKernelIdeal.Gen Cert.Lift Cert.Swa
open Cert.SwaVec (Twice sum_half lane lower upper before own)
open Cert.SwaRef (ofBits_eighth select_of select_of_not max_real_of_lt)

/-- The mask. -/
theorem mask (i : grid0.Coords) (r : Fin 128) (j : Fin 256) : k0_pay3 i (ix2 r j) = 1#1 ↔ ok (i 0).val r j := by
  have e1 : IntOp.andi (BitVec.ofNat 32 r.val) 127#32 = BitVec.ofNat 32 r.val := by
    refine BitVec.eq_of_toNat_eq ?_
    show ((BitVec.ofNat 32 r.val) &&& 127#32).toNat = _
    rw [BitVec.toNat_and, BitVec.toNat_ofNat, BitVec.toNat_ofNat, Nat.mod_eq_of_lt (by omega)]
    refine (Nat.and_two_pow_sub_one_eq_mod _ 7).trans ?_
    omega
  have e : IntOp.addi (BitVec.ofNat 32 r.val) 128#32 = BitVec.ofNat 32 (r.val + 128) := (BitVec.ofNat_add r.val 128).symm
  unfold k0_pay3
  pointwise
  rw [e1, e, IntOp.andi_eq_one, IntOp.andi_eq_one, IntOp.ori_eq_one, WordCmp.cmpi_sgt_ofNat (by omega) (by omega), WordCmp.cmpi_sle_ofNat (by omega) (by omega),
    WordCmp.cmpi_sge_ofNat (by omega) (by omega)]
  have h0 : Scalar.cmpi CmpIPredicate.sgt (BitVec.ofNat 32 (i 0).val) 0#32 = BitVec.ofBool (decide (0 < (i 0).val)) :=
    WordCmp.cmpi_sgt_ofNat (w := 32) (b := 0) (lt_of_lt_of_le (i 0).2 (by decide)) (by norm_num)
  rw [h0]
  simp only [WordCmp.ofBool_eq_one_iff, decide_eq_true_iff]
  unfold ok; omega

/-- The two halves of the lanes. -/
theorem lanes (l : Fin 128) : k0_pay4 (ix2 0 l) = 1#1 ↔ l.val < 64 := Cert.SwaVec.lanes l

/-! ## The operations, as the program composes them -/

/-- One half of a pair's lanes, zero elsewhere. -/
def half (lo : IVec S1x128 1) (x : FVec Ideal S128x128 .f32) : FVec Ideal S128x128 .bf16 :=
  truncf .bf16 (select (broadcastTo S128x128 (shapeCast S1x128 lo shapeCasts_S1x128_S1x128) broadcasts_S1x128_S128x128)
    (shapeCast S128x128 x shapeCasts_S128x128_S128x128) (broadcast S128x128 (Scalar.ofBits .f32 0x00000000#32))) bitsLt_bf16_f32

/-- The other half's lanes. -/
def flip (lo : IVec S1x128 1) : IVec S1x128 1 := xori lo (constantI S1x128 1 1#1)

/-- Masked scores. -/
def scores (mk : IVec S128x256 1) (kd : FVec Ideal S256x128 .bf16) (q : FVec Ideal S128x128 .bf16) : FVec Ideal S128x256 .f32 :=
  select mk (mulf (matmul dot_S128x128_S256x128_S128x256_1_1_0_0_n_n none q kd (constant S128x256 .f32 0x00000000#32))
    (broadcast S128x256 (Scalar.ofBits .f32 0x3E000000#32))) (broadcast S128x256 (Named.named κ "mask" 0xF149F2CA#32))

/-- The greatest score or the sink. -/
def peak (sc : FVec Ideal S128x256 .f32) (s : Elt Ideal .f32) : FVec Ideal S128x1 .f32 :=
  maximumf (shapeCast S128x1 (multiReduction .maximumf [1] S128 sc 0xFF800000#32 reduces_S128x256_S128 (.inl rfl) rfl) shapeCasts_S128_S128x1) (broadcast S128x1 s)

/-- Exponentials below the greatest. -/
def expo (sc : FVec Ideal S128x256 .f32) (mx : FVec Ideal S128x1 .f32) : FVec Ideal S128x256 .f32 := exp (subf sc (broadcastTo S128x256 mx broadcasts_S128x1_S128x256))

/-- One over their sum with the sink's. -/
def recip (e : FVec Ideal S128x256 .f32) (mx : FVec Ideal S128x1 .f32) (s : Elt Ideal .f32) : FVec Ideal S128x1 .f32 :=
  divf (broadcast S128x1 (Scalar.ofBits .f32 0x3F800000#32))
    (addf (shapeCast S128x1 (multiReduction .add [1] S128 e 0x00000000#32 reduces_S128x256_S128 (.inl rfl) rfl) shapeCasts_S128_S128x1) (exp (subf (broadcast S128x1 s) mx)))

/-- The probabilities' product with the values. -/
def mixed (vd : FVec Ideal S256x128 .bf16) (e : FVec Ideal S128x256 .f32) (d : FVec Ideal S128x1 .f32) : FVec Ideal S128x128 .f32 :=
  matmul dot_S128x256_S256x128_S128x128_1_0_0_1_n_n none (truncf .bf16 (mulf e (broadcastTo S128x256 d broadcasts_S128x1_S128x256)) bitsLt_bf16_f32) vd (constant S128x128 .f32 0x00000000#32)

/-- One head. -/
def headOut (mk : IVec S128x256 1) (kd vd : FVec Ideal S256x128 .bf16) (q : FVec Ideal S128x128 .bf16) (s : Elt Ideal .f32) : FVec Ideal S128x128 .f32 :=
  mixed vd (expo (scores mk kd q) (peak (scores mk kd q) s)) (recip (expo (scores mk kd q) (peak (scores mk kd q) s)) (peak (scores mk kd q) s) s)

/-- A pair of heads. -/
def pairOut (mk : IVec S128x256 1) (lo : IVec S1x128 1) (kd vd : FVec Ideal S256x128 .bf16) (x : FVec Ideal S128x128 .f32) (s0 s1 : Elt Ideal .f32) : FVec Ideal S128x128 .bf16 :=
  truncf .bf16 (select (broadcastTo S128x128 (shapeCast S1x128 lo shapeCasts_S1x128_S1x128) broadcasts_S1x128_S128x128)
    (headOut mk kd vd (half lo x) s0) (headOut mk kd vd (half (flip lo) x) s1)) bitsLt_bf16_f32

/-! ## Their values -/

section Head

variable {mk : IVec S128x256 1} {kd vd : FVec Ideal S256x128 .bf16} {q : FVec Ideal S128x128 .bf16} {s : Elt Ideal .f32} {n : ℕ}
  {K V : Fin 256 → Fin 64 → ℝ} {Q : Fin 128 → Fin 64 → ℝ} {t : ℝ} {e : ℕ} (he : e < 2)
  (hM : ∀ (r : Fin 128) (j : Fin 256), mk (ix2 r j) = 1#1 ↔ ok n r j)
  (hQ : ∀ (r l : Fin 128), q (ix2 r l) = if l.val / 64 = e then ((Q r (dim l) : ℝ) : EReal) else 0)
  (hK : Twice kd K) (hV : Twice vd V) (hS : s = ((t : ℝ) : EReal))

include he hM hQ hK in
/-- A masked score. -/
theorem masked (r : Fin 128) (j : Fin 256) :
    scores mk kd q (ix2 r j) = if ok n r j then ((score (Q r) K j : ℝ) : EReal) else ⊥ := by
  unfold scores
  pointwise
  by_cases hj : ok n r j
  · rw [select_of ((hM r j).2 hj), if_pos hj]
    have (l : Fin 128) : q (ix2 r l) * kd (ix2 j l)
        = (((if l.val / 64 = e then (fun d => Q r d * K j d) (dim l) else 0 : ℝ) : ℝ) : EReal) := by
      rw [hQ r l, hK j l]; split_ifs
      · exact (EReal.coe_mul _ _).symm
      · rw [zero_mul, EReal.coe_zero]
    simp only [this, coe_sum, ofBits_eighth, ← EReal.coe_mul]
    rw [sum_half e he fun d => Q r d * K j d]; rfl
  · rw [select_of_not (fun h => hj ((hM r j).1 h)), if_neg hj]
    exact IdealRules.named_const.ideal_named_scalar κ "mask" _ _ rfl

include hS in
/-- The greatest of a row's scores and its sink is a real number. -/
theorem peak_real {sc : FVec Ideal S128x256 .f32} (r : Fin 128) (h : ∀ j, sc (ix2 r j) < ⊤) :
    ∃ μ : ℝ, peak sc s (ix2 r 0) = ((μ : ℝ) : EReal) := by
  unfold peak
  pointwise
  rw [hS]
  refine max_real_of_lt ((Finset.fold_max_lt _).2 ⟨?_, fun j _ => h j⟩) _
  simp [Ideal.ofBits, Ideal.ieee]

include he hM hQ hK hV hS in
/-- One head's result. -/
theorem headOut_at (r l : Fin 128) :
    headOut mk kd vd q s (ix2 r l) = ((∑ j, prob n r (Q r) K t j * V j (dim l) : ℝ) : EReal) := by
  have hm (j : Fin 256) := masked he hM hQ hK r j
  obtain ⟨μ, hμ⟩ := peak_real hS (sc := scores mk kd q) r fun j => by
    rw [hm]; split_ifs
    · exact EReal.coe_lt_top _
    · exact bot_lt_top
  unfold headOut
  generalize scores mk kd q = sc at hm hμ ⊢
  generalize peak sc s = mx at hμ ⊢
  have h1 (j : Fin 256) : expo sc mx (ix2 r j) = ((shifted n r (Q r) K μ j : ℝ) : EReal) := by
    unfold expo
    pointwise
    rw [hm, hμ]
    unfold shifted
    split_ifs
    · rw [← EReal.coe_sub, Ideal.exp_coe]
    · rw [EReal.bot_sub, Ideal.exp_bot, EReal.coe_zero]
  generalize expo sc mx = ex at h1 ⊢
  have h2 : recip ex mx s (ix2 r 0) = ((1 / (∑ j, shifted n r (Q r) K μ j + Real.exp (t - μ)) : ℝ) : EReal) := by
    unfold recip
    pointwise
    rw [hS, hμ, ← EReal.coe_sub, Ideal.exp_coe]
    simp only [h1, coe_sum, ← EReal.coe_add]
    exact one_div_real (shifted_total_pos ..).ne'
  generalize recip ex mx s = d at h2 ⊢
  unfold mixed
  pointwise
  simp only [h1, h2, hV _ l, ← EReal.coe_mul, coe_sum]
  refine congrArg _ (Finset.sum_congr rfl fun j _ => ?_)
  rw [← shifted_prob (μ := μ), mul_one_div]

end Head

section Halves

variable {x : FVec Ideal S128x128 .f32} {B : Fin 128 → Fin 128 → ℝ} (hx : ∀ r l, x (ix2 r l) = ((B r l : ℝ) : EReal))
  {m : IVec S1x128 1} {e : Fin 2} (hm : ∀ l : Fin 128, m (ix2 0 l) = 1#1 ↔ l.val / 64 = e.val)
include hx hm

/-- The kept half holds the pair's columns. -/
theorem half_at (r l : Fin 128) : half m x (ix2 r l) = if l.val / 64 = e.val then ((B r (lane e (dim l)) : ℝ) : EReal) else 0 := by
  unfold half
  pointwise
  by_cases hc : l.val / 64 = e.val
  · rw [select_of ((hm l).2 hc), if_pos hc, hx]
    exact congrArg (fun i => ((B r i : ℝ) : EReal)) (Fin.ext (by simp only [lane, dim]; omega))
  · rw [select_of_not (fun h => hc ((hm l).1 h)), if_neg hc]

end Halves

/-- The other half is where the first is not. -/
theorem flip_at {lo : IVec S1x128 1} (h : ∀ l : Fin 128, lo (ix2 0 l) = 1#1 ↔ l.val < 64) (l : Fin 128) : flip lo (ix2 0 l) = 1#1 ↔ l.val / 64 = 1 := by
  have hb : ∀ b : BitVec 1, IntOp.xori b 1#1 = 1#1 ↔ ¬ b = 1#1 := by decide
  show IntOp.xori (lo (ix2 0 l)) 1#1 = 1#1 ↔ _
  rw [hb, h]; omega

/-- A pair of heads' result, each head in its half of the lanes. -/
theorem pairOut_at {mk : IVec S128x256 1} {lo : IVec S1x128 1} {kd vd : FVec Ideal S256x128 .bf16} {x : FVec Ideal S128x128 .f32} {s : Fin 2 → Elt Ideal .f32} {n : ℕ}
    {K V : Fin 256 → Fin 64 → ℝ} {B : Fin 128 → Fin 128 → ℝ} {t : Fin 2 → ℝ}
    (hM : ∀ (r : Fin 128) (j : Fin 256), mk (ix2 r j) = 1#1 ↔ ok n r j) (hL : ∀ l : Fin 128, lo (ix2 0 l) = 1#1 ↔ l.val < 64)
    (hK : Twice kd K) (hV : Twice vd V) (hx : ∀ r l, x (ix2 r l) = ((B r l : ℝ) : EReal)) (hS : ∀ e, s e = ((t e : ℝ) : EReal)) (r l : Fin 128) :
    pairOut mk lo kd vd x (s 0) (s 1) (ix2 r l) = ((∑ j, prob n r (fun d => B r (lane (kv l) d)) K (t (kv l)) j * V j (dim l) : ℝ) : EReal) := by
  have h0 := headOut_at (Q := fun r d => B r (lane 0 d)) (e := 0) two_pos hM (half_at hx (e := 0) fun l => (hL l).trans (by simp)) hK hV (hS 0) r l
  have h1 := headOut_at (Q := fun r d => B r (lane 1 d)) (e := 1) one_lt_two hM (half_at hx (e := 1) fun l => (flip_at hL l).trans (by simp)) hK hV (hS 1) r l
  unfold pairOut
  generalize headOut mk kd vd (half lo x) (s 0) = a at h0 ⊢
  generalize headOut mk kd vd (half (flip lo) x) (s 1) = b at h1 ⊢
  pointwise
  rw [h0, h1]
  by_cases hc : l.val < 64
  · rw [select_of ((hL l).2 hc), show kv l = 0 from Fin.ext (by simp [kv]; omega)]
  · rw [select_of_not (fun h => hc ((hL l).1 h)), show kv l = 1 from Fin.ext (by simp [kv]; omega)]

section Keys

variable {a b : FVec Ideal S128x128 .f32} {A : Fin 256 → Fin 128 → ℝ}
  (ha : ∀ (r l : Fin 128), a (ix2 r l) = ((A (before r) l : ℝ) : EReal))
  (hb : ∀ (r l : Fin 128), b (ix2 r l) = ((A (own r) l : ℝ) : EReal))
include ha hb

/-- The window's keys, or its values, one block under the other. -/
theorem both (j : Fin 256) (l : Fin 128) : k0_pay5 (F := Ideal) a b (ix2 j l) = ((A j l : ℝ) : EReal) := Cert.SwaVec.both ha hb j l

/-- The first group's, once in each half of the lanes. -/
theorem first : Twice (k0_pay9 k0_pay4 (k0_pay5 a b)) (fun j d => A j (lane 0 d)) := by
  intro j l
  have h := both ha hb
  have hm := lanes
  unfold k0_pay9
  generalize k0_pay5 (F := Ideal) a b = k at h ⊢
  generalize k0_pay4 = m at hm ⊢
  pointwise
  exact lower h m hm j l _ rfl

/-- The second group's. -/
theorem second : Twice (k0_pay32 k0_pay4 (k0_pay5 a b)) (fun j d => A j (lane 1 d)) := by
  intro j l
  have h := both ha hb
  have hm := lanes
  unfold k0_pay32
  generalize k0_pay5 (F := Ideal) a b = k at h ⊢
  generalize k0_pay4 = m at hm ⊢
  pointwise
  exact upper h m hm j l _ rfl

end Keys

end Cert.SwaFwdVec

end
-- ==== Proof.SwaFwdRef.lean ====
module

public import proofs.«01_k».proof.Proof.SwaRefRow
public import proofs.«01_k».proof.Proof.Gen.SwaFwdReferenceIdeal.Read

@[expose] public section

set_option maxRecDepth 16384

noncomputable section

open Idealize.ShloMosaic Idealize.ShloMosaic.TcCoe Idealize.SL.Sem

/-! The reference's windowed attention, read at an element over finite arguments. Its rows of probabilities are the ones
the reference's gradient begins with. -/

namespace Cert.SwaFwdRef

open Cert.SwaFwdReferenceIdeal Cert.SwaFwdReferenceIdeal.Gen Cert.SwaFwdReferenceIdeal.Read Cert.Lift Cert.Swa
open Cert.SwaRef (Reals band band_of_ok)

/-- The values banded together are those the gradient bands. -/
theorem same_values (x0 : FVec Ideal S4096x4368 .f32) :
    val_main_v18 (F := Ideal) x0 = Cert.SwaReferenceIdeal.Read.val_main_v20 (F := Ideal) x0 := rfl

/-- The keys likewise. -/
theorem same_scores (x0 : FVec Ideal S4096x4368 .f32) :
    val_main_v22 (F := Ideal) x0 = Cert.SwaReferenceIdeal.Read.val_main_v24 (F := Ideal) x0 := rfl

/-- The masked scores likewise. -/
theorem same_masked (x0 : FVec Ideal S4096x4368 .f32) :
    val_main_v51 (F := Ideal) x0 = Cert.SwaReferenceIdeal.Read.val_main_v53_0 (F := Ideal) x0 := rfl

/-- The rows' maxima likewise, -/
theorem same_top (x0 : FVec Ideal S4096x4368 .f32) (x1 : FVec Ideal S16 .f32) :
    val_main_v57 (F := Ideal) x0 x1 = Cert.SwaReferenceIdeal.Read.val_main_v64 (F := Ideal) x0 x1 := rfl

/-- their exponentials, -/
theorem same_exps (x0 : FVec Ideal S4096x4368 .f32) (x1 : FVec Ideal S16 .f32) :
    val_main_v60 (F := Ideal) x0 x1 = Cert.SwaReferenceIdeal.Read.val_main_v85 (F := Ideal) x0 x1 := rfl

/-- and the probabilities. -/
theorem same_probs (x0 : FVec Ideal S4096x4368 .f32) (x1 : FVec Ideal S16 .f32) :
    val_main_v68 (F := Ideal) x0 x1 = Cert.SwaReferenceIdeal.Read.val_main_v93 (F := Ideal) x0 x1 := rfl

/-- One head's output. -/
def att (X : Fin 4096 → Fin 1280 → ℝ) (T : Fin 16 → ℝ) (n : Fin 32) (h : Fin 2) (g : Fin 8) (r : Fin 128) (d : Fin 64) : ℝ :=
  ∑ j, P X T n h g r j * vlu X n h j d

/-- The attention's columns. -/
def resO (X : Fin 4096 → Fin 1280 → ℝ) (T : Fin 16 → ℝ) (R : Fin 4096) (c : Fin 1024) : ℝ := att X T (win R) (grp c) (mem c) (low R) (dim c)

variable {x0 : FVec Ideal S4096x4368 .f32} {x1 : FVec Ideal S16 .f32} {z : FVec Ideal Cert.SwaReferenceIdeal.S4096x2048 .f32}
  {X : Fin 4096 → Fin 1280 → ℝ} {T : Fin 16 → ℝ} {O : Fin 4096 → Fin 1024 → ℝ}

/-- A head's output, read in the reference. -/
theorem output (H : Reals x0 x1 z X T O) (n : Fin 32) (h : Fin 2) (g : Fin 8) (r : Fin 128) (d : Fin 64) :
    val_main_v69 (F := Ideal) x0 x1 (ix6 0 n h d g r) = ((att X T n h g r d : ℝ) : EReal) := by
  have hv (j : Fin 256) : val_main_v18 (F := Ideal) x0 (ix5 0 n j h d) = ((band (vlu X) n h j d : ℝ) : EReal) := by
    rw [same_values]; exact Cert.SwaRef.values H 0 n j h d
  have hp (j : Fin 256) : val_main_v68 (F := Ideal) x0 x1 (ix6 0 n h g r j) = ((P X T n h g r j : ℝ) : EReal) := by
    rw [same_probs]; exact Cert.SwaRef.probs H n h g r j
  pointwise [val_main_v69]
  simp only [hv, hp, ← EReal.coe_mul, coe_sum]
  refine congrArg _ (Finset.sum_congr rfl fun j _ => ?_)
  by_cases hj : ok n r j
  · rw [band_of_ok _ n h r j hj, mul_comm]
  · unfold P; rw [prob_of_not _ _ _ _ _ hj, mul_zero, zero_mul]

/-- The result's last columns. -/
theorem result_o (H : Reals x0 x1 z X T O) (x2 : FVec Ideal S4096x1024 .f32) (R : Fin 4096) (c : Fin 1024) (hc : 1024 + c.val < 2048) :
    val_main_v74 (F := Ideal) x0 x1 x2 (ix2 R ⟨1024 + c, hc⟩) = ((resO X T R c : ℝ) : EReal) := by
  have hy := output H (win R) (grp c) (mem c) (low R) (dim c)
  unfold val_main_v74 val_main_v73 val_main_v72 val_main_v71 val_main_v70
  generalize val_main_v69 (F := Ideal) x0 x1 = y at hy
  pointwise
  exact hy

/-- The result's first columns are handed on. -/
theorem result_g (x2 : FVec Ideal S4096x1024 .f32) (R : Fin 4096) (c : Fin 1024) (hc : c.val < 2048) :
    val_main_v74 (F := Ideal) x0 x1 x2 (ix2 R ⟨c, hc⟩) = x2 (ix2 R c) := by
  pointwise [val_main_v74, val_main_v73]

end Cert.SwaFwdRef

end
-- ==== Proof.SwaFwdPoint.lean ====
module

public import proofs.«01_k».proof.Proof.SwaFwdVec
public import proofs.«01_k».proof.Proof.SwaFwdRef
public import proofs.«01_k».proof.Proof.SwaBlocks
public import proofs.«01_k».proof.Proof.Gen.SwaFwdKernelIdeal.Value

@[expose] public section

set_option maxRecDepth 16384

noncomputable section

open Idealize.ShloMosaic Idealize.ShloMosaic.TcCoe Idealize.ShloMosaic.Tactic Idealize.SL.Sem
open Idealize.ShloMosaic.Pipeline (Dat)

/-! What the attention's forward kernel loads and stores at each window of rows, and the array it leaves. -/

namespace Cert.SwaFwdPoint

open Cert.SwaFwdKernelIdeal Cert.SwaFwdKernelIdeal.Gen Cert.Swa Cert.SwaFwdVec
open Cert.SwaVec (Twice lane before own)
open Cert.SwaPoint (pos_before pos_own)
open Cert.SwaFwdRef (att resO)

/-- Every window's block at every grid point. -/
theorem idx : ∀ t : Fin cfg0.N, win0_0.index t = ![0] ∧ win0_1.index t = ![t.val, 3] ∧ win0_2.index t = ![t.val - 1, 32] ∧ win0_3.index t = ![t.val, 32]
    ∧ win0_4.index t = ![t.val - 1, 33] ∧ win0_5.index t = ![t.val, 33] ∧ win0_6.index t = ![t.val, 0] ∧ win0_7.index t = ![t.val, 0] :=
  (by decide +kernel : ∀ t : Fin grid0.N, _)

/-- The grid point is the window's number. -/
theorem coord : ∀ t : Fin cfg0.N, ((grid0.coords t) 0).val = t.val := (by decide +kernel : ∀ t : Fin grid0.N, _)

/-- The window of a point. -/
def wnd (t : Fin cfg0.N) : Fin 32 := ⟨t.val, t.isLt.trans_eq N_0⟩

section Pieces

variable (m : (ℓ : Loc nD τ sig) → Buf (Elt Ideal) ℓ) (c : Dev nD) (t : Fin cfg0.N)

/-- A sink and a pair of heads' queries, as the body loads them. -/
def snk (k : Fin 16) : Elt Ideal .f32 := View.ld (iblk m c 0 t) (Rect.unit (s := S16) ![k.val] ![1] (Cert.SwaPoint.sink_in k)) (Shape.Idx.first (show 0 < S1.numel by decide))
@[inherit_doc snk] def qry2 (p : Fin 8) : FVec Ideal S128x128 .f32 := View.ld (X0_1 m c t) (Rect.unit (s := S128x1024) ![0, 128 * p.val] ![128, 128] (Cert.SwaPoint.pair_in p))

/-- A group's keys or values, once in each half of the lanes. -/
def both2 (e : Fin 2) (a b : FVec Ideal S128x128 .f32) : FVec Ideal S256x128 .bf16 :=
  match e with
  | 0 => k0_pay9 k0_pay4 (k0_pay5 a b)
  | 1 => k0_pay32 k0_pay4 (k0_pay5 a b)

/-- The pair of heads `p` as the body stores it. -/
def piece (p : Fin 8) : FVec Ideal S128x128 .bf16 :=
  pairOut (k0_pay3 (grid0.coords t)) k0_pay4 (both2 ⟨p / 4, by omega⟩ (iblk m c 2 t) (iblk m c 3 t)) (both2 ⟨p / 4, by omega⟩ (iblk m c 4 t) (iblk m c 5 t))
    (qry2 m c t p) (snk m c t ⟨2 * p, by omega⟩) (snk m c t ⟨2 * p + 1, by omega⟩)

/-- The output block holds the recurrence's columns, then the eight pairs of heads. -/
theorem stored (f : S128x2048.Idx → EReal) (y : S128x2048.Idx)
    (hg : ∀ (r : Fin 128) (l : Fin 1024), (y 0).val = r → (y 1).val = l → iblk m c 6 t (ix2 r l) = f y)
    (ho : ∀ (p : Fin 8) (r l : Fin 128), (y 0).val = r → (y 1).val = 1024 + 128 * p + l → piece m c t p (ix2 r l) = f y) :
    outsAt0 m c t y = f y := by
  unfold outsAt0
  frame_out
  canon_tiles p hp using View.cover_of_tiledBy _ ![128, 128] (by sl_kernel_rfl) _
  all_goals idx_vars p
  case piece8 =>
    open_payloads
    pointwise
    exact hg p0 p1 hp0 hp1
  exacts [Eq.trans (by sl_kernel_rfl) (ho 7 p0 p1 hp0 hp1), Eq.trans (by sl_kernel_rfl) (ho 6 p0 p1 hp0 hp1), Eq.trans (by sl_kernel_rfl) (ho 5 p0 p1 hp0 hp1),
    Eq.trans (by sl_kernel_rfl) (ho 4 p0 p1 hp0 hp1), Eq.trans (by sl_kernel_rfl) (ho 3 p0 p1 hp0 hp1), Eq.trans (by sl_kernel_rfl) (ho 2 p0 p1 hp0 hp1),
    Eq.trans (by sl_kernel_rfl) (ho 1 p0 p1 hp0 hp1), Eq.trans (by sl_kernel_rfl) (ho 0 p0 p1 hp0 hp1)]

end Pieces

variable (m : (ℓ : Loc nD τ sig) → Buf (Elt Ideal) ℓ) (c : Dev nD) {z : FVec Ideal Cert.SwaReferenceIdeal.S4096x2048 .f32}
  {X : Fin 4096 → Fin 1280 → ℝ} {T : Fin 16 → ℝ} {O : Fin 4096 → Fin 1024 → ℝ}
  (H : SwaRef.Reals (m ((c : Thread nD τ).loc main_arg0)) (m ((c : Thread nD τ).loc main_arg1)) z X T O)
include H

omit H in
/-- The padded projection: the reference's columns with the low-rank gate's moved to the end. -/
theorem entry_proj : (V m c main_v4 : FVec Ideal S4096x4480 .f32) =
    let x : FVec Ideal S4096x4368 .f32 := m ((c : Thread nD τ).loc main_arg0)
    concatenate S4096x4480 1
      [⟨S4096x3072, extractStridedSlice S4096x3072 ![0, 0] x slices_S4096x4368_S4096x3072_0_0⟩,
       ⟨S4096x1280, extractStridedSlice S4096x1280 ![0, 3088] x slices_S4096x4368_S4096x1280_0_3088⟩,
       ⟨S4096x16, extractStridedSlice S4096x16 ![0, 3072] x slices_S4096x4368_S4096x16_0_3072⟩,
       ⟨S4096x112, broadcastInDim S4096x112 ![] bcast_S_S4096x112 (constant (F := Ideal) S_ .f32 0x00000000#32)⟩]
      concatenates_S4096x3072_S4096x1280_S4096x16_S4096x112_S4096x4480_d1 := by
  unfold V
  after_results
  rfl

/-- It holds the queries, keys and values in its columns from 3072 on. -/
theorem entry_x (r : Fin 4096) (k : Fin 1280) (hk) : V m c main_v4 (ix2 r ⟨3072 + k, hk⟩) = ((X r k : ℝ) : EReal) := by
  rw [entry_proj]
  dsimp only
  refine (concatenate_apply_piece (t := S4096x4480) 1 _ _ _ 1 (by simp) S4096x1280 _ rfl rfl 3072 rfl (ix2 r k)
    (fun b hb => by fin_cases b; exacts [rfl, absurd rfl hb]) rfl).trans ?_
  pointwise
  exact H.x r k _

/-- The blocks of the queries, -/
theorem block_q (t : Fin cfg0.N) (r : Fin 128) (k : Fin 1024) : X0_1 m c t (ix2 r k) = ((X (at_ (wnd t) r) ⟨k, by omega⟩ : ℝ) : EReal) := by
  rw [X0_1, Pipeline.Window.fill, dif_pos (moved0_1 t _), ← entry_x m c H _ _ (by dsimp only; omega)]
  blk_ext [iblk, at_, wnd, idx t]

/-- of the keys and values before and of this window's, -/
theorem block_k (t : Fin cfg0.N) (r l : Fin 128) :
    (iblk m c 2 t (ix2 r l) = ((X (pos (wnd t) (before r)) ⟨1024 + l, by omega⟩ : ℝ) : EReal) ∧ iblk m c 3 t (ix2 r l) = ((X (pos (wnd t) (own r)) ⟨1024 + l, by omega⟩ : ℝ) : EReal))
      ∧ iblk m c 4 t (ix2 r l) = ((X (pos (wnd t) (before r)) ⟨1152 + l, by omega⟩ : ℝ) : EReal) ∧ iblk m c 5 t (ix2 r l) = ((X (pos (wnd t) (own r)) ⟨1152 + l, by omega⟩ : ℝ) : EReal) := by
  refine ⟨⟨?_, ?_⟩, ?_, ?_⟩ <;> rw [← entry_x m c H _ _ (by dsimp only; omega)] <;> blk_ext [iblk, wnd, idx t]
  exacts [(pos_before _ _).symm, (pos_own _ _).symm, (pos_before _ _).symm, (pos_own _ _).symm]

/-- and of the sinks. -/
theorem block_s (t : Fin cfg0.N) (a : Fin 16) : iblk m c 0 t (ix1 a) = ((T a : ℝ) : EReal) := by
  rw [← H.t]
  blk_ext [iblk, V, idx t]

/-- One load of a sink, and one of two heads' queries. -/
theorem snk_real (t : Fin cfg0.N) (k : Fin 16) : snk m c t k = ((T k : ℝ) : EReal) := by
  refine (congrArg (iblk m c 0 t) (funext fun a => Fin.ext ?_)).trans (block_s m c H t k)
  fin_cases a
  rfl
@[inherit_doc snk_real] theorem qry2_real (t : Fin cfg0.N) (p : Fin 8) (r l : Fin 128) : qry2 m c t p (ix2 r l) = ((X (at_ (wnd t) r) ⟨128 * p + l, by omega⟩ : ℝ) : EReal) := by
  refine (congrArg (X0_1 m c t) (funext fun a => Fin.ext ?_)).trans (block_q m c H t r ⟨128 * p + l, by omega⟩)
  fin_cases a
  · show 0 + 1 * r.val = r.val; omega
  · show 128 * p.val + 1 * l.val = 128 * p.val + l.val; omega

omit H in
/-- Either group's rows, once in each half. -/
theorem both2_real {a b : FVec Ideal S128x128 .f32} {A : Fin 256 → Fin 128 → ℝ} (ha : ∀ (r l : Fin 128), a (ix2 r l) = ((A (before r) l : ℝ) : EReal))
    (hb : ∀ (r l : Fin 128), b (ix2 r l) = ((A (own r) l : ℝ) : EReal)) (e : Fin 2) : Twice (both2 e a b) (fun j d => A j (lane e d)) := by
  fin_cases e
  exacts [first ha hb, second ha hb]

/-- A pair of heads is the real attention's. -/
theorem piece_real (t : Fin cfg0.N) (p : Fin 8) (r l : Fin 128) :
    piece m c t p (ix2 r l) = ((resO X T (at_ (wnd t) r) ⟨128 * p + l, by omega⟩ : ℝ) : EReal) := by
  have hk := both2_real (A := fun j l => X (pos (wnd t) j) ⟨1024 + l, by omega⟩) (fun r l => (block_k m c H t r l).1.1) (fun r l => (block_k m c H t r l).1.2) ⟨p / 4, by omega⟩
  have hv := both2_real (A := fun j l => X (pos (wnd t) j) ⟨1152 + l, by omega⟩) (fun r l => (block_k m c H t r l).2.1) (fun r l => (block_k m c H t r l).2.2) ⟨p / 4, by omega⟩
  have hs (e : Fin 2) : (![snk m c t ⟨2 * p, by omega⟩, snk m c t ⟨2 * p + 1, by omega⟩] : Fin 2 → Elt Ideal .f32) e = ((T ⟨2 * p + e, by omega⟩ : ℝ) : EReal) := by
    fin_cases e
    exacts [snk_real m c H t _, snk_real m c H t _]
  refine (pairOut_at (s := ![snk m c t ⟨2 * p, by omega⟩, snk m c t ⟨2 * p + 1, by omega⟩]) (mask (grid0.coords t)) lanes hk hv (qry2_real m c H t p) hs r l).trans ?_
  have e1 : win (at_ (wnd t) r) = wnd t := Fin.ext (by simp only [win, at_]; omega)
  have e2 : low (at_ (wnd t) r) = r := Fin.ext (by simp only [low, at_]; omega)
  rw [coord t]
  unfold resO att P
  rw [e1, e2]
  have q1 : (fun d => X (at_ (wnd t) r) ⟨128 * p + lane (kv l) d, by omega⟩) = qry X (wnd t) (grp ⟨128 * p + l, by omega⟩) (mem ⟨128 * p + l, by omega⟩) r :=
    funext fun d => congrArg (X _) (Fin.ext (by simp only [lane, kv, grp, mem]; omega))
  have k1 : (fun j d => X (pos (wnd t) j) ⟨1024 + lane ⟨p / 4, by omega⟩ d, by omega⟩) = key X (wnd t) (grp ⟨128 * p + l, by omega⟩) :=
    funext fun j => funext fun d => congrArg (X _) (Fin.ext (by simp only [lane, grp]; omega))
  have t1 : (⟨2 * p + kv l, by omega⟩ : Fin 16) = head (grp ⟨128 * p + l, by omega⟩) (mem ⟨128 * p + l, by omega⟩) :=
    Fin.ext (by simp only [kv, head, grp, mem]; omega)
  have v1 (j : Fin 256) : X (pos (wnd t) j) ⟨1152 + lane ⟨p / 4, by omega⟩ (dim l), by omega⟩ = vlu X (wnd t) (grp ⟨128 * p + l, by omega⟩) j (dim (128 * p + l)) :=
    congrArg (X _) (Fin.ext (by simp only [lane, grp, dim]; omega))
  simp only [q1, k1, t1, v1]
  rfl

omit H in
/-- The recurrence's columns are handed on. -/
theorem block_g (t : Fin cfg0.N) (r : Fin 128) (l : Fin 1024) : iblk m c 6 t (ix2 r l) = (m ((c : Thread nD τ).loc main_arg2) : FVec Ideal S4096x1024 .f32) (ix2 (at_ (wnd t) r) l) := by
  refine Eq.trans ?_ (show (V m c main_v5 : FVec Ideal S4096x1024 .bf16) (ix2 (at_ (wnd t) r) l) = _ from ?_)
  · blk_ext [iblk, at_, wnd, idx t]
  · unfold V; after_results; rfl

/-- The whole array. -/
def whole (X : Fin 4096 → Fin 1280 → ℝ) (T : Fin 16 → ℝ) (g : FVec Ideal S4096x1024 .f32) : FVec Ideal S4096x2048 .bf16 := fun j =>
  if h : (j 1).val < 1024 then g (ix2 (j 0) ⟨(j 1).val, h⟩) else ((resO X T (j 0) ⟨(j 1).val - 1024, by have := (j 1).isLt; change _ < 2048 at this; omega⟩ : ℝ) : EReal)

omit H in
/-- Its first columns, -/
theorem whole_lt (X : Fin 4096 → Fin 1280 → ℝ) (T : Fin 16 → ℝ) (g : FVec Ideal S4096x1024 .f32) (R : Fin 4096) (l : Fin 1024) :
    whole X T g (ix2 R ⟨l, by omega⟩) = g (ix2 R l) := dif_pos l.2

omit H in
/-- and its last. -/
theorem whole_ge (X : Fin 4096 → Fin 1280 → ℝ) (T : Fin 16 → ℝ) (g : FVec Ideal S4096x1024 .f32) (R : Fin 4096) (l : Fin 1024) :
    whole X T g (ix2 R ⟨1024 + l, by omega⟩) = ((resO X T R l : ℝ) : EReal) :=
  (dif_neg (show ¬ 1024 + l.val < 1024 by omega)).trans (congrArg (fun i => ((resO X T R i : ℝ) : EReal)) (Fin.ext (show 1024 + l.val - 1024 = l.val by omega)))

omit H in
/-- A place in a block of rows. -/
theorem at_eq {t : Fin cfg0.N} {y0 r : Fin 128} {y1 l : Fin 2048} (h0 : y0 = r) (h1 : y1 = l) : (ix2 (at_ (wnd t) y0) y1 : S4096x2048.Idx) = ix2 (at_ (wnd t) r) l := by
  rw [h0, h1]

/-- The array the kernel leaves. -/
theorem final_7 : ((dats m 0 c).arrAt 7 cfg0.N : FVec Ideal S4096x2048 .bf16) = whole X T (m ((c : Thread nD τ).loc main_arg2)) := by
  refine (dats m 0 c).arrAt_eq_of_covers 7 _ (by decide +kernel) fun t hf y => ?_
  have key : ∀ y : S128x2048.Idx, outsAt0 m c t y = whole X T (m ((c : Thread nD τ).loc main_arg2)) (ix2 (at_ (wnd t) (y 0)) (y 1)) := fun y => by
    refine stored m c t (fun y => whole X T (m ((c : Thread nD τ).loc main_arg2)) (ix2 (at_ (wnd t) (y 0)) (y 1))) y (fun r l h0 h1 => ?_) fun p r l h0 h1 => ?_
    · exact (block_g m c t r l).trans ((whole_lt _ _ _ _ _).symm.trans (congrArg _ (at_eq (Fin.ext h0) (Fin.ext h1)).symm))
    · exact (piece_real m c H t p r l).trans ((whole_ge _ _ _ _ _).symm.trans (congrArg _ (at_eq (Fin.ext h0) (Fin.ext (h1.trans (Nat.add_assoc _ _ _)))).symm))
  blk_simp
  rw [after0_7]
  refine (key y).trans ?_
  blk_ext [at_, wnd, idx t]

end Cert.SwaFwdPoint

end
-- ==== Proof.SwaFwdClaim.lean ====
/- The windowed attention's forward kernel and the reference's lines are one function over finite arguments. -/
module

public import proofs.«01_k».proof.Defs
public import proofs.«01_k».proof.Proof.SwaFwdPoint
public import proofs.«01_k».proof.Proof.Gen.SwaFwdReferenceIdeal.Run

@[expose] public section

set_option maxRecDepth 16384

noncomputable section

open Idealize.ShloMosaic Idealize.ShloMosaic.TcCoe Idealize.SL.Sem

namespace Cert.SwaFwdClaim

open Cert.Lift Cert.Swa Cert.SwaFwdPoint

/-- The precondition's own shape relations. -/
theorem preFacts : Cert.Pre_finite_swafwd.Facts where
  slices_S4096x4368_S4096x1280_0_3088 := by decide
  bcast_S_S4096x1280 := by decide
  reducesTo_S4096x1280_S_d0_1 := by decide
  h_S_ := by decide
  bcast_S_S16 := by decide
  reducesTo_S16_S_d0 := by decide

instance : Cert.Pre_finite_swafwd.Facts := preFacts

/-- Arguments that meet the precondition hold real numbers; the gradient that arrives at the attention is no argument here, and any will do. -/
theorem reals (x0 : FVec Ideal Cert.Pre_finite_swafwd.S4096x4368 .f32) (x1 : FVec Ideal Cert.Pre_finite_swafwd.S16 .f32)
    (x2 : FVec Ideal Cert.Pre_finite_swafwd.S4096x1024 .f32) (h : Cert.Pre_finite_swafwd.fn (F := Ideal) x0 x1 x2 = fun _ => 1#1) :
    ∃ (X : Fin 4096 → Fin 1280 → ℝ) (T : Fin 16 → ℝ), SwaRef.Reals x0 x1 (fun _ => 0) X T fun _ _ => 0 := by
  have h0 := congrFun h ix0
  dsimp only [Cert.Pre_finite_swafwd.fn, andi] at h0
  obtain ⟨h0, h1⟩ := IntOp.andi_eq_one.1 h0
  refine ⟨fun r k => (x0 (ix2 r ⟨3088 + k.val, by omega⟩)).toReal, fun a => (x1 (ix1 a)).toReal, ?_, ?_, ?_⟩
  · intro r k hk
    have := real_of_all _ _ _ _ _ _ _ h0 (ix2 r k)
    pointwise at this
    exact this
  · exact fun a => real_of_all _ _ _ _ _ _ _ h1 (ix1 a)
  · exact fun _ _ _ => EReal.coe_zero.symm

/-- The replaced constant: the named word is the mask's. -/
theorem preserves : IdealRules.named_const.Statement Cert.SwaFwdKernelIdeal.κ "mask" .f32 0xF149F2CA#32 ⊥ :=
  IdealRules.named_const.statement _ _ _ _ _ rfl

/-- The reference terminates and leaves its arguments as they were. -/
theorem frame_reference : Cert.quiescent_SwaFwdReferenceIdeal (hSwaFwdReferenceIdeal := Cert.SwaFwdReferenceIdeal.Gen.facts) := fun m ρ _ =>
  (θ_run _ _ _).mono (fun r h => ⟨fun c => (h c).2, sem_eq_zero_of_no_sems rfl _⟩) (Cert.SwaFwdReferenceIdeal.Value.run (F := Ideal) m ρ)

section Reference
open Cert.SwaFwdReferenceIdeal Cert.SwaFwdReferenceIdeal.Read

/-- The reference's result is the array the kernel leaves. -/
theorem ref_whole {x0 : FVec Ideal S4096x4368 .f32} {x1 : FVec Ideal S16 .f32} {z : FVec Ideal Cert.SwaReferenceIdeal.S4096x2048 .f32}
    {X : Fin 4096 → Fin 1280 → ℝ} {T : Fin 16 → ℝ} {O : Fin 4096 → Fin 1024 → ℝ} (H : SwaRef.Reals x0 x1 z X T O) (x2 : FVec Ideal S4096x1024 .f32) :
    val_main_v74 (F := Ideal) x0 x1 x2 = whole X T x2 := by
  funext j
  have hj : (j 1).val < 2048 := (j 1).isLt
  unfold whole
  split_ifs with h
  · exact (congrArg _ (eq_ix2 j)).trans (SwaFwdRef.result_g x2 (j 0) ⟨(j 1).val, h⟩ hj)
  · refine (congrArg _ ((eq_ix2 j).trans (congrArg (ix2 (j 0)) (Fin.ext ?_)))).trans (SwaFwdRef.result_o H x2 (j 0) ⟨(j 1).val - 1024, by omega⟩ (by dsimp only; omega))
    show (j 1).val = 1024 + ((j 1).val - 1024)
    omega
end Reference

/-- From equal finite arguments both programs leave the same array. -/
theorem algebraic : Cert.algebraic_SwaFwdKernelIdeal_SwaFwdReferenceIdeal_pre_finite_swafwd (hSwaFwdKernelIdeal := Cert.SwaFwdKernelIdeal.Gen.facts)
    (hSwaFwdReferenceIdeal := Cert.SwaFwdReferenceIdeal.Gen.facts) (hPre_finite_swafwd := preFacts) := by
  intro m ρ m' ρ' hpre hag
  refine ⟨_, Cert.SwaFwdKernelIdeal.Value.run_blocks m ρ, (θ_run _ _ _).mono (fun r h c => ?_) (Cert.SwaFwdReferenceIdeal.Value.run (F := Ideal) m' ρ')⟩
  obtain ⟨X, T, H⟩ := reals _ _ _ (hpre c)
  obtain ⟨a0, a1, a2⟩ := hag c
  obtain ⟨r0, k0, k1, k2⟩ := h c
  have H' := H
  rw [← a0, ← a1] at H'
  refine ⟨?_, k0, k1, k2⟩
  exact ((r0.trans (Cert.SwaFwdReferenceIdeal.Read.val_main_v74_eq _ _)).trans (ref_whole H' _)).trans ((congrArg (whole X T) a2).trans (final_7 m c H).symm)

end Cert.SwaFwdClaim

end
-- ==== Proof.GlaFwdFrame.lean ====
module

public import proofs.«01_k».proof.Defs
public import proofs.«01_k».proof.Proof.Gen.GlaFwdKernelIdeal.Frame
public import proofs.«01_k».proof.Proof.Gen.GlaFwdKernelIdeal.Skeleton
public import proofs.«01_k».proof.Proof.Gen.GlaFwdKernelIdeal.Loops
public import Idealize.ShloMosaic.Lib.Claim

@[expose] public section

set_option maxRecDepth 16384

noncomputable section

/-! The frame of the gated linear attention's forward kernel: it terminates and leaves its arguments as they were. What it leaves in its outputs and in its scratch is not stated. -/

namespace Cert.GlaFwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The condition under which the body clears its scratch. -/
abbrev cond0_0 (i : grid0.Coords) : Prop :=
  (Scalar.cmpi .ne (Scalar.extui (Scalar.cmpi .eq (BitVec.ofNat 32 (i 1).val) 0#32)) 0#32) = 1#1

/-- What the body is called with and gives back: its input buffers at given contents, its outputs' and its scratch at any. -/
def held (c : Dev nD) (a0 : Memref sig .tc .vmem S256x128 .f32) (a1 : Memref sig .tc .vmem S256x128 .f32) (a2 : Memref sig .tc .vmem S256x256 .f32) (a3 : Memref sig .tc .vmem S256x128 .f32) (a4 : Memref sig .tc .vmem S256x256 .f32) (a5 : Memref sig .tc .vmem S16x1x256x128 .f32) (a6 : Memref sig .tc .vmem S256x128 .f32) (a7 : Memref sig .tc .vmem S16x256x128 .f32)
    (x0 : Vec F S256x128 .f32) (x1 : Vec F S256x128 .f32) (x2 : Vec F S256x256 .f32) (x3 : Vec F S256x128 .f32) : sProp 𝕄 :=
  iprop(owns (c : Thread nD τ) a0 fullShare x0 ∗ owns (c : Thread nD τ) a1 fullShare x1 ∗ owns (c : Thread nD τ) a2 fullShare x2 ∗ owns (c : Thread nD τ) a3 fullShare x3
    ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d))

set_option maxHeartbeats 4000000 in
/-- The body runs on any such buffers, whether or not it clears the scratch first. -/
theorem body_run (c : Dev nD) (i : grid0.Coords) (a0 : Memref sig .tc .vmem S256x128 .f32) (a1 : Memref sig .tc .vmem S256x128 .f32) (a2 : Memref sig .tc .vmem S256x256 .f32) (a3 : Memref sig .tc .vmem S256x128 .f32) (a4 : Memref sig .tc .vmem S256x256 .f32) (a5 : Memref sig .tc .vmem S16x1x256x128 .f32) (a6 : Memref sig .tc .vmem S256x128 .f32) (a7 : Memref sig .tc .vmem S16x256x128 .f32)
    (h0 : a0.IsWhole) (h1 : a1.IsWhole) (h2 : a2.IsWhole) (h3 : a3.IsWhole) (h4 : a4.IsWhole) (h5 : a5.IsWhole) (h6 : a6.IsWhole) (h7 : a7.IsWhole)
    (x0 : Vec F S256x128 .f32) (x1 : Vec F S256x128 .f32) (x2 : Vec F S256x256 .f32) (x3 : Vec F S256x128 .f32) (E : Set ℕ) (K : PUnit → sProp 𝕄) :
    iprop(held c a0 a1 a2 a3 a4 a5 a6 a7 x0 x1 x2 x3 ∗ (held c a0 a1 a2 a3 a4 a5 a6 a7 x0 x1 x2 x3 -∗ K ⟨⟩))
      ⊢ wp frame (wpE (defs₀ (F := F)) Variants.none c none) E (cc0_gla_fwd i a0 h0 a1 h1 a2 h2 a3 h3 a4 h4 a5 h5 a6 h6 a7 h7) K := by
  simp only [cc0_gla_fwd_eq_skeleton]; unfold cc0_gla_fwd_skel held owns
  iintro ⟨⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩⟩, Hk⟩
  obtain rfl := h0.eq_unread e0; obtain rfl := h1.eq_unread e1; obtain rfl := h2.eq_unread e2; obtain rfl := h3.eq_unread e3
  by_cases h : cond0_0 i
  all_goals
    sl_exec (disch := first | sl_exact h)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

variable (m : (ℓ : Loc nD τ sig) → Buf (Elt F) ℓ) (ρ : Dev nD → PrngReg)

/-- The outputs, of which nothing is named. -/
def unnamed : Fin 6 → Bool := fun w => 4 ≤ w.val

/-- The proof data of the pipeline: the inputs keep their blocks, the outputs and the scratch hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, h⟩ => Dat.unnamed (cfg := cfg0) ⟨4, h⟩ t
    | ⟨5, h⟩ => Dat.unnamed (cfg := cfg0) ⟨5, h⟩ t
  Φ _ := Pipeline.ΦA spec0 c
  q w := Pipeline.shareOf spec0 w
  owed _ := 0

/-- A window's array holds at the start what the host code left there. -/
theorem A_eq (c : Dev nD) (w : Fin cfg0.W) : (dats m 0 c).A w = V m c (Pipeline.arrRef spec0 w) := by dsimp only [dats]

/-- Window 0 holds its block before a point as after it. -/
theorem before0 (c : Dev nD) (t : Fin cfg0.N) (d) : (dats m 0 c).before 0 t d = iblk m c 0 t :=
  before0_0_of m (dats m 0 c) (A_eq m c 0) (fun t => by dsimp only [dats]) t d
/-- Window 1 holds its block before a point as after it. -/
theorem before1 (c : Dev nD) (t : Fin cfg0.N) (d) : (dats m 0 c).before 1 t d = iblk m c 1 t :=
  before0_1_of m (dats m 0 c) (A_eq m c 1) (fun t => by dsimp only [dats]) t d
/-- Window 2 holds its block before a point as after it. -/
theorem before2 (c : Dev nD) (t : Fin cfg0.N) (d) : (dats m 0 c).before 2 t d = X0_2 m c t :=
  before0_2_of m (dats m 0 c) (A_eq m c 2) (fun t => by dsimp only [dats]) t d
/-- Window 3 holds its block before a point as after it. -/
theorem before3 (c : Dev nD) (t : Fin cfg0.N) (d) : (dats m 0 c).before 3 t d = iblk m c 3 t :=
  before0_3_of m (dats m 0 c) (A_eq m c 3) (fun t => by dsimp only [dats]) t d

/-- The two scratch buffers, held at any contents, are what the pipeline keeps between the points. -/
theorem PhiA0_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d))
    ∗ (∃ d, owns (c : Thread nD τ) (win0_4.stage (cfg0.slots t 4)) fullShare d) ∗ (∃ d, owns (c : Thread nD τ) (win0_5.stage (cfg0.slots t 5)) fullShare d))

/-- and what it gives back. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t)
    ∗ (∃ d, owns (c : Thread nD τ) (win0_4.stage (cfg0.slots t 4)) fullShare d) ∗ (∃ d, owns (c : Thread nD τ) (win0_5.stage (cfg0.slots t 5)) fullShare d))

/-- At every point the body takes the one to the other. -/
theorem point_run (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  dsimp only [dats]
  iintro ⟨⟨⟨HS, HT⟩, Hg⟩, Ho, ⟨%d0, H0⟩, ⟨%d1, H1⟩, ⟨%d2, H2⟩, ⟨%d3, H3⟩, H4, H5⟩
  iapply body_run c (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (Memref.whole cc0_scratch0) (Memref.whole cc0_scratch1) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (Memref.isWhole_whole _) (Memref.isWhole_whole _) (iblk m c 0 t) (iblk m c 1 t) (X0_2 m c t) (iblk m c 3 t)
  unfold held
  isplitl [H0 H1 H2 H3 H4 H5 HS HT]
  · iframe
  iintro ⟨H0, H1, H2, H3, H4, H5, HS, HT⟩
  iframe

/-- The table's row at a point's buffers is the body there. -/
theorem row (t : Fin cfg0.N) : defs₀ (F := F) .tc cfg0.body (cfg0.bodyArgs t (cfg0.slots t)) = bodyAt0 t := by
  unfold defs₀; rw [Defs.onTc_tc]

/-- The library's obligation of the body. -/
theorem obligation (c : Dev nD) : BodyObligation (dats (F := F) m 0 c) (defs₀ (F := F)) Variants.none () Set.univ unnamed := fun t => by
  rw [bigSep_W0, bigSep_W0, row]
  exact triple_restated (point_run m c t) rfl .rfl fun _ => .rfl

set_option backward.isDefEq.respectTransparency.types false in
/-- The launch: every execution terminates with the inputs' arrays unchanged and every counter at zero. -/
theorem launched : θ_run defs (onTc (τ := τ) (main (F := F))) (s₀ m ρ)
    (fun r => (Pipeline.RDat.FramePost (cfgs 0) (fun c => (dats m 0 c).toRForget unnamed) (V m)) r ∧ r.2.sem = fun _ => 0) :=
  Pipeline.θ_run_frame_track_forget_shared (Q' := _) cfgs (dats m) (0 : Fin 1) launch₀0 defs₀ Variants.none unnamed m ρ main
    (hbody := fun c => (obligation m c).loose) (hq := fun _ _ _ => rfl) (howed := fun _ _ => rfl) (V := V m)
    (hmain := hmain m Variants.none) (hA := A_eq m) (hin := fun _ => .rfl) (hout := fun _ => .rfl)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 3 rfl).trans ((A_eq m c 3).trans (V_main_arg1 m c))⟩, h.2⟩) (launched m ρ)

end Cert.GlaFwdKernelIdeal.Gen

end
-- ==== Proof.GlaFwdClaim.lean ====
/- The gated linear attention's forward kernel, at the machine's floats: the same program, so the same frame. -/
module

public import proofs.«01_k».proof.Proof.GlaFwdFrame
public import proofs.«01_k».proof.Proof.Gen.GlaFwdKernel

@[expose] public section

noncomputable section

open Idealize.ShloMosaic Idealize.ShloMosaic.TcCoe Idealize.SL.Sem

namespace Cert.GlaFwdClaim

/-- The idealized kernel terminates and leaves its arguments as they were. -/
theorem frame_ideal : Cert.quiescent_GlaFwdKernelIdeal (hGlaFwdKernelIdeal := Cert.GlaFwdKernelIdeal.Gen.facts) :=
  fun m ρ _ => Cert.GlaFwdKernelIdeal.Gen.frame m ρ

/-- So does the kernel itself. -/
theorem frame_kernel : Cert.quiescent_GlaFwdKernel (hGlaFwdKernel := Cert.GlaFwdKernel.Gen.facts) :=
  fun m ρ _ => cast (by sl_kernel_rfl) (Cert.GlaFwdKernelIdeal.Gen.frame (F := Bits) m ρ)

end Cert.GlaFwdClaim

end
-- ==== Proof.GlaBwdFrame.lean ====
module

public import proofs.«01_k».proof.Defs
public import proofs.«01_k».proof.Proof.Gen.GlaBwdKernelIdeal.Frame.Runs
public import Idealize.ShloMosaic.Lib.Claim

@[expose] public section

set_option maxRecDepth 16384

noncomputable section

/-! The frame of the gated linear attention's backward kernel: it terminates and leaves its arguments as they were. What it leaves in its outputs and in its scratch is not stated. -/

namespace Cert.GlaBwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What the body is called with and gives back: its input buffers at given contents, its outputs' and its scratch at any. -/
def held (c : Dev nD) (a0 : Memref sig .tc .vmem S256x128 .f32) (a1 : Memref sig .tc .vmem S256x128 .f32) (a2 : Memref sig .tc .vmem S256x256 .f32) (a3 : Memref sig .tc .vmem S256x128 .f32) (a4 : Memref sig .tc .vmem S256x256 .f32) (a5 : Memref sig .tc .vmem S16x1x256x128 .f32) (a6 : Memref sig .tc .vmem S256x128 .bf16) (a7 : Memref sig .tc .vmem S256x128 .bf16) (a8 : Memref sig .tc .vmem S256x256 .bf16) (a9 : Memref sig .tc .vmem S256x128 .f32) (a10 : Memref sig .tc .vmem S256x128 .f32)
    (x0 : Vec F S256x128 .f32) (x1 : Vec F S256x128 .f32) (x2 : Vec F S256x256 .f32) (x3 : Vec F S256x128 .f32) (x4 : Vec F S256x256 .f32) (x5 : Vec F S16x1x256x128 .f32) : sProp 𝕄 :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
    ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d))

set_option maxHeartbeats 4000000 in
/-- The body runs on any such buffers, whether or not it clears the scratch first. -/
theorem body_run (c : Dev nD) (i : grid0.Coords) (a0 : Memref sig .tc .vmem S256x128 .f32) (a1 : Memref sig .tc .vmem S256x128 .f32) (a2 : Memref sig .tc .vmem S256x256 .f32) (a3 : Memref sig .tc .vmem S256x128 .f32) (a4 : Memref sig .tc .vmem S256x256 .f32) (a5 : Memref sig .tc .vmem S16x1x256x128 .f32) (a6 : Memref sig .tc .vmem S256x128 .bf16) (a7 : Memref sig .tc .vmem S256x128 .bf16) (a8 : Memref sig .tc .vmem S256x256 .bf16) (a9 : Memref sig .tc .vmem S256x128 .f32) (a10 : Memref sig .tc .vmem S256x128 .f32)
    (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
    (x0 : Vec F S256x128 .f32) (x1 : Vec F S256x128 .f32) (x2 : Vec F S256x256 .f32) (x3 : Vec F S256x128 .f32) (x4 : Vec F S256x256 .f32) (x5 : Vec F S16x1x256x128 .f32) (E : Set ℕ) (K : PUnit → sProp 𝕄) :
    iprop(held c a0 a1 a2 a3 a4 a5 a6 a7 a8 a9 a10 x0 x1 x2 x3 x4 x5 ∗ (held c a0 a1 a2 a3 a4 a5 a6 a7 a8 a9 a10 x0 x1 x2 x3 x4 x5 -∗ K ⟨⟩))
      ⊢ wp frame (wpE (defs₀ (F := F)) Variants.none c none) E (cc0_gla_bwd i a0 h0 a1 h1 a2 h2 a3 h3 a4 h4 a5 h5 a6 h6 a7 h7 a8 h8 a9 h9 a10 h10) K := by
  simp only [cc0_gla_bwd_eq_skeleton]; unfold cc0_gla_bwd_skel held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := h0.eq_unread e0; obtain rfl := h1.eq_unread e1; obtain rfl := h2.eq_unread e2; obtain rfl := h3.eq_unread e3; obtain rfl := h4.eq_unread e4; obtain rfl := h5.eq_unread e5
  by_cases h : cond0_0 i
  all_goals
    sl_exec (disch := first | sl_exact h)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

variable (m : (ℓ : Loc nD τ sig) → Buf (Elt F) ℓ) (ρ : Dev nD → PrngReg)

/-- The outputs, of which nothing is named. -/
def unnamed : Fin 10 → Bool := fun w => 6 ≤ w.val

/-- The proof data of the pipeline: the inputs keep their blocks, the outputs and the scratch hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
    | ⟨9, h⟩ => Dat.unnamed (cfg := cfg0) ⟨9, h⟩ t
  Φ _ := Pipeline.ΦA spec0 c
  q w := Pipeline.shareOf spec0 w
  owed _ := 0

/-- A window's array holds at the start what the host code left there. -/
theorem A_eq (c : Dev nD) (w : Fin cfg0.W) : (dats m 0 c).A w = V m c (Pipeline.arrRef spec0 w) := by dsimp only [dats]

/-- Window 0 holds its block before a point as after it. -/
theorem before0 (c : Dev nD) (t : Fin cfg0.N) (d) : (dats m 0 c).before 0 t d = iblk m c 0 t :=
  before0_0_of m (dats m 0 c) (A_eq m c 0) (fun t => by dsimp only [dats]) t d
/-- Window 1 holds its block before a point as after it. -/
theorem before1 (c : Dev nD) (t : Fin cfg0.N) (d) : (dats m 0 c).before 1 t d = iblk m c 1 t :=
  before0_1_of m (dats m 0 c) (A_eq m c 1) (fun t => by dsimp only [dats]) t d
/-- Window 2 holds its block before a point as after it. -/
theorem before2 (c : Dev nD) (t : Fin cfg0.N) (d) : (dats m 0 c).before 2 t d = X0_2 m c t :=
  before0_2_of m (dats m 0 c) (A_eq m c 2) (fun t => by dsimp only [dats]) t d
/-- Window 3 holds its block before a point as after it. -/
theorem before3 (c : Dev nD) (t : Fin cfg0.N) (d) : (dats m 0 c).before 3 t d = iblk m c 3 t :=
  before0_3_of m (dats m 0 c) (A_eq m c 3) (fun t => by dsimp only [dats]) t d
/-- Window 4 holds its block before a point as after it. -/
theorem before4 (c : Dev nD) (t : Fin cfg0.N) (d) : (dats m 0 c).before 4 t d = iblk m c 4 t :=
  before0_4_of m (dats m 0 c) (A_eq m c 4) (fun t => by dsimp only [dats]) t d
/-- Window 5 holds its block before a point as after it. -/
theorem before5 (c : Dev nD) (t : Fin cfg0.N) (d) : (dats m 0 c).before 5 t d = iblk m c 5 t :=
  before0_5_of m (dats m 0 c) (A_eq m c 5) (fun t => by dsimp only [dats]) t d

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d))

/-- and what it gives back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t)
    ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d))

/-- At every point the body takes the one to the other. -/
theorem point_run (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  dsimp only [dats]
  iintro ⟨⟨HS, Hg⟩, Ho, ⟨%d0, H0⟩, ⟨%d1, H1⟩, ⟨%d2, H2⟩, ⟨%d3, H3⟩, ⟨%d4, H4⟩, ⟨%d5, H5⟩, H6, H7, H8, H9⟩
  iapply body_run c (grid0.coords t) (ms0_0 t) (ms0_1 t) (ms0_2 t) (ms0_3 t) (ms0_4 t) (ms0_5 t) (ms0_6 t) (ms0_7 t) (ms0_8 t) (ms0_9 t) scM0_0 (hs0_0 t) (hs0_1 t) (hs0_2 t) (hs0_3 t) (hs0_4 t) (hs0_5 t) (hs0_6 t) (hs0_7 t) (hs0_8 t) (hs0_9 t) (Memref.isWhole_whole _) (iblk m c 0 t) (iblk m c 1 t) (X0_2 m c t) (iblk m c 3 t) (iblk m c 4 t) (iblk m c 5 t)
  unfold held
  isplitl [H0 H1 H2 H3 H4 H5 H6 H7 H8 H9 HS]
  · iframe
  iintro ⟨H0, H1, H2, H3, H4, H5, H6, H7, H8, H9, HS⟩
  iframe

/-- The table's row at a point's buffers is the body there. -/
theorem row (t : Fin cfg0.N) : defs₀ (F := F) .tc cfg0.body (cfg0.bodyArgs t (cfg0.slots t)) = bodyAt0 t := by
  unfold defs₀; rw [Defs.onTc_tc]

/-- The library's obligation of the body. -/
theorem obligation (c : Dev nD) : BodyObligation (dats (F := F) m 0 c) (defs₀ (F := F)) Variants.none () Set.univ unnamed := fun t => by
  rw [bigSep_W0, bigSep_W0, row]
  exact triple_restated (point_run m c t) rfl .rfl fun _ => .rfl

set_option backward.isDefEq.respectTransparency.types false in
/-- The launch: every execution terminates with the inputs' arrays unchanged and every counter at zero. -/
theorem launched : θ_run defs (onTc (τ := τ) (main (F := F))) (s₀ m ρ)
    (fun r => (Pipeline.RDat.FramePost (cfgs 0) (fun c => (dats m 0 c).toRForget unnamed) (V m)) r ∧ r.2.sem = fun _ => 0) :=
  Pipeline.θ_run_frame_track_forget_shared (Q' := _) cfgs (dats m) (0 : Fin 1) launch₀0 defs₀ Variants.none unnamed m ρ main
    (hbody := fun c => (obligation m c).loose) (hq := fun _ _ _ => rfl) (howed := fun _ _ => rfl) (V := V m)
    (hmain := hmain m Variants.none) (hA := A_eq m) (hin := fun _ => .rfl) (hout := fun _ => .rfl)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 3 rfl).trans ((A_eq m c 3).trans (V_main_arg1 m c)),
      (h.1.arr_in c 4 rfl).trans ((A_eq m c 4).trans (V_main_arg2 m c)),
      (h.1.arr_in c 5 rfl).trans ((A_eq m c 5).trans (V_main_arg3 m c))⟩, h.2⟩) (launched m ρ)

end Cert.GlaBwdKernelIdeal.Gen

end
-- ==== Proof.GlaBwdClaim.lean ====
/- The gated linear attention's backward kernel, at the machine's floats: the same program, so the same frame. -/
module

public import proofs.«01_k».proof.Proof.GlaBwdFrame
public import proofs.«01_k».proof.Proof.Gen.GlaBwdKernel

@[expose] public section

noncomputable section

open Idealize.ShloMosaic Idealize.ShloMosaic.TcCoe Idealize.SL.Sem

namespace Cert.GlaBwdClaim

/-- The idealized kernel terminates and leaves its arguments as they were. -/
theorem frame_ideal : Cert.quiescent_GlaBwdKernelIdeal (hGlaBwdKernelIdeal := Cert.GlaBwdKernelIdeal.Gen.facts) :=
  fun m ρ _ => Cert.GlaBwdKernelIdeal.Gen.frame m ρ

/-- So does the kernel itself. -/
theorem frame_kernel : Cert.quiescent_GlaBwdKernel (hGlaBwdKernel := Cert.GlaBwdKernel.Gen.facts) :=
  fun m ρ _ => cast (by sl_kernel_rfl) (Cert.GlaBwdKernelIdeal.Gen.frame (F := Bits) m ρ)

end Cert.GlaBwdClaim

end
-- ==== Proof.MlpUpBwdClaim.lean ====
/- The gradient of the hidden layer's input: eight products, one for each shard of the weight, added up, are the derivative the reference takes. -/
module

public import proofs.«01_k».proof.Defs
public import proofs.«01_k».proof.Proof.Gen.MlpUpBwdKernelIdeal.Value
public import proofs.«01_k».proof.Proof.Gen.MlpUpBwdReferenceIdeal.Run
public import proofs.«01_k».proof.Proof.Gen.MlpUpBwdReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpUpBwdClaim

section Kernel
open Cert.MlpUpBwdKernelIdeal Cert.MlpUpBwdKernelIdeal.Gen

/-- The gradient: the product with the transposed weight. -/
def grad (W : FVec Ideal S2048x8192 .f32) (D : FVec Ideal S4096x8192 .f32) (j : S4096x2048.Idx) : EReal :=
  ∑ k : Fin 8192, D (ix2 (j 0) k) * W (ix2 (j 1) k)

/-- The part of it that four shards give. -/
def part (x0 : FVec Ideal S1024x4096 .bf16) (x1 : FVec Ideal S4x1024x1024 .bf16) (r l : Fin 1024) : EReal :=
  ∑ s : Fin 4, ∑ k : Fin 1024, x0 (ix2 r ⟨s.val * 1024 + k.val, by omega⟩) * x1 (ix3 s l k)

variable (c : Dev nD) (t : Fin cfg0.N) (x0 : FVec Ideal S1024x4096 .bf16) (x1 : FVec Ideal S4x1024x1024 .bf16)

/-- The first point of an output block leaves its four shards' part, -/
theorem point_A (h0 : t.val % 2 = 0) (h1 : ¬t.val % 2 = 1) (r l : Fin 1024) :
    out0_A_2 (F := Ideal) c (grid0.coords t) (ms0_0 t) (hs0_0 t) (ms0_1 t) (hs0_1 t) (ms0_2 t) (hs0_2 t) ((hcond0_0 t).mpr h0)
      (fun h => h1 ((hcond0_1 t).mp h)) x0 x1 (ix2 r l) = part x0 x1 r l := by
  frame_out
  open_payloads
  pointwise
  simp only [part, Fin.sum_univ_four]
  rfl

/-- and the second adds its own to what the first left. -/
theorem point_B (h0 : ¬t.val % 2 = 0) (h1 : t.val % 2 = 1) (xo : FVec Ideal S1024x1024 .f32) (r l : Fin 1024) :
    out0_B_2 (F := Ideal) c (grid0.coords t) (ms0_0 t) (hs0_0 t) (ms0_1 t) (hs0_1 t) (ms0_2 t) (hs0_2 t) (fun h => h0 ((hcond0_0 t).mp h))
      ((hcond0_1 t).mpr h1) x0 x1 xo (ix2 r l) = xo (ix2 r l) + part x0 x1 r l := by
  frame_out
  open_payloads
  pointwise
  simp only [part, Fin.sum_univ_four]
  rfl

/-- Every window's block at every grid point. -/
theorem idx : ∀ t : Fin cfg0.N, win0_0.index t = ![t.val / 4, t.val % 2] ∧ win0_1.index t = ![t.val % 2, t.val / 2 % 2, 0]
    ∧ win0_2.index t = ![t.val / 4, t.val / 2 % 2] :=
  (by decide +kernel : ∀ t : Fin grid0.N, _)

/-- Row `r` of the block of rows that point `n` reads, in the whole array, -/
def row (n : ℕ) (hn : n < 16) (r : Fin 1024) : Fin 4096 := ⟨n / 4 * 1024 + r.val, by omega⟩

/-- and column `l` of the block of columns it writes. -/
def col (n : ℕ) (l : Fin 1024) : Fin 2048 := ⟨n / 2 % 2 * 1024 + l.val, by omega⟩

variable (m : (ℓ : Loc nD τ sig) → Buf (Elt Ideal) ℓ)

/-- The kernel is handed the incoming gradient as it is, -/
theorem entry_d (r : Fin 4096) (k : Fin 8192) : V m c main_v3 (ix2 r k) = m ((c : Thread nD τ).loc main_arg1) (ix2 r k) := by
  entry_read
  pointwise

/-- and the weight's columns shard by shard. -/
theorem entry_w (s : Fin 8) (r : Fin 2048) (k : Fin 1024) :
    V m c main_v2 (ix3 s r k) = m ((c : Thread nD τ).loc main_arg0) (ix2 r ⟨s.val * 1024 + k.val, by omega⟩) := by
  entry_read
  pointwise

/-- The products of the four shards of half `b` at an entry of the gradient. -/
def half (W : FVec Ideal S2048x8192 .f32) (D : FVec Ideal S4096x8192 .f32) (b : ℕ) (hb : b < 2) (r : Fin 4096) (l : Fin 2048) : EReal :=
  ∑ s : Fin 4, ∑ k : Fin 1024, D (ix2 r ⟨(b * 4 + s.val) * 1024 + k.val, by omega⟩) * W (ix2 l ⟨(b * 4 + s.val) * 1024 + k.val, by omega⟩)

/-- A point's part is the half of the shards it reads. -/
theorem part_eq (b : ℕ) (hb : b < 2) (h : t.val % 2 = b) (r l : Fin 1024) : part (iblk m c 0 t) (iblk m c 1 t) r l
    = half (m ((c : Thread nD τ).loc main_arg0)) (m ((c : Thread nD τ).loc main_arg1)) b hb (row t.val (t.isLt.trans_eq N_0) r) (col t.val l) := by
  subst h
  refine Finset.sum_congr rfl fun s _ => Finset.sum_congr rfl fun k _ => congrArg₂ (· * ·) ?_ ?_
  · refine Eq.trans ?_ (entry_d c m _ _); blk_ext [iblk, row, idx t]
  · refine Eq.trans ?_ (entry_w c m ⟨t.val % 2 * 4 + s.val, by omega⟩ (col t.val l) k); blk_ext [iblk, col, idx t]

/-- The first point of an output block leaves the first half there. -/
theorem first (h0 : t.val % 2 = 0) (r l : Fin 1024) : outsAt0 m c t.val t.isLt (ix2 r l)
    = half (m ((c : Thread nD τ).loc main_arg0)) (m ((c : Thread nD τ).loc main_arg1)) 0 (by omega) (row t.val (t.isLt.trans_eq N_0) r) (col t.val l) := by
  rw [outsAt0_A m c t h0 (by omega)]
  exact (point_A c t _ _ h0 (by omega) r l).trans (part_eq c t m 0 _ h0 r l)

/-- The two halves make the whole product. -/
theorem halves (W : FVec Ideal S2048x8192 .f32) (D : FVec Ideal S4096x8192 .f32) (r : Fin 4096) (l : Fin 2048) :
    half W D 0 (by omega) r l + half W D 1 (by omega) r l = grad W D (ix2 r l) := by
  have h : ∑ b : Fin 2, half W D b.val b.isLt r l = ∑ s : Fin 8, ∑ k : Fin 1024, D (ix2 r ⟨s.val * 1024 + k.val, by omega⟩) * W (ix2 l ⟨s.val * 1024 + k.val, by omega⟩) :=
    Fin.sum_mul_add_congr (fun _ _ _ => rfl) rfl
  rw [Fin.sum_univ_two] at h
  exact h.trans (Fin.sum_mul_add_congr (fun _ _ _ => rfl) rfl)

/-- The second point of an output block leaves a block of the gradient. -/
theorem left (h1 : t.val % 2 = 1) (r l : Fin 1024) : outsAt0 m c t.val t.isLt (ix2 r l)
    = grad (m ((c : Thread nD τ).loc main_arg0)) (m ((c : Thread nD τ).loc main_arg1)) (ix2 (row t.val (t.isLt.trans_eq N_0) r) (col t.val l)) := by
  have hs : t.val - 1 < cfg0.N := Nat.lt_of_le_of_lt (Nat.sub_le _ _) t.isLt
  have e := first c ⟨t.val - 1, hs⟩ m (by show (t.val - 1) % 2 = 0; omega) r l
  have e1 : row (t.val - 1) (hs.trans_eq N_0) r = row t.val (t.isLt.trans_eq N_0) r := Fin.ext (by show (t.val - 1) / 4 * 1024 + _ = t.val / 4 * 1024 + _; omega)
  have e2 : col (t.val - 1) l = col t.val l := Fin.ext (by show (t.val - 1) / 2 % 2 * 1024 + _ = t.val / 2 % 2 * 1024 + _; omega)
  dsimp only at e
  rw [e1, e2] at e
  rw [outsAt0_B m c t (by omega) h1]
  exact (point_B c t _ _ (by omega) h1 _ r l).trans ((congrArg₂ (· + ·) e (part_eq c t m 1 (by omega) h1 r l)).trans (halves _ _ _ _))

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h1 : t.val % 2 = 1 := (by decide +kernel : ∀ t : Fin grid0.N, win0_2.flush t = true → t.val % 2 = 1) t hf
  blk_simp; rw [after0_2]
  refine (congrArg _ (eq_ix2 y)).trans ((left c t m h1 (y 0) (y 1)).trans ?_)
  blk_ext [row, col, idx t]

end Kernel

section Reference
open Cert.MlpUpBwdReferenceIdeal Cert.MlpUpBwdReferenceIdeal.Read

/-- The reference's derivative is that product. -/
theorem ref_grad (x0 : FVec Ideal S2048x8192 .f32) (x1 : FVec Ideal S4096x8192 .f32) (r : Fin 4096) (l : Fin 2048) :
    val_main_v2 (F := Ideal) x0 x1 (ix2 r l) = grad x0 x1 (ix2 r l) := by
  pointwise [val_main_v2]
  rfl

end Reference

/-- The reference terminates and leaves its arguments as they were. -/
theorem frame_reference : Cert.quiescent_MlpUpBwdReferenceIdeal (hMlpUpBwdReferenceIdeal := Cert.MlpUpBwdReferenceIdeal.Gen.facts) := fun m ρ _ =>
  (θ_run _ _ _).mono (fun r h => ⟨fun c => (h c).2, sem_eq_zero_of_no_sems rfl _⟩) (Cert.MlpUpBwdReferenceIdeal.Value.run (F := Ideal) m ρ)

/-- From equal arguments both programs leave the same gradient. -/
theorem algebraic : Cert.algebraic_MlpUpBwdKernelIdeal_MlpUpBwdReferenceIdeal (hMlpUpBwdKernelIdeal := Cert.MlpUpBwdKernelIdeal.Gen.facts)
    (hMlpUpBwdReferenceIdeal := Cert.MlpUpBwdReferenceIdeal.Gen.facts) := by
  intro m ρ m' ρ' hpre hag
  refine ⟨_, Cert.MlpUpBwdKernelIdeal.Value.run_blocks m ρ, (θ_run _ _ _).mono (fun r h c => ?_) (Cert.MlpUpBwdReferenceIdeal.Value.run (F := Ideal) m' ρ')⟩
  obtain ⟨a0, a1⟩ := hag c
  obtain ⟨r0, k⟩ := h c
  refine ⟨(r0.trans (Cert.MlpUpBwdReferenceIdeal.Read.val_main_v2_eq _ _)).trans (Eq.trans (funext fun j => ?_) (final c m).symm), k⟩
  rw [a0, a1]
  exact ((congrArg _ (eq_ix2 j)).trans (ref_grad _ _ (j 0) (j 1))).trans (congrArg _ (eq_ix2 j).symm)

end Cert.MlpUpBwdClaim

end
-- ==== Proof.GradWDownClaim.lean ====
/- The gradient of the second hidden weight: a product over every row, block by block, is the derivative the reference takes. -/
module

public import proofs.«01_k».proof.Defs
public import proofs.«01_k».proof.Proof.Gen.GradWDownKernelIdeal.Value
public import proofs.«01_k».proof.Proof.Gen.GradWDownReferenceIdeal.Run
public import proofs.«01_k».proof.Proof.Gen.GradWDownReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradWDownClaim

section Kernel
open Cert.GradWDownKernelIdeal Cert.GradWDownKernelIdeal.Gen

/-- The weight's gradient at shard `j 0`, row `j 1`, column `j 2`: the sum over the tokens of a hidden entry times the incoming gradient. -/
def grad (A : FVec Ideal S4096x8192 .f32) (B : FVec Ideal S4096x2048 .f32) (j : S8x1024x2048.Idx) : EReal :=
  ∑ k : Fin 4096, A (ix2 k ⟨(j 0).val * 1024 + (j 1).val, by have h0 : (j 0).val < 8 := (j 0).isLt; have h1 : (j 1).val < 1024 := (j 1).isLt; omega⟩) * B (ix2 k (j 2))

/-- The product of two blocks of columns over the tokens, -/
def prod (x0 x1 : FVec Ideal S4096x1024 .bf16) (a b : Fin 1024) : EReal := ∑ k : Fin 4096, x0 (ix2 k a) * x1 (ix2 k b)

/-- which is what one grid point leaves. -/
theorem point (x0 x1 : FVec Ideal S4096x1024 .bf16) (a b : Fin 1024) : out0_2 (F := Ideal) x0 x1 (ix3 0 a b) = prod x0 x1 a b := by
  frame_out
  open_payloads
  pointwise
  rfl

/-- A result block has one shard. -/
theorem one_block (y : S1x1024x1024.Idx) : y = ix3 0 (y 1) (y 2) := by rw [eq_ix3 y]; congr 1; exact Subsingleton.elim _ _

/-- Every window's block at every grid point. -/
theorem idx : ∀ t : Fin cfg0.N, win0_0.index t = ![0, t.val % 8] ∧ win0_1.index t = ![0, t.val / 8] ∧ win0_2.index t = ![t.val % 8, 0, t.val / 8] :=
  (by decide +kernel : ∀ t : Fin grid0.N, _)

/-- Column `l` of the block of hidden columns that point `t` reads, in the whole array, -/
def hid (t : Fin cfg0.N) (l : Fin 1024) : Fin 8192 := ⟨t.val % 8 * 1024 + l.val, by omega⟩

/-- and column `l` of its block of gradient columns. -/
def col (t : Fin cfg0.N) (l : Fin 1024) : Fin 2048 := ⟨t.val / 8 * 1024 + l.val, by have := t.isLt.trans_eq N_0; omega⟩

variable (m : (ℓ : Loc nD τ sig) → Buf (Elt Ideal) ℓ) (c : Dev nD)

/-- The kernel is handed the hidden layer as it is, -/
theorem entry_h (r : Fin 4096) (k : Fin 8192) : V m c main_v0 (ix2 r k) = m ((c : Thread nD τ).loc main_arg0) (ix2 r k) := by
  entry_read
  pointwise

/-- and the incoming gradient. -/
theorem entry_d (r : Fin 4096) (k : Fin 2048) : V m c main_v1 (ix2 r k) = m ((c : Thread nD τ).loc main_arg1) (ix2 r k) := by
  entry_read
  pointwise

/-- What a point leaves is a block of the whole gradient. -/
theorem left (t : Fin cfg0.N) (a b : Fin 1024) :
    prod (iblk m c 0 t) (iblk m c 1 t) a b
      = grad (m ((c : Thread nD τ).loc main_arg0)) (m ((c : Thread nD τ).loc main_arg1)) (ix3 ⟨t.val % 8, by omega⟩ a (col t b)) := by
  refine Finset.sum_congr rfl fun k _ => congrArg₂ (· * ·) ?_ ?_
  · refine Eq.trans ?_ (entry_h m c k (hid t a)); blk_ext [iblk, hid, idx t]
  · refine Eq.trans ?_ (entry_d m c k (col t b)); blk_ext [iblk, col, idx t]

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp; rw [after0_2]
  refine (congrArg _ (one_block y)).trans ((point _ _ (y 1) (y 2)).trans ((left m c t (y 1) (y 2)).trans ?_))
  blk_ext [col, idx t]

end Kernel

section Reference
open Cert.GradWDownReferenceIdeal Cert.GradWDownReferenceIdeal.Read

/-- The reference's derivative is that sum, its factors the other way round. -/
theorem ref_grad (x0 : FVec Ideal S4096x8192 .f32) (x1 : FVec Ideal S4096x2048 .f32) (a : Fin 8) (r : Fin 1024) (l : Fin 2048) :
    val_main_v5 (F := Ideal) x0 x1 (ix3 a r l) = grad x0 x1 (ix3 a r l) := by
  pointwise [val_main_v5, val_main_v4, val_main_v3]
  exact Finset.sum_congr rfl fun k _ => mul_comm _ _

end Reference

/-- The reference terminates and leaves its arguments as they were. -/
theorem frame_reference : Cert.quiescent_GradWDownReferenceIdeal (hGradWDownReferenceIdeal := Cert.GradWDownReferenceIdeal.Gen.facts) := fun m ρ _ =>
  (θ_run _ _ _).mono (fun r h => ⟨fun c => (h c).2, sem_eq_zero_of_no_sems rfl _⟩) (Cert.GradWDownReferenceIdeal.Value.run (F := Ideal) m ρ)

/-- From equal arguments both programs leave the same gradient. -/
theorem algebraic : Cert.algebraic_GradWDownKernelIdeal_GradWDownReferenceIdeal (hGradWDownKernelIdeal := Cert.GradWDownKernelIdeal.Gen.facts)
    (hGradWDownReferenceIdeal := Cert.GradWDownReferenceIdeal.Gen.facts) := by
  intro m ρ m' ρ' hpre hag
  refine ⟨_, Cert.GradWDownKernelIdeal.Value.run_blocks m ρ, (θ_run _ _ _).mono (fun r h c => ?_) (Cert.GradWDownReferenceIdeal.Value.run (F := Ideal) m' ρ')⟩
  obtain ⟨a0, a1⟩ := hag c
  obtain ⟨r0, k⟩ := h c
  refine ⟨(r0.trans (Cert.GradWDownReferenceIdeal.Read.val_main_v5_eq _ _)).trans (Eq.trans (funext fun j => ?_) (final m c).symm), k⟩
  rw [a0, a1]
  exact ((congrArg _ (eq_ix3 j)).trans (ref_grad _ _ (j 0) (j 1) (j 2))).trans (congrArg _ (eq_ix3 j).symm)

end Cert.GradWDownClaim

end
-- ==== Proof.GradXClaim.lean ====
/- The gradient of the input: the padded product with the transposed weight plus the residual's part is the derivative the reference takes. -/
module

public import proofs.«01_k».proof.Defs
public import proofs.«01_k».proof.Proof.Gen.GradXKernelIdeal.Value
public import proofs.«01_k».proof.Proof.Gen.GradXReferenceIdeal.Run
public import proofs.«01_k».proof.Proof.Gen.GradXReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradXClaim

section Kernel
open Cert.GradXKernelIdeal Cert.GradXKernelIdeal.Gen

/-- The input's gradient: the scaled residual gradient plus the product with the transposed weight. -/
def grad (W : FVec Ideal S2048x4368 .f32) (D : FVec Ideal S4096x4368 .f32) (R : FVec Ideal S4096x2048 .f32) (j : S4096x2048.Idx) : EReal :=
  Ideal.ofBits .f32 0x3F9837F0#32 * R (ix2 (j 0) (j 1)) + ∑ k : Fin 4368, D (ix2 (j 0) k) * W (ix2 (j 1) k)

/-- The same of one grid point's blocks, its product over the padded columns. -/
def block (x0 : FVec Ideal S512x4480 .bf16) (x1 : FVec Ideal S4480x1024 .bf16) (x2 : FVec Ideal S512x1024 .f32) (r : Fin 512) (l : Fin 1024) : EReal :=
  Ideal.ofBits .f32 0x3F9837F0#32 * x2 (ix2 r l) + ∑ k : Fin 4480, x0 (ix2 r k) * x1 (ix2 k l)

/-- One grid point leaves the scaled residual block plus the product of its block of rows with its block of columns. -/
theorem point (x0 : FVec Ideal S512x4480 .bf16) (x1 : FVec Ideal S4480x1024 .bf16) (x2 : FVec Ideal S512x1024 .f32) (y : S512x1024.Idx) :
    out0_3 (F := Ideal) x0 x1 x2 y = block x0 x1 x2 (y 0) (y 1) := by
  unfold block
  frame_out
  canon_tiles p hp
  all_goals (idx_vars p; open_payloads; pointwise)
  all_goals rw [show x2 y = x2 (ix2 (y 0) (y 1)) from congrArg x2 (eq_ix2 y)]
  all_goals (rw [show y 0 = ⟨(y 0).val, (y 0).isLt⟩ from rfl, show y 1 = p1 from Fin.ext hp1]; simp only [hp0]; rfl)

/-- Every window's block at every grid point. -/
theorem idx : ∀ t : Fin cfg0.N, win0_0.index t = ![t.val % 8, 0] ∧ win0_1.index t = ![0, t.val / 8] ∧ win0_2.index t = ![t.val % 8, t.val / 8]
    ∧ win0_3.index t = ![t.val % 8, t.val / 8] :=
  (by decide +kernel : ∀ t : Fin grid0.N, _)

/-- Row `r` of the block of rows that point `t` reads, in the whole array, -/
def row (t : Fin cfg0.N) (r : Fin 512) : Fin 4096 := ⟨t.val % 8 * 512 + r.val, by omega⟩

/-- and column `l` of its block of columns. -/
def col (t : Fin cfg0.N) (l : Fin 1024) : Fin 2048 := ⟨t.val / 8 * 1024 + l.val, by have := t.isLt.trans_eq N_0; omega⟩

variable (m : (ℓ : Loc nD τ sig) → Buf (Elt Ideal) ℓ) (c : Dev nD)

/-- The kernel is handed the projection's gradient with columns of zeros after it, -/
theorem entry_d (r : Fin 4096) (k : Fin 4480) : V m c main_v2 (ix2 r k)
    = if h : k.val < 4368 then m ((c : Thread nD τ).loc main_arg1) (ix2 r ⟨k.val, h⟩) else (0 : EReal) := by
  entry_read
  pointwise

/-- and the transposed weight with rows of zeros after it. -/
theorem entry_w (k : Fin 4480) (l : Fin 2048) : V m c main_v6 (ix2 k l)
    = if h : k.val < 4368 then m ((c : Thread nD τ).loc main_arg0) (ix2 l ⟨k.val, h⟩) else (0 : EReal) := by
  entry_read
  pointwise

/-- A sum whose terms after the first 4368 are zero is the sum of those. -/
theorem sum_pad (f g : Fin 4368 → EReal) :
    (∑ k : Fin 4480, (if h : k.val < 4368 then f ⟨k.val, h⟩ else 0) * (if h : k.val < 4368 then g ⟨k.val, h⟩ else 0)) = ∑ k, f k * g k := by
  rw [show (4480 : ℕ) = 4368 + 112 from rfl, Fin.sum_univ_add, Finset.sum_eq_zero (s := (Finset.univ : Finset (Fin 112))), add_zero]
  · exact Finset.sum_congr rfl fun k _ => by simp
  · intro k _
    rw [dif_neg (by simp), zero_mul]

/-- What a point leaves is a block of the whole gradient. -/
theorem left (t : Fin cfg0.N) (r : Fin 512) (l : Fin 1024) :
    block (iblk m c 0 t) (iblk m c 1 t) (iblk m c 2 t) r l
      = grad (m ((c : Thread nD τ).loc main_arg0)) (m ((c : Thread nD τ).loc main_arg1)) (m ((c : Thread nD τ).loc main_arg2)) (ix2 (row t r) (col t l)) := by
  refine congrArg₂ (· + ·) (congrArg (_ * ·) ?_) (Eq.trans ?_ (sum_pad (fun k => m ((c : Thread nD τ).loc main_arg1) (ix2 (row t r) k))
    fun k => m ((c : Thread nD τ).loc main_arg0) (ix2 (col t l) k)))
  · blk_ext [iblk, V, row, col, idx t]
  refine Finset.sum_congr rfl fun k _ => congrArg₂ (· * ·) ?_ ?_
  · refine Eq.trans ?_ (entry_d m c (row t r) k); blk_ext [iblk, row, idx t]
  · refine Eq.trans ?_ (entry_w m c k (col t l)); blk_ext [iblk, col, idx t]

/-- The result array is the whole gradient. -/
theorem final : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  refine (point _ _ _ y).trans ((left m c t (y 0) (y 1)).trans ?_)
  blk_ext [row, col, idx t]

end Kernel

section Reference
open Cert.GradXReferenceIdeal Cert.GradXReferenceIdeal.Read

/-- The reference's derivative is that function. -/
theorem ref_grad (x0 : FVec Ideal S2048x4368 .f32) (x1 : FVec Ideal S4096x4368 .f32) (x2 : FVec Ideal S4096x2048 .f32) (r : Fin 4096) (l : Fin 2048) :
    val_main_v7 (F := Ideal) x0 x1 x2 (ix2 r l) = grad x0 x1 x2 (ix2 r l) := by
  pointwise [val_main_v7, val_main_v6, val_main_v5, val_main_v4, val_main_cst_1]
  rfl

end Reference

/-- The reference terminates and leaves its arguments as they were. -/
theorem frame_reference : Cert.quiescent_GradXReferenceIdeal (hGradXReferenceIdeal := Cert.GradXReferenceIdeal.Gen.facts) := fun m ρ _ =>
  (θ_run _ _ _).mono (fun r h => ⟨fun c => (h c).2, sem_eq_zero_of_no_sems rfl _⟩) (Cert.GradXReferenceIdeal.Value.run (F := Ideal) m ρ)

/-- From equal arguments both programs leave the same gradient. -/
theorem algebraic : Cert.algebraic_GradXKernelIdeal_GradXReferenceIdeal (hGradXKernelIdeal := Cert.GradXKernelIdeal.Gen.facts)
    (hGradXReferenceIdeal := Cert.GradXReferenceIdeal.Gen.facts) := by
  intro m ρ m' ρ' hpre hag
  refine ⟨_, Cert.GradXKernelIdeal.Value.run_blocks m ρ, (θ_run _ _ _).mono (fun r h c => ?_) (Cert.GradXReferenceIdeal.Value.run (F := Ideal) m' ρ')⟩
  obtain ⟨a0, a1, a2⟩ := hag c
  obtain ⟨r0, k⟩ := h c
  refine ⟨(r0.trans (Cert.GradXReferenceIdeal.Read.val_main_v7_eq _ _ _)).trans (Eq.trans (funext fun j => ?_) (final m c).symm), k⟩
  rw [a0, a1, a2]
  exact ((congrArg _ (eq_ix2 j)).trans (ref_grad _ _ _ (j 0) (j 1))).trans (congrArg _ (eq_ix2 j).symm)

end Cert.GradXClaim

end
-- ==== Proof.AdamClaim.lean ====
/- The optimiser step: the kernel's three arrays are the reference's lines, entry by entry. -/
module

public import proofs.«01_k».proof.Defs
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.Lift
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AdamClaim

open Cert.AdamKernelIdeal.Value (G4 G5 G6)
open Cert.AdamReferenceIdeal Cert.AdamReferenceIdeal.Read

variable (g w n v : FVec Ideal S16x64 .f32)

/-- The reference's weight change is the kernel's, -/
theorem ref_delta : val_main_v23 (F := Ideal) g w n v = G4 (F := Ideal) g w n v := by
  funext j
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4, val_main_cst_5,
    val_main_cst_6, val_main_cst_7]

/-- its first moment -/
theorem ref_first : val_main_v4 (F := Ideal) g n = G5 (F := Ideal) g n := by
  funext j
  pointwise [val_main_v4, val_main_v3, val_main_v2, val_main_v1, val_main_v0, val_main_cst, val_main_cst_0]

/-- and its second. -/
theorem ref_second : val_main_v10 (F := Ideal) g v = G6 (F := Ideal) g v := by
  funext j
  pointwise [val_main_v10, val_main_v9, val_main_v8, val_main_v7, val_main_v6, val_main_v5, val_main_cst_1, val_main_cst_2]

/-- The reference terminates and leaves its arguments as they were. -/
theorem frame_reference : Cert.quiescent_AdamReferenceIdeal (hAdamReferenceIdeal := Cert.AdamReferenceIdeal.Gen.facts) := fun m ρ _ =>
  (θ_run _ _ _).mono (fun r h => ⟨fun c => (h c).2.2.2, sem_eq_zero_of_no_sems rfl _⟩) (Cert.AdamReferenceIdeal.Value.run (F := Ideal) m ρ)

/-- From equal arguments both programs leave the same three arrays. -/
theorem algebraic : Cert.algebraic_AdamKernelIdeal_AdamReferenceIdeal (hAdamKernelIdeal := Cert.AdamKernelIdeal.Gen.facts)
    (hAdamReferenceIdeal := Cert.AdamReferenceIdeal.Gen.facts) := by
  intro m ρ m' ρ' hpre hag
  refine ⟨_, _, _, Cert.AdamKernelIdeal.Value.run m ρ, (θ_run _ _ _).mono (fun r h c => ?_) (Cert.AdamReferenceIdeal.Value.run (F := Ideal) m' ρ')⟩
  obtain ⟨a0, a1, a2, a3⟩ := hag c
  obtain ⟨r0, r1, r2, k⟩ := h c
  rw [a0, a1, a2, a3] at r0
  rw [a0, a2] at r1
  rw [a0, a3] at r2
  exact ⟨(r0.trans (val_main_v23_eq _ _ _ _)).trans (ref_delta _ _ _ _), (r1.trans (val_main_v4_eq _ _)).trans (ref_first _ _),
    (r2.trans (val_main_v10_eq _ _)).trans (ref_second _ _), k⟩

end Cert.AdamClaim

end
-- ==== Proof.DcatClaim.lean ====
/- The gradient of the heads' outputs: a product with the transposed weight, block by block, is the derivative the reference takes. -/
module

public import proofs.«01_k».proof.Defs
public import proofs.«01_k».proof.Proof.Gen.DcatKernelIdeal.Value
public import proofs.«01_k».proof.Proof.Gen.DcatReferenceIdeal.Run
public import proofs.«01_k».proof.Proof.Gen.DcatReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DcatClaim

section Kernel
open Cert.DcatKernelIdeal Cert.DcatKernelIdeal.Gen

/-- The gradient of the heads' outputs: a token's incoming gradient times the transposed weight. -/
def grad (W : FVec Ideal S2048x2048 .f32) (D : FVec Ideal S4096x2048 .f32) (j : S4096x2048.Idx) : EReal :=
  ∑ k : Fin 2048, D (ix2 (j 0) k) * W (ix2 (j 1) k)

/-- The product of a block of tokens with a block of the weight's rows, -/
def prod (x0 x1 : FVec Ideal S1024x2048 .bf16) (r l : Fin 1024) : EReal :=
  ∑ k : Fin 2048, x0 (ix2 r k) * x1 (ix2 l k)

/-- which is what one grid point leaves. -/
theorem point (x0 x1 : FVec Ideal S1024x2048 .bf16) (r l : Fin 1024) :
    out0_2 (F := Ideal) x0 x1 (ix2 r l) = prod x0 x1 r l := by
  frame_out
  open_payloads
  pointwise
  rfl

/-- Every window's block at every grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- Row `r` of the block of tokens that point `t` reads, in the whole array, -/
def row (t : Fin cfg0.N) (r : Fin 1024) : Fin 4096 := ⟨t.val / 2 * 1024 + r.val, by have := t.isLt.trans_eq N_0; omega⟩

/-- and row `l` of its block of the weight. -/
def col (t : Fin cfg0.N) (l : Fin 1024) : Fin 2048 := ⟨t.val % 2 * 1024 + l.val, by omega⟩

variable (m : (ℓ : Loc nD τ sig) → Buf (Elt Ideal) ℓ) (c : Dev nD)

/-- The kernel is handed the incoming gradient as it is, -/
theorem entry_d (r : Fin 4096) (k : Fin 2048) : V m c main_v0 (ix2 r k) = m ((c : Thread nD τ).loc main_arg1) (ix2 r k) := by
  entry_read
  pointwise

/-- and the weight. -/
theorem entry_w (r k : Fin 2048) : V m c main_v1 (ix2 r k) = m ((c : Thread nD τ).loc main_arg0) (ix2 r k) := by
  entry_read
  pointwise

/-- What a point leaves is a block of the whole gradient. -/
theorem left (t : Fin cfg0.N) (r l : Fin 1024) :
    prod (iblk m c 0 t) (iblk m c 1 t) r l = grad (m ((c : Thread nD τ).loc main_arg0)) (m ((c : Thread nD τ).loc main_arg1)) (ix2 (row t r) (col t l)) := by
  refine Finset.sum_congr rfl fun k _ => congrArg₂ (· * ·) ?_ ?_
  · refine Eq.trans ?_ (entry_d m c (row t r) k); blk_ext [iblk, row, idx t]
  · refine Eq.trans ?_ (entry_w m c (col t l) k); blk_ext [iblk, col, idx t]

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp; rw [after0_2]
  refine (congrArg _ (eq_ix2 y)).trans ((point _ _ (y 0) (y 1)).trans ((left m c t (y 0) (y 1)).trans ?_))
  blk_ext [row, col, idx t]

end Kernel

section Reference
open Cert.DcatReferenceIdeal Cert.DcatReferenceIdeal.Read

/-- The reference's derivative is the same sum. -/
theorem ref_grad (x0 : FVec Ideal S2048x2048 .f32) (x1 : FVec Ideal S4096x2048 .f32) (r : Fin 4096) (l : Fin 2048) :
    val_main_v2 (F := Ideal) x0 x1 (ix2 r l) = grad x0 x1 (ix2 r l) := by
  pointwise [val_main_v2]
  rfl

end Reference

/-- The reference terminates and leaves its arguments as they were. -/
theorem frame_reference : Cert.quiescent_DcatReferenceIdeal (hDcatReferenceIdeal := Cert.DcatReferenceIdeal.Gen.facts) := fun m ρ _ =>
  (θ_run _ _ _).mono (fun r h => ⟨fun c => (h c).2, sem_eq_zero_of_no_sems rfl _⟩) (Cert.DcatReferenceIdeal.Value.run (F := Ideal) m ρ)

/-- From equal arguments both programs leave the same gradient. -/
theorem algebraic : Cert.algebraic_DcatKernelIdeal_DcatReferenceIdeal (hDcatKernelIdeal := Cert.DcatKernelIdeal.Gen.facts)
    (hDcatReferenceIdeal := Cert.DcatReferenceIdeal.Gen.facts) := by
  intro m ρ m' ρ' hpre hag
  refine ⟨_, Cert.DcatKernelIdeal.Value.run_blocks m ρ, (θ_run _ _ _).mono (fun r h c => ?_) (Cert.DcatReferenceIdeal.Value.run (F := Ideal) m' ρ')⟩
  obtain ⟨a0, a1⟩ := hag c
  obtain ⟨r0, k⟩ := h c
  refine ⟨(r0.trans (Cert.DcatReferenceIdeal.Read.val_main_v2_eq _ _)).trans (Eq.trans (funext fun j => ?_) (final m c).symm), k⟩
  rw [a0, a1]
  exact ((congrArg _ (eq_ix2 j)).trans (ref_grad _ _ (j 0) (j 1))).trans (congrArg _ (eq_ix2 j).symm)

end Cert.DcatClaim

end
-- ==== Proof.GradWUpClaim.lean ====
/- The gradient of the first hidden weight, device by device: a product over every token is the derivative the reference takes. -/
module

public import proofs.«01_k».proof.Defs
public import proofs.«01_k».proof.Proof.Gen.GradWUpKernelIdeal.Value
public import proofs.«01_k».proof.Proof.Gen.GradWUpReferenceIdeal.Run
public import proofs.«01_k».proof.Proof.Gen.GradWUpReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradWUpClaim

section Kernel
open Cert.GradWUpKernelIdeal Cert.GradWUpKernelIdeal.Gen

/-- The weight's gradient at device `j 0`, row `j 1`, column `j 2`: the sum over the tokens of the layer's input times the hidden gradient, whose columns lie device by device. -/
def grad (A : FVec Ideal S4096x2048 .f32) (B : FVec Ideal S4096x8192 .f32) (j : S8x2048x1024.Idx) : EReal :=
  ∑ k : Fin 4096, A (ix2 k (j 1)) * B (ix2 k ⟨(j 0).val * 1024 + (j 2).val, by have h0 : (j 0).val < 8 := (j 0).isLt; have h2 : (j 2).val < 1024 := (j 2).isLt; omega⟩)

/-- The product of two blocks of columns over the tokens, -/
def prod (x0 x1 : FVec Ideal S4096x1024 .bf16) (a b : Fin 1024) : EReal := ∑ k : Fin 4096, x0 (ix2 k a) * x1 (ix2 k b)

/-- which is what one grid point leaves. -/
theorem point (x0 x1 : FVec Ideal S4096x1024 .bf16) (a b : Fin 1024) : out0_2 (F := Ideal) x0 x1 (ix3 0 a b) = prod x0 x1 a b := by
  frame_out
  open_payloads
  pointwise
  rfl

/-- A result block has one device's part. -/
theorem one_block (y : S1x1024x1024.Idx) : y = ix3 0 (y 1) (y 2) := by rw [eq_ix3 y]; congr 1; exact Subsingleton.elim _ _

/-- Every window's block at every grid point: two points for each device, one for each half of the rows. -/
theorem idx : ∀ t : Fin cfg0.N, win0_0.index t = ![0, t.val % 2] ∧ win0_1.index t = ![0, t.val / 2] ∧ win0_2.index t = ![t.val / 2, t.val % 2, 0] :=
  (by decide +kernel : ∀ t : Fin grid0.N, _)

/-- The device whose columns point `t` reads, -/
def dev (t : Fin cfg0.N) : Fin 8 := ⟨t.val / 2, by have := t.isLt.trans_eq N_0; omega⟩

/-- column `l` of that block in the whole hidden gradient, -/
def hid (t : Fin cfg0.N) (l : Fin 1024) : Fin 8192 := ⟨t.val / 2 * 1024 + l.val, by have := t.isLt.trans_eq N_0; omega⟩

/-- and column `l` of its block of the layer's input. -/
def col (t : Fin cfg0.N) (l : Fin 1024) : Fin 2048 := ⟨t.val % 2 * 1024 + l.val, by omega⟩

variable (m : (ℓ : Loc nD τ sig) → Buf (Elt Ideal) ℓ) (c : Dev nD)

/-- The kernel is handed the layer's input as it is, -/
theorem entry_x (r : Fin 4096) (k : Fin 2048) : V m c main_v0 (ix2 r k) = m ((c : Thread nD τ).loc main_arg0) (ix2 r k) := by
  entry_read
  pointwise

/-- and the hidden gradient. -/
theorem entry_d (r : Fin 4096) (k : Fin 8192) : V m c main_v1 (ix2 r k) = m ((c : Thread nD τ).loc main_arg1) (ix2 r k) := by
  entry_read
  pointwise

/-- What a point leaves is a block of the whole gradient. -/
theorem left (t : Fin cfg0.N) (a b : Fin 1024) :
    prod (iblk m c 0 t) (iblk m c 1 t) a b = grad (m ((c : Thread nD τ).loc main_arg0)) (m ((c : Thread nD τ).loc main_arg1)) (ix3 (dev t) (col t a) b) := by
  refine Finset.sum_congr rfl fun k _ => congrArg₂ (· * ·) ?_ ?_
  · refine Eq.trans ?_ (entry_x m c k (col t a)); blk_ext [iblk, col, idx t]
  · refine Eq.trans ?_ (entry_d m c k (hid t b)); blk_ext [iblk, hid, idx t]

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp; rw [after0_2]
  refine (congrArg _ (one_block y)).trans ((point _ _ (y 1) (y 2)).trans ((left m c t (y 1) (y 2)).trans ?_))
  blk_ext [dev, col, idx t]

end Kernel

section Reference
open Cert.GradWUpReferenceIdeal Cert.GradWUpReferenceIdeal.Read

/-- The reference's derivative, cut by devices, is that sum, its factors the other way round. -/
theorem ref_grad (x0 : FVec Ideal S4096x2048 .f32) (x1 : FVec Ideal S4096x8192 .f32) (a : Fin 8) (r : Fin 2048) (l : Fin 1024) :
    val_main_v5 (F := Ideal) x0 x1 (ix3 a r l) = grad x0 x1 (ix3 a r l) := by
  pointwise [val_main_v5, val_main_v4, val_main_v3, val_main_v2]
  exact Finset.sum_congr rfl fun k _ => mul_comm _ _

end Reference

/-- The reference terminates and leaves its arguments as they were. -/
theorem frame_reference : Cert.quiescent_GradWUpReferenceIdeal (hGradWUpReferenceIdeal := Cert.GradWUpReferenceIdeal.Gen.facts) := fun m ρ _ =>
  (θ_run _ _ _).mono (fun r h => ⟨fun c => (h c).2, sem_eq_zero_of_no_sems rfl _⟩) (Cert.GradWUpReferenceIdeal.Value.run (F := Ideal) m ρ)

/-- From equal arguments both programs leave the same gradient. -/
theorem algebraic : Cert.algebraic_GradWUpKernelIdeal_GradWUpReferenceIdeal (hGradWUpKernelIdeal := Cert.GradWUpKernelIdeal.Gen.facts)
    (hGradWUpReferenceIdeal := Cert.GradWUpReferenceIdeal.Gen.facts) := by
  intro m ρ m' ρ' hpre hag
  refine ⟨_, Cert.GradWUpKernelIdeal.Value.run_blocks m ρ, (θ_run _ _ _).mono (fun r h c => ?_) (Cert.GradWUpReferenceIdeal.Value.run (F := Ideal) m' ρ')⟩
  obtain ⟨a0, a1⟩ := hag c
  obtain ⟨r0, k⟩ := h c
  refine ⟨(r0.trans (Cert.GradWUpReferenceIdeal.Read.val_main_v5_eq _ _)).trans (Eq.trans (funext fun j => ?_) (final m c).symm), k⟩
  rw [a0, a1]
  exact ((congrArg _ (eq_ix3 j)).trans (ref_grad _ _ (j 0) (j 1) (j 2))).trans (congrArg _ (eq_ix3 j).symm)

end Cert.GradWUpClaim

end
-- ==== Proof.GradWOutClaim.lean ====
/- The gradient of the output projection's weight, its rows cut by devices: a product over every token is the derivative the reference takes. -/
module

public import proofs.«01_k».proof.Defs
public import proofs.«01_k».proof.Proof.Gen.GradWOutKernelIdeal.Value
public import proofs.«01_k».proof.Proof.Gen.GradWOutReferenceIdeal.Run
public import proofs.«01_k».proof.Proof.Gen.GradWOutReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradWOutClaim

section Kernel
open Cert.GradWOutKernelIdeal Cert.GradWOutKernelIdeal.Gen

/-- The weight's gradient at device `j 0`, its row `j 1`, column `j 2`: the sum over the tokens of the heads' outputs times the incoming gradient. -/
def grad (A B : FVec Ideal S4096x2048 .f32) (j : S8x256x2048.Idx) : EReal :=
  ∑ k : Fin 4096, A (ix2 k ⟨(j 0).val * 256 + (j 1).val, by have h0 : (j 0).val < 8 := (j 0).isLt; have h1 : (j 1).val < 256 := (j 1).isLt; omega⟩) * B (ix2 k (j 2))

/-- The product of two blocks of columns, its rows cut into four devices' parts, -/
def prod (x0 x1 : FVec Ideal S4096x1024 .bf16) (a : Fin 4) (r : Fin 256) (l : Fin 1024) : EReal :=
  ∑ k : Fin 4096, x0 (ix2 k ⟨a.val * 256 + r.val, by omega⟩) * x1 (ix2 k l)

/-- which is what one grid point leaves. -/
theorem point (x0 x1 : FVec Ideal S4096x1024 .bf16) (a : Fin 4) (r : Fin 256) (l : Fin 1024) :
    out0_2 (F := Ideal) x0 x1 (ix3 a r l) = prod x0 x1 a r l := by
  frame_out
  open_payloads
  pointwise
  rfl

/-- Every window's block at every grid point. -/
theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

/-- The device of part `a` of the block that point `t` writes, -/
def dev (t : Fin cfg0.N) (a : Fin 4) : Fin 8 := ⟨t.val / 2 * 4 + a.val, by have := t.isLt.trans_eq N_0; omega⟩

/-- column `l` of its block of the heads' outputs, in the whole array, -/
def cat (t : Fin cfg0.N) (l : Fin 1024) : Fin 2048 := ⟨t.val / 2 * 1024 + l.val, by have := t.isLt.trans_eq N_0; omega⟩

/-- and column `l` of its block of the incoming gradient. -/
def col (t : Fin cfg0.N) (l : Fin 1024) : Fin 2048 := ⟨t.val % 2 * 1024 + l.val, by omega⟩

variable (m : (ℓ : Loc nD τ sig) → Buf (Elt Ideal) ℓ) (c : Dev nD)

/-- The kernel is handed the heads' outputs as they are, -/
theorem entry_x (r : Fin 4096) (k : Fin 2048) : V m c main_v0 (ix2 r k) = m ((c : Thread nD τ).loc main_arg0) (ix2 r k) := by
  entry_read
  pointwise

/-- and the incoming gradient. -/
theorem entry_d (r : Fin 4096) (k : Fin 2048) : V m c main_v1 (ix2 r k) = m ((c : Thread nD τ).loc main_arg1) (ix2 r k) := by
  entry_read
  pointwise

/-- What a point leaves is a block of the whole gradient. -/
theorem left (t : Fin cfg0.N) (a : Fin 4) (r : Fin 256) (l : Fin 1024) :
    prod (iblk m c 0 t) (iblk m c 1 t) a r l = grad (m ((c : Thread nD τ).loc main_arg0)) (m ((c : Thread nD τ).loc main_arg1)) (ix3 (dev t a) r (col t l)) := by
  refine Finset.sum_congr rfl fun k _ => congrArg₂ (· * ·) ?_ ?_
  · refine (show _ = V m c main_v0 (ix2 k (cat t ⟨a.val * 256 + r.val, by omega⟩)) from ?_).trans ((entry_x m c k _).trans ?_)
    · blk_ext [iblk, cat, idx t]
    · exact congrArg _ (congrArg (ix2 k) (Fin.ext (by simp only [cat, dev]; dsimp; omega)))
  · refine Eq.trans ?_ (entry_d m c k (col t l)); blk_ext [iblk, col, idx t]

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp; rw [after0_2]
  refine (congrArg _ (eq_ix3 y)).trans ((point _ _ (y 0) (y 1) (y 2)).trans ((left m c t (y 0) (y 1) (y 2)).trans ?_))
  blk_ext [dev, col, idx t]

end Kernel

section Reference
open Cert.GradWOutReferenceIdeal Cert.GradWOutReferenceIdeal.Read

/-- The reference's derivative is that sum, its factors the other way round. -/
theorem ref_grad (x0 x1 : FVec Ideal S4096x2048 .f32) (a : Fin 8) (r : Fin 256) (l : Fin 2048) :
    val_main_v5 (F := Ideal) x0 x1 (ix3 a r l) = grad x0 x1 (ix3 a r l) := by
  pointwise [val_main_v5, val_main_v4, val_main_v3]
  exact Finset.sum_congr rfl fun k _ => mul_comm _ _

end Reference

/-- The reference terminates and leaves its arguments as they were. -/
theorem frame_reference : Cert.quiescent_GradWOutReferenceIdeal (hGradWOutReferenceIdeal := Cert.GradWOutReferenceIdeal.Gen.facts) := fun m ρ _ =>
  (θ_run _ _ _).mono (fun r h => ⟨fun c => (h c).2, sem_eq_zero_of_no_sems rfl _⟩) (Cert.GradWOutReferenceIdeal.Value.run (F := Ideal) m ρ)

/-- From equal arguments both programs leave the same gradient. -/
theorem algebraic : Cert.algebraic_GradWOutKernelIdeal_GradWOutReferenceIdeal (hGradWOutKernelIdeal := Cert.GradWOutKernelIdeal.Gen.facts)
    (hGradWOutReferenceIdeal := Cert.GradWOutReferenceIdeal.Gen.facts) := by
  intro m ρ m' ρ' hpre hag
  refine ⟨_, Cert.GradWOutKernelIdeal.Value.run_blocks m ρ, (θ_run _ _ _).mono (fun r h c => ?_) (Cert.GradWOutReferenceIdeal.Value.run (F := Ideal) m' ρ')⟩
  obtain ⟨a0, a1⟩ := hag c
  obtain ⟨r0, k⟩ := h c
  refine ⟨(r0.trans (Cert.GradWOutReferenceIdeal.Read.val_main_v5_eq _ _)).trans (Eq.trans (funext fun j => ?_) (final m c).symm), k⟩
  rw [a0, a1]
  exact ((congrArg _ (eq_ix3 j)).trans (ref_grad _ _ (j 0) (j 1) (j 2))).trans (congrArg _ (eq_ix3 j).symm)

end Cert.GradWOutClaim

end
-- ==== Proof.MlpDownClaim.lean ====
/- The second hidden layer: its product, over two grid points an output block, is the plain product. -/
module

public import proofs.«01_k».proof.Defs
public import proofs.«01_k».proof.Proof.Gen.MlpDownKernelIdeal.Value
public import proofs.«01_k».proof.Proof.Gen.MlpDownReferenceIdeal.Run
public import proofs.«01_k».proof.Proof.Gen.MlpDownReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpDownClaim

section Kernel
open Cert.MlpDownKernelIdeal Cert.MlpDownKernelIdeal.Gen

/-- The product. -/
def out (A : FVec Ideal S4096x8192 .f32) (W : FVec Ideal S8192x2048 .f32) (j : S4096x2048.Idx) : EReal :=
  ∑ k : Fin 8192, A (ix2 (j 0) k) * W (ix2 k (j 1))

/-- The part of it that one half of the hidden entries gives. -/
def part (x0 : FVec Ideal S1024x4096 .bf16) (x1 : FVec Ideal S4096x1024 .bf16) (r l : Fin 1024) : EReal :=
  ∑ k : Fin 4096, x0 (ix2 r k) * x1 (ix2 k l)

variable (c : Dev nD) (t : Fin cfg0.N) (x0 : FVec Ideal S1024x4096 .bf16) (x1 : FVec Ideal S4096x1024 .bf16)

/-- The first point of an output block leaves the first half's part, -/
theorem point_A (h0 : t.val % 2 = 0) (h1 : ¬t.val % 2 = 1) (r l : Fin 1024) :
    out0_A_2 (F := Ideal) c (grid0.coords t) (ms0_0 t) (hs0_0 t) (ms0_1 t) (hs0_1 t) (ms0_2 t) (hs0_2 t) ((hcond0_0 t).mpr h0)
      (fun h => h1 ((hcond0_1 t).mp h)) x0 x1 (ix2 r l) = part x0 x1 r l := by
  frame_out
  open_payloads
  pointwise
  rfl

/-- and the second adds its own to what the first left. -/
theorem point_B (h0 : ¬t.val % 2 = 0) (h1 : t.val % 2 = 1) (xo : FVec Ideal S1024x1024 .f32) (r l : Fin 1024) :
    out0_B_2 (F := Ideal) c (grid0.coords t) (ms0_0 t) (hs0_0 t) (ms0_1 t) (hs0_1 t) (ms0_2 t) (hs0_2 t) (fun h => h0 ((hcond0_0 t).mp h))
      ((hcond0_1 t).mpr h1) x0 x1 xo (ix2 r l) = xo (ix2 r l) + part x0 x1 r l := by
  frame_out
  open_payloads
  pointwise
  rfl

/-- Every window's block at every grid point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- Row `r` of the block of rows that point `n` reads, in the whole array, -/
def row (n : ℕ) (hn : n < 16) (r : Fin 1024) : Fin 4096 := ⟨n / 4 * 1024 + r.val, by omega⟩

/-- and column `l` of the block of columns it writes. -/
def col (n : ℕ) (l : Fin 1024) : Fin 2048 := ⟨n / 2 % 2 * 1024 + l.val, by omega⟩

variable (m : (ℓ : Loc nD τ sig) → Buf (Elt Ideal) ℓ)

/-- The kernel is handed the hidden layer as it is, -/
theorem entry_h (r : Fin 4096) (k : Fin 8192) : V m c main_v0 (ix2 r k) = m ((c : Thread nD τ).loc main_arg0) (ix2 r k) := by
  entry_read
  pointwise

/-- and the weight. -/
theorem entry_w (k : Fin 8192) (l : Fin 2048) : V m c main_v1 (ix2 k l) = m ((c : Thread nD τ).loc main_arg1) (ix2 k l) := by
  entry_read
  pointwise

/-- The product over half `b` of the hidden entries. -/
def half (A : FVec Ideal S4096x8192 .f32) (W : FVec Ideal S8192x2048 .f32) (b : ℕ) (hb : b < 2) (r : Fin 4096) (l : Fin 2048) : EReal :=
  ∑ k : Fin 4096, A (ix2 r ⟨b * 4096 + k.val, by omega⟩) * W (ix2 ⟨b * 4096 + k.val, by omega⟩ l)

/-- A point's part is the half that it reads. -/
theorem part_eq (b : ℕ) (hb : b < 2) (h : t.val % 2 = b) (r l : Fin 1024) : part (iblk m c 0 t) (iblk m c 1 t) r l
    = half (m ((c : Thread nD τ).loc main_arg0)) (m ((c : Thread nD τ).loc main_arg1)) b hb (row t.val (t.isLt.trans_eq N_0) r) (col t.val l) := by
  subst h
  refine Finset.sum_congr rfl fun k _ => congrArg₂ (· * ·) ?_ ?_
  · refine Eq.trans ?_ (entry_h c m _ _); blk_ext [iblk, row, idx t]
  · refine Eq.trans ?_ (entry_w c m _ (col t.val l)); blk_ext [iblk, col, idx t]

/-- The first point of an output block leaves the first half there. -/
theorem first (h0 : t.val % 2 = 0) (r l : Fin 1024) : outsAt0 m c t.val t.isLt (ix2 r l)
    = half (m ((c : Thread nD τ).loc main_arg0)) (m ((c : Thread nD τ).loc main_arg1)) 0 (by omega) (row t.val (t.isLt.trans_eq N_0) r) (col t.val l) := by
  rw [outsAt0_A m c t h0 (by omega)]
  exact (point_A c t _ _ h0 (by omega) r l).trans (part_eq c t m 0 _ h0 r l)

/-- The two halves make the whole product. -/
theorem halves (A : FVec Ideal S4096x8192 .f32) (W : FVec Ideal S8192x2048 .f32) (r : Fin 4096) (l : Fin 2048) :
    half A W 0 (by omega) r l + half A W 1 (by omega) r l = out A W (ix2 r l) := by
  have h : ∑ b : Fin 2, half A W b.val b.isLt r l = out A W (ix2 r l) := Fin.sum_mul_add_congr (fun _ _ _ => rfl) rfl
  rw [Fin.sum_univ_two] at h
  exact h

/-- The second point of an output block leaves a block of the product. -/
theorem left (h1 : t.val % 2 = 1) (r l : Fin 1024) : outsAt0 m c t.val t.isLt (ix2 r l)
    = out (m ((c : Thread nD τ).loc main_arg0)) (m ((c : Thread nD τ).loc main_arg1)) (ix2 (row t.val (t.isLt.trans_eq N_0) r) (col t.val l)) := by
  have hs : t.val - 1 < cfg0.N := Nat.lt_of_le_of_lt (Nat.sub_le _ _) t.isLt
  have e := first c ⟨t.val - 1, hs⟩ m (by show (t.val - 1) % 2 = 0; omega) r l
  have e1 : row (t.val - 1) (hs.trans_eq N_0) r = row t.val (t.isLt.trans_eq N_0) r := Fin.ext (by show (t.val - 1) / 4 * 1024 + _ = t.val / 4 * 1024 + _; omega)
  have e2 : col (t.val - 1) l = col t.val l := Fin.ext (by show (t.val - 1) / 2 % 2 * 1024 + _ = t.val / 2 % 2 * 1024 + _; omega)
  dsimp only at e
  rw [e1, e2] at e
  rw [outsAt0_B m c t (by omega) h1]
  exact (point_B c t _ _ (by omega) h1 _ r l).trans ((congrArg₂ (· + ·) e (part_eq c t m 1 (by omega) h1 r l)).trans (halves _ _ _ _))

/-- The result array is the whole product. -/
theorem final : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have h1 : t.val % 2 = 1 := (by decide +kernel : ∀ t : Fin grid0.N, win0_2.flush t = true → t.val % 2 = 1) t hf
  blk_simp; rw [after0_2]
  refine (congrArg _ (eq_ix2 y)).trans ((left c t m h1 (y 0) (y 1)).trans ?_)
  blk_ext [row, col, idx t]

end Kernel

section Reference
open Cert.MlpDownReferenceIdeal Cert.MlpDownReferenceIdeal.Read

/-- The reference's product. -/
theorem ref_value (x0 : FVec Ideal S4096x8192 .f32) (x1 : FVec Ideal S8192x2048 .f32) (r : Fin 4096) (l : Fin 2048) :
    val_main_v0 (F := Ideal) x0 x1 (ix2 r l) = out x0 x1 (ix2 r l) := by
  pointwise [val_main_v0]
  rfl

end Reference

/-- The reference terminates and leaves its arguments as they were. -/
theorem frame_reference : Cert.quiescent_MlpDownReferenceIdeal (hMlpDownReferenceIdeal := Cert.MlpDownReferenceIdeal.Gen.facts) := fun m ρ _ =>
  (θ_run _ _ _).mono (fun r h => ⟨fun c => (h c).2, sem_eq_zero_of_no_sems rfl _⟩) (Cert.MlpDownReferenceIdeal.Value.run (F := Ideal) m ρ)

/-- From equal arguments both programs leave the same product. -/
theorem algebraic : Cert.algebraic_MlpDownKernelIdeal_MlpDownReferenceIdeal (hMlpDownKernelIdeal := Cert.MlpDownKernelIdeal.Gen.facts)
    (hMlpDownReferenceIdeal := Cert.MlpDownReferenceIdeal.Gen.facts) := by
  intro m ρ m' ρ' hpre hag
  refine ⟨_, Cert.MlpDownKernelIdeal.Value.run_blocks m ρ, (θ_run _ _ _).mono (fun r h c => ?_) (Cert.MlpDownReferenceIdeal.Value.run (F := Ideal) m' ρ')⟩
  obtain ⟨a0, a1⟩ := hag c
  obtain ⟨r0, k⟩ := h c
  refine ⟨(r0.trans (Cert.MlpDownReferenceIdeal.Read.val_main_v0_eq _ _)).trans (Eq.trans (funext fun j => ?_) (final c m).symm), k⟩
  rw [a0, a1]
  exact ((congrArg _ (eq_ix2 j)).trans (ref_value _ _ (j 0) (j 1))).trans (congrArg _ (eq_ix2 j).symm)

end Cert.MlpDownClaim

end
-- ==== Proof.ProjClaim.lean ====
/- The input projection: the product with the transposed weight, its rows reordered and padded, is the product with its columns reordered and padded. -/
module

public import proofs.«01_k».proof.Defs
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjClaim

section Kernel
open Cert.ProjKernelIdeal Cert.ProjKernelIdeal.Gen

/-- The weight's column that stands at place `k` of the version's order, if there is one: the low-rank gate's 16 columns come last, then zeros. -/
def weight (W : FVec Ideal S2048x4368 .f32) (k : Fin 4480) (d : Fin 2048) : EReal :=
  if h : k.val < 3072 then W (ix2 d ⟨k.val, by omega⟩)
  else if h : k.val - 3072 < 1280 then W (ix2 d ⟨3088 + (k.val - 3072), by omega⟩)
  else if h : k.val - 3072 - 1280 < 16 then W (ix2 d ⟨3072 + (k.val - 3072 - 1280), by omega⟩) else 0

/-- The columns of the normalised part, -/
theorem weight_0 (W : FVec Ideal S2048x4368 .f32) (k : Fin 4480) (d : Fin 2048) (h : k.val < 3072) :
    weight W k d = W (ix2 d ⟨k.val, by omega⟩) := dif_pos h
/-- those moved up by 16, -/
theorem weight_1 (W : FVec Ideal S2048x4368 .f32) (k : Fin 4480) (d : Fin 2048) (h : ¬ k.val < 3072) (h' : k.val - 3072 < 1280) :
    weight W k d = W (ix2 d ⟨3088 + (k.val - 3072), by omega⟩) := (dif_neg h).trans (dif_pos h')
/-- the low-rank gate's -/
theorem weight_2 (W : FVec Ideal S2048x4368 .f32) (k : Fin 4480) (d : Fin 2048) (h : ¬ k.val < 3072) (h' : ¬ k.val - 3072 < 1280)
    (h'' : k.val - 3072 - 1280 < 16) : weight W k d = W (ix2 d ⟨3072 + (k.val - 3072 - 1280), by omega⟩) :=
  (dif_neg h).trans ((dif_neg h').trans (dif_pos h''))
/-- and the padding. -/
theorem weight_3 (W : FVec Ideal S2048x4368 .f32) (k : Fin 4480) (d : Fin 2048) (h : ¬ k.val < 3072) (h' : ¬ k.val - 3072 < 1280)
    (h'' : ¬ k.val - 3072 - 1280 < 16) : weight W k d = 0 := (dif_neg h).trans ((dif_neg h').trans (dif_neg h''))

/-- The projection in that order. -/
def proj (X : FVec Ideal S4096x2048 .f32) (W : FVec Ideal S2048x4368 .f32) (j : S4096x4480.Idx) : EReal :=
  ∑ d : Fin 2048, X (ix2 (j 0) d) * weight W (j 1) d

/-- The product of a block of tokens with a block of the transposed weight's rows, -/
def prod (x0 : FVec Ideal S2048x2048 .bf16) (x1 : FVec Ideal S896x2048 .bf16) (r : Fin 2048) (l : Fin 896) : EReal :=
  ∑ d : Fin 2048, x0 (ix2 r d) * x1 (ix2 l d)

/-- which is what one grid point leaves. -/
theorem point (x0 : FVec Ideal S2048x2048 .bf16) (x1 : FVec Ideal S896x2048 .bf16) (r : Fin 2048) (l : Fin 896) :
    out0_2 (F := Ideal) x0 x1 (ix2 r l) = prod x0 x1 r l := by
  frame_out
  open_payloads
  pointwise
  rfl

/-- Every window's block at every grid point. -/
theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

/-- Row `r` of the block of tokens that point `t` reads, in the whole array, -/
def row (t : Fin cfg0.N) (r : Fin 2048) : Fin 4096 := ⟨t.val / 5 * 2048 + r.val, by have := t.isLt.trans_eq N_0; omega⟩

/-- and column `l` of the block of columns it writes. -/
def col (t : Fin cfg0.N) (l : Fin 896) : Fin 4480 := ⟨t.val % 5 * 896 + l.val, by omega⟩

variable (m : (ℓ : Loc nD τ sig) → Buf (Elt Ideal) ℓ) (c : Dev nD)

/-- The kernel is handed the tokens as they are, -/
theorem entry_x (r : Fin 4096) (d : Fin 2048) : V m c main_v0 (ix2 r d) = m ((c : Thread nD τ).loc main_arg0) (ix2 r d) := by
  entry_read
  pointwise

/-- The transposed weight, its rows in the version's order and padded with zeros. -/
theorem entry_wt : (V m c main_v7 : FVec Ideal S4480x2048 .bf16) =
    let w : FVec Ideal S4368x2048 .bf16 := transpose S4368x2048 [1, 0] (truncf (F := Ideal) .bf16 (m ((c : Thread nD τ).loc main_arg1) : FVec Ideal S2048x4368 .f32) bitsLt_bf16_f32) transposes_S2048x4368_S4368x2048_1_0
    concatenate S4480x2048 0
      [⟨S3072x2048, extractStridedSlice S3072x2048 ![0, 0] w slices_S4368x2048_S3072x2048_0_0⟩,
       ⟨S1280x2048, extractStridedSlice S1280x2048 ![3088, 0] w slices_S4368x2048_S1280x2048_3088_0⟩,
       ⟨S16x2048, extractStridedSlice S16x2048 ![3072, 0] w slices_S4368x2048_S16x2048_3072_0⟩,
       ⟨S112x2048, broadcastInDim S112x2048 ![] bcast_S_S112x2048 (constant (F := Ideal) S_ .bf16 0x0000#16)⟩]
      concatenates_S3072x2048_S1280x2048_S16x2048_S112x2048_S4480x2048_d0 := by
  unfold V
  after_results
  rfl

/-- So that the kernel is handed that weight. -/
theorem entry_w (k : Fin 4480) (d : Fin 2048) : V m c main_v7 (ix2 k d) = weight (m ((c : Thread nD τ).loc main_arg1)) k d := by
  rw [entry_wt]
  pointwise
  split_ifs
  all_goals first
    | rw [weight_0 _ k d (by with_reducible assumption)]
    | rw [weight_1 _ k d (by with_reducible assumption) (by with_reducible assumption)]
    | rw [weight_2 _ k d (by with_reducible assumption) (by with_reducible assumption) (by with_reducible assumption)]
    | rw [weight_3 _ k d (by with_reducible assumption) (by with_reducible assumption) (by with_reducible assumption)]

/-- What a point leaves is a block of the whole projection. -/
theorem left (t : Fin cfg0.N) (r : Fin 2048) (l : Fin 896) :
    prod (iblk m c 0 t) (iblk m c 1 t) r l
      = proj (m ((c : Thread nD τ).loc main_arg0)) (m ((c : Thread nD τ).loc main_arg1)) (ix2 (row t r) (col t l)) := by
  refine Finset.sum_congr rfl fun d _ => congrArg₂ (· * ·) ?_ ?_
  · refine Eq.trans ?_ (entry_x m c (row t r) d); blk_ext [iblk, row, idx t]
  · refine Eq.trans ?_ (entry_w m c (col t l) d); blk_ext [iblk, col, idx t]

/-- The result array is the whole projection. -/
theorem final : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp; rw [after0_2]
  refine (congrArg _ (eq_ix2 y)).trans ((point _ _ (y 0) (y 1)).trans ((left m c t (y 0) (y 1)).trans ?_))
  blk_ext [row, col, idx t]

end Kernel

section Reference
open Cert.ProjReferenceIdeal Cert.ProjReferenceIdeal.Read

/-- The reference's projection, its columns in that order, is the same. -/
theorem ref_value (x0 : FVec Ideal S4096x2048 .f32) (x1 : FVec Ideal S2048x4368 .f32) (r : Fin 4096) (l : Fin 4480) :
    val_main_v5 (F := Ideal) x0 x1 (ix2 r l) = proj x0 x1 (ix2 r l) := by
  pointwise [val_main_v5, val_main_v4, val_main_cst, val_main_v3, val_main_v2, val_main_v1, val_main_v0]
  change _ = ∑ d, x0 (ix2 r d) * weight x1 l d
  split_ifs
  all_goals first
    | (have h := fun d => weight_0 x1 l d (by with_reducible assumption); simp only [h])
    | (have h := fun d => weight_1 x1 l d (by with_reducible assumption) (by with_reducible assumption); simp only [h])
    | (have h := fun d => weight_2 x1 l d (by with_reducible assumption) (by with_reducible assumption) (by with_reducible assumption); simp only [h])
    | exact (Finset.sum_eq_zero fun d _ => (congrArg _ (weight_3 x1 l d (by with_reducible assumption) (by with_reducible assumption) (by with_reducible assumption))).trans (mul_zero _)).symm

end Reference

/-- The reference terminates and leaves its arguments as they were. -/
theorem frame_reference : Cert.quiescent_ProjReferenceIdeal (hProjReferenceIdeal := Cert.ProjReferenceIdeal.Gen.facts) := fun m ρ _ =>
  (θ_run _ _ _).mono (fun r h => ⟨fun c => (h c).2, sem_eq_zero_of_no_sems rfl _⟩) (Cert.ProjReferenceIdeal.Value.run (F := Ideal) m ρ)

/-- From equal arguments both programs leave the same projection. -/
theorem algebraic : Cert.algebraic_ProjKernelIdeal_ProjReferenceIdeal (hProjKernelIdeal := Cert.ProjKernelIdeal.Gen.facts)
    (hProjReferenceIdeal := Cert.ProjReferenceIdeal.Gen.facts) := by
  intro m ρ m' ρ' hpre hag
  refine ⟨_, Cert.ProjKernelIdeal.Value.run_blocks m ρ, (θ_run _ _ _).mono (fun r h c => ?_) (Cert.ProjReferenceIdeal.Value.run (F := Ideal) m' ρ')⟩
  obtain ⟨a0, a1⟩ := hag c
  obtain ⟨r0, k⟩ := h c
  refine ⟨(r0.trans (Cert.ProjReferenceIdeal.Read.val_main_v5_eq _ _)).trans (Eq.trans (funext fun j => ?_) (final m c).symm), k⟩
  rw [a0, a1]
  exact ((congrArg _ (eq_ix2 j)).trans (ref_value _ _ (j 0) (j 1))).trans (congrArg _ (eq_ix2 j).symm)

end Cert.ProjClaim

end
-- ==== Proof.GradWInClaim.lean ====
/- The gradient of the projection's weight: blocks of 896 of the 4480 padded rows, of which the last is cut off at 4368, make the derivative the reference takes. -/
module

public import proofs.«01_k».proof.Defs
public import proofs.«01_k».proof.Proof.Gen.GradWInKernelIdeal.Value
public import proofs.«01_k».proof.Proof.Gen.GradWInReferenceIdeal.Run
public import proofs.«01_k».proof.Proof.Gen.GradWInReferenceIdeal.Read
public import proofs.«01_k».proof.Proof.Lift
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradWInClaim

section Kernel
open Cert.GradWInKernelIdeal Cert.GradWInKernelIdeal.Gen

/-- The transposed weight's gradient: the sum over the tokens of a projection's gradient times an input. -/
def grad (X : FVec Ideal S4096x2048 .f32) (D : FVec Ideal S4096x4368 .f32) (j : S4368x2048.Idx) : EReal :=
  ∑ k : Fin 4096, D (ix2 k (j 0)) * X (ix2 k (j 1))

/-- The product of two blocks of columns over the tokens, -/
def prod (x0 : FVec Ideal S4096x896 .bf16) (x1 : FVec Ideal S4096x1024 .bf16) (a : Fin 896) (b : Fin 1024) : EReal := ∑ k : Fin 4096, x0 (ix2 k a) * x1 (ix2 k b)

/-- which is what one grid point leaves. -/
theorem point (x0 : FVec Ideal S4096x896 .bf16) (x1 : FVec Ideal S4096x1024 .bf16) (a : Fin 896) (b : Fin 1024) :
    out0_2 (F := Ideal) x0 x1 (ix2 a b) = prod x0 x1 a b := by
  frame_out
  open_payloads
  pointwise
  rfl

/-- Every window's block at every grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- Column `a` of the block of padded columns that point `t` reads, in the whole array, -/
def pcol (t : Fin cfg0.N) (a : Fin 896) : Fin 4480 := ⟨t.val / 2 * 896 + a.val, by have := t.isLt.trans_eq N_0; omega⟩

/-- and column `b` of its block of input columns. -/
def col (t : Fin cfg0.N) (b : Fin 1024) : Fin 2048 := ⟨t.val % 2 * 1024 + b.val, by omega⟩

variable (m : (ℓ : Loc nD τ sig) → Buf (Elt Ideal) ℓ) (c : Dev nD)

/-- The kernel is handed the projection's gradient with columns of zeros after it, -/
theorem entry_d (r : Fin 4096) (k : Fin 4480) : V m c main_v2 (ix2 r k)
    = if h : k.val < 4368 then m ((c : Thread nD τ).loc main_arg1) (ix2 r ⟨k.val, h⟩) else (0 : EReal) := by
  entry_read
  pointwise

/-- and the input as it is. -/
theorem entry_x (r : Fin 4096) (k : Fin 2048) : V m c main_v3 (ix2 r k) = m ((c : Thread nD τ).loc main_arg0) (ix2 r k) := by
  entry_read
  pointwise

/-- What a point leaves, where it is not cut off, is a block of the whole gradient. -/
theorem left (t : Fin cfg0.N) (a : Fin 896) (b : Fin 1024) (h : (pcol t a).val < 4368) :
    prod (iblk m c 0 t) (iblk m c 1 t) a b
      = grad (m ((c : Thread nD τ).loc main_arg0)) (m ((c : Thread nD τ).loc main_arg1)) (ix2 ⟨(pcol t a).val, h⟩ (col t b)) := by
  refine Finset.sum_congr rfl fun k _ => congrArg₂ (· * ·) ?_ ?_
  · refine Eq.trans ?_ ((entry_d m c k (pcol t a)).trans (dif_pos h)); blk_ext [iblk, pcol, idx t]
  · refine Eq.trans ?_ (entry_x m c k (col t b)); blk_ext [iblk, col, idx t]

/-- The result array is the whole gradient. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp; rw [after0_2]
  have e : ((win0_2.blk t).view.emb y 0).val = (pcol t ((cfg0.win 2).xinj (cfg0.grid.coords t) y 0)).val := by
    blk_simp
    simp [pcol, idx t]
  refine (congrArg _ (eq_ix2 _)).trans ((point _ _ _ _).trans ((left m c t _ _ (e ▸ ((win0_2.blk t).view.emb y 0).isLt)).trans ?_))
  blk_ext [pcol, col, idx t]

end Kernel

section Reference
open Cert.GradWInReferenceIdeal Cert.GradWInReferenceIdeal.Read

/-- The reference's derivative is that sum. -/
theorem ref_value (x0 : FVec Ideal S4096x2048 .f32) (x1 : FVec Ideal S4096x4368 .f32) (r : Fin 4368) (l : Fin 2048) :
    val_main_v2 (F := Ideal) x0 x1 (ix2 r l) = grad x0 x1 (ix2 r l) := by
  pointwise [val_main_v2]
  rfl

end Reference

/-- The reference terminates and leaves its arguments as they were. -/
theorem frame_reference : Cert.quiescent_GradWInReferenceIdeal (hGradWInReferenceIdeal := Cert.GradWInReferenceIdeal.Gen.facts) := fun m ρ _ =>
  (θ_run _ _ _).mono (fun r h => ⟨fun c => (h c).2, sem_eq_zero_of_no_sems rfl _⟩) (Cert.GradWInReferenceIdeal.Value.run (F := Ideal) m ρ)

/-- From equal arguments both programs leave the same gradient. -/
theorem algebraic : Cert.algebraic_GradWInKernelIdeal_GradWInReferenceIdeal (hGradWInKernelIdeal := Cert.GradWInKernelIdeal.Gen.facts)
    (hGradWInReferenceIdeal := Cert.GradWInReferenceIdeal.Gen.facts) := by
  intro m ρ m' ρ' hpre hag
  refine ⟨_, Cert.GradWInKernelIdeal.Value.run_blocks m ρ, (θ_run _ _ _).mono (fun r h c => ?_) (Cert.GradWInReferenceIdeal.Value.run (F := Ideal) m' ρ')⟩
  obtain ⟨a0, a1⟩ := hag c
  obtain ⟨r0, k⟩ := h c
  refine ⟨(r0.trans (Cert.GradWInReferenceIdeal.Read.val_main_v2_eq _ _)).trans (Eq.trans (funext fun j => ?_) (final m c).symm), k⟩
  rw [a0, a1]
  exact ((congrArg _ (eq_ix2 j)).trans (ref_value _ _ (j 0) (j 1))).trans (congrArg _ (eq_ix2 j).symm)

end Cert.GradWInClaim

end
-- ==== Proof.lean ====
module

public import proofs.«01_k».proof.Defs
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.NormClaim
public import proofs.«01_k».proof.Proof.Gen.SwaKernel
public import proofs.«01_k».proof.Proof.Gen.SwaKernelIdeal
public import proofs.«01_k».proof.Proof.Gen.SwaReferenceIdeal
public import proofs.«01_k».proof.Proof.Gen.SwaKernelIdeal.Skeleton
public import proofs.«01_k».proof.Proof.Gen.SwaKernelIdeal.Frame
public import proofs.«01_k».proof.Proof.Gen.SwaReferenceIdeal.Run
public import proofs.«01_k».proof.Proof.Gen.SwaReferenceIdeal.Read
public import proofs.«01_k».proof.Proof.SwaClaim
public import proofs.«01_k».proof.Proof.Gen.Ln1Kernel
public import proofs.«01_k».proof.Proof.Gen.Ln1KernelIdeal
public import proofs.«01_k».proof.Proof.Gen.Ln1ReferenceIdeal
public import proofs.«01_k».proof.Proof.Gen.Ln1Kernel.Frame
public import proofs.«01_k».proof.Proof.Gen.Ln1KernelIdeal.Frame
public import proofs.«01_k».proof.Proof.Gen.Ln1KernelIdeal.Value
public import proofs.«01_k».proof.Proof.Gen.Ln1ReferenceIdeal.Run
public import proofs.«01_k».proof.Proof.Gen.Ln1ReferenceIdeal.Read
public import proofs.«01_k».proof.Proof.Gen.Ln2Kernel
public import proofs.«01_k».proof.Proof.Gen.Ln2KernelIdeal
public import proofs.«01_k».proof.Proof.Gen.Ln2ReferenceIdeal
public import proofs.«01_k».proof.Proof.Gen.Ln2Kernel.Frame
public import proofs.«01_k».proof.Proof.Gen.Ln2KernelIdeal.Frame
public import proofs.«01_k».proof.Proof.Gen.Ln2KernelIdeal.Value
public import proofs.«01_k».proof.Proof.Gen.Ln2ReferenceIdeal.Run
public import proofs.«01_k».proof.Proof.Gen.Ln2ReferenceIdeal.Read
public import proofs.«01_k».proof.Proof.Ln1Claim
public import proofs.«01_k».proof.Proof.Ln2Claim
public import proofs.«01_k».proof.Proof.Gen.Relu2Kernel
public import proofs.«01_k».proof.Proof.Gen.Relu2KernelIdeal
public import proofs.«01_k».proof.Proof.Gen.Relu2ReferenceIdeal
public import proofs.«01_k».proof.Proof.Gen.Relu2Kernel.Frame
public import proofs.«01_k».proof.Proof.Gen.Relu2KernelIdeal.Frame
public import proofs.«01_k».proof.Proof.Gen.Relu2ReferenceIdeal.Run
public import proofs.«01_k».proof.Proof.Gen.Relu2ReferenceIdeal.Read
public import proofs.«01_k».proof.Proof.Relu2Claim
public import proofs.«01_k».proof.Proof.Gen.GateKernel
public import proofs.«01_k».proof.Proof.Gen.GateKernelIdeal
public import proofs.«01_k».proof.Proof.Gen.GateReferenceIdeal
public import proofs.«01_k».proof.Proof.Gen.GateKernel.Frame
public import proofs.«01_k».proof.Proof.Gen.GateKernelIdeal.Frame
public import proofs.«01_k».proof.Proof.Gen.GateReferenceIdeal.Run
public import proofs.«01_k».proof.Proof.Gen.GateReferenceIdeal.Read
public import proofs.«01_k».proof.Proof.GateClaim
public import proofs.«01_k».proof.Proof.Gen.NormFwdKernel
public import proofs.«01_k».proof.Proof.Gen.NormFwdKernelIdeal
public import proofs.«01_k».proof.Proof.Gen.NormFwdReferenceIdeal
public import proofs.«01_k».proof.Proof.Gen.NormFwdKernel.Frame
public import proofs.«01_k».proof.Proof.Gen.NormFwdKernelIdeal.Frame
public import proofs.«01_k».proof.Proof.Gen.NormFwdKernelIdeal.Value
public import proofs.«01_k».proof.Proof.Gen.NormFwdReferenceIdeal.Run
public import proofs.«01_k».proof.Proof.Gen.NormFwdReferenceIdeal.Read
public import proofs.«01_k».proof.Proof.Gen.MixKernel
public import proofs.«01_k».proof.Proof.Gen.MixKernelIdeal
public import proofs.«01_k».proof.Proof.Gen.MixReferenceIdeal
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.SwaFwdKernel
public import proofs.«01_k».proof.Proof.Gen.SwaFwdKernelIdeal
public import proofs.«01_k».proof.Proof.Gen.SwaFwdReferenceIdeal
public import proofs.«01_k».proof.Proof.Gen.SwaFwdKernel.Frame
public import proofs.«01_k».proof.Proof.Gen.SwaFwdKernelIdeal.Frame
public import proofs.«01_k».proof.Proof.Gen.SwaFwdKernelIdeal.Value
public import proofs.«01_k».proof.Proof.Gen.SwaFwdReferenceIdeal.Run
public import proofs.«01_k».proof.Proof.Gen.SwaFwdReferenceIdeal.Read
public import proofs.«01_k».proof.Proof.NormFwdClaim
public import proofs.«01_k».proof.Proof.MixClaim
public import proofs.«01_k».proof.Proof.SwaFwdClaim
public import proofs.«01_k».proof.Proof.Gen.GlaFwdKernel
public import proofs.«01_k».proof.Proof.Gen.GlaFwdKernelIdeal
public import proofs.«01_k».proof.Proof.Gen.GlaFwdKernelIdeal.Frame
public import proofs.«01_k».proof.Proof.GlaFwdClaim
public import proofs.«01_k».proof.Proof.Gen.GlaBwdKernel
public import proofs.«01_k».proof.Proof.Gen.GlaBwdKernelIdeal
public import proofs.«01_k».proof.Proof.Gen.GlaBwdKernelIdeal.Frame.Runs
public import proofs.«01_k».proof.Proof.GlaBwdClaim
public import proofs.«01_k».proof.Proof.Gen.MlpUpBwdKernel
public import proofs.«01_k».proof.Proof.Gen.MlpUpBwdKernelIdeal
public import proofs.«01_k».proof.Proof.Gen.MlpUpBwdReferenceIdeal
public import proofs.«01_k».proof.Proof.Gen.MlpUpBwdKernel.Frame
public import proofs.«01_k».proof.Proof.Gen.MlpUpBwdKernelIdeal.Frame
public import proofs.«01_k».proof.Proof.Gen.MlpUpBwdKernelIdeal.Value
public import proofs.«01_k».proof.Proof.Gen.MlpUpBwdReferenceIdeal.Run
public import proofs.«01_k».proof.Proof.Gen.MlpUpBwdReferenceIdeal.Read
public import proofs.«01_k».proof.Proof.Gen.GradWDownKernel
public import proofs.«01_k».proof.Proof.Gen.GradWDownKernelIdeal
public import proofs.«01_k».proof.Proof.Gen.GradWDownReferenceIdeal
public import proofs.«01_k».proof.Proof.Gen.GradWDownKernel.Frame
public import proofs.«01_k».proof.Proof.Gen.GradWDownKernelIdeal.Frame
public import proofs.«01_k».proof.Proof.Gen.GradWDownKernelIdeal.Value
public import proofs.«01_k».proof.Proof.Gen.GradWDownReferenceIdeal.Run
public import proofs.«01_k».proof.Proof.Gen.GradWDownReferenceIdeal.Read
public import proofs.«01_k».proof.Proof.Gen.GradXKernel
public import proofs.«01_k».proof.Proof.Gen.GradXKernelIdeal
public import proofs.«01_k».proof.Proof.Gen.GradXReferenceIdeal
public import proofs.«01_k».proof.Proof.Gen.GradXKernel.Frame
public import proofs.«01_k».proof.Proof.Gen.GradXKernelIdeal.Frame
public import proofs.«01_k».proof.Proof.Gen.GradXKernelIdeal.Value
public import proofs.«01_k».proof.Proof.Gen.GradXReferenceIdeal.Run
public import proofs.«01_k».proof.Proof.Gen.GradXReferenceIdeal.Read
public import proofs.«01_k».proof.Proof.Gen.AdamKernel
public import proofs.«01_k».proof.Proof.Gen.AdamKernelIdeal
public import proofs.«01_k».proof.Proof.Gen.AdamReferenceIdeal
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.MlpUpBwdClaim
public import proofs.«01_k».proof.Proof.GradWDownClaim
public import proofs.«01_k».proof.Proof.GradXClaim
public import proofs.«01_k».proof.Proof.AdamClaim
public import proofs.«01_k».proof.Proof.Gen.DcatKernel
public import proofs.«01_k».proof.Proof.Gen.DcatKernelIdeal
public import proofs.«01_k».proof.Proof.Gen.DcatReferenceIdeal
public import proofs.«01_k».proof.Proof.Gen.DcatKernel.Frame
public import proofs.«01_k».proof.Proof.Gen.DcatKernelIdeal.Frame
public import proofs.«01_k».proof.Proof.Gen.DcatKernelIdeal.Value
public import proofs.«01_k».proof.Proof.Gen.DcatReferenceIdeal.Run
public import proofs.«01_k».proof.Proof.Gen.DcatReferenceIdeal.Read
public import proofs.«01_k».proof.Proof.Gen.GradWUpKernel
public import proofs.«01_k».proof.Proof.Gen.GradWUpKernelIdeal
public import proofs.«01_k».proof.Proof.Gen.GradWUpReferenceIdeal
public import proofs.«01_k».proof.Proof.Gen.GradWUpKernel.Frame
public import proofs.«01_k».proof.Proof.Gen.GradWUpKernelIdeal.Frame
public import proofs.«01_k».proof.Proof.Gen.GradWUpKernelIdeal.Value
public import proofs.«01_k».proof.Proof.Gen.GradWUpReferenceIdeal.Run
public import proofs.«01_k».proof.Proof.Gen.GradWUpReferenceIdeal.Read
public import proofs.«01_k».proof.Proof.Gen.GradWOutKernel
public import proofs.«01_k».proof.Proof.Gen.GradWOutKernelIdeal
public import proofs.«01_k».proof.Proof.Gen.GradWOutReferenceIdeal
public import proofs.«01_k».proof.Proof.Gen.GradWOutKernel.Frame
public import proofs.«01_k».proof.Proof.Gen.GradWOutKernelIdeal.Frame
public import proofs.«01_k».proof.Proof.Gen.GradWOutKernelIdeal.Value
public import proofs.«01_k».proof.Proof.Gen.GradWOutReferenceIdeal.Run
public import proofs.«01_k».proof.Proof.Gen.GradWOutReferenceIdeal.Read
public import proofs.«01_k».proof.Proof.Gen.MlpDownKernel
public import proofs.«01_k».proof.Proof.Gen.MlpDownKernelIdeal
public import proofs.«01_k».proof.Proof.Gen.MlpDownReferenceIdeal
public import proofs.«01_k».proof.Proof.Gen.MlpDownKernel.Frame
public import proofs.«01_k».proof.Proof.Gen.MlpDownKernelIdeal.Frame
public import proofs.«01_k».proof.Proof.Gen.MlpDownKernelIdeal.Value
public import proofs.«01_k».proof.Proof.Gen.MlpDownReferenceIdeal.Run
public import proofs.«01_k».proof.Proof.Gen.MlpDownReferenceIdeal.Read
public import proofs.«01_k».proof.Proof.Gen.ProjKernel
public import proofs.«01_k».proof.Proof.Gen.ProjKernelIdeal
public import proofs.«01_k».proof.Proof.Gen.ProjReferenceIdeal
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.GradWInKernel
public import proofs.«01_k».proof.Proof.Gen.GradWInKernelIdeal
public import proofs.«01_k».proof.Proof.Gen.GradWInReferenceIdeal
public import proofs.«01_k».proof.Proof.Gen.GradWInKernel.Frame
public import proofs.«01_k».proof.Proof.Gen.GradWInKernelIdeal.Frame
public import proofs.«01_k».proof.Proof.Gen.GradWInKernelIdeal.Value
public import proofs.«01_k».proof.Proof.Gen.GradWInReferenceIdeal.Run
public import proofs.«01_k».proof.Proof.Gen.GradWInReferenceIdeal.Read
public import proofs.«01_k».proof.Proof.DcatClaim
public import proofs.«01_k».proof.Proof.GradWUpClaim
public import proofs.«01_k».proof.Proof.GradWOutClaim
public import proofs.«01_k».proof.Proof.MlpDownClaim
public import proofs.«01_k».proof.Proof.ProjClaim
public import proofs.«01_k».proof.Proof.GradWInClaim
public import Idealize.ShloMosaic.Adequacy
public import Idealize.ShloMosaic.Init

@[expose] public section

noncomputable section

namespace Cert.Proof

open Idealize.ShloMosaic Idealize.SL.Sem

/-- Every claim, in the order `Defs` states them. -/
theorem claim : Cert.Claim := ⟨Cert.NormKernel.Gen.facts, Cert.NormKernelIdeal.Gen.facts, Cert.NormReferenceIdeal.Gen.facts,
  Cert.SwaKernel.Gen.facts, Cert.SwaKernelIdeal.Gen.facts, Cert.SwaReferenceIdeal.Gen.facts,
  Cert.Ln1Kernel.Gen.facts, Cert.Ln1KernelIdeal.Gen.facts, Cert.Ln1ReferenceIdeal.Gen.facts,
  Cert.Ln2Kernel.Gen.facts, Cert.Ln2KernelIdeal.Gen.facts, Cert.Ln2ReferenceIdeal.Gen.facts,
  Cert.Relu2Kernel.Gen.facts, Cert.Relu2KernelIdeal.Gen.facts, Cert.Relu2ReferenceIdeal.Gen.facts,
  Cert.GateKernel.Gen.facts, Cert.GateKernelIdeal.Gen.facts, Cert.GateReferenceIdeal.Gen.facts,
  Cert.NormFwdKernel.Gen.facts, Cert.NormFwdKernelIdeal.Gen.facts, Cert.NormFwdReferenceIdeal.Gen.facts,
  Cert.MixKernel.Gen.facts, Cert.MixKernelIdeal.Gen.facts, Cert.MixReferenceIdeal.Gen.facts,
  Cert.SwaFwdKernel.Gen.facts, Cert.SwaFwdKernelIdeal.Gen.facts, Cert.SwaFwdReferenceIdeal.Gen.facts,
  Cert.GlaFwdKernel.Gen.facts, Cert.GlaFwdKernelIdeal.Gen.facts, Cert.GlaBwdKernel.Gen.facts, Cert.GlaBwdKernelIdeal.Gen.facts,
  Cert.MlpUpBwdKernel.Gen.facts, Cert.MlpUpBwdKernelIdeal.Gen.facts, Cert.MlpUpBwdReferenceIdeal.Gen.facts,
  Cert.GradWDownKernel.Gen.facts, Cert.GradWDownKernelIdeal.Gen.facts, Cert.GradWDownReferenceIdeal.Gen.facts,
  Cert.GradXKernel.Gen.facts, Cert.GradXKernelIdeal.Gen.facts, Cert.GradXReferenceIdeal.Gen.facts,
  Cert.AdamKernel.Gen.facts, Cert.AdamKernelIdeal.Gen.facts, Cert.AdamReferenceIdeal.Gen.facts,
  Cert.DcatKernel.Gen.facts, Cert.DcatKernelIdeal.Gen.facts, Cert.DcatReferenceIdeal.Gen.facts,
  Cert.GradWUpKernel.Gen.facts, Cert.GradWUpKernelIdeal.Gen.facts, Cert.GradWUpReferenceIdeal.Gen.facts,
  Cert.GradWOutKernel.Gen.facts, Cert.GradWOutKernelIdeal.Gen.facts, Cert.GradWOutReferenceIdeal.Gen.facts,
  Cert.MlpDownKernel.Gen.facts, Cert.MlpDownKernelIdeal.Gen.facts, Cert.MlpDownReferenceIdeal.Gen.facts,
  Cert.ProjKernel.Gen.facts, Cert.ProjKernelIdeal.Gen.facts, Cert.ProjReferenceIdeal.Gen.facts,
  Cert.GradWInKernel.Gen.facts, Cert.GradWInKernelIdeal.Gen.facts, Cert.GradWInReferenceIdeal.Gen.facts,
  Cert.NormClaim.preFacts, Cert.SwaClaim.preFacts, Cert.Ln1Claim.preFacts, Cert.Ln2Claim.preFacts, Cert.GateClaim.preFacts, Cert.SwaFwdClaim.preFacts,
  fun m ρ _ => Cert.NormKernel.Gen.frame m ρ, fun m ρ _ => Cert.NormKernelIdeal.Gen.frame m ρ, fun m ρ _ => Cert.NormKernelIdeal.Gen.frame m ρ,
  Cert.NormClaim.frame_reference, fun m ρ _ => Cert.NormClaim.frame_reference m ρ trivial,
  fun m ρ _ => Cert.Swa.frame_kernel m ρ, fun m ρ _ => Cert.SwaKernelIdeal.Gen.frame m ρ, fun m ρ _ => Cert.SwaKernelIdeal.Gen.frame m ρ,
  fun m ρ _ => Cert.Swa.frame_reference m ρ, fun m ρ _ => Cert.Swa.frame_reference m ρ,
  fun m ρ _ => Cert.Ln1Kernel.Gen.frame m ρ, fun m ρ _ => Cert.Ln1KernelIdeal.Gen.frame m ρ, fun m ρ _ => Cert.Ln1KernelIdeal.Gen.frame m ρ,
  Cert.Ln1Claim.frame_reference, fun m ρ _ => Cert.Ln1Claim.frame_reference m ρ trivial,
  fun m ρ _ => Cert.Ln2Kernel.Gen.frame m ρ, fun m ρ _ => Cert.Ln2KernelIdeal.Gen.frame m ρ, fun m ρ _ => Cert.Ln2KernelIdeal.Gen.frame m ρ,
  Cert.Ln2Claim.frame_reference, fun m ρ _ => Cert.Ln2Claim.frame_reference m ρ trivial,
  fun m ρ _ => Cert.Relu2Kernel.Gen.frame m ρ, fun m ρ _ => Cert.Relu2KernelIdeal.Gen.frame m ρ, Cert.Relu2Claim.frame_reference,
  fun m ρ _ => Cert.GateKernel.Gen.frame m ρ, fun m ρ _ => Cert.GateKernelIdeal.Gen.frame m ρ, fun m ρ _ => Cert.GateKernelIdeal.Gen.frame m ρ,
  Cert.GateClaim.frame_reference, fun m ρ _ => Cert.GateClaim.frame_reference m ρ trivial,
  fun m ρ _ => Cert.NormFwdKernel.Gen.frame m ρ, fun m ρ _ => Cert.NormFwdKernelIdeal.Gen.frame m ρ, Cert.NormFwdClaim.frame_reference,
  fun m ρ _ => Cert.MixKernel.Gen.frame m ρ, fun m ρ _ => Cert.MixKernelIdeal.Gen.frame m ρ, Cert.MixClaim.frame_reference,
  fun m ρ _ => Cert.SwaFwdKernel.Gen.frame m ρ, fun m ρ _ => Cert.SwaFwdKernelIdeal.Gen.frame m ρ, fun m ρ _ => Cert.SwaFwdKernelIdeal.Gen.frame m ρ,
  Cert.SwaFwdClaim.frame_reference, fun m ρ _ => Cert.SwaFwdClaim.frame_reference m ρ trivial,
  Cert.GlaFwdClaim.frame_kernel, Cert.GlaFwdClaim.frame_ideal, Cert.GlaBwdClaim.frame_kernel, Cert.GlaBwdClaim.frame_ideal,
  fun m ρ _ => Cert.MlpUpBwdKernel.Gen.frame m ρ, fun m ρ _ => Cert.MlpUpBwdKernelIdeal.Gen.frame m ρ, Cert.MlpUpBwdClaim.frame_reference,
  fun m ρ _ => Cert.GradWDownKernel.Gen.frame m ρ, fun m ρ _ => Cert.GradWDownKernelIdeal.Gen.frame m ρ, Cert.GradWDownClaim.frame_reference,
  fun m ρ _ => Cert.GradXKernel.Gen.frame m ρ, fun m ρ _ => Cert.GradXKernelIdeal.Gen.frame m ρ, Cert.GradXClaim.frame_reference,
  fun m ρ _ => Cert.AdamKernel.Gen.frame m ρ, fun m ρ _ => Cert.AdamKernelIdeal.Gen.frame m ρ, Cert.AdamClaim.frame_reference,
  fun m ρ _ => Cert.DcatKernel.Gen.frame m ρ, fun m ρ _ => Cert.DcatKernelIdeal.Gen.frame m ρ, Cert.DcatClaim.frame_reference,
  fun m ρ _ => Cert.GradWUpKernel.Gen.frame m ρ, fun m ρ _ => Cert.GradWUpKernelIdeal.Gen.frame m ρ, Cert.GradWUpClaim.frame_reference,
  fun m ρ _ => Cert.GradWOutKernel.Gen.frame m ρ, fun m ρ _ => Cert.GradWOutKernelIdeal.Gen.frame m ρ, Cert.GradWOutClaim.frame_reference,
  fun m ρ _ => Cert.MlpDownKernel.Gen.frame m ρ, fun m ρ _ => Cert.MlpDownKernelIdeal.Gen.frame m ρ, Cert.MlpDownClaim.frame_reference,
  fun m ρ _ => Cert.ProjKernel.Gen.frame m ρ, fun m ρ _ => Cert.ProjKernelIdeal.Gen.frame m ρ, Cert.ProjClaim.frame_reference,
  fun m ρ _ => Cert.GradWInKernel.Gen.frame m ρ, fun m ρ _ => Cert.GradWInKernelIdeal.Gen.frame m ρ, Cert.GradWInClaim.frame_reference,
  trivial, Cert.NormClaim.algebraic, Cert.Swa.preserves, Cert.SwaClaim.algebraic,
  trivial, Cert.Ln1Claim.algebraic, trivial, Cert.Ln2Claim.algebraic,
  trivial, Cert.Relu2Claim.algebraic, trivial, Cert.GateClaim.algebraic,
  trivial, Cert.NormFwdClaim.algebraic, trivial, Cert.MixClaim.algebraic,
  Cert.SwaFwdClaim.preserves, Cert.SwaFwdClaim.algebraic,
  trivial, trivial,
  trivial, Cert.MlpUpBwdClaim.algebraic, trivial, Cert.GradWDownClaim.algebraic,
  trivial, Cert.GradXClaim.algebraic, trivial, Cert.AdamClaim.algebraic,
  trivial, Cert.DcatClaim.algebraic,
  trivial, Cert.GradWUpClaim.algebraic,
  trivial, Cert.GradWOutClaim.algebraic,
  trivial, Cert.MlpDownClaim.algebraic,
  trivial, Cert.ProjClaim.algebraic,
  trivial, Cert.GradWInClaim.algebraic⟩

end Cert.Proof

end
